-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownAct (m : (ℓ : Loc Cert.DownAct.nD Cert.DownAct.τ Cert.DownAct.sig) → Buf (Elt Bits) ℓ) : Prop :=
  True

def Pre_DownActIdeal (m : (ℓ : Loc Cert.DownActIdeal.nD Cert.DownActIdeal.τ Cert.DownActIdeal.sig) → Buf (Elt Ideal) ℓ) : Prop :=
  True

def Pre_DownActRefIdeal (m : (ℓ : Loc Cert.DownActRefIdeal.nD Cert.DownActRefIdeal.τ Cert.DownActRefIdeal.sig) → Buf (Elt Ideal) ℓ) : Prop :=
  True

def Pre_UpB (m : (ℓ : Loc Cert.UpB.nD Cert.UpB.τ Cert.UpB.sig) → Buf (Elt Bits) ℓ) : Prop :=
  True

def Pre_UpBIdeal (m : (ℓ : Loc Cert.UpBIdeal.nD Cert.UpBIdeal.τ Cert.UpBIdeal.sig) → Buf (Elt Ideal) ℓ) : Prop :=
  True

def Pre_UpBRefIdeal (m : (ℓ : Loc Cert.UpBRefIdeal.nD Cert.UpBRefIdeal.τ Cert.UpBRefIdeal.sig) → Buf (Elt Ideal) ℓ) : Prop :=
  True

def Pre_DownActB (m : (ℓ : Loc Cert.DownActB.nD Cert.DownActB.τ Cert.DownActB.sig) → Buf (Elt Bits) ℓ) : Prop :=
  True

def Pre_DownActBIdeal (m : (ℓ : Loc Cert.DownActBIdeal.nD Cert.DownActBIdeal.τ Cert.DownActBIdeal.sig) → Buf (Elt Ideal) ℓ) : Prop :=
  True

def Pre_DownActBRefIdeal (m : (ℓ : Loc Cert.DownActBRefIdeal.nD Cert.DownActBRefIdeal.τ Cert.DownActBRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_GluW (m : (ℓ : Loc Cert.GluW.nD Cert.GluW.τ Cert.GluW.sig) → Buf (Elt Bits) ℓ) : Prop :=
  True

def Pre_GluWIdeal (m : (ℓ : Loc Cert.GluWIdeal.nD Cert.GluWIdeal.τ Cert.GluWIdeal.sig) → Buf (Elt Ideal) ℓ) : Prop :=
  True

def Pre_GluWRefIdeal (m : (ℓ : Loc Cert.GluWRefIdeal.nD Cert.GluWRefIdeal.τ Cert.GluWRefIdeal.sig) → Buf (Elt Ideal) ℓ) : Prop :=
  True

def Pre_SquareW (m : (ℓ : Loc Cert.SquareW.nD Cert.SquareW.τ Cert.SquareW.sig) → Buf (Elt Bits) ℓ) : Prop :=
  True

def Pre_SquareWIdeal (m : (ℓ : Loc Cert.SquareWIdeal.nD Cert.SquareWIdeal.τ Cert.SquareWIdeal.sig) → Buf (Elt Ideal) ℓ) : Prop :=
  True

def Pre_SquareWRefIdeal (m : (ℓ : Loc Cert.SquareWRefIdeal.nD Cert.SquareWRefIdeal.τ Cert.SquareWRefIdeal.sig) → Buf (Elt Ideal) ℓ) : Prop :=
  True

def Pre_SquareAct (m : (ℓ : Loc Cert.SquareAct.nD Cert.SquareAct.τ Cert.SquareAct.sig) → Buf (Elt Bits) ℓ) : Prop :=
  True

def Pre_SquareActIdeal (m : (ℓ : Loc Cert.SquareActIdeal.nD Cert.SquareActIdeal.τ Cert.SquareActIdeal.sig) → Buf (Elt Ideal) ℓ) : Prop :=
  True

def Pre_SquareActRefIdeal (m : (ℓ : Loc Cert.SquareActRefIdeal.nD Cert.SquareActRefIdeal.τ Cert.SquareActRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfRefIdeal (m : (ℓ : Loc Cert.AdamFfRefIdeal.nD Cert.AdamFfRefIdeal.τ Cert.AdamFfRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PwProj (m : (ℓ : Loc Cert.PwProj.nD Cert.PwProj.τ Cert.PwProj.sig) → Buf (Elt Bits) ℓ) : Prop :=
  True

def Pre_PwProjIdeal (m : (ℓ : Loc Cert.PwProjIdeal.nD Cert.PwProjIdeal.τ Cert.PwProjIdeal.sig) → Buf (Elt Ideal) ℓ) : Prop :=
  True

def Pre_PwProjRefIdeal (m : (ℓ : Loc Cert.PwProjRefIdeal.nD Cert.PwProjRefIdeal.τ Cert.PwProjRefIdeal.sig) → Buf (Elt Ideal) ℓ) : Prop :=
  True

def Pre_DownN (m : (ℓ : Loc Cert.DownN.nD Cert.DownN.τ Cert.DownN.sig) → Buf (Elt Bits) ℓ) : Prop :=
  True

def Pre_DownNIdeal (m : (ℓ : Loc Cert.DownNIdeal.nD Cert.DownNIdeal.τ Cert.DownNIdeal.sig) → Buf (Elt Ideal) ℓ) : Prop :=
  True

def Pre_DownNRefIdeal (m : (ℓ : Loc Cert.DownNRefIdeal.nD Cert.DownNRefIdeal.τ Cert.DownNRefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_UpActB (m : (ℓ : Loc Cert.UpActB.nD Cert.UpActB.τ Cert.UpActB.sig) → Buf (Elt Bits) ℓ) : Prop :=
  True

def Pre_UpActBIdeal (m : (ℓ : Loc Cert.UpActBIdeal.nD Cert.UpActBIdeal.τ Cert.UpActBIdeal.sig) → Buf (Elt Ideal) ℓ) : Prop :=
  True

def Pre_UpActBRefIdeal (m : (ℓ : Loc Cert.UpActBRefIdeal.nD Cert.UpActBRefIdeal.τ Cert.UpActBRefIdeal.sig) → Buf (Elt Ideal) ℓ) : Prop :=
  True

def Pre_GluAct (m : (ℓ : Loc Cert.GluAct.nD Cert.GluAct.τ Cert.GluAct.sig) → Buf (Elt Bits) ℓ) : Prop :=
  True

def Pre_GluActIdeal (m : (ℓ : Loc Cert.GluActIdeal.nD Cert.GluActIdeal.τ Cert.GluActIdeal.sig) → Buf (Elt Ideal) ℓ) : Prop :=
  True

def Pre_GluActRefIdeal (m : (ℓ : Loc Cert.GluActRefIdeal.nD Cert.GluActRefIdeal.τ Cert.GluActRefIdeal.sig) → Buf (Elt Ideal) ℓ) : Prop :=
  True

def Pre_InAct (m : (ℓ : Loc Cert.InAct.nD Cert.InAct.τ Cert.InAct.sig) → Buf (Elt Bits) ℓ) : Prop :=
  True

def Pre_InActIdeal (m : (ℓ : Loc Cert.InActIdeal.nD Cert.InActIdeal.τ Cert.InActIdeal.sig) → Buf (Elt Ideal) ℓ) : Prop :=
  True

def Pre_InActRefIdeal (m : (ℓ : Loc Cert.InActRefIdeal.nD Cert.InActRefIdeal.τ Cert.InActRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownAct [hDownAct : Cert.DownAct.Facts] : Prop :=
  ∀ (m : (ℓ : Loc Cert.DownAct.nD Cert.DownAct.τ Cert.DownAct.sig) → Buf (Elt Bits) ℓ) (g : Dev Cert.DownAct.nD → PrngReg), Pre_DownAct m →
    θ_run (Cert.DownAct.defs (F := Bits)) (onTc (τ := Cert.DownAct.τ) (Cert.DownAct.main (F := Bits))) ⟨m, fun _ => 0, g⟩ (fun r => (∀ c : Dev Cert.DownAct.nD,
      r.2.mem ((c.tc : Thread Cert.DownAct.nD Cert.DownAct.τ).loc Cert.DownAct.main_arg0) = m ((c.tc : Thread Cert.DownAct.nD Cert.DownAct.τ).loc Cert.DownAct.main_arg0)
      ∧ r.2.mem ((c.tc : Thread Cert.DownAct.nD Cert.DownAct.τ).loc Cert.DownAct.main_arg1) = m ((c.tc : Thread Cert.DownAct.nD Cert.DownAct.τ).loc Cert.DownAct.main_arg1)
      ∧ r.2.mem ((c.tc : Thread Cert.DownAct.nD Cert.DownAct.τ).loc Cert.DownAct.main_arg2) = m ((c.tc : Thread Cert.DownAct.nD Cert.DownAct.τ).loc Cert.DownAct.main_arg2))
      ∧ r.2.sem = fun _ => 0)

def quiescent_DownActIdeal [hDownActIdeal : Cert.DownActIdeal.Facts] : Prop :=
  ∀ (m : (ℓ : Loc Cert.DownActIdeal.nD Cert.DownActIdeal.τ Cert.DownActIdeal.sig) → Buf (Elt Ideal) ℓ) (g : Dev Cert.DownActIdeal.nD → PrngReg), Pre_DownActIdeal m →
    θ_run (Cert.DownActIdeal.defs (F := Ideal)) (onTc (τ := Cert.DownActIdeal.τ) (Cert.DownActIdeal.main (F := Ideal))) ⟨m, fun _ => 0, g⟩ (fun r => (∀ c : Dev Cert.DownActIdeal.nD,
      r.2.mem ((c.tc : Thread Cert.DownActIdeal.nD Cert.DownActIdeal.τ).loc Cert.DownActIdeal.main_arg0) = m ((c.tc : Thread Cert.DownActIdeal.nD Cert.DownActIdeal.τ).loc Cert.DownActIdeal.main_arg0)
      ∧ r.2.mem ((c.tc : Thread Cert.DownActIdeal.nD Cert.DownActIdeal.τ).loc Cert.DownActIdeal.main_arg1) = m ((c.tc : Thread Cert.DownActIdeal.nD Cert.DownActIdeal.τ).loc Cert.DownActIdeal.main_arg1)
      ∧ r.2.mem ((c.tc : Thread Cert.DownActIdeal.nD Cert.DownActIdeal.τ).loc Cert.DownActIdeal.main_arg2) = m ((c.tc : Thread Cert.DownActIdeal.nD Cert.DownActIdeal.τ).loc Cert.DownActIdeal.main_arg2))
      ∧ r.2.sem = fun _ => 0)

def quiescent_DownActRefIdeal [hDownActRefIdeal : Cert.DownActRefIdeal.Facts] : Prop :=
  ∀ (m : (ℓ : Loc Cert.DownActRefIdeal.nD Cert.DownActRefIdeal.τ Cert.DownActRefIdeal.sig) → Buf (Elt Ideal) ℓ) (g : Dev Cert.DownActRefIdeal.nD → PrngReg), Pre_DownActRefIdeal m →
    θ_run (Cert.DownActRefIdeal.defs (F := Ideal)) (onTc (τ := Cert.DownActRefIdeal.τ) (Cert.DownActRefIdeal.main (F := Ideal))) ⟨m, fun _ => 0, g⟩ (fun r => (∀ c : Dev Cert.DownActRefIdeal.nD,
      r.2.mem ((c.tc : Thread Cert.DownActRefIdeal.nD Cert.DownActRefIdeal.τ).loc Cert.DownActRefIdeal.main_arg0) = m ((c.tc : Thread Cert.DownActRefIdeal.nD Cert.DownActRefIdeal.τ).loc Cert.DownActRefIdeal.main_arg0)
      ∧ r.2.mem ((c.tc : Thread Cert.DownActRefIdeal.nD Cert.DownActRefIdeal.τ).loc Cert.DownActRefIdeal.main_arg1) = m ((c.tc : Thread Cert.DownActRefIdeal.nD Cert.DownActRefIdeal.τ).loc Cert.DownActRefIdeal.main_arg1)
      ∧ r.2.mem ((c.tc : Thread Cert.DownActRefIdeal.nD Cert.DownActRefIdeal.τ).loc Cert.DownActRefIdeal.main_arg2) = m ((c.tc : Thread Cert.DownActRefIdeal.nD Cert.DownActRefIdeal.τ).loc Cert.DownActRefIdeal.main_arg2))
      ∧ r.2.sem = fun _ => 0)

def quiescent_UpB [hUpB : Cert.UpB.Facts] : Prop :=
  ∀ (m : (ℓ : Loc Cert.UpB.nD Cert.UpB.τ Cert.UpB.sig) → Buf (Elt Bits) ℓ) (g : Dev Cert.UpB.nD → PrngReg), Pre_UpB m →
    θ_run (Cert.UpB.defs (F := Bits)) (onTc (τ := Cert.UpB.τ) (Cert.UpB.main (F := Bits))) ⟨m, fun _ => 0, g⟩ (fun r => (∀ c : Dev Cert.UpB.nD,
      r.2.mem ((c.tc : Thread Cert.UpB.nD Cert.UpB.τ).loc Cert.UpB.main_arg0) = m ((c.tc : Thread Cert.UpB.nD Cert.UpB.τ).loc Cert.UpB.main_arg0)
      ∧ r.2.mem ((c.tc : Thread Cert.UpB.nD Cert.UpB.τ).loc Cert.UpB.main_arg1) = m ((c.tc : Thread Cert.UpB.nD Cert.UpB.τ).loc Cert.UpB.main_arg1))
      ∧ r.2.sem = fun _ => 0)

def quiescent_UpBIdeal [hUpBIdeal : Cert.UpBIdeal.Facts] : Prop :=
  ∀ (m : (ℓ : Loc Cert.UpBIdeal.nD Cert.UpBIdeal.τ Cert.UpBIdeal.sig) → Buf (Elt Ideal) ℓ) (g : Dev Cert.UpBIdeal.nD → PrngReg), Pre_UpBIdeal m →
    θ_run (Cert.UpBIdeal.defs (F := Ideal)) (onTc (τ := Cert.UpBIdeal.τ) (Cert.UpBIdeal.main (F := Ideal))) ⟨m, fun _ => 0, g⟩ (fun r => (∀ c : Dev Cert.UpBIdeal.nD,
      r.2.mem ((c.tc : Thread Cert.UpBIdeal.nD Cert.UpBIdeal.τ).loc Cert.UpBIdeal.main_arg0) = m ((c.tc : Thread Cert.UpBIdeal.nD Cert.UpBIdeal.τ).loc Cert.UpBIdeal.main_arg0)
      ∧ r.2.mem ((c.tc : Thread Cert.UpBIdeal.nD Cert.UpBIdeal.τ).loc Cert.UpBIdeal.main_arg1) = m ((c.tc : Thread Cert.UpBIdeal.nD Cert.UpBIdeal.τ).loc Cert.UpBIdeal.main_arg1))
      ∧ r.2.sem = fun _ => 0)

def quiescent_UpBRefIdeal [hUpBRefIdeal : Cert.UpBRefIdeal.Facts] : Prop :=
  ∀ (m : (ℓ : Loc Cert.UpBRefIdeal.nD Cert.UpBRefIdeal.τ Cert.UpBRefIdeal.sig) → Buf (Elt Ideal) ℓ) (g : Dev Cert.UpBRefIdeal.nD → PrngReg), Pre_UpBRefIdeal m →
    θ_run (Cert.UpBRefIdeal.defs (F := Ideal)) (onTc (τ := Cert.UpBRefIdeal.τ) (Cert.UpBRefIdeal.main (F := Ideal))) ⟨m, fun _ => 0, g⟩ (fun r => (∀ c : Dev Cert.UpBRefIdeal.nD,
      r.2.mem ((c.tc : Thread Cert.UpBRefIdeal.nD Cert.UpBRefIdeal.τ).loc Cert.UpBRefIdeal.main_arg0) = m ((c.tc : Thread Cert.UpBRefIdeal.nD Cert.UpBRefIdeal.τ).loc Cert.UpBRefIdeal.main_arg0)
      ∧ r.2.mem ((c.tc : Thread Cert.UpBRefIdeal.nD Cert.UpBRefIdeal.τ).loc Cert.UpBRefIdeal.main_arg1) = m ((c.tc : Thread Cert.UpBRefIdeal.nD Cert.UpBRefIdeal.τ).loc Cert.UpBRefIdeal.main_arg1))
      ∧ r.2.sem = fun _ => 0)

def quiescent_DownActB [hDownActB : Cert.DownActB.Facts] : Prop :=
  ∀ (m : (ℓ : Loc Cert.DownActB.nD Cert.DownActB.τ Cert.DownActB.sig) → Buf (Elt Bits) ℓ) (g : Dev Cert.DownActB.nD → PrngReg), Pre_DownActB m →
    θ_run (Cert.DownActB.defs (F := Bits)) (onTc (τ := Cert.DownActB.τ) (Cert.DownActB.main (F := Bits))) ⟨m, fun _ => 0, g⟩ (fun r => (∀ c : Dev Cert.DownActB.nD,
      r.2.mem ((c.tc : Thread Cert.DownActB.nD Cert.DownActB.τ).loc Cert.DownActB.main_arg0) = m ((c.tc : Thread Cert.DownActB.nD Cert.DownActB.τ).loc Cert.DownActB.main_arg0)
      ∧ r.2.mem ((c.tc : Thread Cert.DownActB.nD Cert.DownActB.τ).loc Cert.DownActB.main_arg1) = m ((c.tc : Thread Cert.DownActB.nD Cert.DownActB.τ).loc Cert.DownActB.main_arg1)
      ∧ r.2.mem ((c.tc : Thread Cert.DownActB.nD Cert.DownActB.τ).loc Cert.DownActB.main_arg2) = m ((c.tc : Thread Cert.DownActB.nD Cert.DownActB.τ).loc Cert.DownActB.main_arg2))
      ∧ r.2.sem = fun _ => 0)

def quiescent_DownActBIdeal [hDownActBIdeal : Cert.DownActBIdeal.Facts] : Prop :=
  ∀ (m : (ℓ : Loc Cert.DownActBIdeal.nD Cert.DownActBIdeal.τ Cert.DownActBIdeal.sig) → Buf (Elt Ideal) ℓ) (g : Dev Cert.DownActBIdeal.nD → PrngReg), Pre_DownActBIdeal m →
    θ_run (Cert.DownActBIdeal.defs (F := Ideal)) (onTc (τ := Cert.DownActBIdeal.τ) (Cert.DownActBIdeal.main (F := Ideal))) ⟨m, fun _ => 0, g⟩ (fun r => (∀ c : Dev Cert.DownActBIdeal.nD,
      r.2.mem ((c.tc : Thread Cert.DownActBIdeal.nD Cert.DownActBIdeal.τ).loc Cert.DownActBIdeal.main_arg0) = m ((c.tc : Thread Cert.DownActBIdeal.nD Cert.DownActBIdeal.τ).loc Cert.DownActBIdeal.main_arg0)
      ∧ r.2.mem ((c.tc : Thread Cert.DownActBIdeal.nD Cert.DownActBIdeal.τ).loc Cert.DownActBIdeal.main_arg1) = m ((c.tc : Thread Cert.DownActBIdeal.nD Cert.DownActBIdeal.τ).loc Cert.DownActBIdeal.main_arg1)
      ∧ r.2.mem ((c.tc : Thread Cert.DownActBIdeal.nD Cert.DownActBIdeal.τ).loc Cert.DownActBIdeal.main_arg2) = m ((c.tc : Thread Cert.DownActBIdeal.nD Cert.DownActBIdeal.τ).loc Cert.DownActBIdeal.main_arg2))
      ∧ r.2.sem = fun _ => 0)

def quiescent_DownActBRefIdeal [hDownActBRefIdeal : Cert.DownActBRefIdeal.Facts] : Prop :=
  ∀ (m : (ℓ : Loc Cert.DownActBRefIdeal.nD Cert.DownActBRefIdeal.τ Cert.DownActBRefIdeal.sig) → Buf (Elt Ideal) ℓ) (g : Dev Cert.DownActBRefIdeal.nD → PrngReg), Pre_DownActBRefIdeal m →
    θ_run (Cert.DownActBRefIdeal.defs (F := Ideal)) (onTc (τ := Cert.DownActBRefIdeal.τ) (Cert.DownActBRefIdeal.main (F := Ideal))) ⟨m, fun _ => 0, g⟩ (fun r => (∀ c : Dev Cert.DownActBRefIdeal.nD,
      r.2.mem ((c.tc : Thread Cert.DownActBRefIdeal.nD Cert.DownActBRefIdeal.τ).loc Cert.DownActBRefIdeal.main_arg0) = m ((c.tc : Thread Cert.DownActBRefIdeal.nD Cert.DownActBRefIdeal.τ).loc Cert.DownActBRefIdeal.main_arg0)
      ∧ r.2.mem ((c.tc : Thread Cert.DownActBRefIdeal.nD Cert.DownActBRefIdeal.τ).loc Cert.DownActBRefIdeal.main_arg1) = m ((c.tc : Thread Cert.DownActBRefIdeal.nD Cert.DownActBRefIdeal.τ).loc Cert.DownActBRefIdeal.main_arg1)
      ∧ r.2.mem ((c.tc : Thread Cert.DownActBRefIdeal.nD Cert.DownActBRefIdeal.τ).loc Cert.DownActBRefIdeal.main_arg2) = m ((c.tc : Thread Cert.DownActBRefIdeal.nD Cert.DownActBRefIdeal.τ).loc Cert.DownActBRefIdeal.main_arg2))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_GluW [hGluW : Cert.GluW.Facts] : Prop :=
  ∀ (m : (ℓ : Loc Cert.GluW.nD Cert.GluW.τ Cert.GluW.sig) → Buf (Elt Bits) ℓ) (g : Dev Cert.GluW.nD → PrngReg), Pre_GluW m →
    θ_run (Cert.GluW.defs (F := Bits)) (onTc (τ := Cert.GluW.τ) (Cert.GluW.main (F := Bits))) ⟨m, fun _ => 0, g⟩ (fun r => (∀ c : Dev Cert.GluW.nD,
      r.2.mem ((c.tc : Thread Cert.GluW.nD Cert.GluW.τ).loc Cert.GluW.main_arg0) = m ((c.tc : Thread Cert.GluW.nD Cert.GluW.τ).loc Cert.GluW.main_arg0)
      ∧ r.2.mem ((c.tc : Thread Cert.GluW.nD Cert.GluW.τ).loc Cert.GluW.main_arg1) = m ((c.tc : Thread Cert.GluW.nD Cert.GluW.τ).loc Cert.GluW.main_arg1))
      ∧ r.2.sem = fun _ => 0)

def quiescent_GluWIdeal [hGluWIdeal : Cert.GluWIdeal.Facts] : Prop :=
  ∀ (m : (ℓ : Loc Cert.GluWIdeal.nD Cert.GluWIdeal.τ Cert.GluWIdeal.sig) → Buf (Elt Ideal) ℓ) (g : Dev Cert.GluWIdeal.nD → PrngReg), Pre_GluWIdeal m →
    θ_run (Cert.GluWIdeal.defs (F := Ideal)) (onTc (τ := Cert.GluWIdeal.τ) (Cert.GluWIdeal.main (F := Ideal))) ⟨m, fun _ => 0, g⟩ (fun r => (∀ c : Dev Cert.GluWIdeal.nD,
      r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
      ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1))
      ∧ r.2.sem = fun _ => 0)

def quiescent_GluWRefIdeal [hGluWRefIdeal : Cert.GluWRefIdeal.Facts] : Prop :=
  ∀ (m : (ℓ : Loc Cert.GluWRefIdeal.nD Cert.GluWRefIdeal.τ Cert.GluWRefIdeal.sig) → Buf (Elt Ideal) ℓ) (g : Dev Cert.GluWRefIdeal.nD → PrngReg), Pre_GluWRefIdeal m →
    θ_run (Cert.GluWRefIdeal.defs (F := Ideal)) (onTc (τ := Cert.GluWRefIdeal.τ) (Cert.GluWRefIdeal.main (F := Ideal))) ⟨m, fun _ => 0, g⟩ (fun r => (∀ c : Dev Cert.GluWRefIdeal.nD,
      r.2.mem ((c.tc : Thread Cert.GluWRefIdeal.nD Cert.GluWRefIdeal.τ).loc Cert.GluWRefIdeal.main_arg0) = m ((c.tc : Thread Cert.GluWRefIdeal.nD Cert.GluWRefIdeal.τ).loc Cert.GluWRefIdeal.main_arg0)
      ∧ r.2.mem ((c.tc : Thread Cert.GluWRefIdeal.nD Cert.GluWRefIdeal.τ).loc Cert.GluWRefIdeal.main_arg1) = m ((c.tc : Thread Cert.GluWRefIdeal.nD Cert.GluWRefIdeal.τ).loc Cert.GluWRefIdeal.main_arg1))
      ∧ r.2.sem = fun _ => 0)

def quiescent_SquareW [hSquareW : Cert.SquareW.Facts] : Prop :=
  ∀ (m : (ℓ : Loc Cert.SquareW.nD Cert.SquareW.τ Cert.SquareW.sig) → Buf (Elt Bits) ℓ) (g : Dev Cert.SquareW.nD → PrngReg), Pre_SquareW m →
    θ_run (Cert.SquareW.defs (F := Bits)) (onTc (τ := Cert.SquareW.τ) (Cert.SquareW.main (F := Bits))) ⟨m, fun _ => 0, g⟩ (fun r => (∀ c : Dev Cert.SquareW.nD,
      r.2.mem ((c.tc : Thread Cert.SquareW.nD Cert.SquareW.τ).loc Cert.SquareW.main_arg0) = m ((c.tc : Thread Cert.SquareW.nD Cert.SquareW.τ).loc Cert.SquareW.main_arg0)
      ∧ r.2.mem ((c.tc : Thread Cert.SquareW.nD Cert.SquareW.τ).loc Cert.SquareW.main_arg1) = m ((c.tc : Thread Cert.SquareW.nD Cert.SquareW.τ).loc Cert.SquareW.main_arg1))
      ∧ r.2.sem = fun _ => 0)

def quiescent_SquareWIdeal [hSquareWIdeal : Cert.SquareWIdeal.Facts] : Prop :=
  ∀ (m : (ℓ : Loc Cert.SquareWIdeal.nD Cert.SquareWIdeal.τ Cert.SquareWIdeal.sig) → Buf (Elt Ideal) ℓ) (g : Dev Cert.SquareWIdeal.nD → PrngReg), Pre_SquareWIdeal m →
    θ_run (Cert.SquareWIdeal.defs (F := Ideal)) (onTc (τ := Cert.SquareWIdeal.τ) (Cert.SquareWIdeal.main (F := Ideal))) ⟨m, fun _ => 0, g⟩ (fun r => (∀ c : Dev Cert.SquareWIdeal.nD,
      r.2.mem ((c.tc : Thread Cert.SquareWIdeal.nD Cert.SquareWIdeal.τ).loc Cert.SquareWIdeal.main_arg0) = m ((c.tc : Thread Cert.SquareWIdeal.nD Cert.SquareWIdeal.τ).loc Cert.SquareWIdeal.main_arg0)
      ∧ r.2.mem ((c.tc : Thread Cert.SquareWIdeal.nD Cert.SquareWIdeal.τ).loc Cert.SquareWIdeal.main_arg1) = m ((c.tc : Thread Cert.SquareWIdeal.nD Cert.SquareWIdeal.τ).loc Cert.SquareWIdeal.main_arg1))
      ∧ r.2.sem = fun _ => 0)

def quiescent_SquareWRefIdeal [hSquareWRefIdeal : Cert.SquareWRefIdeal.Facts] : Prop :=
  ∀ (m : (ℓ : Loc Cert.SquareWRefIdeal.nD Cert.SquareWRefIdeal.τ Cert.SquareWRefIdeal.sig) → Buf (Elt Ideal) ℓ) (g : Dev Cert.SquareWRefIdeal.nD → PrngReg), Pre_SquareWRefIdeal m →
    θ_run (Cert.SquareWRefIdeal.defs (F := Ideal)) (onTc (τ := Cert.SquareWRefIdeal.τ) (Cert.SquareWRefIdeal.main (F := Ideal))) ⟨m, fun _ => 0, g⟩ (fun r => (∀ c : Dev Cert.SquareWRefIdeal.nD,
      r.2.mem ((c.tc : Thread Cert.SquareWRefIdeal.nD Cert.SquareWRefIdeal.τ).loc Cert.SquareWRefIdeal.main_arg0) = m ((c.tc : Thread Cert.SquareWRefIdeal.nD Cert.SquareWRefIdeal.τ).loc Cert.SquareWRefIdeal.main_arg0)
      ∧ r.2.mem ((c.tc : Thread Cert.SquareWRefIdeal.nD Cert.SquareWRefIdeal.τ).loc Cert.SquareWRefIdeal.main_arg1) = m ((c.tc : Thread Cert.SquareWRefIdeal.nD Cert.SquareWRefIdeal.τ).loc Cert.SquareWRefIdeal.main_arg1))
      ∧ r.2.sem = fun _ => 0)

def quiescent_SquareAct [hSquareAct : Cert.SquareAct.Facts] : Prop :=
  ∀ (m : (ℓ : Loc Cert.SquareAct.nD Cert.SquareAct.τ Cert.SquareAct.sig) → Buf (Elt Bits) ℓ) (g : Dev Cert.SquareAct.nD → PrngReg), Pre_SquareAct m →
    θ_run (Cert.SquareAct.defs (F := Bits)) (onTc (τ := Cert.SquareAct.τ) (Cert.SquareAct.main (F := Bits))) ⟨m, fun _ => 0, g⟩ (fun r => (∀ c : Dev Cert.SquareAct.nD,
      r.2.mem ((c.tc : Thread Cert.SquareAct.nD Cert.SquareAct.τ).loc Cert.SquareAct.main_arg0) = m ((c.tc : Thread Cert.SquareAct.nD Cert.SquareAct.τ).loc Cert.SquareAct.main_arg0)
      ∧ r.2.mem ((c.tc : Thread Cert.SquareAct.nD Cert.SquareAct.τ).loc Cert.SquareAct.main_arg1) = m ((c.tc : Thread Cert.SquareAct.nD Cert.SquareAct.τ).loc Cert.SquareAct.main_arg1))
      ∧ r.2.sem = fun _ => 0)

def quiescent_SquareActIdeal [hSquareActIdeal : Cert.SquareActIdeal.Facts] : Prop :=
  ∀ (m : (ℓ : Loc Cert.SquareActIdeal.nD Cert.SquareActIdeal.τ Cert.SquareActIdeal.sig) → Buf (Elt Ideal) ℓ) (g : Dev Cert.SquareActIdeal.nD → PrngReg), Pre_SquareActIdeal m →
    θ_run (Cert.SquareActIdeal.defs (F := Ideal)) (onTc (τ := Cert.SquareActIdeal.τ) (Cert.SquareActIdeal.main (F := Ideal))) ⟨m, fun _ => 0, g⟩ (fun r => (∀ c : Dev Cert.SquareActIdeal.nD,
      r.2.mem ((c.tc : Thread Cert.SquareActIdeal.nD Cert.SquareActIdeal.τ).loc Cert.SquareActIdeal.main_arg0) = m ((c.tc : Thread Cert.SquareActIdeal.nD Cert.SquareActIdeal.τ).loc Cert.SquareActIdeal.main_arg0)
      ∧ r.2.mem ((c.tc : Thread Cert.SquareActIdeal.nD Cert.SquareActIdeal.τ).loc Cert.SquareActIdeal.main_arg1) = m ((c.tc : Thread Cert.SquareActIdeal.nD Cert.SquareActIdeal.τ).loc Cert.SquareActIdeal.main_arg1))
      ∧ r.2.sem = fun _ => 0)

def quiescent_SquareActRefIdeal [hSquareActRefIdeal : Cert.SquareActRefIdeal.Facts] : Prop :=
  ∀ (m : (ℓ : Loc Cert.SquareActRefIdeal.nD Cert.SquareActRefIdeal.τ Cert.SquareActRefIdeal.sig) → Buf (Elt Ideal) ℓ) (g : Dev Cert.SquareActRefIdeal.nD → PrngReg), Pre_SquareActRefIdeal m →
    θ_run (Cert.SquareActRefIdeal.defs (F := Ideal)) (onTc (τ := Cert.SquareActRefIdeal.τ) (Cert.SquareActRefIdeal.main (F := Ideal))) ⟨m, fun _ => 0, g⟩ (fun r => (∀ c : Dev Cert.SquareActRefIdeal.nD,
      r.2.mem ((c.tc : Thread Cert.SquareActRefIdeal.nD Cert.SquareActRefIdeal.τ).loc Cert.SquareActRefIdeal.main_arg0) = m ((c.tc : Thread Cert.SquareActRefIdeal.nD Cert.SquareActRefIdeal.τ).loc Cert.SquareActRefIdeal.main_arg0)
      ∧ r.2.mem ((c.tc : Thread Cert.SquareActRefIdeal.nD Cert.SquareActRefIdeal.τ).loc Cert.SquareActRefIdeal.main_arg1) = m ((c.tc : Thread Cert.SquareActRefIdeal.nD Cert.SquareActRefIdeal.τ).loc Cert.SquareActRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1)
      ∧ r.2.mem ((c.tc : Thread Cert.GluProj.nD Cert.GluProj.τ).loc Cert.GluProj.main_arg2) = m ((c.tc : Thread Cert.GluProj.nD Cert.GluProj.τ).loc Cert.GluProj.main_arg2))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
      ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1)
      ∧ r.2.mem ((c.tc : Thread Cert.GluProjRefIdeal.nD Cert.GluProjRefIdeal.τ).loc Cert.GluProjRefIdeal.main_arg2) = m ((c.tc : Thread Cert.GluProjRefIdeal.nD Cert.GluProjRefIdeal.τ).loc Cert.GluProjRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_PwProj [hPwProj : Cert.PwProj.Facts] : Prop :=
  ∀ (m : (ℓ : Loc Cert.PwProj.nD Cert.PwProj.τ Cert.PwProj.sig) → Buf (Elt Bits) ℓ) (g : Dev Cert.PwProj.nD → PrngReg), Pre_PwProj m →
    θ_run (Cert.PwProj.defs (F := Bits)) (onTc (τ := Cert.PwProj.τ) (Cert.PwProj.main (F := Bits))) ⟨m, fun _ => 0, g⟩ (fun r => (∀ c : Dev Cert.PwProj.nD,
      r.2.mem ((c.tc : Thread Cert.PwProj.nD Cert.PwProj.τ).loc Cert.PwProj.main_arg0) = m ((c.tc : Thread Cert.PwProj.nD Cert.PwProj.τ).loc Cert.PwProj.main_arg0)
      ∧ r.2.mem ((c.tc : Thread Cert.PwProj.nD Cert.PwProj.τ).loc Cert.PwProj.main_arg1) = m ((c.tc : Thread Cert.PwProj.nD Cert.PwProj.τ).loc Cert.PwProj.main_arg1)
      ∧ r.2.mem ((c.tc : Thread Cert.PwProj.nD Cert.PwProj.τ).loc Cert.PwProj.main_arg2) = m ((c.tc : Thread Cert.PwProj.nD Cert.PwProj.τ).loc Cert.PwProj.main_arg2)
      ∧ r.2.mem ((c.tc : Thread Cert.PwProj.nD Cert.PwProj.τ).loc Cert.PwProj.main_arg3) = m ((c.tc : Thread Cert.PwProj.nD Cert.PwProj.τ).loc Cert.PwProj.main_arg3)
      ∧ r.2.mem ((c.tc : Thread Cert.PwProj.nD Cert.PwProj.τ).loc Cert.PwProj.main_arg4) = m ((c.tc : Thread Cert.PwProj.nD Cert.PwProj.τ).loc Cert.PwProj.main_arg4))
      ∧ r.2.sem = fun _ => 0)

def quiescent_PwProjIdeal [hPwProjIdeal : Cert.PwProjIdeal.Facts] : Prop :=
  ∀ (m : (ℓ : Loc Cert.PwProjIdeal.nD Cert.PwProjIdeal.τ Cert.PwProjIdeal.sig) → Buf (Elt Ideal) ℓ) (g : Dev Cert.PwProjIdeal.nD → PrngReg), Pre_PwProjIdeal m →
    θ_run (Cert.PwProjIdeal.defs (F := Ideal)) (onTc (τ := Cert.PwProjIdeal.τ) (Cert.PwProjIdeal.main (F := Ideal))) ⟨m, fun _ => 0, g⟩ (fun r => (∀ c : Dev Cert.PwProjIdeal.nD,
      r.2.mem ((c.tc : Thread Cert.PwProjIdeal.nD Cert.PwProjIdeal.τ).loc Cert.PwProjIdeal.main_arg0) = m ((c.tc : Thread Cert.PwProjIdeal.nD Cert.PwProjIdeal.τ).loc Cert.PwProjIdeal.main_arg0)
      ∧ r.2.mem ((c.tc : Thread Cert.PwProjIdeal.nD Cert.PwProjIdeal.τ).loc Cert.PwProjIdeal.main_arg1) = m ((c.tc : Thread Cert.PwProjIdeal.nD Cert.PwProjIdeal.τ).loc Cert.PwProjIdeal.main_arg1)
      ∧ r.2.mem ((c.tc : Thread Cert.PwProjIdeal.nD Cert.PwProjIdeal.τ).loc Cert.PwProjIdeal.main_arg2) = m ((c.tc : Thread Cert.PwProjIdeal.nD Cert.PwProjIdeal.τ).loc Cert.PwProjIdeal.main_arg2)
      ∧ r.2.mem ((c.tc : Thread Cert.PwProjIdeal.nD Cert.PwProjIdeal.τ).loc Cert.PwProjIdeal.main_arg3) = m ((c.tc : Thread Cert.PwProjIdeal.nD Cert.PwProjIdeal.τ).loc Cert.PwProjIdeal.main_arg3)
      ∧ r.2.mem ((c.tc : Thread Cert.PwProjIdeal.nD Cert.PwProjIdeal.τ).loc Cert.PwProjIdeal.main_arg4) = m ((c.tc : Thread Cert.PwProjIdeal.nD Cert.PwProjIdeal.τ).loc Cert.PwProjIdeal.main_arg4))
      ∧ r.2.sem = fun _ => 0)

def quiescent_PwProjRefIdeal [hPwProjRefIdeal : Cert.PwProjRefIdeal.Facts] : Prop :=
  ∀ (m : (ℓ : Loc Cert.PwProjRefIdeal.nD Cert.PwProjRefIdeal.τ Cert.PwProjRefIdeal.sig) → Buf (Elt Ideal) ℓ) (g : Dev Cert.PwProjRefIdeal.nD → PrngReg), Pre_PwProjRefIdeal m →
    θ_run (Cert.PwProjRefIdeal.defs (F := Ideal)) (onTc (τ := Cert.PwProjRefIdeal.τ) (Cert.PwProjRefIdeal.main (F := Ideal))) ⟨m, fun _ => 0, g⟩ (fun r => (∀ c : Dev Cert.PwProjRefIdeal.nD,
      r.2.mem ((c.tc : Thread Cert.PwProjRefIdeal.nD Cert.PwProjRefIdeal.τ).loc Cert.PwProjRefIdeal.main_arg0) = m ((c.tc : Thread Cert.PwProjRefIdeal.nD Cert.PwProjRefIdeal.τ).loc Cert.PwProjRefIdeal.main_arg0)
      ∧ r.2.mem ((c.tc : Thread Cert.PwProjRefIdeal.nD Cert.PwProjRefIdeal.τ).loc Cert.PwProjRefIdeal.main_arg1) = m ((c.tc : Thread Cert.PwProjRefIdeal.nD Cert.PwProjRefIdeal.τ).loc Cert.PwProjRefIdeal.main_arg1)
      ∧ r.2.mem ((c.tc : Thread Cert.PwProjRefIdeal.nD Cert.PwProjRefIdeal.τ).loc Cert.PwProjRefIdeal.main_arg2) = m ((c.tc : Thread Cert.PwProjRefIdeal.nD Cert.PwProjRefIdeal.τ).loc Cert.PwProjRefIdeal.main_arg2)
      ∧ r.2.mem ((c.tc : Thread Cert.PwProjRefIdeal.nD Cert.PwProjRefIdeal.τ).loc Cert.PwProjRefIdeal.main_arg3) = m ((c.tc : Thread Cert.PwProjRefIdeal.nD Cert.PwProjRefIdeal.τ).loc Cert.PwProjRefIdeal.main_arg3)
      ∧ r.2.mem ((c.tc : Thread Cert.PwProjRefIdeal.nD Cert.PwProjRefIdeal.τ).loc Cert.PwProjRefIdeal.main_arg4) = m ((c.tc : Thread Cert.PwProjRefIdeal.nD Cert.PwProjRefIdeal.τ).loc Cert.PwProjRefIdeal.main_arg4))
      ∧ r.2.sem = fun _ => 0)

def quiescent_DownN [hDownN : Cert.DownN.Facts] : Prop :=
  ∀ (m : (ℓ : Loc Cert.DownN.nD Cert.DownN.τ Cert.DownN.sig) → Buf (Elt Bits) ℓ) (g : Dev Cert.DownN.nD → PrngReg), Pre_DownN m →
    θ_run (Cert.DownN.defs (F := Bits)) (onTc (τ := Cert.DownN.τ) (Cert.DownN.main (F := Bits))) ⟨m, fun _ => 0, g⟩ (fun r => (∀ c : Dev Cert.DownN.nD,
      r.2.mem ((c.tc : Thread Cert.DownN.nD Cert.DownN.τ).loc Cert.DownN.main_arg0) = m ((c.tc : Thread Cert.DownN.nD Cert.DownN.τ).loc Cert.DownN.main_arg0)
      ∧ r.2.mem ((c.tc : Thread Cert.DownN.nD Cert.DownN.τ).loc Cert.DownN.main_arg1) = m ((c.tc : Thread Cert.DownN.nD Cert.DownN.τ).loc Cert.DownN.main_arg1)
      ∧ r.2.mem ((c.tc : Thread Cert.DownN.nD Cert.DownN.τ).loc Cert.DownN.main_arg2) = m ((c.tc : Thread Cert.DownN.nD Cert.DownN.τ).loc Cert.DownN.main_arg2)
      ∧ r.2.mem ((c.tc : Thread Cert.DownN.nD Cert.DownN.τ).loc Cert.DownN.main_arg3) = m ((c.tc : Thread Cert.DownN.nD Cert.DownN.τ).loc Cert.DownN.main_arg3))
      ∧ r.2.sem = fun _ => 0)

def quiescent_DownNIdeal [hDownNIdeal : Cert.DownNIdeal.Facts] : Prop :=
  ∀ (m : (ℓ : Loc Cert.DownNIdeal.nD Cert.DownNIdeal.τ Cert.DownNIdeal.sig) → Buf (Elt Ideal) ℓ) (g : Dev Cert.DownNIdeal.nD → PrngReg), Pre_DownNIdeal m →
    θ_run (Cert.DownNIdeal.defs (F := Ideal)) (onTc (τ := Cert.DownNIdeal.τ) (Cert.DownNIdeal.main (F := Ideal))) ⟨m, fun _ => 0, g⟩ (fun r => (∀ c : Dev Cert.DownNIdeal.nD,
      r.2.mem ((c.tc : Thread Cert.DownNIdeal.nD Cert.DownNIdeal.τ).loc Cert.DownNIdeal.main_arg0) = m ((c.tc : Thread Cert.DownNIdeal.nD Cert.DownNIdeal.τ).loc Cert.DownNIdeal.main_arg0)
      ∧ r.2.mem ((c.tc : Thread Cert.DownNIdeal.nD Cert.DownNIdeal.τ).loc Cert.DownNIdeal.main_arg1) = m ((c.tc : Thread Cert.DownNIdeal.nD Cert.DownNIdeal.τ).loc Cert.DownNIdeal.main_arg1)
      ∧ r.2.mem ((c.tc : Thread Cert.DownNIdeal.nD Cert.DownNIdeal.τ).loc Cert.DownNIdeal.main_arg2) = m ((c.tc : Thread Cert.DownNIdeal.nD Cert.DownNIdeal.τ).loc Cert.DownNIdeal.main_arg2)
      ∧ r.2.mem ((c.tc : Thread Cert.DownNIdeal.nD Cert.DownNIdeal.τ).loc Cert.DownNIdeal.main_arg3) = m ((c.tc : Thread Cert.DownNIdeal.nD Cert.DownNIdeal.τ).loc Cert.DownNIdeal.main_arg3))
      ∧ r.2.sem = fun _ => 0)

def quiescent_DownNRefIdeal [hDownNRefIdeal : Cert.DownNRefIdeal.Facts] : Prop :=
  ∀ (m : (ℓ : Loc Cert.DownNRefIdeal.nD Cert.DownNRefIdeal.τ Cert.DownNRefIdeal.sig) → Buf (Elt Ideal) ℓ) (g : Dev Cert.DownNRefIdeal.nD → PrngReg), Pre_DownNRefIdeal m →
    θ_run (Cert.DownNRefIdeal.defs (F := Ideal)) (onTc (τ := Cert.DownNRefIdeal.τ) (Cert.DownNRefIdeal.main (F := Ideal))) ⟨m, fun _ => 0, g⟩ (fun r => (∀ c : Dev Cert.DownNRefIdeal.nD,
      r.2.mem ((c.tc : Thread Cert.DownNRefIdeal.nD Cert.DownNRefIdeal.τ).loc Cert.DownNRefIdeal.main_arg0) = m ((c.tc : Thread Cert.DownNRefIdeal.nD Cert.DownNRefIdeal.τ).loc Cert.DownNRefIdeal.main_arg0)
      ∧ r.2.mem ((c.tc : Thread Cert.DownNRefIdeal.nD Cert.DownNRefIdeal.τ).loc Cert.DownNRefIdeal.main_arg1) = m ((c.tc : Thread Cert.DownNRefIdeal.nD Cert.DownNRefIdeal.τ).loc Cert.DownNRefIdeal.main_arg1)
      ∧ r.2.mem ((c.tc : Thread Cert.DownNRefIdeal.nD Cert.DownNRefIdeal.τ).loc Cert.DownNRefIdeal.main_arg2) = m ((c.tc : Thread Cert.DownNRefIdeal.nD Cert.DownNRefIdeal.τ).loc Cert.DownNRefIdeal.main_arg2)
      ∧ r.2.mem ((c.tc : Thread Cert.DownNRefIdeal.nD Cert.DownNRefIdeal.τ).loc Cert.DownNRefIdeal.main_arg3) = m ((c.tc : Thread Cert.DownNRefIdeal.nD Cert.DownNRefIdeal.τ).loc Cert.DownNRefIdeal.main_arg3))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2)
      ∧ r.2.mem ((c.tc : Thread Cert.UpAct.nD Cert.UpAct.τ).loc Cert.UpAct.main_arg3) = m ((c.tc : Thread Cert.UpAct.nD Cert.UpAct.τ).loc Cert.UpAct.main_arg3)
      ∧ r.2.mem ((c.tc : Thread Cert.UpAct.nD Cert.UpAct.τ).loc Cert.UpAct.main_arg4) = m ((c.tc : Thread Cert.UpAct.nD Cert.UpAct.τ).loc Cert.UpAct.main_arg4))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
      ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3)
      ∧ r.2.mem ((c.tc : Thread Cert.UpActIdeal.nD Cert.UpActIdeal.τ).loc Cert.UpActIdeal.main_arg4) = m ((c.tc : Thread Cert.UpActIdeal.nD Cert.UpActIdeal.τ).loc Cert.UpActIdeal.main_arg4))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2)
      ∧ r.2.mem ((c.tc : Thread Cert.UpActRefIdeal.nD Cert.UpActRefIdeal.τ).loc Cert.UpActRefIdeal.main_arg3) = m ((c.tc : Thread Cert.UpActRefIdeal.nD Cert.UpActRefIdeal.τ).loc Cert.UpActRefIdeal.main_arg3)
      ∧ r.2.mem ((c.tc : Thread Cert.UpActRefIdeal.nD Cert.UpActRefIdeal.τ).loc Cert.UpActRefIdeal.main_arg4) = m ((c.tc : Thread Cert.UpActRefIdeal.nD Cert.UpActRefIdeal.τ).loc Cert.UpActRefIdeal.main_arg4))
      ∧ r.2.sem = fun _ => 0)

def quiescent_UpActB [hUpActB : Cert.UpActB.Facts] : Prop :=
  ∀ (m : (ℓ : Loc Cert.UpActB.nD Cert.UpActB.τ Cert.UpActB.sig) → Buf (Elt Bits) ℓ) (g : Dev Cert.UpActB.nD → PrngReg), Pre_UpActB m →
    θ_run (Cert.UpActB.defs (F := Bits)) (onTc (τ := Cert.UpActB.τ) (Cert.UpActB.main (F := Bits))) ⟨m, fun _ => 0, g⟩ (fun r => (∀ c : Dev Cert.UpActB.nD,
      r.2.mem ((c.tc : Thread Cert.UpActB.nD Cert.UpActB.τ).loc Cert.UpActB.main_arg0) = m ((c.tc : Thread Cert.UpActB.nD Cert.UpActB.τ).loc Cert.UpActB.main_arg0)
      ∧ r.2.mem ((c.tc : Thread Cert.UpActB.nD Cert.UpActB.τ).loc Cert.UpActB.main_arg1) = m ((c.tc : Thread Cert.UpActB.nD Cert.UpActB.τ).loc Cert.UpActB.main_arg1)
      ∧ r.2.mem ((c.tc : Thread Cert.UpActB.nD Cert.UpActB.τ).loc Cert.UpActB.main_arg2) = m ((c.tc : Thread Cert.UpActB.nD Cert.UpActB.τ).loc Cert.UpActB.main_arg2)
      ∧ r.2.mem ((c.tc : Thread Cert.UpActB.nD Cert.UpActB.τ).loc Cert.UpActB.main_arg3) = m ((c.tc : Thread Cert.UpActB.nD Cert.UpActB.τ).loc Cert.UpActB.main_arg3)
      ∧ r.2.mem ((c.tc : Thread Cert.UpActB.nD Cert.UpActB.τ).loc Cert.UpActB.main_arg4) = m ((c.tc : Thread Cert.UpActB.nD Cert.UpActB.τ).loc Cert.UpActB.main_arg4))
      ∧ r.2.sem = fun _ => 0)

def quiescent_UpActBIdeal [hUpActBIdeal : Cert.UpActBIdeal.Facts] : Prop :=
  ∀ (m : (ℓ : Loc Cert.UpActBIdeal.nD Cert.UpActBIdeal.τ Cert.UpActBIdeal.sig) → Buf (Elt Ideal) ℓ) (g : Dev Cert.UpActBIdeal.nD → PrngReg), Pre_UpActBIdeal m →
    θ_run (Cert.UpActBIdeal.defs (F := Ideal)) (onTc (τ := Cert.UpActBIdeal.τ) (Cert.UpActBIdeal.main (F := Ideal))) ⟨m, fun _ => 0, g⟩ (fun r => (∀ c : Dev Cert.UpActBIdeal.nD,
      r.2.mem ((c.tc : Thread Cert.UpActBIdeal.nD Cert.UpActBIdeal.τ).loc Cert.UpActBIdeal.main_arg0) = m ((c.tc : Thread Cert.UpActBIdeal.nD Cert.UpActBIdeal.τ).loc Cert.UpActBIdeal.main_arg0)
      ∧ r.2.mem ((c.tc : Thread Cert.UpActBIdeal.nD Cert.UpActBIdeal.τ).loc Cert.UpActBIdeal.main_arg1) = m ((c.tc : Thread Cert.UpActBIdeal.nD Cert.UpActBIdeal.τ).loc Cert.UpActBIdeal.main_arg1)
      ∧ r.2.mem ((c.tc : Thread Cert.UpActBIdeal.nD Cert.UpActBIdeal.τ).loc Cert.UpActBIdeal.main_arg2) = m ((c.tc : Thread Cert.UpActBIdeal.nD Cert.UpActBIdeal.τ).loc Cert.UpActBIdeal.main_arg2)
      ∧ r.2.mem ((c.tc : Thread Cert.UpActBIdeal.nD Cert.UpActBIdeal.τ).loc Cert.UpActBIdeal.main_arg3) = m ((c.tc : Thread Cert.UpActBIdeal.nD Cert.UpActBIdeal.τ).loc Cert.UpActBIdeal.main_arg3)
      ∧ r.2.mem ((c.tc : Thread Cert.UpActBIdeal.nD Cert.UpActBIdeal.τ).loc Cert.UpActBIdeal.main_arg4) = m ((c.tc : Thread Cert.UpActBIdeal.nD Cert.UpActBIdeal.τ).loc Cert.UpActBIdeal.main_arg4))
      ∧ r.2.sem = fun _ => 0)

def quiescent_UpActBRefIdeal [hUpActBRefIdeal : Cert.UpActBRefIdeal.Facts] : Prop :=
  ∀ (m : (ℓ : Loc Cert.UpActBRefIdeal.nD Cert.UpActBRefIdeal.τ Cert.UpActBRefIdeal.sig) → Buf (Elt Ideal) ℓ) (g : Dev Cert.UpActBRefIdeal.nD → PrngReg), Pre_UpActBRefIdeal m →
    θ_run (Cert.UpActBRefIdeal.defs (F := Ideal)) (onTc (τ := Cert.UpActBRefIdeal.τ) (Cert.UpActBRefIdeal.main (F := Ideal))) ⟨m, fun _ => 0, g⟩ (fun r => (∀ c : Dev Cert.UpActBRefIdeal.nD,
      r.2.mem ((c.tc : Thread Cert.UpActBRefIdeal.nD Cert.UpActBRefIdeal.τ).loc Cert.UpActBRefIdeal.main_arg0) = m ((c.tc : Thread Cert.UpActBRefIdeal.nD Cert.UpActBRefIdeal.τ).loc Cert.UpActBRefIdeal.main_arg0)
      ∧ r.2.mem ((c.tc : Thread Cert.UpActBRefIdeal.nD Cert.UpActBRefIdeal.τ).loc Cert.UpActBRefIdeal.main_arg1) = m ((c.tc : Thread Cert.UpActBRefIdeal.nD Cert.UpActBRefIdeal.τ).loc Cert.UpActBRefIdeal.main_arg1)
      ∧ r.2.mem ((c.tc : Thread Cert.UpActBRefIdeal.nD Cert.UpActBRefIdeal.τ).loc Cert.UpActBRefIdeal.main_arg2) = m ((c.tc : Thread Cert.UpActBRefIdeal.nD Cert.UpActBRefIdeal.τ).loc Cert.UpActBRefIdeal.main_arg2)
      ∧ r.2.mem ((c.tc : Thread Cert.UpActBRefIdeal.nD Cert.UpActBRefIdeal.τ).loc Cert.UpActBRefIdeal.main_arg3) = m ((c.tc : Thread Cert.UpActBRefIdeal.nD Cert.UpActBRefIdeal.τ).loc Cert.UpActBRefIdeal.main_arg3)
      ∧ r.2.mem ((c.tc : Thread Cert.UpActBRefIdeal.nD Cert.UpActBRefIdeal.τ).loc Cert.UpActBRefIdeal.main_arg4) = m ((c.tc : Thread Cert.UpActBRefIdeal.nD Cert.UpActBRefIdeal.τ).loc Cert.UpActBRefIdeal.main_arg4))
      ∧ r.2.sem = fun _ => 0)

def quiescent_GluAct [hGluAct : Cert.GluAct.Facts] : Prop :=
  ∀ (m : (ℓ : Loc Cert.GluAct.nD Cert.GluAct.τ Cert.GluAct.sig) → Buf (Elt Bits) ℓ) (g : Dev Cert.GluAct.nD → PrngReg), Pre_GluAct m →
    θ_run (Cert.GluAct.defs (F := Bits)) (onTc (τ := Cert.GluAct.τ) (Cert.GluAct.main (F := Bits))) ⟨m, fun _ => 0, g⟩ (fun r => (∀ c : Dev Cert.GluAct.nD,
      r.2.mem ((c.tc : Thread Cert.GluAct.nD Cert.GluAct.τ).loc Cert.GluAct.main_arg0) = m ((c.tc : Thread Cert.GluAct.nD Cert.GluAct.τ).loc Cert.GluAct.main_arg0)
      ∧ r.2.mem ((c.tc : Thread Cert.GluAct.nD Cert.GluAct.τ).loc Cert.GluAct.main_arg1) = m ((c.tc : Thread Cert.GluAct.nD Cert.GluAct.τ).loc Cert.GluAct.main_arg1)
      ∧ r.2.mem ((c.tc : Thread Cert.GluAct.nD Cert.GluAct.τ).loc Cert.GluAct.main_arg2) = m ((c.tc : Thread Cert.GluAct.nD Cert.GluAct.τ).loc Cert.GluAct.main_arg2)
      ∧ r.2.mem ((c.tc : Thread Cert.GluAct.nD Cert.GluAct.τ).loc Cert.GluAct.main_arg3) = m ((c.tc : Thread Cert.GluAct.nD Cert.GluAct.τ).loc Cert.GluAct.main_arg3)
      ∧ r.2.mem ((c.tc : Thread Cert.GluAct.nD Cert.GluAct.τ).loc Cert.GluAct.main_arg4) = m ((c.tc : Thread Cert.GluAct.nD Cert.GluAct.τ).loc Cert.GluAct.main_arg4))
      ∧ r.2.sem = fun _ => 0)

def quiescent_GluActIdeal [hGluActIdeal : Cert.GluActIdeal.Facts] : Prop :=
  ∀ (m : (ℓ : Loc Cert.GluActIdeal.nD Cert.GluActIdeal.τ Cert.GluActIdeal.sig) → Buf (Elt Ideal) ℓ) (g : Dev Cert.GluActIdeal.nD → PrngReg), Pre_GluActIdeal m →
    θ_run (Cert.GluActIdeal.defs (F := Ideal)) (onTc (τ := Cert.GluActIdeal.τ) (Cert.GluActIdeal.main (F := Ideal))) ⟨m, fun _ => 0, g⟩ (fun r => (∀ c : Dev Cert.GluActIdeal.nD,
      r.2.mem ((c.tc : Thread Cert.GluActIdeal.nD Cert.GluActIdeal.τ).loc Cert.GluActIdeal.main_arg0) = m ((c.tc : Thread Cert.GluActIdeal.nD Cert.GluActIdeal.τ).loc Cert.GluActIdeal.main_arg0)
      ∧ r.2.mem ((c.tc : Thread Cert.GluActIdeal.nD Cert.GluActIdeal.τ).loc Cert.GluActIdeal.main_arg1) = m ((c.tc : Thread Cert.GluActIdeal.nD Cert.GluActIdeal.τ).loc Cert.GluActIdeal.main_arg1)
      ∧ r.2.mem ((c.tc : Thread Cert.GluActIdeal.nD Cert.GluActIdeal.τ).loc Cert.GluActIdeal.main_arg2) = m ((c.tc : Thread Cert.GluActIdeal.nD Cert.GluActIdeal.τ).loc Cert.GluActIdeal.main_arg2)
      ∧ r.2.mem ((c.tc : Thread Cert.GluActIdeal.nD Cert.GluActIdeal.τ).loc Cert.GluActIdeal.main_arg3) = m ((c.tc : Thread Cert.GluActIdeal.nD Cert.GluActIdeal.τ).loc Cert.GluActIdeal.main_arg3)
      ∧ r.2.mem ((c.tc : Thread Cert.GluActIdeal.nD Cert.GluActIdeal.τ).loc Cert.GluActIdeal.main_arg4) = m ((c.tc : Thread Cert.GluActIdeal.nD Cert.GluActIdeal.τ).loc Cert.GluActIdeal.main_arg4))
      ∧ r.2.sem = fun _ => 0)

def quiescent_GluActRefIdeal [hGluActRefIdeal : Cert.GluActRefIdeal.Facts] : Prop :=
  ∀ (m : (ℓ : Loc Cert.GluActRefIdeal.nD Cert.GluActRefIdeal.τ Cert.GluActRefIdeal.sig) → Buf (Elt Ideal) ℓ) (g : Dev Cert.GluActRefIdeal.nD → PrngReg), Pre_GluActRefIdeal m →
    θ_run (Cert.GluActRefIdeal.defs (F := Ideal)) (onTc (τ := Cert.GluActRefIdeal.τ) (Cert.GluActRefIdeal.main (F := Ideal))) ⟨m, fun _ => 0, g⟩ (fun r => (∀ c : Dev Cert.GluActRefIdeal.nD,
      r.2.mem ((c.tc : Thread Cert.GluActRefIdeal.nD Cert.GluActRefIdeal.τ).loc Cert.GluActRefIdeal.main_arg0) = m ((c.tc : Thread Cert.GluActRefIdeal.nD Cert.GluActRefIdeal.τ).loc Cert.GluActRefIdeal.main_arg0)
      ∧ r.2.mem ((c.tc : Thread Cert.GluActRefIdeal.nD Cert.GluActRefIdeal.τ).loc Cert.GluActRefIdeal.main_arg1) = m ((c.tc : Thread Cert.GluActRefIdeal.nD Cert.GluActRefIdeal.τ).loc Cert.GluActRefIdeal.main_arg1)
      ∧ r.2.mem ((c.tc : Thread Cert.GluActRefIdeal.nD Cert.GluActRefIdeal.τ).loc Cert.GluActRefIdeal.main_arg2) = m ((c.tc : Thread Cert.GluActRefIdeal.nD Cert.GluActRefIdeal.τ).loc Cert.GluActRefIdeal.main_arg2)
      ∧ r.2.mem ((c.tc : Thread Cert.GluActRefIdeal.nD Cert.GluActRefIdeal.τ).loc Cert.GluActRefIdeal.main_arg3) = m ((c.tc : Thread Cert.GluActRefIdeal.nD Cert.GluActRefIdeal.τ).loc Cert.GluActRefIdeal.main_arg3)
      ∧ r.2.mem ((c.tc : Thread Cert.GluActRefIdeal.nD Cert.GluActRefIdeal.τ).loc Cert.GluActRefIdeal.main_arg4) = m ((c.tc : Thread Cert.GluActRefIdeal.nD Cert.GluActRefIdeal.τ).loc Cert.GluActRefIdeal.main_arg4))
      ∧ r.2.sem = fun _ => 0)

def quiescent_InAct [hInAct : Cert.InAct.Facts] : Prop :=
  ∀ (m : (ℓ : Loc Cert.InAct.nD Cert.InAct.τ Cert.InAct.sig) → Buf (Elt Bits) ℓ) (g : Dev Cert.InAct.nD → PrngReg), Pre_InAct m →
    θ_run (Cert.InAct.defs (F := Bits)) (onTc (τ := Cert.InAct.τ) (Cert.InAct.main (F := Bits))) ⟨m, fun _ => 0, g⟩ (fun r => (∀ c : Dev Cert.InAct.nD,
      r.2.mem ((c.tc : Thread Cert.InAct.nD Cert.InAct.τ).loc Cert.InAct.main_arg0) = m ((c.tc : Thread Cert.InAct.nD Cert.InAct.τ).loc Cert.InAct.main_arg0)
      ∧ r.2.mem ((c.tc : Thread Cert.InAct.nD Cert.InAct.τ).loc Cert.InAct.main_arg1) = m ((c.tc : Thread Cert.InAct.nD Cert.InAct.τ).loc Cert.InAct.main_arg1)
      ∧ r.2.mem ((c.tc : Thread Cert.InAct.nD Cert.InAct.τ).loc Cert.InAct.main_arg2) = m ((c.tc : Thread Cert.InAct.nD Cert.InAct.τ).loc Cert.InAct.main_arg2)
      ∧ r.2.mem ((c.tc : Thread Cert.InAct.nD Cert.InAct.τ).loc Cert.InAct.main_arg3) = m ((c.tc : Thread Cert.InAct.nD Cert.InAct.τ).loc Cert.InAct.main_arg3)
      ∧ r.2.mem ((c.tc : Thread Cert.InAct.nD Cert.InAct.τ).loc Cert.InAct.main_arg4) = m ((c.tc : Thread Cert.InAct.nD Cert.InAct.τ).loc Cert.InAct.main_arg4))
      ∧ r.2.sem = fun _ => 0)

def quiescent_InActIdeal [hInActIdeal : Cert.InActIdeal.Facts] : Prop :=
  ∀ (m : (ℓ : Loc Cert.InActIdeal.nD Cert.InActIdeal.τ Cert.InActIdeal.sig) → Buf (Elt Ideal) ℓ) (g : Dev Cert.InActIdeal.nD → PrngReg), Pre_InActIdeal m →
    θ_run (Cert.InActIdeal.defs (F := Ideal)) (onTc (τ := Cert.InActIdeal.τ) (Cert.InActIdeal.main (F := Ideal))) ⟨m, fun _ => 0, g⟩ (fun r => (∀ c : Dev Cert.InActIdeal.nD,
      r.2.mem ((c.tc : Thread Cert.InActIdeal.nD Cert.InActIdeal.τ).loc Cert.InActIdeal.main_arg0) = m ((c.tc : Thread Cert.InActIdeal.nD Cert.InActIdeal.τ).loc Cert.InActIdeal.main_arg0)
      ∧ r.2.mem ((c.tc : Thread Cert.InActIdeal.nD Cert.InActIdeal.τ).loc Cert.InActIdeal.main_arg1) = m ((c.tc : Thread Cert.InActIdeal.nD Cert.InActIdeal.τ).loc Cert.InActIdeal.main_arg1)
      ∧ r.2.mem ((c.tc : Thread Cert.InActIdeal.nD Cert.InActIdeal.τ).loc Cert.InActIdeal.main_arg2) = m ((c.tc : Thread Cert.InActIdeal.nD Cert.InActIdeal.τ).loc Cert.InActIdeal.main_arg2)
      ∧ r.2.mem ((c.tc : Thread Cert.InActIdeal.nD Cert.InActIdeal.τ).loc Cert.InActIdeal.main_arg3) = m ((c.tc : Thread Cert.InActIdeal.nD Cert.InActIdeal.τ).loc Cert.InActIdeal.main_arg3)
      ∧ r.2.mem ((c.tc : Thread Cert.InActIdeal.nD Cert.InActIdeal.τ).loc Cert.InActIdeal.main_arg4) = m ((c.tc : Thread Cert.InActIdeal.nD Cert.InActIdeal.τ).loc Cert.InActIdeal.main_arg4))
      ∧ r.2.sem = fun _ => 0)

def quiescent_InActRefIdeal [hInActRefIdeal : Cert.InActRefIdeal.Facts] : Prop :=
  ∀ (m : (ℓ : Loc Cert.InActRefIdeal.nD Cert.InActRefIdeal.τ Cert.InActRefIdeal.sig) → Buf (Elt Ideal) ℓ) (g : Dev Cert.InActRefIdeal.nD → PrngReg), Pre_InActRefIdeal m →
    θ_run (Cert.InActRefIdeal.defs (F := Ideal)) (onTc (τ := Cert.InActRefIdeal.τ) (Cert.InActRefIdeal.main (F := Ideal))) ⟨m, fun _ => 0, g⟩ (fun r => (∀ c : Dev Cert.InActRefIdeal.nD,
      r.2.mem ((c.tc : Thread Cert.InActRefIdeal.nD Cert.InActRefIdeal.τ).loc Cert.InActRefIdeal.main_arg0) = m ((c.tc : Thread Cert.InActRefIdeal.nD Cert.InActRefIdeal.τ).loc Cert.InActRefIdeal.main_arg0)
      ∧ r.2.mem ((c.tc : Thread Cert.InActRefIdeal.nD Cert.InActRefIdeal.τ).loc Cert.InActRefIdeal.main_arg1) = m ((c.tc : Thread Cert.InActRefIdeal.nD Cert.InActRefIdeal.τ).loc Cert.InActRefIdeal.main_arg1)
      ∧ r.2.mem ((c.tc : Thread Cert.InActRefIdeal.nD Cert.InActRefIdeal.τ).loc Cert.InActRefIdeal.main_arg2) = m ((c.tc : Thread Cert.InActRefIdeal.nD Cert.InActRefIdeal.τ).loc Cert.InActRefIdeal.main_arg2)
      ∧ r.2.mem ((c.tc : Thread Cert.InActRefIdeal.nD Cert.InActRefIdeal.τ).loc Cert.InActRefIdeal.main_arg3) = m ((c.tc : Thread Cert.InActRefIdeal.nD Cert.InActRefIdeal.τ).loc Cert.InActRefIdeal.main_arg3)
      ∧ r.2.mem ((c.tc : Thread Cert.InActRefIdeal.nD Cert.InActRefIdeal.τ).loc Cert.InActRefIdeal.main_arg4) = m ((c.tc : Thread Cert.InActRefIdeal.nD Cert.InActRefIdeal.τ).loc Cert.InActRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v5) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v5) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownAct_DownActIdeal : Prop :=
  True

def algebraic_DownActIdeal_DownActRefIdeal [hDownActIdeal : Cert.DownActIdeal.Facts] [hDownActRefIdeal : Cert.DownActRefIdeal.Facts] : Prop :=
  ∀ (m : (ℓ : Loc Cert.DownActIdeal.nD Cert.DownActIdeal.τ Cert.DownActIdeal.sig) → Buf (Elt Ideal) ℓ) (g : Dev Cert.DownActIdeal.nD → PrngReg)
    (m' : (ℓ : Loc Cert.DownActRefIdeal.nD Cert.DownActRefIdeal.τ Cert.DownActRefIdeal.sig) → Buf (Elt Ideal) ℓ) (g' : Dev Cert.DownActRefIdeal.nD → PrngReg), Pre_DownActIdeal m →
    (∀ c : Dev Cert.DownActIdeal.nD,
      m' ((c.tc : Thread Cert.DownActRefIdeal.nD Cert.DownActRefIdeal.τ).loc Cert.DownActRefIdeal.main_arg0) = m ((c.tc : Thread Cert.DownActIdeal.nD Cert.DownActIdeal.τ).loc Cert.DownActIdeal.main_arg0)
      ∧ m' ((c.tc : Thread Cert.DownActRefIdeal.nD Cert.DownActRefIdeal.τ).loc Cert.DownActRefIdeal.main_arg1) = m ((c.tc : Thread Cert.DownActIdeal.nD Cert.DownActIdeal.τ).loc Cert.DownActIdeal.main_arg1)
      ∧ m' ((c.tc : Thread Cert.DownActRefIdeal.nD Cert.DownActRefIdeal.τ).loc Cert.DownActRefIdeal.main_arg2) = m ((c.tc : Thread Cert.DownActIdeal.nD Cert.DownActIdeal.τ).loc Cert.DownActIdeal.main_arg2)) →
    ∃ (v0 : (c : Dev Cert.DownActIdeal.nD) → Buf (Elt Ideal) ((c.tc : Thread Cert.DownActIdeal.nD Cert.DownActIdeal.τ).loc Cert.DownActIdeal.main_v4)),
      θ_run (Cert.DownActIdeal.defs (F := Ideal)) (onTc (τ := Cert.DownActIdeal.τ) (Cert.DownActIdeal.main (F := Ideal))) ⟨m, fun _ => 0, g⟩ (fun r => ∀ c : Dev Cert.DownActIdeal.nD,
          r.2.mem ((c.tc : Thread Cert.DownActIdeal.nD Cert.DownActIdeal.τ).loc Cert.DownActIdeal.main_v4) = v0 c
          ∧ r.2.mem ((c.tc : Thread Cert.DownActIdeal.nD Cert.DownActIdeal.τ).loc Cert.DownActIdeal.main_arg0) = m ((c.tc : Thread Cert.DownActIdeal.nD Cert.DownActIdeal.τ).loc Cert.DownActIdeal.main_arg0)
          ∧ r.2.mem ((c.tc : Thread Cert.DownActIdeal.nD Cert.DownActIdeal.τ).loc Cert.DownActIdeal.main_arg1) = m ((c.tc : Thread Cert.DownActIdeal.nD Cert.DownActIdeal.τ).loc Cert.DownActIdeal.main_arg1)
          ∧ r.2.mem ((c.tc : Thread Cert.DownActIdeal.nD Cert.DownActIdeal.τ).loc Cert.DownActIdeal.main_arg2) = m ((c.tc : Thread Cert.DownActIdeal.nD Cert.DownActIdeal.τ).loc Cert.DownActIdeal.main_arg2))
      ∧ θ_run (Cert.DownActRefIdeal.defs (F := Ideal)) (onTc (τ := Cert.DownActRefIdeal.τ) (Cert.DownActRefIdeal.main (F := Ideal))) ⟨m', fun _ => 0, g'⟩ (fun r => ∀ c : Dev Cert.DownActRefIdeal.nD,
          r.2.mem ((c.tc : Thread Cert.DownActRefIdeal.nD Cert.DownActRefIdeal.τ).loc Cert.DownActRefIdeal.main_v17) = v0 c
          ∧ r.2.mem ((c.tc : Thread Cert.DownActRefIdeal.nD Cert.DownActRefIdeal.τ).loc Cert.DownActRefIdeal.main_arg0) = m' ((c.tc : Thread Cert.DownActRefIdeal.nD Cert.DownActRefIdeal.τ).loc Cert.DownActRefIdeal.main_arg0)
          ∧ r.2.mem ((c.tc : Thread Cert.DownActRefIdeal.nD Cert.DownActRefIdeal.τ).loc Cert.DownActRefIdeal.main_arg1) = m' ((c.tc : Thread Cert.DownActRefIdeal.nD Cert.DownActRefIdeal.τ).loc Cert.DownActRefIdeal.main_arg1)
          ∧ r.2.mem ((c.tc : Thread Cert.DownActRefIdeal.nD Cert.DownActRefIdeal.τ).loc Cert.DownActRefIdeal.main_arg2) = m' ((c.tc : Thread Cert.DownActRefIdeal.nD Cert.DownActRefIdeal.τ).loc Cert.DownActRefIdeal.main_arg2))

def preserves_UpB_UpBIdeal : Prop :=
  True

def algebraic_UpBIdeal_UpBRefIdeal [hUpBIdeal : Cert.UpBIdeal.Facts] [hUpBRefIdeal : Cert.UpBRefIdeal.Facts] : Prop :=
  ∀ (m : (ℓ : Loc Cert.UpBIdeal.nD Cert.UpBIdeal.τ Cert.UpBIdeal.sig) → Buf (Elt Ideal) ℓ) (g : Dev Cert.UpBIdeal.nD → PrngReg)
    (m' : (ℓ : Loc Cert.UpBRefIdeal.nD Cert.UpBRefIdeal.τ Cert.UpBRefIdeal.sig) → Buf (Elt Ideal) ℓ) (g' : Dev Cert.UpBRefIdeal.nD → PrngReg), Pre_UpBIdeal m →
    (∀ c : Dev Cert.UpBIdeal.nD,
      m' ((c.tc : Thread Cert.UpBRefIdeal.nD Cert.UpBRefIdeal.τ).loc Cert.UpBRefIdeal.main_arg0) = m ((c.tc : Thread Cert.UpBIdeal.nD Cert.UpBIdeal.τ).loc Cert.UpBIdeal.main_arg0)
      ∧ m' ((c.tc : Thread Cert.UpBRefIdeal.nD Cert.UpBRefIdeal.τ).loc Cert.UpBRefIdeal.main_arg1) = m ((c.tc : Thread Cert.UpBIdeal.nD Cert.UpBIdeal.τ).loc Cert.UpBIdeal.main_arg1)) →
    ∃ (v0 : (c : Dev Cert.UpBIdeal.nD) → Buf (Elt Ideal) ((c.tc : Thread Cert.UpBIdeal.nD Cert.UpBIdeal.τ).loc Cert.UpBIdeal.main_v0)),
      θ_run (Cert.UpBIdeal.defs (F := Ideal)) (onTc (τ := Cert.UpBIdeal.τ) (Cert.UpBIdeal.main (F := Ideal))) ⟨m, fun _ => 0, g⟩ (fun r => ∀ c : Dev Cert.UpBIdeal.nD,
          r.2.mem ((c.tc : Thread Cert.UpBIdeal.nD Cert.UpBIdeal.τ).loc Cert.UpBIdeal.main_v0) = v0 c
          ∧ r.2.mem ((c.tc : Thread Cert.UpBIdeal.nD Cert.UpBIdeal.τ).loc Cert.UpBIdeal.main_arg0) = m ((c.tc : Thread Cert.UpBIdeal.nD Cert.UpBIdeal.τ).loc Cert.UpBIdeal.main_arg0)
          ∧ r.2.mem ((c.tc : Thread Cert.UpBIdeal.nD Cert.UpBIdeal.τ).loc Cert.UpBIdeal.main_arg1) = m ((c.tc : Thread Cert.UpBIdeal.nD Cert.UpBIdeal.τ).loc Cert.UpBIdeal.main_arg1))
      ∧ θ_run (Cert.UpBRefIdeal.defs (F := Ideal)) (onTc (τ := Cert.UpBRefIdeal.τ) (Cert.UpBRefIdeal.main (F := Ideal))) ⟨m', fun _ => 0, g'⟩ (fun r => ∀ c : Dev Cert.UpBRefIdeal.nD,
          r.2.mem ((c.tc : Thread Cert.UpBRefIdeal.nD Cert.UpBRefIdeal.τ).loc Cert.UpBRefIdeal.main_v9) = v0 c
          ∧ r.2.mem ((c.tc : Thread Cert.UpBRefIdeal.nD Cert.UpBRefIdeal.τ).loc Cert.UpBRefIdeal.main_arg0) = m' ((c.tc : Thread Cert.UpBRefIdeal.nD Cert.UpBRefIdeal.τ).loc Cert.UpBRefIdeal.main_arg0)
          ∧ r.2.mem ((c.tc : Thread Cert.UpBRefIdeal.nD Cert.UpBRefIdeal.τ).loc Cert.UpBRefIdeal.main_arg1) = m' ((c.tc : Thread Cert.UpBRefIdeal.nD Cert.UpBRefIdeal.τ).loc Cert.UpBRefIdeal.main_arg1))

def preserves_DownActB_DownActBIdeal : Prop :=
  True

def algebraic_DownActBIdeal_DownActBRefIdeal [hDownActBIdeal : Cert.DownActBIdeal.Facts] [hDownActBRefIdeal : Cert.DownActBRefIdeal.Facts] : Prop :=
  ∀ (m : (ℓ : Loc Cert.DownActBIdeal.nD Cert.DownActBIdeal.τ Cert.DownActBIdeal.sig) → Buf (Elt Ideal) ℓ) (g : Dev Cert.DownActBIdeal.nD → PrngReg)
    (m' : (ℓ : Loc Cert.DownActBRefIdeal.nD Cert.DownActBRefIdeal.τ Cert.DownActBRefIdeal.sig) → Buf (Elt Ideal) ℓ) (g' : Dev Cert.DownActBRefIdeal.nD → PrngReg), Pre_DownActBIdeal m →
    (∀ c : Dev Cert.DownActBIdeal.nD,
      m' ((c.tc : Thread Cert.DownActBRefIdeal.nD Cert.DownActBRefIdeal.τ).loc Cert.DownActBRefIdeal.main_arg0) = m ((c.tc : Thread Cert.DownActBIdeal.nD Cert.DownActBIdeal.τ).loc Cert.DownActBIdeal.main_arg0)
      ∧ m' ((c.tc : Thread Cert.DownActBRefIdeal.nD Cert.DownActBRefIdeal.τ).loc Cert.DownActBRefIdeal.main_arg1) = m ((c.tc : Thread Cert.DownActBIdeal.nD Cert.DownActBIdeal.τ).loc Cert.DownActBIdeal.main_arg1)
      ∧ m' ((c.tc : Thread Cert.DownActBRefIdeal.nD Cert.DownActBRefIdeal.τ).loc Cert.DownActBRefIdeal.main_arg2) = m ((c.tc : Thread Cert.DownActBIdeal.nD Cert.DownActBIdeal.τ).loc Cert.DownActBIdeal.main_arg2)) →
    ∃ (v0 : (c : Dev Cert.DownActBIdeal.nD) → Buf (Elt Ideal) ((c.tc : Thread Cert.DownActBIdeal.nD Cert.DownActBIdeal.τ).loc Cert.DownActBIdeal.main_v4)),
      θ_run (Cert.DownActBIdeal.defs (F := Ideal)) (onTc (τ := Cert.DownActBIdeal.τ) (Cert.DownActBIdeal.main (F := Ideal))) ⟨m, fun _ => 0, g⟩ (fun r => ∀ c : Dev Cert.DownActBIdeal.nD,
          r.2.mem ((c.tc : Thread Cert.DownActBIdeal.nD Cert.DownActBIdeal.τ).loc Cert.DownActBIdeal.main_v4) = v0 c
          ∧ r.2.mem ((c.tc : Thread Cert.DownActBIdeal.nD Cert.DownActBIdeal.τ).loc Cert.DownActBIdeal.main_arg0) = m ((c.tc : Thread Cert.DownActBIdeal.nD Cert.DownActBIdeal.τ).loc Cert.DownActBIdeal.main_arg0)
          ∧ r.2.mem ((c.tc : Thread Cert.DownActBIdeal.nD Cert.DownActBIdeal.τ).loc Cert.DownActBIdeal.main_arg1) = m ((c.tc : Thread Cert.DownActBIdeal.nD Cert.DownActBIdeal.τ).loc Cert.DownActBIdeal.main_arg1)
          ∧ r.2.mem ((c.tc : Thread Cert.DownActBIdeal.nD Cert.DownActBIdeal.τ).loc Cert.DownActBIdeal.main_arg2) = m ((c.tc : Thread Cert.DownActBIdeal.nD Cert.DownActBIdeal.τ).loc Cert.DownActBIdeal.main_arg2))
      ∧ θ_run (Cert.DownActBRefIdeal.defs (F := Ideal)) (onTc (τ := Cert.DownActBRefIdeal.τ) (Cert.DownActBRefIdeal.main (F := Ideal))) ⟨m', fun _ => 0, g'⟩ (fun r => ∀ c : Dev Cert.DownActBRefIdeal.nD,
          r.2.mem ((c.tc : Thread Cert.DownActBRefIdeal.nD Cert.DownActBRefIdeal.τ).loc Cert.DownActBRefIdeal.main_v17) = v0 c
          ∧ r.2.mem ((c.tc : Thread Cert.DownActBRefIdeal.nD Cert.DownActBRefIdeal.τ).loc Cert.DownActBRefIdeal.main_arg0) = m' ((c.tc : Thread Cert.DownActBRefIdeal.nD Cert.DownActBRefIdeal.τ).loc Cert.DownActBRefIdeal.main_arg0)
          ∧ r.2.mem ((c.tc : Thread Cert.DownActBRefIdeal.nD Cert.DownActBRefIdeal.τ).loc Cert.DownActBRefIdeal.main_arg1) = m' ((c.tc : Thread Cert.DownActBRefIdeal.nD Cert.DownActBRefIdeal.τ).loc Cert.DownActBRefIdeal.main_arg1)
          ∧ r.2.mem ((c.tc : Thread Cert.DownActBRefIdeal.nD Cert.DownActBRefIdeal.τ).loc Cert.DownActBRefIdeal.main_arg2) = m' ((c.tc : Thread Cert.DownActBRefIdeal.nD Cert.DownActBRefIdeal.τ).loc Cert.DownActBRefIdeal.main_arg2))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v5) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_GluW_GluWIdeal : Prop :=
  True

def algebraic_GluWIdeal_GluWRefIdeal [hGluWIdeal : Cert.GluWIdeal.Facts] [hGluWRefIdeal : Cert.GluWRefIdeal.Facts] : Prop :=
  ∀ (m : (ℓ : Loc Cert.GluWIdeal.nD Cert.GluWIdeal.τ Cert.GluWIdeal.sig) → Buf (Elt Ideal) ℓ) (g : Dev Cert.GluWIdeal.nD → PrngReg)
    (m' : (ℓ : Loc Cert.GluWRefIdeal.nD Cert.GluWRefIdeal.τ Cert.GluWRefIdeal.sig) → Buf (Elt Ideal) ℓ) (g' : Dev Cert.GluWRefIdeal.nD → PrngReg), Pre_GluWIdeal m →
    (∀ c : Dev Cert.GluWIdeal.nD,
      m' ((c.tc : Thread Cert.GluWRefIdeal.nD Cert.GluWRefIdeal.τ).loc Cert.GluWRefIdeal.main_arg0) = m ((c.tc : Thread Cert.GluWIdeal.nD Cert.GluWIdeal.τ).loc Cert.GluWIdeal.main_arg0)
      ∧ m' ((c.tc : Thread Cert.GluWRefIdeal.nD Cert.GluWRefIdeal.τ).loc Cert.GluWRefIdeal.main_arg1) = m ((c.tc : Thread Cert.GluWIdeal.nD Cert.GluWIdeal.τ).loc Cert.GluWIdeal.main_arg1)) →
    ∃ (v0 : (c : Dev Cert.GluWIdeal.nD) → Buf (Elt Ideal) ((c.tc : Thread Cert.GluWIdeal.nD Cert.GluWIdeal.τ).loc Cert.GluWIdeal.main_v0)),
      θ_run (Cert.GluWIdeal.defs (F := Ideal)) (onTc (τ := Cert.GluWIdeal.τ) (Cert.GluWIdeal.main (F := Ideal))) ⟨m, fun _ => 0, g⟩ (fun r => ∀ c : Dev Cert.GluWIdeal.nD,
          r.2.mem ((c.tc : Thread Cert.GluWIdeal.nD Cert.GluWIdeal.τ).loc Cert.GluWIdeal.main_v0) = v0 c
          ∧ r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
          ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1))
      ∧ θ_run (Cert.GluWRefIdeal.defs (F := Ideal)) (onTc (τ := Cert.GluWRefIdeal.τ) (Cert.GluWRefIdeal.main (F := Ideal))) ⟨m', fun _ => 0, g'⟩ (fun r => ∀ c : Dev Cert.GluWRefIdeal.nD,
          r.2.mem ((c.tc : Thread Cert.GluWRefIdeal.nD Cert.GluWRefIdeal.τ).loc Cert.GluWRefIdeal.main_v5) = v0 c
          ∧ r.2.mem ((c.tc : Thread Cert.GluWRefIdeal.nD Cert.GluWRefIdeal.τ).loc Cert.GluWRefIdeal.main_arg0) = m' ((c.tc : Thread Cert.GluWRefIdeal.nD Cert.GluWRefIdeal.τ).loc Cert.GluWRefIdeal.main_arg0)
          ∧ r.2.mem ((c.tc : Thread Cert.GluWRefIdeal.nD Cert.GluWRefIdeal.τ).loc Cert.GluWRefIdeal.main_arg1) = m' ((c.tc : Thread Cert.GluWRefIdeal.nD Cert.GluWRefIdeal.τ).loc Cert.GluWRefIdeal.main_arg1))

def preserves_SquareW_SquareWIdeal : Prop :=
  True

def algebraic_SquareWIdeal_SquareWRefIdeal [hSquareWIdeal : Cert.SquareWIdeal.Facts] [hSquareWRefIdeal : Cert.SquareWRefIdeal.Facts] : Prop :=
  ∀ (m : (ℓ : Loc Cert.SquareWIdeal.nD Cert.SquareWIdeal.τ Cert.SquareWIdeal.sig) → Buf (Elt Ideal) ℓ) (g : Dev Cert.SquareWIdeal.nD → PrngReg)
    (m' : (ℓ : Loc Cert.SquareWRefIdeal.nD Cert.SquareWRefIdeal.τ Cert.SquareWRefIdeal.sig) → Buf (Elt Ideal) ℓ) (g' : Dev Cert.SquareWRefIdeal.nD → PrngReg), Pre_SquareWIdeal m →
    (∀ c : Dev Cert.SquareWIdeal.nD,
      m' ((c.tc : Thread Cert.SquareWRefIdeal.nD Cert.SquareWRefIdeal.τ).loc Cert.SquareWRefIdeal.main_arg0) = m ((c.tc : Thread Cert.SquareWIdeal.nD Cert.SquareWIdeal.τ).loc Cert.SquareWIdeal.main_arg0)
      ∧ m' ((c.tc : Thread Cert.SquareWRefIdeal.nD Cert.SquareWRefIdeal.τ).loc Cert.SquareWRefIdeal.main_arg1) = m ((c.tc : Thread Cert.SquareWIdeal.nD Cert.SquareWIdeal.τ).loc Cert.SquareWIdeal.main_arg1)) →
    ∃ (v0 : (c : Dev Cert.SquareWIdeal.nD) → Buf (Elt Ideal) ((c.tc : Thread Cert.SquareWIdeal.nD Cert.SquareWIdeal.τ).loc Cert.SquareWIdeal.main_v0)),
      θ_run (Cert.SquareWIdeal.defs (F := Ideal)) (onTc (τ := Cert.SquareWIdeal.τ) (Cert.SquareWIdeal.main (F := Ideal))) ⟨m, fun _ => 0, g⟩ (fun r => ∀ c : Dev Cert.SquareWIdeal.nD,
          r.2.mem ((c.tc : Thread Cert.SquareWIdeal.nD Cert.SquareWIdeal.τ).loc Cert.SquareWIdeal.main_v0) = v0 c
          ∧ r.2.mem ((c.tc : Thread Cert.SquareWIdeal.nD Cert.SquareWIdeal.τ).loc Cert.SquareWIdeal.main_arg0) = m ((c.tc : Thread Cert.SquareWIdeal.nD Cert.SquareWIdeal.τ).loc Cert.SquareWIdeal.main_arg0)
          ∧ r.2.mem ((c.tc : Thread Cert.SquareWIdeal.nD Cert.SquareWIdeal.τ).loc Cert.SquareWIdeal.main_arg1) = m ((c.tc : Thread Cert.SquareWIdeal.nD Cert.SquareWIdeal.τ).loc Cert.SquareWIdeal.main_arg1))
      ∧ θ_run (Cert.SquareWRefIdeal.defs (F := Ideal)) (onTc (τ := Cert.SquareWRefIdeal.τ) (Cert.SquareWRefIdeal.main (F := Ideal))) ⟨m', fun _ => 0, g'⟩ (fun r => ∀ c : Dev Cert.SquareWRefIdeal.nD,
          r.2.mem ((c.tc : Thread Cert.SquareWRefIdeal.nD Cert.SquareWRefIdeal.τ).loc Cert.SquareWRefIdeal.main_v5) = v0 c
          ∧ r.2.mem ((c.tc : Thread Cert.SquareWRefIdeal.nD Cert.SquareWRefIdeal.τ).loc Cert.SquareWRefIdeal.main_arg0) = m' ((c.tc : Thread Cert.SquareWRefIdeal.nD Cert.SquareWRefIdeal.τ).loc Cert.SquareWRefIdeal.main_arg0)
          ∧ r.2.mem ((c.tc : Thread Cert.SquareWRefIdeal.nD Cert.SquareWRefIdeal.τ).loc Cert.SquareWRefIdeal.main_arg1) = m' ((c.tc : Thread Cert.SquareWRefIdeal.nD Cert.SquareWRefIdeal.τ).loc Cert.SquareWRefIdeal.main_arg1))

def preserves_SquareAct_SquareActIdeal : Prop :=
  True

def algebraic_SquareActIdeal_SquareActRefIdeal [hSquareActIdeal : Cert.SquareActIdeal.Facts] [hSquareActRefIdeal : Cert.SquareActRefIdeal.Facts] : Prop :=
  ∀ (m : (ℓ : Loc Cert.SquareActIdeal.nD Cert.SquareActIdeal.τ Cert.SquareActIdeal.sig) → Buf (Elt Ideal) ℓ) (g : Dev Cert.SquareActIdeal.nD → PrngReg)
    (m' : (ℓ : Loc Cert.SquareActRefIdeal.nD Cert.SquareActRefIdeal.τ Cert.SquareActRefIdeal.sig) → Buf (Elt Ideal) ℓ) (g' : Dev Cert.SquareActRefIdeal.nD → PrngReg), Pre_SquareActIdeal m →
    (∀ c : Dev Cert.SquareActIdeal.nD,
      m' ((c.tc : Thread Cert.SquareActRefIdeal.nD Cert.SquareActRefIdeal.τ).loc Cert.SquareActRefIdeal.main_arg0) = m ((c.tc : Thread Cert.SquareActIdeal.nD Cert.SquareActIdeal.τ).loc Cert.SquareActIdeal.main_arg0)
      ∧ m' ((c.tc : Thread Cert.SquareActRefIdeal.nD Cert.SquareActRefIdeal.τ).loc Cert.SquareActRefIdeal.main_arg1) = m ((c.tc : Thread Cert.SquareActIdeal.nD Cert.SquareActIdeal.τ).loc Cert.SquareActIdeal.main_arg1)) →
    ∃ (v0 : (c : Dev Cert.SquareActIdeal.nD) → Buf (Elt Ideal) ((c.tc : Thread Cert.SquareActIdeal.nD Cert.SquareActIdeal.τ).loc Cert.SquareActIdeal.main_v0)),
      θ_run (Cert.SquareActIdeal.defs (F := Ideal)) (onTc (τ := Cert.SquareActIdeal.τ) (Cert.SquareActIdeal.main (F := Ideal))) ⟨m, fun _ => 0, g⟩ (fun r => ∀ c : Dev Cert.SquareActIdeal.nD,
          r.2.mem ((c.tc : Thread Cert.SquareActIdeal.nD Cert.SquareActIdeal.τ).loc Cert.SquareActIdeal.main_v0) = v0 c
          ∧ r.2.mem ((c.tc : Thread Cert.SquareActIdeal.nD Cert.SquareActIdeal.τ).loc Cert.SquareActIdeal.main_arg0) = m ((c.tc : Thread Cert.SquareActIdeal.nD Cert.SquareActIdeal.τ).loc Cert.SquareActIdeal.main_arg0)
          ∧ r.2.mem ((c.tc : Thread Cert.SquareActIdeal.nD Cert.SquareActIdeal.τ).loc Cert.SquareActIdeal.main_arg1) = m ((c.tc : Thread Cert.SquareActIdeal.nD Cert.SquareActIdeal.τ).loc Cert.SquareActIdeal.main_arg1))
      ∧ θ_run (Cert.SquareActRefIdeal.defs (F := Ideal)) (onTc (τ := Cert.SquareActRefIdeal.τ) (Cert.SquareActRefIdeal.main (F := Ideal))) ⟨m', fun _ => 0, g'⟩ (fun r => ∀ c : Dev Cert.SquareActRefIdeal.nD,
          r.2.mem ((c.tc : Thread Cert.SquareActRefIdeal.nD Cert.SquareActRefIdeal.τ).loc Cert.SquareActRefIdeal.main_v4) = v0 c
          ∧ r.2.mem ((c.tc : Thread Cert.SquareActRefIdeal.nD Cert.SquareActRefIdeal.τ).loc Cert.SquareActRefIdeal.main_arg0) = m' ((c.tc : Thread Cert.SquareActRefIdeal.nD Cert.SquareActRefIdeal.τ).loc Cert.SquareActRefIdeal.main_arg0)
          ∧ r.2.mem ((c.tc : Thread Cert.SquareActRefIdeal.nD Cert.SquareActRefIdeal.τ).loc Cert.SquareActRefIdeal.main_arg1) = m' ((c.tc : Thread Cert.SquareActRefIdeal.nD Cert.SquareActRefIdeal.τ).loc Cert.SquareActRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_v5) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_GluProj_GluProjIdeal : Prop :=
  True

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)
      ∧ m' ((c.tc : Thread Cert.GluProjRefIdeal.nD Cert.GluProjRefIdeal.τ).loc Cert.GluProjRefIdeal.main_arg2) = m ((c.tc : Thread Cert.GluProjIdeal.nD Cert.GluProjIdeal.τ).loc Cert.GluProjIdeal.main_arg2)) →
    ∃ (v0 : (c : Dev Cert.GluProjIdeal.nD) → Buf (Elt Ideal) ((c.tc : Thread Cert.GluProjIdeal.nD Cert.GluProjIdeal.τ).loc Cert.GluProjIdeal.main_v1)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v1) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
          ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v7) = v0 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1)
          ∧ r.2.mem ((c.tc : Thread Cert.GluProjRefIdeal.nD Cert.GluProjRefIdeal.τ).loc Cert.GluProjRefIdeal.main_arg2) = m' ((c.tc : Thread Cert.GluProjRefIdeal.nD Cert.GluProjRefIdeal.τ).loc Cert.GluProjRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamFf_AdamFfIdeal : Prop :=
  True

def algebraic_AdamFfIdeal_AdamFfRefIdeal [hAdamFfIdeal : Cert.AdamFfIdeal.Facts] [hAdamFfRefIdeal : Cert.AdamFfRefIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)) →
    ∃ (v0 : (c : Dev Cert.AdamFfIdeal.nD) → Buf (Elt Ideal) ((c.tc : Thread Cert.AdamFfIdeal.nD Cert.AdamFfIdeal.τ).loc Cert.AdamFfIdeal.main_v0_0)) (v1 : (c : Dev Cert.AdamFfIdeal.nD) → Buf (Elt Ideal) ((c.tc : Thread Cert.AdamFfIdeal.nD Cert.AdamFfIdeal.τ).loc Cert.AdamFfIdeal.main_v0_1)) (v2 : (c : Dev Cert.AdamFfIdeal.nD) → Buf (Elt Ideal) ((c.tc : Thread Cert.AdamFfIdeal.nD Cert.AdamFfIdeal.τ).loc Cert.AdamFfIdeal.main_v0_2)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v0_0) = v0 c
          ∧ r.2.mem ((c.tc : Thread Cert.AdamFfIdeal.nD Cert.AdamFfIdeal.τ).loc Cert.AdamFfIdeal.main_v0_1) = v1 c
          ∧ r.2.mem ((c.tc : Thread Cert.AdamFfIdeal.nD Cert.AdamFfIdeal.τ).loc Cert.AdamFfIdeal.main_v0_2) = v2 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_v23) = v0 c
          ∧ r.2.mem ((c.tc : Thread Cert.AdamFfRefIdeal.nD Cert.AdamFfRefIdeal.τ).loc Cert.AdamFfRefIdeal.main_v4) = v1 c
          ∧ r.2.mem ((c.tc : Thread Cert.AdamFfRefIdeal.nD Cert.AdamFfRefIdeal.τ).loc Cert.AdamFfRefIdeal.main_v10) = v2 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_PwProj_PwProjIdeal : Prop :=
  True

def algebraic_PwProjIdeal_PwProjRefIdeal [hPwProjIdeal : Cert.PwProjIdeal.Facts] [hPwProjRefIdeal : Cert.PwProjRefIdeal.Facts] : Prop :=
  ∀ (m : (ℓ : Loc Cert.PwProjIdeal.nD Cert.PwProjIdeal.τ Cert.PwProjIdeal.sig) → Buf (Elt Ideal) ℓ) (g : Dev Cert.PwProjIdeal.nD → PrngReg)
    (m' : (ℓ : Loc Cert.PwProjRefIdeal.nD Cert.PwProjRefIdeal.τ Cert.PwProjRefIdeal.sig) → Buf (Elt Ideal) ℓ) (g' : Dev Cert.PwProjRefIdeal.nD → PrngReg), Pre_PwProjIdeal m →
    (∀ c : Dev Cert.PwProjIdeal.nD,
      m' ((c.tc : Thread Cert.PwProjRefIdeal.nD Cert.PwProjRefIdeal.τ).loc Cert.PwProjRefIdeal.main_arg0) = m ((c.tc : Thread Cert.PwProjIdeal.nD Cert.PwProjIdeal.τ).loc Cert.PwProjIdeal.main_arg0)
      ∧ m' ((c.tc : Thread Cert.PwProjRefIdeal.nD Cert.PwProjRefIdeal.τ).loc Cert.PwProjRefIdeal.main_arg1) = m ((c.tc : Thread Cert.PwProjIdeal.nD Cert.PwProjIdeal.τ).loc Cert.PwProjIdeal.main_arg1)
      ∧ m' ((c.tc : Thread Cert.PwProjRefIdeal.nD Cert.PwProjRefIdeal.τ).loc Cert.PwProjRefIdeal.main_arg2) = m ((c.tc : Thread Cert.PwProjIdeal.nD Cert.PwProjIdeal.τ).loc Cert.PwProjIdeal.main_arg2)
      ∧ m' ((c.tc : Thread Cert.PwProjRefIdeal.nD Cert.PwProjRefIdeal.τ).loc Cert.PwProjRefIdeal.main_arg3) = m ((c.tc : Thread Cert.PwProjIdeal.nD Cert.PwProjIdeal.τ).loc Cert.PwProjIdeal.main_arg3)
      ∧ m' ((c.tc : Thread Cert.PwProjRefIdeal.nD Cert.PwProjRefIdeal.τ).loc Cert.PwProjRefIdeal.main_arg4) = m ((c.tc : Thread Cert.PwProjIdeal.nD Cert.PwProjIdeal.τ).loc Cert.PwProjIdeal.main_arg4)) →
    ∃ (v0 : (c : Dev Cert.PwProjIdeal.nD) → Buf (Elt Ideal) ((c.tc : Thread Cert.PwProjIdeal.nD Cert.PwProjIdeal.τ).loc Cert.PwProjIdeal.main_v2_0)) (v1 : (c : Dev Cert.PwProjIdeal.nD) → Buf (Elt Ideal) ((c.tc : Thread Cert.PwProjIdeal.nD Cert.PwProjIdeal.τ).loc Cert.PwProjIdeal.main_v2_1)),
      θ_run (Cert.PwProjIdeal.defs (F := Ideal)) (onTc (τ := Cert.PwProjIdeal.τ) (Cert.PwProjIdeal.main (F := Ideal))) ⟨m, fun _ => 0, g⟩ (fun r => ∀ c : Dev Cert.PwProjIdeal.nD,
          r.2.mem ((c.tc : Thread Cert.PwProjIdeal.nD Cert.PwProjIdeal.τ).loc Cert.PwProjIdeal.main_v2_0) = v0 c
          ∧ r.2.mem ((c.tc : Thread Cert.PwProjIdeal.nD Cert.PwProjIdeal.τ).loc Cert.PwProjIdeal.main_v2_1) = v1 c
          ∧ r.2.mem ((c.tc : Thread Cert.PwProjIdeal.nD Cert.PwProjIdeal.τ).loc Cert.PwProjIdeal.main_arg0) = m ((c.tc : Thread Cert.PwProjIdeal.nD Cert.PwProjIdeal.τ).loc Cert.PwProjIdeal.main_arg0)
          ∧ r.2.mem ((c.tc : Thread Cert.PwProjIdeal.nD Cert.PwProjIdeal.τ).loc Cert.PwProjIdeal.main_arg1) = m ((c.tc : Thread Cert.PwProjIdeal.nD Cert.PwProjIdeal.τ).loc Cert.PwProjIdeal.main_arg1)
          ∧ r.2.mem ((c.tc : Thread Cert.PwProjIdeal.nD Cert.PwProjIdeal.τ).loc Cert.PwProjIdeal.main_arg2) = m ((c.tc : Thread Cert.PwProjIdeal.nD Cert.PwProjIdeal.τ).loc Cert.PwProjIdeal.main_arg2)
          ∧ r.2.mem ((c.tc : Thread Cert.PwProjIdeal.nD Cert.PwProjIdeal.τ).loc Cert.PwProjIdeal.main_arg3) = m ((c.tc : Thread Cert.PwProjIdeal.nD Cert.PwProjIdeal.τ).loc Cert.PwProjIdeal.main_arg3)
          ∧ r.2.mem ((c.tc : Thread Cert.PwProjIdeal.nD Cert.PwProjIdeal.τ).loc Cert.PwProjIdeal.main_arg4) = m ((c.tc : Thread Cert.PwProjIdeal.nD Cert.PwProjIdeal.τ).loc Cert.PwProjIdeal.main_arg4))
      ∧ θ_run (Cert.PwProjRefIdeal.defs (F := Ideal)) (onTc (τ := Cert.PwProjRefIdeal.τ) (Cert.PwProjRefIdeal.main (F := Ideal))) ⟨m', fun _ => 0, g'⟩ (fun r => ∀ c : Dev Cert.PwProjRefIdeal.nD,
          r.2.mem ((c.tc : Thread Cert.PwProjRefIdeal.nD Cert.PwProjRefIdeal.τ).loc Cert.PwProjRefIdeal.main_v6) = v0 c
          ∧ r.2.mem ((c.tc : Thread Cert.PwProjRefIdeal.nD Cert.PwProjRefIdeal.τ).loc Cert.PwProjRefIdeal.main_v20) = v1 c
          ∧ r.2.mem ((c.tc : Thread Cert.PwProjRefIdeal.nD Cert.PwProjRefIdeal.τ).loc Cert.PwProjRefIdeal.main_arg0) = m' ((c.tc : Thread Cert.PwProjRefIdeal.nD Cert.PwProjRefIdeal.τ).loc Cert.PwProjRefIdeal.main_arg0)
          ∧ r.2.mem ((c.tc : Thread Cert.PwProjRefIdeal.nD Cert.PwProjRefIdeal.τ).loc Cert.PwProjRefIdeal.main_arg1) = m' ((c.tc : Thread Cert.PwProjRefIdeal.nD Cert.PwProjRefIdeal.τ).loc Cert.PwProjRefIdeal.main_arg1)
          ∧ r.2.mem ((c.tc : Thread Cert.PwProjRefIdeal.nD Cert.PwProjRefIdeal.τ).loc Cert.PwProjRefIdeal.main_arg2) = m' ((c.tc : Thread Cert.PwProjRefIdeal.nD Cert.PwProjRefIdeal.τ).loc Cert.PwProjRefIdeal.main_arg2)
          ∧ r.2.mem ((c.tc : Thread Cert.PwProjRefIdeal.nD Cert.PwProjRefIdeal.τ).loc Cert.PwProjRefIdeal.main_arg3) = m' ((c.tc : Thread Cert.PwProjRefIdeal.nD Cert.PwProjRefIdeal.τ).loc Cert.PwProjRefIdeal.main_arg3)
          ∧ r.2.mem ((c.tc : Thread Cert.PwProjRefIdeal.nD Cert.PwProjRefIdeal.τ).loc Cert.PwProjRefIdeal.main_arg4) = m' ((c.tc : Thread Cert.PwProjRefIdeal.nD Cert.PwProjRefIdeal.τ).loc Cert.PwProjRefIdeal.main_arg4))

def preserves_DownN_DownNIdeal : Prop :=
  True

def algebraic_DownNIdeal_DownNRefIdeal [hDownNIdeal : Cert.DownNIdeal.Facts] [hDownNRefIdeal : Cert.DownNRefIdeal.Facts] : Prop :=
  ∀ (m : (ℓ : Loc Cert.DownNIdeal.nD Cert.DownNIdeal.τ Cert.DownNIdeal.sig) → Buf (Elt Ideal) ℓ) (g : Dev Cert.DownNIdeal.nD → PrngReg)
    (m' : (ℓ : Loc Cert.DownNRefIdeal.nD Cert.DownNRefIdeal.τ Cert.DownNRefIdeal.sig) → Buf (Elt Ideal) ℓ) (g' : Dev Cert.DownNRefIdeal.nD → PrngReg), Pre_DownNIdeal m →
    (∀ c : Dev Cert.DownNIdeal.nD,
      m' ((c.tc : Thread Cert.DownNRefIdeal.nD Cert.DownNRefIdeal.τ).loc Cert.DownNRefIdeal.main_arg0) = m ((c.tc : Thread Cert.DownNIdeal.nD Cert.DownNIdeal.τ).loc Cert.DownNIdeal.main_arg0)
      ∧ m' ((c.tc : Thread Cert.DownNRefIdeal.nD Cert.DownNRefIdeal.τ).loc Cert.DownNRefIdeal.main_arg1) = m ((c.tc : Thread Cert.DownNIdeal.nD Cert.DownNIdeal.τ).loc Cert.DownNIdeal.main_arg1)
      ∧ m' ((c.tc : Thread Cert.DownNRefIdeal.nD Cert.DownNRefIdeal.τ).loc Cert.DownNRefIdeal.main_arg2) = m ((c.tc : Thread Cert.DownNIdeal.nD Cert.DownNIdeal.τ).loc Cert.DownNIdeal.main_arg2)
      ∧ m' ((c.tc : Thread Cert.DownNRefIdeal.nD Cert.DownNRefIdeal.τ).loc Cert.DownNRefIdeal.main_arg3) = m ((c.tc : Thread Cert.DownNIdeal.nD Cert.DownNIdeal.τ).loc Cert.DownNIdeal.main_arg3)) →
    ∃ (v0 : (c : Dev Cert.DownNIdeal.nD) → Buf (Elt Ideal) ((c.tc : Thread Cert.DownNIdeal.nD Cert.DownNIdeal.τ).loc Cert.DownNIdeal.main_v1_0)) (v1 : (c : Dev Cert.DownNIdeal.nD) → Buf (Elt Ideal) ((c.tc : Thread Cert.DownNIdeal.nD Cert.DownNIdeal.τ).loc Cert.DownNIdeal.main_v1_1)),
      θ_run (Cert.DownNIdeal.defs (F := Ideal)) (onTc (τ := Cert.DownNIdeal.τ) (Cert.DownNIdeal.main (F := Ideal))) ⟨m, fun _ => 0, g⟩ (fun r => ∀ c : Dev Cert.DownNIdeal.nD,
          r.2.mem ((c.tc : Thread Cert.DownNIdeal.nD Cert.DownNIdeal.τ).loc Cert.DownNIdeal.main_v1_0) = v0 c
          ∧ r.2.mem ((c.tc : Thread Cert.DownNIdeal.nD Cert.DownNIdeal.τ).loc Cert.DownNIdeal.main_v1_1) = v1 c
          ∧ r.2.mem ((c.tc : Thread Cert.DownNIdeal.nD Cert.DownNIdeal.τ).loc Cert.DownNIdeal.main_arg0) = m ((c.tc : Thread Cert.DownNIdeal.nD Cert.DownNIdeal.τ).loc Cert.DownNIdeal.main_arg0)
          ∧ r.2.mem ((c.tc : Thread Cert.DownNIdeal.nD Cert.DownNIdeal.τ).loc Cert.DownNIdeal.main_arg1) = m ((c.tc : Thread Cert.DownNIdeal.nD Cert.DownNIdeal.τ).loc Cert.DownNIdeal.main_arg1)
          ∧ r.2.mem ((c.tc : Thread Cert.DownNIdeal.nD Cert.DownNIdeal.τ).loc Cert.DownNIdeal.main_arg2) = m ((c.tc : Thread Cert.DownNIdeal.nD Cert.DownNIdeal.τ).loc Cert.DownNIdeal.main_arg2)
          ∧ r.2.mem ((c.tc : Thread Cert.DownNIdeal.nD Cert.DownNIdeal.τ).loc Cert.DownNIdeal.main_arg3) = m ((c.tc : Thread Cert.DownNIdeal.nD Cert.DownNIdeal.τ).loc Cert.DownNIdeal.main_arg3))
      ∧ θ_run (Cert.DownNRefIdeal.defs (F := Ideal)) (onTc (τ := Cert.DownNRefIdeal.τ) (Cert.DownNRefIdeal.main (F := Ideal))) ⟨m', fun _ => 0, g'⟩ (fun r => ∀ c : Dev Cert.DownNRefIdeal.nD,
          r.2.mem ((c.tc : Thread Cert.DownNRefIdeal.nD Cert.DownNRefIdeal.τ).loc Cert.DownNRefIdeal.main_v6) = v0 c
          ∧ r.2.mem ((c.tc : Thread Cert.DownNRefIdeal.nD Cert.DownNRefIdeal.τ).loc Cert.DownNRefIdeal.main_v20) = v1 c
          ∧ r.2.mem ((c.tc : Thread Cert.DownNRefIdeal.nD Cert.DownNRefIdeal.τ).loc Cert.DownNRefIdeal.main_arg0) = m' ((c.tc : Thread Cert.DownNRefIdeal.nD Cert.DownNRefIdeal.τ).loc Cert.DownNRefIdeal.main_arg0)
          ∧ r.2.mem ((c.tc : Thread Cert.DownNRefIdeal.nD Cert.DownNRefIdeal.τ).loc Cert.DownNRefIdeal.main_arg1) = m' ((c.tc : Thread Cert.DownNRefIdeal.nD Cert.DownNRefIdeal.τ).loc Cert.DownNRefIdeal.main_arg1)
          ∧ r.2.mem ((c.tc : Thread Cert.DownNRefIdeal.nD Cert.DownNRefIdeal.τ).loc Cert.DownNRefIdeal.main_arg2) = m' ((c.tc : Thread Cert.DownNRefIdeal.nD Cert.DownNRefIdeal.τ).loc Cert.DownNRefIdeal.main_arg2)
          ∧ r.2.mem ((c.tc : Thread Cert.DownNRefIdeal.nD Cert.DownNRefIdeal.τ).loc Cert.DownNRefIdeal.main_arg3) = m' ((c.tc : Thread Cert.DownNRefIdeal.nD Cert.DownNRefIdeal.τ).loc Cert.DownNRefIdeal.main_arg3))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)
      ∧ m' ((c.tc : Thread Cert.UpActRefIdeal.nD Cert.UpActRefIdeal.τ).loc Cert.UpActRefIdeal.main_arg3) = m ((c.tc : Thread Cert.UpActIdeal.nD Cert.UpActIdeal.τ).loc Cert.UpActIdeal.main_arg3)
      ∧ m' ((c.tc : Thread Cert.UpActRefIdeal.nD Cert.UpActRefIdeal.τ).loc Cert.UpActRefIdeal.main_arg4) = m ((c.tc : Thread Cert.UpActIdeal.nD Cert.UpActIdeal.τ).loc Cert.UpActIdeal.main_arg4)) →
    ∃ (v0 : (c : Dev Cert.UpActIdeal.nD) → Buf (Elt Ideal) ((c.tc : Thread Cert.UpActIdeal.nD Cert.UpActIdeal.τ).loc Cert.UpActIdeal.main_v1_0)) (v1 : (c : Dev Cert.UpActIdeal.nD) → Buf (Elt Ideal) ((c.tc : Thread Cert.UpActIdeal.nD Cert.UpActIdeal.τ).loc Cert.UpActIdeal.main_v1_1)) (v2 : (c : Dev Cert.UpActIdeal.nD) → Buf (Elt Ideal) ((c.tc : Thread Cert.UpActIdeal.nD Cert.UpActIdeal.τ).loc Cert.UpActIdeal.main_v1_2)) (v3 : (c : Dev Cert.UpActIdeal.nD) → Buf (Elt Ideal) ((c.tc : Thread Cert.UpActIdeal.nD Cert.UpActIdeal.τ).loc Cert.UpActIdeal.main_v1_3)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v1_0) = v0 c
          ∧ r.2.mem ((c.tc : Thread Cert.UpActIdeal.nD Cert.UpActIdeal.τ).loc Cert.UpActIdeal.main_v1_1) = v1 c
          ∧ r.2.mem ((c.tc : Thread Cert.UpActIdeal.nD Cert.UpActIdeal.τ).loc Cert.UpActIdeal.main_v1_2) = v2 c
          ∧ r.2.mem ((c.tc : Thread Cert.UpActIdeal.nD Cert.UpActIdeal.τ).loc Cert.UpActIdeal.main_v1_3) = v3 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
          ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3)
          ∧ r.2.mem ((c.tc : Thread Cert.UpActIdeal.nD Cert.UpActIdeal.τ).loc Cert.UpActIdeal.main_arg4) = m ((c.tc : Thread Cert.UpActIdeal.nD Cert.UpActIdeal.τ).loc Cert.UpActIdeal.main_arg4))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v44) = v0 c
          ∧ r.2.mem ((c.tc : Thread Cert.UpActRefIdeal.nD Cert.UpActRefIdeal.τ).loc Cert.UpActRefIdeal.main_v45) = v1 c
          ∧ r.2.mem ((c.tc : Thread Cert.UpActRefIdeal.nD Cert.UpActRefIdeal.τ).loc Cert.UpActRefIdeal.main_v46) = v2 c
          ∧ r.2.mem ((c.tc : Thread Cert.UpActRefIdeal.nD Cert.UpActRefIdeal.τ).loc Cert.UpActRefIdeal.main_v48) = v3 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2)
          ∧ r.2.mem ((c.tc : Thread Cert.UpActRefIdeal.nD Cert.UpActRefIdeal.τ).loc Cert.UpActRefIdeal.main_arg3) = m' ((c.tc : Thread Cert.UpActRefIdeal.nD Cert.UpActRefIdeal.τ).loc Cert.UpActRefIdeal.main_arg3)
          ∧ r.2.mem ((c.tc : Thread Cert.UpActRefIdeal.nD Cert.UpActRefIdeal.τ).loc Cert.UpActRefIdeal.main_arg4) = m' ((c.tc : Thread Cert.UpActRefIdeal.nD Cert.UpActRefIdeal.τ).loc Cert.UpActRefIdeal.main_arg4))

def preserves_UpActB_UpActBIdeal : Prop :=
  True

def algebraic_UpActBIdeal_UpActBRefIdeal [hUpActBIdeal : Cert.UpActBIdeal.Facts] [hUpActBRefIdeal : Cert.UpActBRefIdeal.Facts] : Prop :=
  ∀ (m : (ℓ : Loc Cert.UpActBIdeal.nD Cert.UpActBIdeal.τ Cert.UpActBIdeal.sig) → Buf (Elt Ideal) ℓ) (g : Dev Cert.UpActBIdeal.nD → PrngReg)
    (m' : (ℓ : Loc Cert.UpActBRefIdeal.nD Cert.UpActBRefIdeal.τ Cert.UpActBRefIdeal.sig) → Buf (Elt Ideal) ℓ) (g' : Dev Cert.UpActBRefIdeal.nD → PrngReg), Pre_UpActBIdeal m →
    (∀ c : Dev Cert.UpActBIdeal.nD,
      m' ((c.tc : Thread Cert.UpActBRefIdeal.nD Cert.UpActBRefIdeal.τ).loc Cert.UpActBRefIdeal.main_arg0) = m ((c.tc : Thread Cert.UpActBIdeal.nD Cert.UpActBIdeal.τ).loc Cert.UpActBIdeal.main_arg0)
      ∧ m' ((c.tc : Thread Cert.UpActBRefIdeal.nD Cert.UpActBRefIdeal.τ).loc Cert.UpActBRefIdeal.main_arg1) = m ((c.tc : Thread Cert.UpActBIdeal.nD Cert.UpActBIdeal.τ).loc Cert.UpActBIdeal.main_arg1)
      ∧ m' ((c.tc : Thread Cert.UpActBRefIdeal.nD Cert.UpActBRefIdeal.τ).loc Cert.UpActBRefIdeal.main_arg2) = m ((c.tc : Thread Cert.UpActBIdeal.nD Cert.UpActBIdeal.τ).loc Cert.UpActBIdeal.main_arg2)
      ∧ m' ((c.tc : Thread Cert.UpActBRefIdeal.nD Cert.UpActBRefIdeal.τ).loc Cert.UpActBRefIdeal.main_arg3) = m ((c.tc : Thread Cert.UpActBIdeal.nD Cert.UpActBIdeal.τ).loc Cert.UpActBIdeal.main_arg3)
      ∧ m' ((c.tc : Thread Cert.UpActBRefIdeal.nD Cert.UpActBRefIdeal.τ).loc Cert.UpActBRefIdeal.main_arg4) = m ((c.tc : Thread Cert.UpActBIdeal.nD Cert.UpActBIdeal.τ).loc Cert.UpActBIdeal.main_arg4)) →
    ∃ (v0 : (c : Dev Cert.UpActBIdeal.nD) → Buf (Elt Ideal) ((c.tc : Thread Cert.UpActBIdeal.nD Cert.UpActBIdeal.τ).loc Cert.UpActBIdeal.main_v1_0)) (v1 : (c : Dev Cert.UpActBIdeal.nD) → Buf (Elt Ideal) ((c.tc : Thread Cert.UpActBIdeal.nD Cert.UpActBIdeal.τ).loc Cert.UpActBIdeal.main_v1_1)) (v2 : (c : Dev Cert.UpActBIdeal.nD) → Buf (Elt Ideal) ((c.tc : Thread Cert.UpActBIdeal.nD Cert.UpActBIdeal.τ).loc Cert.UpActBIdeal.main_v1_2)) (v3 : (c : Dev Cert.UpActBIdeal.nD) → Buf (Elt Ideal) ((c.tc : Thread Cert.UpActBIdeal.nD Cert.UpActBIdeal.τ).loc Cert.UpActBIdeal.main_v1_3)),
      θ_run (Cert.UpActBIdeal.defs (F := Ideal)) (onTc (τ := Cert.UpActBIdeal.τ) (Cert.UpActBIdeal.main (F := Ideal))) ⟨m, fun _ => 0, g⟩ (fun r => ∀ c : Dev Cert.UpActBIdeal.nD,
          r.2.mem ((c.tc : Thread Cert.UpActBIdeal.nD Cert.UpActBIdeal.τ).loc Cert.UpActBIdeal.main_v1_0) = v0 c
          ∧ r.2.mem ((c.tc : Thread Cert.UpActBIdeal.nD Cert.UpActBIdeal.τ).loc Cert.UpActBIdeal.main_v1_1) = v1 c
          ∧ r.2.mem ((c.tc : Thread Cert.UpActBIdeal.nD Cert.UpActBIdeal.τ).loc Cert.UpActBIdeal.main_v1_2) = v2 c
          ∧ r.2.mem ((c.tc : Thread Cert.UpActBIdeal.nD Cert.UpActBIdeal.τ).loc Cert.UpActBIdeal.main_v1_3) = v3 c
          ∧ r.2.mem ((c.tc : Thread Cert.UpActBIdeal.nD Cert.UpActBIdeal.τ).loc Cert.UpActBIdeal.main_arg0) = m ((c.tc : Thread Cert.UpActBIdeal.nD Cert.UpActBIdeal.τ).loc Cert.UpActBIdeal.main_arg0)
          ∧ r.2.mem ((c.tc : Thread Cert.UpActBIdeal.nD Cert.UpActBIdeal.τ).loc Cert.UpActBIdeal.main_arg1) = m ((c.tc : Thread Cert.UpActBIdeal.nD Cert.UpActBIdeal.τ).loc Cert.UpActBIdeal.main_arg1)
          ∧ r.2.mem ((c.tc : Thread Cert.UpActBIdeal.nD Cert.UpActBIdeal.τ).loc Cert.UpActBIdeal.main_arg2) = m ((c.tc : Thread Cert.UpActBIdeal.nD Cert.UpActBIdeal.τ).loc Cert.UpActBIdeal.main_arg2)
          ∧ r.2.mem ((c.tc : Thread Cert.UpActBIdeal.nD Cert.UpActBIdeal.τ).loc Cert.UpActBIdeal.main_arg3) = m ((c.tc : Thread Cert.UpActBIdeal.nD Cert.UpActBIdeal.τ).loc Cert.UpActBIdeal.main_arg3)
          ∧ r.2.mem ((c.tc : Thread Cert.UpActBIdeal.nD Cert.UpActBIdeal.τ).loc Cert.UpActBIdeal.main_arg4) = m ((c.tc : Thread Cert.UpActBIdeal.nD Cert.UpActBIdeal.τ).loc Cert.UpActBIdeal.main_arg4))
      ∧ θ_run (Cert.UpActBRefIdeal.defs (F := Ideal)) (onTc (τ := Cert.UpActBRefIdeal.τ) (Cert.UpActBRefIdeal.main (F := Ideal))) ⟨m', fun _ => 0, g'⟩ (fun r => ∀ c : Dev Cert.UpActBRefIdeal.nD,
          r.2.mem ((c.tc : Thread Cert.UpActBRefIdeal.nD Cert.UpActBRefIdeal.τ).loc Cert.UpActBRefIdeal.main_v44) = v0 c
          ∧ r.2.mem ((c.tc : Thread Cert.UpActBRefIdeal.nD Cert.UpActBRefIdeal.τ).loc Cert.UpActBRefIdeal.main_v45) = v1 c
          ∧ r.2.mem ((c.tc : Thread Cert.UpActBRefIdeal.nD Cert.UpActBRefIdeal.τ).loc Cert.UpActBRefIdeal.main_v46) = v2 c
          ∧ r.2.mem ((c.tc : Thread Cert.UpActBRefIdeal.nD Cert.UpActBRefIdeal.τ).loc Cert.UpActBRefIdeal.main_v48) = v3 c
          ∧ r.2.mem ((c.tc : Thread Cert.UpActBRefIdeal.nD Cert.UpActBRefIdeal.τ).loc Cert.UpActBRefIdeal.main_arg0) = m' ((c.tc : Thread Cert.UpActBRefIdeal.nD Cert.UpActBRefIdeal.τ).loc Cert.UpActBRefIdeal.main_arg0)
          ∧ r.2.mem ((c.tc : Thread Cert.UpActBRefIdeal.nD Cert.UpActBRefIdeal.τ).loc Cert.UpActBRefIdeal.main_arg1) = m' ((c.tc : Thread Cert.UpActBRefIdeal.nD Cert.UpActBRefIdeal.τ).loc Cert.UpActBRefIdeal.main_arg1)
          ∧ r.2.mem ((c.tc : Thread Cert.UpActBRefIdeal.nD Cert.UpActBRefIdeal.τ).loc Cert.UpActBRefIdeal.main_arg2) = m' ((c.tc : Thread Cert.UpActBRefIdeal.nD Cert.UpActBRefIdeal.τ).loc Cert.UpActBRefIdeal.main_arg2)
          ∧ r.2.mem ((c.tc : Thread Cert.UpActBRefIdeal.nD Cert.UpActBRefIdeal.τ).loc Cert.UpActBRefIdeal.main_arg3) = m' ((c.tc : Thread Cert.UpActBRefIdeal.nD Cert.UpActBRefIdeal.τ).loc Cert.UpActBRefIdeal.main_arg3)
          ∧ r.2.mem ((c.tc : Thread Cert.UpActBRefIdeal.nD Cert.UpActBRefIdeal.τ).loc Cert.UpActBRefIdeal.main_arg4) = m' ((c.tc : Thread Cert.UpActBRefIdeal.nD Cert.UpActBRefIdeal.τ).loc Cert.UpActBRefIdeal.main_arg4))

def preserves_GluAct_GluActIdeal : Prop :=
  True

def algebraic_GluActIdeal_GluActRefIdeal [hGluActIdeal : Cert.GluActIdeal.Facts] [hGluActRefIdeal : Cert.GluActRefIdeal.Facts] : Prop :=
  ∀ (m : (ℓ : Loc Cert.GluActIdeal.nD Cert.GluActIdeal.τ Cert.GluActIdeal.sig) → Buf (Elt Ideal) ℓ) (g : Dev Cert.GluActIdeal.nD → PrngReg)
    (m' : (ℓ : Loc Cert.GluActRefIdeal.nD Cert.GluActRefIdeal.τ Cert.GluActRefIdeal.sig) → Buf (Elt Ideal) ℓ) (g' : Dev Cert.GluActRefIdeal.nD → PrngReg), Pre_GluActIdeal m →
    (∀ c : Dev Cert.GluActIdeal.nD,
      m' ((c.tc : Thread Cert.GluActRefIdeal.nD Cert.GluActRefIdeal.τ).loc Cert.GluActRefIdeal.main_arg0) = m ((c.tc : Thread Cert.GluActIdeal.nD Cert.GluActIdeal.τ).loc Cert.GluActIdeal.main_arg0)
      ∧ m' ((c.tc : Thread Cert.GluActRefIdeal.nD Cert.GluActRefIdeal.τ).loc Cert.GluActRefIdeal.main_arg1) = m ((c.tc : Thread Cert.GluActIdeal.nD Cert.GluActIdeal.τ).loc Cert.GluActIdeal.main_arg1)
      ∧ m' ((c.tc : Thread Cert.GluActRefIdeal.nD Cert.GluActRefIdeal.τ).loc Cert.GluActRefIdeal.main_arg2) = m ((c.tc : Thread Cert.GluActIdeal.nD Cert.GluActIdeal.τ).loc Cert.GluActIdeal.main_arg2)
      ∧ m' ((c.tc : Thread Cert.GluActRefIdeal.nD Cert.GluActRefIdeal.τ).loc Cert.GluActRefIdeal.main_arg3) = m ((c.tc : Thread Cert.GluActIdeal.nD Cert.GluActIdeal.τ).loc Cert.GluActIdeal.main_arg3)
      ∧ m' ((c.tc : Thread Cert.GluActRefIdeal.nD Cert.GluActRefIdeal.τ).loc Cert.GluActRefIdeal.main_arg4) = m ((c.tc : Thread Cert.GluActIdeal.nD Cert.GluActIdeal.τ).loc Cert.GluActIdeal.main_arg4)) →
    ∃ (v0 : (c : Dev Cert.GluActIdeal.nD) → Buf (Elt Ideal) ((c.tc : Thread Cert.GluActIdeal.nD Cert.GluActIdeal.τ).loc Cert.GluActIdeal.main_v1_0)) (v1 : (c : Dev Cert.GluActIdeal.nD) → Buf (Elt Ideal) ((c.tc : Thread Cert.GluActIdeal.nD Cert.GluActIdeal.τ).loc Cert.GluActIdeal.main_v1_1)) (v2 : (c : Dev Cert.GluActIdeal.nD) → Buf (Elt Ideal) ((c.tc : Thread Cert.GluActIdeal.nD Cert.GluActIdeal.τ).loc Cert.GluActIdeal.main_v1_2)) (v3 : (c : Dev Cert.GluActIdeal.nD) → Buf (Elt Ideal) ((c.tc : Thread Cert.GluActIdeal.nD Cert.GluActIdeal.τ).loc Cert.GluActIdeal.main_v1_3)),
      θ_run (Cert.GluActIdeal.defs (F := Ideal)) (onTc (τ := Cert.GluActIdeal.τ) (Cert.GluActIdeal.main (F := Ideal))) ⟨m, fun _ => 0, g⟩ (fun r => ∀ c : Dev Cert.GluActIdeal.nD,
          r.2.mem ((c.tc : Thread Cert.GluActIdeal.nD Cert.GluActIdeal.τ).loc Cert.GluActIdeal.main_v1_0) = v0 c
          ∧ r.2.mem ((c.tc : Thread Cert.GluActIdeal.nD Cert.GluActIdeal.τ).loc Cert.GluActIdeal.main_v1_1) = v1 c
          ∧ r.2.mem ((c.tc : Thread Cert.GluActIdeal.nD Cert.GluActIdeal.τ).loc Cert.GluActIdeal.main_v1_2) = v2 c
          ∧ r.2.mem ((c.tc : Thread Cert.GluActIdeal.nD Cert.GluActIdeal.τ).loc Cert.GluActIdeal.main_v1_3) = v3 c
          ∧ r.2.mem ((c.tc : Thread Cert.GluActIdeal.nD Cert.GluActIdeal.τ).loc Cert.GluActIdeal.main_arg0) = m ((c.tc : Thread Cert.GluActIdeal.nD Cert.GluActIdeal.τ).loc Cert.GluActIdeal.main_arg0)
          ∧ r.2.mem ((c.tc : Thread Cert.GluActIdeal.nD Cert.GluActIdeal.τ).loc Cert.GluActIdeal.main_arg1) = m ((c.tc : Thread Cert.GluActIdeal.nD Cert.GluActIdeal.τ).loc Cert.GluActIdeal.main_arg1)
          ∧ r.2.mem ((c.tc : Thread Cert.GluActIdeal.nD Cert.GluActIdeal.τ).loc Cert.GluActIdeal.main_arg2) = m ((c.tc : Thread Cert.GluActIdeal.nD Cert.GluActIdeal.τ).loc Cert.GluActIdeal.main_arg2)
          ∧ r.2.mem ((c.tc : Thread Cert.GluActIdeal.nD Cert.GluActIdeal.τ).loc Cert.GluActIdeal.main_arg3) = m ((c.tc : Thread Cert.GluActIdeal.nD Cert.GluActIdeal.τ).loc Cert.GluActIdeal.main_arg3)
          ∧ r.2.mem ((c.tc : Thread Cert.GluActIdeal.nD Cert.GluActIdeal.τ).loc Cert.GluActIdeal.main_arg4) = m ((c.tc : Thread Cert.GluActIdeal.nD Cert.GluActIdeal.τ).loc Cert.GluActIdeal.main_arg4))
      ∧ θ_run (Cert.GluActRefIdeal.defs (F := Ideal)) (onTc (τ := Cert.GluActRefIdeal.τ) (Cert.GluActRefIdeal.main (F := Ideal))) ⟨m', fun _ => 0, g'⟩ (fun r => ∀ c : Dev Cert.GluActRefIdeal.nD,
          r.2.mem ((c.tc : Thread Cert.GluActRefIdeal.nD Cert.GluActRefIdeal.τ).loc Cert.GluActRefIdeal.main_v42) = v0 c
          ∧ r.2.mem ((c.tc : Thread Cert.GluActRefIdeal.nD Cert.GluActRefIdeal.τ).loc Cert.GluActRefIdeal.main_v43) = v1 c
          ∧ r.2.mem ((c.tc : Thread Cert.GluActRefIdeal.nD Cert.GluActRefIdeal.τ).loc Cert.GluActRefIdeal.main_v44) = v2 c
          ∧ r.2.mem ((c.tc : Thread Cert.GluActRefIdeal.nD Cert.GluActRefIdeal.τ).loc Cert.GluActRefIdeal.main_v46) = v3 c
          ∧ r.2.mem ((c.tc : Thread Cert.GluActRefIdeal.nD Cert.GluActRefIdeal.τ).loc Cert.GluActRefIdeal.main_arg0) = m' ((c.tc : Thread Cert.GluActRefIdeal.nD Cert.GluActRefIdeal.τ).loc Cert.GluActRefIdeal.main_arg0)
          ∧ r.2.mem ((c.tc : Thread Cert.GluActRefIdeal.nD Cert.GluActRefIdeal.τ).loc Cert.GluActRefIdeal.main_arg1) = m' ((c.tc : Thread Cert.GluActRefIdeal.nD Cert.GluActRefIdeal.τ).loc Cert.GluActRefIdeal.main_arg1)
          ∧ r.2.mem ((c.tc : Thread Cert.GluActRefIdeal.nD Cert.GluActRefIdeal.τ).loc Cert.GluActRefIdeal.main_arg2) = m' ((c.tc : Thread Cert.GluActRefIdeal.nD Cert.GluActRefIdeal.τ).loc Cert.GluActRefIdeal.main_arg2)
          ∧ r.2.mem ((c.tc : Thread Cert.GluActRefIdeal.nD Cert.GluActRefIdeal.τ).loc Cert.GluActRefIdeal.main_arg3) = m' ((c.tc : Thread Cert.GluActRefIdeal.nD Cert.GluActRefIdeal.τ).loc Cert.GluActRefIdeal.main_arg3)
          ∧ r.2.mem ((c.tc : Thread Cert.GluActRefIdeal.nD Cert.GluActRefIdeal.τ).loc Cert.GluActRefIdeal.main_arg4) = m' ((c.tc : Thread Cert.GluActRefIdeal.nD Cert.GluActRefIdeal.τ).loc Cert.GluActRefIdeal.main_arg4))

def preserves_InAct_InActIdeal : Prop :=
  True

def algebraic_InActIdeal_InActRefIdeal [hInActIdeal : Cert.InActIdeal.Facts] [hInActRefIdeal : Cert.InActRefIdeal.Facts] : Prop :=
  ∀ (m : (ℓ : Loc Cert.InActIdeal.nD Cert.InActIdeal.τ Cert.InActIdeal.sig) → Buf (Elt Ideal) ℓ) (g : Dev Cert.InActIdeal.nD → PrngReg)
    (m' : (ℓ : Loc Cert.InActRefIdeal.nD Cert.InActRefIdeal.τ Cert.InActRefIdeal.sig) → Buf (Elt Ideal) ℓ) (g' : Dev Cert.InActRefIdeal.nD → PrngReg), Pre_InActIdeal m →
    (∀ c : Dev Cert.InActIdeal.nD,
      m' ((c.tc : Thread Cert.InActRefIdeal.nD Cert.InActRefIdeal.τ).loc Cert.InActRefIdeal.main_arg0) = m ((c.tc : Thread Cert.InActIdeal.nD Cert.InActIdeal.τ).loc Cert.InActIdeal.main_arg0)
      ∧ m' ((c.tc : Thread Cert.InActRefIdeal.nD Cert.InActRefIdeal.τ).loc Cert.InActRefIdeal.main_arg1) = m ((c.tc : Thread Cert.InActIdeal.nD Cert.InActIdeal.τ).loc Cert.InActIdeal.main_arg1)
      ∧ m' ((c.tc : Thread Cert.InActRefIdeal.nD Cert.InActRefIdeal.τ).loc Cert.InActRefIdeal.main_arg2) = m ((c.tc : Thread Cert.InActIdeal.nD Cert.InActIdeal.τ).loc Cert.InActIdeal.main_arg2)
      ∧ m' ((c.tc : Thread Cert.InActRefIdeal.nD Cert.InActRefIdeal.τ).loc Cert.InActRefIdeal.main_arg3) = m ((c.tc : Thread Cert.InActIdeal.nD Cert.InActIdeal.τ).loc Cert.InActIdeal.main_arg3)
      ∧ m' ((c.tc : Thread Cert.InActRefIdeal.nD Cert.InActRefIdeal.τ).loc Cert.InActRefIdeal.main_arg4) = m ((c.tc : Thread Cert.InActIdeal.nD Cert.InActIdeal.τ).loc Cert.InActIdeal.main_arg4)) →
    ∃ (v0 : (c : Dev Cert.InActIdeal.nD) → Buf (Elt Ideal) ((c.tc : Thread Cert.InActIdeal.nD Cert.InActIdeal.τ).loc Cert.InActIdeal.main_v1_0)) (v1 : (c : Dev Cert.InActIdeal.nD) → Buf (Elt Ideal) ((c.tc : Thread Cert.InActIdeal.nD Cert.InActIdeal.τ).loc Cert.InActIdeal.main_v1_1)) (v2 : (c : Dev Cert.InActIdeal.nD) → Buf (Elt Ideal) ((c.tc : Thread Cert.InActIdeal.nD Cert.InActIdeal.τ).loc Cert.InActIdeal.main_v1_2)) (v3 : (c : Dev Cert.InActIdeal.nD) → Buf (Elt Ideal) ((c.tc : Thread Cert.InActIdeal.nD Cert.InActIdeal.τ).loc Cert.InActIdeal.main_v1_3)),
      θ_run (Cert.InActIdeal.defs (F := Ideal)) (onTc (τ := Cert.InActIdeal.τ) (Cert.InActIdeal.main (F := Ideal))) ⟨m, fun _ => 0, g⟩ (fun r => ∀ c : Dev Cert.InActIdeal.nD,
          r.2.mem ((c.tc : Thread Cert.InActIdeal.nD Cert.InActIdeal.τ).loc Cert.InActIdeal.main_v1_0) = v0 c
          ∧ r.2.mem ((c.tc : Thread Cert.InActIdeal.nD Cert.InActIdeal.τ).loc Cert.InActIdeal.main_v1_1) = v1 c
          ∧ r.2.mem ((c.tc : Thread Cert.InActIdeal.nD Cert.InActIdeal.τ).loc Cert.InActIdeal.main_v1_2) = v2 c
          ∧ r.2.mem ((c.tc : Thread Cert.InActIdeal.nD Cert.InActIdeal.τ).loc Cert.InActIdeal.main_v1_3) = v3 c
          ∧ r.2.mem ((c.tc : Thread Cert.InActIdeal.nD Cert.InActIdeal.τ).loc Cert.InActIdeal.main_arg0) = m ((c.tc : Thread Cert.InActIdeal.nD Cert.InActIdeal.τ).loc Cert.InActIdeal.main_arg0)
          ∧ r.2.mem ((c.tc : Thread Cert.InActIdeal.nD Cert.InActIdeal.τ).loc Cert.InActIdeal.main_arg1) = m ((c.tc : Thread Cert.InActIdeal.nD Cert.InActIdeal.τ).loc Cert.InActIdeal.main_arg1)
          ∧ r.2.mem ((c.tc : Thread Cert.InActIdeal.nD Cert.InActIdeal.τ).loc Cert.InActIdeal.main_arg2) = m ((c.tc : Thread Cert.InActIdeal.nD Cert.InActIdeal.τ).loc Cert.InActIdeal.main_arg2)
          ∧ r.2.mem ((c.tc : Thread Cert.InActIdeal.nD Cert.InActIdeal.τ).loc Cert.InActIdeal.main_arg3) = m ((c.tc : Thread Cert.InActIdeal.nD Cert.InActIdeal.τ).loc Cert.InActIdeal.main_arg3)
          ∧ r.2.mem ((c.tc : Thread Cert.InActIdeal.nD Cert.InActIdeal.τ).loc Cert.InActIdeal.main_arg4) = m ((c.tc : Thread Cert.InActIdeal.nD Cert.InActIdeal.τ).loc Cert.InActIdeal.main_arg4))
      ∧ θ_run (Cert.InActRefIdeal.defs (F := Ideal)) (onTc (τ := Cert.InActRefIdeal.τ) (Cert.InActRefIdeal.main (F := Ideal))) ⟨m', fun _ => 0, g'⟩ (fun r => ∀ c : Dev Cert.InActRefIdeal.nD,
          r.2.mem ((c.tc : Thread Cert.InActRefIdeal.nD Cert.InActRefIdeal.τ).loc Cert.InActRefIdeal.main_v42) = v0 c
          ∧ r.2.mem ((c.tc : Thread Cert.InActRefIdeal.nD Cert.InActRefIdeal.τ).loc Cert.InActRefIdeal.main_v43) = v1 c
          ∧ r.2.mem ((c.tc : Thread Cert.InActRefIdeal.nD Cert.InActRefIdeal.τ).loc Cert.InActRefIdeal.main_v44) = v2 c
          ∧ r.2.mem ((c.tc : Thread Cert.InActRefIdeal.nD Cert.InActRefIdeal.τ).loc Cert.InActRefIdeal.main_v46) = v3 c
          ∧ r.2.mem ((c.tc : Thread Cert.InActRefIdeal.nD Cert.InActRefIdeal.τ).loc Cert.InActRefIdeal.main_arg0) = m' ((c.tc : Thread Cert.InActRefIdeal.nD Cert.InActRefIdeal.τ).loc Cert.InActRefIdeal.main_arg0)
          ∧ r.2.mem ((c.tc : Thread Cert.InActRefIdeal.nD Cert.InActRefIdeal.τ).loc Cert.InActRefIdeal.main_arg1) = m' ((c.tc : Thread Cert.InActRefIdeal.nD Cert.InActRefIdeal.τ).loc Cert.InActRefIdeal.main_arg1)
          ∧ r.2.mem ((c.tc : Thread Cert.InActRefIdeal.nD Cert.InActRefIdeal.τ).loc Cert.InActRefIdeal.main_arg2) = m' ((c.tc : Thread Cert.InActRefIdeal.nD Cert.InActRefIdeal.τ).loc Cert.InActRefIdeal.main_arg2)
          ∧ r.2.mem ((c.tc : Thread Cert.InActRefIdeal.nD Cert.InActRefIdeal.τ).loc Cert.InActRefIdeal.main_arg3) = m' ((c.tc : Thread Cert.InActRefIdeal.nD Cert.InActRefIdeal.τ).loc Cert.InActRefIdeal.main_arg3)
          ∧ r.2.mem ((c.tc : Thread Cert.InActRefIdeal.nD Cert.InActRefIdeal.τ).loc Cert.InActRefIdeal.main_arg4) = m' ((c.tc : Thread Cert.InActRefIdeal.nD Cert.InActRefIdeal.τ).loc Cert.InActRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hReferenceIdeal : Cert.ReferenceIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hUp : Cert.Up.Facts) (hUpIdeal : Cert.UpIdeal.Facts) (hUpRefIdeal : Cert.UpRefIdeal.Facts) (hDownAct : Cert.DownAct.Facts) (hDownActIdeal : Cert.DownActIdeal.Facts) (hDownActRefIdeal : Cert.DownActRefIdeal.Facts) (hUpB : Cert.UpB.Facts) (hUpBIdeal : Cert.UpBIdeal.Facts) (hUpBRefIdeal : Cert.UpBRefIdeal.Facts) (hDownActB : Cert.DownActB.Facts) (hDownActBIdeal : Cert.DownActBIdeal.Facts) (hDownActBRefIdeal : Cert.DownActBRefIdeal.Facts) (hInW : Cert.InW.Facts) (hInWIdeal : Cert.InWIdeal.Facts) (hInWRefIdeal : Cert.InWRefIdeal.Facts) (hGluW : Cert.GluW.Facts) (hGluWIdeal : Cert.GluWIdeal.Facts) (hGluWRefIdeal : Cert.GluWRefIdeal.Facts) (hSquareW : Cert.SquareW.Facts) (hSquareWIdeal : Cert.SquareWIdeal.Facts) (hSquareWRefIdeal : Cert.SquareWRefIdeal.Facts) (hSquareAct : Cert.SquareAct.Facts) (hSquareActIdeal : Cert.SquareActIdeal.Facts) (hSquareActRefIdeal : Cert.SquareActRefIdeal.Facts) (hInProj : Cert.InProj.Facts) (hInProjIdeal : Cert.InProjIdeal.Facts) (hInProjRefIdeal : Cert.InProjRefIdeal.Facts) (hGluProj : Cert.GluProj.Facts) (hGluProjIdeal : Cert.GluProjIdeal.Facts) (hGluProjRefIdeal : Cert.GluProjRefIdeal.Facts) (hDown : Cert.Down.Facts) (hDownIdeal : Cert.DownIdeal.Facts) (hDownRefIdeal : Cert.DownRefIdeal.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamGlu : Cert.AdamGlu.Facts) (hAdamGluIdeal : Cert.AdamGluIdeal.Facts) (hAdamGluRefIdeal : Cert.AdamGluRefIdeal.Facts) (hAdamFf : Cert.AdamFf.Facts) (hAdamFfIdeal : Cert.AdamFfIdeal.Facts) (hAdamFfRefIdeal : Cert.AdamFfRefIdeal.Facts) (hAdamSmall : Cert.AdamSmall.Facts) (hAdamSmallIdeal : Cert.AdamSmallIdeal.Facts) (hAdamSmallRefIdeal : Cert.AdamSmallRefIdeal.Facts) (hOutProj : Cert.OutProj.Facts) (hOutProjIdeal : Cert.OutProjIdeal.Facts) (hOutProjRefIdeal : Cert.OutProjRefIdeal.Facts) (hPwProj : Cert.PwProj.Facts) (hPwProjIdeal : Cert.PwProjIdeal.Facts) (hPwProjRefIdeal : Cert.PwProjRefIdeal.Facts) (hDownN : Cert.DownN.Facts) (hDownNIdeal : Cert.DownNIdeal.Facts) (hDownNRefIdeal : Cert.DownNRefIdeal.Facts) (hUpAct : Cert.UpAct.Facts) (hUpActIdeal : Cert.UpActIdeal.Facts) (hUpActRefIdeal : Cert.UpActRefIdeal.Facts) (hUpActB : Cert.UpActB.Facts) (hUpActBIdeal : Cert.UpActBIdeal.Facts) (hUpActBRefIdeal : Cert.UpActBRefIdeal.Facts) (hGluAct : Cert.GluAct.Facts) (hGluActIdeal : Cert.GluActIdeal.Facts) (hGluActRefIdeal : Cert.GluActRefIdeal.Facts) (hInAct : Cert.InAct.Facts) (hInActIdeal : Cert.InActIdeal.Facts) (hInActRefIdeal : Cert.InActRefIdeal.Facts) (hNorm : Cert.Norm.Facts) (hNormIdeal : Cert.NormIdeal.Facts) (hNormRefIdeal : Cert.NormRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_Up (hUp := hUp)
    ∧ quiescent_UpIdeal (hUpIdeal := hUpIdeal)
    ∧ quiescent_UpRefIdeal (hUpRefIdeal := hUpRefIdeal)
    ∧ quiescent_DownAct (hDownAct := hDownAct)
    ∧ quiescent_DownActIdeal (hDownActIdeal := hDownActIdeal)
    ∧ quiescent_DownActRefIdeal (hDownActRefIdeal := hDownActRefIdeal)
    ∧ quiescent_UpB (hUpB := hUpB)
    ∧ quiescent_UpBIdeal (hUpBIdeal := hUpBIdeal)
    ∧ quiescent_UpBRefIdeal (hUpBRefIdeal := hUpBRefIdeal)
    ∧ quiescent_DownActB (hDownActB := hDownActB)
    ∧ quiescent_DownActBIdeal (hDownActBIdeal := hDownActBIdeal)
    ∧ quiescent_DownActBRefIdeal (hDownActBRefIdeal := hDownActBRefIdeal)
    ∧ quiescent_InW (hInW := hInW)
    ∧ quiescent_InWIdeal (hInWIdeal := hInWIdeal)
    ∧ quiescent_InWRefIdeal (hInWRefIdeal := hInWRefIdeal)
    ∧ quiescent_GluW (hGluW := hGluW)
    ∧ quiescent_GluWIdeal (hGluWIdeal := hGluWIdeal)
    ∧ quiescent_GluWRefIdeal (hGluWRefIdeal := hGluWRefIdeal)
    ∧ quiescent_SquareW (hSquareW := hSquareW)
    ∧ quiescent_SquareWIdeal (hSquareWIdeal := hSquareWIdeal)
    ∧ quiescent_SquareWRefIdeal (hSquareWRefIdeal := hSquareWRefIdeal)
    ∧ quiescent_SquareAct (hSquareAct := hSquareAct)
    ∧ quiescent_SquareActIdeal (hSquareActIdeal := hSquareActIdeal)
    ∧ quiescent_SquareActRefIdeal (hSquareActRefIdeal := hSquareActRefIdeal)
    ∧ quiescent_InProj (hInProj := hInProj)
    ∧ quiescent_InProjIdeal (hInProjIdeal := hInProjIdeal)
    ∧ quiescent_InProjRefIdeal (hInProjRefIdeal := hInProjRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_Down (hDown := hDown)
    ∧ quiescent_DownIdeal (hDownIdeal := hDownIdeal)
    ∧ quiescent_DownRefIdeal (hDownRefIdeal := hDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamFf (hAdamFf := hAdamFf)
    ∧ quiescent_AdamFfIdeal (hAdamFfIdeal := hAdamFfIdeal)
    ∧ quiescent_AdamFfRefIdeal (hAdamFfRefIdeal := hAdamFfRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PwProj (hPwProj := hPwProj)
    ∧ quiescent_PwProjIdeal (hPwProjIdeal := hPwProjIdeal)
    ∧ quiescent_PwProjRefIdeal (hPwProjRefIdeal := hPwProjRefIdeal)
    ∧ quiescent_DownN (hDownN := hDownN)
    ∧ quiescent_DownNIdeal (hDownNIdeal := hDownNIdeal)
    ∧ quiescent_DownNRefIdeal (hDownNRefIdeal := hDownNRefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_UpActB (hUpActB := hUpActB)
    ∧ quiescent_UpActBIdeal (hUpActBIdeal := hUpActBIdeal)
    ∧ quiescent_UpActBRefIdeal (hUpActBRefIdeal := hUpActBRefIdeal)
    ∧ quiescent_GluAct (hGluAct := hGluAct)
    ∧ quiescent_GluActIdeal (hGluActIdeal := hGluActIdeal)
    ∧ quiescent_GluActRefIdeal (hGluActRefIdeal := hGluActRefIdeal)
    ∧ quiescent_InAct (hInAct := hInAct)
    ∧ quiescent_InActIdeal (hInActIdeal := hInActIdeal)
    ∧ quiescent_InActRefIdeal (hInActRefIdeal := hInActRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_Up_UpIdeal
    ∧ algebraic_UpIdeal_UpRefIdeal (hUpIdeal := hUpIdeal) (hUpRefIdeal := hUpRefIdeal)
    ∧ preserves_DownAct_DownActIdeal
    ∧ algebraic_DownActIdeal_DownActRefIdeal (hDownActIdeal := hDownActIdeal) (hDownActRefIdeal := hDownActRefIdeal)
    ∧ preserves_UpB_UpBIdeal
    ∧ algebraic_UpBIdeal_UpBRefIdeal (hUpBIdeal := hUpBIdeal) (hUpBRefIdeal := hUpBRefIdeal)
    ∧ preserves_DownActB_DownActBIdeal
    ∧ algebraic_DownActBIdeal_DownActBRefIdeal (hDownActBIdeal := hDownActBIdeal) (hDownActBRefIdeal := hDownActBRefIdeal)
    ∧ preserves_InW_InWIdeal
    ∧ algebraic_InWIdeal_InWRefIdeal (hInWIdeal := hInWIdeal) (hInWRefIdeal := hInWRefIdeal)
    ∧ preserves_GluW_GluWIdeal
    ∧ algebraic_GluWIdeal_GluWRefIdeal (hGluWIdeal := hGluWIdeal) (hGluWRefIdeal := hGluWRefIdeal)
    ∧ preserves_SquareW_SquareWIdeal
    ∧ algebraic_SquareWIdeal_SquareWRefIdeal (hSquareWIdeal := hSquareWIdeal) (hSquareWRefIdeal := hSquareWRefIdeal)
    ∧ preserves_SquareAct_SquareActIdeal
    ∧ algebraic_SquareActIdeal_SquareActRefIdeal (hSquareActIdeal := hSquareActIdeal) (hSquareActRefIdeal := hSquareActRefIdeal)
    ∧ preserves_InProj_InProjIdeal
    ∧ algebraic_InProjIdeal_InProjRefIdeal (hInProjIdeal := hInProjIdeal) (hInProjRefIdeal := hInProjRefIdeal)
    ∧ preserves_GluProj_GluProjIdeal
    ∧ algebraic_GluProjIdeal_GluProjRefIdeal (hGluProjIdeal := hGluProjIdeal) (hGluProjRefIdeal := hGluProjRefIdeal)
    ∧ preserves_Down_DownIdeal
    ∧ algebraic_DownIdeal_DownRefIdeal (hDownIdeal := hDownIdeal) (hDownRefIdeal := hDownRefIdeal)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamFf_AdamFfIdeal
    ∧ algebraic_AdamFfIdeal_AdamFfRefIdeal (hAdamFfIdeal := hAdamFfIdeal) (hAdamFfRefIdeal := hAdamFfRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_OutProj_OutProjIdeal
    ∧ algebraic_OutProjIdeal_OutProjRefIdeal (hOutProjIdeal := hOutProjIdeal) (hOutProjRefIdeal := hOutProjRefIdeal)
    ∧ preserves_PwProj_PwProjIdeal
    ∧ algebraic_PwProjIdeal_PwProjRefIdeal (hPwProjIdeal := hPwProjIdeal) (hPwProjRefIdeal := hPwProjRefIdeal)
    ∧ preserves_DownN_DownNIdeal
    ∧ algebraic_DownNIdeal_DownNRefIdeal (hDownNIdeal := hDownNIdeal) (hDownNRefIdeal := hDownNRefIdeal)
    ∧ preserves_UpAct_UpActIdeal
    ∧ algebraic_UpActIdeal_UpActRefIdeal (hUpActIdeal := hUpActIdeal) (hUpActRefIdeal := hUpActRefIdeal)
    ∧ preserves_UpActB_UpActBIdeal
    ∧ algebraic_UpActBIdeal_UpActBRefIdeal (hUpActBIdeal := hUpActBIdeal) (hUpActBRefIdeal := hUpActBRefIdeal)
    ∧ preserves_GluAct_GluActIdeal
    ∧ algebraic_GluActIdeal_GluActRefIdeal (hGluActIdeal := hGluActIdeal) (hGluActRefIdeal := hGluActRefIdeal)
    ∧ preserves_InAct_InActIdeal
    ∧ algebraic_InActIdeal_InActRefIdeal (hInActIdeal := hInActIdeal) (hInActRefIdeal := hInActRefIdeal)
    ∧ preserves_Norm_NormIdeal
    ∧ algebraic_NormIdeal_NormRefIdeal (hNormIdeal := hNormIdeal) (hNormRefIdeal := hNormRefIdeal)
-- ==== Pre_finite.lean ====
abbrev S8192x1536 : Shape := ⟨2, ![8192, 1536]⟩
abbrev S8192x1024 : Shape := ⟨2, ![8192, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1536 .bf16) (main_arg1 : FVec F S8192x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  main_v9
-- ==== Kernel.lean ====
abbrev S8192x1536 : Shape := ⟨2, ![8192, 1536]⟩
abbrev S8192x1024 : Shape := ⟨2, ![8192, 1024]⟩
abbrev S8192x512 : Shape := ⟨2, ![8192, 512]⟩
abbrev S256x128 : Shape := ⟨2, ![256, 128]⟩
abbrev S8192x128 : Shape := ⟨2, ![8192, 128]⟩
abbrev S16x256x512 : Shape := ⟨3, ![16, 256, 512]⟩
abbrev S2x512x256 : Shape := ⟨3, ![2, 512, 256]⟩
abbrev S256x512 : Shape := ⟨2, ![256, 512]⟩
abbrev S512x256 : Shape := ⟨2, ![512, 256]⟩
abbrev S1x512x256 : Shape := ⟨3, ![1, 512, 256]⟩
abbrev S256x256 : Shape := ⟨2, ![256, 256]⟩
abbrev S256x1 : Shape := ⟨2, ![256, 1]⟩
abbrev S256 : Shape := ⟨1, ![256]⟩
abbrev S1x256x256 : Shape := ⟨3, ![1, 256, 256]⟩
abbrev S512x128 : Shape := ⟨2, ![512, 128]⟩
abbrev S1x256x512 : Shape := ⟨3, ![1, 256, 512]⟩
abbrev S1024x128 : Shape := ⟨2, ![1024, 128]⟩
abbrev S256x1024 : Shape := ⟨2, ![256, 1024]⟩

abbrev nBuf : Space → Nat
  | .hbm => 5
  | .vmem => 17
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S8192x512, .bf16⟩
  | .hbm, ⟨3, _⟩ => ⟨S8192x512, .f32⟩
  | .hbm, ⟨4, _⟩ => ⟨S8192x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S16x256x512, .f32⟩
  | .local _ .vmem, ⟨15, _⟩ => ⟨S16x256x512, .f32⟩
  | .local _ .vmem, ⟨16, _⟩ => ⟨S2x512x256, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 32, 2], ![false, false, false]⟩

def k0_cond3 (i : grid0.Coords) : BitVec 1 :=
  let arg1 : BitVec 32 := BitVec.ofNat 32 (i 1).val
  let c256_i32_25 : BitVec 32 := 256#32
  let v61 : BitVec 32 := Scalar.muli arg1 c256_i32_25
  let c512_i32_26 : BitVec 32 := 512#32
  let c0_i32_27 : BitVec 32 := 0#32
  let v62 : BitVec 1 := Scalar.cmpi .eq c512_i32_26 c0_i32_27
  let c1_i32_28 : BitVec 32 := 1#32
  let v63 : BitVec 32 := Scalar.select v62 c1_i32_28 c512_i32_26
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let c256_i32_32 : BitVec 32 := 256#32
  let v72 : BitVec 32 := Scalar.addi v71 c256_i32_32
  let c256_i32_33 : BitVec 32 := 256#32
  let v73 : BitVec 1 := Scalar.cmpi .sle v72 c256_i32_33
  let v76 : BitVec 32 := Scalar.extui v73
  let c0_i32_35 : BitVec 32 := 0#32
  let v77 : BitVec 1 := Scalar.cmpi .ne v76 c0_i32_35
  v77

def k0_mult1 (i : grid0.Coords) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_82 : BitVec 32 := 512#32
  let v170 : BitVec 32 := Scalar.muli v25 c512_i32_82
  v170
def k0_off1 (i : grid0.Coords) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_82 : BitVec 32 := 512#32
  let v170 : BitVec 32 := Scalar.muli v25 c512_i32_82
  let v171 : BitVec 32 := v170
  let v172 : Index := Scalar.indexCast v171
  let c0_83 : Index := 0#32
  ![v172.toNat, 0]
def k0_off2 (i : grid0.Coords) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let v207 : Index := Scalar.indexCast v25
  let c0_94 : Index := 0#32
  let c0_95 : Index := 0#32
  ![v207.toNat, 0, 0]
def k0_mult2 (i : grid0.Coords) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_82 : BitVec 32 := 512#32
  let v170 : BitVec 32 := Scalar.muli v25 c512_i32_82
  v170
def k0_off3 (i : grid0.Coords) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_82 : BitVec 32 := 512#32
  let v170 : BitVec 32 := Scalar.muli v25 c512_i32_82
  let v171 : BitVec 32 := v170
  let v172 : Index := Scalar.indexCast v171
  let c0_83 : Index := 0#32
  ![v172.toNat, 0]
def k0_off4 (i : grid0.Coords) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c0_i32_96 : BitVec 32 := 0#32
  let v221 : BitVec 32 := Scalar.addi v25 c0_i32_96
  let v222 : Index := Scalar.indexCast v221
  let c0_97 : Index := 0#32
  let c0_98 : Index := 0#32
  ![v222.toNat, 0, 0]
@[reducible] def k0_t1_loop (i : grid0.Coords) : Scf.Loop 32 :=
  let c0_i32_42 : BitVec 32 := 0#32
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c0_i32_36 : BitVec 32 := 0#32
  let v80 : BitVec 1 := Scalar.cmpi .sgt v25 c0_i32_36
  let v81 : BitVec 32 := Scalar.extui v80
  let c0_i32_37 : BitVec 32 := 0#32
  let v82 : BitVec 1 := Scalar.cmpi .slt v25 c0_i32_37
  let v83 : BitVec 32 := Scalar.extui v82
  let v84 : BitVec 32 := Scalar.subi v81 v83
  let c2_i32 : BitVec 32 := 2#32
  let c0_i32_38 : BitVec 32 := 0#32
  let v85 : BitVec 1 := Scalar.cmpi .sgt c2_i32 c0_i32_38
  let v86 : BitVec 32 := Scalar.extui v85
  let c0_i32_39 : BitVec 32 := 0#32
  let v87 : BitVec 1 := Scalar.cmpi .slt c2_i32 c0_i32_39
  let v88 : BitVec 32 := Scalar.extui v87
  let v89 : BitVec 32 := Scalar.subi v86 v88
  let v90 : BitVec 1 := Scalar.cmpi .ne v84 v89
  let v91 : BitVec 32 := Scalar.remsi v25 c2_i32
  let c0_i32_40 : BitVec 32 := 0#32
  let v92 : BitVec 1 := Scalar.cmpi .ne v91 c0_i32_40
  let v93 : BitVec 1 := Scalar.andi v90 v92
  let v79 : BitVec 32 := Scalar.divsi v25 c2_i32
  let c1_i32_41 : BitVec 32 := 1#32
  let v94 : BitVec 32 := Scalar.subi v79 c1_i32_41
  let v95 : BitVec 32 := Scalar.select v93 v94 v79
  let v96 : BitVec 32 := Scalar.subi v95 c0_i32_42
  let c1_i32_43 : BitVec 32 := 1#32
  let v98 : BitVec 32 := Scalar.divsi v96 c1_i32_43
  let v99 : BitVec 32 := Scalar.muli v98 c1_i32_43
  let v100 : BitVec 32 := Scalar.addi c0_i32_42 v99
  let c1_i32_44 : BitVec 32 := 1#32
  ⟨c0_i32_42, v100, c1_i32_44⟩
def k0_mult3 (i : grid0.Coords) (k0_t1 : Fin (k0_t1_loop i).trips) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_82 : BitVec 32 := 2#32
  let v170 : BitVec 32 := Scalar.subi v25 c2_i32_82
  let c2_i32_83 : BitVec 32 := 2#32
  let c0_i32_42 : BitVec 32 := 0#32
  let c1_i32_44 : BitVec 32 := 1#32
  let arg13 : BitVec 32 := Scf.iv c0_i32_42 c1_i32_44 k0_t1
  let v171 : BitVec 32 := Scalar.muli c2_i32_83 arg13
  let v172 : BitVec 32 := Scalar.subi v170 v171
  let c512_i32_84 : BitVec 32 := 512#32
  let v173 : BitVec 32 := Scalar.muli v172 c512_i32_84
  v173
def k0_off5 (i : grid0.Coords) (k0_t1 : Fin (k0_t1_loop i).trips) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_82 : BitVec 32 := 2#32
  let v170 : BitVec 32 := Scalar.subi v25 c2_i32_82
  let c2_i32_83 : BitVec 32 := 2#32
  let c0_i32_42 : BitVec 32 := 0#32
  let c1_i32_44 : BitVec 32 := 1#32
  let arg13 : BitVec 32 := Scf.iv c0_i32_42 c1_i32_44 k0_t1
  let v171 : BitVec 32 := Scalar.muli c2_i32_83 arg13
  let v172 : BitVec 32 := Scalar.subi v170 v171
  let c512_i32_84 : BitVec 32 := 512#32
  let v173 : BitVec 32 := Scalar.muli v172 c512_i32_84
  let v174 : BitVec 32 := v173
  let v175 : Index := Scalar.indexCast v174
  let c0_85 : Index := 0#32
  ![v175.toNat, 0]
def k0_off6 (i : grid0.Coords) (k0_t1 : Fin (k0_t1_loop i).trips) (c0_i32_100 : BitVec 32) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_82 : BitVec 32 := 2#32
  let v170 : BitVec 32 := Scalar.subi v25 c2_i32_82
  let c2_i32_83 : BitVec 32 := 2#32
  let c0_i32_42 : BitVec 32 := 0#32
  let c1_i32_44 : BitVec 32 := 1#32
  let arg13 : BitVec 32 := Scf.iv c0_i32_42 c1_i32_44 k0_t1
  let v171 : BitVec 32 := Scalar.muli c2_i32_83 arg13
  let v172 : BitVec 32 := Scalar.subi v170 v171
  let v241 : BitVec 32 := Scalar.addi v172 c0_i32_100
  let v242 : Index := Scalar.indexCast v241
  let c0_101 : Index := 0#32
  let c0_102 : Index := 0#32
  ![v242.toNat, 0, 0]
@[reducible] def k0_t2_loop (i : grid0.Coords) : Scf.Loop 32 :=
  let c0_i32_42 : BitVec 32 := 0#32
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c0_i32_36 : BitVec 32 := 0#32
  let v80 : BitVec 1 := Scalar.cmpi .sgt v25 c0_i32_36
  let v81 : BitVec 32 := Scalar.extui v80
  let c0_i32_37 : BitVec 32 := 0#32
  let v82 : BitVec 1 := Scalar.cmpi .slt v25 c0_i32_37
  let v83 : BitVec 32 := Scalar.extui v82
  let v84 : BitVec 32 := Scalar.subi v81 v83
  let c2_i32 : BitVec 32 := 2#32
  let c0_i32_38 : BitVec 32 := 0#32
  let v85 : BitVec 1 := Scalar.cmpi .sgt c2_i32 c0_i32_38
  let v86 : BitVec 32 := Scalar.extui v85
  let c0_i32_39 : BitVec 32 := 0#32
  let v87 : BitVec 1 := Scalar.cmpi .slt c2_i32 c0_i32_39
  let v88 : BitVec 32 := Scalar.extui v87
  let v89 : BitVec 32 := Scalar.subi v86 v88
  let v90 : BitVec 1 := Scalar.cmpi .ne v84 v89
  let v91 : BitVec 32 := Scalar.remsi v25 c2_i32
  let c0_i32_40 : BitVec 32 := 0#32
  let v92 : BitVec 1 := Scalar.cmpi .ne v91 c0_i32_40
  let v93 : BitVec 1 := Scalar.andi v90 v92
  let v79 : BitVec 32 := Scalar.divsi v25 c2_i32
  let c1_i32_41 : BitVec 32 := 1#32
  let v94 : BitVec 32 := Scalar.subi v79 c1_i32_41
  let v95 : BitVec 32 := Scalar.select v93 v94 v79
  let v96 : BitVec 32 := Scalar.subi v95 c0_i32_42
  let c1_i32_43 : BitVec 32 := 1#32
  let v98 : BitVec 32 := Scalar.divsi v96 c1_i32_43
  let v99 : BitVec 32 := Scalar.muli v98 c1_i32_43
  let v100 : BitVec 32 := Scalar.addi c0_i32_42 v99
  let v97 : BitVec 32 := Scalar.addi c0_i32_42 v96
  let c1_i32_45 : BitVec 32 := 1#32
  ⟨v100, v97, c1_i32_45⟩
def k0_mult4 (i : grid0.Coords) (k0_t2 : Fin (k0_t2_loop i).trips) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_82 : BitVec 32 := 2#32
  let v170 : BitVec 32 := Scalar.subi v25 c2_i32_82
  let c2_i32_83 : BitVec 32 := 2#32
  let c0_i32_42 : BitVec 32 := 0#32
  let c0_i32_36 : BitVec 32 := 0#32
  let v80 : BitVec 1 := Scalar.cmpi .sgt v25 c0_i32_36
  let v81 : BitVec 32 := Scalar.extui v80
  let c0_i32_37 : BitVec 32 := 0#32
  let v82 : BitVec 1 := Scalar.cmpi .slt v25 c0_i32_37
  let v83 : BitVec 32 := Scalar.extui v82
  let v84 : BitVec 32 := Scalar.subi v81 v83
  let c2_i32 : BitVec 32 := 2#32
  let c0_i32_38 : BitVec 32 := 0#32
  let v85 : BitVec 1 := Scalar.cmpi .sgt c2_i32 c0_i32_38
  let v86 : BitVec 32 := Scalar.extui v85
  let c0_i32_39 : BitVec 32 := 0#32
  let v87 : BitVec 1 := Scalar.cmpi .slt c2_i32 c0_i32_39
  let v88 : BitVec 32 := Scalar.extui v87
  let v89 : BitVec 32 := Scalar.subi v86 v88
  let v90 : BitVec 1 := Scalar.cmpi .ne v84 v89
  let v91 : BitVec 32 := Scalar.remsi v25 c2_i32
  let c0_i32_40 : BitVec 32 := 0#32
  let v92 : BitVec 1 := Scalar.cmpi .ne v91 c0_i32_40
  let v93 : BitVec 1 := Scalar.andi v90 v92
  let v79 : BitVec 32 := Scalar.divsi v25 c2_i32
  let c1_i32_41 : BitVec 32 := 1#32
  let v94 : BitVec 32 := Scalar.subi v79 c1_i32_41
  let v95 : BitVec 32 := Scalar.select v93 v94 v79
  let v96 : BitVec 32 := Scalar.subi v95 c0_i32_42
  let c1_i32_43 : BitVec 32 := 1#32
  let v98 : BitVec 32 := Scalar.divsi v96 c1_i32_43
  let v99 : BitVec 32 := Scalar.muli v98 c1_i32_43
  let v100 : BitVec 32 := Scalar.addi c0_i32_42 v99
  let c1_i32_45 : BitVec 32 := 1#32
  let arg13 : BitVec 32 := Scf.iv v100 c1_i32_45 k0_t2
  let v171 : BitVec 32 := Scalar.muli c2_i32_83 arg13
  let v172 : BitVec 32 := Scalar.subi v170 v171
  let c512_i32_84 : BitVec 32 := 512#32
  let v173 : BitVec 32 := Scalar.muli v172 c512_i32_84
  v173
def k0_off7 (i : grid0.Coords) (k0_t2 : Fin (k0_t2_loop i).trips) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_82 : BitVec 32 := 2#32
  let v170 : BitVec 32 := Scalar.subi v25 c2_i32_82
  let c2_i32_83 : BitVec 32 := 2#32
  let c0_i32_42 : BitVec 32 := 0#32
  let c0_i32_36 : BitVec 32 := 0#32
  let v80 : BitVec 1 := Scalar.cmpi .sgt v25 c0_i32_36
  let v81 : BitVec 32 := Scalar.extui v80
  let c0_i32_37 : BitVec 32 := 0#32
  let v82 : BitVec 1 := Scalar.cmpi .slt v25 c0_i32_37
  let v83 : BitVec 32 := Scalar.extui v82
  let v84 : BitVec 32 := Scalar.subi v81 v83
  let c2_i32 : BitVec 32 := 2#32
  let c0_i32_38 : BitVec 32 := 0#32
  let v85 : BitVec 1 := Scalar.cmpi .sgt c2_i32 c0_i32_38
  let v86 : BitVec 32 := Scalar.extui v85
  let c0_i32_39 : BitVec 32 := 0#32
  let v87 : BitVec 1 := Scalar.cmpi .slt c2_i32 c0_i32_39
  let v88 : BitVec 32 := Scalar.extui v87
  let v89 : BitVec 32 := Scalar.subi v86 v88
  let v90 : BitVec 1 := Scalar.cmpi .ne v84 v89
  let v91 : BitVec 32 := Scalar.remsi v25 c2_i32
  let c0_i32_40 : BitVec 32 := 0#32
  let v92 : BitVec 1 := Scalar.cmpi .ne v91 c0_i32_40
  let v93 : BitVec 1 := Scalar.andi v90 v92
  let v79 : BitVec 32 := Scalar.divsi v25 c2_i32
  let c1_i32_41 : BitVec 32 := 1#32
  let v94 : BitVec 32 := Scalar.subi v79 c1_i32_41
  let v95 : BitVec 32 := Scalar.select v93 v94 v79
  let v96 : BitVec 32 := Scalar.subi v95 c0_i32_42
  let c1_i32_43 : BitVec 32 := 1#32
  let v98 : BitVec 32 := Scalar.divsi v96 c1_i32_43
  let v99 : BitVec 32 := Scalar.muli v98 c1_i32_43
  let v100 : BitVec 32 := Scalar.addi c0_i32_42 v99
  let c1_i32_45 : BitVec 32 := 1#32
  let arg13 : BitVec 32 := Scf.iv v100 c1_i32_45 k0_t2
  let v171 : BitVec 32 := Scalar.muli c2_i32_83 arg13
  let v172 : BitVec 32 := Scalar.subi v170 v171
  let c512_i32_84 : BitVec 32 := 512#32
  let v173 : BitVec 32 := Scalar.muli v172 c512_i32_84
  let v174 : BitVec 32 := v173
  let v175 : Index := Scalar.indexCast v174
  let c0_85 : Index := 0#32
  ![v175.toNat, 0]
def k0_off8 (i : grid0.Coords) (k0_t2 : Fin (k0_t2_loop i).trips) (c0_i32_100 : BitVec 32) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_82 : BitVec 32 := 2#32
  let v170 : BitVec 32 := Scalar.subi v25 c2_i32_82
  let c2_i32_83 : BitVec 32 := 2#32
  let c0_i32_42 : BitVec 32 := 0#32
  let c0_i32_36 : BitVec 32 := 0#32
  let v80 : BitVec 1 := Scalar.cmpi .sgt v25 c0_i32_36
  let v81 : BitVec 32 := Scalar.extui v80
  let c0_i32_37 : BitVec 32 := 0#32
  let v82 : BitVec 1 := Scalar.cmpi .slt v25 c0_i32_37
  let v83 : BitVec 32 := Scalar.extui v82
  let v84 : BitVec 32 := Scalar.subi v81 v83
  let c2_i32 : BitVec 32 := 2#32
  let c0_i32_38 : BitVec 32 := 0#32
  let v85 : BitVec 1 := Scalar.cmpi .sgt c2_i32 c0_i32_38
  let v86 : BitVec 32 := Scalar.extui v85
  let c0_i32_39 : BitVec 32 := 0#32
  let v87 : BitVec 1 := Scalar.cmpi .slt c2_i32 c0_i32_39
  let v88 : BitVec 32 := Scalar.extui v87
  let v89 : BitVec 32 := Scalar.subi v86 v88
  let v90 : BitVec 1 := Scalar.cmpi .ne v84 v89
  let v91 : BitVec 32 := Scalar.remsi v25 c2_i32
  let c0_i32_40 : BitVec 32 := 0#32
  let v92 : BitVec 1 := Scalar.cmpi .ne v91 c0_i32_40
  let v93 : BitVec 1 := Scalar.andi v90 v92
  let v79 : BitVec 32 := Scalar.divsi v25 c2_i32
  let c1_i32_41 : BitVec 32 := 1#32
  let v94 : BitVec 32 := Scalar.subi v79 c1_i32_41
  let v95 : BitVec 32 := Scalar.select v93 v94 v79
  let v96 : BitVec 32 := Scalar.subi v95 c0_i32_42
  let c1_i32_43 : BitVec 32 := 1#32
  let v98 : BitVec 32 := Scalar.divsi v96 c1_i32_43
  let v99 : BitVec 32 := Scalar.muli v98 c1_i32_43
  let v100 : BitVec 32 := Scalar.addi c0_i32_42 v99
  let c1_i32_45 : BitVec 32 := 1#32
  let arg13 : BitVec 32 := Scf.iv v100 c1_i32_45 k0_t2
  let v171 : BitVec 32 := Scalar.muli c2_i32_83 arg13
  let v172 : BitVec 32 := Scalar.subi v170 v171
  let v241 : BitVec 32 := Scalar.addi v172 c0_i32_100
  let v242 : Index := Scalar.indexCast v241
  let c0_101 : Index := 0#32
  let c0_102 : Index := 0#32
  ![v242.toNat, 0, 0]
def k0_cond4 (i : grid0.Coords) : BitVec 1 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v25 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let c1_i32_52 : BitVec 32 := 1#32
  let v113 : BitVec 1 := Scalar.cmpi .eq v112 c1_i32_52
  let v114 : BitVec 32 := Scalar.extui v113
  let c0_i32_53 : BitVec 32 := 0#32
  let v115 : BitVec 1 := Scalar.cmpi .ne v114 c0_i32_53
  v115

def k0_mult5 : BitVec 32 :=
  let c0_i32_82 : BitVec 32 := 0#32
  c0_i32_82
def k0_cond5 (i : grid0.Coords) : BitVec 1 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c1_i32_62 : BitVec 32 := 1#32
  let v128 : BitVec 1 := Scalar.cmpi .eq v127 c1_i32_62
  let v129 : BitVec 32 := Scalar.extui v128
  let c0_i32_63 : BitVec 32 := 0#32
  let v130 : BitVec 1 := Scalar.cmpi .ne v129 c0_i32_63
  v130

def k0_mult6 : BitVec 32 :=
  let c0_i32_92 : BitVec 32 := 0#32
  c0_i32_92
def k0_mult7 : BitVec 32 :=
  let c0_i32_96 : BitVec 32 := 0#32
  c0_i32_96
@[reducible] def k0_t3_loop (i : grid0.Coords) : Scf.Loop 32 :=
  let c0_i32_71 : BitVec 32 := 0#32
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c0_i32_65 : BitVec 32 := 0#32
  let v133 : BitVec 1 := Scalar.cmpi .sgt v25 c0_i32_65
  let v134 : BitVec 32 := Scalar.extui v133
  let c0_i32_66 : BitVec 32 := 0#32
  let v135 : BitVec 1 := Scalar.cmpi .slt v25 c0_i32_66
  let v136 : BitVec 32 := Scalar.extui v135
  let v137 : BitVec 32 := Scalar.subi v134 v136
  let c2_i32_64 : BitVec 32 := 2#32
  let c0_i32_67 : BitVec 32 := 0#32
  let v138 : BitVec 1 := Scalar.cmpi .sgt c2_i32_64 c0_i32_67
  let v139 : BitVec 32 := Scalar.extui v138
  let c0_i32_68 : BitVec 32 := 0#32
  let v140 : BitVec 1 := Scalar.cmpi .slt c2_i32_64 c0_i32_68
  let v141 : BitVec 32 := Scalar.extui v140
  let v142 : BitVec 32 := Scalar.subi v139 v141
  let v143 : BitVec 1 := Scalar.cmpi .ne v137 v142
  let v144 : BitVec 32 := Scalar.remsi v25 c2_i32_64
  let c0_i32_69 : BitVec 32 := 0#32
  let v145 : BitVec 1 := Scalar.cmpi .ne v144 c0_i32_69
  let v146 : BitVec 1 := Scalar.andi v143 v145
  let v132 : BitVec 32 := Scalar.divsi v25 c2_i32_64
  let c1_i32_70 : BitVec 32 := 1#32
  let v147 : BitVec 32 := Scalar.subi v132 c1_i32_70
  let v148 : BitVec 32 := Scalar.select v146 v147 v132
  let v149 : BitVec 32 := Scalar.subi v148 c0_i32_71
  let c1_i32_72 : BitVec 32 := 1#32
  let v151 : BitVec 32 := Scalar.divsi v149 c1_i32_72
  let v152 : BitVec 32 := Scalar.muli v151 c1_i32_72
  let v153 : BitVec 32 := Scalar.addi c0_i32_71 v152
  let c1_i32_73 : BitVec 32 := 1#32
  ⟨c0_i32_71, v153, c1_i32_73⟩
def k0_off9 (i : grid0.Coords) (k0_t3 : Fin (k0_t3_loop i).trips) (c0_i32_83 : BitVec 32) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c1_i32_73 : BitVec 32 := 1#32
  let arg13 : BitVec 32 := Scf.iv c0_i32_71 c1_i32_73 k0_t3
  let v170 : BitVec 32 := Scalar.muli c2_i32_82 arg13
  let v171 : BitVec 32 := Scalar.addi v127 v170
  let v172 : BitVec 32 := Scalar.addi v171 c0_i32_83
  let v173 : Index := Scalar.indexCast v172
  let c0_84 : Index := 0#32
  let c0_85 : Index := 0#32
  ![v173.toNat, 0, 0]
def k0_mult8 (i : grid0.Coords) (k0_t3 : Fin (k0_t3_loop i).trips) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c1_i32_73 : BitVec 32 := 1#32
  let arg13 : BitVec 32 := Scf.iv c0_i32_71 c1_i32_73 k0_t3
  let v170 : BitVec 32 := Scalar.muli c2_i32_82 arg13
  let v171 : BitVec 32 := Scalar.addi v127 v170
  let c512_i32_103 : BitVec 32 := 512#32
  let v238 : BitVec 32 := Scalar.muli v171 c512_i32_103
  v238
def k0_off10 (i : grid0.Coords) (k0_t3 : Fin (k0_t3_loop i).trips) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c1_i32_73 : BitVec 32 := 1#32
  let arg13 : BitVec 32 := Scf.iv c0_i32_71 c1_i32_73 k0_t3
  let v170 : BitVec 32 := Scalar.muli c2_i32_82 arg13
  let v171 : BitVec 32 := Scalar.addi v127 v170
  let c512_i32_103 : BitVec 32 := 512#32
  let v238 : BitVec 32 := Scalar.muli v171 c512_i32_103
  let v239 : BitVec 32 := v238
  let v240 : Index := Scalar.indexCast v239
  let c0_104 : Index := 0#32
  ![v240.toNat, 0]
def k0_mult9 (i : grid0.Coords) (k0_t3 : Fin (k0_t3_loop i).trips) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c1_i32_73 : BitVec 32 := 1#32
  let arg13 : BitVec 32 := Scf.iv c0_i32_71 c1_i32_73 k0_t3
  let v170 : BitVec 32 := Scalar.muli c2_i32_82 arg13
  let v171 : BitVec 32 := Scalar.addi v127 v170
  let c512_i32_107 : BitVec 32 := 512#32
  let v248 : BitVec 32 := Scalar.muli v171 c512_i32_107
  v248
@[reducible] def k0_t4_loop (i : grid0.Coords) : Scf.Loop 32 :=
  let c0_i32_71 : BitVec 32 := 0#32
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c0_i32_65 : BitVec 32 := 0#32
  let v133 : BitVec 1 := Scalar.cmpi .sgt v25 c0_i32_65
  let v134 : BitVec 32 := Scalar.extui v133
  let c0_i32_66 : BitVec 32 := 0#32
  let v135 : BitVec 1 := Scalar.cmpi .slt v25 c0_i32_66
  let v136 : BitVec 32 := Scalar.extui v135
  let v137 : BitVec 32 := Scalar.subi v134 v136
  let c2_i32_64 : BitVec 32 := 2#32
  let c0_i32_67 : BitVec 32 := 0#32
  let v138 : BitVec 1 := Scalar.cmpi .sgt c2_i32_64 c0_i32_67
  let v139 : BitVec 32 := Scalar.extui v138
  let c0_i32_68 : BitVec 32 := 0#32
  let v140 : BitVec 1 := Scalar.cmpi .slt c2_i32_64 c0_i32_68
  let v141 : BitVec 32 := Scalar.extui v140
  let v142 : BitVec 32 := Scalar.subi v139 v141
  let v143 : BitVec 1 := Scalar.cmpi .ne v137 v142
  let v144 : BitVec 32 := Scalar.remsi v25 c2_i32_64
  let c0_i32_69 : BitVec 32 := 0#32
  let v145 : BitVec 1 := Scalar.cmpi .ne v144 c0_i32_69
  let v146 : BitVec 1 := Scalar.andi v143 v145
  let v132 : BitVec 32 := Scalar.divsi v25 c2_i32_64
  let c1_i32_70 : BitVec 32 := 1#32
  let v147 : BitVec 32 := Scalar.subi v132 c1_i32_70
  let v148 : BitVec 32 := Scalar.select v146 v147 v132
  let v149 : BitVec 32 := Scalar.subi v148 c0_i32_71
  let c1_i32_72 : BitVec 32 := 1#32
  let v151 : BitVec 32 := Scalar.divsi v149 c1_i32_72
  let v152 : BitVec 32 := Scalar.muli v151 c1_i32_72
  let v153 : BitVec 32 := Scalar.addi c0_i32_71 v152
  let v150 : BitVec 32 := Scalar.addi c0_i32_71 v149
  let c1_i32_74 : BitVec 32 := 1#32
  ⟨v153, v150, c1_i32_74⟩
def k0_off11 (i : grid0.Coords) (k0_t4 : Fin (k0_t4_loop i).trips) (c0_i32_83 : BitVec 32) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c0_i32_65 : BitVec 32 := 0#32
  let v133 : BitVec 1 := Scalar.cmpi .sgt v25 c0_i32_65
  let v134 : BitVec 32 := Scalar.extui v133
  let c0_i32_66 : BitVec 32 := 0#32
  let v135 : BitVec 1 := Scalar.cmpi .slt v25 c0_i32_66
  let v136 : BitVec 32 := Scalar.extui v135
  let v137 : BitVec 32 := Scalar.subi v134 v136
  let c2_i32_64 : BitVec 32 := 2#32
  let c0_i32_67 : BitVec 32 := 0#32
  let v138 : BitVec 1 := Scalar.cmpi .sgt c2_i32_64 c0_i32_67
  let v139 : BitVec 32 := Scalar.extui v138
  let c0_i32_68 : BitVec 32 := 0#32
  let v140 : BitVec 1 := Scalar.cmpi .slt c2_i32_64 c0_i32_68
  let v141 : BitVec 32 := Scalar.extui v140
  let v142 : BitVec 32 := Scalar.subi v139 v141
  let v143 : BitVec 1 := Scalar.cmpi .ne v137 v142
  let v144 : BitVec 32 := Scalar.remsi v25 c2_i32_64
  let c0_i32_69 : BitVec 32 := 0#32
  let v145 : BitVec 1 := Scalar.cmpi .ne v144 c0_i32_69
  let v146 : BitVec 1 := Scalar.andi v143 v145
  let v132 : BitVec 32 := Scalar.divsi v25 c2_i32_64
  let c1_i32_70 : BitVec 32 := 1#32
  let v147 : BitVec 32 := Scalar.subi v132 c1_i32_70
  let v148 : BitVec 32 := Scalar.select v146 v147 v132
  let v149 : BitVec 32 := Scalar.subi v148 c0_i32_71
  let c1_i32_72 : BitVec 32 := 1#32
  let v151 : BitVec 32 := Scalar.divsi v149 c1_i32_72
  let v152 : BitVec 32 := Scalar.muli v151 c1_i32_72
  let v153 : BitVec 32 := Scalar.addi c0_i32_71 v152
  let c1_i32_74 : BitVec 32 := 1#32
  let arg13 : BitVec 32 := Scf.iv v153 c1_i32_74 k0_t4
  let v170 : BitVec 32 := Scalar.muli c2_i32_82 arg13
  let v171 : BitVec 32 := Scalar.addi v127 v170
  let v172 : BitVec 32 := Scalar.addi v171 c0_i32_83
  let v173 : Index := Scalar.indexCast v172
  let c0_84 : Index := 0#32
  let c0_85 : Index := 0#32
  ![v173.toNat, 0, 0]
def k0_mult10 (i : grid0.Coords) (k0_t4 : Fin (k0_t4_loop i).trips) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c0_i32_65 : BitVec 32 := 0#32
  let v133 : BitVec 1 := Scalar.cmpi .sgt v25 c0_i32_65
  let v134 : BitVec 32 := Scalar.extui v133
  let c0_i32_66 : BitVec 32 := 0#32
  let v135 : BitVec 1 := Scalar.cmpi .slt v25 c0_i32_66
  let v136 : BitVec 32 := Scalar.extui v135
  let v137 : BitVec 32 := Scalar.subi v134 v136
  let c2_i32_64 : BitVec 32 := 2#32
  let c0_i32_67 : BitVec 32 := 0#32
  let v138 : BitVec 1 := Scalar.cmpi .sgt c2_i32_64 c0_i32_67
  let v139 : BitVec 32 := Scalar.extui v138
  let c0_i32_68 : BitVec 32 := 0#32
  let v140 : BitVec 1 := Scalar.cmpi .slt c2_i32_64 c0_i32_68
  let v141 : BitVec 32 := Scalar.extui v140
  let v142 : BitVec 32 := Scalar.subi v139 v141
  let v143 : BitVec 1 := Scalar.cmpi .ne v137 v142
  let v144 : BitVec 32 := Scalar.remsi v25 c2_i32_64
  let c0_i32_69 : BitVec 32 := 0#32
  let v145 : BitVec 1 := Scalar.cmpi .ne v144 c0_i32_69
  let v146 : BitVec 1 := Scalar.andi v143 v145
  let v132 : BitVec 32 := Scalar.divsi v25 c2_i32_64
  let c1_i32_70 : BitVec 32 := 1#32
  let v147 : BitVec 32 := Scalar.subi v132 c1_i32_70
  let v148 : BitVec 32 := Scalar.select v146 v147 v132
  let v149 : BitVec 32 := Scalar.subi v148 c0_i32_71
  let c1_i32_72 : BitVec 32 := 1#32
  let v151 : BitVec 32 := Scalar.divsi v149 c1_i32_72
  let v152 : BitVec 32 := Scalar.muli v151 c1_i32_72
  let v153 : BitVec 32 := Scalar.addi c0_i32_71 v152
  let c1_i32_74 : BitVec 32 := 1#32
  let arg13 : BitVec 32 := Scf.iv v153 c1_i32_74 k0_t4
  let v170 : BitVec 32 := Scalar.muli c2_i32_82 arg13
  let v171 : BitVec 32 := Scalar.addi v127 v170
  let c512_i32_103 : BitVec 32 := 512#32
  let v238 : BitVec 32 := Scalar.muli v171 c512_i32_103
  v238
def k0_off12 (i : grid0.Coords) (k0_t4 : Fin (k0_t4_loop i).trips) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c0_i32_65 : BitVec 32 := 0#32
  let v133 : BitVec 1 := Scalar.cmpi .sgt v25 c0_i32_65
  let v134 : BitVec 32 := Scalar.extui v133
  let c0_i32_66 : BitVec 32 := 0#32
  let v135 : BitVec 1 := Scalar.cmpi .slt v25 c0_i32_66
  let v136 : BitVec 32 := Scalar.extui v135
  let v137 : BitVec 32 := Scalar.subi v134 v136
  let c2_i32_64 : BitVec 32 := 2#32
  let c0_i32_67 : BitVec 32 := 0#32
  let v138 : BitVec 1 := Scalar.cmpi .sgt c2_i32_64 c0_i32_67
  let v139 : BitVec 32 := Scalar.extui v138
  let c0_i32_68 : BitVec 32 := 0#32
  let v140 : BitVec 1 := Scalar.cmpi .slt c2_i32_64 c0_i32_68
  let v141 : BitVec 32 := Scalar.extui v140
  let v142 : BitVec 32 := Scalar.subi v139 v141
  let v143 : BitVec 1 := Scalar.cmpi .ne v137 v142
  let v144 : BitVec 32 := Scalar.remsi v25 c2_i32_64
  let c0_i32_69 : BitVec 32 := 0#32
  let v145 : BitVec 1 := Scalar.cmpi .ne v144 c0_i32_69
  let v146 : BitVec 1 := Scalar.andi v143 v145
  let v132 : BitVec 32 := Scalar.divsi v25 c2_i32_64
  let c1_i32_70 : BitVec 32 := 1#32
  let v147 : BitVec 32 := Scalar.subi v132 c1_i32_70
  let v148 : BitVec 32 := Scalar.select v146 v147 v132
  let v149 : BitVec 32 := Scalar.subi v148 c0_i32_71
  let c1_i32_72 : BitVec 32 := 1#32
  let v151 : BitVec 32 := Scalar.divsi v149 c1_i32_72
  let v152 : BitVec 32 := Scalar.muli v151 c1_i32_72
  let v153 : BitVec 32 := Scalar.addi c0_i32_71 v152
  let c1_i32_74 : BitVec 32 := 1#32
  let arg13 : BitVec 32 := Scf.iv v153 c1_i32_74 k0_t4
  let v170 : BitVec 32 := Scalar.muli c2_i32_82 arg13
  let v171 : BitVec 32 := Scalar.addi v127 v170
  let c512_i32_103 : BitVec 32 := 512#32
  let v238 : BitVec 32 := Scalar.muli v171 c512_i32_103
  let v239 : BitVec 32 := v238
  let v240 : Index := Scalar.indexCast v239
  let c0_104 : Index := 0#32
  ![v240.toNat, 0]
def k0_mult11 (i : grid0.Coords) (k0_t4 : Fin (k0_t4_loop i).trips) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v25 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c2_i32_82 : BitVec 32 := 2#32
  let c0_i32_71 : BitVec 32 := 0#32
  let c0_i32_65 : BitVec 32 := 0#32
  let v133 : BitVec 1 := Scalar.cmpi .sgt v25 c0_i32_65
  let v134 : BitVec 32 := Scalar.extui v133
  let c0_i32_66 : BitVec 32 := 0#32
  let v135 : BitVec 1 := Scalar.cmpi .slt v25 c0_i32_66
  let v136 : BitVec 32 := Scalar.extui v135
  let v137 : BitVec 32 := Scalar.subi v134 v136
  let c2_i32_64 : BitVec 32 := 2#32
  let c0_i32_67 : BitVec 32 := 0#32
  let v138 : BitVec 1 := Scalar.cmpi .sgt c2_i32_64 c0_i32_67
  let v139 : BitVec 32 := Scalar.extui v138
  let c0_i32_68 : BitVec 32 := 0#32
  let v140 : BitVec 1 := Scalar.cmpi .slt c2_i32_64 c0_i32_68
  let v141 : BitVec 32 := Scalar.extui v140
  let v142 : BitVec 32 := Scalar.subi v139 v141
  let v143 : BitVec 1 := Scalar.cmpi .ne v137 v142
  let v144 : BitVec 32 := Scalar.remsi v25 c2_i32_64
  let c0_i32_69 : BitVec 32 := 0#32
  let v145 : BitVec 1 := Scalar.cmpi .ne v144 c0_i32_69
  let v146 : BitVec 1 := Scalar.andi v143 v145
  let v132 : BitVec 32 := Scalar.divsi v25 c2_i32_64
  let c1_i32_70 : BitVec 32 := 1#32
  let v147 : BitVec 32 := Scalar.subi v132 c1_i32_70
  let v148 : BitVec 32 := Scalar.select v146 v147 v132
  let v149 : BitVec 32 := Scalar.subi v148 c0_i32_71
  let c1_i32_72 : BitVec 32 := 1#32
  let v151 : BitVec 32 := Scalar.divsi v149 c1_i32_72
  let v152 : BitVec 32 := Scalar.muli v151 c1_i32_72
  let v153 : BitVec 32 := Scalar.addi c0_i32_71 v152
  let c1_i32_74 : BitVec 32 := 1#32
  let arg13 : BitVec 32 := Scf.iv v153 c1_i32_74 k0_t4
  let v170 : BitVec 32 := Scalar.muli c2_i32_82 arg13
  let v171 : BitVec 32 := Scalar.addi v127 v170
  let c512_i32_107 : BitVec 32 := 512#32
  let v248 : BitVec 32 := Scalar.muli v171 c512_i32_107
  v248
def k0_cond6 (i : grid0.Coords) : BitVec 1 :=
  let arg1 : BitVec 32 := BitVec.ofNat 32 (i 1).val
  let c256_i32_25 : BitVec 32 := 256#32
  let v61 : BitVec 32 := Scalar.muli arg1 c256_i32_25
  let c512_i32_26 : BitVec 32 := 512#32
  let c0_i32_27 : BitVec 32 := 0#32
  let v62 : BitVec 1 := Scalar.cmpi .eq c512_i32_26 c0_i32_27
  let c1_i32_28 : BitVec 32 := 1#32
  let v63 : BitVec 32 := Scalar.select v62 c1_i32_28 c512_i32_26
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let c256_i32_32 : BitVec 32 := 256#32
  let v72 : BitVec 32 := Scalar.addi v71 c256_i32_32
  let c256_i32_33 : BitVec 32 := 256#32
  let v73 : BitVec 1 := Scalar.cmpi .sle v72 c256_i32_33
  let v156 : BitVec 32 := Scalar.extui v73
  let c0_i32_75 : BitVec 32 := 0#32
  let v157 : BitVec 1 := Scalar.cmpi .ne v156 c0_i32_75
  v157

def k0_off13 (i : grid0.Coords) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let v170 : Index := Scalar.indexCast v25
  let c0_82 : Index := 0#32
  let c0_83 : Index := 0#32
  ![v170.toNat, 0, 0]
def k0_mult12 (i : grid0.Coords) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_88 : BitVec 32 := 512#32
  let v190 : BitVec 32 := Scalar.muli v25 c512_i32_88
  v190
def k0_off14 (i : grid0.Coords) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_88 : BitVec 32 := 512#32
  let v190 : BitVec 32 := Scalar.muli v25 c512_i32_88
  let v191 : BitVec 32 := v190
  let v192 : Index := Scalar.indexCast v191
  let c0_89 : Index := 0#32
  ![v192.toNat, 0]
def k0_mult13 (i : grid0.Coords) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_92 : BitVec 32 := 512#32
  let v199 : BitVec 32 := Scalar.muli v25 c512_i32_92
  v199
def k0_off15 (i : grid0.Coords) : Fin 3 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c0_i32_82 : BitVec 32 := 0#32
  let v170 : BitVec 32 := Scalar.addi v25 c0_i32_82
  let v171 : Index := Scalar.indexCast v170
  let c0_83 : Index := 0#32
  let c0_84 : Index := 0#32
  ![v171.toNat, 0, 0]
def k0_mult14 (i : grid0.Coords) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_92 : BitVec 32 := 512#32
  let v204 : BitVec 32 := Scalar.muli v25 c512_i32_92
  v204
def k0_off16 (i : grid0.Coords) : Fin 2 → Nat :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_92 : BitVec 32 := 512#32
  let v204 : BitVec 32 := Scalar.muli v25 c512_i32_92
  let v205 : BitVec 32 := v204
  let v206 : Index := Scalar.indexCast v205
  let c0_93 : Index := 0#32
  ![v206.toNat, 0]
def k0_mult15 (i : grid0.Coords) : BitVec 32 :=
  let arg1 : BitVec 32 := BitVec.ofNat 32 (i 1).val
  let c256_i32 : BitVec 32 := 256#32
  let v8 : BitVec 32 := Scalar.muli arg1 c256_i32
  let c0_i32 : BitVec 32 := 0#32
  let v10 : BitVec 1 := Scalar.cmpi .sgt v8 c0_i32
  let v11 : BitVec 32 := Scalar.extui v10
  let c0_i32_0 : BitVec 32 := 0#32
  let v12 : BitVec 1 := Scalar.cmpi .slt v8 c0_i32_0
  let v13 : BitVec 32 := Scalar.extui v12
  let v14 : BitVec 32 := Scalar.subi v11 v13
  let c512_i32 : BitVec 32 := 512#32
  let c0_i32_1 : BitVec 32 := 0#32
  let v15 : BitVec 1 := Scalar.cmpi .sgt c512_i32 c0_i32_1
  let v16 : BitVec 32 := Scalar.extui v15
  let c0_i32_2 : BitVec 32 := 0#32
  let v17 : BitVec 1 := Scalar.cmpi .slt c512_i32 c0_i32_2
  let v18 : BitVec 32 := Scalar.extui v17
  let v19 : BitVec 32 := Scalar.subi v16 v18
  let v20 : BitVec 1 := Scalar.cmpi .ne v14 v19
  let v21 : BitVec 32 := Scalar.remsi v8 c512_i32
  let c0_i32_3 : BitVec 32 := 0#32
  let v22 : BitVec 1 := Scalar.cmpi .ne v21 c0_i32_3
  let v23 : BitVec 1 := Scalar.andi v20 v22
  let v9 : BitVec 32 := Scalar.divsi v8 c512_i32
  let c1_i32_4 : BitVec 32 := 1#32
  let v24 : BitVec 32 := Scalar.subi v9 c1_i32_4
  let v25 : BitVec 32 := Scalar.select v23 v24 v9
  let c512_i32_96 : BitVec 32 := 512#32
  let v213 : BitVec 32 := Scalar.muli v25 c512_i32_96
  v213
def k0_cond7 (i : grid0.Coords) : BitVec 1 :=
  let arg2 : BitVec 32 := BitVec.ofNat 32 (i 2).val
  let c0_i32_78 : BitVec 32 := 0#32
  let v164 : BitVec 1 := Scalar.cmpi .eq arg2 c0_i32_78
  let v165 : BitVec 32 := Scalar.extui v164
  let c0_i32_79 : BitVec 32 := 0#32
  let v166 : BitVec 1 := Scalar.cmpi .ne v165 c0_i32_79
  v166

def k0_cond8 (i : grid0.Coords) : BitVec 1 :=
  let arg2 : BitVec 32 := BitVec.ofNat 32 (i 2).val
  let c1_i32_80 : BitVec 32 := 1#32
  let v167 : BitVec 1 := Scalar.cmpi .eq arg2 c1_i32_80
  let v168 : BitVec 32 := Scalar.extui v167
  let c0_i32_81 : BitVec 32 := 0#32
  let v169 : BitVec 1 := Scalar.cmpi .ne v168 c0_i32_81
  v169

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S8192x1536 : Shape := ⟨2, ![8192, 1536]⟩
abbrev S8192x1024 : Shape := ⟨2, ![8192, 1024]⟩
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 132
  | .vmem => 0
  | .smem => 0
  | _ => 0

abbrev hbmTy0_0 (i : Nat) : BufTy := match i % 128 with
  | 0 => ⟨S8192x1536, .bf16⟩
  | 1 => ⟨S8192x1024, .f32⟩
  | 2 => ⟨S8192x512, .bf16⟩
  | 3 => ⟨S8192x512, .f32⟩
  | 4 => ⟨S8192x512, .bf16⟩
  | 5 => ⟨S8192x512, .f32⟩
  | 6 => ⟨S8192x512, .bf16⟩
  | 7 => ⟨S8192x512, .f32⟩
  | 8 => ⟨S8192x8x64, .f32⟩
  | 9 => ⟨S8x8192x64, .f32⟩
  | 10 => ⟨S8192x8x64, .f32⟩
  | 11 => ⟨S8x8192x64, .f32⟩
  | 12 => ⟨S8192x8x64, .f32⟩
  | 13 => ⟨S8x8192x64, .f32⟩
  | 14 => ⟨S8x8192x8192, .f32⟩
  | 15 => ⟨S_, .f32⟩
  | 16 => ⟨S8x8192x8192, .f32⟩
  | 17 => ⟨S8x8192x8192, .f32⟩
  | 18 => ⟨S8192, .i32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S8x8192x8192, .f32⟩
  | 25 => ⟨S_, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .i1⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S_, .f32⟩
  | 40 => ⟨S8x8192x8192, .f32⟩
  | 41 => ⟨S8x8192x8192, .i1⟩
  | 42 => ⟨S_, .f32⟩
  | 43 => ⟨S8x8192x8192, .f32⟩
  | 44 => ⟨S8x8192x8192, .f32⟩
  | 45 => ⟨S_, .f32⟩
  | 46 => ⟨S8x8192x8192, .f32⟩
  | 47 => ⟨S8x8192x8192, .i1⟩
  | 48 => ⟨S_, .f32⟩
  | 49 => ⟨S8x8192x8192, .f32⟩
  | 50 => ⟨S8x8192x8192, .f32⟩
  | 51 => ⟨S8x8192x8192, .f32⟩
  | 52 => ⟨S8x8192x8192, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x8192x8192, .f32⟩
  | 61 => ⟨S8x8192x8192, .i1⟩
  | 62 => ⟨S_, .f32⟩
  | 63 => ⟨S8x8192x8192, .f32⟩
  | 64 => ⟨S8x8192x8192, .f32⟩
  | 65 => ⟨S8x8192x8192, .f32⟩
  | 66 => ⟨S8x8192x8192, .f32⟩
  | 67 => ⟨S8x8192x8192, .f32⟩
  | 68 => ⟨S_, .f32⟩
  | 69 => ⟨S8x8192x8192, .f32⟩
  | 70 => ⟨S8x8192x8192, .f32⟩
  | 71 => ⟨S8x8192x8192, .f32⟩
  | 72 => ⟨S8x8192x8192, .f32⟩
  | 73 => ⟨S_, .f32⟩
  | 74 => ⟨S_, .f32⟩
  | 75 => ⟨S8x8192x8192, .i1⟩
  | 76 => ⟨S8x8192x8192, .f32⟩
  | 77 => ⟨S8x8192x8192, .f32⟩
  | 78 => ⟨S_, .f32⟩
  | 79 => ⟨S8x8192x8192, .f32⟩
  | 80 => ⟨S_, .f32⟩
  | 81 => ⟨S_, .f32⟩
  | 82 => ⟨S8x8192x8192, .f32⟩
  | 83 => ⟨S8x8192x8192, .f32⟩
  | 84 => ⟨S8x8192x8192, .f32⟩
  | 85 => ⟨S8x8192x8192, .f32⟩
  | 86 => ⟨S_, .f32⟩
  | 87 => ⟨S_, .f32⟩
  | 88 => ⟨S8x8192x8192, .i1⟩
  | 89 => ⟨S8x8192x8192, .f32⟩
  | 90 => ⟨S8x8192x8192, .f32⟩
  | 91 => ⟨S_, .f32⟩
  | 92 => ⟨S8x8192x8192, .f32⟩
  | 93 => ⟨S8x8192x64, .f32⟩
  | 94 => ⟨S8192x8x64, .f32⟩
  | 95 => ⟨S8192x512, .f32⟩
  | 96 => ⟨S8192x512, .f32⟩
  | 97 => ⟨S8192x8x64, .f32⟩
  | 98 => ⟨S8x8192x64, .f32⟩
  | 99 => ⟨S8x64x8192, .f32⟩
  | 100 => ⟨S8x8192x64, .f32⟩
  | 101 => ⟨S8x8192x8192, .f32⟩
  | 102 => ⟨S_, .f32⟩
  | 103 => ⟨S8x8192x8192, .f32⟩
  | 104 => ⟨S8x8192x8192, .f32⟩
  | 105 => ⟨S8x8192x8192, .f32⟩
  | 106 => ⟨S8x8192x8192, .f32⟩
  | 107 => ⟨S_, .f32⟩
  | 108 => ⟨S_, .f32⟩
  | 109 => ⟨S8x8192x8192, .f32⟩
  | 110 => ⟨S8x8192x8192, .f32⟩
  | 111 => ⟨S_, .f32⟩
  | 112 => ⟨S8x8192x8192, .f32⟩
  | 113 => ⟨S8x8192x8192, .f32⟩
  | 114 => ⟨S8x8192x8192, .f32⟩
  | 115 => ⟨S8x8192x8192, .f32⟩
  | 116 => ⟨S8x8192x8192, .f32⟩
  | 117 => ⟨S8x8192x8192, .f32⟩
  | 118 => ⟨S8x8192x8192, .f32⟩
  | 119 => ⟨S8x8192x8192, .f32⟩
  | 120 => ⟨S_, .f32⟩
  | 121 => ⟨S8x8192x8192, .f32⟩
  | 122 => ⟨S8x8192x8192, .f32⟩
  | 123 => ⟨S8x8192x64, .f32⟩
  | 124 => ⟨S8x8192x64, .f32⟩
  | 125 => ⟨S8192x8x64, .f32⟩
  | 126 => ⟨S8192x512, .f32⟩
  | 127 => ⟨S8192x8x64, .f32⟩
  | _ => ⟨S8192x1536, .bf16⟩

abbrev hbmTy0_1 (i : Nat) : BufTy := match i % 128 with
  | 0 => ⟨S8192x512, .f32⟩
  | 1 => ⟨S8192x8x64, .f32⟩
  | 2 => ⟨S8192x512, .f32⟩
  | 3 => ⟨S8192x512, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_v22 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_1 : Ref sig .tc := ⟨.hbm, 86, rfl⟩
abbrev main_call3_v0 : Ref sig .tc := ⟨.hbm, 87, rfl⟩
abbrev main_v28_1 : Ref sig .tc := ⟨.hbm, 88, rfl⟩
abbrev main_call3_v2 : Ref sig .tc := ⟨.hbm, 89, rfl⟩
abbrev main_v28_0 : Ref sig .tc := ⟨.hbm, 90, rfl⟩
abbrev main_call3_cst : Ref sig .tc := ⟨.hbm, 91, rfl⟩
abbrev main_v28_2 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_call4_cst : Ref sig .tc := ⟨.hbm, 102, rfl⟩
abbrev main_call4_v0 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call5_cst : Ref sig .tc := ⟨.hbm, 107, rfl⟩
abbrev main_call5_v0 : Ref sig .tc := ⟨.hbm, 108, rfl⟩
abbrev main_v41 : Ref sig .tc := ⟨.hbm, 109, rfl⟩
abbrev main_v42 : Ref sig .tc := ⟨.hbm, 110, rfl⟩
abbrev main_call6_cst : Ref sig .tc := ⟨.hbm, 111, rfl⟩
abbrev main_call6_v0 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_call7_v0 : Ref sig .tc := ⟨.hbm, 116, rfl⟩
abbrev main_call7_v1 : Ref sig .tc := ⟨.hbm, 117, rfl⟩
abbrev main_v46 : Ref sig .tc := ⟨.hbm, 118, rfl⟩
abbrev main_v47 : Ref sig .tc := ⟨.hbm, 119, rfl⟩
abbrev main_cst_2 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩

abbrev nD : Nat := 1
abbrev τ : Topo := Topo.v7x

variable {F : FTy → Type} [FloatOps F]
-- ==== DownW.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpW.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S4x2x1024x1024 : Shape := ⟨4, ![4, 2, 1024, 1024]⟩
abbrev S8192x4096 : Shape := ⟨2, ![8192, 4096]⟩
abbrev S1024x1024 : Shape := ⟨2, ![1024, 1024]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S4x1x1024x1024, .bf16⟩
  | .hbm, ⟨3, _⟩ => ⟨S4x1024x1024, .bf16⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DownAct.lean ====
abbrev S8192x1024 : Shape := ⟨2, ![8192, 1024]⟩
abbrev S4x2x1024x1024 : Shape := ⟨4, ![4, 2, 1024, 1024]⟩
abbrev S8192x4096 : Shape := ⟨2, ![8192, 4096]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownActRefIdeal.lean ====
abbrev S8192x1024 : Shape := ⟨2, ![8192, 1024]⟩
abbrev S4x2x1024x1024 : Shape := ⟨4, ![4, 2, 1024, 1024]⟩
abbrev S8192x4096 : Shape := ⟨2, ![8192, 4096]⟩
abbrev S4x1x1024x1024 : Shape := ⟨4, ![4, 1, 1024, 1024]⟩
abbrev S4x1024x1024 : Shape := ⟨3, ![4, 1024, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x4096, .f32⟩
  | .hbm, ⟨3, _⟩ => ⟨S4x1x1024x1024, .bf16⟩
  | .hbm, ⟨4, _⟩ => ⟨S4x1024x1024, .bf16⟩
  | .hbm, ⟨5, _⟩ => ⟨S4x1024x1024, .f32⟩
  | .hbm, ⟨6, _⟩ => ⟨S4096x1024, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== UpB.lean ====
abbrev S8192x1024 : Shape := ⟨2, ![8192, 1024]⟩
abbrev S4x2x1024x1024 : Shape := ⟨4, ![4, 2, 1024, 1024]⟩
abbrev S8192x4096 : Shape := ⟨2, ![8192, 4096]⟩
abbrev S1024x1024 : Shape := ⟨2, ![1024, 1024]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBRefIdeal.lean ====
abbrev S8192x1024 : Shape := ⟨2, ![8192, 1024]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S4x1x1024x1024, .bf16⟩
  | .hbm, ⟨3, _⟩ => ⟨S4x1024x1024, .bf16⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DownActB.lean ====
abbrev S8192x1024 : Shape := ⟨2, ![8192, 1024]⟩
abbrev S4x2x1024x1024 : Shape := ⟨4, ![4, 2, 1024, 1024]⟩
abbrev S8192x4096 : Shape := ⟨2, ![8192, 4096]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownActBRefIdeal.lean ====
abbrev S8192x1024 : Shape := ⟨2, ![8192, 1024]⟩
abbrev S4x2x1024x1024 : Shape := ⟨4, ![4, 2, 1024, 1024]⟩
abbrev S8192x4096 : Shape := ⟨2, ![8192, 4096]⟩
abbrev S4x1x1024x1024 : Shape := ⟨4, ![4, 1, 1024, 1024]⟩
abbrev S4x1024x1024 : Shape := ⟨3, ![4, 1024, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x4096, .f32⟩
  | .hbm, ⟨3, _⟩ => ⟨S4x1x1024x1024, .bf16⟩
  | .hbm, ⟨4, _⟩ => ⟨S4x1024x1024, .bf16⟩
  | .hbm, ⟨5, _⟩ => ⟨S4x1024x1024, .f32⟩
  | .hbm, ⟨6, _⟩ => ⟨S4096x1024, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== InW.lean ====
abbrev S8192x1024 : Shape := ⟨2, ![8192, 1024]⟩
abbrev S8192x3584 : Shape := ⟨2, ![8192, 3584]⟩
abbrev S1024x3584 : Shape := ⟨2, ![1024, 3584]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S_, .f32⟩
  | .hbm, ⟨3, _⟩ => ⟨S1024x3584, .f32⟩
  | .hbm, ⟨4, _⟩ => ⟨S8192x1024, .f32⟩
  | .hbm, ⟨5, _⟩ => ⟨S8192x3584, .f32⟩
  | .hbm, ⟨6, _⟩ => ⟨S8192x3584, .f32⟩
  | .hbm, ⟨7, _⟩ => ⟨S3584x1024, .f32⟩
  | .hbm, ⟨8, _⟩ => ⟨S1024x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluW.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluWRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SquareW.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareWRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SquareAct.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareActRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S8192x1024 : Shape := ⟨2, ![8192, 1024]⟩
abbrev S4x1024x896 : Shape := ⟨3, ![4, 1024, 896]⟩
abbrev S8192x3584 : Shape := ⟨2, ![8192, 3584]⟩
abbrev S1024x1024 : Shape := ⟨2, ![1024, 1024]⟩
abbrev S1x1024x896 : Shape := ⟨3, ![1, 1024, 896]⟩
abbrev S1024x896 : Shape := ⟨2, ![1024, 896]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4x1024x896, .bf16⟩
  | .hbm, ⟨2, _⟩ => ⟨S8192x3584, .f32⟩
  | .hbm, ⟨3, _⟩ => ⟨S8192x3584, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .bf16⟩
  | .local _ .vmem, ⟨7, _⟩ => ⟨S1024x896, .bf16⟩
  | .local _ .vmem, ⟨8, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjRefIdeal.lean ====
abbrev S8192x1024 : Shape := ⟨2, ![8192, 1024]⟩
abbrev S4x1024x896 : Shape := ⟨3, ![4, 1024, 896]⟩
abbrev S1024x4x896 : Shape := ⟨3, ![1024, 4, 896]⟩
abbrev S1024x3584 : Shape := ⟨2, ![1024, 3584]⟩
abbrev S8192x3584 : Shape := ⟨2, ![8192, 3584]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x896, .bf16⟩
  | .hbm, ⟨2, _⟩ => ⟨S8192x1024, .f32⟩
  | .hbm, ⟨3, _⟩ => ⟨S4x1024x896, .f32⟩
  | .hbm, ⟨4, _⟩ => ⟨S1024x4x896, .f32⟩
  | .hbm, ⟨5, _⟩ => ⟨S1024x3584, .f32⟩
  | .hbm, ⟨6, _⟩ => ⟨S8192x3584, .f32⟩
  | .hbm, ⟨7, _⟩ => ⟨S8192x3584, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GluProj.lean ====
abbrev S8192x1024 : Shape := ⟨2, ![8192, 1024]⟩
abbrev S4x1024x512 : Shape := ⟨3, ![4, 1024, 512]⟩
abbrev S2048 : Shape := ⟨1, ![2048]⟩
abbrev S1x2048 : Shape := ⟨2, ![1, 2048]⟩
abbrev S8192x2048 : Shape := ⟨2, ![8192, 2048]⟩
abbrev S1024x1024 : Shape := ⟨2, ![1024, 1024]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluProjRefIdeal.lean ====
abbrev S8192x1024 : Shape := ⟨2, ![8192, 1024]⟩
abbrev S4x1024x512 : Shape := ⟨3, ![4, 1024, 512]⟩
abbrev S2048 : Shape := ⟨1, ![2048]⟩
abbrev S1024x4x512 : Shape := ⟨3, ![1024, 4, 512]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S2048, .f32⟩
  | .hbm, ⟨3, _⟩ => ⟨S8192x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S1024x1024 : Shape := ⟨2, ![1024, 1024]⟩
abbrev S1x1x1024x1024 : Shape := ⟨4, ![1, 1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S4x1x1024x1024 : Shape := ⟨4, ![4, 1, 1024, 1024]⟩
abbrev S4x1024x1024 : Shape := ⟨3, ![4, 1024, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S8192x4096, .f32⟩
  | .hbm, ⟨4, _⟩ => ⟨S4x1x1024x1024, .bf16⟩
  | .hbm, ⟨5, _⟩ => ⟨S4x1024x1024, .bf16⟩
  | .hbm, ⟨6, _⟩ => ⟨S4x1024x1024, .f32⟩
  | .hbm, ⟨7, _⟩ => ⟨S4096x1024, .f32⟩
  | .hbm, ⟨8, _⟩ => ⟨S8192x1024, .f32⟩
  | .hbm, ⟨9, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamIn.lean ====
abbrev S1024x896 : Shape := ⟨2, ![1024, 896]⟩
abbrev S512x896 : Shape := ⟨2, ![512, 896]⟩

abbrev nBuf : Space → Nat
  | .hbm => 7
  | .vmem => 14
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x896 : Shape := ⟨2, ![1024, 896]⟩
abbrev S512x896 : Shape := ⟨2, ![512, 896]⟩

abbrev nBuf : Space → Nat
  | .hbm => 7
  | .vmem => 14
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x896 : Shape := ⟨2, ![1024, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S_, .f32⟩
  | .hbm, ⟨5, _⟩ => ⟨S1024x896, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S1024x896, .f32⟩
  | .hbm, ⟨11, _⟩ => ⟨S_, .f32⟩
  | .hbm, ⟨12, _⟩ => ⟨S1024x896, .f32⟩
  | .hbm, ⟨13, _⟩ => ⟨S1024x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S1024x896, .f32⟩
  | .hbm, ⟨19, _⟩ => ⟨S_, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluIdeal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFf.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfIdeal.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S24x1024 : Shape := ⟨2, ![24, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== PwProj.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== PwProjRefIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== DownN.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownNRefIdeal.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S1024 : Shape := ⟨1, ![1024]⟩
abbrev S4x1x1024x1024 : Shape := ⟨4, ![4, 1, 1024, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S1024, .f32⟩
  | .hbm, ⟨4, _⟩ => ⟨S8192x4096, .f32⟩
  | .hbm, ⟨5, _⟩ => ⟨S4x1x1024x1024, .bf16⟩
  | .hbm, ⟨6, _⟩ => ⟨S4x1024x1024, .bf16⟩
  | .hbm, ⟨7, _⟩ => ⟨S4x1024x1024, .f32⟩
  | .hbm, ⟨8, _⟩ => ⟨S4096x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== UpAct.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_30 : BitVec 32 := 0#32
  let v55 : BitVec 1 := Scalar.cmpi .eq arg0 c0_i32_30
  let v56 : BitVec 32 := Scalar.extui v55
  let c0_i32_31 : BitVec 32 := 0#32
  let v57 : BitVec 1 := Scalar.cmpi .ne v56 c0_i32_31
  v57

def k0_cond4 (i : grid0.Coords) : BitVec 1 :=
  let arg0 : BitVec 32 := BitVec.ofNat 32 (i 0).val
  let c0_i32_36 : BitVec 32 := 0#32
  let v62 : BitVec 1 := Scalar.cmpi .eq arg0 c0_i32_36
  let v63 : BitVec 32 := Scalar.extui v62
  let c0_i32_37 : BitVec 32 := 0#32
  let v64 : BitVec 1 := Scalar.cmpi .ne v63 c0_i32_37
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== UpActRefIdeal.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S1024 : Shape := ⟨1, ![1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1x1024x1024, .bf16⟩
  | .hbm, ⟨6, _⟩ => ⟨S4x1024x1024, .bf16⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== UpActB.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_30 : BitVec 32 := 0#32
  let v55 : BitVec 1 := Scalar.cmpi .eq arg0 c0_i32_30
  let v56 : BitVec 32 := Scalar.extui v55
  let c0_i32_31 : BitVec 32 := 0#32
  let v57 : BitVec 1 := Scalar.cmpi .ne v56 c0_i32_31
  v57

def k0_cond4 (i : grid0.Coords) : BitVec 1 :=
  let arg0 : BitVec 32 := BitVec.ofNat 32 (i 0).val
  let c0_i32_36 : BitVec 32 := 0#32
  let v62 : BitVec 1 := Scalar.cmpi .eq arg0 c0_i32_36
  let v63 : BitVec 32 := Scalar.extui v62
  let c0_i32_37 : BitVec 32 := 0#32
  let v64 : BitVec 1 := Scalar.cmpi .ne v63 c0_i32_37
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== UpActBRefIdeal.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S1024 : Shape := ⟨1, ![1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1x1024x1024, .bf16⟩
  | .hbm, ⟨6, _⟩ => ⟨S4x1024x1024, .bf16⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== GluAct.lean ====
abbrev S8192x2048 : Shape := ⟨2, ![8192, 2048]⟩
abbrev S4x1024x512 : Shape := ⟨3, ![4, 1024, 512]⟩
abbrev S8192x1024 : Shape := ⟨2, ![8192, 1024]⟩
abbrev S1024 : Shape := ⟨1, ![1024]⟩
abbrev S1x1024 : Shape := ⟨2, ![1, 1024]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_29 : BitVec 32 := 0#32
  let v55 : BitVec 1 := Scalar.cmpi .eq arg0 c0_i32_29
  let v56 : BitVec 32 := Scalar.extui v55
  let c0_i32_30 : BitVec 32 := 0#32
  let v57 : BitVec 1 := Scalar.cmpi .ne v56 c0_i32_30
  v57

def k0_cond4 (i : grid0.Coords) : BitVec 1 :=
  let arg0 : BitVec 32 := BitVec.ofNat 32 (i 0).val
  let c0_i32_35 : BitVec 32 := 0#32
  let v62 : BitVec 1 := Scalar.cmpi .eq arg0 c0_i32_35
  let v63 : BitVec 32 := Scalar.extui v62
  let c0_i32_36 : BitVec 32 := 0#32
  let v64 : BitVec 1 := Scalar.cmpi .ne v63 c0_i32_36
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== GluActRefIdeal.lean ====
abbrev S8192x2048 : Shape := ⟨2, ![8192, 2048]⟩
abbrev S4x1024x512 : Shape := ⟨3, ![4, 1024, 512]⟩
abbrev S8192x1024 : Shape := ⟨2, ![8192, 1024]⟩
abbrev S1024 : Shape := ⟨1, ![1024]⟩
abbrev S1024x4x512 : Shape := ⟨3, ![1024, 4, 512]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== InAct.lean ====
abbrev S8192x3584 : Shape := ⟨2, ![8192, 3584]⟩
abbrev S4x1024x896 : Shape := ⟨3, ![4, 1024, 896]⟩
abbrev S8192x1024 : Shape := ⟨2, ![8192, 1024]⟩
abbrev S1024 : Shape := ⟨1, ![1024]⟩
abbrev S1x1024 : Shape := ⟨2, ![1, 1024]⟩
abbrev S1024x896 : Shape := ⟨2, ![1024, 896]⟩
abbrev S1x1024x896 : Shape := ⟨3, ![1, 1024, 896]⟩
abbrev S1024x1024 : Shape := ⟨2, ![1024, 1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x3584, .bf16⟩
  | .hbm, ⟨1, _⟩ => ⟨S4x1024x896, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_29 : BitVec 32 := 0#32
  let v55 : BitVec 1 := Scalar.cmpi .eq arg0 c0_i32_29
  let v56 : BitVec 32 := Scalar.extui v55
  let c0_i32_30 : BitVec 32 := 0#32
  let v57 : BitVec 1 := Scalar.cmpi .ne v56 c0_i32_30
  v57

def k0_cond4 (i : grid0.Coords) : BitVec 1 :=
  let arg0 : BitVec 32 := BitVec.ofNat 32 (i 0).val
  let c0_i32_35 : BitVec 32 := 0#32
  let v62 : BitVec 1 := Scalar.cmpi .eq arg0 c0_i32_35
  let v63 : BitVec 32 := Scalar.extui v62
  let c0_i32_36 : BitVec 32 := 0#32
  let v64 : BitVec 1 := Scalar.cmpi .ne v63 c0_i32_36
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== InActRefIdeal.lean ====
abbrev S8192x3584 : Shape := ⟨2, ![8192, 3584]⟩
abbrev S4x1024x896 : Shape := ⟨3, ![4, 1024, 896]⟩
abbrev S8192x1024 : Shape := ⟨2, ![8192, 1024]⟩
abbrev S1024 : Shape := ⟨1, ![1024]⟩
abbrev S1024x4x896 : Shape := ⟨3, ![1024, 4, 896]⟩
abbrev S1024x3584 : Shape := ⟨2, ![1024, 3584]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S4x1024x896, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x896, .f32⟩
  | .hbm, ⟨6, _⟩ => ⟨S1024x4x896, .f32⟩
  | .hbm, ⟨7, _⟩ => ⟨S1024x3584, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x3584, .f32⟩
  | .hbm, ⟨29, _⟩ => ⟨S8192x3584, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S1x1024, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Nats.lean ====
module

public import Idealize.ShloMosaic.Lib.Pointwise
public import Idealize.ShloMosaic.Lib.Pipeline.Value

/-! Arrays of extended reals read at natural coordinates, and what both sides of a product share. -/

@[expose] public section

noncomputable section

namespace Cert.MM

open Idealize.ShloMosaic
open scoped BigOperators
open Finset

/-- A matrix at natural coordinates, zero outside. -/
def at2 {a b : ℕ} (A : (⟨2, ![a, b]⟩ : Shape).Idx → EReal) (r c : ℕ) : EReal :=
  if h : r < a ∧ c < b then A (ix2 ⟨r, h.1⟩ ⟨c, h.2⟩) else 0

theorem at2_eq {a b : ℕ} (A : (⟨2, ![a, b]⟩ : Shape).Idx → EReal) (x : (⟨2, ![a, b]⟩ : Shape).Idx) :
    A x = at2 A (x 0).val (x 1).val := by
  unfold at2
  rw [dif_pos ⟨(x 0).isLt, (x 1).isLt⟩]
  exact congrArg A (ValueIdx.eq_ix2 x)

/-- A matrix of matrices at natural coordinates. -/
def at4 {n l a b : ℕ} (A : (⟨4, ![n, l, a, b]⟩ : Shape).Idx → EReal) (j k r c : ℕ) : EReal :=
  if h : j < n ∧ k < l ∧ r < a ∧ c < b then A (ix4 ⟨j, h.1⟩ ⟨k, h.2.1⟩ ⟨r, h.2.2.1⟩ ⟨c, h.2.2.2⟩) else 0

theorem at4_eq {n l a b : ℕ} (A : (⟨4, ![n, l, a, b]⟩ : Shape).Idx → EReal) (x : (⟨4, ![n, l, a, b]⟩ : Shape).Idx) :
    A x = at4 A (x 0).val (x 1).val (x 2).val (x 3).val := by
  unfold at4
  rw [dif_pos ⟨(x 0).isLt, (x 1).isLt, (x 2).isLt, (x 3).isLt⟩]
  exact congrArg A (ValueIdx.eq_ix4 x)

theorem zero_f32 : Ideal.ofBits .f32 0x00000000#32 = 0 := by
  simp [Ideal.ofBits, Ideal.ieee]

theorem hz : (![0, 0] : Fin 2 → Nat) = fun _ => 0 := funext fun a => by fin_cases a <;> rfl
theorem hz4 : (![0, 0, 0, 0] : Fin 4 → Nat) = fun _ => 0 := funext fun a => by fin_cases a <;> rfl

/-- A sum over the first `p + q` columns is cut after `p`. -/
theorem sum_cut (f : ℕ → EReal) (p q : ℕ) : ∑ k ∈ range (p + q), f k = ∑ k ∈ range p, f k + ∑ k ∈ range q, f (p + k) :=
  sum_range_add f p q

theorem sum_fin (n : ℕ) (f : ℕ → EReal) : ∑ k : Fin n, f k.val = ∑ k ∈ range n, f k := Fin.sum_univ_eq_sum_range f n

/-- The root of a square of a number that is not negative is that number. -/
theorem sqrt_sq (y : EReal) : Ideal.sqrt (max y 0 * max y 0) = max y 0 := by
  induction y using EReal.rec with
  | bot =>
    have h : Ideal.sqrt ((0 : ℝ) : EReal) = 0 := by rw [Ideal.sqrt_coe, if_neg (lt_irrefl _), Real.sqrt_zero, EReal.coe_zero]
    simpa using h
  | top => simp
  | coe y =>
    have h : max (y : EReal) 0 = ((max y 0 : ℝ) : EReal) := by norm_cast
    rw [h, ← EReal.coe_mul, Ideal.sqrt_coe, if_neg (not_lt.2 (mul_self_nonneg _)), Real.sqrt_mul_self (le_max_right _ _)]

/-- The gradient of the squared ReLU, from its root or from the sign of the pre-activation. -/
theorem relu_grad (s y t : EReal) : s * (t * Ideal.sqrt (max y 0 * max y 0)) = if 0 < y then s * (t * max y 0) else 0 := by
  rw [sqrt_sq]
  split_ifs with h
  · rfl
  · rw [max_eq_right (not_lt.1 h), mul_zero, mul_zero]

end Cert.MM
-- ==== Proof.Nats3.lean ====
module

public import proofs.«01_k».proof.Proof.Nats

/-! Vectors and stacks of matrices read at natural coordinates. -/

@[expose] public section

noncomputable section

namespace Cert.MM

open Idealize.ShloMosaic

/-- A vector at natural coordinates, zero outside. -/
def at1 {a : ℕ} (A : (⟨1, ![a]⟩ : Shape).Idx → EReal) (r : ℕ) : EReal :=
  if h : r < a then A (ix1 ⟨r, h⟩) else 0

theorem at1_eq {a : ℕ} (A : (⟨1, ![a]⟩ : Shape).Idx → EReal) (x : (⟨1, ![a]⟩ : Shape).Idx) : A x = at1 A (x 0).val := by
  have h : (x 0).val < a := (x 0).isLt
  unfold at1
  rw [dif_pos h]
  exact congrArg A (ValueIdx.eq_ix1 x)

/-- A stack of matrices at natural coordinates. -/
def at3 {n a b : ℕ} (A : (⟨3, ![n, a, b]⟩ : Shape).Idx → EReal) (j r c : ℕ) : EReal :=
  if h : j < n ∧ r < a ∧ c < b then A (ix3 ⟨j, h.1⟩ ⟨r, h.2.1⟩ ⟨c, h.2.2⟩) else 0

theorem at3_eq {n a b : ℕ} (A : (⟨3, ![n, a, b]⟩ : Shape).Idx → EReal) (x : (⟨3, ![n, a, b]⟩ : Shape).Idx) :
    A x = at3 A (x 0).val (x 1).val (x 2).val := by
  have h : (x 0).val < n ∧ (x 1).val < a ∧ (x 2).val < b := ⟨(x 0).isLt, (x 1).isLt, (x 2).isLt⟩
  unfold at3
  rw [dif_pos h]
  exact congrArg A (ValueIdx.eq_ix3 x)

theorem hz3 : (![0, 0, 0] : Fin 3 → Nat) = fun _ => 0 := funext fun a => by fin_cases a <;> rfl

open scoped BigOperators
open Finset
/-- A scratch that starts each block of four points anew and adds one product at each of the others holds the sum so far. -/
theorem acc_rec {N : ℕ} (b : ℕ) (o : (n : ℕ) → n < N → EReal) (f : ℕ → ℕ → EReal)
    (first : ∀ (n : ℕ) (h : n < N), n % 4 = 0 → o n h = ∑ k ∈ range b, f (n / 4) (b * (n % 4) + k))
    (next : ∀ (p : ℕ) (h : p + 1 < N), ¬(p + 1) % 4 = 0 → (p + 1) % 4 ≠ 3 →
      o (p + 1) h = o p (Nat.lt_of_succ_lt h) + ∑ k ∈ range b, f ((p + 1) / 4) (b * ((p + 1) % 4) + k)) :
    ∀ (n : ℕ) (h : n < N), n % 4 ≠ 3 → o n h = ∑ k ∈ range (b * (n % 4) + b), f (n / 4) k
  | n, h, h3 => by
    by_cases h0 : n % 4 = 0
    · rw [first n h h0, h0]
      simp only [Nat.mul_zero, Nat.zero_add]
    · obtain ⟨p, rfl⟩ : ∃ p, n = p + 1 := ⟨n - 1, by omega⟩
      rw [next p h h0 h3, acc_rec b o f first next p (Nat.lt_of_succ_lt h) (by omega), show (p + 1) % 4 = p % 4 + 1 by omega,
        show (p + 1) / 4 = p / 4 by omega, sum_cut _ (b * (p % 4 + 1)) b, Nat.mul_succ b (p % 4)]
  termination_by n => n

end Cert.MM
-- ==== Proof.WGrads.lean ====
module

public import proofs.«01_k».proof.Proof.Gen.DownWIdeal.Value
public import proofs.«01_k».proof.Proof.Gen.DownWRefIdeal.Run
public import proofs.«01_k».proof.Proof.Nats3
public import Idealize.ShloMosaic.Lib.Pipeline.ValueKit
public import proofs.«01_k».proof.Defs
public import proofs.«01_k».proof.Proof.Gen.DownW
public import proofs.«01_k».proof.Proof.Gen.UpWIdeal.Value
public import proofs.«01_k».proof.Proof.Gen.UpWRefIdeal.Run
public import proofs.«01_k».proof.Proof.Gen.UpW
public import proofs.«01_k».proof.Proof.Gen.InWIdeal.Value
public import proofs.«01_k».proof.Proof.Gen.InWRefIdeal.Run
public import proofs.«01_k».proof.Proof.Gen.InW
public import proofs.«01_k».proof.Proof.Gen.GluWIdeal.Value
public import proofs.«01_k».proof.Proof.Gen.GluWRefIdeal.Run
public import proofs.«01_k».proof.Proof.Gen.GluW
public import proofs.«01_k».proof.Proof.Gen.SquareWIdeal.Value
public import proofs.«01_k».proof.Proof.Gen.SquareWRefIdeal.Run
public import proofs.«01_k».proof.Proof.Gen.SquareW

/-! The weight gradients: the tiled products, their frames and their agreement with the references. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at2 at4 at2_eq at4_eq)

namespace Cert.DownWIdeal.MM

open Cert.DownWIdeal Cert.DownWIdeal.Gen

section
variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (x0 : Vec F S2048x1024 .bf16) (x1 : Vec F S2048x1024 .bf16) (xs : Vec F S1024x1024 .f32)

/-- The first point of a block leaves the block's first product, added to zero. -/
theorem scr_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S2048x1024) MM.hz, View.ld_unit_zero (S := S1024x1024) MM.hz]

/-- A middle point adds its product to what the scratch holds. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  rw [View.canon_unit_zero (S := S1024x1024) MM.hz]
  simp only [View.readAt_eq_ld, h3.read_unread, h4.read_unread, h6.read_unread, View.ld_unit_zero (S := S2048x1024) MM.hz, View.ld_unit_zero (S := S1024x1024) MM.hz]

/-- The last point of a block writes the sum out. -/
theorem out_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (fun _ => cover0_C_2 ..)]
  unfold kernelRun0_C
  dsimp only
  sl_unfold_words
  rw [View.canon_unit_zero (S := S1024x1024) MM.hz, View.readCov_unit_zero (S := S1024x1024) _ MM.hz]
  simp only [View.readAt_eq_ld, h3.read_unread, h4.read_unread, h6.read_unread, View.ld_unit_zero (S := S2048x1024) MM.hz, View.ld_unit_zero (S := S1024x1024) MM.hz]

end

theorem pay1_apply (r : Fin 1024) (c : Fin 1024) : (k0_pay1 (F := Ideal)) (ix2 r c) = 0 := by
  pointwise [k0_pay1]

theorem pay2_apply (xs : Vec Ideal S1024x1024 .f32) (x0 : Vec Ideal S2048x1024 .bf16) (x1 : Vec Ideal S2048x1024 .bf16) (r : Fin 1024) (c : Fin 1024) :
    (k0_pay2 (F := Ideal) xs x0 x1) (ix2 r c) = xs (ix2 r c) + ∑ k : Fin 2048, x0 (ix2 k r) * x1 (ix2 k c) := by
  pointwise [k0_pay2]

theorem ix : ∀ t : Fin cfg0.N, win0_0.index t = ![(t.val % 4 : ℕ), t.val / 4] ∧ win0_1.index t = ![(t.val % 4 : ℕ), 0] ∧ win0_2.index t = ![(t.val / 4 : ℕ), 0] := (by decide +kernel : ∀ t : Fin grid0.N, _)

variable (m : (ℓ : Loc nD τ sig) → Buf (Elt Ideal) ℓ) (c : Dev nD) {X Y : ℕ → ℕ → EReal}
  (hX : ∀ x : S8192x4096.Idx, (V m c main_arg0 : S8192x4096.Idx → EReal) x = X (x 0).val (x 1).val)
  (hY : ∀ x : S8192x1024.Idx, (V m c main_arg1 : S8192x1024.Idx → EReal) x = Y (x 0).val (x 1).val)

section
include hX
theorem blk_A (t : Fin cfg0.N) (k : Fin 2048) (r : Fin 1024) : (iblk m c 0 t : S2048x1024.Idx → EReal) (ix2 k r) = X (2048 * (t.val % 4) + k.val) (1024 * (t.val / 4) + r.val) := by
  show (V m c main_arg0 : S8192x4096.Idx → EReal) (((cfg0.win 0).blk t).view.emb (ix2 k r)) = _
  rw [hX]
  blk_simp [ix]
  congr 1 <;> omega
end

section
include hY
theorem blk_B (t : Fin cfg0.N) (k : Fin 2048) (c' : Fin 1024) : (iblk m c 1 t : S2048x1024.Idx → EReal) (ix2 k c') = Y (2048 * (t.val % 4) + k.val) (c'.val) := by
  show (V m c main_arg1 : S8192x1024.Idx → EReal) (((cfg0.win 1).blk t).view.emb (ix2 k c')) = _
  rw [hY]
  blk_simp [ix]
  congr 1 <;> omega
end

/-- The blocks of one point, as arrays of extended reals. -/
abbrev bA (t : Fin cfg0.N) : S2048x1024.Idx → EReal := iblk m c 0 t
abbrev bB (t : Fin cfg0.N) : S2048x1024.Idx → EReal := iblk m c 1 t

include hX hY

/-- One point's product at an entry. -/
theorem step (t : Fin cfg0.N) (r : Fin 1024) (c' : Fin 1024) :
    ∑ k : Fin 2048, bA m c t (ix2 k r) * bB m c t (ix2 k c')
      = ∑ k ∈ range 2048, X (2048 * (t.val % 4) + k) (1024 * (t.val / 4) + r.val) * Y (2048 * (t.val % 4) + k) (c'.val) := by
  refine Eq.trans ?_ (MM.sum_fin 2048 fun k => X (2048 * (t.val % 4) + k) (1024 * (t.val / 4) + r.val) * Y (2048 * (t.val % 4) + k) (c'.val))
  exact sum_congr rfl fun k _ => congrArg₂ (· * ·) (blk_A m c hX t k r) (blk_B m c hY t k c')

/-- The scratch before a block's last point holds the sum over the tokens so far. -/
theorem acc_eq (n : ℕ) (h : n < cfg0.N) (h3 : n % 4 ≠ 3) (r : Fin 1024) (c' : Fin 1024) :
    ((outsAt0 m c n h).2 : S1024x1024.Idx → EReal) (ix2 r c') = ∑ k ∈ range (2048 * (n % 4) + 2048), X k (1024 * (n / 4) + r.val) * Y k (c'.val) :=
  MM.acc_rec 2048 (fun n h => ((outsAt0 m c n h).2 : S1024x1024.Idx → EReal) (ix2 r c')) (fun q k => X k (1024 * (q) + r.val) * Y k (c'.val))
    (fun n h h0 => by
      refine (congrFun (congrArg Prod.snd (outsAt0_A m c ⟨n, h⟩ h0 (show n % 4 ≠ 3 by omega))) (ix2 r c')).trans ?_
      dsimp only
      rw [scr_A, pay2_apply, pay1_apply, zero_add]
      exact step m c hX hY ⟨n, h⟩ r c')
    (fun p h h0 h3 => by
      refine (congrFun (congrArg Prod.snd (outsAt0_B m c ⟨p + 1, h⟩ h0 h3)) (ix2 r c')).trans ?_
      dsimp only
      rw [scr_B, pay2_apply]
      exact congrArg₂ (· + ·) rfl (step m c hX hY ⟨p + 1, h⟩ r c')) n h h3

/-- The array after the run: the whole product. -/
theorem out_eq : (dats m 0 c).arrAt 2 cfg0.N = fun x : S4096x1024.Idx => ∑ k ∈ range 8192, X k (x 0).val * Y k (x 1).val := by
  refine (dats m 0 c).arrAt_eq_of_covers 2 _ (by decide +kernel) fun t hf y => ?_
  have h3 : t.val % 4 = 3 := (flush0_2 t).1 hf
  have h0 : ¬ t.val % 4 = 0 := by omega
  have hk : ∀ (r : Fin 1024) (c' : Fin 1024), ((outsAt0 m c t.val t.isLt).1 : S1024x1024.Idx → EReal) (ix2 r c')
      = ∑ k ∈ range 8192, X k (1024 * (t.val / 4) + r.val) * Y k (c'.val) := fun r c' => by
    rw [outsAt0_C m c t h0 h3]
    dsimp only
    rw [out_C, pay2_apply, step m c hX hY t r c', acc_eq m c hX hY (t.val - 1) _ (by omega) r c']
    rw [show (t.val - 1) % 4 = 2 by omega, show (t.val - 1) / 4 = t.val / 4 by omega, h3]
    exact (MM.sum_cut (fun k => X k (1024 * (t.val / 4) + r.val) * Y k (c'.val)) 6144 2048).symm
  blk_simp [ix]
  rw [after0_2]
  have hy := hk (y 0) (y 1)
  have he := congrArg ((outsAt0 m c t.val t.isLt).1 : S1024x1024.Idx → EReal) (ValueIdx.eq_ix2 y)
  refine (he.trans hy).trans (sum_congr rfl fun k _ => ?_)
  congr 2 <;> omega

end Cert.DownWIdeal.MM

namespace Cert.DownWRefIdeal.MM

open Cert.DownWRefIdeal Cert.DownWRefIdeal.Gen

/-- The reference's gradient at an entry. -/
theorem val {X Y : ℕ → ℕ → EReal} (A : FVec Ideal S8192x4096 .bf16) (D : FVec Ideal S8192x1024 .bf16)
    (hX : ∀ x, A x = X (x 0).val (x 1).val) (hY : ∀ x, D x = Y (x 0).val (x 1).val) (i : S4096x1024.Idx) :
    transpose S4096x1024 [1, 0] (Host.dotGeneral dot_S8192x1024_S8192x4096_S1024x4096_0_0_1_1_n_n none (extf .f32 D bitsLt_bf16_f32) (extf .f32 A bitsLt_bf16_f32)) transposes_S1024x4096_S4096x1024_1_0 i
      = ∑ k ∈ range 8192, X k (i 0).val * Y k (i 1).val := by
  rw [ValueIdx.eq_ix2 i]
  pointwise
  refine Eq.trans ?_ (MM.sum_fin 8192 _)
  refine sum_congr rfl fun k _ => ?_
  rw [hX, hY, mul_comm]
  rfl

end Cert.DownWRefIdeal.MM

namespace Cert.Proof

open Cert.DownWIdeal

theorem DownW_defs {F : FTy → Type} [FloatOps F] : (DownW.defs (F := F)) = DownWIdeal.defs (F := F) :=
  congrArg (Pipeline.defs (DownWIdeal.pcfgs (F := F))) (show DownW.defs₀ (F := F) = DownWIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_DownWIdeal : Cert.quiescent_DownWIdeal := fun m ρ _ => DownWIdeal.Gen.frame (F := Ideal) m ρ

theorem frame_DownW : Cert.quiescent_DownW := fun m ρ _ =>
  DownW_defs (F := Bits) ▸ (θ_run (DownWIdeal.defs (F := Bits)) _ _).mono (fun _ h => h) (DownWIdeal.Gen.frame (F := Bits) m ρ)

theorem frame_DownWRefIdeal : Cert.quiescent_DownWRefIdeal := fun m ρ _ =>
  (θ_run (DownWRefIdeal.defs (F := Ideal)) _ _).mono (fun _ h => ⟨fun c => (h c).2, funext fun a => nomatch a⟩)
    (DownWRefIdeal.Value.run (F := Ideal) m ρ)

/-- The idealized kernel and its reference end with the same gradient. -/
theorem algebraic_DownW : Cert.algebraic_DownWIdeal_DownWRefIdeal := fun m g m' g' _ hargs => by
  have hX := fun c : Dev nD => at2_eq (m ((c.tc : Thread nD τ).loc main_arg0) : S8192x4096.Idx → EReal)
  have hY := fun c : Dev nD => at2_eq (m ((c.tc : Thread nD τ).loc main_arg1) : S8192x1024.Idx → EReal)
  refine ⟨_, (θ_run (DownWIdeal.defs (F := Ideal)) _ _).mono (fun r h c => ⟨(h c).1.trans (DownWIdeal.MM.out_eq m c (hX c) (hY c)), (h c).2⟩)
    (DownWIdeal.Value.run_blocks (F := Ideal) m g), ?_⟩
  refine (θ_run (DownWRefIdeal.defs (F := Ideal)) _ _).mono (fun r h c => ⟨(h c).1.trans ?_, (h c).2⟩)
    (DownWRefIdeal.Value.run (F := Ideal) m' g')
  rw [(hargs c).1, (hargs c).2]
  exact funext fun x => DownWRefIdeal.MM.val _ _ (hX c) (hY c) x

end Cert.Proof

namespace Cert.UpWIdeal.MM

open Cert.UpWIdeal Cert.UpWIdeal.Gen

section
variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (x0 : Vec F S2048x1024 .bf16) (x1 : Vec F S2048x1024 .bf16) (xs : Vec F S1024x1024 .f32)

/-- The first point of a block leaves the block's first product, added to zero. -/
theorem scr_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S2048x1024) MM.hz, View.ld_unit_zero (S := S1024x1024) MM.hz]

/-- A middle point adds its product to what the scratch holds. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  rw [View.canon_unit_zero (S := S1024x1024) MM.hz]
  simp only [View.readAt_eq_ld, h3.read_unread, h4.read_unread, h6.read_unread, View.ld_unit_zero (S := S2048x1024) MM.hz, View.ld_unit_zero (S := S1024x1024) MM.hz]

/-- The last point of a block writes the sum out. -/
theorem out_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (fun _ => cover0_C_2 ..)]
  unfold kernelRun0_C
  dsimp only
  sl_unfold_words
  rw [View.canon_unit_zero (S := S1024x1024) MM.hz, View.readCov_unit_zero (S := S1024x1024) _ MM.hz]
  simp only [View.readAt_eq_ld, h3.read_unread, h4.read_unread, h6.read_unread, View.ld_unit_zero (S := S2048x1024) MM.hz, View.ld_unit_zero (S := S1024x1024) MM.hz]

end

theorem pay1_apply (r : Fin 1024) (c : Fin 1024) : (k0_pay1 (F := Ideal)) (ix2 r c) = 0 := by
  pointwise [k0_pay1]

theorem pay2_apply (xs : Vec Ideal S1024x1024 .f32) (x0 : Vec Ideal S2048x1024 .bf16) (x1 : Vec Ideal S2048x1024 .bf16) (r : Fin 1024) (c : Fin 1024) :
    (k0_pay2 (F := Ideal) xs x0 x1) (ix2 r c) = xs (ix2 r c) + ∑ k : Fin 2048, x0 (ix2 k r) * x1 (ix2 k c) := by
  pointwise [k0_pay2]

theorem ix : ∀ t : Fin cfg0.N, win0_0.index t = ![(t.val % 4 : ℕ), 0] ∧ win0_1.index t = ![(t.val % 4 : ℕ), t.val / 4] ∧ win0_2.index t = ![(0 : ℕ), t.val / 4] := (by decide +kernel : ∀ t : Fin grid0.N, _)

variable (m : (ℓ : Loc nD τ sig) → Buf (Elt Ideal) ℓ) (c : Dev nD) {X Y : ℕ → ℕ → EReal}
  (hX : ∀ x : S8192x1024.Idx, (V m c main_arg0 : S8192x1024.Idx → EReal) x = X (x 0).val (x 1).val)
  (hY : ∀ x : S8192x4096.Idx, (V m c main_arg1 : S8192x4096.Idx → EReal) x = Y (x 0).val (x 1).val)

section
include hX
theorem blk_A (t : Fin cfg0.N) (k : Fin 2048) (r : Fin 1024) : (iblk m c 0 t : S2048x1024.Idx → EReal) (ix2 k r) = X (2048 * (t.val % 4) + k.val) (r.val) := by
  show (V m c main_arg0 : S8192x1024.Idx → EReal) (((cfg0.win 0).blk t).view.emb (ix2 k r)) = _
  rw [hX]
  blk_simp [ix]
  congr 1 <;> omega
end

section
include hY
theorem blk_B (t : Fin cfg0.N) (k : Fin 2048) (c' : Fin 1024) : (iblk m c 1 t : S2048x1024.Idx → EReal) (ix2 k c') = Y (2048 * (t.val % 4) + k.val) (1024 * (t.val / 4) + c'.val) := by
  show (V m c main_arg1 : S8192x4096.Idx → EReal) (((cfg0.win 1).blk t).view.emb (ix2 k c')) = _
  rw [hY]
  blk_simp [ix]
  congr 1 <;> omega
end

/-- The blocks of one point, as arrays of extended reals. -/
abbrev bA (t : Fin cfg0.N) : S2048x1024.Idx → EReal := iblk m c 0 t
abbrev bB (t : Fin cfg0.N) : S2048x1024.Idx → EReal := iblk m c 1 t

include hX hY

/-- One point's product at an entry. -/
theorem step (t : Fin cfg0.N) (r : Fin 1024) (c' : Fin 1024) :
    ∑ k : Fin 2048, bA m c t (ix2 k r) * bB m c t (ix2 k c')
      = ∑ k ∈ range 2048, X (2048 * (t.val % 4) + k) (r.val) * Y (2048 * (t.val % 4) + k) (1024 * (t.val / 4) + c'.val) := by
  refine Eq.trans ?_ (MM.sum_fin 2048 fun k => X (2048 * (t.val % 4) + k) (r.val) * Y (2048 * (t.val % 4) + k) (1024 * (t.val / 4) + c'.val))
  exact sum_congr rfl fun k _ => congrArg₂ (· * ·) (blk_A m c hX t k r) (blk_B m c hY t k c')

/-- The scratch before a block's last point holds the sum over the tokens so far. -/
theorem acc_eq (n : ℕ) (h : n < cfg0.N) (h3 : n % 4 ≠ 3) (r : Fin 1024) (c' : Fin 1024) :
    ((outsAt0 m c n h).2 : S1024x1024.Idx → EReal) (ix2 r c') = ∑ k ∈ range (2048 * (n % 4) + 2048), X k (r.val) * Y k (1024 * (n / 4) + c'.val) :=
  MM.acc_rec 2048 (fun n h => ((outsAt0 m c n h).2 : S1024x1024.Idx → EReal) (ix2 r c')) (fun q k => X k (r.val) * Y k (1024 * (q) + c'.val))
    (fun n h h0 => by
      refine (congrFun (congrArg Prod.snd (outsAt0_A m c ⟨n, h⟩ h0 (show n % 4 ≠ 3 by omega))) (ix2 r c')).trans ?_
      dsimp only
      rw [scr_A, pay2_apply, pay1_apply, zero_add]
      exact step m c hX hY ⟨n, h⟩ r c')
    (fun p h h0 h3 => by
      refine (congrFun (congrArg Prod.snd (outsAt0_B m c ⟨p + 1, h⟩ h0 h3)) (ix2 r c')).trans ?_
      dsimp only
      rw [scr_B, pay2_apply]
      exact congrArg₂ (· + ·) rfl (step m c hX hY ⟨p + 1, h⟩ r c')) n h h3

/-- The array after the run: the whole product. -/
theorem out_eq : (dats m 0 c).arrAt 2 cfg0.N = fun x : S1024x4096.Idx => ∑ k ∈ range 8192, X k (x 0).val * Y k (x 1).val := by
  refine (dats m 0 c).arrAt_eq_of_covers 2 _ (by decide +kernel) fun t hf y => ?_
  have h3 : t.val % 4 = 3 := (flush0_2 t).1 hf
  have h0 : ¬ t.val % 4 = 0 := by omega
  have hk : ∀ (r : Fin 1024) (c' : Fin 1024), ((outsAt0 m c t.val t.isLt).1 : S1024x1024.Idx → EReal) (ix2 r c')
      = ∑ k ∈ range 8192, X k (r.val) * Y k (1024 * (t.val / 4) + c'.val) := fun r c' => by
    rw [outsAt0_C m c t h0 h3]
    dsimp only
    rw [out_C, pay2_apply, step m c hX hY t r c', acc_eq m c hX hY (t.val - 1) _ (by omega) r c']
    rw [show (t.val - 1) % 4 = 2 by omega, show (t.val - 1) / 4 = t.val / 4 by omega, h3]
    exact (MM.sum_cut (fun k => X k (r.val) * Y k (1024 * (t.val / 4) + c'.val)) 6144 2048).symm
  blk_simp [ix]
  rw [after0_2]
  have hy := hk (y 0) (y 1)
  have he := congrArg ((outsAt0 m c t.val t.isLt).1 : S1024x1024.Idx → EReal) (ValueIdx.eq_ix2 y)
  refine (he.trans hy).trans (sum_congr rfl fun k _ => ?_)
  congr 2 <;> omega

end Cert.UpWIdeal.MM

namespace Cert.UpWRefIdeal.MM

open Cert.UpWRefIdeal Cert.UpWRefIdeal.Gen

/-- The reference's gradient at an entry. -/
theorem val {X Y : ℕ → ℕ → EReal} (A : FVec Ideal S8192x1024 .bf16) (D : FVec Ideal S8192x4096 .bf16)
    (hX : ∀ x, A x = X (x 0).val (x 1).val) (hY : ∀ x, D x = Y (x 0).val (x 1).val) (i : S1024x4096.Idx) :
    transpose S1024x4096 [1, 0] (Host.dotGeneral dot_S8192x4096_S8192x1024_S4096x1024_0_0_1_1_n_n none (extf .f32 D bitsLt_bf16_f32) (extf .f32 A bitsLt_bf16_f32)) transposes_S4096x1024_S1024x4096_1_0 i
      = ∑ k ∈ range 8192, X k (i 0).val * Y k (i 1).val := by
  rw [ValueIdx.eq_ix2 i]
  pointwise
  refine Eq.trans ?_ (MM.sum_fin 8192 _)
  refine sum_congr rfl fun k _ => ?_
  rw [hX, hY, mul_comm]
  rfl

end Cert.UpWRefIdeal.MM

namespace Cert.Proof

open Cert.UpWIdeal

theorem UpW_defs {F : FTy → Type} [FloatOps F] : (UpW.defs (F := F)) = UpWIdeal.defs (F := F) :=
  congrArg (Pipeline.defs (UpWIdeal.pcfgs (F := F))) (show UpW.defs₀ (F := F) = UpWIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_UpWIdeal : Cert.quiescent_UpWIdeal := fun m ρ _ => UpWIdeal.Gen.frame (F := Ideal) m ρ

theorem frame_UpW : Cert.quiescent_UpW := fun m ρ _ =>
  UpW_defs (F := Bits) ▸ (θ_run (UpWIdeal.defs (F := Bits)) _ _).mono (fun _ h => h) (UpWIdeal.Gen.frame (F := Bits) m ρ)

theorem frame_UpWRefIdeal : Cert.quiescent_UpWRefIdeal := fun m ρ _ =>
  (θ_run (UpWRefIdeal.defs (F := Ideal)) _ _).mono (fun _ h => ⟨fun c => (h c).2, funext fun a => nomatch a⟩)
    (UpWRefIdeal.Value.run (F := Ideal) m ρ)

/-- The idealized kernel and its reference end with the same gradient. -/
theorem algebraic_UpW : Cert.algebraic_UpWIdeal_UpWRefIdeal := fun m g m' g' _ hargs => by
  have hX := fun c : Dev nD => at2_eq (m ((c.tc : Thread nD τ).loc main_arg0) : S8192x1024.Idx → EReal)
  have hY := fun c : Dev nD => at2_eq (m ((c.tc : Thread nD τ).loc main_arg1) : S8192x4096.Idx → EReal)
  refine ⟨_, (θ_run (UpWIdeal.defs (F := Ideal)) _ _).mono (fun r h c => ⟨(h c).1.trans (UpWIdeal.MM.out_eq m c (hX c) (hY c)), (h c).2⟩)
    (UpWIdeal.Value.run_blocks (F := Ideal) m g), ?_⟩
  refine (θ_run (UpWRefIdeal.defs (F := Ideal)) _ _).mono (fun r h c => ⟨(h c).1.trans ?_, (h c).2⟩)
    (UpWRefIdeal.Value.run (F := Ideal) m' g')
  rw [(hargs c).1, (hargs c).2]
  exact funext fun x => UpWRefIdeal.MM.val _ _ (hX c) (hY c) x

end Cert.Proof

namespace Cert.InWIdeal.MM

open Cert.InWIdeal Cert.InWIdeal.Gen

section
variable {F : FTy → Type} [FloatOps F] (c : Dev nD) (i : grid0.Coords) (a3 : Memref sig .tc .vmem S2048x1024 .bf16) (h3 : a3.IsWhole) (a4 : Memref sig .tc .vmem S2048x896 .bf16) (h4 : a4.IsWhole) (a5 : Memref sig .tc .vmem S1024x896 .f32) (h5 : a5.IsWhole) (a6 : Memref sig .tc .vmem S1024x896 .f32) (h6 : a6.IsWhole) (x0 : Vec F S2048x1024 .bf16) (x1 : Vec F S2048x896 .bf16) (xs : Vec F S1024x896 .f32)

/-- The first point of a block leaves the block's first product, added to zero. -/
theorem scr_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x896) MM.hz, View.readCov_unit_zero (S := S1024x896) _ MM.hz]
  simp only [View.readAt_eq_ld, h3.read_unread, h4.read_unread, View.ld_unit_zero (S := S2048x1024) MM.hz, View.ld_unit_zero (S := S2048x896) MM.hz, View.ld_unit_zero (S := S1024x896) MM.hz]

/-- A middle point adds its product to what the scratch holds. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  rw [View.canon_unit_zero (S := S1024x896) MM.hz]
  simp only [View.readAt_eq_ld, h3.read_unread, h4.read_unread, h6.read_unread, View.ld_unit_zero (S := S2048x1024) MM.hz, View.ld_unit_zero (S := S2048x896) MM.hz, View.ld_unit_zero (S := S1024x896) MM.hz]

/-- The last point of a block writes the sum out. -/
theorem out_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (fun _ => cover0_C_2 ..)]
  unfold kernelRun0_C
  dsimp only
  sl_unfold_words
  rw [View.canon_unit_zero (S := S1024x896) MM.hz, View.readCov_unit_zero (S := S1024x896) _ MM.hz]
  simp only [View.readAt_eq_ld, h3.read_unread, h4.read_unread, h6.read_unread, View.ld_unit_zero (S := S2048x1024) MM.hz, View.ld_unit_zero (S := S2048x896) MM.hz, View.ld_unit_zero (S := S1024x896) MM.hz]

end

theorem pay1_apply (r : Fin 1024) (c : Fin 896) : (k0_pay1 (F := Ideal)) (ix2 r c) = 0 := by
  pointwise [k0_pay1]

theorem pay2_apply (xs : Vec Ideal S1024x896 .f32) (x0 : Vec Ideal S2048x1024 .bf16) (x1 : Vec Ideal S2048x896 .bf16) (r : Fin 1024) (c : Fin 896) :
    (k0_pay2 (F := Ideal) xs x0 x1) (ix2 r c) = xs (ix2 r c) + ∑ k : Fin 2048, x0 (ix2 k r) * x1 (ix2 k c) := by
  pointwise [k0_pay2]

theorem ix : ∀ t : Fin cfg0.N, win0_0.index t = ![(t.val % 4 : ℕ), 0] ∧ win0_1.index t = ![(t.val % 4 : ℕ), t.val / 4] ∧ win0_2.index t = ![(0 : ℕ), t.val / 4] := (by decide +kernel : ∀ t : Fin grid0.N, _)

variable (m : (ℓ : Loc nD τ sig) → Buf (Elt Ideal) ℓ) (c : Dev nD) {X Y : ℕ → ℕ → EReal}
  (hX : ∀ x : S8192x1024.Idx, (V m c main_arg0 : S8192x1024.Idx → EReal) x = X (x 0).val (x 1).val)
  (hY : ∀ x : S8192x3584.Idx, (V m c main_arg1 : S8192x3584.Idx → EReal) x = Y (x 0).val (x 1).val)

section
include hX
theorem blk_A (t : Fin cfg0.N) (k : Fin 2048) (r : Fin 1024) : (iblk m c 0 t : S2048x1024.Idx → EReal) (ix2 k r) = X (2048 * (t.val % 4) + k.val) (r.val) := by
  show (V m c main_arg0 : S8192x1024.Idx → EReal) (((cfg0.win 0).blk t).view.emb (ix2 k r)) = _
  rw [hX]
  blk_simp [ix]
  congr 1 <;> omega
end

section
include hY
theorem blk_B (t : Fin cfg0.N) (k : Fin 2048) (c' : Fin 896) : (iblk m c 1 t : S2048x896.Idx → EReal) (ix2 k c') = Y (2048 * (t.val % 4) + k.val) (896 * (t.val / 4) + c'.val) := by
  show (V m c main_arg1 : S8192x3584.Idx → EReal) (((cfg0.win 1).blk t).view.emb (ix2 k c')) = _
  rw [hY]
  blk_simp [ix]
  congr 1 <;> omega
end

/-- The blocks of one point, as arrays of extended reals. -/
abbrev bA (t : Fin cfg0.N) : S2048x1024.Idx → EReal := iblk m c 0 t
abbrev bB (t : Fin cfg0.N) : S2048x896.Idx → EReal := iblk m c 1 t

include hX hY

/-- One point's product at an entry. -/
theorem step (t : Fin cfg0.N) (r : Fin 1024) (c' : Fin 896) :
    ∑ k : Fin 2048, bA m c t (ix2 k r) * bB m c t (ix2 k c')
      = ∑ k ∈ range 2048, X (2048 * (t.val % 4) + k) (r.val) * Y (2048 * (t.val % 4) + k) (896 * (t.val / 4) + c'.val) := by
  refine Eq.trans ?_ (MM.sum_fin 2048 fun k => X (2048 * (t.val % 4) + k) (r.val) * Y (2048 * (t.val % 4) + k) (896 * (t.val / 4) + c'.val))
  exact sum_congr rfl fun k _ => congrArg₂ (· * ·) (blk_A m c hX t k r) (blk_B m c hY t k c')

/-- The scratch before a block's last point holds the sum over the tokens so far. -/
theorem acc_eq (n : ℕ) (h : n < cfg0.N) (h3 : n % 4 ≠ 3) (r : Fin 1024) (c' : Fin 896) :
    ((outsAt0 m c n h).2 : S1024x896.Idx → EReal) (ix2 r c') = ∑ k ∈ range (2048 * (n % 4) + 2048), X k (r.val) * Y k (896 * (n / 4) + c'.val) :=
  MM.acc_rec 2048 (fun n h => ((outsAt0 m c n h).2 : S1024x896.Idx → EReal) (ix2 r c')) (fun q k => X k (r.val) * Y k (896 * (q) + c'.val))
    (fun n h h0 => by
      refine (congrFun (congrArg Prod.snd (outsAt0_A m c ⟨n, h⟩ h0 (show n % 4 ≠ 3 by omega))) (ix2 r c')).trans ?_
      dsimp only
      rw [scr_A, pay2_apply, pay1_apply, zero_add]
      exact step m c hX hY ⟨n, h⟩ r c')
    (fun p h h0 h3 => by
      refine (congrFun (congrArg Prod.snd (outsAt0_B m c ⟨p + 1, h⟩ h0 h3)) (ix2 r c')).trans ?_
      dsimp only
      rw [scr_B, pay2_apply]
      exact congrArg₂ (· + ·) rfl (step m c hX hY ⟨p + 1, h⟩ r c')) n h h3

/-- The array after the run: the whole product. -/
theorem out_eq : (dats m 0 c).arrAt 2 cfg0.N = fun x : S1024x3584.Idx => ∑ k ∈ range 8192, X k (x 0).val * Y k (x 1).val := by
  refine (dats m 0 c).arrAt_eq_of_covers 2 _ (by decide +kernel) fun t hf y => ?_
  have h3 : t.val % 4 = 3 := (flush0_2 t).1 hf
  have h0 : ¬ t.val % 4 = 0 := by omega
  have hk : ∀ (r : Fin 1024) (c' : Fin 896), ((outsAt0 m c t.val t.isLt).1 : S1024x896.Idx → EReal) (ix2 r c')
      = ∑ k ∈ range 8192, X k (r.val) * Y k (896 * (t.val / 4) + c'.val) := fun r c' => by
    rw [outsAt0_C m c t h0 h3]
    dsimp only
    rw [out_C, pay2_apply, step m c hX hY t r c', acc_eq m c hX hY (t.val - 1) _ (by omega) r c']
    rw [show (t.val - 1) % 4 = 2 by omega, show (t.val - 1) / 4 = t.val / 4 by omega, h3]
    exact (MM.sum_cut (fun k => X k (r.val) * Y k (896 * (t.val / 4) + c'.val)) 6144 2048).symm
  blk_simp [ix]
  rw [after0_2]
  have hy := hk (y 0) (y 1)
  have he := congrArg ((outsAt0 m c t.val t.isLt).1 : S1024x896.Idx → EReal) (ValueIdx.eq_ix2 y)
  refine (he.trans hy).trans (sum_congr rfl fun k _ => ?_)
  congr 2 <;> omega

end Cert.InWIdeal.MM

namespace Cert.InWRefIdeal.MM

open Cert.InWRefIdeal Cert.InWRefIdeal.Gen

/-- The reference's gradient at an entry. -/
theorem val {X Y : ℕ → ℕ → EReal} (A : FVec Ideal S8192x1024 .bf16) (D : FVec Ideal S8192x3584 .bf16)
    (hX : ∀ x, A x = X (x 0).val (x 1).val) (hY : ∀ x, D x = Y (x 0).val (x 1).val) (i : S1024x3584.Idx) :
    transpose S1024x3584 [1, 0] (Host.dotGeneral dot_S8192x3584_S8192x1024_S3584x1024_0_0_1_1_n_n none (extf .f32 D bitsLt_bf16_f32) (extf .f32 A bitsLt_bf16_f32)) transposes_S3584x1024_S1024x3584_1_0 i
      = ∑ k ∈ range 8192, X k (i 0).val * Y k (i 1).val := by
  rw [ValueIdx.eq_ix2 i]
  pointwise
  refine Eq.trans ?_ (MM.sum_fin 8192 _)
  refine sum_congr rfl fun k _ => ?_
  rw [hX, hY, mul_comm]
  rfl

end Cert.InWRefIdeal.MM

namespace Cert.Proof

open Cert.InWIdeal

theorem InW_defs {F : FTy → Type} [FloatOps F] : (InW.defs (F := F)) = InWIdeal.defs (F := F) :=
  congrArg (Pipeline.defs (InWIdeal.pcfgs (F := F))) (show InW.defs₀ (F := F) = InWIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_InWIdeal : Cert.quiescent_InWIdeal := fun m ρ _ => InWIdeal.Gen.frame (F := Ideal) m ρ

theorem frame_InW : Cert.quiescent_InW := fun m ρ _ =>
  InW_defs (F := Bits) ▸ (θ_run (InWIdeal.defs (F := Bits)) _ _).mono (fun _ h => h) (InWIdeal.Gen.frame (F := Bits) m ρ)

theorem frame_InWRefIdeal : Cert.quiescent_InWRefIdeal := fun m ρ _ =>
  (θ_run (InWRefIdeal.defs (F := Ideal)) _ _).mono (fun _ h => ⟨fun c => (h c).2, funext fun a => nomatch a⟩)
    (InWRefIdeal.Value.run (F := Ideal) m ρ)

/-- The idealized kernel and its reference end with the same gradient. -/
theorem algebraic_InW : Cert.algebraic_InWIdeal_InWRefIdeal := fun m g m' g' _ hargs => by
  have hX := fun c : Dev nD => at2_eq (m ((c.tc : Thread nD τ).loc main_arg0) : S8192x1024.Idx → EReal)
  have hY := fun c : Dev nD => at2_eq (m ((c.tc : Thread nD τ).loc main_arg1) : S8192x3584.Idx → EReal)
  refine ⟨_, (θ_run (InWIdeal.defs (F := Ideal)) _ _).mono (fun r h c => ⟨(h c).1.trans (InWIdeal.MM.out_eq m c (hX c) (hY c)), (h c).2⟩)
    (InWIdeal.Value.run_blocks (F := Ideal) m g), ?_⟩
  refine (θ_run (InWRefIdeal.defs (F := Ideal)) _ _).mono (fun r h c => ⟨(h c).1.trans ?_, (h c).2⟩)
    (InWRefIdeal.Value.run (F := Ideal) m' g')
  rw [(hargs c).1, (hargs c).2]
  exact funext fun x => InWRefIdeal.MM.val _ _ (hX c) (hY c) x

end Cert.Proof

namespace Cert.GluWIdeal.MM

open Cert.GluWIdeal Cert.GluWIdeal.Gen

section
variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (x0 : Vec F S2048x1024 .bf16) (x1 : Vec F S2048x1024 .bf16) (xs : Vec F S1024x1024 .f32)

/-- The first point of a block leaves the block's first product, added to zero. -/
theorem scr_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S2048x1024) MM.hz, View.ld_unit_zero (S := S1024x1024) MM.hz]

/-- A middle point adds its product to what the scratch holds. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  rw [View.canon_unit_zero (S := S1024x1024) MM.hz]
  simp only [View.readAt_eq_ld, h3.read_unread, h4.read_unread, h6.read_unread, View.ld_unit_zero (S := S2048x1024) MM.hz, View.ld_unit_zero (S := S1024x1024) MM.hz]

/-- The last point of a block writes the sum out. -/
theorem out_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (fun _ => cover0_C_2 ..)]
  unfold kernelRun0_C
  dsimp only
  sl_unfold_words
  rw [View.canon_unit_zero (S := S1024x1024) MM.hz, View.readCov_unit_zero (S := S1024x1024) _ MM.hz]
  simp only [View.readAt_eq_ld, h3.read_unread, h4.read_unread, h6.read_unread, View.ld_unit_zero (S := S2048x1024) MM.hz, View.ld_unit_zero (S := S1024x1024) MM.hz]

end

theorem pay1_apply (r : Fin 1024) (c : Fin 1024) : (k0_pay1 (F := Ideal)) (ix2 r c) = 0 := by
  pointwise [k0_pay1]

theorem pay2_apply (xs : Vec Ideal S1024x1024 .f32) (x0 : Vec Ideal S2048x1024 .bf16) (x1 : Vec Ideal S2048x1024 .bf16) (r : Fin 1024) (c : Fin 1024) :
    (k0_pay2 (F := Ideal) xs x0 x1) (ix2 r c) = xs (ix2 r c) + ∑ k : Fin 2048, x0 (ix2 k r) * x1 (ix2 k c) := by
  pointwise [k0_pay2]

theorem ix : ∀ t : Fin cfg0.N, win0_0.index t = ![(t.val % 4 : ℕ), 0] ∧ win0_1.index t = ![(t.val % 4 : ℕ), t.val / 4] ∧ win0_2.index t = ![(0 : ℕ), t.val / 4] := (by decide +kernel : ∀ t : Fin grid0.N, _)

variable (m : (ℓ : Loc nD τ sig) → Buf (Elt Ideal) ℓ) (c : Dev nD) {X Y : ℕ → ℕ → EReal}
  (hX : ∀ x : S8192x1024.Idx, (V m c main_arg0 : S8192x1024.Idx → EReal) x = X (x 0).val (x 1).val)
  (hY : ∀ x : S8192x2048.Idx, (V m c main_arg1 : S8192x2048.Idx → EReal) x = Y (x 0).val (x 1).val)

section
include hX
theorem blk_A (t : Fin cfg0.N) (k : Fin 2048) (r : Fin 1024) : (iblk m c 0 t : S2048x1024.Idx → EReal) (ix2 k r) = X (2048 * (t.val % 4) + k.val) (r.val) := by
  show (V m c main_arg0 : S8192x1024.Idx → EReal) (((cfg0.win 0).blk t).view.emb (ix2 k r)) = _
  rw [hX]
  blk_simp [ix]
  congr 1 <;> omega
end

section
include hY
theorem blk_B (t : Fin cfg0.N) (k : Fin 2048) (c' : Fin 1024) : (iblk m c 1 t : S2048x1024.Idx → EReal) (ix2 k c') = Y (2048 * (t.val % 4) + k.val) (1024 * (t.val / 4) + c'.val) := by
  show (V m c main_arg1 : S8192x2048.Idx → EReal) (((cfg0.win 1).blk t).view.emb (ix2 k c')) = _
  rw [hY]
  blk_simp [ix]
  congr 1 <;> omega
end

/-- The blocks of one point, as arrays of extended reals. -/
abbrev bA (t : Fin cfg0.N) : S2048x1024.Idx → EReal := iblk m c 0 t
abbrev bB (t : Fin cfg0.N) : S2048x1024.Idx → EReal := iblk m c 1 t

include hX hY

/-- One point's product at an entry. -/
theorem step (t : Fin cfg0.N) (r : Fin 1024) (c' : Fin 1024) :
    ∑ k : Fin 2048, bA m c t (ix2 k r) * bB m c t (ix2 k c')
      = ∑ k ∈ range 2048, X (2048 * (t.val % 4) + k) (r.val) * Y (2048 * (t.val % 4) + k) (1024 * (t.val / 4) + c'.val) := by
  refine Eq.trans ?_ (MM.sum_fin 2048 fun k => X (2048 * (t.val % 4) + k) (r.val) * Y (2048 * (t.val % 4) + k) (1024 * (t.val / 4) + c'.val))
  exact sum_congr rfl fun k _ => congrArg₂ (· * ·) (blk_A m c hX t k r) (blk_B m c hY t k c')

/-- The scratch before a block's last point holds the sum over the tokens so far. -/
theorem acc_eq (n : ℕ) (h : n < cfg0.N) (h3 : n % 4 ≠ 3) (r : Fin 1024) (c' : Fin 1024) :
    ((outsAt0 m c n h).2 : S1024x1024.Idx → EReal) (ix2 r c') = ∑ k ∈ range (2048 * (n % 4) + 2048), X k (r.val) * Y k (1024 * (n / 4) + c'.val) :=
  MM.acc_rec 2048 (fun n h => ((outsAt0 m c n h).2 : S1024x1024.Idx → EReal) (ix2 r c')) (fun q k => X k (r.val) * Y k (1024 * (q) + c'.val))
    (fun n h h0 => by
      refine (congrFun (congrArg Prod.snd (outsAt0_A m c ⟨n, h⟩ h0 (show n % 4 ≠ 3 by omega))) (ix2 r c')).trans ?_
      dsimp only
      rw [scr_A, pay2_apply, pay1_apply, zero_add]
      exact step m c hX hY ⟨n, h⟩ r c')
    (fun p h h0 h3 => by
      refine (congrFun (congrArg Prod.snd (outsAt0_B m c ⟨p + 1, h⟩ h0 h3)) (ix2 r c')).trans ?_
      dsimp only
      rw [scr_B, pay2_apply]
      exact congrArg₂ (· + ·) rfl (step m c hX hY ⟨p + 1, h⟩ r c')) n h h3

/-- The array after the run: the whole product. -/
theorem out_eq : (dats m 0 c).arrAt 2 cfg0.N = fun x : S1024x2048.Idx => ∑ k ∈ range 8192, X k (x 0).val * Y k (x 1).val := by
  refine (dats m 0 c).arrAt_eq_of_covers 2 _ (by decide +kernel) fun t hf y => ?_
  have h3 : t.val % 4 = 3 := (flush0_2 t).1 hf
  have h0 : ¬ t.val % 4 = 0 := by omega
  have hk : ∀ (r : Fin 1024) (c' : Fin 1024), ((outsAt0 m c t.val t.isLt).1 : S1024x1024.Idx → EReal) (ix2 r c')
      = ∑ k ∈ range 8192, X k (r.val) * Y k (1024 * (t.val / 4) + c'.val) := fun r c' => by
    rw [outsAt0_C m c t h0 h3]
    dsimp only
    rw [out_C, pay2_apply, step m c hX hY t r c', acc_eq m c hX hY (t.val - 1) _ (by omega) r c']
    rw [show (t.val - 1) % 4 = 2 by omega, show (t.val - 1) / 4 = t.val / 4 by omega, h3]
    exact (MM.sum_cut (fun k => X k (r.val) * Y k (1024 * (t.val / 4) + c'.val)) 6144 2048).symm
  blk_simp [ix]
  rw [after0_2]
  have hy := hk (y 0) (y 1)
  have he := congrArg ((outsAt0 m c t.val t.isLt).1 : S1024x1024.Idx → EReal) (ValueIdx.eq_ix2 y)
  refine (he.trans hy).trans (sum_congr rfl fun k _ => ?_)
  congr 2 <;> omega

end Cert.GluWIdeal.MM

namespace Cert.GluWRefIdeal.MM

open Cert.GluWRefIdeal Cert.GluWRefIdeal.Gen

/-- The reference's gradient at an entry. -/
theorem val {X Y : ℕ → ℕ → EReal} (A : FVec Ideal S8192x1024 .bf16) (D : FVec Ideal S8192x2048 .bf16)
    (hX : ∀ x, A x = X (x 0).val (x 1).val) (hY : ∀ x, D x = Y (x 0).val (x 1).val) (i : S1024x2048.Idx) :
    transpose S1024x2048 [1, 0] (Host.dotGeneral dot_S8192x2048_S8192x1024_S2048x1024_0_0_1_1_n_n none (extf .f32 D bitsLt_bf16_f32) (extf .f32 A bitsLt_bf16_f32)) transposes_S2048x1024_S1024x2048_1_0 i
      = ∑ k ∈ range 8192, X k (i 0).val * Y k (i 1).val := by
  rw [ValueIdx.eq_ix2 i]
  pointwise
  refine Eq.trans ?_ (MM.sum_fin 8192 _)
  refine sum_congr rfl fun k _ => ?_
  rw [hX, hY, mul_comm]
  rfl

end Cert.GluWRefIdeal.MM

namespace Cert.Proof

open Cert.GluWIdeal

theorem GluW_defs {F : FTy → Type} [FloatOps F] : (GluW.defs (F := F)) = GluWIdeal.defs (F := F) :=
  congrArg (Pipeline.defs (GluWIdeal.pcfgs (F := F))) (show GluW.defs₀ (F := F) = GluWIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_GluWIdeal : Cert.quiescent_GluWIdeal := fun m ρ _ => GluWIdeal.Gen.frame (F := Ideal) m ρ

theorem frame_GluW : Cert.quiescent_GluW := fun m ρ _ =>
  GluW_defs (F := Bits) ▸ (θ_run (GluWIdeal.defs (F := Bits)) _ _).mono (fun _ h => h) (GluWIdeal.Gen.frame (F := Bits) m ρ)

theorem frame_GluWRefIdeal : Cert.quiescent_GluWRefIdeal := fun m ρ _ =>
  (θ_run (GluWRefIdeal.defs (F := Ideal)) _ _).mono (fun _ h => ⟨fun c => (h c).2, funext fun a => nomatch a⟩)
    (GluWRefIdeal.Value.run (F := Ideal) m ρ)

/-- The idealized kernel and its reference end with the same gradient. -/
theorem algebraic_GluW : Cert.algebraic_GluWIdeal_GluWRefIdeal := fun m g m' g' _ hargs => by
  have hX := fun c : Dev nD => at2_eq (m ((c.tc : Thread nD τ).loc main_arg0) : S8192x1024.Idx → EReal)
  have hY := fun c : Dev nD => at2_eq (m ((c.tc : Thread nD τ).loc main_arg1) : S8192x2048.Idx → EReal)
  refine ⟨_, (θ_run (GluWIdeal.defs (F := Ideal)) _ _).mono (fun r h c => ⟨(h c).1.trans (GluWIdeal.MM.out_eq m c (hX c) (hY c)), (h c).2⟩)
    (GluWIdeal.Value.run_blocks (F := Ideal) m g), ?_⟩
  refine (θ_run (GluWRefIdeal.defs (F := Ideal)) _ _).mono (fun r h c => ⟨(h c).1.trans ?_, (h c).2⟩)
    (GluWRefIdeal.Value.run (F := Ideal) m' g')
  rw [(hargs c).1, (hargs c).2]
  exact funext fun x => GluWRefIdeal.MM.val _ _ (hX c) (hY c) x

end Cert.Proof

namespace Cert.SquareWIdeal.MM

open Cert.SquareWIdeal Cert.SquareWIdeal.Gen

section
variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (x0 : Vec F S2048x1024 .bf16) (x1 : Vec F S2048x1024 .bf16) (xs : Vec F S1024x1024 .f32)

/-- The first point of a block leaves the block's first product, added to zero. -/
theorem scr_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S2048x1024) MM.hz, View.ld_unit_zero (S := S1024x1024) MM.hz]

/-- A middle point adds its product to what the scratch holds. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  rw [View.canon_unit_zero (S := S1024x1024) MM.hz]
  simp only [View.readAt_eq_ld, h3.read_unread, h4.read_unread, h6.read_unread, View.ld_unit_zero (S := S2048x1024) MM.hz, View.ld_unit_zero (S := S1024x1024) MM.hz]

/-- The last point of a block writes the sum out. -/
theorem out_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (fun _ => cover0_C_2 ..)]
  unfold kernelRun0_C
  dsimp only
  sl_unfold_words
  rw [View.canon_unit_zero (S := S1024x1024) MM.hz, View.readCov_unit_zero (S := S1024x1024) _ MM.hz]
  simp only [View.readAt_eq_ld, h3.read_unread, h4.read_unread, h6.read_unread, View.ld_unit_zero (S := S2048x1024) MM.hz, View.ld_unit_zero (S := S1024x1024) MM.hz]

end

theorem pay1_apply (r : Fin 1024) (c : Fin 1024) : (k0_pay1 (F := Ideal)) (ix2 r c) = 0 := by
  pointwise [k0_pay1]

theorem pay2_apply (xs : Vec Ideal S1024x1024 .f32) (x0 : Vec Ideal S2048x1024 .bf16) (x1 : Vec Ideal S2048x1024 .bf16) (r : Fin 1024) (c : Fin 1024) :
    (k0_pay2 (F := Ideal) xs x0 x1) (ix2 r c) = xs (ix2 r c) + ∑ k : Fin 2048, x0 (ix2 k r) * x1 (ix2 k c) := by
  pointwise [k0_pay2]

theorem ix : ∀ t : Fin cfg0.N, win0_0.index t = ![(t.val % 4 : ℕ), 0] ∧ win0_1.index t = ![(t.val % 4 : ℕ), t.val / 4] ∧ win0_2.index t = ![(0 : ℕ), t.val / 4] := (by decide +kernel : ∀ t : Fin grid0.N, _)

variable (m : (ℓ : Loc nD τ sig) → Buf (Elt Ideal) ℓ) (c : Dev nD) {X Y : ℕ → ℕ → EReal}
  (hX : ∀ x : S8192x1024.Idx, (V m c main_arg0 : S8192x1024.Idx → EReal) x = X (x 0).val (x 1).val)
  (hY : ∀ x : S8192x1024.Idx, (V m c main_arg1 : S8192x1024.Idx → EReal) x = Y (x 0).val (x 1).val)

section
include hX
theorem blk_A (t : Fin cfg0.N) (k : Fin 2048) (r : Fin 1024) : (iblk m c 0 t : S2048x1024.Idx → EReal) (ix2 k r) = X (2048 * (t.val % 4) + k.val) (r.val) := by
  show (V m c main_arg0 : S8192x1024.Idx → EReal) (((cfg0.win 0).blk t).view.emb (ix2 k r)) = _
  rw [hX]
  blk_simp [ix]
  congr 1 <;> omega
end

section
include hY
theorem blk_B (t : Fin cfg0.N) (k : Fin 2048) (c' : Fin 1024) : (iblk m c 1 t : S2048x1024.Idx → EReal) (ix2 k c') = Y (2048 * (t.val % 4) + k.val) (1024 * (t.val / 4) + c'.val) := by
  show (V m c main_arg1 : S8192x1024.Idx → EReal) (((cfg0.win 1).blk t).view.emb (ix2 k c')) = _
  rw [hY]
  blk_simp [ix]
  congr 1 <;> omega
end

/-- The blocks of one point, as arrays of extended reals. -/
abbrev bA (t : Fin cfg0.N) : S2048x1024.Idx → EReal := iblk m c 0 t
abbrev bB (t : Fin cfg0.N) : S2048x1024.Idx → EReal := iblk m c 1 t

include hX hY

/-- One point's product at an entry. -/
theorem step (t : Fin cfg0.N) (r : Fin 1024) (c' : Fin 1024) :
    ∑ k : Fin 2048, bA m c t (ix2 k r) * bB m c t (ix2 k c')
      = ∑ k ∈ range 2048, X (2048 * (t.val % 4) + k) (r.val) * Y (2048 * (t.val % 4) + k) (1024 * (t.val / 4) + c'.val) := by
  refine Eq.trans ?_ (MM.sum_fin 2048 fun k => X (2048 * (t.val % 4) + k) (r.val) * Y (2048 * (t.val % 4) + k) (1024 * (t.val / 4) + c'.val))
  exact sum_congr rfl fun k _ => congrArg₂ (· * ·) (blk_A m c hX t k r) (blk_B m c hY t k c')

/-- The scratch before a block's last point holds the sum over the tokens so far. -/
theorem acc_eq (n : ℕ) (h : n < cfg0.N) (h3 : n % 4 ≠ 3) (r : Fin 1024) (c' : Fin 1024) :
    ((outsAt0 m c n h).2 : S1024x1024.Idx → EReal) (ix2 r c') = ∑ k ∈ range (2048 * (n % 4) + 2048), X k (r.val) * Y k (1024 * (n / 4) + c'.val) :=
  MM.acc_rec 2048 (fun n h => ((outsAt0 m c n h).2 : S1024x1024.Idx → EReal) (ix2 r c')) (fun q k => X k (r.val) * Y k (1024 * (q) + c'.val))
    (fun n h h0 => by
      refine (congrFun (congrArg Prod.snd (outsAt0_A m c ⟨n, h⟩ h0 (show n % 4 ≠ 3 by omega))) (ix2 r c')).trans ?_
      dsimp only
      rw [scr_A, pay2_apply, pay1_apply, zero_add]
      exact step m c hX hY ⟨n, h⟩ r c')
    (fun p h h0 h3 => by
      refine (congrFun (congrArg Prod.snd (outsAt0_B m c ⟨p + 1, h⟩ h0 h3)) (ix2 r c')).trans ?_
      dsimp only
      rw [scr_B, pay2_apply]
      exact congrArg₂ (· + ·) rfl (step m c hX hY ⟨p + 1, h⟩ r c')) n h h3

/-- The array after the run: the whole product. -/
theorem out_eq : (dats m 0 c).arrAt 2 cfg0.N = fun x : S1024x1024.Idx => ∑ k ∈ range 8192, X k (x 0).val * Y k (x 1).val := by
  refine (dats m 0 c).arrAt_eq_of_covers 2 _ (by decide +kernel) fun t hf y => ?_
  have h3 : t.val % 4 = 3 := (flush0_2 t).1 hf
  have h0 : ¬ t.val % 4 = 0 := by omega
  have hk : ∀ (r : Fin 1024) (c' : Fin 1024), ((outsAt0 m c t.val t.isLt).1 : S1024x1024.Idx → EReal) (ix2 r c')
      = ∑ k ∈ range 8192, X k (r.val) * Y k (1024 * (t.val / 4) + c'.val) := fun r c' => by
    rw [outsAt0_C m c t h0 h3]
    dsimp only
    rw [out_C, pay2_apply, step m c hX hY t r c', acc_eq m c hX hY (t.val - 1) _ (by omega) r c']
    rw [show (t.val - 1) % 4 = 2 by omega, show (t.val - 1) / 4 = t.val / 4 by omega, h3]
    exact (MM.sum_cut (fun k => X k (r.val) * Y k (1024 * (t.val / 4) + c'.val)) 6144 2048).symm
  blk_simp [ix]
  rw [after0_2]
  have hy := hk (y 0) (y 1)
  have he := congrArg ((outsAt0 m c t.val t.isLt).1 : S1024x1024.Idx → EReal) (ValueIdx.eq_ix2 y)
  refine (he.trans hy).trans (sum_congr rfl fun k _ => ?_)
  congr 2 <;> omega

end Cert.SquareWIdeal.MM

namespace Cert.SquareWRefIdeal.MM

open Cert.SquareWRefIdeal Cert.SquareWRefIdeal.Gen

/-- The reference's gradient at an entry. -/
theorem val {X Y : ℕ → ℕ → EReal} (A : FVec Ideal S8192x1024 .bf16) (D : FVec Ideal S8192x1024 .bf16)
    (hX : ∀ x, A x = X (x 0).val (x 1).val) (hY : ∀ x, D x = Y (x 0).val (x 1).val) (i : S1024x1024.Idx) :
    transpose S1024x1024 [1, 0] (Host.dotGeneral dot_S8192x1024_S8192x1024_S1024x1024_0_0_1_1_n_n none (extf .f32 D bitsLt_bf16_f32) (extf .f32 A bitsLt_bf16_f32)) transposes_S1024x1024_S1024x1024_1_0 i
      = ∑ k ∈ range 8192, X k (i 0).val * Y k (i 1).val := by
  rw [ValueIdx.eq_ix2 i]
  pointwise
  refine Eq.trans ?_ (MM.sum_fin 8192 _)
  refine sum_congr rfl fun k _ => ?_
  rw [hX, hY, mul_comm]
  rfl

end Cert.SquareWRefIdeal.MM

namespace Cert.Proof

open Cert.SquareWIdeal

theorem SquareW_defs {F : FTy → Type} [FloatOps F] : (SquareW.defs (F := F)) = SquareWIdeal.defs (F := F) :=
  congrArg (Pipeline.defs (SquareWIdeal.pcfgs (F := F))) (show SquareW.defs₀ (F := F) = SquareWIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_SquareWIdeal : Cert.quiescent_SquareWIdeal := fun m ρ _ => SquareWIdeal.Gen.frame (F := Ideal) m ρ

theorem frame_SquareW : Cert.quiescent_SquareW := fun m ρ _ =>
  SquareW_defs (F := Bits) ▸ (θ_run (SquareWIdeal.defs (F := Bits)) _ _).mono (fun _ h => h) (SquareWIdeal.Gen.frame (F := Bits) m ρ)

theorem frame_SquareWRefIdeal : Cert.quiescent_SquareWRefIdeal := fun m ρ _ =>
  (θ_run (SquareWRefIdeal.defs (F := Ideal)) _ _).mono (fun _ h => ⟨fun c => (h c).2, funext fun a => nomatch a⟩)
    (SquareWRefIdeal.Value.run (F := Ideal) m ρ)

/-- The idealized kernel and its reference end with the same gradient. -/
theorem algebraic_SquareW : Cert.algebraic_SquareWIdeal_SquareWRefIdeal := fun m g m' g' _ hargs => by
  have hX := fun c : Dev nD => at2_eq (m ((c.tc : Thread nD τ).loc main_arg0) : S8192x1024.Idx → EReal)
  have hY := fun c : Dev nD => at2_eq (m ((c.tc : Thread nD τ).loc main_arg1) : S8192x1024.Idx → EReal)
  refine ⟨_, (θ_run (SquareWIdeal.defs (F := Ideal)) _ _).mono (fun r h c => ⟨(h c).1.trans (SquareWIdeal.MM.out_eq m c (hX c) (hY c)), (h c).2⟩)
    (SquareWIdeal.Value.run_blocks (F := Ideal) m g), ?_⟩
  refine (θ_run (SquareWRefIdeal.defs (F := Ideal)) _ _).mono (fun r h c => ⟨(h c).1.trans ?_, (h c).2⟩)
    (SquareWRefIdeal.Value.run (F := Ideal) m' g')
  rw [(hargs c).1, (hargs c).2]
  exact funext fun x => SquareWRefIdeal.MM.val _ _ (hX c) (hY c) x

end Cert.Proof
-- ==== Proof.Mlp.lean ====
module

public import proofs.«01_k».proof.Proof.Gen.UpIdeal.Value
public import proofs.«01_k».proof.Proof.Gen.UpRefIdeal.Run
public import proofs.«01_k».proof.Proof.Nats
public import Idealize.ShloMosaic.Lib.Pipeline.ValueKit
public import proofs.«01_k».proof.Defs
public import proofs.«01_k».proof.Proof.Gen.Up
public import proofs.«01_k».proof.Proof.Gen.UpBIdeal.Value
public import proofs.«01_k».proof.Proof.Gen.UpBRefIdeal.Run
public import proofs.«01_k».proof.Proof.Gen.UpB
public import proofs.«01_k».proof.Proof.Gen.DownActIdeal.Value
public import proofs.«01_k».proof.Proof.Gen.DownActRefIdeal.Run
public import proofs.«01_k».proof.Proof.Gen.DownAct
public import proofs.«01_k».proof.Proof.Gen.DownActBIdeal.Value
public import proofs.«01_k».proof.Proof.Gen.DownActBRefIdeal.Run
public import proofs.«01_k».proof.Proof.Gen.DownActB
public import proofs.«01_k».proof.Proof.Gen.SquareActIdeal.Value
public import proofs.«01_k».proof.Proof.Gen.SquareActRefIdeal.Run
public import proofs.«01_k».proof.Proof.Nats3
public import proofs.«01_k».proof.Proof.Gen.SquareAct

/-! The squared ReLU, its derivative and a square product: values, frames and agreement. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at2 at4 at2_eq at4_eq at1_eq at3_eq)

namespace Cert.UpIdeal.MM

open Cert.UpIdeal Cert.UpIdeal.Gen

/-- What one point writes out. -/
theorem out_A {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole)
    (a5 : Memref sig .tc .vmem S1024x1024 .bf16) (h5 : a5.IsWhole) (a6 : Memref sig .tc .vmem S1024x1024 .f32) (h6 : a6.IsWhole) (hc0 : cond0_0 i) (hc1 : cond0_1 i)
    (x0 : Vec F S1024x1024 .bf16) (x1 : Vec F S1x1x1024x1024 .bf16) :
    out0_A_2 c i a3 h3 a4 h4 a5 h5 a6 h6 hc0 hc1 x0 x1 = k0_pay3 (k0_pay2 k0_pay1 x0 x1) := by
  unfold out0_A_2
  rw [View.read_writes_eq_canon _ _ _ (fun _ => cover0_A_2 ..)]
  unfold kernelRun0_A
  dsimp only
  sl_unfold_words
  rw [View.canon_unit_zero (S := S1024x1024) MM.hz]
  rw [View.readCov_cons_toLoadRect]
  simp only [View.readCov_unit_zero (S := S1024x1024) _ MM.hz, View.readAt_eq_ld, h3.read_unread, h4.read_unread,
    View.ld_unit_zero (S := S1024x1024) MM.hz, View.ld_unit_zero (S := S1x1x1024x1024) MM.hz4]

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 k c) := by
  pointwise [k0_pay2]

theorem pay3_apply (xs : Vec Ideal S1024x1024 .f32) (r c : Fin 1024) :
    (k0_pay3 (F := Ideal) xs) (ix2 r c) = max (xs (ix2 r c)) 0 * max (xs (ix2 r c)) 0 := by
  pointwise [k0_pay3]

theorem ix : ∀ t : Fin cfg0.N, win0_0.index t = ![(t.val / 4 : ℕ), 0] ∧ win0_1.index t = ![(t.val % 4 : ℕ), 0, 0, 0] ∧ win0_2.index t = ![(t.val / 4 : ℕ), t.val % 4] := (by decide +kernel : ∀ t : Fin grid0.N, _)

variable (m : (ℓ : Loc nD τ sig) → Buf (Elt Ideal) ℓ) (c : Dev nD) {X : ℕ → ℕ → EReal} {W : ℕ → ℕ → ℕ → ℕ → EReal}
  (hX : ∀ x : S8192x1024.Idx, (V m c main_arg0 : S8192x1024.Idx → EReal) x = X (x 0).val (x 1).val)
  (hW : ∀ x : S4x2x1024x1024.Idx, (V m c main_arg1 : S4x2x1024x1024.Idx → EReal) x = W (x 0).val (x 1).val (x 2).val (x 3).val)

/-- The blocks of one point, as arrays of extended reals. -/
abbrev bA (t : Fin cfg0.N) : S1024x1024.Idx → EReal := iblk m c 0 t
abbrev bB (t : Fin cfg0.N) : S1x1x1024x1024.Idx → EReal := iblk m c 1 t

section
include hX
theorem blk_A (t : Fin cfg0.N) (r k : Fin 1024) : bA m c t (ix2 r k) = X (1024 * (t.val / 4) + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k c' : Fin 1024) : bB m c t (ix4 0 0 k c') = W (t.val % 4) 0 k.val c'.val := by
  show (V m c main_arg1 : S4x2x1024x1024.Idx → EReal) (((cfg0.win 1).blk t).view.emb (ix4 0 0 k c')) = _
  rw [hW]
  blk_simp [ix]
  rfl
end

/-- The product at an entry. -/
def prod (X : ℕ → ℕ → EReal) (W : ℕ → ℕ → ℕ → ℕ → EReal) (r n : ℕ) : EReal := ∑ k ∈ range 1024, X r k * W (n / 1024) 0 k (n % 1024)

include hX hW

/-- One point's product at an entry. -/
theorem step (t : Fin cfg0.N) (r c' : Fin 1024) :
    ∑ k : Fin 1024, bA m c t (ix2 r k) * bB m c t (ix4 0 0 k c') = prod X W (1024 * (t.val / 4) + r.val) (1024 * (t.val % 4) + c'.val) := by
  unfold prod
  rw [show (1024 * (t.val % 4) + c'.val) / 1024 = t.val % 4 by omega, show (1024 * (t.val % 4) + c'.val) % 1024 = c'.val by omega]
  refine Eq.trans ?_ (MM.sum_fin 1024 fun k => X (1024 * (t.val / 4) + r.val) k * W (t.val % 4) 0 k c'.val)
  exact sum_congr rfl fun k _ => congrArg₂ (· * ·) (blk_A m c hX t r k) (blk_B m c hW t k c')

/-- The array after the run. -/
theorem out_eq : (dats m 0 c).arrAt 2 cfg0.N = fun x : S8192x4096.Idx => max (prod X W (x 0).val (x 1).val) 0 * max (prod X W (x 0).val (x 1).val) 0 := by
  refine (dats m 0 c).arrAt_eq_of_covers 2 _ (by decide +kernel) fun t hf y => ?_
  have hk : ∀ (r c' : Fin 1024), (outsAt0 m c t : S1024x1024.Idx → EReal) (ix2 r c')
      = max (prod X W (1024 * (t.val / 4) + r.val) (1024 * (t.val % 4) + c'.val)) 0 * max (prod X W (1024 * (t.val / 4) + r.val) (1024 * (t.val % 4) + c'.val)) 0 := fun r c' => by
    unfold outsAt0
    rw [out_A, pay3_apply, pay2_apply, pay1_apply, zero_add, step m c hX hW t r c']
  blk_simp [ix]
  rw [after0_2]
  have he := congrArg (outsAt0 m c t : S1024x1024.Idx → EReal) (ValueIdx.eq_ix2 y)
  refine (he.trans (hk (y 0) (y 1))).trans ?_
  rw [Nat.mul_comm 1024 (t.val / 4), Nat.mul_comm 1024 (t.val % 4)]

end Cert.UpIdeal.MM

namespace Cert.UpRefIdeal.MM

open Cert.UpRefIdeal Cert.UpRefIdeal.Gen

/-- The reference's product at an entry. -/
theorem prod_val {X : ℕ → ℕ → EReal} {W : ℕ → ℕ → ℕ → ℕ → EReal} (A : FVec Ideal S8192x1024 .bf16) (B : FVec Ideal S4x2x1024x1024 .bf16)
    (hX : ∀ x, A x = X (x 0).val (x 1).val) (hW : ∀ x, B x = W (x 0).val (x 1).val (x 2).val (x 3).val) (r : Fin 8192) (n : Fin 4096) :
    Host.dotGeneral dot_S8192x1024_S1024x4096_S8192x4096_1_0_0_1_n_n none (extf .f32 A bitsLt_bf16_f32) (shapeCast _ (transpose S1024x4x1024 [1, 0, 2] (extf .f32 (shapeCast _ (extractStridedSlice S4x1x1024x1024 ![0, 0, 0, 0] B slices_S4x2x1024x1024_S4x1x1024x1024_0_0_0_0) shapeCasts_S4x1x1024x1024_S4x1024x1024) bitsLt_bf16_f32) transposes_S4x1024x1024_S1024x4x1024_1_0_2) shapeCasts_S1024x4x1024_S1024x4096) (ix2 r n)
      = UpIdeal.MM.prod X W r.val n.val := by
  unfold UpIdeal.MM.prod
  pointwise
  refine Eq.trans ?_ (MM.sum_fin 1024 _)
  refine sum_congr rfl fun k _ => ?_
  rw [hX, hW]
  rfl

/-- The reference's result at an entry. -/
theorem val {X : ℕ → ℕ → EReal} {W : ℕ → ℕ → ℕ → ℕ → EReal} (A : FVec Ideal S8192x1024 .bf16) (B : FVec Ideal S4x2x1024x1024 .bf16)
    (hX : ∀ x, A x = X (x 0).val (x 1).val) (hW : ∀ x, B x = W (x 0).val (x 1).val (x 2).val (x 3).val) (i : S8192x4096.Idx) :
    truncf .bf16 (mulf (maximumf (Host.dotGeneral dot_S8192x1024_S1024x4096_S8192x4096_1_0_0_1_n_n none (extf .f32 A bitsLt_bf16_f32) (shapeCast _ (transpose S1024x4x1024 [1, 0, 2] (extf .f32 (shapeCast _ (extractStridedSlice S4x1x1024x1024 ![0, 0, 0, 0] B slices_S4x2x1024x1024_S4x1x1024x1024_0_0_0_0) shapeCasts_S4x1x1024x1024_S4x1024x1024) bitsLt_bf16_f32) transposes_S4x1024x1024_S1024x4x1024_1_0_2) shapeCasts_S1024x4x1024_S1024x4096)) (broadcastInDim S8192x4096 ![] bcast_S_S8192x4096 (constant S_ .f32 0x00000000#32)))
      (maximumf (Host.dotGeneral dot_S8192x1024_S1024x4096_S8192x4096_1_0_0_1_n_n none (extf .f32 A bitsLt_bf16_f32) (shapeCast _ (transpose S1024x4x1024 [1, 0, 2] (extf .f32 (shapeCast _ (extractStridedSlice S4x1x1024x1024 ![0, 0, 0, 0] B slices_S4x2x1024x1024_S4x1x1024x1024_0_0_0_0) shapeCasts_S4x1x1024x1024_S4x1024x1024) bitsLt_bf16_f32) transposes_S4x1024x1024_S1024x4x1024_1_0_2) shapeCasts_S1024x4x1024_S1024x4096)) (broadcastInDim S8192x4096 ![] bcast_S_S8192x4096 (constant S_ .f32 0x00000000#32)))) bitsLt_bf16_f32 i
      = max (UpIdeal.MM.prod X W (i 0).val (i 1).val) 0 * max (UpIdeal.MM.prod X W (i 0).val (i 1).val) 0 := by
  have h := prod_val A B hX hW (i 0) (i 1)
  rw [ValueIdx.eq_ix2 i]
  generalize Host.dotGeneral dot_S8192x1024_S1024x4096_S8192x4096_1_0_0_1_n_n none (extf .f32 A bitsLt_bf16_f32) _ = D at h ⊢
  pointwise
  exact congrArg (fun y => max y 0 * max y 0) h

end Cert.UpRefIdeal.MM

namespace Cert.Proof

open Cert.UpIdeal

theorem Up_defs {F : FTy → Type} [FloatOps F] : (Up.defs (F := F)) = UpIdeal.defs (F := F) :=
  congrArg (Pipeline.defs (UpIdeal.pcfgs (F := F))) (show Up.defs₀ (F := F) = UpIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_UpIdeal : Cert.quiescent_UpIdeal := fun m ρ _ => UpIdeal.Gen.frame (F := Ideal) m ρ

theorem frame_Up : Cert.quiescent_Up := fun m ρ _ =>
  Up_defs (F := Bits) ▸ (θ_run (UpIdeal.defs (F := Bits)) _ _).mono (fun _ h => h) (UpIdeal.Gen.frame (F := Bits) m ρ)

theorem frame_UpRefIdeal : Cert.quiescent_UpRefIdeal := fun m ρ _ =>
  (θ_run (UpRefIdeal.defs (F := Ideal)) _ _).mono (fun _ h => ⟨fun c => (h c).2, funext fun a => nomatch a⟩)
    (UpRefIdeal.Value.run (F := Ideal) m ρ)

/-- The idealized kernel and its reference end with the same squared ReLU. -/
theorem algebraic_Up : Cert.algebraic_UpIdeal_UpRefIdeal := fun m g m' g' _ hargs => by
  have hX := fun c : Dev nD => at2_eq (m ((c.tc : Thread nD τ).loc main_arg0) : S8192x1024.Idx → EReal)
  have hW := fun c : Dev nD => at4_eq (m ((c.tc : Thread nD τ).loc main_arg1) : S4x2x1024x1024.Idx → EReal)
  refine ⟨_, (θ_run (UpIdeal.defs (F := Ideal)) _ _).mono (fun r h c => ⟨(h c).1.trans (UpIdeal.MM.out_eq m c (hX c) (hW c)), (h c).2⟩)
    (UpIdeal.Value.run_blocks (F := Ideal) m g), ?_⟩
  refine (θ_run (UpRefIdeal.defs (F := Ideal)) _ _).mono (fun r h c => ⟨(h c).1.trans ?_, (h c).2⟩)
    (UpRefIdeal.Value.run (F := Ideal) m' g')
  rw [(hargs c).1, (hargs c).2]
  exact funext fun x => UpRefIdeal.MM.val _ _ (hX c) (hW c) x

end Cert.Proof

namespace Cert.UpBIdeal.MM

open Cert.UpBIdeal Cert.UpBIdeal.Gen

/-- What one point writes out. -/
theorem out_A {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole)
    (a5 : Memref sig .tc .vmem S1024x1024 .bf16) (h5 : a5.IsWhole) (a6 : Memref sig .tc .vmem S1024x1024 .f32) (h6 : a6.IsWhole) (hc0 : cond0_0 i) (hc1 : cond0_1 i)
    (x0 : Vec F S1024x1024 .bf16) (x1 : Vec F S1x1x1024x1024 .bf16) :
    out0_A_2 c i a3 h3 a4 h4 a5 h5 a6 h6 hc0 hc1 x0 x1 = k0_pay3 (k0_pay2 k0_pay1 x0 x1) := by
  unfold out0_A_2
  rw [View.read_writes_eq_canon _ _ _ (fun _ => cover0_A_2 ..)]
  unfold kernelRun0_A
  dsimp only
  sl_unfold_words
  rw [View.canon_unit_zero (S := S1024x1024) MM.hz]
  rw [View.readCov_cons_toLoadRect]
  simp only [View.readCov_unit_zero (S := S1024x1024) _ MM.hz, View.readAt_eq_ld, h3.read_unread, h4.read_unread,
    View.ld_unit_zero (S := S1024x1024) MM.hz, View.ld_unit_zero (S := S1x1x1024x1024) MM.hz4]

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 k c) := by
  pointwise [k0_pay2]

theorem pay3_apply (xs : Vec Ideal S1024x1024 .f32) (r c : Fin 1024) :
    (k0_pay3 (F := Ideal) xs) (ix2 r c) = max (xs (ix2 r c)) 0 * max (xs (ix2 r c)) 0 := by
  pointwise [k0_pay3]

theorem ix : ∀ t : Fin cfg0.N, win0_0.index t = ![(t.val / 4 : ℕ), 0] ∧ win0_1.index t = ![(t.val % 4 : ℕ), 1, 0, 0] ∧ win0_2.index t = ![(t.val / 4 : ℕ), t.val % 4] := (by decide +kernel : ∀ t : Fin grid0.N, _)

variable (m : (ℓ : Loc nD τ sig) → Buf (Elt Ideal) ℓ) (c : Dev nD) {X : ℕ → ℕ → EReal} {W : ℕ → ℕ → ℕ → ℕ → EReal}
  (hX : ∀ x : S8192x1024.Idx, (V m c main_arg0 : S8192x1024.Idx → EReal) x = X (x 0).val (x 1).val)
  (hW : ∀ x : S4x2x1024x1024.Idx, (V m c main_arg1 : S4x2x1024x1024.Idx → EReal) x = W (x 0).val (x 1).val (x 2).val (x 3).val)

/-- The blocks of one point, as arrays of extended reals. -/
abbrev bA (t : Fin cfg0.N) : S1024x1024.Idx → EReal := iblk m c 0 t
abbrev bB (t : Fin cfg0.N) : S1x1x1024x1024.Idx → EReal := iblk m c 1 t

section
include hX
theorem blk_A (t : Fin cfg0.N) (r k : Fin 1024) : bA m c t (ix2 r k) = X (1024 * (t.val / 4) + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k c' : Fin 1024) : bB m c t (ix4 0 0 k c') = W (t.val % 4) 1 k.val c'.val := by
  show (V m c main_arg1 : S4x2x1024x1024.Idx → EReal) (((cfg0.win 1).blk t).view.emb (ix4 0 0 k c')) = _
  rw [hW]
  blk_simp [ix]
  rfl
end

/-- The product at an entry. -/
def prod (X : ℕ → ℕ → EReal) (W : ℕ → ℕ → ℕ → ℕ → EReal) (r n : ℕ) : EReal := ∑ k ∈ range 1024, X r k * W (n / 1024) 1 k (n % 1024)

include hX hW

/-- One point's product at an entry. -/
theorem step (t : Fin cfg0.N) (r c' : Fin 1024) :
    ∑ k : Fin 1024, bA m c t (ix2 r k) * bB m c t (ix4 0 0 k c') = prod X W (1024 * (t.val / 4) + r.val) (1024 * (t.val % 4) + c'.val) := by
  unfold prod
  rw [show (1024 * (t.val % 4) + c'.val) / 1024 = t.val % 4 by omega, show (1024 * (t.val % 4) + c'.val) % 1024 = c'.val by omega]
  refine Eq.trans ?_ (MM.sum_fin 1024 fun k => X (1024 * (t.val / 4) + r.val) k * W (t.val % 4) 1 k c'.val)
  exact sum_congr rfl fun k _ => congrArg₂ (· * ·) (blk_A m c hX t r k) (blk_B m c hW t k c')

/-- The array after the run. -/
theorem out_eq : (dats m 0 c).arrAt 2 cfg0.N = fun x : S8192x4096.Idx => max (prod X W (x 0).val (x 1).val) 0 * max (prod X W (x 0).val (x 1).val) 0 := by
  refine (dats m 0 c).arrAt_eq_of_covers 2 _ (by decide +kernel) fun t hf y => ?_
  have hk : ∀ (r c' : Fin 1024), (outsAt0 m c t : S1024x1024.Idx → EReal) (ix2 r c')
      = max (prod X W (1024 * (t.val / 4) + r.val) (1024 * (t.val % 4) + c'.val)) 0 * max (prod X W (1024 * (t.val / 4) + r.val) (1024 * (t.val % 4) + c'.val)) 0 := fun r c' => by
    unfold outsAt0
    rw [out_A, pay3_apply, pay2_apply, pay1_apply, zero_add, step m c hX hW t r c']
  blk_simp [ix]
  rw [after0_2]
  have he := congrArg (outsAt0 m c t : S1024x1024.Idx → EReal) (ValueIdx.eq_ix2 y)
  refine (he.trans (hk (y 0) (y 1))).trans ?_
  rw [Nat.mul_comm 1024 (t.val / 4), Nat.mul_comm 1024 (t.val % 4)]

end Cert.UpBIdeal.MM

namespace Cert.UpBRefIdeal.MM

open Cert.UpBRefIdeal Cert.UpBRefIdeal.Gen

/-- The reference's product at an entry. -/
theorem prod_val {X : ℕ → ℕ → EReal} {W : ℕ → ℕ → ℕ → ℕ → EReal} (A : FVec Ideal S8192x1024 .bf16) (B : FVec Ideal S4x2x1024x1024 .bf16)
    (hX : ∀ x, A x = X (x 0).val (x 1).val) (hW : ∀ x, B x = W (x 0).val (x 1).val (x 2).val (x 3).val) (r : Fin 8192) (n : Fin 4096) :
    Host.dotGeneral dot_S8192x1024_S1024x4096_S8192x4096_1_0_0_1_n_n none (extf .f32 A bitsLt_bf16_f32) (shapeCast _ (transpose S1024x4x1024 [1, 0, 2] (extf .f32 (shapeCast _ (extractStridedSlice S4x1x1024x1024 ![0, 1, 0, 0] B slices_S4x2x1024x1024_S4x1x1024x1024_0_1_0_0) shapeCasts_S4x1x1024x1024_S4x1024x1024) bitsLt_bf16_f32) transposes_S4x1024x1024_S1024x4x1024_1_0_2) shapeCasts_S1024x4x1024_S1024x4096) (ix2 r n)
      = UpBIdeal.MM.prod X W r.val n.val := by
  unfold UpBIdeal.MM.prod
  pointwise
  refine Eq.trans ?_ (MM.sum_fin 1024 _)
  refine sum_congr rfl fun k _ => ?_
  rw [hX, hW]
  rfl

/-- The reference's result at an entry. -/
theorem val {X : ℕ → ℕ → EReal} {W : ℕ → ℕ → ℕ → ℕ → EReal} (A : FVec Ideal S8192x1024 .bf16) (B : FVec Ideal S4x2x1024x1024 .bf16)
    (hX : ∀ x, A x = X (x 0).val (x 1).val) (hW : ∀ x, B x = W (x 0).val (x 1).val (x 2).val (x 3).val) (i : S8192x4096.Idx) :
    truncf .bf16 (mulf (maximumf (Host.dotGeneral dot_S8192x1024_S1024x4096_S8192x4096_1_0_0_1_n_n none (extf .f32 A bitsLt_bf16_f32) (shapeCast _ (transpose S1024x4x1024 [1, 0, 2] (extf .f32 (shapeCast _ (extractStridedSlice S4x1x1024x1024 ![0, 1, 0, 0] B slices_S4x2x1024x1024_S4x1x1024x1024_0_1_0_0) shapeCasts_S4x1x1024x1024_S4x1024x1024) bitsLt_bf16_f32) transposes_S4x1024x1024_S1024x4x1024_1_0_2) shapeCasts_S1024x4x1024_S1024x4096)) (broadcastInDim S8192x4096 ![] bcast_S_S8192x4096 (constant S_ .f32 0x00000000#32)))
      (maximumf (Host.dotGeneral dot_S8192x1024_S1024x4096_S8192x4096_1_0_0_1_n_n none (extf .f32 A bitsLt_bf16_f32) (shapeCast _ (transpose S1024x4x1024 [1, 0, 2] (extf .f32 (shapeCast _ (extractStridedSlice S4x1x1024x1024 ![0, 1, 0, 0] B slices_S4x2x1024x1024_S4x1x1024x1024_0_1_0_0) shapeCasts_S4x1x1024x1024_S4x1024x1024) bitsLt_bf16_f32) transposes_S4x1024x1024_S1024x4x1024_1_0_2) shapeCasts_S1024x4x1024_S1024x4096)) (broadcastInDim S8192x4096 ![] bcast_S_S8192x4096 (constant S_ .f32 0x00000000#32)))) bitsLt_bf16_f32 i
      = max (UpBIdeal.MM.prod X W (i 0).val (i 1).val) 0 * max (UpBIdeal.MM.prod X W (i 0).val (i 1).val) 0 := by
  have h := prod_val A B hX hW (i 0) (i 1)
  rw [ValueIdx.eq_ix2 i]
  generalize Host.dotGeneral dot_S8192x1024_S1024x4096_S8192x4096_1_0_0_1_n_n none (extf .f32 A bitsLt_bf16_f32) _ = D at h ⊢
  pointwise
  exact congrArg (fun y => max y 0 * max y 0) h

end Cert.UpBRefIdeal.MM

namespace Cert.Proof

open Cert.UpBIdeal

theorem UpB_defs {F : FTy → Type} [FloatOps F] : (UpB.defs (F := F)) = UpBIdeal.defs (F := F) :=
  congrArg (Pipeline.defs (UpBIdeal.pcfgs (F := F))) (show UpB.defs₀ (F := F) = UpBIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_UpBIdeal : Cert.quiescent_UpBIdeal := fun m ρ _ => UpBIdeal.Gen.frame (F := Ideal) m ρ

theorem frame_UpB : Cert.quiescent_UpB := fun m ρ _ =>
  UpB_defs (F := Bits) ▸ (θ_run (UpBIdeal.defs (F := Bits)) _ _).mono (fun _ h => h) (UpBIdeal.Gen.frame (F := Bits) m ρ)

theorem frame_UpBRefIdeal : Cert.quiescent_UpBRefIdeal := fun m ρ _ =>
  (θ_run (UpBRefIdeal.defs (F := Ideal)) _ _).mono (fun _ h => ⟨fun c => (h c).2, funext fun a => nomatch a⟩)
    (UpBRefIdeal.Value.run (F := Ideal) m ρ)

/-- The idealized kernel and its reference end with the same squared ReLU. -/
theorem algebraic_UpB : Cert.algebraic_UpBIdeal_UpBRefIdeal := fun m g m' g' _ hargs => by
  have hX := fun c : Dev nD => at2_eq (m ((c.tc : Thread nD τ).loc main_arg0) : S8192x1024.Idx → EReal)
  have hW := fun c : Dev nD => at4_eq (m ((c.tc : Thread nD τ).loc main_arg1) : S4x2x1024x1024.Idx → EReal)
  refine ⟨_, (θ_run (UpBIdeal.defs (F := Ideal)) _ _).mono (fun r h c => ⟨(h c).1.trans (UpBIdeal.MM.out_eq m c (hX c) (hW c)), (h c).2⟩)
    (UpBIdeal.Value.run_blocks (F := Ideal) m g), ?_⟩
  refine (θ_run (UpBRefIdeal.defs (F := Ideal)) _ _).mono (fun r h c => ⟨(h c).1.trans ?_, (h c).2⟩)
    (UpBRefIdeal.Value.run (F := Ideal) m' g')
  rw [(hargs c).1, (hargs c).2]
  exact funext fun x => UpBRefIdeal.MM.val _ _ (hX c) (hW c) x

end Cert.Proof

namespace Cert.DownActIdeal.MM

open Cert.DownActIdeal Cert.DownActIdeal.Gen

/-- What one point writes out. -/
theorem out_A {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole)
    (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (hc0 : cond0_0 i) (hc1 : cond0_1 i)
    (x0 : Vec F S1024x1024 .bf16) (x1 : Vec F S1x1x1024x1024 .bf16) (x2 : Vec F S1024x1024 .bf16) :
    out0_A_3 c i a3 h3 a4 h4 a5 h5 a6 h6 a7 h7 hc0 hc1 x0 x1 x2 = k0_pay3 (k0_pay2 k0_pay1 x0 x1) x2 := by
  unfold out0_A_3
  rw [View.read_writes_eq_canon _ _ _ (fun _ => cover0_A_3 ..)]
  unfold kernelRun0_A
  dsimp only
  sl_unfold_words
  rw [View.canon_unit_zero (S := S1024x1024) MM.hz]
  rw [View.readCov_cons_toLoadRect]
  simp only [View.readCov_unit_zero (S := S1024x1024) _ MM.hz, View.readAt_eq_ld, h3.read_unread, h4.read_unread, h5.read_unread,
    View.ld_unit_zero (S := S1024x1024) MM.hz, View.ld_unit_zero (S := S1x1x1024x1024) MM.hz4]

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 c k) := by
  pointwise [k0_pay2]

/-- The two of the gradient of a square, as its word names it. -/
abbrev two : EReal := Ideal.ofBits .f32 0x40000000#32

theorem pay3_apply (xs : Vec Ideal S1024x1024 .f32) (x2 : Vec Ideal S1024x1024 .bf16) (r c : Fin 1024) :
    (k0_pay3 (F := Ideal) xs x2) (ix2 r c) = xs (ix2 r c) * (two * Ideal.sqrt (x2 (ix2 r c))) := by
  pointwise [k0_pay3]

theorem ix : ∀ t : Fin cfg0.N, win0_0.index t = ![(t.val / 4 : ℕ), 0] ∧ win0_1.index t = ![(t.val % 4 : ℕ), 0, 0, 0] ∧ win0_2.index t = ![(t.val / 4 : ℕ), t.val % 4] ∧ win0_3.index t = ![(t.val / 4 : ℕ), t.val % 4] := (by decide +kernel : ∀ t : Fin grid0.N, _)

variable (m : (ℓ : Loc nD τ sig) → Buf (Elt Ideal) ℓ) (c : Dev nD) {X Z : ℕ → ℕ → EReal} {W : ℕ → ℕ → ℕ → ℕ → EReal}
  (hX : ∀ x : S8192x1024.Idx, (V m c main_arg0 : S8192x1024.Idx → EReal) x = X (x 0).val (x 1).val)
  (hW : ∀ x : S4x2x1024x1024.Idx, (V m c main_arg1 : S4x2x1024x1024.Idx → EReal) x = W (x 0).val (x 1).val (x 2).val (x 3).val)
  (hZ : ∀ x : S8192x4096.Idx, (V m c main_arg2 : S8192x4096.Idx → EReal) x = Z (x 0).val (x 1).val)

/-- The blocks of one point, as arrays of extended reals. -/
abbrev bA (t : Fin cfg0.N) : S1024x1024.Idx → EReal := iblk m c 0 t
abbrev bB (t : Fin cfg0.N) : S1x1x1024x1024.Idx → EReal := iblk m c 1 t
abbrev bC (t : Fin cfg0.N) : S1024x1024.Idx → EReal := iblk m c 2 t

section
include hX
theorem blk_A (t : Fin cfg0.N) (r k : Fin 1024) : bA m c t (ix2 r k) = X (1024 * (t.val / 4) + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k c' : Fin 1024) : bB m c t (ix4 0 0 k c') = W (t.val % 4) 0 k.val c'.val := by
  show (V m c main_arg1 : S4x2x1024x1024.Idx → EReal) (((cfg0.win 1).blk t).view.emb (ix4 0 0 k c')) = _
  rw [hW]
  blk_simp [ix]
  rfl
end

/-- The squared ReLU of the pre-activation, as the host computes it. -/
theorem V_sq : V m c main_v3 = (truncf .bf16 (mulf (maximumf (m ((c : Thread nD τ).loc main_arg2) : FVec Ideal S8192x4096 .f32) (broadcastInDim S8192x4096 ![] bcast_S_S8192x4096 (constant S_ .f32 0x00000000#32)))
    (maximumf (m ((c : Thread nD τ).loc main_arg2) : FVec Ideal S8192x4096 .f32) (broadcastInDim S8192x4096 ![] bcast_S_S8192x4096 (constant S_ .f32 0x00000000#32)))) bitsLt_bf16_f32 : FVec Ideal S8192x4096 .bf16) := by
  unfold_abbrev_sides
  after_results

section
include hZ
theorem sq_val (x : S8192x4096.Idx) : (V m c main_v3 : S8192x4096.Idx → EReal) x = max (Z (x 0).val (x 1).val) 0 * max (Z (x 0).val (x 1).val) 0 := by
  rw [V_sq, ← hZ, V_main_arg2]
  pointwise

theorem blk_C (t : Fin cfg0.N) (r c' : Fin 1024) : bC m c t (ix2 r c')
    = max (Z (1024 * (t.val / 4) + r.val) (1024 * (t.val % 4) + c'.val)) 0 * max (Z (1024 * (t.val / 4) + r.val) (1024 * (t.val % 4) + c'.val)) 0 := by
  show (V m c main_v3 : S8192x4096.Idx → EReal) (((cfg0.win 2).blk t).view.emb (ix2 r c')) = _
  rw [sq_val m c hZ]
  blk_simp [ix]
  rw [Nat.mul_comm 1024 (t.val / 4), Nat.mul_comm 1024 (t.val % 4)]
end

/-- The product at an entry. -/
def prod (X : ℕ → ℕ → EReal) (W : ℕ → ℕ → ℕ → ℕ → EReal) (r n : ℕ) : EReal := ∑ k ∈ range 1024, X r k * W (n / 1024) 0 (n % 1024) k

/-- The gradient of the pre-activation at an entry. -/
def grad (X : ℕ → ℕ → EReal) (W : ℕ → ℕ → ℕ → ℕ → EReal) (Z : ℕ → ℕ → EReal) (r n : ℕ) : EReal :=
  if 0 < Z r n then prod X W r n * (two * max (Z r n) 0) else 0

section
include hX hW
/-- One point's product at an entry. -/
theorem step (t : Fin cfg0.N) (r c' : Fin 1024) :
    ∑ k : Fin 1024, bA m c t (ix2 r k) * bB m c t (ix4 0 0 c' k) = prod X W (1024 * (t.val / 4) + r.val) (1024 * (t.val % 4) + c'.val) := by
  unfold prod
  rw [show (1024 * (t.val % 4) + c'.val) / 1024 = t.val % 4 by omega, show (1024 * (t.val % 4) + c'.val) % 1024 = c'.val by omega]
  refine Eq.trans ?_ (MM.sum_fin 1024 fun k => X (1024 * (t.val / 4) + r.val) k * W (t.val % 4) 0 c'.val k)
  exact sum_congr rfl fun k _ => congrArg₂ (· * ·) (blk_A m c hX t r k) (blk_B m c hW t c' k)
end

include hX hW hZ

/-- The array after the run. -/
theorem out_eq : (dats m 0 c).arrAt 3 cfg0.N = fun x : S8192x4096.Idx => grad X W Z (x 0).val (x 1).val := by
  refine (dats m 0 c).arrAt_eq_of_covers 3 _ (by decide +kernel) fun t hf y => ?_
  have hk : ∀ (r c' : Fin 1024), (outsAt0 m c t : S1024x1024.Idx → EReal) (ix2 r c') = grad X W Z (1024 * (t.val / 4) + r.val) (1024 * (t.val % 4) + c'.val) := fun r c' => by
    unfold outsAt0
    rw [out_A, pay3_apply, pay2_apply, pay1_apply, zero_add, step m c hX hW t r c', show (iblk m c 2 t : S1024x1024.Idx → EReal) (ix2 r c') = _ from blk_C m c hZ t r c', MM.relu_grad]
    rfl
  blk_simp [ix]
  rw [after0_3]
  have he := congrArg (outsAt0 m c t : S1024x1024.Idx → EReal) (ValueIdx.eq_ix2 y)
  refine (he.trans (hk (y 0) (y 1))).trans ?_
  rw [Nat.mul_comm 1024 (t.val / 4), Nat.mul_comm 1024 (t.val % 4)]

end Cert.DownActIdeal.MM

namespace Cert.DownActRefIdeal.MM

open Cert.DownActRefIdeal Cert.DownActRefIdeal.Gen

/-- The reference's product at an entry. -/
theorem prod_val {X : ℕ → ℕ → EReal} {W : ℕ → ℕ → ℕ → ℕ → EReal} (A : FVec Ideal S8192x1024 .bf16) (B : FVec Ideal S4x2x1024x1024 .bf16)
    (hX : ∀ x, A x = X (x 0).val (x 1).val) (hW : ∀ x, B x = W (x 0).val (x 1).val (x 2).val (x 3).val) (r : Fin 8192) (n : Fin 4096) :
    Host.dotGeneral dot_S8192x1024_S4096x1024_S8192x4096_1_1_0_0_n_n none (extf .f32 A bitsLt_bf16_f32) (shapeCast _ (extf .f32 (shapeCast _ (extractStridedSlice S4x1x1024x1024 ![0, 0, 0, 0] B slices_S4x2x1024x1024_S4x1x1024x1024_0_0_0_0) shapeCasts_S4x1x1024x1024_S4x1024x1024) bitsLt_bf16_f32) shapeCasts_S4x1024x1024_S4096x1024) (ix2 r n)
      = DownActIdeal.MM.prod X W r.val n.val := by
  unfold DownActIdeal.MM.prod
  pointwise
  refine Eq.trans ?_ (MM.sum_fin 1024 _)
  refine sum_congr rfl fun k _ => ?_
  rw [hX, hW]
  rfl

/-- The reference's result at an entry. -/
theorem val {X Z : ℕ → ℕ → EReal} {W : ℕ → ℕ → ℕ → ℕ → EReal} (A : FVec Ideal S8192x1024 .bf16) (B : FVec Ideal S4x2x1024x1024 .bf16) (C : FVec Ideal S8192x4096 .f32)
    (hX : ∀ x, A x = X (x 0).val (x 1).val) (hW : ∀ x, B x = W (x 0).val (x 1).val (x 2).val (x 3).val) (hZ : ∀ x, C x = Z (x 0).val (x 1).val) (i : S8192x4096.Idx) :
    truncf .bf16 (select (cmpf .ogt C (broadcastInDim S8192x4096 ![] bcast_S_S8192x4096 (constant S_ .f32 0x00000000#32))) (mulf (Host.dotGeneral dot_S8192x1024_S4096x1024_S8192x4096_1_1_0_0_n_n none (extf .f32 A bitsLt_bf16_f32) (shapeCast _ (extf .f32 (shapeCast _ (extractStridedSlice S4x1x1024x1024 ![0, 0, 0, 0] B slices_S4x2x1024x1024_S4x1x1024x1024_0_0_0_0) shapeCasts_S4x1x1024x1024_S4x1024x1024) bitsLt_bf16_f32) shapeCasts_S4x1024x1024_S4096x1024)) (mulf (broadcastInDim S8192x4096 ![] bcast_S_S8192x4096 (constant S_ .f32 0x40000000#32)) (maximumf C (broadcastInDim S8192x4096 ![] bcast_S_S8192x4096 (constant S_ .f32 0x00000000#32))))) (broadcastInDim S8192x4096 ![] bcast_S_S8192x4096 (constant S_ .f32 0x00000000#32))) bitsLt_bf16_f32 i
      = DownActIdeal.MM.grad X W Z (i 0).val (i 1).val := by
  have h := prod_val A B hX hW (i 0) (i 1)
  have hc := hZ (ix2 (i 0) (i 1))
  rw [ValueIdx.eq_ix2 i]
  generalize Host.dotGeneral dot_S8192x1024_S4096x1024_S8192x4096_1_1_0_0_n_n none (extf .f32 A bitsLt_bf16_f32) _ = D at h ⊢
  pointwise
  exact congrArg₂ (fun z d : EReal => if 0 < z then d * (DownActIdeal.MM.two * max z 0) else 0) hc h

end Cert.DownActRefIdeal.MM

namespace Cert.Proof

open Cert.DownActIdeal

theorem DownAct_defs {F : FTy → Type} [FloatOps F] : (DownAct.defs (F := F)) = DownActIdeal.defs (F := F) :=
  congrArg (Pipeline.defs (DownActIdeal.pcfgs (F := F))) (show DownAct.defs₀ (F := F) = DownActIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_DownActIdeal : Cert.quiescent_DownActIdeal := fun m ρ _ => DownActIdeal.Gen.frame (F := Ideal) m ρ

theorem frame_DownAct : Cert.quiescent_DownAct := fun m ρ _ =>
  DownAct_defs (F := Bits) ▸ (θ_run (DownActIdeal.defs (F := Bits)) _ _).mono (fun _ h => h) (DownActIdeal.Gen.frame (F := Bits) m ρ)

theorem frame_DownActRefIdeal : Cert.quiescent_DownActRefIdeal := fun m ρ _ =>
  (θ_run (DownActRefIdeal.defs (F := Ideal)) _ _).mono (fun _ h => ⟨fun c => (h c).2, funext fun a => nomatch a⟩)
    (DownActRefIdeal.Value.run (F := Ideal) m ρ)

/-- The idealized kernel and its reference end with the same gradient of the pre-activation. -/
theorem algebraic_DownAct : Cert.algebraic_DownActIdeal_DownActRefIdeal := fun m g m' g' _ hargs => by
  have hX := fun c : Dev nD => at2_eq (m ((c.tc : Thread nD τ).loc main_arg0) : S8192x1024.Idx → EReal)
  have hW := fun c : Dev nD => at4_eq (m ((c.tc : Thread nD τ).loc main_arg1) : S4x2x1024x1024.Idx → EReal)
  have hZ := fun c : Dev nD => at2_eq (m ((c.tc : Thread nD τ).loc main_arg2) : S8192x4096.Idx → EReal)
  refine ⟨_, (θ_run (DownActIdeal.defs (F := Ideal)) _ _).mono (fun r h c => ⟨(h c).1.trans (DownActIdeal.MM.out_eq m c
      (fun x => (congrFun (DownActIdeal.Gen.V_main_arg0 m c) x).trans (hX c x)) (fun x => (congrFun (DownActIdeal.Gen.V_main_arg1 m c) x).trans (hW c x)) (fun x => (congrFun (DownActIdeal.Gen.V_main_arg2 m c) x).trans (hZ c x))), (h c).2⟩)
    (DownActIdeal.Value.run_blocks (F := Ideal) m g), ?_⟩
  refine (θ_run (DownActRefIdeal.defs (F := Ideal)) _ _).mono (fun r h c => ⟨(h c).1.trans ?_, (h c).2⟩)
    (DownActRefIdeal.Value.run (F := Ideal) m' g')
  rw [(hargs c).1, (hargs c).2.1, (hargs c).2.2]
  exact funext fun x => DownActRefIdeal.MM.val _ _ _ (hX c) (hW c) (hZ c) x

end Cert.Proof

namespace Cert.DownActBIdeal.MM

open Cert.DownActBIdeal Cert.DownActBIdeal.Gen

/-- What one point writes out. -/
theorem out_A {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole)
    (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (hc0 : cond0_0 i) (hc1 : cond0_1 i)
    (x0 : Vec F S1024x1024 .bf16) (x1 : Vec F S1x1x1024x1024 .bf16) (x2 : Vec F S1024x1024 .bf16) :
    out0_A_3 c i a3 h3 a4 h4 a5 h5 a6 h6 a7 h7 hc0 hc1 x0 x1 x2 = k0_pay3 (k0_pay2 k0_pay1 x0 x1) x2 := by
  unfold out0_A_3
  rw [View.read_writes_eq_canon _ _ _ (fun _ => cover0_A_3 ..)]
  unfold kernelRun0_A
  dsimp only
  sl_unfold_words
  rw [View.canon_unit_zero (S := S1024x1024) MM.hz]
  rw [View.readCov_cons_toLoadRect]
  simp only [View.readCov_unit_zero (S := S1024x1024) _ MM.hz, View.readAt_eq_ld, h3.read_unread, h4.read_unread, h5.read_unread,
    View.ld_unit_zero (S := S1024x1024) MM.hz, View.ld_unit_zero (S := S1x1x1024x1024) MM.hz4]

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 c k) := by
  pointwise [k0_pay2]

/-- The two of the gradient of a square, as its word names it. -/
abbrev two : EReal := Ideal.ofBits .f32 0x40000000#32

theorem pay3_apply (xs : Vec Ideal S1024x1024 .f32) (x2 : Vec Ideal S1024x1024 .bf16) (r c : Fin 1024) :
    (k0_pay3 (F := Ideal) xs x2) (ix2 r c) = xs (ix2 r c) * (two * Ideal.sqrt (x2 (ix2 r c))) := by
  pointwise [k0_pay3]

theorem ix : ∀ t : Fin cfg0.N, win0_0.index t = ![(t.val / 4 : ℕ), 0] ∧ win0_1.index t = ![(t.val % 4 : ℕ), 1, 0, 0] ∧ win0_2.index t = ![(t.val / 4 : ℕ), t.val % 4] ∧ win0_3.index t = ![(t.val / 4 : ℕ), t.val % 4] := (by decide +kernel : ∀ t : Fin grid0.N, _)

variable (m : (ℓ : Loc nD τ sig) → Buf (Elt Ideal) ℓ) (c : Dev nD) {X Z : ℕ → ℕ → EReal} {W : ℕ → ℕ → ℕ → ℕ → EReal}
  (hX : ∀ x : S8192x1024.Idx, (V m c main_arg0 : S8192x1024.Idx → EReal) x = X (x 0).val (x 1).val)
  (hW : ∀ x : S4x2x1024x1024.Idx, (V m c main_arg1 : S4x2x1024x1024.Idx → EReal) x = W (x 0).val (x 1).val (x 2).val (x 3).val)
  (hZ : ∀ x : S8192x4096.Idx, (V m c main_arg2 : S8192x4096.Idx → EReal) x = Z (x 0).val (x 1).val)

/-- The blocks of one point, as arrays of extended reals. -/
abbrev bA (t : Fin cfg0.N) : S1024x1024.Idx → EReal := iblk m c 0 t
abbrev bB (t : Fin cfg0.N) : S1x1x1024x1024.Idx → EReal := iblk m c 1 t
abbrev bC (t : Fin cfg0.N) : S1024x1024.Idx → EReal := iblk m c 2 t

section
include hX
theorem blk_A (t : Fin cfg0.N) (r k : Fin 1024) : bA m c t (ix2 r k) = X (1024 * (t.val / 4) + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k c' : Fin 1024) : bB m c t (ix4 0 0 k c') = W (t.val % 4) 1 k.val c'.val := by
  show (V m c main_arg1 : S4x2x1024x1024.Idx → EReal) (((cfg0.win 1).blk t).view.emb (ix4 0 0 k c')) = _
  rw [hW]
  blk_simp [ix]
  rfl
end

/-- The squared ReLU of the pre-activation, as the host computes it. -/
theorem V_sq : V m c main_v3 = (truncf .bf16 (mulf (maximumf (m ((c : Thread nD τ).loc main_arg2) : FVec Ideal S8192x4096 .f32) (broadcastInDim S8192x4096 ![] bcast_S_S8192x4096 (constant S_ .f32 0x00000000#32)))
    (maximumf (m ((c : Thread nD τ).loc main_arg2) : FVec Ideal S8192x4096 .f32) (broadcastInDim S8192x4096 ![] bcast_S_S8192x4096 (constant S_ .f32 0x00000000#32)))) bitsLt_bf16_f32 : FVec Ideal S8192x4096 .bf16) := by
  unfold_abbrev_sides
  after_results

section
include hZ
theorem sq_val (x : S8192x4096.Idx) : (V m c main_v3 : S8192x4096.Idx → EReal) x = max (Z (x 0).val (x 1).val) 0 * max (Z (x 0).val (x 1).val) 0 := by
  rw [V_sq, ← hZ, V_main_arg2]
  pointwise

theorem blk_C (t : Fin cfg0.N) (r c' : Fin 1024) : bC m c t (ix2 r c')
    = max (Z (1024 * (t.val / 4) + r.val) (1024 * (t.val % 4) + c'.val)) 0 * max (Z (1024 * (t.val / 4) + r.val) (1024 * (t.val % 4) + c'.val)) 0 := by
  show (V m c main_v3 : S8192x4096.Idx → EReal) (((cfg0.win 2).blk t).view.emb (ix2 r c')) = _
  rw [sq_val m c hZ]
  blk_simp [ix]
  rw [Nat.mul_comm 1024 (t.val / 4), Nat.mul_comm 1024 (t.val % 4)]
end

/-- The product at an entry. -/
def prod (X : ℕ → ℕ → EReal) (W : ℕ → ℕ → ℕ → ℕ → EReal) (r n : ℕ) : EReal := ∑ k ∈ range 1024, X r k * W (n / 1024) 1 (n % 1024) k

/-- The gradient of the pre-activation at an entry. -/
def grad (X : ℕ → ℕ → EReal) (W : ℕ → ℕ → ℕ → ℕ → EReal) (Z : ℕ → ℕ → EReal) (r n : ℕ) : EReal :=
  if 0 < Z r n then prod X W r n * (two * max (Z r n) 0) else 0

section
include hX hW
/-- One point's product at an entry. -/
theorem step (t : Fin cfg0.N) (r c' : Fin 1024) :
    ∑ k : Fin 1024, bA m c t (ix2 r k) * bB m c t (ix4 0 0 c' k) = prod X W (1024 * (t.val / 4) + r.val) (1024 * (t.val % 4) + c'.val) := by
  unfold prod
  rw [show (1024 * (t.val % 4) + c'.val) / 1024 = t.val % 4 by omega, show (1024 * (t.val % 4) + c'.val) % 1024 = c'.val by omega]
  refine Eq.trans ?_ (MM.sum_fin 1024 fun k => X (1024 * (t.val / 4) + r.val) k * W (t.val % 4) 1 c'.val k)
  exact sum_congr rfl fun k _ => congrArg₂ (· * ·) (blk_A m c hX t r k) (blk_B m c hW t c' k)
end

include hX hW hZ

/-- The array after the run. -/
theorem out_eq : (dats m 0 c).arrAt 3 cfg0.N = fun x : S8192x4096.Idx => grad X W Z (x 0).val (x 1).val := by
  refine (dats m 0 c).arrAt_eq_of_covers 3 _ (by decide +kernel) fun t hf y => ?_
  have hk : ∀ (r c' : Fin 1024), (outsAt0 m c t : S1024x1024.Idx → EReal) (ix2 r c') = grad X W Z (1024 * (t.val / 4) + r.val) (1024 * (t.val % 4) + c'.val) := fun r c' => by
    unfold outsAt0
    rw [out_A, pay3_apply, pay2_apply, pay1_apply, zero_add, step m c hX hW t r c', show (iblk m c 2 t : S1024x1024.Idx → EReal) (ix2 r c') = _ from blk_C m c hZ t r c', MM.relu_grad]
    rfl
  blk_simp [ix]
  rw [after0_3]
  have he := congrArg (outsAt0 m c t : S1024x1024.Idx → EReal) (ValueIdx.eq_ix2 y)
  refine (he.trans (hk (y 0) (y 1))).trans ?_
  rw [Nat.mul_comm 1024 (t.val / 4), Nat.mul_comm 1024 (t.val % 4)]

end Cert.DownActBIdeal.MM

namespace Cert.DownActBRefIdeal.MM

open Cert.DownActBRefIdeal Cert.DownActBRefIdeal.Gen

/-- The reference's product at an entry. -/
theorem prod_val {X : ℕ → ℕ → EReal} {W : ℕ → ℕ → ℕ → ℕ → EReal} (A : FVec Ideal S8192x1024 .bf16) (B : FVec Ideal S4x2x1024x1024 .bf16)
    (hX : ∀ x, A x = X (x 0).val (x 1).val) (hW : ∀ x, B x = W (x 0).val (x 1).val (x 2).val (x 3).val) (r : Fin 8192) (n : Fin 4096) :
    Host.dotGeneral dot_S8192x1024_S4096x1024_S8192x4096_1_1_0_0_n_n none (extf .f32 A bitsLt_bf16_f32) (shapeCast _ (extf .f32 (shapeCast _ (extractStridedSlice S4x1x1024x1024 ![0, 1, 0, 0] B slices_S4x2x1024x1024_S4x1x1024x1024_0_1_0_0) shapeCasts_S4x1x1024x1024_S4x1024x1024) bitsLt_bf16_f32) shapeCasts_S4x1024x1024_S4096x1024) (ix2 r n)
      = DownActBIdeal.MM.prod X W r.val n.val := by
  unfold DownActBIdeal.MM.prod
  pointwise
  refine Eq.trans ?_ (MM.sum_fin 1024 _)
  refine sum_congr rfl fun k _ => ?_
  rw [hX, hW]
  rfl

/-- The reference's result at an entry. -/
theorem val {X Z : ℕ → ℕ → EReal} {W : ℕ → ℕ → ℕ → ℕ → EReal} (A : FVec Ideal S8192x1024 .bf16) (B : FVec Ideal S4x2x1024x1024 .bf16) (C : FVec Ideal S8192x4096 .f32)
    (hX : ∀ x, A x = X (x 0).val (x 1).val) (hW : ∀ x, B x = W (x 0).val (x 1).val (x 2).val (x 3).val) (hZ : ∀ x, C x = Z (x 0).val (x 1).val) (i : S8192x4096.Idx) :
    truncf .bf16 (select (cmpf .ogt C (broadcastInDim S8192x4096 ![] bcast_S_S8192x4096 (constant S_ .f32 0x00000000#32))) (mulf (Host.dotGeneral dot_S8192x1024_S4096x1024_S8192x4096_1_1_0_0_n_n none (extf .f32 A bitsLt_bf16_f32) (shapeCast _ (extf .f32 (shapeCast _ (extractStridedSlice S4x1x1024x1024 ![0, 1, 0, 0] B slices_S4x2x1024x1024_S4x1x1024x1024_0_1_0_0) shapeCasts_S4x1x1024x1024_S4x1024x1024) bitsLt_bf16_f32) shapeCasts_S4x1024x1024_S4096x1024)) (mulf (broadcastInDim S8192x4096 ![] bcast_S_S8192x4096 (constant S_ .f32 0x40000000#32)) (maximumf C (broadcastInDim S8192x4096 ![] bcast_S_S8192x4096 (constant S_ .f32 0x00000000#32))))) (broadcastInDim S8192x4096 ![] bcast_S_S8192x4096 (constant S_ .f32 0x00000000#32))) bitsLt_bf16_f32 i
      = DownActBIdeal.MM.grad X W Z (i 0).val (i 1).val := by
  have h := prod_val A B hX hW (i 0) (i 1)
  have hc := hZ (ix2 (i 0) (i 1))
  rw [ValueIdx.eq_ix2 i]
  generalize Host.dotGeneral dot_S8192x1024_S4096x1024_S8192x4096_1_1_0_0_n_n none (extf .f32 A bitsLt_bf16_f32) _ = D at h ⊢
  pointwise
  exact congrArg₂ (fun z d : EReal => if 0 < z then d * (DownActBIdeal.MM.two * max z 0) else 0) hc h

end Cert.DownActBRefIdeal.MM

namespace Cert.Proof

open Cert.DownActBIdeal

theorem DownActB_defs {F : FTy → Type} [FloatOps F] : (DownActB.defs (F := F)) = DownActBIdeal.defs (F := F) :=
  congrArg (Pipeline.defs (DownActBIdeal.pcfgs (F := F))) (show DownActB.defs₀ (F := F) = DownActBIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_DownActBIdeal : Cert.quiescent_DownActBIdeal := fun m ρ _ => DownActBIdeal.Gen.frame (F := Ideal) m ρ

theorem frame_DownActB : Cert.quiescent_DownActB := fun m ρ _ =>
  DownActB_defs (F := Bits) ▸ (θ_run (DownActBIdeal.defs (F := Bits)) _ _).mono (fun _ h => h) (DownActBIdeal.Gen.frame (F := Bits) m ρ)

theorem frame_DownActBRefIdeal : Cert.quiescent_DownActBRefIdeal := fun m ρ _ =>
  (θ_run (DownActBRefIdeal.defs (F := Ideal)) _ _).mono (fun _ h => ⟨fun c => (h c).2, funext fun a => nomatch a⟩)
    (DownActBRefIdeal.Value.run (F := Ideal) m ρ)

/-- The idealized kernel and its reference end with the same gradient of the pre-activation. -/
theorem algebraic_DownActB : Cert.algebraic_DownActBIdeal_DownActBRefIdeal := fun m g m' g' _ hargs => by
  have hX := fun c : Dev nD => at2_eq (m ((c.tc : Thread nD τ).loc main_arg0) : S8192x1024.Idx → EReal)
  have hW := fun c : Dev nD => at4_eq (m ((c.tc : Thread nD τ).loc main_arg1) : S4x2x1024x1024.Idx → EReal)
  have hZ := fun c : Dev nD => at2_eq (m ((c.tc : Thread nD τ).loc main_arg2) : S8192x4096.Idx → EReal)
  refine ⟨_, (θ_run (DownActBIdeal.defs (F := Ideal)) _ _).mono (fun r h c => ⟨(h c).1.trans (DownActBIdeal.MM.out_eq m c
      (fun x => (congrFun (DownActBIdeal.Gen.V_main_arg0 m c) x).trans (hX c x)) (fun x => (congrFun (DownActBIdeal.Gen.V_main_arg1 m c) x).trans (hW c x)) (fun x => (congrFun (DownActBIdeal.Gen.V_main_arg2 m c) x).trans (hZ c x))), (h c).2⟩)
    (DownActBIdeal.Value.run_blocks (F := Ideal) m g), ?_⟩
  refine (θ_run (DownActBRefIdeal.defs (F := Ideal)) _ _).mono (fun r h c => ⟨(h c).1.trans ?_, (h c).2⟩)
    (DownActBRefIdeal.Value.run (F := Ideal) m' g')
  rw [(hargs c).1, (hargs c).2.1, (hargs c).2.2]
  exact funext fun x => DownActBRefIdeal.MM.val _ _ _ (hX c) (hW c) (hZ c) x

end Cert.Proof

namespace Cert.SquareActIdeal.MM

open Cert.SquareActIdeal Cert.SquareActIdeal.Gen

/-- What one point writes out. -/
theorem out_2 {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : cond0_1 i)
    (x0 : Vec F S1024x1024 .bf16) (x1 : Vec F S1024x1024 .bf16) :
    out0_A_2 c i a3 h3 a4 h4 a5 h5 a6 h6 hc0 hc1 x0 x1 = k0_pay2 k0_pay1 x0 x1 := by
  unfold out0_A_2
  rw [View.read_writes_eq_canon _ _ _ (fun _ => cover0_A_2 ..)]
  unfold kernelRun0_A
  dsimp only
  sl_unfold_words
  rw [View.canon_unit_zero (S := S1024x1024) MM.hz]
  rw [View.readCov_cons_toLoadRect]
  simp only [View.readCov_unit_zero (S := S1024x1024) _ MM.hz, View.readAt_eq_ld, h3.read_unread, h4.read_unread,
    View.ld_unit_zero (S := S1024x1024) MM.hz]

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1024x1024 .bf16) (r c : Fin 1024) :
    (k0_pay2 (F := Ideal) xs x0 x1) (ix2 r c) = xs (ix2 r c) + ∑ k : Fin 1024, x0 (ix2 r k) * x1 (ix2 c k) := by
  pointwise [k0_pay2]

theorem ix : ∀ t : Fin cfg0.N, win0_0.index t = ![(t.val : ℕ), 0] ∧ win0_1.index t = ![0, 0] ∧ win0_2.index t = ![(t.val : ℕ), 0] := (by decide +kernel : ∀ t : Fin grid0.N, _)

variable (m : (ℓ : Loc nD τ sig) → Buf (Elt Ideal) ℓ) (c : Dev nD) {X W : ℕ → ℕ → EReal}
  (hX : ∀ x : S8192x1024.Idx, (V m c main_arg0 : S8192x1024.Idx → EReal) x = X (x 0).val (x 1).val)
  (hW : ∀ x : S1024x1024.Idx, (V m c main_arg1 : S1024x1024.Idx → EReal) x = W (x 0).val (x 1).val)

/-- The blocks of one point, as arrays of extended reals. -/
abbrev bA (t : Fin cfg0.N) : S1024x1024.Idx → EReal := iblk m c 0 t
abbrev bB (t : Fin cfg0.N) : S1024x1024.Idx → EReal := iblk m c 1 t

section
include hX
theorem blk_A (t : Fin cfg0.N) (r k : Fin 1024) : bA m c t (ix2 r k) = X (1024 * t.val + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k c' : Fin 1024) : bB m c t (ix2 k c') = W k.val c'.val := by
  show (V m c main_arg1 : S1024x1024.Idx → EReal) (((cfg0.win 1).blk t).view.emb (ix2 k c')) = _
  rw [hW]
  blk_simp [ix]
end

/-- The product at an entry. -/
def prod (X W : ℕ → ℕ → EReal) (r n : ℕ) : EReal := ∑ k ∈ range 1024, X r k * W n k

include hX hW

/-- One point's product at an entry. -/
theorem step (t : Fin cfg0.N) (r c' : Fin 1024) :
    ∑ k : Fin 1024, bA m c t (ix2 r k) * bB m c t (ix2 c' k) = prod X W (1024 * t.val + r.val) c'.val := by
  unfold prod
  refine Eq.trans ?_ (MM.sum_fin 1024 fun k => X (1024 * t.val + r.val) k * W c'.val k)
  exact sum_congr rfl fun k _ => congrArg₂ (· * ·) (blk_A m c hX t r k) (blk_B m c hW t c' k)

/-- The array after the run. -/
theorem out_eq : (dats m 0 c).arrAt 2 cfg0.N = fun x : S8192x1024.Idx => prod X W (x 0).val (x 1).val := by
  refine (dats m 0 c).arrAt_eq_of_covers 2 _ (by decide +kernel) fun t hf y => ?_
  have hk : ∀ (r c' : Fin 1024), (outsAt0 m c t : S1024x1024.Idx → EReal) (ix2 r c') = prod X W (1024 * t.val + r.val) c'.val := fun r c' => by
    unfold outsAt0
    rw [out_2, pay2_apply, pay1_apply, zero_add, step m c hX hW t r c']
  blk_simp [ix]
  rw [after0_2]
  have he := congrArg (outsAt0 m c t : S1024x1024.Idx → EReal) (ValueIdx.eq_ix2 y)
  refine (he.trans (hk (y 0) (y 1))).trans ?_
  rw [Nat.mul_comm 1024 t.val]

end Cert.SquareActIdeal.MM

namespace Cert.SquareActRefIdeal.MM

open Cert.SquareActRefIdeal Cert.SquareActRefIdeal.Gen

/-- The reference's gradient at an entry. -/
theorem val {X W : ℕ → ℕ → EReal} (A : FVec Ideal S8192x1024 .bf16) (B : FVec Ideal S1024x1024 .bf16)
    (hX : ∀ x, A x = X (x 0).val (x 1).val) (hW : ∀ x, B x = W (x 0).val (x 1).val) (i : S8192x1024.Idx) :
    Host.dotGeneral dot_S8192x1024_S1024x1024_S8192x1024_1_1_0_0_n_n none (extf .f32 A bitsLt_bf16_f32) (extf .f32 B bitsLt_bf16_f32) i
      = SquareActIdeal.MM.prod X W (i 0).val (i 1).val := by
  unfold SquareActIdeal.MM.prod
  rw [ValueIdx.eq_ix2 i]
  pointwise
  refine Eq.trans ?_ (MM.sum_fin 1024 _)
  refine sum_congr rfl fun k _ => ?_
  rw [hX, hW]
  rfl

end Cert.SquareActRefIdeal.MM

namespace Cert.Proof

open Cert.SquareActIdeal

theorem SquareAct_defs {F : FTy → Type} [FloatOps F] : (SquareAct.defs (F := F)) = SquareActIdeal.defs (F := F) :=
  congrArg (Pipeline.defs (SquareActIdeal.pcfgs (F := F))) (show SquareAct.defs₀ (F := F) = SquareActIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_SquareActIdeal : Cert.quiescent_SquareActIdeal := fun m ρ _ => SquareActIdeal.Gen.frame (F := Ideal) m ρ

theorem frame_SquareAct : Cert.quiescent_SquareAct := fun m ρ _ =>
  SquareAct_defs (F := Bits) ▸ (θ_run (SquareActIdeal.defs (F := Bits)) _ _).mono (fun _ h => h) (SquareActIdeal.Gen.frame (F := Bits) m ρ)

theorem frame_SquareActRefIdeal : Cert.quiescent_SquareActRefIdeal := fun m ρ _ =>
  (θ_run (SquareActRefIdeal.defs (F := Ideal)) _ _).mono (fun _ h => ⟨fun c => (h c).2, funext fun a => nomatch a⟩)
    (SquareActRefIdeal.Value.run (F := Ideal) m ρ)

/-- The idealized kernel and its reference end with the same gradient. -/
theorem algebraic_SquareAct : Cert.algebraic_SquareActIdeal_SquareActRefIdeal := fun m g m' g' _ hargs => by
  have hX := fun c : Dev nD => at2_eq (m ((c.tc : Thread nD τ).loc main_arg0) : S8192x1024.Idx → EReal)
  have hW := fun c : Dev nD => at2_eq (m ((c.tc : Thread nD τ).loc main_arg1) : S1024x1024.Idx → EReal)
  refine ⟨_, (θ_run (SquareActIdeal.defs (F := Ideal)) _ _).mono (fun r h c => ⟨(h c).1.trans (SquareActIdeal.MM.out_eq m c (hX c) (hW c)), (h c).2⟩)
    (SquareActIdeal.Value.run_blocks (F := Ideal) m g), ?_⟩
  refine (θ_run (SquareActRefIdeal.defs (F := Ideal)) _ _).mono (fun r h c => ⟨(h c).1.trans ?_, (h c).2⟩)
    (SquareActRefIdeal.Value.run (F := Ideal) m' g')
  · rw [(hargs c).1, (hargs c).2]
    exact funext fun x => SquareActRefIdeal.MM.val _ _ (hX c) (hW c) x

end Cert.Proof
-- ==== Proof.Projs.lean ====
module

public import proofs.«01_k».proof.Proof.Gen.InProjIdeal.Value
public import proofs.«01_k».proof.Proof.Gen.InProjRefIdeal.Run
public import proofs.«01_k».proof.Proof.Nats3
public import Idealize.ShloMosaic.Lib.Pipeline.ValueKit
public import proofs.«01_k».proof.Defs
public import proofs.«01_k».proof.Proof.Gen.InProj
public import proofs.«01_k».proof.Proof.Gen.GluProjIdeal.Value
public import proofs.«01_k».proof.Proof.Gen.GluProjRefIdeal.Run
public import proofs.«01_k».proof.Proof.Gen.GluProj
public import proofs.«01_k».proof.Proof.Gen.DownIdeal.Value
public import proofs.«01_k».proof.Proof.Gen.DownRefIdeal.Run
public import proofs.«01_k».proof.Proof.Gen.Down

/-! The forward products: values, frames and agreement. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at1_eq at2_eq at3_eq at4_eq)

namespace Cert.InProjIdeal.MM

open Cert.InProjIdeal Cert.InProjIdeal.Gen

/-- What one point writes out. -/
theorem out_2 {F : FTy → Type} [FloatOps F] (c : Dev nD) (i : grid0.Coords) (a3 : Memref sig .tc .vmem S1024x1024 .bf16) (h3 : a3.IsWhole) (a4 : Memref sig .tc .vmem S1x1024x896 .bf16) (h4 : a4.IsWhole) (a5 : Memref sig .tc .vmem S1024x896 .f32) (h5 : a5.IsWhole) (a6 : Memref sig .tc .vmem S1024x896 .bf16) (h6 : a6.IsWhole) (a7 : Memref sig .tc .vmem S1024x896 .f32) (h7 : a7.IsWhole) (hc0 : cond0_0 i) (hc1 : cond0_1 i)
    (x0 : Vec F S1024x1024 .bf16) (x1 : Vec F S1x1024x896 .bf16) :
    out0_A_2 c i a3 h3 a4 h4 a5 h5 a6 h6 a7 h7 hc0 hc1 x0 x1 = k0_pay2 k0_pay1 x0 x1 := by
  unfold out0_A_2
  rw [View.read_writes_eq_canon _ _ _ (fun _ => cover0_A_2 ..)]
  unfold kernelRun0_A
  dsimp only
  sl_unfold_words
  rw [View.canon_unit_zero (S := S1024x896) MM.hz]
  rw [View.readCov_cons_toLoadRect]
  simp only [View.readCov_unit_zero (S := S1024x896) _ MM.hz, View.readAt_eq_ld, h3.read_unread, h4.read_unread,
    View.ld_unit_zero (S := S1024x1024) MM.hz, View.ld_unit_zero (S := S1x1024x896) MM.hz3]

/-- What one point writes out. -/
theorem out_3 {F : FTy → Type} [FloatOps F] (c : Dev nD) (i : grid0.Coords) (a3 : Memref sig .tc .vmem S1024x1024 .bf16) (h3 : a3.IsWhole) (a4 : Memref sig .tc .vmem S1x1024x896 .bf16) (h4 : a4.IsWhole) (a5 : Memref sig .tc .vmem S1024x896 .f32) (h5 : a5.IsWhole) (a6 : Memref sig .tc .vmem S1024x896 .bf16) (h6 : a6.IsWhole) (a7 : Memref sig .tc .vmem S1024x896 .f32) (h7 : a7.IsWhole) (hc0 : cond0_0 i) (hc1 : cond0_1 i)
    (x0 : Vec F S1024x1024 .bf16) (x1 : Vec F S1x1024x896 .bf16) :
    out0_A_3 c i a3 h3 a4 h4 a5 h5 a6 h6 a7 h7 hc0 hc1 x0 x1 = k0_pay3 (k0_pay2 k0_pay1 x0 x1) := by
  unfold out0_A_3
  rw [View.read_writes_eq_canon _ _ _ (fun _ => cover0_A_3 ..)]
  unfold kernelRun0_A
  dsimp only
  sl_unfold_words
  rw [View.canon_unit_zero (S := S1024x896) MM.hz]
  rw [View.readCov_cons_toLoadRect]
  simp only [View.readCov_unit_zero (S := S1024x896) _ MM.hz, View.readAt_eq_ld, h3.read_unread, h4.read_unread,
    View.ld_unit_zero (S := S1024x1024) MM.hz, View.ld_unit_zero (S := S1x1024x896) MM.hz3]

theorem pay1_apply (r : Fin 1024) (c : Fin 896) : (k0_pay1 (F := Ideal)) (ix2 r c) = 0 := by
  pointwise [k0_pay1]

theorem pay2_apply (xs : Vec Ideal S1024x896 .f32) (x0 : Vec Ideal S1024x1024 .bf16) (x1 : Vec Ideal S1x1024x896 .bf16) (r : Fin 1024) (c : Fin 896) :
    (k0_pay2 (F := Ideal) xs x0 x1) (ix2 r c) = xs (ix2 r c) + ∑ k : Fin 1024, x0 (ix2 r k) * x1 (ix3 0 k c) := by
  pointwise [k0_pay2]

theorem pay3_apply (xs : Vec Ideal S1024x896 .f32) (r : Fin 1024) (c : Fin 896) :
    (k0_pay3 (F := Ideal) xs) (ix2 r c) = xs (ix2 r c) := by
  pointwise [k0_pay3]

theorem ix : ∀ t : Fin cfg0.N, win0_0.index t = ![(t.val / 4 : ℕ), 0] ∧ win0_1.index t = ![(t.val % 4 : ℕ), 0, 0] ∧ win0_2.index t = ![(t.val / 4 : ℕ), t.val % 4] ∧ win0_3.index t = ![(t.val / 4 : ℕ), t.val % 4] := (by decide +kernel : ∀ t : Fin grid0.N, _)

variable (m : (ℓ : Loc nD τ sig) → Buf (Elt Ideal) ℓ) (c : Dev nD) {X : ℕ → ℕ → EReal} {W : ℕ → ℕ → ℕ → EReal}
  (hX : ∀ x : S8192x1024.Idx, (V m c main_arg0 : S8192x1024.Idx → EReal) x = X (x 0).val (x 1).val)
  (hW : ∀ x : S4x1024x896.Idx, (V m c main_arg1 : S4x1024x896.Idx → EReal) x = W (x 0).val (x 1).val (x 2).val)

/-- The blocks of one point, as arrays of extended reals. -/
abbrev bA (t : Fin cfg0.N) : S1024x1024.Idx → EReal := iblk m c 0 t
abbrev bB (t : Fin cfg0.N) : S1x1024x896.Idx → EReal := iblk m c 1 t

section
include hX
theorem blk_A (t : Fin cfg0.N) (r k : Fin 1024) : bA m c t (ix2 r k) = X (1024 * (t.val / 4) + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k : Fin 1024) (c' : Fin 896) : bB m c t (ix3 0 k c') = W (t.val % 4) k.val c'.val := by
  show (V m c main_arg1 : S4x1024x896.Idx → EReal) (((cfg0.win 1).blk t).view.emb (ix3 0 k c')) = _
  rw [hW]
  blk_simp [ix]
  rfl
end

/-- The product at an entry. -/
def prod (X : ℕ → ℕ → EReal) (W : ℕ → ℕ → ℕ → EReal) (r n : ℕ) : EReal := ∑ k ∈ range 1024, X r k * W (n / 896) k (n % 896)

section
include hX hW
/-- One point's product at an entry. -/
theorem step (t : Fin cfg0.N) (r : Fin 1024) (c' : Fin 896) :
    ∑ k : Fin 1024, bA m c t (ix2 r k) * bB m c t (ix3 0 k c') = prod X W (1024 * (t.val / 4) + r.val) (896 * (t.val % 4) + c'.val) := by
  unfold prod
  rw [show (896 * (t.val % 4) + c'.val) / 896 = t.val % 4 by omega, show (896 * (t.val % 4) + c'.val) % 896 = c'.val by omega]
  refine Eq.trans ?_ (MM.sum_fin 1024 fun k => X (1024 * (t.val / 4) + r.val) k * W (t.val % 4) k c'.val)
  exact sum_congr rfl fun k _ => congrArg₂ (· * ·) (blk_A m c hX t r k) (blk_B m c hW t k c')
end

section
include hX hW
/-- The array after the run. -/
theorem out_eq_2 : (dats m 0 c).arrAt 2 cfg0.N = fun x : S8192x3584.Idx => prod X W (x 0).val (x 1).val := by
  refine (dats m 0 c).arrAt_eq_of_covers 2 _ (by decide +kernel) fun t hf y => ?_
  have hk : ∀ (r : Fin 1024) (c' : Fin 896), ((outsAt0 m c t).1 : S1024x896.Idx → EReal) (ix2 r c') = prod X W (1024 * (t.val / 4) + r.val) (896 * (t.val % 4) + c'.val) := fun r c' => by
    unfold outsAt0
    dsimp only
    rw [out_2, pay2_apply, pay1_apply, zero_add, step m c hX hW t r c']
  blk_simp [ix]
  rw [after0_2]
  have he := congrArg ((outsAt0 m c t).1 : S1024x896.Idx → EReal) (ValueIdx.eq_ix2 y)
  refine (he.trans (hk (y 0) (y 1))).trans ?_
  rw [Nat.mul_comm 1024 (t.val / 4), Nat.mul_comm 896 (t.val % 4)]
end

section
include hX hW
/-- The array after the run. -/
theorem out_eq_3 : (dats m 0 c).arrAt 3 cfg0.N = fun x : S8192x3584.Idx => prod X W (x 0).val (x 1).val := by
  refine (dats m 0 c).arrAt_eq_of_covers 3 _ (by decide +kernel) fun t hf y => ?_
  have hk : ∀ (r : Fin 1024) (c' : Fin 896), ((outsAt0 m c t).2 : S1024x896.Idx → EReal) (ix2 r c') = prod X W (1024 * (t.val / 4) + r.val) (896 * (t.val % 4) + c'.val) := fun r c' => by
    unfold outsAt0
    dsimp only
    rw [out_3, pay3_apply, pay2_apply, pay1_apply, zero_add, step m c hX hW t r c']
  blk_simp [ix]
  rw [after0_3]
  have he := congrArg ((outsAt0 m c t).2 : S1024x896.Idx → EReal) (ValueIdx.eq_ix2 y)
  refine (he.trans (hk (y 0) (y 1))).trans ?_
  rw [Nat.mul_comm 1024 (t.val / 4), Nat.mul_comm 896 (t.val % 4)]
end

end Cert.InProjIdeal.MM

namespace Cert.InProjRefIdeal.MM

open Cert.InProjRefIdeal Cert.InProjRefIdeal.Gen

/-- The reference's product at an entry. -/
theorem prod_val {X : ℕ → ℕ → EReal} {W : ℕ → ℕ → ℕ → EReal} (A : FVec Ideal S8192x1024 .bf16) (Q : FVec Ideal S4x1024x896 .bf16)
    (hX : ∀ x, A x = X (x 0).val (x 1).val) (hW : ∀ x, Q x = W (x 0).val (x 1).val (x 2).val) (i : S8192x3584.Idx) :
    Host.dotGeneral dot_S8192x1024_S1024x3584_S8192x3584_1_0_0_1_n_n none (extf .f32 A bitsLt_bf16_f32) (shapeCast _ (transpose S1024x4x896 [1, 0, 2] (extf .f32 Q bitsLt_bf16_f32) transposes_S4x1024x896_S1024x4x896_1_0_2) shapeCasts_S1024x4x896_S1024x3584) i
      = InProjIdeal.MM.prod X W (i 0).val (i 1).val := by
  unfold InProjIdeal.MM.prod
  rw [ValueIdx.eq_ix2 i]
  pointwise
  refine Eq.trans ?_ (MM.sum_fin 1024 _)
  refine sum_congr rfl fun k _ => ?_
  rw [hX, hW]
  rfl

end Cert.InProjRefIdeal.MM

namespace Cert.Proof

open Cert.InProjIdeal

theorem InProj_defs {F : FTy → Type} [FloatOps F] : (InProj.defs (F := F)) = InProjIdeal.defs (F := F) :=
  congrArg (Pipeline.defs (InProjIdeal.pcfgs (F := F))) (show InProj.defs₀ (F := F) = InProjIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_InProjIdeal : Cert.quiescent_InProjIdeal := fun m ρ _ => InProjIdeal.Gen.frame (F := Ideal) m ρ

theorem frame_InProj : Cert.quiescent_InProj := fun m ρ _ =>
  InProj_defs (F := Bits) ▸ (θ_run (InProjIdeal.defs (F := Bits)) _ _).mono (fun _ h => h) (InProjIdeal.Gen.frame (F := Bits) m ρ)

theorem frame_InProjRefIdeal : Cert.quiescent_InProjRefIdeal := fun m ρ _ =>
  (θ_run (InProjRefIdeal.defs (F := Ideal)) _ _).mono (fun _ h => ⟨fun c => (h c).2.2, funext fun a => nomatch a⟩)
    (InProjRefIdeal.Value.run (F := Ideal) m ρ)

/-- The idealized kernel and its reference end with the same projection, twice. -/
theorem algebraic_InProj : Cert.algebraic_InProjIdeal_InProjRefIdeal := fun m g m' g' _ hargs => by
  have hX := fun c : Dev nD => at2_eq (m ((c.tc : Thread nD τ).loc main_arg0) : S8192x1024.Idx → EReal)
  have hW := fun c : Dev nD => at3_eq (m ((c.tc : Thread nD τ).loc main_arg1) : S4x1024x896.Idx → EReal)
  refine ⟨_, _, (θ_run (InProjIdeal.defs (F := Ideal)) _ _).mono (fun r h c => ⟨(h c).1.trans (InProjIdeal.MM.out_eq_2 m c (hX c) (hW c)), (h c).2.1.trans (InProjIdeal.MM.out_eq_3 m c (hX c) (hW c)), (h c).2.2⟩)
    (InProjIdeal.Value.run_blocks (F := Ideal) m g), ?_⟩
  refine (θ_run (InProjRefIdeal.defs (F := Ideal)) _ _).mono (fun r h c => ⟨(h c).1.trans ?_, (h c).2.1.trans ?_, (h c).2.2⟩)
    (InProjRefIdeal.Value.run (F := Ideal) m' g')
  · rw [(hargs c).1, (hargs c).2]
    exact funext fun x => InProjRefIdeal.MM.prod_val _ _ (hX c) (hW c) x
  · rw [(hargs c).1, (hargs c).2]
    exact funext fun x => InProjRefIdeal.MM.prod_val _ _ (hX c) (hW c) x

end Cert.Proof

namespace Cert.GluProjIdeal.MM

open Cert.GluProjIdeal Cert.GluProjIdeal.Gen

/-- What one point writes out. -/
theorem out_3 {F : FTy → Type} [FloatOps F] (c : Dev nD) (i : grid0.Coords) (a3 : Memref sig .tc .vmem S1024x1024 .bf16) (h3 : a3.IsWhole) (a4 : Memref sig .tc .vmem S1x1024x512 .bf16) (h4 : a4.IsWhole) (a5 : Memref sig .tc .vmem S1x512 .f32) (h5 : a5.IsWhole) (a6 : Memref sig .tc .vmem S1024x512 .f32) (h6 : a6.IsWhole) (a7 : Memref sig .tc .vmem S1024x512 .f32) (h7 : a7.IsWhole) (hc0 : cond0_0 i) (hc1 : cond0_1 i)
    (x0 : Vec F S1024x1024 .bf16) (x1 : Vec F S1x1024x512 .bf16) (x2 : Vec F S1x512 .f32) :
    out0_A_3 c i a3 h3 a4 h4 a5 h5 a6 h6 a7 h7 hc0 hc1 x0 x1 x2 = k0_pay3 (k0_pay2 k0_pay1 x0 x1) x2 := by
  unfold out0_A_3
  rw [View.read_writes_eq_canon _ _ _ (fun _ => cover0_A_3 ..)]
  unfold kernelRun0_A
  dsimp only
  sl_unfold_words
  rw [View.canon_unit_zero (S := S1024x512) MM.hz]
  rw [View.readCov_cons_toLoadRect]
  simp only [View.readCov_unit_zero (S := S1024x512) _ MM.hz, View.readAt_eq_ld, h3.read_unread, h4.read_unread, h5.read_unread,
    View.ld_unit_zero (S := S1024x1024) MM.hz, View.ld_unit_zero (S := S1x1024x512) MM.hz3, View.ld_unit_zero (S := S1x512) MM.hz]

theorem pay1_apply (r : Fin 1024) (c : Fin 512) : (k0_pay1 (F := Ideal)) (ix2 r c) = 0 := by
  pointwise [k0_pay1]

theorem pay2_apply (xs : Vec Ideal S1024x512 .f32) (x0 : Vec Ideal S1024x1024 .bf16) (x1 : Vec Ideal S1x1024x512 .bf16) (r : Fin 1024) (c : Fin 512) :
    (k0_pay2 (F := Ideal) xs x0 x1) (ix2 r c) = xs (ix2 r c) + ∑ k : Fin 1024, x0 (ix2 r k) * x1 (ix3 0 k c) := by
  pointwise [k0_pay2]

theorem pay3_apply (xs : Vec Ideal S1024x512 .f32) (x2 : Vec Ideal S1x512 .f32) (r : Fin 1024) (c : Fin 512) :
    (k0_pay3 (F := Ideal) xs x2) (ix2 r c) = xs (ix2 r c) + x2 (ix2 0 c) := by
  pointwise [k0_pay3]

theorem ix : ∀ t : Fin cfg0.N, win0_0.index t = ![(t.val / 4 : ℕ), 0] ∧ win0_1.index t = ![(t.val % 4 : ℕ), 0, 0] ∧ win0_2.index t = ![0, (t.val % 4 : ℕ)] ∧ win0_3.index t = ![(t.val / 4 : ℕ), t.val % 4] := (by decide +kernel : ∀ t : Fin grid0.N, _)

variable (m : (ℓ : Loc nD τ sig) → Buf (Elt Ideal) ℓ) (c : Dev nD) {X : ℕ → ℕ → EReal} {W : ℕ → ℕ → ℕ → EReal} {B : ℕ → EReal}
  (hX : ∀ x : S8192x1024.Idx, (V m c main_arg0 : S8192x1024.Idx → EReal) x = X (x 0).val (x 1).val)
  (hW : ∀ x : S4x1024x512.Idx, (V m c main_arg1 : S4x1024x512.Idx → EReal) x = W (x 0).val (x 1).val (x 2).val)
  (hB : ∀ x : S2048.Idx, (V m c main_arg2 : S2048.Idx → EReal) x = B (x 0).val)

/-- The blocks of one point, as arrays of extended reals. -/
abbrev bA (t : Fin cfg0.N) : S1024x1024.Idx → EReal := iblk m c 0 t
abbrev bB (t : Fin cfg0.N) : S1x1024x512.Idx → EReal := iblk m c 1 t
abbrev bC (t : Fin cfg0.N) : S1x512.Idx → EReal := iblk m c 2 t

section
include hX
theorem blk_A (t : Fin cfg0.N) (r k : Fin 1024) : bA m c t (ix2 r k) = X (1024 * (t.val / 4) + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k : Fin 1024) (c' : Fin 512) : bB m c t (ix3 0 k c') = W (t.val % 4) k.val c'.val := by
  show (V m c main_arg1 : S4x1024x512.Idx → EReal) (((cfg0.win 1).blk t).view.emb (ix3 0 k c')) = _
  rw [hW]
  blk_simp [ix]
  rfl
end

/-- The bias as the host hands it over: a matrix of one row. -/
theorem V_row : V m c main_v0 = (shapeCast S1x2048 (m ((c : Thread nD τ).loc main_arg2) : FVec Ideal S2048 .f32) shapeCasts_S2048_S1x2048 : FVec Ideal S1x2048 .f32) := by
  unfold_abbrev_sides
  after_results
  rfl

section
include hB
theorem row_val (x : S1x2048.Idx) : (V m c main_v0 : S1x2048.Idx → EReal) x = B (x 1).val := by
  have h := hB (ix1 (x 1))
  rw [V_main_arg2] at h
  rw [V_row, ValueIdx.eq_ix2 x]
  pointwise
  exact h

theorem blk_C (t : Fin cfg0.N) (c' : Fin 512) : bC m c t (ix2 0 c') = B (512 * (t.val % 4) + c'.val) := by
  show (V m c main_v0 : S1x2048.Idx → EReal) (((cfg0.win 2).blk t).view.emb (ix2 0 c')) = _
  rw [row_val m c hB]
  blk_simp [ix]
  rw [Nat.mul_comm 512 (t.val % 4)]
end

/-- The product at an entry. -/
def prod (X : ℕ → ℕ → EReal) (W : ℕ → ℕ → ℕ → EReal) (r n : ℕ) : EReal := ∑ k ∈ range 1024, X r k * W (n / 512) k (n % 512)

section
include hX hW
/-- One point's product at an entry. -/
theorem step (t : Fin cfg0.N) (r : Fin 1024) (c' : Fin 512) :
    ∑ k : Fin 1024, bA m c t (ix2 r k) * bB m c t (ix3 0 k c') = prod X W (1024 * (t.val / 4) + r.val) (512 * (t.val % 4) + c'.val) := by
  unfold prod
  rw [show (512 * (t.val % 4) + c'.val) / 512 = t.val % 4 by omega, show (512 * (t.val % 4) + c'.val) % 512 = c'.val by omega]
  refine Eq.trans ?_ (MM.sum_fin 1024 fun k => X (1024 * (t.val / 4) + r.val) k * W (t.val % 4) k c'.val)
  exact sum_congr rfl fun k _ => congrArg₂ (· * ·) (blk_A m c hX t r k) (blk_B m c hW t k c')
end

section
include hX hW hB
/-- The array after the run. -/
theorem out_eq_3 : (dats m 0 c).arrAt 3 cfg0.N = fun x : S8192x2048.Idx => prod X W (x 0).val (x 1).val + B (x 1).val := by
  refine (dats m 0 c).arrAt_eq_of_covers 3 _ (by decide +kernel) fun t hf y => ?_
  have hk : ∀ (r : Fin 1024) (c' : Fin 512), (outsAt0 m c t : S1024x512.Idx → EReal) (ix2 r c') = prod X W (1024 * (t.val / 4) + r.val) (512 * (t.val % 4) + c'.val) + B (512 * (t.val % 4) + c'.val) := fun r c' => by
    unfold outsAt0
    rw [out_3, pay3_apply, pay2_apply, pay1_apply, zero_add, step m c hX hW t r c', show (iblk m c 2 t : S1x512.Idx → EReal) (ix2 0 c') = _ from blk_C m c hB t c']
  blk_simp [ix]
  rw [after0_3]
  have he := congrArg (outsAt0 m c t : S1024x512.Idx → EReal) (ValueIdx.eq_ix2 y)
  refine (he.trans (hk (y 0) (y 1))).trans ?_
  rw [Nat.mul_comm 1024 (t.val / 4), Nat.mul_comm 512 (t.val % 4)]
end

end Cert.GluProjIdeal.MM

namespace Cert.GluProjRefIdeal.MM

open Cert.GluProjRefIdeal Cert.GluProjRefIdeal.Gen

/-- The reference's product at an entry. -/
theorem prod_val {X : ℕ → ℕ → EReal} {W : ℕ → ℕ → ℕ → EReal} (A : FVec Ideal S8192x1024 .bf16) (Q : FVec Ideal S4x1024x512 .bf16)
    (hX : ∀ x, A x = X (x 0).val (x 1).val) (hW : ∀ x, Q x = W (x 0).val (x 1).val (x 2).val) (i : S8192x2048.Idx) :
    Host.dotGeneral dot_S8192x1024_S1024x2048_S8192x2048_1_0_0_1_n_n none (extf .f32 A bitsLt_bf16_f32) (shapeCast _ (transpose S1024x4x512 [1, 0, 2] (extf .f32 Q bitsLt_bf16_f32) transposes_S4x1024x512_S1024x4x512_1_0_2) shapeCasts_S1024x4x512_S1024x2048) i
      = GluProjIdeal.MM.prod X W (i 0).val (i 1).val := by
  unfold GluProjIdeal.MM.prod
  rw [ValueIdx.eq_ix2 i]
  pointwise
  refine Eq.trans ?_ (MM.sum_fin 1024 _)
  refine sum_congr rfl fun k _ => ?_
  rw [hX, hW]
  rfl

/-- The reference's result at an entry. -/
theorem val {X : ℕ → ℕ → EReal} {W : ℕ → ℕ → ℕ → EReal} {B : ℕ → EReal} (A : FVec Ideal S8192x1024 .bf16) (Q : FVec Ideal S4x1024x512 .bf16) (b : FVec Ideal S2048 .f32)
    (hX : ∀ x, A x = X (x 0).val (x 1).val) (hW : ∀ x, Q x = W (x 0).val (x 1).val (x 2).val) (hB : ∀ x, b x = B (x 0).val) (i : S8192x2048.Idx) :
    addf (Host.dotGeneral dot_S8192x1024_S1024x2048_S8192x2048_1_0_0_1_n_n none (extf .f32 A bitsLt_bf16_f32) (shapeCast _ (transpose S1024x4x512 [1, 0, 2] (extf .f32 Q bitsLt_bf16_f32) transposes_S4x1024x512_S1024x4x512_1_0_2) shapeCasts_S1024x4x512_S1024x2048)) (broadcastInDim S8192x2048 ![0, 1] bcast_S1x2048_S8192x2048_0_1 (broadcastInDim S1x2048 ![1] bcast_S2048_S1x2048_1 b)) i
      = GluProjIdeal.MM.prod X W (i 0).val (i 1).val + B (i 1).val := by
  have h := prod_val A Q hX hW (ix2 (i 0) (i 1))
  have hb := hB (ix1 (i 1))
  rw [ValueIdx.eq_ix2 i]
  generalize Host.dotGeneral dot_S8192x1024_S1024x2048_S8192x2048_1_0_0_1_n_n none (extf .f32 A bitsLt_bf16_f32) _ = D at h ⊢
  pointwise
  exact congrArg₂ (· + ·) h hb

end Cert.GluProjRefIdeal.MM

namespace Cert.Proof

open Cert.GluProjIdeal

theorem GluProj_defs {F : FTy → Type} [FloatOps F] : (GluProj.defs (F := F)) = GluProjIdeal.defs (F := F) :=
  congrArg (Pipeline.defs (GluProjIdeal.pcfgs (F := F))) (show GluProj.defs₀ (F := F) = GluProjIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_GluProjIdeal : Cert.quiescent_GluProjIdeal := fun m ρ _ => GluProjIdeal.Gen.frame (F := Ideal) m ρ

theorem frame_GluProj : Cert.quiescent_GluProj := fun m ρ _ =>
  GluProj_defs (F := Bits) ▸ (θ_run (GluProjIdeal.defs (F := Bits)) _ _).mono (fun _ h => h) (GluProjIdeal.Gen.frame (F := Bits) m ρ)

theorem frame_GluProjRefIdeal : Cert.quiescent_GluProjRefIdeal := fun m ρ _ =>
  (θ_run (GluProjRefIdeal.defs (F := Ideal)) _ _).mono (fun _ h => ⟨fun c => (h c).2, funext fun a => nomatch a⟩)
    (GluProjRefIdeal.Value.run (F := Ideal) m ρ)

/-- The idealized kernel and its reference end with the same projection. -/
theorem algebraic_GluProj : Cert.algebraic_GluProjIdeal_GluProjRefIdeal := fun m g m' g' _ hargs => by
  have hX := fun c : Dev nD => at2_eq (m ((c.tc : Thread nD τ).loc main_arg0) : S8192x1024.Idx → EReal)
  have hW := fun c : Dev nD => at3_eq (m ((c.tc : Thread nD τ).loc main_arg1) : S4x1024x512.Idx → EReal)
  have hB := fun c : Dev nD => at1_eq (m ((c.tc : Thread nD τ).loc main_arg2) : S2048.Idx → EReal)
  refine ⟨_, (θ_run (GluProjIdeal.defs (F := Ideal)) _ _).mono (fun r h c => ⟨(h c).1.trans (GluProjIdeal.MM.out_eq_3 m c (fun x => (congrFun (GluProjIdeal.Gen.V_main_arg0 m c) x).trans (hX c x)) (fun x => (congrFun (GluProjIdeal.Gen.V_main_arg1 m c) x).trans (hW c x)) (fun x => (congrFun (GluProjIdeal.Gen.V_main_arg2 m c) x).trans (hB c x))), (h c).2⟩)
    (GluProjIdeal.Value.run_blocks (F := Ideal) m g), ?_⟩
  refine (θ_run (GluProjRefIdeal.defs (F := Ideal)) _ _).mono (fun r h c => ⟨(h c).1.trans ?_, (h c).2⟩)
    (GluProjRefIdeal.Value.run (F := Ideal) m' g')
  · rw [(hargs c).1, (hargs c).2.1, (hargs c).2.2]
    exact funext fun x => GluProjRefIdeal.MM.val _ _ _ (hX c) (hW c) (hB c) x

end Cert.Proof

namespace Cert.DownIdeal.MM

open Cert.DownIdeal Cert.DownIdeal.Gen

section
variable {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (x0 : Vec F S1024x1024 .bf16) (x1 : Vec F S1x1x1024x1024 .bf16) (x2 : Vec F S1024x1024 .f32) (xs : Vec F S1024x1024 .f32)

/-- The first point of a block leaves the block's first product, added to zero. -/
theorem scr_A (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S1024x1024) MM.hz, View.ld_unit_zero (S := S1x1x1024x1024) MM.hz4]

/-- A middle point adds its product to what the scratch holds. -/
theorem scr_B (hc0 : ¬cond0_0 i) (hc1 : ¬cond0_1 i) :
    sout0_B_0 c i a3 h3 a4 h4 a5 h5 a6 h6 a7 h7 hc0 hc1 x0 x1 x2 xs = k0_pay2 xs x0 x1 := by
  unfold sout0_B_0
  rw [View.read_writes_eq_canon _ _ _ (fun _ => scover0_B_0 ..)]
  unfold kernelRun0_B
  dsimp only
  rw [View.canon_unit_zero (S := S1024x1024) MM.hz]
  simp only [View.readAt_eq_ld, h3.read_unread, h4.read_unread, h7.read_unread, View.ld_unit_zero (S := S1024x1024) MM.hz, View.ld_unit_zero (S := S1x1x1024x1024) MM.hz4]

/-- The last point of a block adds the residual to the sum and writes it out. -/
theorem out_C (hc0 : ¬cond0_0 i) (hc1 : cond0_1 i) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (fun _ => cover0_C_3 ..)]
  unfold kernelRun0_C
  dsimp only
  sl_unfold_words
  rw [View.canon_unit_zero (S := S1024x1024) MM.hz, View.readCov_unit_zero (S := S1024x1024) _ MM.hz]
  simp only [View.readAt_eq_ld, h3.read_unread, h4.read_unread, h5.read_unread, h7.read_unread, View.ld_unit_zero (S := S1024x1024) MM.hz, View.ld_unit_zero (S := S1x1x1024x1024) MM.hz4]

end

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 k c) := by
  pointwise [k0_pay2]

theorem pay3_apply (xs : Vec Ideal S1024x1024 .f32) (x2 : Vec Ideal S1024x1024 .f32) (r c : Fin 1024) :
    (k0_pay3 (F := Ideal) xs x2) (ix2 r c) = x2 (ix2 r c) + xs (ix2 r c) := by
  pointwise [k0_pay3]

theorem ix : ∀ t : Fin cfg0.N, win0_0.index t = ![(t.val / 4 : ℕ), t.val % 4] ∧ win0_1.index t = ![(t.val % 4 : ℕ), 1, 0, 0] ∧ win0_2.index t = ![(t.val / 4 : ℕ), 0] ∧ win0_3.index t = ![(t.val / 4 : ℕ), 0] := (by decide +kernel : ∀ t : Fin grid0.N, _)

variable (m : (ℓ : Loc nD τ sig) → Buf (Elt Ideal) ℓ) (c : Dev nD) {X Z : ℕ → ℕ → EReal} {W : ℕ → ℕ → ℕ → ℕ → EReal}
  (hX : ∀ x : S8192x4096.Idx, (V m c main_arg0 : S8192x4096.Idx → EReal) x = X (x 0).val (x 1).val)
  (hW : ∀ x : S4x2x1024x1024.Idx, (V m c main_arg1 : S4x2x1024x1024.Idx → EReal) x = W (x 0).val (x 1).val (x 2).val (x 3).val)
  (hZ : ∀ x : S8192x1024.Idx, (V m c main_arg2 : S8192x1024.Idx → EReal) x = Z (x 0).val (x 1).val)

/-- The blocks of one point, as arrays of extended reals. -/
abbrev bA (t : Fin cfg0.N) : S1024x1024.Idx → EReal := iblk m c 0 t
abbrev bB (t : Fin cfg0.N) : S1x1x1024x1024.Idx → EReal := iblk m c 1 t
abbrev bC (t : Fin cfg0.N) : S1024x1024.Idx → EReal := iblk m c 2 t

section
include hX
theorem blk_A (t : Fin cfg0.N) (r k : Fin 1024) : bA m c t (ix2 r k) = X (1024 * (t.val / 4) + r.val) (1024 * (t.val % 4) + k.val) := by
  show (V m c main_arg0 : S8192x4096.Idx → EReal) (((cfg0.win 0).blk t).view.emb (ix2 r k)) = _
  rw [hX]
  blk_simp [ix]
  congr 1 <;> omega
end

section
include hW
theorem blk_B (t : Fin cfg0.N) (k c' : Fin 1024) : bB m c t (ix4 0 0 k c') = W (t.val % 4) 1 k.val c'.val := by
  show (V m c main_arg1 : S4x2x1024x1024.Idx → EReal) (((cfg0.win 1).blk t).view.emb (ix4 0 0 k c')) = _
  rw [hW]
  blk_simp [ix]
  rfl
end

section
include hZ
theorem blk_C (t : Fin cfg0.N) (r k : Fin 1024) : bC m c t (ix2 r k) = Z (1024 * (t.val / 4) + r.val) k.val := by
  show (V m c main_arg2 : S8192x1024.Idx → EReal) (((cfg0.win 2).blk t).view.emb (ix2 r k)) = _
  rw [hZ]
  blk_simp [ix]
  congr 1 <;> omega
end

/-- One summand of the product. -/
def term (X : ℕ → ℕ → EReal) (W : ℕ → ℕ → ℕ → ℕ → EReal) (r n k : ℕ) : EReal := X r k * W (k / 1024) 1 (k % 1024) n

section
include hX hW

/-- One point's product at an entry. -/
theorem step (t : Fin cfg0.N) (r c' : Fin 1024) :
    ∑ k : Fin 1024, bA m c t (ix2 r k) * bB m c t (ix4 0 0 k c')
      = ∑ k ∈ range 1024, term X W (1024 * (t.val / 4) + r.val) c'.val (1024 * (t.val % 4) + k) := by
  refine Eq.trans ?_ (MM.sum_fin 1024 fun k => term X W (1024 * (t.val / 4) + r.val) c'.val (1024 * (t.val % 4) + k))
  refine sum_congr rfl fun k _ => ?_
  unfold term
  rw [show (1024 * (t.val % 4) + k.val) / 1024 = t.val % 4 by omega, show (1024 * (t.val % 4) + k.val) % 1024 = k.val by omega]
  exact congrArg₂ (· * ·) (blk_A m c hX t r k) (blk_B m c hW t k c')

/-- The scratch before a block's last point holds the sum over the columns so far. -/
theorem acc_eq (n : ℕ) (h : n < cfg0.N) (h3 : n % 4 ≠ 3) (r c' : Fin 1024) :
    ((outsAt0 m c n h).2 : S1024x1024.Idx → EReal) (ix2 r c') = ∑ k ∈ range (1024 * (n % 4) + 1024), term X W (1024 * (n / 4) + r.val) c'.val k :=
  MM.acc_rec 1024 (fun n h => ((outsAt0 m c n h).2 : S1024x1024.Idx → EReal) (ix2 r c')) (fun q k => term X W (1024 * (q) + r.val) c'.val k)
    (fun n h h0 => by
      refine (congrFun (congrArg Prod.snd (outsAt0_A m c ⟨n, h⟩ h0 (show n % 4 ≠ 3 by omega))) (ix2 r c')).trans ?_
      dsimp only
      rw [scr_A, pay2_apply, pay1_apply, zero_add]
      exact step m c hX hW ⟨n, h⟩ r c')
    (fun p h h0 h3 => by
      refine (congrFun (congrArg Prod.snd (outsAt0_B m c ⟨p + 1, h⟩ h0 h3)) (ix2 r c')).trans ?_
      dsimp only
      rw [scr_B, pay2_apply]
      exact congrArg₂ (· + ·) rfl (step m c hX hW ⟨p + 1, h⟩ r c')) n h h3
end

include hX hW hZ

/-- The array after the run: the residual and the whole product. -/
theorem out_eq : (dats m 0 c).arrAt 3 cfg0.N = fun x : S8192x1024.Idx => Z (x 0).val (x 1).val + ∑ k ∈ range 4096, term X W (x 0).val (x 1).val k := by
  refine (dats m 0 c).arrAt_eq_of_covers 3 _ (by decide +kernel) fun t hf y => ?_
  have h3 : t.val % 4 = 3 := (flush0_3 t).1 hf
  have h0 : ¬ t.val % 4 = 0 := by omega
  have hk : ∀ (r c' : Fin 1024), ((outsAt0 m c t.val t.isLt).1 : S1024x1024.Idx → EReal) (ix2 r c')
      = Z (1024 * (t.val / 4) + r.val) c'.val + ∑ k ∈ range 4096, term X W (1024 * (t.val / 4) + r.val) c'.val k := fun r c' => by
    rw [outsAt0_C m c t h0 h3]
    dsimp only
    rw [out_C, pay3_apply, pay2_apply, step m c hX hW t r c', acc_eq m c hX hW (t.val - 1) _ (by omega) r c', show (iblk m c 2 t : S1024x1024.Idx → EReal) (ix2 r c') = _ from blk_C m c hZ t r c']
    rw [show (t.val - 1) % 4 = 2 by omega, show (t.val - 1) / 4 = t.val / 4 by omega, h3]
    exact congrArg _ (MM.sum_cut (fun k => term X W (1024 * (t.val / 4) + r.val) c'.val k) 3072 1024).symm
  blk_simp [ix]
  rw [after0_3]
  have hy := hk (y 0) (y 1)
  have he := congrArg ((outsAt0 m c t.val t.isLt).1 : S1024x1024.Idx → EReal) (ValueIdx.eq_ix2 y)
  refine (he.trans hy).trans ?_
  rw [Nat.mul_comm 1024 (t.val / 4)]

end Cert.DownIdeal.MM

namespace Cert.DownRefIdeal.MM

open Cert.DownRefIdeal Cert.DownRefIdeal.Gen

/-- The reference's product at an entry. -/
theorem prod_val {X : ℕ → ℕ → EReal} {W : ℕ → ℕ → ℕ → ℕ → EReal} (A : FVec Ideal S8192x4096 .bf16) (B : FVec Ideal S4x2x1024x1024 .bf16)
    (hX : ∀ x, A x = X (x 0).val (x 1).val) (hW : ∀ x, B x = W (x 0).val (x 1).val (x 2).val (x 3).val) (r : Fin 8192) (n : Fin 1024) :
    Host.dotGeneral dot_S8192x4096_S4096x1024_S8192x1024_1_0_0_1_n_n none (extf .f32 A bitsLt_bf16_f32) (shapeCast _ (extf .f32 (shapeCast _ (extractStridedSlice S4x1x1024x1024 ![0, 1, 0, 0] B slices_S4x2x1024x1024_S4x1x1024x1024_0_1_0_0) shapeCasts_S4x1x1024x1024_S4x1024x1024) bitsLt_bf16_f32) shapeCasts_S4x1024x1024_S4096x1024) (ix2 r n)
      = ∑ k ∈ range 4096, DownIdeal.MM.term X W r.val n.val k := by
  unfold DownIdeal.MM.term
  pointwise
  refine Eq.trans ?_ (MM.sum_fin 4096 _)
  refine sum_congr rfl fun k _ => ?_
  rw [hX, hW]
  rfl

/-- The reference's result at an entry. -/
theorem val {X Z : ℕ → ℕ → EReal} {W : ℕ → ℕ → ℕ → ℕ → EReal} (A : FVec Ideal S8192x4096 .bf16) (B : FVec Ideal S4x2x1024x1024 .bf16) (C : FVec Ideal S8192x1024 .f32)
    (hX : ∀ x, A x = X (x 0).val (x 1).val) (hW : ∀ x, B x = W (x 0).val (x 1).val (x 2).val (x 3).val) (hZ : ∀ x, C x = Z (x 0).val (x 1).val) (i : S8192x1024.Idx) :
    addf C (Host.dotGeneral dot_S8192x4096_S4096x1024_S8192x1024_1_0_0_1_n_n none (extf .f32 A bitsLt_bf16_f32) (shapeCast _ (extf .f32 (shapeCast _ (extractStridedSlice S4x1x1024x1024 ![0, 1, 0, 0] B slices_S4x2x1024x1024_S4x1x1024x1024_0_1_0_0) shapeCasts_S4x1x1024x1024_S4x1024x1024) bitsLt_bf16_f32) shapeCasts_S4x1024x1024_S4096x1024)) i
      = Z (i 0).val (i 1).val + ∑ k ∈ range 4096, DownIdeal.MM.term X W (i 0).val (i 1).val k := by
  have h := prod_val A B hX hW (i 0) (i 1)
  have hc := hZ (ix2 (i 0) (i 1))
  rw [ValueIdx.eq_ix2 i]
  generalize Host.dotGeneral dot_S8192x4096_S4096x1024_S8192x1024_1_0_0_1_n_n none (extf .f32 A bitsLt_bf16_f32) _ = D at h ⊢
  pointwise
  exact congrArg₂ (· + ·) hc h

end Cert.DownRefIdeal.MM

namespace Cert.Proof

open Cert.DownIdeal

theorem Down_defs {F : FTy → Type} [FloatOps F] : (Down.defs (F := F)) = DownIdeal.defs (F := F) :=
  congrArg (Pipeline.defs (DownIdeal.pcfgs (F := F))) (show Down.defs₀ (F := F) = DownIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_DownIdeal : Cert.quiescent_DownIdeal := fun m ρ _ => DownIdeal.Gen.frame (F := Ideal) m ρ

theorem frame_Down : Cert.quiescent_Down := fun m ρ _ =>
  Down_defs (F := Bits) ▸ (θ_run (DownIdeal.defs (F := Bits)) _ _).mono (fun _ h => h) (DownIdeal.Gen.frame (F := Bits) m ρ)

theorem frame_DownRefIdeal : Cert.quiescent_DownRefIdeal := fun m ρ _ =>
  (θ_run (DownRefIdeal.defs (F := Ideal)) _ _).mono (fun _ h => ⟨fun c => (h c).2, funext fun a => nomatch a⟩)
    (DownRefIdeal.Value.run (F := Ideal) m ρ)

/-- The idealized kernel and its reference end with the same sum. -/
theorem algebraic_Down : Cert.algebraic_DownIdeal_DownRefIdeal := fun m g m' g' _ hargs => by
  have hX := fun c : Dev nD => at2_eq (m ((c.tc : Thread nD τ).loc main_arg0) : S8192x4096.Idx → EReal)
  have hW := fun c : Dev nD => at4_eq (m ((c.tc : Thread nD τ).loc main_arg1) : S4x2x1024x1024.Idx → EReal)
  have hZ := fun c : Dev nD => at2_eq (m ((c.tc : Thread nD τ).loc main_arg2) : S8192x1024.Idx → EReal)
  refine ⟨_, (θ_run (DownIdeal.defs (F := Ideal)) _ _).mono (fun r h c => ⟨(h c).1.trans (DownIdeal.MM.out_eq m c (hX c) (hW c) (hZ c)), (h c).2⟩)
    (DownIdeal.Value.run_blocks (F := Ideal) m g), ?_⟩
  refine (θ_run (DownRefIdeal.defs (F := Ideal)) _ _).mono (fun r h c => ⟨(h c).1.trans ?_, (h c).2⟩)
    (DownRefIdeal.Value.run (F := Ideal) m' g')
  · rw [(hargs c).1, (hargs c).2.1, (hargs c).2.2]
    exact funext fun x => DownRefIdeal.MM.val _ _ _ (hX c) (hW c) (hZ c) x

end Cert.Proof
-- ==== Proof.Adam.lean ====
module

public import proofs.«01_k».proof.Defs
public import proofs.«01_k».proof.Proof.Gen.AdamIn
public import proofs.«01_k».proof.Proof.Gen.AdamInIdeal.Value
public import proofs.«01_k».proof.Proof.Gen.AdamInRefIdeal.Run
public import proofs.«01_k».proof.Proof.Gen.AdamSquare
public import proofs.«01_k».proof.Proof.Gen.AdamSquareIdeal.Value
public import proofs.«01_k».proof.Proof.Gen.AdamSquareRefIdeal.Run
public import proofs.«01_k».proof.Proof.Gen.AdamGlu
public import proofs.«01_k».proof.Proof.Gen.AdamGluIdeal.Value
public import proofs.«01_k».proof.Proof.Gen.AdamGluRefIdeal.Run
public import proofs.«01_k».proof.Proof.Gen.AdamFf
public import proofs.«01_k».proof.Proof.Gen.AdamFfIdeal.Value
public import proofs.«01_k».proof.Proof.Gen.AdamFfRefIdeal.Run
public import proofs.«01_k».proof.Proof.Gen.AdamSmall
public import proofs.«01_k».proof.Proof.Gen.AdamSmallIdeal.Value
public import proofs.«01_k».proof.Proof.Gen.AdamSmallRefIdeal.Run

/-! The optimiser: frames and agreement. -/

@[expose] public section

set_option maxRecDepth 16384

noncomputable section

open Idealize.ShloMosaic Idealize.ShloMosaic.TcCoe Idealize.SL.Sem

namespace Cert.Proof

open Cert.AdamInIdeal

theorem AdamIn_defs {F : FTy → Type} [FloatOps F] : (AdamIn.defs (F := F)) = AdamInIdeal.defs (F := F) :=
  congrArg (Pipeline.defs (AdamInIdeal.pcfgs (F := F))) (show AdamIn.defs₀ (F := F) = AdamInIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_AdamInIdeal : Cert.quiescent_AdamInIdeal := fun m ρ _ => AdamInIdeal.Gen.frame (F := Ideal) m ρ

theorem frame_AdamIn : Cert.quiescent_AdamIn := fun m ρ _ =>
  AdamIn_defs (F := Bits) ▸ (θ_run (AdamInIdeal.defs (F := Bits)) _ _).mono (fun _ h => h) (AdamInIdeal.Gen.frame (F := Bits) m ρ)

theorem frame_AdamInRefIdeal : Cert.quiescent_AdamInRefIdeal := fun m ρ _ =>
  (θ_run (AdamInRefIdeal.defs (F := Ideal)) _ _).mono (fun _ h => ⟨fun c => (h c).2.2.2, funext fun a => nomatch a⟩)
    (AdamInRefIdeal.Value.run (F := Ideal) m ρ)

/-- The idealized kernel and its reference end with the same step and the same two moments. -/
theorem algebraic_AdamIn : Cert.algebraic_AdamInIdeal_AdamInRefIdeal := fun m g m' g' _ hargs => by
  refine ⟨_, _, _, AdamInIdeal.Value.run (F := Ideal) m g, ?_⟩
  refine (θ_run (AdamInRefIdeal.defs (F := Ideal)) _ _).mono (fun r h c => ⟨(h c).1.trans ?_, (h c).2.1.trans ?_, (h c).2.2.1.trans ?_, (h c).2.2.2⟩)
    (AdamInRefIdeal.Value.run (F := Ideal) m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.Proof

namespace Cert.Proof

open Cert.AdamSquareIdeal

theorem AdamSquare_defs {F : FTy → Type} [FloatOps F] : (AdamSquare.defs (F := F)) = AdamSquareIdeal.defs (F := F) :=
  congrArg (Pipeline.defs (AdamSquareIdeal.pcfgs (F := F))) (show AdamSquare.defs₀ (F := F) = AdamSquareIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_AdamSquareIdeal : Cert.quiescent_AdamSquareIdeal := fun m ρ _ => AdamSquareIdeal.Gen.frame (F := Ideal) m ρ

theorem frame_AdamSquare : Cert.quiescent_AdamSquare := fun m ρ _ =>
  AdamSquare_defs (F := Bits) ▸ (θ_run (AdamSquareIdeal.defs (F := Bits)) _ _).mono (fun _ h => h) (AdamSquareIdeal.Gen.frame (F := Bits) m ρ)

theorem frame_AdamSquareRefIdeal : Cert.quiescent_AdamSquareRefIdeal := fun m ρ _ =>
  (θ_run (AdamSquareRefIdeal.defs (F := Ideal)) _ _).mono (fun _ h => ⟨fun c => (h c).2.2.2, funext fun a => nomatch a⟩)
    (AdamSquareRefIdeal.Value.run (F := Ideal) m ρ)

/-- The idealized kernel and its reference end with the same step and the same two moments. -/
theorem algebraic_AdamSquare : Cert.algebraic_AdamSquareIdeal_AdamSquareRefIdeal := fun m g m' g' _ hargs => by
  refine ⟨_, _, _, AdamSquareIdeal.Value.run (F := Ideal) m g, ?_⟩
  refine (θ_run (AdamSquareRefIdeal.defs (F := Ideal)) _ _).mono (fun r h c => ⟨(h c).1.trans ?_, (h c).2.1.trans ?_, (h c).2.2.1.trans ?_, (h c).2.2.2⟩)
    (AdamSquareRefIdeal.Value.run (F := Ideal) m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.Proof

namespace Cert.Proof

open Cert.AdamGluIdeal

theorem AdamGlu_defs {F : FTy → Type} [FloatOps F] : (AdamGlu.defs (F := F)) = AdamGluIdeal.defs (F := F) :=
  congrArg (Pipeline.defs (AdamGluIdeal.pcfgs (F := F))) (show AdamGlu.defs₀ (F := F) = AdamGluIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_AdamGluIdeal : Cert.quiescent_AdamGluIdeal := fun m ρ _ => AdamGluIdeal.Gen.frame (F := Ideal) m ρ

theorem frame_AdamGlu : Cert.quiescent_AdamGlu := fun m ρ _ =>
  AdamGlu_defs (F := Bits) ▸ (θ_run (AdamGluIdeal.defs (F := Bits)) _ _).mono (fun _ h => h) (AdamGluIdeal.Gen.frame (F := Bits) m ρ)

theorem frame_AdamGluRefIdeal : Cert.quiescent_AdamGluRefIdeal := fun m ρ _ =>
  (θ_run (AdamGluRefIdeal.defs (F := Ideal)) _ _).mono (fun _ h => ⟨fun c => (h c).2.2.2, funext fun a => nomatch a⟩)
    (AdamGluRefIdeal.Value.run (F := Ideal) m ρ)

/-- The idealized kernel and its reference end with the same step and the same two moments. -/
theorem algebraic_AdamGlu : Cert.algebraic_AdamGluIdeal_AdamGluRefIdeal := fun m g m' g' _ hargs => by
  refine ⟨_, _, _, AdamGluIdeal.Value.run (F := Ideal) m g, ?_⟩
  refine (θ_run (AdamGluRefIdeal.defs (F := Ideal)) _ _).mono (fun r h c => ⟨(h c).1.trans ?_, (h c).2.1.trans ?_, (h c).2.2.1.trans ?_, (h c).2.2.2⟩)
    (AdamGluRefIdeal.Value.run (F := Ideal) m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.Proof

namespace Cert.Proof

open Cert.AdamFfIdeal

theorem AdamFf_defs {F : FTy → Type} [FloatOps F] : (AdamFf.defs (F := F)) = AdamFfIdeal.defs (F := F) :=
  congrArg (Pipeline.defs (AdamFfIdeal.pcfgs (F := F))) (show AdamFf.defs₀ (F := F) = AdamFfIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_AdamFfIdeal : Cert.quiescent_AdamFfIdeal := fun m ρ _ => AdamFfIdeal.Gen.frame (F := Ideal) m ρ

theorem frame_AdamFf : Cert.quiescent_AdamFf := fun m ρ _ =>
  AdamFf_defs (F := Bits) ▸ (θ_run (AdamFfIdeal.defs (F := Bits)) _ _).mono (fun _ h => h) (AdamFfIdeal.Gen.frame (F := Bits) m ρ)

theorem frame_AdamFfRefIdeal : Cert.quiescent_AdamFfRefIdeal := fun m ρ _ =>
  (θ_run (AdamFfRefIdeal.defs (F := Ideal)) _ _).mono (fun _ h => ⟨fun c => (h c).2.2.2, funext fun a => nomatch a⟩)
    (AdamFfRefIdeal.Value.run (F := Ideal) m ρ)

/-- The idealized kernel and its reference end with the same step and the same two moments. -/
theorem algebraic_AdamFf : Cert.algebraic_AdamFfIdeal_AdamFfRefIdeal := fun m g m' g' _ hargs => by
  refine ⟨_, _, _, AdamFfIdeal.Value.run (F := Ideal) m g, ?_⟩
  refine (θ_run (AdamFfRefIdeal.defs (F := Ideal)) _ _).mono (fun r h c => ⟨(h c).1.trans ?_, (h c).2.1.trans ?_, (h c).2.2.1.trans ?_, (h c).2.2.2⟩)
    (AdamFfRefIdeal.Value.run (F := Ideal) m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.Proof

namespace Cert.Proof

open Cert.AdamSmallIdeal

theorem AdamSmall_defs {F : FTy → Type} [FloatOps F] : (AdamSmall.defs (F := F)) = AdamSmallIdeal.defs (F := F) :=
  congrArg (Pipeline.defs (AdamSmallIdeal.pcfgs (F := F))) (show AdamSmall.defs₀ (F := F) = AdamSmallIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_AdamSmallIdeal : Cert.quiescent_AdamSmallIdeal := fun m ρ _ => AdamSmallIdeal.Gen.frame (F := Ideal) m ρ

theorem frame_AdamSmall : Cert.quiescent_AdamSmall := fun m ρ _ =>
  AdamSmall_defs (F := Bits) ▸ (θ_run (AdamSmallIdeal.defs (F := Bits)) _ _).mono (fun _ h => h) (AdamSmallIdeal.Gen.frame (F := Bits) m ρ)

theorem frame_AdamSmallRefIdeal : Cert.quiescent_AdamSmallRefIdeal := fun m ρ _ =>
  (θ_run (AdamSmallRefIdeal.defs (F := Ideal)) _ _).mono (fun _ h => ⟨fun c => (h c).2.2.2, funext fun a => nomatch a⟩)
    (AdamSmallRefIdeal.Value.run (F := Ideal) m ρ)

/-- The idealized kernel and its reference end with the same step and the same two moments. -/
theorem algebraic_AdamSmall : Cert.algebraic_AdamSmallIdeal_AdamSmallRefIdeal := fun m g m' g' _ hargs => by
  refine ⟨_, _, _, AdamSmallIdeal.Value.run (F := Ideal) m g, ?_⟩
  refine (θ_run (AdamSmallRefIdeal.defs (F := Ideal)) _ _).mono (fun r h c => ⟨(h c).1.trans ?_, (h c).2.1.trans ?_, (h c).2.2.1.trans ?_, (h c).2.2.2⟩)
    (AdamSmallRefIdeal.Value.run (F := Ideal) m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.Proof
-- ==== Proof.Rms.lean ====
module

public import Idealize.ShloMosaic.PureOps.Ideal
public import Idealize.ShloMosaic.Lib.Pointwise.Tactic
public import proofs.«01_k».proof.Proof.Nats3

/-! The root-mean-square norm of a row of 1024 entries and its derivative, on the extended reals. -/

@[expose] public section

noncomputable section

namespace Cert.Rms

open Idealize.ShloMosaic
open scoped BigOperators
open Finset

/-- The length of a row. -/
abbrev nn : EReal := Ideal.ofBits .f32 0x44800000#32

/-- The small constant under the root. -/
abbrev ee : EReal := Ideal.ofBits .f32 0x358637BD#32

/-- The exponent of the root's derivative. -/
abbrev hm : EReal := Ideal.ofBits .f32 0xBF000000#32

theorem nn_eq : nn = ((1024 : ℝ) : EReal) := by
  simp [nn, Ideal.ofBits, Ideal.ieee, -EReal.coe_mul]
  norm_num

theorem hm_eq : hm = ((-(1 / 2) : ℝ) : EReal) := by
  simp [hm, Ideal.ofBits, Ideal.ieee, -EReal.coe_mul]
  norm_num

theorem ee_pos : 0 < ee := by
  simp [ee, Ideal.ofBits, Ideal.ieee, -EReal.coe_mul]

/-- The reciprocal root divided by its argument is the cube of the reciprocal root. -/
theorem rsqrt_div {s : EReal} (hs : 0 < s) : Ideal.div (Ideal.rsqrt s) s = Ideal.rsqrt s * Ideal.rsqrt s * Ideal.rsqrt s := by
  induction s with
  | bot => exact absurd hs (by simp)
  | top => simp [Ideal.div]
  | coe r =>
    have hr : 0 < r := by exact_mod_cast hs
    have hq : Real.sqrt r ≠ 0 := (Real.sqrt_pos.mpr hr).ne'
    rw [Ideal.div_coe hr.ne', Ideal.rsqrt_coe, if_neg hr.le.not_gt, if_neg hr.ne']
    norm_cast
    have h := Real.mul_self_sqrt hr.le
    rw [show 1 / r = (Real.sqrt r)⁻¹ * (Real.sqrt r)⁻¹ by rw [← mul_inv, h, one_div]]
    ring

/-- A square is not negative, also at the infinities. -/
theorem sq_pos (x : EReal) : 0 ≤ x * x := by
  induction x with
  | bot => simp
  | top => simp
  | coe r => exact_mod_cast mul_self_nonneg r

/-- A division by the row's length is a product. -/
theorem div_nn (x : EReal) : Ideal.div x nn = x * ((1 / 1024 : ℝ) : EReal) := by
  rw [nn_eq, Ideal.div_coe (by norm_num)]

/-- What stands under the root: the mean square of the row and the small constant. -/
def under (x : ℕ → EReal) : EReal := Ideal.div (∑ k ∈ range 1024, x k * x k) nn + ee

theorem under_pos (x : ℕ → EReal) : 0 < under x := by
  unfold under
  rw [div_nn]
  refine lt_of_lt_of_le ee_pos ?_
  refine le_add_of_nonneg_left ?_
  exact mul_nonneg (sum_nonneg fun k _ => sq_pos (x k)) (by exact_mod_cast (by norm_num : (0 : ℝ) ≤ 1 / 1024))

/-- The reciprocal root of a row. -/
def rr (x : ℕ → EReal) : EReal := Ideal.rsqrt (under x)

/-- The norm of a row at an entry. -/
def fwd (X : ℕ → ℕ → EReal) (G : ℕ → EReal) (r c : ℕ) : EReal := X r c * rr (X r) * G c

/-- The derivative of the norm against a cotangent, at an entry. -/
def dx (U X : ℕ → ℕ → EReal) (G : ℕ → EReal) (r c : ℕ) : EReal :=
  rr (X r) * (G c * U r c) - X r c * (rr (X r) * rr (X r) * rr (X r)) * Ideal.div (∑ k ∈ range 1024, G k * U r k * X r k) nn

/-- The derivative with respect to the gain, one row's part. -/
def dg (U X : ℕ → ℕ → EReal) (r c : ℕ) : EReal := U r c * X r c * rr (X r)

theorem halves (y : EReal) : -(((1 / 2 : ℝ) : EReal) * y) + -(((1 / 2 : ℝ) : EReal) * y) = -y := by
  induction y with
  | bot =>
    rw [EReal.coe_mul_bot_of_pos (x := 1 / 2) (by norm_num)]
    simp
  | top =>
    rw [EReal.coe_mul_top_of_pos (x := 1 / 2) (by norm_num)]
    simp
  | coe r => norm_cast; ring

/-- The derivative as the chain rule writes it. -/
theorem chain {s : EReal} (hs : 0 < s) (u g x M : EReal) :
    u * g * Ideal.rsqrt s + x * Ideal.div (M * (hm * Ideal.div (Ideal.rsqrt s) s)) nn + x * Ideal.div (M * (hm * Ideal.div (Ideal.rsqrt s) s)) nn
      = Ideal.rsqrt s * (g * u) - x * (Ideal.rsqrt s * Ideal.rsqrt s * Ideal.rsqrt s) * Ideal.div M nn := by
  rw [rsqrt_div hs, div_nn, div_nn, hm_eq]
  generalize Ideal.rsqrt s = r
  have e : x * (M * (((-(1 / 2) : ℝ) : EReal) * (r * r * r)) * ((1 / 1024 : ℝ) : EReal))
      = -(((1 / 2 : ℝ) : EReal) * (x * (r * r * r) * (M * ((1 / 1024 : ℝ) : EReal)))) := by
    rw [EReal.coe_neg, EReal.neg_mul, mul_neg, EReal.neg_mul, mul_neg]
    congr 1
    ac_rfl
  rw [e, add_assoc, halves, sub_eq_add_neg]
  congr 1
  ac_rfl

/-- What stands under the root of a row given as a vector. -/
abbrev un (x : Fin 1024 → EReal) : EReal := Ideal.div (∑ k : Fin 1024, x k * x k) nn + ee

theorem un_eq {X : ℕ → EReal} {x : Fin 1024 → EReal} (hx : ∀ k, x k = X k.val) : un x = under X := by
  unfold under
  rw [← Cert.MM.sum_fin 1024 fun k => X k * X k]
  simp only [un, hx]

/-- The norm of a row given as a vector. -/
theorem fwd_fin {X : ℕ → ℕ → EReal} {G : ℕ → EReal} {r : ℕ} (x g : Fin 1024 → EReal) (hx : ∀ k, x k = X r k.val) (hg : ∀ k, g k = G k.val)
    (c : Fin 1024) : x c * Ideal.rsqrt (un x) * g c = fwd X G r c.val := by
  rw [un_eq hx, hx, hg]
  rfl

/-- The derivative of the norm of a row given as a vector. -/
def dxf (u x g : Fin 1024 → EReal) (c : Fin 1024) : EReal :=
  Ideal.rsqrt (un x) * (g c * u c) - x c * (Ideal.rsqrt (un x) * Ideal.rsqrt (un x) * Ideal.rsqrt (un x)) * Ideal.div (∑ k : Fin 1024, g k * u k * x k) nn

theorem dxf_eq {U X : ℕ → ℕ → EReal} {G : ℕ → EReal} {r : ℕ} {u x g : Fin 1024 → EReal} (hu : ∀ k, u k = U r k.val) (hx : ∀ k, x k = X r k.val)
    (hg : ∀ k, g k = G k.val) (c : Fin 1024) : dxf u x g c = dx U X G r c.val := by
  unfold dxf dx
  rw [un_eq hx, ← Cert.MM.sum_fin 1024 fun k => G k * U r k * X r k]
  simp only [hu, hx, hg]
  rfl

/-- The chain rule's form of the same derivative. -/
theorem chain_fin {U X : ℕ → ℕ → EReal} {G : ℕ → EReal} {r : ℕ} (u x g : Fin 1024 → EReal) (hu : ∀ k, u k = U r k.val) (hx : ∀ k, x k = X r k.val)
    (hg : ∀ k, g k = G k.val) (c : Fin 1024) :
    u c * g c * Ideal.rsqrt (un x)
        + x c * Ideal.div ((∑ k : Fin 1024, x k * (u k * g k)) * (hm * Ideal.div (Ideal.rsqrt (un x)) (un x))) nn
        + x c * Ideal.div ((∑ k : Fin 1024, x k * (u k * g k)) * (hm * Ideal.div (Ideal.rsqrt (un x)) (un x))) nn
      = dx U X G r c.val := by
  rw [← dxf_eq hu hx hg c]
  unfold dxf
  rw [chain (un_eq hx ▸ under_pos (X r) : 0 < un x), show (∑ k : Fin 1024, x k * (u k * g k)) = ∑ k : Fin 1024, g k * u k * x k from
    sum_congr rfl fun k _ => by ac_rfl]

/-- One row's part of the gain's derivative. -/
def dgf (u x : Fin 1024 → EReal) (c : Fin 1024) : EReal := u c * x c * Ideal.rsqrt (un x)

theorem dgf_eq {U X : ℕ → ℕ → EReal} {r : ℕ} {u x : Fin 1024 → EReal} (hu : ∀ k, u k = U r k.val) (hx : ∀ k, x k = X r k.val) (c : Fin 1024) :
    dgf u x c = dg U X r c.val := by
  unfold dgf
  rw [un_eq hx, hu, hx]
  rfl

theorem dg_fin {U X : ℕ → ℕ → EReal} {r : ℕ} (u x : Fin 1024 → EReal) (hu : ∀ k, u k = U r k.val) (hx : ∀ k, x k = X r k.val) (c : Fin 1024) :
    x c * Ideal.rsqrt (un x) * u c = dg U X r c.val := by
  rw [← dgf_eq hu hx c]
  unfold dgf
  ac_rfl

/-- A row that is kept except at each fourth point, where a block's sum is added to it, is the sum over the blocks so far. -/
theorem rows_rec {N : ℕ} (o : (n : ℕ) → n < N → EReal) (f : ℕ → EReal)
    (keep : ∀ (p : ℕ) (h : p + 1 < N), (p + 1) % 4 ≠ 3 → o (p + 1) h = o p (Nat.lt_of_succ_lt h))
    (first : ∀ (p : ℕ) (h : p + 1 < N), (p + 1) % 4 = 3 → p + 1 < 4 → o (p + 1) h = ∑ r ∈ range 1024, f (1024 * ((p + 1) / 4) + r))
    (next : ∀ (p : ℕ) (h : p + 1 < N), (p + 1) % 4 = 3 → ¬p + 1 < 4 →
      o (p + 1) h = o p (Nat.lt_of_succ_lt h) + ∑ r ∈ range 1024, f (1024 * ((p + 1) / 4) + r)) :
    ∀ (n : ℕ) (h : n < N), 3 ≤ n → o n h = ∑ r ∈ range (1024 * ((n + 1) / 4)), f r
  | n, h, hn => by
    obtain ⟨p, rfl⟩ : ∃ p, n = p + 1 := ⟨n - 1, by omega⟩
    by_cases h3 : (p + 1) % 4 = 3
    · by_cases h2 : p + 1 < 4
      · rw [first p h h3 h2, show (p + 1) / 4 = 0 by omega, show (p + 1 + 1) / 4 = 1 by omega]
        simp only [Nat.mul_zero, Nat.zero_add, Nat.mul_one]
      · rw [next p h h3 h2, rows_rec o f keep first next p (Nat.lt_of_succ_lt h) (by omega),
          show (p + 1 + 1) / 4 = (p + 1) / 4 + 1 by omega, Nat.mul_add 1024, Nat.mul_one]
        exact (Cert.MM.sum_cut f (1024 * ((p + 1) / 4)) 1024).symm
    · rw [keep p h h3, rows_rec o f keep first next p (Nat.lt_of_succ_lt h) (by omega), show (p + 1 + 1) / 4 = (p + 1) / 4 by omega]
  termination_by n => n

end Cert.Rms
-- ==== Proof.NormRef.lean ====
module

public import proofs.«01_k».proof.Proof.Gen.UpActRefIdeal.Run
public import proofs.«01_k».proof.Proof.Rms
public import Idealize.ShloMosaic.Lib.Pipeline.ValueKit

/-! The norm and its derivative as the references write them. -/

@[expose] public section

set_option maxRecDepth 16384

noncomputable section

namespace Cert.NormRef

open Idealize.ShloMosaic Idealize.ShloMosaic.TcCoe
open Cert.UpActRefIdeal Cert.UpActRefIdeal.Gen
open scoped BigOperators
open Finset

/-- The norm of a matrix at an entry. -/
theorem norm_val {Y : ℕ → ℕ → EReal} {G : ℕ → EReal} (H : FVec Ideal S8192x1024 .f32) (g : FVec Ideal S1024 .f32)
    (hH : ∀ x, H x = Y (x 0).val (x 1).val) (hG : ∀ x, g x = G (x 0).val) (i : S8192x1024.Idx) :
    (truncf .bf16 (mulf (mulf H (broadcastInDim S8192x1024 ![0, 1] bcast_S8192x1_S8192x1024_0_1 (Host.rsqrt (addf (Host.divf (broadcastInDim S8192x1 ![0] bcast_S8192_S8192x1_0 (Host.reduceAdd (mulf H H) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32) i = Rms.fwd Y G (i 0).val (i 1).val := by
  rw [ValueIdx.eq_ix2 i]
  pointwise
  exact Rms.fwd_fin (X := Y) (G := G) (r := (i 0).val) (fun k => H (ix2 (i 0) k)) (fun k => g (ix1 k)) (fun k => hH (ix2 (i 0) k)) (fun k => hG (ix1 k)) (i 1)

/-- The cotangent as the chain rule writes it, at an entry. -/
theorem dh_val {U Y Z : ℕ → ℕ → EReal} {G : ℕ → EReal} (D x C : FVec Ideal S8192x1024 .f32) (g : FVec Ideal S1024 .f32)
    (hD : ∀ i, D i = U (i 0).val (i 1).val) (hX : ∀ i, x i = Y (i 0).val (i 1).val)
    (hG : ∀ i, g i = G (i 0).val) (hC : ∀ i, C i = Z (i 0).val (i 1).val) (i : S8192x1024.Idx) :
    (addf C (addf (addf (mulf (mulf D (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf x (broadcastInDim S8192x1024 ![0] bcast_S8192_S8192x1024_0 (Host.reduceAdd (Host.divf (mulf (shapeCast _ (Host.reduceAdd (mulf x (mulf D (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf D (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x))) i = Z (i 0).val (i 1).val + Rms.dx U Y G (i 0).val (i 1).val := by
  have h2 := hC (ix2 (i 0) (i 1))
  have h3 := Rms.chain_fin (U := U) (X := Y) (G := G) (r := (i 0).val) (fun k => D (ix2 (i 0) k)) (fun k => x (ix2 (i 0) k)) (fun k => g (ix1 k)) (fun k => hD (ix2 (i 0) k)) (fun k => hX (ix2 (i 0) k)) (fun k => hG (ix1 k)) (i 1)
  rw [ValueIdx.eq_ix2 i]
  pointwise
  refine congrArg₂ (· + ·) h2 (Eq.trans ?_ h3)
  refine congrArg₂ (· + ·) (congrArg₂ (· + ·) rfl ?_) ?_
  · exact congrArg (x (ix2 (i 0) (i 1)) * ·) (Fin.sum_univ_one _)
  · exact (mul_comm _ _).trans (congrArg (x (ix2 (i 0) (i 1)) * ·) (Fin.sum_univ_one _))

/-- The gain's derivative. -/
theorem dg_val {U Y : ℕ → ℕ → EReal} (D x : FVec Ideal S8192x1024 .f32)
    (hD : ∀ i, D i = U (i 0).val (i 1).val) (hX : ∀ i, x i = Y (i 0).val (i 1).val) (i : S1x1024.Idx) :
    (shapeCast _ (Host.reduceAdd (shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) D) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) i = ∑ r ∈ range 8192, Rms.dg U Y r (i 1).val := by
  rw [ValueIdx.eq_ix2 i]
  pointwise
  refine (Fin.sum_univ_one _).trans ?_
  refine Eq.trans ?_ (MM.sum_fin 8192 fun r => Rms.dg U Y r (i 1).val)
  exact sum_congr rfl fun r _ => Rms.dg_fin (U := U) (X := Y) (r := r.val) (fun k => D (ix2 r k)) (fun k => x (ix2 r k)) (fun k => hD (ix2 r k)) (fun k => hX (ix2 r k)) (i 1)

/-- The column sum of a matrix. -/
theorem col_val {Y : ℕ → ℕ → EReal} (H : FVec Ideal S8192x1024 .f32) (hH : ∀ i, H i = Y (i 0).val (i 1).val) (i : S1x1024.Idx) :
    (shapeCast _ (Host.reduceAdd H (constant S_ .f32 0x00000000#32) reducesTo_S8192x1024_S1024_d0 h_S_) shapeCasts_S1024_S1x1024 : FVec Ideal S1x1024 .f32) i = ∑ r ∈ range 8192, Y r (i 1).val := by
  rw [ValueIdx.eq_ix2 i]
  pointwise
  refine Eq.trans ?_ (MM.sum_fin 8192 fun r => Y r (i 1).val)
  exact sum_congr rfl fun r _ => hH (ix2 r (i 1))

end Cert.NormRef
-- ==== Proof.NormProjs.lean ====
module

public import proofs.«01_k».proof.Proof.Gen.OutProjIdeal.Value
public import proofs.«01_k».proof.Proof.Gen.OutProjRefIdeal.Run
public import proofs.«01_k».proof.Proof.Rms
public import Idealize.ShloMosaic.Lib.Pipeline.ValueKit
public import proofs.«01_k».proof.Defs
public import proofs.«01_k».proof.Proof.Gen.OutProj
public import proofs.«01_k».proof.Proof.NormRef
public import proofs.«01_k».proof.Proof.Gen.PwProjIdeal.Value
public import proofs.«01_k».proof.Proof.Gen.PwProjRefIdeal.Run
public import proofs.«01_k».proof.Proof.Gen.PwProj
public import proofs.«01_k».proof.Proof.Gen.NormIdeal.Value
public import proofs.«01_k».proof.Proof.Gen.NormRefIdeal.Run
public import proofs.«01_k».proof.Proof.Gen.Norm

/-! The norm, by itself and after two products: values, frames and agreement. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at1_eq at2_eq at3_eq at4_eq)

namespace Cert.OutProjIdeal.MM

open Cert.OutProjIdeal Cert.OutProjIdeal.Gen

section
variable {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
  (x0 : Vec F S1024x1024 .bf16) (x1 : Vec F S1024x1024 .bf16) (x2 : Vec F S1024x1024 .f32) (x3 : Vec F S1x1024 .f32) (xs : Vec F S1024x1024 .f32)

set_option maxHeartbeats 1600000 in
/-- What a block's last point writes out. -/
theorem out_A (hc0 : cond0_0 i) (hc1 : cond0_1 i) :
    out0_A_4 c i a3 h3 a4 h4 a5 h5 a6 h6 a7 h7 a8 h8 a9 h9 hc0 hc1 x0 x1 x2 x3 = k0_pay3 (k0_pay2 k0_pay1 x0 x1) x2 ∧
    out0_A_5 c i a3 h3 a4 h4 a5 h5 a6 h6 a7 h7 a8 h8 a9 h9 hc0 hc1 x0 x1 x2 x3 = k0_pay4 (k0_pay2 k0_pay1 x0 x1) x2 x3 := by
  unfold out0_A_4 out0_A_5
  rw [View.read_writes_eq_canon _ _ _ (fun _ => cover0_A_4 ..), View.read_writes_eq_canon _ _ _ (fun _ => cover0_A_5 ..)]
  unfold kernelRun0_A
  dsimp only
  sl_unfold_words
  simp only [View.canon_unit_zero (S := S1024x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread,
    View.ld_unit_zero (S := S1024x1024) MM.hz, View.ld_unit_zero (S := S1x1024) MM.hz, and_self]

end

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1024x1024 .bf16) (r c : Fin 1024) :
    (k0_pay2 (F := Ideal) xs x0 x1) (ix2 r c) = xs (ix2 r c) + ∑ k : Fin 1024, x0 (ix2 r k) * x1 (ix2 k c) := by
  pointwise [k0_pay2]

theorem pay3_apply (v : Vec Ideal S1024x1024 .f32) (x2 : Vec Ideal S1024x1024 .f32) (r c : Fin 1024) :
    (k0_pay3 (F := Ideal) v x2) (ix2 r c) = x2 (ix2 r c) + v (ix2 r c) := by
  pointwise [k0_pay3]

theorem pay4_apply (v : Vec Ideal S1024x1024 .f32) (x2 : Vec Ideal S1024x1024 .f32) (x3 : Vec Ideal S1x1024 .f32) (r c : Fin 1024) :
    (k0_pay4 (F := Ideal) v x2 x3) (ix2 r c)
      = (k0_pay3 (F := Ideal) v x2) (ix2 r c) * Ideal.rsqrt (Rms.un fun k => (k0_pay3 (F := Ideal) v x2) (ix2 r k)) * x3 (ix2 0 c) := by
  unfold k0_pay4
  generalize k0_pay3 (F := Ideal) v x2 = H
  pointwise

theorem ix : ∀ t : Fin cfg0.N, win0_0.index t = ![(t.val : ℕ), 0] ∧ win0_1.index t = ![0, 0] ∧ win0_2.index t = ![(t.val : ℕ), 0] ∧ win0_3.index t = ![0, 0] ∧ win0_4.index t = ![(t.val : ℕ), 0] ∧ win0_5.index t = ![(t.val : ℕ), 0] := (by decide +kernel : ∀ t : Fin grid0.N, _)

variable (m : (ℓ : Loc nD τ sig) → Buf (Elt Ideal) ℓ) (c : Dev nD) {X Z : ℕ → ℕ → EReal} {W : ℕ → ℕ → EReal} {G : ℕ → EReal}
  (hX : ∀ x : S8192x1024.Idx, (V m c main_arg0 : S8192x1024.Idx → EReal) x = X (x 0).val (x 1).val)
  (hW : ∀ x : S1024x1024.Idx, (V m c main_arg1 : S1024x1024.Idx → EReal) x = W (x 0).val (x 1).val)
  (hZ : ∀ x : S8192x1024.Idx, (V m c main_arg2 : S8192x1024.Idx → EReal) x = Z (x 0).val (x 1).val)
  (hG : ∀ x : S1024.Idx, (V m c main_arg3 : S1024.Idx → EReal) x = G (x 0).val)

/-- The blocks of one point, as arrays of extended reals. -/
abbrev bA (t : Fin cfg0.N) : S1024x1024.Idx → EReal := iblk m c 0 t
abbrev bB (t : Fin cfg0.N) : S1024x1024.Idx → EReal := iblk m c 1 t
abbrev bC (t : Fin cfg0.N) : S1024x1024.Idx → EReal := iblk m c 2 t
abbrev bD (t : Fin cfg0.N) : S1x1024.Idx → EReal := iblk m c 3 t

section
include hX
theorem blk_A (t : Fin cfg0.N) (r k : Fin 1024) : bA m c t (ix2 r k) = X (1024 * t.val + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k c' : Fin 1024) : bB m c t (ix2 k c') = W k.val c'.val := by
  show (V m c main_arg1 : S1024x1024.Idx → EReal) (((cfg0.win 1).blk t).view.emb (ix2 k c')) = _
  rw [hW]
  blk_simp [ix]
end

section
include hZ
theorem blk_C (t : Fin cfg0.N) (r k : Fin 1024) : bC m c t (ix2 r k) = Z (1024 * t.val + r.val) k.val := by
  show (V m c main_arg2 : S8192x1024.Idx → EReal) (((cfg0.win 2).blk t).view.emb (ix2 r k)) = _
  rw [hZ]
  blk_simp [ix]
  congr 1 <;> omega
end

/-- The row as the host hands it over: a matrix of one row. -/
theorem V_row0 : V m c main_v0 = (shapeCast S1x1024 (m ((c : Thread nD τ).loc main_arg3) : FVec Ideal S1024 .f32) shapeCasts_S1024_S1x1024 : FVec Ideal S1x1024 .f32) := by
  unfold_abbrev_sides
  after_results
  rfl

section
include hG
theorem row_val0 (x : S1x1024.Idx) : (V m c main_v0 : S1x1024.Idx → EReal) x = G (x 1).val := by
  have h := hG (ix1 (x 1))
  rw [V_main_arg3] at h
  rw [V_row0, ValueIdx.eq_ix2 x]
  pointwise
  exact h

theorem blk_G (t : Fin cfg0.N) (c' : Fin 1024) : bD m c t (ix2 0 c') = G c'.val := by
  show (V m c main_v0 : S1x1024.Idx → EReal) (((cfg0.win 3).blk t).view.emb (ix2 0 c')) = _
  rw [row_val0 m c hG]
  blk_simp [ix]
end

/-- The product at an entry. -/
def P (X W : ℕ → ℕ → EReal) (r n : ℕ) : EReal := ∑ k ∈ range 1024, X r k * W k n

section
include hX hW
/-- The product that the last point of a block has. -/
theorem du_eq (t : Fin cfg0.N) (r c' : Fin 1024) :
    (k0_pay2 (F := Ideal) (k0_pay1 (F := Ideal)) (iblk m c 0 t) (iblk m c 1 t)) (ix2 r c') = P X W (1024 * t.val + r.val) c'.val := by
  rw [pay2_apply, pay1_apply, zero_add]
  unfold P
  refine Eq.trans ?_ (MM.sum_fin 1024 fun k => X (1024 * t.val + r.val) k * W k c'.val)
  exact sum_congr rfl fun k _ => congrArg₂ (· * ·) (blk_A m c hX t r k) (blk_B m c hW t k c')
end

/-- The residual and the product at an entry. -/
def hh (X : ℕ → ℕ → EReal) (W : ℕ → ℕ → EReal) (Z : ℕ → ℕ → EReal) (r n : ℕ) : EReal := Z r n + P X W r n

section
include hX hW hZ
theorem h_eq (t : Fin cfg0.N) (r c' : Fin 1024) :
    (k0_pay3 (F := Ideal) (k0_pay2 (F := Ideal) (k0_pay1 (F := Ideal)) (iblk m c 0 t) (iblk m c 1 t)) (iblk m c 2 t)) (ix2 r c') = hh X W Z (1024 * t.val + r.val) c'.val := by
  rw [pay3_apply, du_eq m c hX hW t r c']
  exact congrArg₂ (· + ·) (blk_C m c hZ t r c') rfl

/-- The first array after the run. -/
theorem out_eq_4 : (dats m 0 c).arrAt 4 cfg0.N = fun x : S8192x1024.Idx => hh X W Z (x 0).val (x 1).val := by
  refine (dats m 0 c).arrAt_eq_of_covers 4 _ (by decide +kernel) fun t hf y => ?_
  have hk : ∀ (r c' : Fin 1024), ((outsAt0 m c t).1 : S1024x1024.Idx → EReal) (ix2 r c') = hh X W Z (1024 * t.val + r.val) c'.val := fun r c' => by
    unfold outsAt0
    dsimp only
    rw [(out_A ..).1]
    exact h_eq m c hX hW hZ t r c'
  blk_simp [ix]
  rw [after0_4]
  have he := congrArg ((outsAt0 m c t).1 : S1024x1024.Idx → EReal) (ValueIdx.eq_ix2 y)
  refine (he.trans (hk (y 0) (y 1))).trans ?_
  rw [Nat.mul_comm 1024 t.val]
end

section
include hX hW hZ hG
/-- The second array after the run. -/
theorem out_eq_5 : (dats m 0 c).arrAt 5 cfg0.N = fun x : S8192x1024.Idx => Rms.fwd (hh X W Z) G (x 0).val (x 1).val := by
  refine (dats m 0 c).arrAt_eq_of_covers 5 _ (by decide +kernel) fun t hf y => ?_
  have hk : ∀ (r c' : Fin 1024), ((outsAt0 m c t).2 : S1024x1024.Idx → EReal) (ix2 r c') = Rms.fwd (hh X W Z) G (1024 * t.val + r.val) c'.val := fun r c' => by
    unfold outsAt0
    dsimp only
    rw [(out_A ..).2, pay4_apply]
    exact Rms.fwd_fin (fun k => (k0_pay3 (F := Ideal) (k0_pay2 (F := Ideal) (k0_pay1 (F := Ideal)) (iblk m c 0 t) (iblk m c 1 t)) (iblk m c 2 t)) (ix2 r k)) (fun k => bD m c t (ix2 0 k))
      (fun k => h_eq m c hX hW hZ t r k) (fun k => blk_G m c hG t k) c'
  blk_simp [ix]
  rw [after0_5]
  have he := congrArg ((outsAt0 m c t).2 : S1024x1024.Idx → EReal) (ValueIdx.eq_ix2 y)
  refine (he.trans (hk (y 0) (y 1))).trans ?_
  rw [Nat.mul_comm 1024 t.val]
end

end Cert.OutProjIdeal.MM

namespace Cert.OutProjRefIdeal.MM

open Cert.OutProjRefIdeal Cert.OutProjRefIdeal.Gen

/-- The reference's product at an entry. -/
theorem prod_val {X : ℕ → ℕ → EReal} {W : ℕ → ℕ → EReal} (A : FVec Ideal S8192x1024 .bf16) (B : FVec Ideal S1024x1024 .bf16)
    (hX : ∀ x, A x = X (x 0).val (x 1).val) (hW : ∀ x, B x = W (x 0).val (x 1).val) (i : S8192x1024.Idx) :
    Host.dotGeneral dot_S8192x1024_S1024x1024_S8192x1024_1_0_0_1_n_n none (extf .f32 A bitsLt_bf16_f32) (extf .f32 B bitsLt_bf16_f32) i
      = OutProjIdeal.MM.P X W (i 0).val (i 1).val := by
  unfold OutProjIdeal.MM.P
  rw [ValueIdx.eq_ix2 i]
  pointwise
  refine Eq.trans ?_ (MM.sum_fin 1024 _)
  refine sum_congr rfl fun k _ => ?_
  rw [hX, hW]
  rfl

/-- The reference's first result at an entry. -/
theorem h_val {X Z : ℕ → ℕ → EReal} {W : ℕ → ℕ → EReal} (D C : FVec Ideal S8192x1024 .f32)
    (hD : ∀ x, D x = OutProjIdeal.MM.P X W (x 0).val (x 1).val) (hZ : ∀ x, C x = Z (x 0).val (x 1).val) (i : S8192x1024.Idx) :
    addf C D i = OutProjIdeal.MM.hh X W Z (i 0).val (i 1).val := by
  have h1 := hD (ix2 (i 0) (i 1))
  have h2 := hZ (ix2 (i 0) (i 1))
  rw [ValueIdx.eq_ix2 i]
  pointwise
  exact congrArg₂ (· + ·) h2 h1

end Cert.OutProjRefIdeal.MM

namespace Cert.Proof

open Cert.OutProjIdeal

theorem OutProj_defs {F : FTy → Type} [FloatOps F] : (OutProj.defs (F := F)) = OutProjIdeal.defs (F := F) :=
  congrArg (Pipeline.defs (OutProjIdeal.pcfgs (F := F))) (show OutProj.defs₀ (F := F) = OutProjIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_OutProjIdeal : Cert.quiescent_OutProjIdeal := fun m ρ _ => OutProjIdeal.Gen.frame (F := Ideal) m ρ

theorem frame_OutProj : Cert.quiescent_OutProj := fun m ρ _ =>
  OutProj_defs (F := Bits) ▸ (θ_run (OutProjIdeal.defs (F := Bits)) _ _).mono (fun _ h => h) (OutProjIdeal.Gen.frame (F := Bits) m ρ)

theorem frame_OutProjRefIdeal : Cert.quiescent_OutProjRefIdeal := fun m ρ _ =>
  (θ_run (OutProjRefIdeal.defs (F := Ideal)) _ _).mono (fun _ h => ⟨fun c => (h c).2.2, funext fun a => nomatch a⟩)
    (OutProjRefIdeal.Value.run (F := Ideal) m ρ)

/-- The idealized kernel and its reference end with the same sum and the same norm. -/
theorem algebraic_OutProj : Cert.algebraic_OutProjIdeal_OutProjRefIdeal := fun m g m' g' _ hargs => by
  have hX := fun c : Dev nD => at2_eq (m ((c.tc : Thread nD τ).loc main_arg0) : S8192x1024.Idx → EReal)
  have hW := fun c : Dev nD => at2_eq (m ((c.tc : Thread nD τ).loc main_arg1) : S1024x1024.Idx → EReal)
  have hZ := fun c : Dev nD => at2_eq (m ((c.tc : Thread nD τ).loc main_arg2) : S8192x1024.Idx → EReal)
  have hG := fun c : Dev nD => at1_eq (m ((c.tc : Thread nD τ).loc main_arg3) : S1024.Idx → EReal)
  have kX := fun (c : Dev nD) x => (congrFun (OutProjIdeal.Gen.V_main_arg0 m c) x).trans (hX c x)
  have kW := fun (c : Dev nD) x => (congrFun (OutProjIdeal.Gen.V_main_arg1 m c) x).trans (hW c x)
  have kZ := fun (c : Dev nD) x => (congrFun (OutProjIdeal.Gen.V_main_arg2 m c) x).trans (hZ c x)
  have kG := fun (c : Dev nD) x => (congrFun (OutProjIdeal.Gen.V_main_arg3 m c) x).trans (hG c x)
  refine ⟨_, _, (θ_run (OutProjIdeal.defs (F := Ideal)) _ _).mono (fun r h c => ⟨(h c).1.trans (OutProjIdeal.MM.out_eq_4 m c (kX c) (kW c) (kZ c)), (h c).2.1.trans (OutProjIdeal.MM.out_eq_5 m c (kX c) (kW c) (kZ c) (kG c)), (h c).2.2⟩)
    (OutProjIdeal.Value.run_blocks (F := Ideal) m g), ?_⟩
  refine (θ_run (OutProjRefIdeal.defs (F := Ideal)) _ _).mono (fun r h c => ⟨(h c).1.trans ?_, (h c).2.1.trans ?_, (h c).2.2⟩)
    (OutProjRefIdeal.Value.run (F := Ideal) m' g')
  · rw [(hargs c).1, (hargs c).2.1, (hargs c).2.2.1]
    exact funext fun x => OutProjRefIdeal.MM.h_val _ _ (OutProjRefIdeal.MM.prod_val _ _ (hX c) (hW c)) (hZ c) x
  · rw [(hargs c).1, (hargs c).2.1, (hargs c).2.2.1, (hargs c).2.2.2]
    exact funext fun x => NormRef.norm_val (Y := OutProjIdeal.MM.hh _ _ _) _ _ (OutProjRefIdeal.MM.h_val _ _ (OutProjRefIdeal.MM.prod_val _ _ (hX c) (hW c)) (hZ c)) (hG c) x

end Cert.Proof

namespace Cert.PwProjIdeal.MM

open Cert.PwProjIdeal Cert.PwProjIdeal.Gen

section
variable {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .bf16) (h9 : a9.IsWhole) (a10 : Memref sig .tc .vmem S1024x1024 .f32) (h10 : a10.IsWhole)
  (x0 : Vec F S1024x1024 .bf16) (x1 : Vec F S1024x1024 .bf16) (x2 : Vec F S1024x1024 .f32) (x3 : Vec F S1x1024 .f32) (x4 : Vec F S1x1024 .f32) (xs : Vec F S1024x1024 .f32)

set_option maxHeartbeats 1600000 in
/-- What a block's last point writes out. -/
theorem out_A (hc0 : cond0_0 i) (hc1 : cond0_1 i) :
    out0_A_5 c i a3 h3 a4 h4 a5 h5 a6 h6 a7 h7 a8 h8 a9 h9 a10 h10 hc0 hc1 x0 x1 x2 x3 x4 = k0_pay3 (k0_pay2 k0_pay1 x0 x1) x2 x3 ∧
    out0_A_6 c i a3 h3 a4 h4 a5 h5 a6 h6 a7 h7 a8 h8 a9 h9 a10 h10 hc0 hc1 x0 x1 x2 x3 x4 = k0_pay4 (k0_pay2 k0_pay1 x0 x1) x2 x3 x4 := by
  unfold out0_A_5 out0_A_6
  rw [View.read_writes_eq_canon _ _ _ (fun _ => cover0_A_5 ..), View.read_writes_eq_canon _ _ _ (fun _ => cover0_A_6 ..)]
  unfold kernelRun0_A
  dsimp only
  sl_unfold_words
  simp only [View.canon_unit_zero (S := S1024x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread,
    View.ld_unit_zero (S := S1024x1024) MM.hz, View.ld_unit_zero (S := S1x1024) MM.hz, and_self]

end

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1024x1024 .bf16) (r c : Fin 1024) :
    (k0_pay2 (F := Ideal) xs x0 x1) (ix2 r c) = xs (ix2 r c) + ∑ k : Fin 1024, x0 (ix2 r k) * x1 (ix2 k c) := by
  pointwise [k0_pay2]

theorem pay3_apply (v : Vec Ideal S1024x1024 .f32) (x2 : Vec Ideal S1024x1024 .f32) (x3 : Vec Ideal S1x1024 .f32) (r c : Fin 1024) :
    (k0_pay3 (F := Ideal) v x2 x3) (ix2 r c) = x2 (ix2 r c) + (v (ix2 r c) + x3 (ix2 0 c)) := by
  pointwise [k0_pay3]

theorem pay4_apply (v : Vec Ideal S1024x1024 .f32) (x2 : Vec Ideal S1024x1024 .f32) (x3 : Vec Ideal S1x1024 .f32) (x4 : Vec Ideal S1x1024 .f32) (r c : Fin 1024) :
    (k0_pay4 (F := Ideal) v x2 x3 x4) (ix2 r c)
      = (k0_pay3 (F := Ideal) v x2 x3) (ix2 r c) * Ideal.rsqrt (Rms.un fun k => (k0_pay3 (F := Ideal) v x2 x3) (ix2 r k)) * x4 (ix2 0 c) := by
  unfold k0_pay4
  generalize k0_pay3 (F := Ideal) v x2 x3 = H
  pointwise

theorem ix : ∀ t : Fin cfg0.N, win0_0.index t = ![(t.val : ℕ), 0] ∧ win0_1.index t = ![0, 0] ∧ win0_2.index t = ![(t.val : ℕ), 0] ∧ win0_3.index t = ![0, 0] ∧ win0_4.index t = ![0, 0] ∧ win0_5.index t = ![(t.val : ℕ), 0] ∧ win0_6.index t = ![(t.val : ℕ), 0] := (by decide +kernel : ∀ t : Fin grid0.N, _)

variable (m : (ℓ : Loc nD τ sig) → Buf (Elt Ideal) ℓ) (c : Dev nD) {X Z : ℕ → ℕ → EReal} {W : ℕ → ℕ → EReal} {G B : ℕ → EReal}
  (hX : ∀ x : S8192x1024.Idx, (V m c main_arg0 : S8192x1024.Idx → EReal) x = X (x 0).val (x 1).val)
  (hW : ∀ x : S1024x1024.Idx, (V m c main_arg1 : S1024x1024.Idx → EReal) x = W (x 0).val (x 1).val)
  (hZ : ∀ x : S8192x1024.Idx, (V m c main_arg2 : S8192x1024.Idx → EReal) x = Z (x 0).val (x 1).val)
  (hB : ∀ x : S1024.Idx, (V m c main_arg3 : S1024.Idx → EReal) x = B (x 0).val)
  (hG : ∀ x : S1024.Idx, (V m c main_arg4 : S1024.Idx → EReal) x = G (x 0).val)

/-- The blocks of one point, as arrays of extended reals. -/
abbrev bA (t : Fin cfg0.N) : S1024x1024.Idx → EReal := iblk m c 0 t
abbrev bB (t : Fin cfg0.N) : S1024x1024.Idx → EReal := iblk m c 1 t
abbrev bC (t : Fin cfg0.N) : S1024x1024.Idx → EReal := iblk m c 2 t
abbrev bD (t : Fin cfg0.N) : S1x1024.Idx → EReal := iblk m c 3 t
abbrev bE (t : Fin cfg0.N) : S1x1024.Idx → EReal := iblk m c 4 t

section
include hX
theorem blk_A (t : Fin cfg0.N) (r k : Fin 1024) : bA m c t (ix2 r k) = X (1024 * t.val + r.val) k.val := by
  show (V m c main_arg0 : S8192x1024.Idx → EReal) (((cfg0.win 0).blk t).view.emb (ix2 r k)) = _
  rw [hX]
  blk_simp [ix]
  congr 1 <;> omega
end

section
include hW
theorem blk_B (t : Fin cfg0.N) (k c' : Fin 1024) : bB m c t (ix2 k c') = W k.val c'.val := by
  show (V m c main_arg1 : S1024x1024.Idx → EReal) (((cfg0.win 1).blk t).view.emb (ix2 k c')) = _
  rw [hW]
  blk_simp [ix]
end

section
include hZ
theorem blk_C (t : Fin cfg0.N) (r k : Fin 1024) : bC m c t (ix2 r k) = Z (1024 * t.val + r.val) k.val := by
  show (V m c main_arg2 : S8192x1024.Idx → EReal) (((cfg0.win 2).blk t).view.emb (ix2 r k)) = _
  rw [hZ]
  blk_simp [ix]
  congr 1 <;> omega
end

/-- The row as the host hands it over: a matrix of one row. -/
theorem V_row0 : V m c main_v0 = (shapeCast S1x1024 (m ((c : Thread nD τ).loc main_arg3) : FVec Ideal S1024 .f32) shapeCasts_S1024_S1x1024 : FVec Ideal S1x1024 .f32) := by
  unfold_abbrev_sides
  after_results
  rfl

section
include hB
theorem row_val0 (x : S1x1024.Idx) : (V m c main_v0 : S1x1024.Idx → EReal) x = B (x 1).val := by
  have h := hB (ix1 (x 1))
  rw [V_main_arg3] at h
  rw [V_row0, ValueIdx.eq_ix2 x]
  pointwise
  exact h

theorem blk_D (t : Fin cfg0.N) (c' : Fin 1024) : bD m c t (ix2 0 c') = B c'.val := by
  show (V m c main_v0 : S1x1024.Idx → EReal) (((cfg0.win 3).blk t).view.emb (ix2 0 c')) = _
  rw [row_val0 m c hB]
  blk_simp [ix]
end

/-- The row as the host hands it over: a matrix of one row. -/
theorem V_row1 : V m c main_v1 = (shapeCast S1x1024 (m ((c : Thread nD τ).loc main_arg4) : FVec Ideal S1024 .f32) shapeCasts_S1024_S1x1024 : FVec Ideal S1x1024 .f32) := by
  unfold_abbrev_sides
  after_results
  rfl

section
include hG
theorem row_val1 (x : S1x1024.Idx) : (V m c main_v1 : S1x1024.Idx → EReal) x = G (x 1).val := by
  have h := hG (ix1 (x 1))
  rw [V_main_arg4] at h
  rw [V_row1, ValueIdx.eq_ix2 x]
  pointwise
  exact h

theorem blk_G (t : Fin cfg0.N) (c' : Fin 1024) : bE m c t (ix2 0 c') = G c'.val := by
  show (V m c main_v1 : S1x1024.Idx → EReal) (((cfg0.win 4).blk t).view.emb (ix2 0 c')) = _
  rw [row_val1 m c hG]
  blk_simp [ix]
end

/-- The product at an entry. -/
def P (X W : ℕ → ℕ → EReal) (r n : ℕ) : EReal := ∑ k ∈ range 1024, X r k * W k n

section
include hX hW
/-- The product that the last point of a block has. -/
theorem du_eq (t : Fin cfg0.N) (r c' : Fin 1024) :
    (k0_pay2 (F := Ideal) (k0_pay1 (F := Ideal)) (iblk m c 0 t) (iblk m c 1 t)) (ix2 r c') = P X W (1024 * t.val + r.val) c'.val := by
  rw [pay2_apply, pay1_apply, zero_add]
  unfold P
  refine Eq.trans ?_ (MM.sum_fin 1024 fun k => X (1024 * t.val + r.val) k * W k c'.val)
  exact sum_congr rfl fun k _ => congrArg₂ (· * ·) (blk_A m c hX t r k) (blk_B m c hW t k c')
end

/-- The residual and the product at an entry. -/
def hh (X : ℕ → ℕ → EReal) (W : ℕ → ℕ → EReal) (Z : ℕ → ℕ → EReal) (B : ℕ → EReal) (r n : ℕ) : EReal := Z r n + (P X W r n + B n)

section
include hX hW hZ hB
theorem h_eq (t : Fin cfg0.N) (r c' : Fin 1024) :
    (k0_pay3 (F := Ideal) (k0_pay2 (F := Ideal) (k0_pay1 (F := Ideal)) (iblk m c 0 t) (iblk m c 1 t)) (iblk m c 2 t) (iblk m c 3 t)) (ix2 r c') = hh X W Z B (1024 * t.val + r.val) c'.val := by
  rw [pay3_apply, du_eq m c hX hW t r c']
  exact congrArg₂ (· + ·) (blk_C m c hZ t r c') (congrArg₂ (· + ·) rfl (blk_D m c hB t c'))

/-- The first array after the run. -/
theorem out_eq_5 : (dats m 0 c).arrAt 5 cfg0.N = fun x : S8192x1024.Idx => hh X W Z B (x 0).val (x 1).val := by
  refine (dats m 0 c).arrAt_eq_of_covers 5 _ (by decide +kernel) fun t hf y => ?_
  have hk : ∀ (r c' : Fin 1024), ((outsAt0 m c t).1 : S1024x1024.Idx → EReal) (ix2 r c') = hh X W Z B (1024 * t.val + r.val) c'.val := fun r c' => by
    unfold outsAt0
    dsimp only
    rw [(out_A ..).1]
    exact h_eq m c hX hW hZ hB t r c'
  blk_simp [ix]
  rw [after0_5]
  have he := congrArg ((outsAt0 m c t).1 : S1024x1024.Idx → EReal) (ValueIdx.eq_ix2 y)
  refine (he.trans (hk (y 0) (y 1))).trans ?_
  rw [Nat.mul_comm 1024 t.val]
end

section
include hX hW hZ hB hG
/-- The second array after the run. -/
theorem out_eq_6 : (dats m 0 c).arrAt 6 cfg0.N = fun x : S8192x1024.Idx => Rms.fwd (hh X W Z B) G (x 0).val (x 1).val := by
  refine (dats m 0 c).arrAt_eq_of_covers 6 _ (by decide +kernel) fun t hf y => ?_
  have hk : ∀ (r c' : Fin 1024), ((outsAt0 m c t).2 : S1024x1024.Idx → EReal) (ix2 r c') = Rms.fwd (hh X W Z B) G (1024 * t.val + r.val) c'.val := fun r c' => by
    unfold outsAt0
    dsimp only
    rw [(out_A ..).2, pay4_apply]
    exact Rms.fwd_fin (fun k => (k0_pay3 (F := Ideal) (k0_pay2 (F := Ideal) (k0_pay1 (F := Ideal)) (iblk m c 0 t) (iblk m c 1 t)) (iblk m c 2 t) (iblk m c 3 t)) (ix2 r k)) (fun k => bE m c t (ix2 0 k))
      (fun k => h_eq m c hX hW hZ hB t r k) (fun k => blk_G m c hG t k) c'
  blk_simp [ix]
  rw [after0_6]
  have he := congrArg ((outsAt0 m c t).2 : S1024x1024.Idx → EReal) (ValueIdx.eq_ix2 y)
  refine (he.trans (hk (y 0) (y 1))).trans ?_
  rw [Nat.mul_comm 1024 t.val]
end

end Cert.PwProjIdeal.MM

namespace Cert.PwProjRefIdeal.MM

open Cert.PwProjRefIdeal Cert.PwProjRefIdeal.Gen

/-- The reference's product at an entry. -/
theorem prod_val {X : ℕ → ℕ → EReal} {W : ℕ → ℕ → EReal} (A : FVec Ideal S8192x1024 .bf16) (B : FVec Ideal S1024x1024 .bf16)
    (hX : ∀ x, A x = X (x 0).val (x 1).val) (hW : ∀ x, B x = W (x 0).val (x 1).val) (i : S8192x1024.Idx) :
    Host.dotGeneral dot_S8192x1024_S1024x1024_S8192x1024_1_0_0_1_n_n none (extf .f32 A bitsLt_bf16_f32) (extf .f32 B bitsLt_bf16_f32) i
      = PwProjIdeal.MM.P X W (i 0).val (i 1).val := by
  unfold PwProjIdeal.MM.P
  rw [ValueIdx.eq_ix2 i]
  pointwise
  refine Eq.trans ?_ (MM.sum_fin 1024 _)
  refine sum_congr rfl fun k _ => ?_
  rw [hX, hW]
  rfl

/-- The reference's first result at an entry. -/
theorem h_val {X Z : ℕ → ℕ → EReal} {W : ℕ → ℕ → EReal} {B : ℕ → EReal} (D C : FVec Ideal S8192x1024 .f32) (b : FVec Ideal S1024 .f32)
    (hD : ∀ x, D x = PwProjIdeal.MM.P X W (x 0).val (x 1).val) (hZ : ∀ x, C x = Z (x 0).val (x 1).val) (hB : ∀ x, b x = B (x 0).val) (i : S8192x1024.Idx) :
    addf C (addf D (broadcastInDim S8192x1024 ![0, 1] bcast_S1x1024_S8192x1024_0_1 (broadcastInDim S1x1024 ![1] bcast_S1024_S1x1024_1 b))) i = PwProjIdeal.MM.hh X W Z B (i 0).val (i 1).val := by
  have h1 := hD (ix2 (i 0) (i 1))
  have h2 := hZ (ix2 (i 0) (i 1))
  have h3 := hB (ix1 (i 1))
  rw [ValueIdx.eq_ix2 i]
  pointwise
  exact congrArg₂ (· + ·) h2 (congrArg₂ (· + ·) h1 h3)

end Cert.PwProjRefIdeal.MM

namespace Cert.Proof

open Cert.PwProjIdeal

theorem PwProj_defs {F : FTy → Type} [FloatOps F] : (PwProj.defs (F := F)) = PwProjIdeal.defs (F := F) :=
  congrArg (Pipeline.defs (PwProjIdeal.pcfgs (F := F))) (show PwProj.defs₀ (F := F) = PwProjIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_PwProjIdeal : Cert.quiescent_PwProjIdeal := fun m ρ _ => PwProjIdeal.Gen.frame (F := Ideal) m ρ

theorem frame_PwProj : Cert.quiescent_PwProj := fun m ρ _ =>
  PwProj_defs (F := Bits) ▸ (θ_run (PwProjIdeal.defs (F := Bits)) _ _).mono (fun _ h => h) (PwProjIdeal.Gen.frame (F := Bits) m ρ)

theorem frame_PwProjRefIdeal : Cert.quiescent_PwProjRefIdeal := fun m ρ _ =>
  (θ_run (PwProjRefIdeal.defs (F := Ideal)) _ _).mono (fun _ h => ⟨fun c => (h c).2.2, funext fun a => nomatch a⟩)
    (PwProjRefIdeal.Value.run (F := Ideal) m ρ)

/-- The idealized kernel and its reference end with the same sum and the same norm. -/
theorem algebraic_PwProj : Cert.algebraic_PwProjIdeal_PwProjRefIdeal := fun m g m' g' _ hargs => by
  have hX := fun c : Dev nD => at2_eq (m ((c.tc : Thread nD τ).loc main_arg0) : S8192x1024.Idx → EReal)
  have hW := fun c : Dev nD => at2_eq (m ((c.tc : Thread nD τ).loc main_arg1) : S1024x1024.Idx → EReal)
  have hZ := fun c : Dev nD => at2_eq (m ((c.tc : Thread nD τ).loc main_arg2) : S8192x1024.Idx → EReal)
  have hB := fun c : Dev nD => at1_eq (m ((c.tc : Thread nD τ).loc main_arg3) : S1024.Idx → EReal)
  have hG := fun c : Dev nD => at1_eq (m ((c.tc : Thread nD τ).loc main_arg4) : S1024.Idx → EReal)
  have kX := fun (c : Dev nD) x => (congrFun (PwProjIdeal.Gen.V_main_arg0 m c) x).trans (hX c x)
  have kW := fun (c : Dev nD) x => (congrFun (PwProjIdeal.Gen.V_main_arg1 m c) x).trans (hW c x)
  have kZ := fun (c : Dev nD) x => (congrFun (PwProjIdeal.Gen.V_main_arg2 m c) x).trans (hZ c x)
  have kB := fun (c : Dev nD) x => (congrFun (PwProjIdeal.Gen.V_main_arg3 m c) x).trans (hB c x)
  have kG := fun (c : Dev nD) x => (congrFun (PwProjIdeal.Gen.V_main_arg4 m c) x).trans (hG c x)
  refine ⟨_, _, (θ_run (PwProjIdeal.defs (F := Ideal)) _ _).mono (fun r h c => ⟨(h c).1.trans (PwProjIdeal.MM.out_eq_5 m c (kX c) (kW c) (kZ c) (kB c)), (h c).2.1.trans (PwProjIdeal.MM.out_eq_6 m c (kX c) (kW c) (kZ c) (kB c) (kG c)), (h c).2.2⟩)
    (PwProjIdeal.Value.run_blocks (F := Ideal) m g), ?_⟩
  refine (θ_run (PwProjRefIdeal.defs (F := Ideal)) _ _).mono (fun r h c => ⟨(h c).1.trans ?_, (h c).2.1.trans ?_, (h c).2.2⟩)
    (PwProjRefIdeal.Value.run (F := Ideal) m' g')
  · rw [(hargs c).1, (hargs c).2.1, (hargs c).2.2.1, (hargs c).2.2.2.1]
    exact funext fun x => PwProjRefIdeal.MM.h_val _ _ _ (PwProjRefIdeal.MM.prod_val _ _ (hX c) (hW c)) (hZ c) (hB c) x
  · rw [(hargs c).1, (hargs c).2.1, (hargs c).2.2.1, (hargs c).2.2.2.1, (hargs c).2.2.2.2]
    exact funext fun x => NormRef.norm_val (Y := PwProjIdeal.MM.hh _ _ _ _) _ _ (PwProjRefIdeal.MM.h_val _ _ _ (PwProjRefIdeal.MM.prod_val _ _ (hX c) (hW c)) (hZ c) (hB c)) (hG c) x

end Cert.Proof

namespace Cert.NormIdeal.MM

open Cert.NormIdeal Cert.NormIdeal.Gen

theorem pay1_apply (v : Vec Ideal S512x1024 .f32) (w : Vec Ideal S1x1024 .f32) (r : Fin 512) (c : Fin 1024) :
    (k0_pay1 (F := Ideal) v w) (ix2 r c) = v (ix2 r c) * Ideal.rsqrt (Rms.un fun k => v (ix2 r k)) * w (ix2 0 c) := by
  pointwise [k0_pay1]

theorem ix : ∀ t : Fin cfg0.N, win0_0.index t = ![(t.val : ℕ), 0] ∧ win0_1.index t = ![0, 0] ∧ win0_2.index t = ![(t.val : ℕ), 0] := (by decide +kernel : ∀ t : Fin grid0.N, _)

variable (m : (ℓ : Loc nD τ sig) → Buf (Elt Ideal) ℓ) (c : Dev nD) {X : ℕ → ℕ → EReal} {G : ℕ → EReal}
  (hX : ∀ x : S8192x1024.Idx, (V m c main_arg0 : S8192x1024.Idx → EReal) x = X (x 0).val (x 1).val)
  (hG : ∀ x : S1024.Idx, (V m c main_arg1 : S1024.Idx → EReal) x = G (x 0).val)

/-- The blocks of one point, as arrays of extended reals. -/
abbrev bA (t : Fin cfg0.N) : S512x1024.Idx → EReal := iblk m c 0 t
abbrev bE (t : Fin cfg0.N) : S1x1024.Idx → EReal := iblk m c 1 t

section
include hX
theorem blk_A (t : Fin cfg0.N) (r : Fin 512) (k : Fin 1024) : bA m c t (ix2 r k) = X (512 * t.val + r.val) k.val := by
  show (V m c main_arg0 : S8192x1024.Idx → EReal) (((cfg0.win 0).blk t).view.emb (ix2 r k)) = _
  rw [hX]
  blk_simp [ix]
  congr 1 <;> omega
end

/-- The row as the host hands it over: a matrix of one row. -/
theorem V_row0 : V m c main_v0 = (shapeCast S1x1024 (m ((c : Thread nD τ).loc main_arg1) : FVec Ideal S1024 .f32) shapeCasts_S1024_S1x1024 : FVec Ideal S1x1024 .f32) := by
  unfold_abbrev_sides
  after_results
  rfl

section
include hG
theorem row_val0 (x : S1x1024.Idx) : (V m c main_v0 : S1x1024.Idx → EReal) x = G (x 1).val := by
  have h := hG (ix1 (x 1))
  rw [V_main_arg1] at h
  rw [V_row0, ValueIdx.eq_ix2 x]
  pointwise
  exact h

theorem blk_G (t : Fin cfg0.N) (c' : Fin 1024) : bE m c t (ix2 0 c') = G c'.val := by
  show (V m c main_v0 : S1x1024.Idx → EReal) (((cfg0.win 1).blk t).view.emb (ix2 0 c')) = _
  rw [row_val0 m c hG]
  blk_simp [ix]
end

section
include hX hG
/-- The array after the run. -/
theorem out_eq_2 : (dats m 0 c).arrAt 2 cfg0.N = fun x : S8192x1024.Idx => Rms.fwd X G (x 0).val (x 1).val := by
  refine (dats m 0 c).arrAt_eq_of_covers 2 _ (by decide +kernel) fun t hf y => ?_
  have hk : ∀ (r : Fin 512) (c' : Fin 1024), (out0_2 (iblk m c 0 t) (iblk m c 1 t) : S512x1024.Idx → EReal) (ix2 r c') = Rms.fwd X G (512 * t.val + r.val) c'.val := fun r c' => by
    unfold out0_2
    rw [View.canon_unit_zero (S := S512x1024) MM.hz, View.ld_unit_zero (S := S512x1024) MM.hz, View.ld_unit_zero (S := S1x1024) MM.hz, pay1_apply]
    exact Rms.fwd_fin (fun k => bA m c t (ix2 r k)) (fun k => bE m c t (ix2 0 k)) (fun k => blk_A m c hX t r k) (fun k => blk_G m c hG t k) c'
  blk_simp [ix]
  rw [after0_2]
  have he := congrArg (out0_2 (iblk m c 0 t) (iblk m c 1 t) : S512x1024.Idx → EReal) (ValueIdx.eq_ix2 y)
  refine (he.trans (hk (y 0) (y 1))).trans ?_
  rw [Nat.mul_comm 512 t.val]
end

end Cert.NormIdeal.MM

namespace Cert.Proof

open Cert.NormIdeal

theorem Norm_defs {F : FTy → Type} [FloatOps F] : (Norm.defs (F := F)) = NormIdeal.defs (F := F) :=
  congrArg (Pipeline.defs (NormIdeal.pcfgs (F := F))) (show Norm.defs₀ (F := F) = NormIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_NormIdeal : Cert.quiescent_NormIdeal := fun m ρ _ => NormIdeal.Gen.frame (F := Ideal) m ρ

theorem frame_Norm : Cert.quiescent_Norm := fun m ρ _ =>
  Norm_defs (F := Bits) ▸ (θ_run (NormIdeal.defs (F := Bits)) _ _).mono (fun _ h => h) (NormIdeal.Gen.frame (F := Bits) m ρ)

theorem frame_NormRefIdeal : Cert.quiescent_NormRefIdeal := fun m ρ _ =>
  (θ_run (NormRefIdeal.defs (F := Ideal)) _ _).mono (fun _ h => ⟨fun c => (h c).2, funext fun a => nomatch a⟩)
    (NormRefIdeal.Value.run (F := Ideal) m ρ)

/-- The idealized kernel and its reference end with the same norm. -/
theorem algebraic_Norm : Cert.algebraic_NormIdeal_NormRefIdeal := fun m g m' g' _ hargs => by
  have hX := fun c : Dev nD => at2_eq (m ((c.tc : Thread nD τ).loc main_arg0) : S8192x1024.Idx → EReal)
  have hG := fun c : Dev nD => at1_eq (m ((c.tc : Thread nD τ).loc main_arg1) : S1024.Idx → EReal)
  have kX := fun (c : Dev nD) x => (congrFun (NormIdeal.Gen.V_main_arg0 m c) x).trans (hX c x)
  have kG := fun (c : Dev nD) x => (congrFun (NormIdeal.Gen.V_main_arg1 m c) x).trans (hG c x)
  refine ⟨_, (θ_run (NormIdeal.defs (F := Ideal)) _ _).mono (fun r h c => ⟨(h c).1.trans (NormIdeal.MM.out_eq_2 m c (kX c) (kG c)), (h c).2⟩)
    (NormIdeal.Value.run_blocks (F := Ideal) m g), ?_⟩
  refine (θ_run (NormRefIdeal.defs (F := Ideal)) _ _).mono (fun r h c => ⟨(h c).1.trans ?_, (h c).2⟩)
    (NormRefIdeal.Value.run (F := Ideal) m' g')
  · rw [(hargs c).1, (hargs c).2]
    exact funext fun x => NormRef.norm_val _ _ (hX c) (hG c) x

end Cert.Proof
-- ==== Proof.DownNFin.lean ====
module

public import proofs.«01_k».proof.Proof.Gen.DownNIdeal.Value
public import proofs.«01_k».proof.Proof.Gen.DownNRefIdeal.Run
public import proofs.«01_k».proof.Proof.Rms
public import Idealize.ShloMosaic.Lib.Pipeline.ValueKit
public import proofs.«01_k».proof.Defs
public import proofs.«01_k».proof.Proof.Gen.DownN
public import proofs.«01_k».proof.Proof.NormRef

/-! The second product of the MLP, the residual and the norm: the tiled program's value, and the reference's. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at1_eq at2_eq at3_eq at4_eq)

namespace Cert.DownNIdeal.MM

open Cert.DownNIdeal Cert.DownNIdeal.Gen

section
variable {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
  (x0 : Vec F S1024x1024 .bf16) (x1 : Vec F S1x1x1024x1024 .bf16) (x2 : Vec F S1024x1024 .f32) (x3 : Vec F S1x1024 .f32) (xs : Vec F S1024x1024 .f32)

/-- The first point of a block leaves the block's first product, added to zero. -/
theorem scr_A (hc0 : cond0_0 i) (hc1 : ¬cond0_1 i) :
    sout0_A_0 c i a3 h3 a4 h4 a5 h5 a6 h6 a7 h7 a8 h8 a9 h9 hc0 hc1 x0 x1 x2 x3 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, h5.read_unread, h6.read_unread, h9.read_unread, View.ld_unit_zero (S := S1024x1024) MM.hz, View.ld_unit_zero (S := S1x1x1024x1024) MM.hz4, View.ld_unit_zero (S := S1x1024) MM.hz]

/-- A middle point adds its product to what the scratch holds. -/
theorem scr_B (hc0 : ¬cond0_0 i) (hc1 : ¬cond0_1 i) :
    sout0_B_0 c i a3 h3 a4 h4 a5 h5 a6 h6 a7 h7 a8 h8 a9 h9 hc0 hc1 x0 x1 x2 x3 xs = k0_pay2 xs x0 x1 := by
  unfold sout0_B_0
  rw [View.read_writes_eq_canon _ _ _ (fun _ => scover0_B_0 ..)]
  unfold kernelRun0_B
  dsimp only
  rw [View.canon_unit_zero (S := S1024x1024) MM.hz]
  simp only [View.readAt_eq_ld, h3.read_unread, h4.read_unread, h5.read_unread, h6.read_unread, h9.read_unread, View.ld_unit_zero (S := S1024x1024) MM.hz, View.ld_unit_zero (S := S1x1x1024x1024) MM.hz4, View.ld_unit_zero (S := S1x1024) MM.hz]

set_option maxHeartbeats 1600000 in
/-- What a block's last point writes out. -/
theorem out_C (hc0 : ¬cond0_0 i) (hc1 : cond0_1 i) :
    out0_C_4 c i a3 h3 a4 h4 a5 h5 a6 h6 a7 h7 a8 h8 a9 h9 hc0 hc1 x0 x1 x2 x3 xs = k0_pay3 (k0_pay2 xs x0 x1) x2 ∧
    out0_C_5 c i a3 h3 a4 h4 a5 h5 a6 h6 a7 h7 a8 h8 a9 h9 hc0 hc1 x0 x1 x2 x3 xs = k0_pay4 (k0_pay2 xs x0 x1) x2 x3 := by
  unfold out0_C_4 out0_C_5
  rw [View.read_writes_eq_canon _ _ _ (fun _ => cover0_C_4 ..), View.read_writes_eq_canon _ _ _ (fun _ => cover0_C_5 ..)]
  unfold kernelRun0_C
  dsimp only
  sl_unfold_words
  simp only [View.canon_unit_zero (S := S1024x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h9.read_unread,
    View.ld_unit_zero (S := S1024x1024) MM.hz, View.ld_unit_zero (S := S1x1x1024x1024) MM.hz4, View.ld_unit_zero (S := S1x1024) MM.hz, and_self]

end

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 k c) := by
  pointwise [k0_pay2]

theorem pay3_apply (v : Vec Ideal S1024x1024 .f32) (x2 : Vec Ideal S1024x1024 .f32) (r c : Fin 1024) :
    (k0_pay3 (F := Ideal) v x2) (ix2 r c) = x2 (ix2 r c) + v (ix2 r c) := by
  pointwise [k0_pay3]

theorem pay4_apply (v : Vec Ideal S1024x1024 .f32) (x2 : Vec Ideal S1024x1024 .f32) (x3 : Vec Ideal S1x1024 .f32) (r c : Fin 1024) :
    (k0_pay4 (F := Ideal) v x2 x3) (ix2 r c)
      = (k0_pay3 (F := Ideal) v x2) (ix2 r c) * Ideal.rsqrt (Rms.un fun k => (k0_pay3 (F := Ideal) v x2) (ix2 r k)) * x3 (ix2 0 c) := by
  unfold k0_pay4
  generalize k0_pay3 (F := Ideal) v x2 = H
  pointwise

theorem ix : ∀ t : Fin cfg0.N, win0_0.index t = ![(t.val / 4 : ℕ), t.val % 4] ∧ win0_1.index t = ![(t.val % 4 : ℕ), 0, 0, 0] ∧ win0_2.index t = ![(t.val / 4 : ℕ), 0] ∧ win0_3.index t = ![0, 0] ∧ win0_4.index t = ![(t.val / 4 : ℕ), 0] ∧ win0_5.index t = ![(t.val / 4 : ℕ), 0] := (by decide +kernel : ∀ t : Fin grid0.N, _)

variable (m : (ℓ : Loc nD τ sig) → Buf (Elt Ideal) ℓ) (c : Dev nD) {X Z : ℕ → ℕ → EReal} {W : ℕ → ℕ → ℕ → ℕ → EReal} {G : ℕ → EReal}
  (hX : ∀ x : S8192x4096.Idx, (V m c main_arg0 : S8192x4096.Idx → EReal) x = X (x 0).val (x 1).val)
  (hW : ∀ x : S4x2x1024x1024.Idx, (V m c main_arg1 : S4x2x1024x1024.Idx → EReal) x = W (x 0).val (x 1).val (x 2).val (x 3).val)
  (hZ : ∀ x : S8192x1024.Idx, (V m c main_arg2 : S8192x1024.Idx → EReal) x = Z (x 0).val (x 1).val)
  (hG : ∀ x : S1024.Idx, (V m c main_arg3 : S1024.Idx → EReal) x = G (x 0).val)

/-- The blocks of one point, as arrays of extended reals. -/
abbrev bA (t : Fin cfg0.N) : S1024x1024.Idx → EReal := iblk m c 0 t
abbrev bB (t : Fin cfg0.N) : S1x1x1024x1024.Idx → EReal := iblk m c 1 t
abbrev bC (t : Fin cfg0.N) : S1024x1024.Idx → EReal := iblk m c 2 t
abbrev bD (t : Fin cfg0.N) : S1x1024.Idx → EReal := iblk m c 3 t

section
include hX
theorem blk_A (t : Fin cfg0.N) (r k : Fin 1024) : bA m c t (ix2 r k) = X (1024 * (t.val / 4) + r.val) (1024 * (t.val % 4) + k.val) := by
  show (V m c main_arg0 : S8192x4096.Idx → EReal) (((cfg0.win 0).blk t).view.emb (ix2 r k)) = _
  rw [hX]
  blk_simp [ix]
  congr 1 <;> omega
end

section
include hW
theorem blk_B (t : Fin cfg0.N) (k c' : Fin 1024) : bB m c t (ix4 0 0 k c') = W (t.val % 4) 0 k.val c'.val := by
  show (V m c main_arg1 : S4x2x1024x1024.Idx → EReal) (((cfg0.win 1).blk t).view.emb (ix4 0 0 k c')) = _
  rw [hW]
  blk_simp [ix]
  rfl
end

section
include hZ
theorem blk_C (t : Fin cfg0.N) (r k : Fin 1024) : bC m c t (ix2 r k) = Z (1024 * (t.val / 4) + r.val) k.val := by
  show (V m c main_arg2 : S8192x1024.Idx → EReal) (((cfg0.win 2).blk t).view.emb (ix2 r k)) = _
  rw [hZ]
  blk_simp [ix]
  congr 1 <;> omega
end

/-- The row as the host hands it over: a matrix of one row. -/
theorem V_row0 : V m c main_v0 = (shapeCast S1x1024 (m ((c : Thread nD τ).loc main_arg3) : FVec Ideal S1024 .f32) shapeCasts_S1024_S1x1024 : FVec Ideal S1x1024 .f32) := by
  unfold_abbrev_sides
  after_results
  rfl

section
include hG
theorem row_val0 (x : S1x1024.Idx) : (V m c main_v0 : S1x1024.Idx → EReal) x = G (x 1).val := by
  have h := hG (ix1 (x 1))
  rw [V_main_arg3] at h
  rw [V_row0, ValueIdx.eq_ix2 x]
  pointwise
  exact h

theorem blk_G (t : Fin cfg0.N) (c' : Fin 1024) : bD m c t (ix2 0 c') = G c'.val := by
  show (V m c main_v0 : S1x1024.Idx → EReal) (((cfg0.win 3).blk t).view.emb (ix2 0 c')) = _
  rw [row_val0 m c hG]
  blk_simp [ix]
end

/-- One summand of the product. -/
def term (X : ℕ → ℕ → EReal) (W : ℕ → ℕ → ℕ → ℕ → EReal) (r n k : ℕ) : EReal := X r k * W (k / 1024) 0 (k % 1024) n

/-- The product at an entry. -/
def P (X : ℕ → ℕ → EReal) (W : ℕ → ℕ → ℕ → ℕ → EReal) (r n : ℕ) : EReal := ∑ k ∈ range 4096, term X W r n k

section
include hX hW

/-- One point's product at an entry. -/
theorem step (t : Fin cfg0.N) (r c' : Fin 1024) :
    ∑ k : Fin 1024, bA m c t (ix2 r k) * bB m c t (ix4 0 0 k c')
      = ∑ k ∈ range 1024, term X W (1024 * (t.val / 4) + r.val) c'.val (1024 * (t.val % 4) + k) := by
  refine Eq.trans ?_ (MM.sum_fin 1024 fun k => term X W (1024 * (t.val / 4) + r.val) c'.val (1024 * (t.val % 4) + k))
  refine sum_congr rfl fun k _ => ?_
  unfold term
  rw [show (1024 * (t.val % 4) + k.val) / 1024 = t.val % 4 by omega, show (1024 * (t.val % 4) + k.val) % 1024 = k.val by omega]
  exact congrArg₂ (· * ·) (blk_A m c hX t r k) (blk_B m c hW t k c')

/-- The scratch before a block's last point holds the sum over the columns so far. -/
theorem acc_eq (n : ℕ) (h : n < cfg0.N) (h3 : n % 4 ≠ 3) (r c' : Fin 1024) :
    ((outsAt0 m c n h).2.2 : S1024x1024.Idx → EReal) (ix2 r c') = ∑ k ∈ range (1024 * (n % 4) + 1024), term X W (1024 * (n / 4) + r.val) c'.val k :=
  MM.acc_rec 1024 (fun n h => ((outsAt0 m c n h).2.2 : S1024x1024.Idx → EReal) (ix2 r c')) (fun q k => term X W (1024 * (q) + r.val) c'.val k)
    (fun n h h0 => by
      refine (congrFun (congrArg (fun p => p.2.2) (outsAt0_A m c ⟨n, h⟩ h0 (show n % 4 ≠ 3 by omega))) (ix2 r c')).trans ?_
      dsimp only
      rw [scr_A, pay2_apply, pay1_apply, zero_add]
      exact step m c hX hW ⟨n, h⟩ r c')
    (fun p h h0 h3 => by
      refine (congrFun (congrArg (fun p => p.2.2) (outsAt0_B m c ⟨p + 1, h⟩ h0 h3)) (ix2 r c')).trans ?_
      dsimp only
      rw [scr_B, pay2_apply]
      exact congrArg₂ (· + ·) rfl (step m c hX hW ⟨p + 1, h⟩ r c')) n h h3
end

section
include hX hW
/-- The product that the last point of a block has. -/
theorem du_eq (t : Fin cfg0.N) (h3 : t.val % 4 = 3) (r c' : Fin 1024) :
    (k0_pay2 (F := Ideal) (outsAt0 m c (t.val - 1) (Nat.lt_of_le_of_lt (Nat.sub_le _ _) t.isLt)).2.2 (iblk m c 0 t) (iblk m c 1 t)) (ix2 r c') = P X W (1024 * (t.val / 4) + r.val) c'.val := by
  refine (pay2_apply _ _ _ r c').trans ?_
  refine (congrArg₂ (· + ·) (acc_eq m c hX hW (t.val - 1) _ (by omega) r c') (step m c hX hW t r c')).trans ?_
  rw [show (t.val - 1) % 4 = 2 by omega, show (t.val - 1) / 4 = t.val / 4 by omega, h3]
  exact (MM.sum_cut (fun k => term X W (1024 * (t.val / 4) + r.val) c'.val k) 3072 1024).symm
end

/-- The residual and the product at an entry. -/
def hh (X : ℕ → ℕ → EReal) (W : ℕ → ℕ → ℕ → ℕ → EReal) (Z : ℕ → ℕ → EReal) (r n : ℕ) : EReal := Z r n + P X W r n

section
include hX hW hZ
theorem h_eq (t : Fin cfg0.N) (h3 : t.val % 4 = 3) (r c' : Fin 1024) :
    (k0_pay3 (F := Ideal) (k0_pay2 (F := Ideal) (outsAt0 m c (t.val - 1) (Nat.lt_of_le_of_lt (Nat.sub_le _ _) t.isLt)).2.2 (iblk m c 0 t) (iblk m c 1 t)) (iblk m c 2 t)) (ix2 r c') = hh X W Z (1024 * (t.val / 4) + r.val) c'.val := by
  rw [pay3_apply, du_eq m c hX hW t h3 r c']
  exact congrArg₂ (· + ·) (blk_C m c hZ t r c') rfl

/-- The first array after the run. -/
theorem out_eq_4 : (dats m 0 c).arrAt 4 cfg0.N = fun x : S8192x1024.Idx => hh X W Z (x 0).val (x 1).val := by
  refine (dats m 0 c).arrAt_eq_of_covers 4 _ (by decide +kernel) fun t hf y => ?_
  have h3 : t.val % 4 = 3 := (flush0_4 t).1 hf
  have h0 : ¬ t.val % 4 = 0 := by omega
  have hk : ∀ (r c' : Fin 1024), ((outsAt0 m c t.val t.isLt).1 : S1024x1024.Idx → EReal) (ix2 r c') = hh X W Z (1024 * (t.val / 4) + r.val) c'.val := fun r c' => by
    rw [outsAt0_C m c t h0 h3]
    dsimp only
    rw [(out_C ..).1]
    exact h_eq m c hX hW hZ t h3 r c'
  blk_simp [ix]
  rw [after0_4]
  have he := congrArg ((outsAt0 m c t.val t.isLt).1 : S1024x1024.Idx → EReal) (ValueIdx.eq_ix2 y)
  refine (he.trans (hk (y 0) (y 1))).trans ?_
  rw [Nat.mul_comm 1024 (t.val / 4)]
end

section
include hX hW hZ hG
/-- The second array after the run. -/
theorem out_eq_5 : (dats m 0 c).arrAt 5 cfg0.N = fun x : S8192x1024.Idx => Rms.fwd (hh X W Z) G (x 0).val (x 1).val := by
  refine (dats m 0 c).arrAt_eq_of_covers 5 _ (by decide +kernel) fun t hf y => ?_
  have h3 : t.val % 4 = 3 := (flush0_5 t).1 hf
  have h0 : ¬ t.val % 4 = 0 := by omega
  have hk : ∀ (r c' : Fin 1024), ((outsAt0 m c t.val t.isLt).2.1 : S1024x1024.Idx → EReal) (ix2 r c') = Rms.fwd (hh X W Z) G (1024 * (t.val / 4) + r.val) c'.val := fun r c' => by
    rw [outsAt0_C m c t h0 h3]
    dsimp only
    rw [(out_C ..).2, pay4_apply]
    exact Rms.fwd_fin (fun k => (k0_pay3 (F := Ideal) (k0_pay2 (F := Ideal) (outsAt0 m c (t.val - 1) (Nat.lt_of_le_of_lt (Nat.sub_le _ _) t.isLt)).2.2 (iblk m c 0 t) (iblk m c 1 t)) (iblk m c 2 t)) (ix2 r k)) (fun k => bD m c t (ix2 0 k))
      (fun k => h_eq m c hX hW hZ t h3 r k) (fun k => blk_G m c hG t k) c'
  blk_simp [ix]
  rw [after0_5]
  have he := congrArg ((outsAt0 m c t.val t.isLt).2.1 : S1024x1024.Idx → EReal) (ValueIdx.eq_ix2 y)
  refine (he.trans (hk (y 0) (y 1))).trans ?_
  rw [Nat.mul_comm 1024 (t.val / 4)]
end

end Cert.DownNIdeal.MM

namespace Cert.DownNRefIdeal.MM

open Cert.DownNRefIdeal Cert.DownNRefIdeal.Gen

/-- The reference's product at an entry. -/
theorem prod_val {X : ℕ → ℕ → EReal} {W : ℕ → ℕ → ℕ → ℕ → EReal} (A : FVec Ideal S8192x4096 .bf16) (B : FVec Ideal S4x2x1024x1024 .bf16)
    (hX : ∀ x, A x = X (x 0).val (x 1).val) (hW : ∀ x, B x = W (x 0).val (x 1).val (x 2).val (x 3).val) (i : S8192x1024.Idx) :
    Host.dotGeneral dot_S8192x4096_S4096x1024_S8192x1024_1_0_0_1_n_n none (extf .f32 A bitsLt_bf16_f32) (shapeCast _ (extf .f32 (shapeCast _ (extractStridedSlice S4x1x1024x1024 ![0, 0, 0, 0] B slices_S4x2x1024x1024_S4x1x1024x1024_0_0_0_0) shapeCasts_S4x1x1024x1024_S4x1024x1024) bitsLt_bf16_f32) shapeCasts_S4x1024x1024_S4096x1024) i
      = DownNIdeal.MM.P X W (i 0).val (i 1).val := by
  unfold DownNIdeal.MM.P
  rw [ValueIdx.eq_ix2 i]
  pointwise
  refine Eq.trans ?_ (MM.sum_fin 4096 _)
  refine sum_congr rfl fun k _ => ?_
  rw [hX, hW]
  rfl

/-- The reference's first result at an entry. -/
theorem h_val {X Z : ℕ → ℕ → EReal} {W : ℕ → ℕ → ℕ → ℕ → EReal} (D C : FVec Ideal S8192x1024 .f32)
    (hD : ∀ x, D x = DownNIdeal.MM.P X W (x 0).val (x 1).val) (hZ : ∀ x, C x = Z (x 0).val (x 1).val) (i : S8192x1024.Idx) :
    addf C D i = DownNIdeal.MM.hh X W Z (i 0).val (i 1).val := by
  have h1 := hD (ix2 (i 0) (i 1))
  have h2 := hZ (ix2 (i 0) (i 1))
  rw [ValueIdx.eq_ix2 i]
  pointwise
  exact congrArg₂ (· + ·) h2 h1

end Cert.DownNRefIdeal.MM

namespace Cert.Proof

open Cert.DownNIdeal

theorem DownN_defs {F : FTy → Type} [FloatOps F] : (DownN.defs (F := F)) = DownNIdeal.defs (F := F) :=
  congrArg (Pipeline.defs (DownNIdeal.pcfgs (F := F))) (show DownN.defs₀ (F := F) = DownNIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_DownNIdeal : Cert.quiescent_DownNIdeal := fun m ρ _ => DownNIdeal.Gen.frame (F := Ideal) m ρ

theorem frame_DownN : Cert.quiescent_DownN := fun m ρ _ =>
  DownN_defs (F := Bits) ▸ (θ_run (DownNIdeal.defs (F := Bits)) _ _).mono (fun _ h => h) (DownNIdeal.Gen.frame (F := Bits) m ρ)

theorem frame_DownNRefIdeal : Cert.quiescent_DownNRefIdeal := fun m ρ _ =>
  (θ_run (DownNRefIdeal.defs (F := Ideal)) _ _).mono (fun _ h => ⟨fun c => (h c).2.2, funext fun a => nomatch a⟩)
    (DownNRefIdeal.Value.run (F := Ideal) m ρ)

/-- The idealized kernel and its reference end with the same sum and the same norm. -/
theorem algebraic_DownN : Cert.algebraic_DownNIdeal_DownNRefIdeal := fun m g m' g' _ hargs => by
  have hX := fun c : Dev nD => at2_eq (m ((c.tc : Thread nD τ).loc main_arg0) : S8192x4096.Idx → EReal)
  have hW := fun c : Dev nD => at4_eq (m ((c.tc : Thread nD τ).loc main_arg1) : S4x2x1024x1024.Idx → EReal)
  have hZ := fun c : Dev nD => at2_eq (m ((c.tc : Thread nD τ).loc main_arg2) : S8192x1024.Idx → EReal)
  have hG := fun c : Dev nD => at1_eq (m ((c.tc : Thread nD τ).loc main_arg3) : S1024.Idx → EReal)
  have kX := fun (c : Dev nD) x => (congrFun (DownNIdeal.Gen.V_main_arg0 m c) x).trans (hX c x)
  have kW := fun (c : Dev nD) x => (congrFun (DownNIdeal.Gen.V_main_arg1 m c) x).trans (hW c x)
  have kZ := fun (c : Dev nD) x => (congrFun (DownNIdeal.Gen.V_main_arg2 m c) x).trans (hZ c x)
  have kG := fun (c : Dev nD) x => (congrFun (DownNIdeal.Gen.V_main_arg3 m c) x).trans (hG c x)
  refine ⟨_, _, (θ_run (DownNIdeal.defs (F := Ideal)) _ _).mono (fun r h c => ⟨(h c).1.trans (DownNIdeal.MM.out_eq_4 m c (kX c) (kW c) (kZ c)), (h c).2.1.trans (DownNIdeal.MM.out_eq_5 m c (kX c) (kW c) (kZ c) (kG c)), (h c).2.2⟩)
    (DownNIdeal.Value.run_blocks (F := Ideal) m g), ?_⟩
  refine (θ_run (DownNRefIdeal.defs (F := Ideal)) _ _).mono (fun r h c => ⟨(h c).1.trans ?_, (h c).2.1.trans ?_, (h c).2.2⟩)
    (DownNRefIdeal.Value.run (F := Ideal) m' g')
  · rw [(hargs c).1, (hargs c).2.1, (hargs c).2.2.1]
    exact funext fun x => DownNRefIdeal.MM.h_val _ _ (DownNRefIdeal.MM.prod_val _ _ (hX c) (hW c)) (hZ c) x
  · rw [(hargs c).1, (hargs c).2.1, (hargs c).2.2.1, (hargs c).2.2.2]
    exact funext fun x => NormRef.norm_val (Y := DownNIdeal.MM.hh _ _ _) _ _ (DownNRefIdeal.MM.h_val _ _ (DownNRefIdeal.MM.prod_val _ _ (hX c) (hW c)) (hZ c)) (hG c) x

end Cert.Proof
-- ==== Proof.UpActFin.lean ====
module

public import proofs.«01_k».proof.Proof.Gen.UpActIdeal.Value
public import proofs.«01_k».proof.Proof.Gen.UpActRefIdeal.Run
public import proofs.«01_k».proof.Proof.Rms
public import Idealize.ShloMosaic.Lib.Pipeline.ValueKit
public import proofs.«01_k».proof.Defs
public import proofs.«01_k».proof.Proof.Gen.UpAct
public import proofs.«01_k».proof.Proof.NormRef

/-! A product's backward pass with the norm's: the tiled program's values, and the reference's. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at1_eq at2_eq at3_eq at4_eq)

namespace Cert.UpActIdeal.MM

open Cert.UpActIdeal Cert.UpActIdeal.Gen

section
variable {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x1024 .f32) (h11 : a11.IsWhole) (a12 : Memref sig .tc .vmem S1024x1024 .f32) (h12 : a12.IsWhole)
  (x0 : Vec F S1024x1024 .bf16) (x1 : Vec F S1x1x1024x1024 .bf16) (x2 : Vec F S1024x1024 .f32) (x3 : Vec F S1024x1024 .f32) (x4 : Vec F S1x1024 .f32) (xo7 xo8 : Vec F S1x1024 .f32) (xs : Vec F S1024x1024 .f32)

theorem scr_A (hc0 : cond0_0 i) (hc1 : ¬cond0_1 i) :
    sout0_A_0 c i a3 h3 a4 h4 a5 h5 a6 h6 a7 h7 a8 h8 a9 h9 a10 h10 a11 h11 a12 h12 hc0 hc1 x0 x1 x2 x3 x4 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S1024x1024) MM.hz, View.ld_unit_zero (S := S1x1x1024x1024) MM.hz4, View.ld_unit_zero (S := S1x1024) MM.hz]

theorem scr_B (hc0 : ¬cond0_0 i) (hc1 : ¬cond0_1 i) :
    sout0_B_0 c i a3 h3 a4 h4 a5 h5 a6 h6 a7 h7 a8 h8 a9 h9 a10 h10 a11 h11 a12 h12 hc0 hc1 x0 x1 x2 x3 x4 xs = k0_pay2 xs x0 x1 := by
  unfold sout0_B_0
  rw [View.read_writes_eq_canon _ _ _ (fun _ => scover0_B_0 ..)]
  unfold kernelRun0_B
  dsimp only
  sl_unfold_words
  rw [View.canon_unit_zero (S := S1024x1024) MM.hz]
  simp only [View.readAt_eq_ld, h3.read_unread, h4.read_unread, h12.read_unread, View.ld_unit_zero (S := S1024x1024) MM.hz, View.ld_unit_zero (S := S1x1x1024x1024) MM.hz4, View.ld_unit_zero (S := S1x1024) MM.hz]

set_option maxHeartbeats 1600000 in
/-- What a block's last point writes out. -/
theorem out_C (hc0 : ¬cond0_0 i) (hc1 : cond0_1 i) (hc2 : cond0_2 i) (hc3 : cond0_3 i) :
    out0_C_5 c i a3 h3 a4 h4 a5 h5 a6 h6 a7 h7 a8 h8 a9 h9 a10 h10 a11 h11 a12 h12 hc0 hc1 hc2 hc3 x0 x1 x2 x3 x4 xs = k0_pay8 (k0_pay2 xs x0 x1) x2 x3 x4 ∧
    out0_C_6 c i a3 h3 a4 h4 a5 h5 a6 h6 a7 h7 a8 h8 a9 h9 a10 h10 a11 h11 a12 h12 hc0 hc1 hc2 hc3 x0 x1 x2 x3 x4 xs = k0_pay11 (k0_pay2 xs x0 x1) x2 x3 x4 ∧
    out0_C_7 c i a3 h3 a4 h4 a5 h5 a6 h6 a7 h7 a8 h8 a9 h9 a10 h10 a11 h11 a12 h12 hc0 hc1 hc2 hc3 x0 x1 x2 x3 x4 xs = k0_pay4 (k0_pay9 (k0_pay2 xs x0 x1) x2) k0_pay3 ∧
    out0_C_8 c i a3 h3 a4 h4 a5 h5 a6 h6 a7 h7 a8 h8 a9 h9 a10 h10 a11 h11 a12 h12 hc0 hc1 hc2 hc3 x0 x1 x2 x3 x4 xs = k0_pay6 (k0_pay10 (k0_pay2 xs x0 x1) x2 x3 x4) k0_pay5 := by
  unfold out0_C_5 out0_C_6 out0_C_7 out0_C_8
  rw [View.read_writes_eq_canon _ _ _ (fun _ => cover0_C_5 ..), View.read_writes_eq_canon _ _ _ (fun _ => cover0_C_6 ..), View.read_writes_eq_canon _ _ _ (fun _ => cover0_C_7 ..), View.read_writes_eq_canon _ _ _ (fun _ => cover0_C_8 ..)]
  unfold kernelRun0_C
  dsimp only
  sl_unfold_words
  simp only [View.canon_unit_zero (S := S1024x1024) MM.hz, View.canon_cons_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h12.read_unread,
    View.ld_unit_zero (S := S1024x1024) MM.hz, View.ld_unit_zero (S := S1x1x1024x1024) MM.hz4, View.ld_unit_zero (S := S1x1024) MM.hz, and_self]

set_option maxHeartbeats 1600000 in
/-- What a block's last point writes out. -/
theorem out_D (hc0 : ¬cond0_0 i) (hc1 : cond0_1 i) (hc2 : ¬cond0_2 i) (hc3 : ¬cond0_3 i) :
    out0_D_5 c i a3 h3 a4 h4 a5 h5 a6 h6 a7 h7 a8 h8 a9 h9 a10 h10 a11 h11 a12 h12 hc0 hc1 hc2 hc3 x0 x1 x2 x3 x4 xo7 xo8 xs = k0_pay8 (k0_pay2 xs x0 x1) x2 x3 x4 ∧
    out0_D_6 c i a3 h3 a4 h4 a5 h5 a6 h6 a7 h7 a8 h8 a9 h9 a10 h10 a11 h11 a12 h12 hc0 hc1 hc2 hc3 x0 x1 x2 x3 x4 xo7 xo8 xs = k0_pay11 (k0_pay2 xs x0 x1) x2 x3 x4 ∧
    out0_D_7 c i a3 h3 a4 h4 a5 h5 a6 h6 a7 h7 a8 h8 a9 h9 a10 h10 a11 h11 a12 h12 hc0 hc1 hc2 hc3 x0 x1 x2 x3 x4 xo7 xo8 xs = k0_pay4 (k0_pay9 (k0_pay2 xs x0 x1) x2) xo7 ∧
    out0_D_8 c i a3 h3 a4 h4 a5 h5 a6 h6 a7 h7 a8 h8 a9 h9 a10 h10 a11 h11 a12 h12 hc0 hc1 hc2 hc3 x0 x1 x2 x3 x4 xo7 xo8 xs = k0_pay6 (k0_pay10 (k0_pay2 xs x0 x1) x2 x3 x4) xo8 := by
  unfold out0_D_5 out0_D_6 out0_D_7 out0_D_8
  rw [View.read_writes_eq_canon _ _ _ (fun _ => cover0_D_5 ..), View.read_writes_eq_canon _ _ _ (fun _ => cover0_D_6 ..), View.read_writes_eq_canon _ _ _ (fun _ => cover0_D_7 ..), View.read_writes_eq_canon _ _ _ (fun _ => cover0_D_8 ..)]
  unfold kernelRun0_D
  dsimp only
  sl_unfold_words
  simp only [View.canon_unit_zero (S := S1024x1024) MM.hz, View.canon_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h10.read_unread, h11.read_unread, h12.read_unread,
    View.ld_unit_zero (S := S1024x1024) MM.hz, View.ld_unit_zero (S := S1x1x1024x1024) MM.hz4, View.ld_unit_zero (S := S1x1024) MM.hz, and_self]

end

theorem pay1_apply (r c : Fin 1024) : (k0_pay1 (F := Ideal)) (ix2 r c) = 0 := by
  pointwise [k0_pay1]

theorem pay3_apply (c : Fin 1024) : (k0_pay3 (F := Ideal)) (ix2 0 c) = 0 := by
  pointwise [k0_pay3]

theorem pay5_apply (c : Fin 1024) : (k0_pay5 (F := Ideal)) (ix2 0 c) = 0 := by
  pointwise [k0_pay5]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 c k) := by
  pointwise [k0_pay2]

theorem pay4_apply (v w : Vec Ideal S1x1024 .f32) (c : Fin 1024) : (k0_pay4 (F := Ideal) v w) (ix2 0 c) = w (ix2 0 c) + v (ix2 0 c) := by
  pointwise [k0_pay4]

theorem pay6_apply (v w : Vec Ideal S1x1024 .f32) (c : Fin 1024) : (k0_pay6 (F := Ideal) v w) (ix2 0 c) = w (ix2 0 c) + v (ix2 0 c) := by
  pointwise [k0_pay6]

/-- The residual's cotangent and the norm's derivative, at an entry. -/
theorem pay8_apply (v x2 x3 : Vec Ideal S1024x1024 .f32) (x4 : Vec Ideal S1x1024 .f32) (r c : Fin 1024) :
    (k0_pay8 (F := Ideal) v x2 x3 x4) (ix2 r c)
      = x3 (ix2 r c) + Rms.dxf (fun k => v (ix2 r k)) (fun k => x2 (ix2 r k)) (fun k => x4 (ix2 0 k)) c := by
  unfold Rms.dxf
  pointwise [k0_pay8, k0_pay7]

/-- A block's part of the gain's derivative. -/
theorem pay9_apply (v x2 : Vec Ideal S1024x1024 .f32) (c : Fin 1024) :
    (k0_pay9 (F := Ideal) v x2) (ix2 0 c) = ∑ r : Fin 1024, Rms.dgf (fun k => v (ix2 r k)) (fun k => x2 (ix2 r k)) c := by
  unfold Rms.dgf
  pointwise [k0_pay9, k0_pay7]

/-- A block's column sums. -/
theorem pay10_apply (v x2 x3 : Vec Ideal S1024x1024 .f32) (x4 : Vec Ideal S1x1024 .f32) (c : Fin 1024) :
    (k0_pay10 (F := Ideal) v x2 x3 x4) (ix2 0 c) = ∑ r : Fin 1024, (k0_pay8 (F := Ideal) v x2 x3 x4) (ix2 r c) := by
  unfold k0_pay10
  generalize k0_pay8 (F := Ideal) v x2 x3 x4 = H
  pointwise

theorem pay11_apply (v x2 x3 : Vec Ideal S1024x1024 .f32) (x4 : Vec Ideal S1x1024 .f32) (r c : Fin 1024) :
    (k0_pay11 (F := Ideal) v x2 x3 x4) (ix2 r c) = (k0_pay8 (F := Ideal) v x2 x3 x4) (ix2 r c) := by
  unfold k0_pay11
  generalize k0_pay8 (F := Ideal) v x2 x3 x4 = H
  pointwise

theorem ix : ∀ t : Fin cfg0.N, win0_0.index t = ![(t.val / 4 : ℕ), t.val % 4] ∧ win0_1.index t = ![(t.val % 4 : ℕ), 0, 0, 0] ∧ win0_2.index t = ![(t.val / 4 : ℕ), 0] ∧ win0_3.index t = ![(t.val / 4 : ℕ), 0] ∧ win0_5.index t = ![(t.val / 4 : ℕ), 0] ∧ win0_6.index t = ![(t.val / 4 : ℕ), 0] ∧ win0_4.index t = ![0, 0] ∧ win0_7.index t = ![0, 0] ∧ win0_8.index t = ![0, 0] := (by decide +kernel : ∀ t : Fin grid0.N, _)

variable (m : (ℓ : Loc nD τ sig) → Buf (Elt Ideal) ℓ) (c : Dev nD) {X Y Z : ℕ → ℕ → EReal} {W : ℕ → ℕ → ℕ → ℕ → EReal} {G : ℕ → EReal}
  (hX : ∀ x : S8192x4096.Idx, (V m c main_arg0 : S8192x4096.Idx → EReal) x = X (x 0).val (x 1).val)
  (hW : ∀ x : S4x2x1024x1024.Idx, (V m c main_arg1 : S4x2x1024x1024.Idx → EReal) x = W (x 0).val (x 1).val (x 2).val (x 3).val)
  (hY : ∀ x : S8192x1024.Idx, (V m c main_arg2 : S8192x1024.Idx → EReal) x = Y (x 0).val (x 1).val)
  (hG : ∀ x : S1024.Idx, (V m c main_arg3 : S1024.Idx → EReal) x = G (x 0).val)
  (hZ : ∀ x : S8192x1024.Idx, (V m c main_arg4 : S8192x1024.Idx → EReal) x = Z (x 0).val (x 1).val)

/-- The blocks of one point, as arrays of extended reals. -/
abbrev bA (t : Fin cfg0.N) : S1024x1024.Idx → EReal := iblk m c 0 t
abbrev bB (t : Fin cfg0.N) : S1x1x1024x1024.Idx → EReal := iblk m c 1 t
abbrev bC (t : Fin cfg0.N) : S1024x1024.Idx → EReal := iblk m c 2 t
abbrev bD (t : Fin cfg0.N) : S1024x1024.Idx → EReal := iblk m c 3 t
abbrev bE (t : Fin cfg0.N) : S1x1024.Idx → EReal := iblk m c 4 t

section
include hX
theorem blk_A (t : Fin cfg0.N) (r : Fin 1024) (k : Fin 1024) : bA m c t (ix2 r k) = X (1024 * (t.val / 4) + r.val) (1024 * (t.val % 4) + k.val) := by
  show (V m c main_arg0 : S8192x4096.Idx → EReal) (((cfg0.win 0).blk t).view.emb (ix2 r k)) = _
  rw [hX]
  blk_simp [ix]
  congr 1 <;> omega
end

section
include hW
theorem blk_B (t : Fin cfg0.N) (c' : Fin 1024) (k : Fin 1024) : bB m c t (ix4 0 0 c' k) = W (t.val % 4) 0 c'.val k.val := by
  show (V m c main_arg1 : S4x2x1024x1024.Idx → EReal) (((cfg0.win 1).blk t).view.emb (ix4 0 0 c' k)) = _
  rw [hW]
  blk_simp [ix]
  rfl
end

section
include hY
theorem blk_C (t : Fin cfg0.N) (r k : Fin 1024) : bC m c t (ix2 r k) = Y (1024 * (t.val / 4) + r.val) k.val := by
  show (V m c main_arg2 : S8192x1024.Idx → EReal) (((cfg0.win 2).blk t).view.emb (ix2 r k)) = _
  rw [hY]
  blk_simp [ix]
  congr 1 <;> omega
end

section
include hZ
theorem blk_D (t : Fin cfg0.N) (r k : Fin 1024) : bD m c t (ix2 r k) = Z (1024 * (t.val / 4) + r.val) k.val := by
  show (V m c main_arg4 : S8192x1024.Idx → EReal) (((cfg0.win 3).blk t).view.emb (ix2 r k)) = _
  rw [hZ]
  blk_simp [ix]
  congr 1 <;> omega
end

/-- The row as the host hands it over: a matrix of one row. -/
theorem V_row0 : V m c main_v0 = (shapeCast S1x1024 (m ((c : Thread nD τ).loc main_arg3) : FVec Ideal S1024 .f32) shapeCasts_S1024_S1x1024 : FVec Ideal S1x1024 .f32) := by
  unfold_abbrev_sides
  after_results
  rfl

section
include hG
theorem row_val0 (x : S1x1024.Idx) : (V m c main_v0 : S1x1024.Idx → EReal) x = G (x 1).val := by
  have h := hG (ix1 (x 1))
  rw [V_main_arg3] at h
  rw [V_row0, ValueIdx.eq_ix2 x]
  pointwise
  exact h

theorem blk_G (t : Fin cfg0.N) (c' : Fin 1024) : bE m c t (ix2 0 c') = G c'.val := by
  show (V m c main_v0 : S1x1024.Idx → EReal) (((cfg0.win 4).blk t).view.emb (ix2 0 c')) = _
  rw [row_val0 m c hG]
  blk_simp [ix]
end

/-- One summand of the product. -/
def term (X : ℕ → ℕ → EReal) (W : ℕ → ℕ → ℕ → ℕ → EReal) (r n k : ℕ) : EReal := X r k * W (k / 1024) 0 n (k % 1024)

/-- The product at an entry. -/
def P (X : ℕ → ℕ → EReal) (W : ℕ → ℕ → ℕ → ℕ → EReal) (r n : ℕ) : EReal := ∑ k ∈ range 4096, term X W r n k

section
include hX hW

/-- One point's product at an entry. -/
theorem step (t : Fin cfg0.N) (r c' : Fin 1024) :
    ∑ k : Fin 1024, bA m c t (ix2 r k) * bB m c t (ix4 0 0 c' k)
      = ∑ k ∈ range 1024, term X W (1024 * (t.val / 4) + r.val) c'.val (1024 * (t.val % 4) + k) := by
  refine Eq.trans ?_ (MM.sum_fin 1024 fun k => term X W (1024 * (t.val / 4) + r.val) c'.val (1024 * (t.val % 4) + k))
  refine sum_congr rfl fun k _ => ?_
  unfold term
  rw [show (1024 * (t.val % 4) + k.val) / 1024 = t.val % 4 by omega, show (1024 * (t.val % 4) + k.val) % 1024 = k.val by omega]
  exact congrArg₂ (· * ·) (blk_A m c hX t r k) (blk_B m c hW t c' k)

/-- The scratch before a block's last point holds the sum over the columns so far. -/
theorem acc_eq (n : ℕ) (h : n < cfg0.N) (h3 : n % 4 ≠ 3) (r c' : Fin 1024) :
    ((outsAt0 m c n h).2.2.2.2 : S1024x1024.Idx → EReal) (ix2 r c') = ∑ k ∈ range (1024 * (n % 4) + 1024), term X W (1024 * (n / 4) + r.val) c'.val k :=
  MM.acc_rec 1024 (fun n h => ((outsAt0 m c n h).2.2.2.2 : S1024x1024.Idx → EReal) (ix2 r c')) (fun q k => term X W (1024 * (q) + r.val) c'.val k)
    (fun n h h0 => by
      refine (congrFun (congrArg (fun p => p.2.2.2.2) (outsAt0_A m c ⟨n, h⟩ h0 (show n % 4 ≠ 3 by omega))) (ix2 r c')).trans ?_
      dsimp only
      rw [scr_A, pay2_apply, pay1_apply, zero_add]
      exact step m c hX hW ⟨n, h⟩ r c')
    (fun p h h0 h3 => by
      refine (congrFun (congrArg (fun p => p.2.2.2.2) (outsAt0_B m c ⟨p + 1, h⟩ h0 h3)) (ix2 r c')).trans ?_
      dsimp only
      rw [scr_B, pay2_apply]
      exact congrArg₂ (· + ·) rfl (step m c hX hW ⟨p + 1, h⟩ r c')) n h h3
end

/-- The product that the last point of a block has, as the program computes it. -/
abbrev uu (t : Fin cfg0.N) : Vec Ideal S1024x1024 .f32 :=
  k0_pay2 (F := Ideal) (outsAt0 m c (t.val - 1) (Nat.lt_of_le_of_lt (Nat.sub_le _ _) t.isLt)).2.2.2.2 (iblk m c 0 t) (iblk m c 1 t)

section
include hX hW
/-- The product that the last point of a block has. -/
theorem du_eq (t : Fin cfg0.N) (h3 : t.val % 4 = 3) (r c' : Fin 1024) :
    (uu m c t) (ix2 r c') = P X W (1024 * (t.val / 4) + r.val) c'.val := by
  refine (pay2_apply _ _ _ r c').trans ?_
  refine (congrArg₂ (· + ·) (acc_eq m c hX hW (t.val - 1) _ (by omega) r c') (step m c hX hW t r c')).trans ?_
  rw [show (t.val - 1) % 4 = 2 by omega, show (t.val - 1) / 4 = t.val / 4 by omega, h3]
  exact (MM.sum_cut (fun k => term X W (1024 * (t.val / 4) + r.val) c'.val k) 3072 1024).symm
end

/-- The cotangent at an entry. -/
def dh (X : ℕ → ℕ → EReal) (W : ℕ → ℕ → ℕ → ℕ → EReal) (Y Z : ℕ → ℕ → EReal) (G : ℕ → EReal) (r n : ℕ) : EReal := Z r n + Rms.dx (P X W) Y G r n

section
include hX hW hY hG hZ
theorem dh_eq (t : Fin cfg0.N) (h3 : t.val % 4 = 3) (r c' : Fin 1024) :
    (k0_pay8 (F := Ideal) (uu m c t) (iblk m c 2 t) (iblk m c 3 t) (iblk m c 4 t)) (ix2 r c') = dh X W Y Z G (1024 * (t.val / 4) + r.val) c'.val := by
  rw [pay8_apply]
  exact congrArg₂ (· + ·) (blk_D m c hZ t r c') (Rms.dxf_eq (u := fun k => (uu m c t) (ix2 r k)) (x := fun k => bC m c t (ix2 r k)) (g := fun k => bE m c t (ix2 0 k))
    (fun k => du_eq m c hX hW t h3 r k) (fun k => blk_C m c hY t r k) (fun k => blk_G m c hG t k) c')

/-- A block's part of the cotangent's column sum. -/
theorem col_eq (t : Fin cfg0.N) (h3 : t.val % 4 = 3) (c' : Fin 1024) :
    (k0_pay10 (F := Ideal) (uu m c t) (iblk m c 2 t) (iblk m c 3 t) (iblk m c 4 t)) (ix2 0 c')
      = ∑ r ∈ range 1024, dh X W Y Z G (1024 * (t.val / 4) + r) c'.val := by
  rw [pay10_apply]
  refine Eq.trans ?_ (MM.sum_fin 1024 fun r => dh X W Y Z G (1024 * (t.val / 4) + r) c'.val)
  exact sum_congr rfl fun r _ => dh_eq m c hX hW hY hG hZ t h3 r c'
end

section
include hX hW hY
/-- A block's part of the gain's derivative. -/
theorem dg_eq (t : Fin cfg0.N) (h3 : t.val % 4 = 3) (c' : Fin 1024) :
    (k0_pay9 (F := Ideal) (uu m c t) (iblk m c 2 t)) (ix2 0 c')
      = ∑ r ∈ range 1024, Rms.dg (P X W) Y (1024 * (t.val / 4) + r) c'.val := by
  rw [pay9_apply]
  refine Eq.trans ?_ (MM.sum_fin 1024 fun r => Rms.dg (P X W) Y (1024 * (t.val / 4) + r) c'.val)
  exact sum_congr rfl fun r _ => Rms.dgf_eq (u := fun k => (uu m c t) (ix2 r k)) (x := fun k => bC m c t (ix2 r k))
    (fun k => du_eq m c hX hW t h3 r k) (fun k => blk_C m c hY t r k) c'
end

section
include hX hW hY hG hZ
/-- The cotangent after the run. -/
theorem out_eq_5 : (dats m 0 c).arrAt 5 cfg0.N = fun x : S8192x1024.Idx => dh X W Y Z G (x 0).val (x 1).val := by
  refine (dats m 0 c).arrAt_eq_of_covers 5 _ (by decide +kernel) fun t hf y => ?_
  have h3 : t.val % 4 = 3 := (flush0_5 t).1 hf
  have h0 : ¬ t.val % 4 = 0 := by omega
  have hk : ∀ (r c' : Fin 1024), ((outsAt0 m c t.val t.isLt).1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).1]
      exact dh_eq m c hX hW hY hG hZ t h3 r c'
    · rw [outsAt0_D m c t h0 h3 h2 h2]
      dsimp only
      rw [(out_D ..).1]
      exact dh_eq m c hX hW hY hG hZ t h3 r c'
  blk_simp [ix]
  rw [after0_5]
  have he := congrArg ((outsAt0 m c t.val t.isLt).1 : S1024x1024.Idx → EReal) (ValueIdx.eq_ix2 y)
  refine (he.trans (hk (y 0) (y 1))).trans ?_
  rw [Nat.mul_comm 1024 (t.val / 4)]
end

section
include hX hW hY hG hZ
/-- The cotangent after the run. -/
theorem out_eq_6 : (dats m 0 c).arrAt 6 cfg0.N = fun x : S8192x1024.Idx => dh X W Y Z G (x 0).val (x 1).val := by
  refine (dats m 0 c).arrAt_eq_of_covers 6 _ (by decide +kernel) fun t hf y => ?_
  have h3 : t.val % 4 = 3 := (flush0_6 t).1 hf
  have h0 : ¬ t.val % 4 = 0 := by omega
  have hk : ∀ (r c' : Fin 1024), ((outsAt0 m c t.val t.isLt).2.1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).2.1, pay11_apply]
      exact dh_eq m c hX hW hY hG hZ t h3 r c'
    · rw [outsAt0_D m c t h0 h3 h2 h2]
      dsimp only
      rw [(out_D ..).2.1, pay11_apply]
      exact dh_eq m c hX hW hY hG hZ t h3 r c'
  blk_simp [ix]
  rw [after0_6]
  have he := congrArg ((outsAt0 m c t.val t.isLt).2.1 : S1024x1024.Idx → EReal) (ValueIdx.eq_ix2 y)
  refine (he.trans (hk (y 0) (y 1))).trans ?_
  rw [Nat.mul_comm 1024 (t.val / 4)]
end

section
include hX hW hY
/-- The row of sums after each of a block's points: the blocks so far. -/
theorem row_eq_7 (n : ℕ) (h : n < cfg0.N) (hn : 3 ≤ n) (c' : Fin 1024) :
    ((outsAt0 m c n h).2.2.1 : S1x1024.Idx → EReal) (ix2 0 c') = ∑ r ∈ range (1024 * ((n + 1) / 4)), Rms.dg (P X W) Y r c'.val :=
  Rms.rows_rec (fun n h => ((outsAt0 m c n h).2.2.1 : S1x1024.Idx → EReal) (ix2 0 c')) (fun r => Rms.dg (P X W) Y r c'.val)
    (fun p h hp => by
      by_cases h0 : (p + 1) % 4 = 0
      · exact congrFun (congrArg (fun p => p.2.2.1) (outsAt0_A m c ⟨p + 1, h⟩ h0 hp)) _
      · exact congrFun (congrArg (fun p => p.2.2.1) (outsAt0_B m c ⟨p + 1, h⟩ h0 hp)) _)
    (fun p h hp h2 => by
      refine (congrFun (congrArg (fun p => p.2.2.1) (outsAt0_C m c ⟨p + 1, h⟩ (show ¬(p + 1) % 4 = 0 by omega) hp h2 h2)) _).trans ?_
      dsimp only
      rw [(out_C ..).2.2.1, pay4_apply, pay3_apply, zero_add]
      exact dg_eq m c hX hW hY ⟨p + 1, h⟩ hp c')
    (fun p h hp h2 => by
      refine (congrFun (congrArg (fun p => p.2.2.1) (outsAt0_D m c ⟨p + 1, h⟩ (show ¬(p + 1) % 4 = 0 by omega) hp h2 h2)) _).trans ?_
      dsimp only
      rw [(out_D ..).2.2.1, pay4_apply]
      exact congrArg₂ (· + ·) rfl (dg_eq m c hX hW hY ⟨p + 1, h⟩ hp c')) n h hn

/-- The row of sums after the run. -/
theorem out_eq_7 : (dats m 0 c).arrAt 7 cfg0.N = fun x : S1x1024.Idx => ∑ r ∈ range 8192, Rms.dg (P X W) Y r (x 1).val := by
  refine (dats m 0 c).arrAt_eq_of_covers 7 _ (by decide +kernel) fun t hf y => ?_
  have hN : t.val < 32 := t.isLt
  have h31 : t.val % 32 = 31 := (flush0_7 t).1 hf
  have hk : ∀ c' : Fin 1024, ((outsAt0 m c t.val t.isLt).2.2.1 : S1x1024.Idx → EReal) (ix2 0 c') = ∑ r ∈ range 8192, Rms.dg (P X W) Y r c'.val := fun c' => by
    rw [row_eq_7 m c hX hW hY t.val t.isLt (by omega) c', show 1024 * ((t.val + 1) / 4) = 8192 by omega]
  blk_simp [ix]
  rw [after0_7]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.1 : S1x1024.Idx → EReal) hy
  exact he.trans (hk (y 1))
end

section
include hX hW hY hG hZ
/-- The row of sums after each of a block's points: the blocks so far. -/
theorem row_eq_8 (n : ℕ) (h : n < cfg0.N) (hn : 3 ≤ n) (c' : Fin 1024) :
    ((outsAt0 m c n h).2.2.2.1 : S1x1024.Idx → EReal) (ix2 0 c') = ∑ r ∈ range (1024 * ((n + 1) / 4)), dh X W Y Z G r c'.val :=
  Rms.rows_rec (fun n h => ((outsAt0 m c n h).2.2.2.1 : S1x1024.Idx → EReal) (ix2 0 c')) (fun r => dh X W Y Z G r c'.val)
    (fun p h hp => by
      by_cases h0 : (p + 1) % 4 = 0
      · exact congrFun (congrArg (fun p => p.2.2.2.1) (outsAt0_A m c ⟨p + 1, h⟩ h0 hp)) _
      · exact congrFun (congrArg (fun p => p.2.2.2.1) (outsAt0_B m c ⟨p + 1, h⟩ h0 hp)) _)
    (fun p h hp h2 => by
      refine (congrFun (congrArg (fun p => p.2.2.2.1) (outsAt0_C m c ⟨p + 1, h⟩ (show ¬(p + 1) % 4 = 0 by omega) hp h2 h2)) _).trans ?_
      dsimp only
      rw [(out_C ..).2.2.2, pay6_apply, pay5_apply, zero_add]
      exact col_eq m c hX hW hY hG hZ ⟨p + 1, h⟩ hp c')
    (fun p h hp h2 => by
      refine (congrFun (congrArg (fun p => p.2.2.2.1) (outsAt0_D m c ⟨p + 1, h⟩ (show ¬(p + 1) % 4 = 0 by omega) hp h2 h2)) _).trans ?_
      dsimp only
      rw [(out_D ..).2.2.2, pay6_apply]
      exact congrArg₂ (· + ·) rfl (col_eq m c hX hW hY hG hZ ⟨p + 1, h⟩ hp c')) n h hn

/-- The row of sums after the run. -/
theorem out_eq_8 : (dats m 0 c).arrAt 8 cfg0.N = fun x : S1x1024.Idx => ∑ r ∈ range 8192, dh X W Y Z G r (x 1).val := by
  refine (dats m 0 c).arrAt_eq_of_covers 8 _ (by decide +kernel) fun t hf y => ?_
  have hN : t.val < 32 := t.isLt
  have h31 : t.val % 32 = 31 := (flush0_8 t).1 hf
  have hk : ∀ c' : Fin 1024, ((outsAt0 m c t.val t.isLt).2.2.2.1 : S1x1024.Idx → EReal) (ix2 0 c') = ∑ r ∈ range 8192, dh X W Y Z G r c'.val := fun c' => by
    rw [row_eq_8 m c hX hW hY hG hZ t.val t.isLt (by omega) c', show 1024 * ((t.val + 1) / 4) = 8192 by omega]
  blk_simp [ix]
  rw [after0_8]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.2.1 : S1x1024.Idx → EReal) hy
  exact he.trans (hk (y 1))
end

end Cert.UpActIdeal.MM

namespace Cert.UpActRefIdeal.MM

open Cert.UpActRefIdeal Cert.UpActRefIdeal.Gen

/-- The reference's product at an entry. -/
theorem prod_val {X : ℕ → ℕ → EReal} {W : ℕ → ℕ → ℕ → ℕ → EReal} (A : FVec Ideal S8192x4096 .bf16) (B : FVec Ideal S4x2x1024x1024 .bf16)
    (hX : ∀ x, A x = X (x 0).val (x 1).val) (hW : ∀ x, B x = W (x 0).val (x 1).val (x 2).val (x 3).val) (i : S8192x1024.Idx) :
    Host.dotGeneral dot_S8192x4096_S1024x4096_S8192x1024_1_1_0_0_n_n none (extf .f32 A bitsLt_bf16_f32) (shapeCast _ (transpose S1024x4x1024 [1, 0, 2] (extf .f32 (shapeCast _ (extractStridedSlice S4x1x1024x1024 ![0, 0, 0, 0] B slices_S4x2x1024x1024_S4x1x1024x1024_0_0_0_0) shapeCasts_S4x1x1024x1024_S4x1024x1024) bitsLt_bf16_f32) transposes_S4x1024x1024_S1024x4x1024_1_0_2) shapeCasts_S1024x4x1024_S1024x4096) i
      = UpActIdeal.MM.P X W (i 0).val (i 1).val := by
  unfold UpActIdeal.MM.P
  rw [ValueIdx.eq_ix2 i]
  pointwise
  refine Eq.trans ?_ (MM.sum_fin 4096 _)
  refine sum_congr rfl fun k _ => ?_
  rw [hX, hW]
  rfl

end Cert.UpActRefIdeal.MM

namespace Cert.Proof

open Cert.UpActIdeal

theorem UpAct_defs {F : FTy → Type} [FloatOps F] : (UpAct.defs (F := F)) = UpActIdeal.defs (F := F) :=
  congrArg (Pipeline.defs (UpActIdeal.pcfgs (F := F))) (show UpAct.defs₀ (F := F) = UpActIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_UpActIdeal : Cert.quiescent_UpActIdeal := fun m ρ _ => UpActIdeal.Gen.frame (F := Ideal) m ρ

theorem frame_UpAct : Cert.quiescent_UpAct := fun m ρ _ =>
  UpAct_defs (F := Bits) ▸ (θ_run (UpActIdeal.defs (F := Bits)) _ _).mono (fun _ h => h) (UpActIdeal.Gen.frame (F := Bits) m ρ)

theorem frame_UpActRefIdeal : Cert.quiescent_UpActRefIdeal := fun m ρ _ =>
  (θ_run (UpActRefIdeal.defs (F := Ideal)) _ _).mono (fun _ h => ⟨fun c => (h c).2.2.2.2, funext fun a => nomatch a⟩)
    (UpActRefIdeal.Value.run (F := Ideal) m ρ)

/-- The idealized kernel and its reference end with the same cotangents and sums. -/
theorem algebraic_UpAct : Cert.algebraic_UpActIdeal_UpActRefIdeal := fun m g m' g' _ hargs => by
  have hX := fun c : Dev nD => at2_eq (m ((c.tc : Thread nD τ).loc main_arg0) : S8192x4096.Idx → EReal)
  have hW := fun c : Dev nD => at4_eq (m ((c.tc : Thread nD τ).loc main_arg1) : S4x2x1024x1024.Idx → EReal)
  have hY := fun c : Dev nD => at2_eq (m ((c.tc : Thread nD τ).loc main_arg2) : S8192x1024.Idx → EReal)
  have hG := fun c : Dev nD => at1_eq (m ((c.tc : Thread nD τ).loc main_arg3) : S1024.Idx → EReal)
  have hZ := fun c : Dev nD => at2_eq (m ((c.tc : Thread nD τ).loc main_arg4) : S8192x1024.Idx → EReal)
  have kX := fun (c : Dev nD) x => (congrFun (UpActIdeal.Gen.V_main_arg0 m c) x).trans (hX c x)
  have kW := fun (c : Dev nD) x => (congrFun (UpActIdeal.Gen.V_main_arg1 m c) x).trans (hW c x)
  have kY := fun (c : Dev nD) x => (congrFun (UpActIdeal.Gen.V_main_arg2 m c) x).trans (hY c x)
  have kG := fun (c : Dev nD) x => (congrFun (UpActIdeal.Gen.V_main_arg3 m c) x).trans (hG c x)
  have kZ := fun (c : Dev nD) x => (congrFun (UpActIdeal.Gen.V_main_arg4 m c) x).trans (hZ c x)
  refine ⟨_, _, _, _, (θ_run (UpActIdeal.defs (F := Ideal)) _ _).mono (fun r h c => ⟨(h c).1.trans (UpActIdeal.MM.out_eq_5 m c (kX c) (kW c) (kY c) (kG c) (kZ c)), (h c).2.1.trans (UpActIdeal.MM.out_eq_6 m c (kX c) (kW c) (kY c) (kG c) (kZ c)), (h c).2.2.1.trans (UpActIdeal.MM.out_eq_7 m c (kX c) (kW c) (kY c)), (h c).2.2.2.1.trans (UpActIdeal.MM.out_eq_8 m c (kX c) (kW c) (kY c) (kG c) (kZ c)), (h c).2.2.2.2⟩)
    (UpActIdeal.Value.run_blocks (F := Ideal) m g), ?_⟩
  refine (θ_run (UpActRefIdeal.defs (F := Ideal)) _ _).mono (fun r h c => ⟨(h c).1.trans ?_, (h c).2.1.trans ?_, (h c).2.2.1.trans ?_, (h c).2.2.2.1.trans ?_, (h c).2.2.2.2⟩)
    (UpActRefIdeal.Value.run (F := Ideal) m' g')
  · unfold UpActRefIdeal.Value.res_main_v44
    rw [(hargs c).1, (hargs c).2.1, (hargs c).2.2.1, (hargs c).2.2.2.1, (hargs c).2.2.2.2]
    exact funext fun x => NormRef.dh_val _ _ _ _ (UpActRefIdeal.MM.prod_val _ _ (hX c) (hW c)) (hY c) (hG c) (hZ c) x
  · unfold UpActRefIdeal.Value.res_main_v45
    rw [(hargs c).1, (hargs c).2.1, (hargs c).2.2.1, (hargs c).2.2.2.1, (hargs c).2.2.2.2]
    exact funext fun x => NormRef.dh_val _ _ _ _ (UpActRefIdeal.MM.prod_val _ _ (hX c) (hW c)) (hY c) (hG c) (hZ c) x
  · rw [(hargs c).1, (hargs c).2.1, (hargs c).2.2.1]
    exact funext fun x => NormRef.dg_val _ _ (UpActRefIdeal.MM.prod_val _ _ (hX c) (hW c)) (hY c) x
  · unfold UpActRefIdeal.Value.res_main_v48
    rw [(hargs c).1, (hargs c).2.1, (hargs c).2.2.1, (hargs c).2.2.2.1, (hargs c).2.2.2.2]
    exact funext fun x => NormRef.col_val (Y := UpActIdeal.MM.dh _ _ _ _ _) _ (NormRef.dh_val _ _ _ _ (UpActRefIdeal.MM.prod_val _ _ (hX c) (hW c)) (hY c) (hG c) (hZ c)) x

end Cert.Proof
-- ==== Proof.UpActBFin.lean ====
module

public import proofs.«01_k».proof.Proof.Gen.UpActBIdeal.Value
public import proofs.«01_k».proof.Proof.Gen.UpActBRefIdeal.Run
public import proofs.«01_k».proof.Proof.UpActFin
public import Idealize.ShloMosaic.Lib.Pipeline.ValueKit
public import proofs.«01_k».proof.Defs
public import proofs.«01_k».proof.Proof.Gen.UpActB
public import proofs.«01_k».proof.Proof.NormRef

/-! A product's backward pass with the norm's: the tiled program's values, and the reference's. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at1_eq at2_eq at3_eq at4_eq)

namespace Cert.UpActBIdeal.MM

open Cert.UpActBIdeal
open Cert.UpActBIdeal.Gen hiding k0_pay3 k0_pay4 k0_pay5 k0_pay6 k0_pay8 k0_pay9 k0_pay10 k0_pay11
open Cert.UpActIdeal.Gen (k0_pay3 k0_pay4 k0_pay5 k0_pay6 k0_pay8 k0_pay9 k0_pay10 k0_pay11)
open Cert.UpActIdeal.MM (pay3_apply pay4_apply pay5_apply pay6_apply pay8_apply pay9_apply pay10_apply pay11_apply)

section
variable {F : FTy → Type} [FloatOps F] (c : Dev nD) (i : grid0.Coords) (a3 : Memref sig .tc .vmem S1024x1024 .bf16) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x1024 .f32) (h11 : a11.IsWhole) (a12 : Memref sig .tc .vmem S1024x1024 .f32) (h12 : a12.IsWhole)
  (x0 : Vec F S1024x1024 .bf16) (x1 : Vec F S1x1x1024x1024 .bf16) (x2 : Vec F S1024x1024 .f32) (x3 : Vec F S1024x1024 .f32) (x4 : Vec F S1x1024 .f32) (xo7 xo8 : Vec F S1x1024 .f32) (xs : Vec F S1024x1024 .f32)

theorem scr_A (hc0 : cond0_0 i) (hc1 : ¬cond0_1 i) :
    sout0_A_0 c i a3 h3 a4 h4 a5 h5 a6 h6 a7 h7 a8 h8 a9 h9 a10 h10 a11 h11 a12 h12 hc0 hc1 x0 x1 x2 x3 x4 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S1024x1024) MM.hz, View.ld_unit_zero (S := S1x1x1024x1024) MM.hz4, View.ld_unit_zero (S := S1x1024) MM.hz]

theorem scr_B (hc0 : ¬cond0_0 i) (hc1 : ¬cond0_1 i) :
    sout0_B_0 c i a3 h3 a4 h4 a5 h5 a6 h6 a7 h7 a8 h8 a9 h9 a10 h10 a11 h11 a12 h12 hc0 hc1 x0 x1 x2 x3 x4 xs = k0_pay2 xs x0 x1 := by
  unfold sout0_B_0
  rw [View.read_writes_eq_canon _ _ _ (fun _ => scover0_B_0 ..)]
  unfold kernelRun0_B
  dsimp only
  sl_unfold_words
  rw [View.canon_unit_zero (S := S1024x1024) MM.hz]
  simp only [View.readAt_eq_ld, h3.read_unread, h4.read_unread, h12.read_unread, View.ld_unit_zero (S := S1024x1024) MM.hz, View.ld_unit_zero (S := S1x1x1024x1024) MM.hz4, View.ld_unit_zero (S := S1x1024) MM.hz]

set_option maxHeartbeats 1600000 in
/-- What a block's last point writes out. -/
theorem out_C (hc0 : ¬cond0_0 i) (hc1 : cond0_1 i) (hc2 : cond0_2 i) (hc3 : cond0_3 i) :
    out0_C_5 c i a3 h3 a4 h4 a5 h5 a6 h6 a7 h7 a8 h8 a9 h9 a10 h10 a11 h11 a12 h12 hc0 hc1 hc2 hc3 x0 x1 x2 x3 x4 xs = k0_pay8 (k0_pay2 xs x0 x1) x2 x3 x4 ∧
    out0_C_6 c i a3 h3 a4 h4 a5 h5 a6 h6 a7 h7 a8 h8 a9 h9 a10 h10 a11 h11 a12 h12 hc0 hc1 hc2 hc3 x0 x1 x2 x3 x4 xs = k0_pay11 (k0_pay2 xs x0 x1) x2 x3 x4 ∧
    out0_C_7 c i a3 h3 a4 h4 a5 h5 a6 h6 a7 h7 a8 h8 a9 h9 a10 h10 a11 h11 a12 h12 hc0 hc1 hc2 hc3 x0 x1 x2 x3 x4 xs = k0_pay4 (k0_pay9 (k0_pay2 xs x0 x1) x2) k0_pay3 ∧
    out0_C_8 c i a3 h3 a4 h4 a5 h5 a6 h6 a7 h7 a8 h8 a9 h9 a10 h10 a11 h11 a12 h12 hc0 hc1 hc2 hc3 x0 x1 x2 x3 x4 xs = k0_pay6 (k0_pay10 (k0_pay2 xs x0 x1) x2 x3 x4) k0_pay5 := by
  unfold out0_C_5 out0_C_6 out0_C_7 out0_C_8
  rw [View.read_writes_eq_canon _ _ _ (fun _ => cover0_C_5 ..), View.read_writes_eq_canon _ _ _ (fun _ => cover0_C_6 ..), View.read_writes_eq_canon _ _ _ (fun _ => cover0_C_7 ..), View.read_writes_eq_canon _ _ _ (fun _ => cover0_C_8 ..)]
  unfold kernelRun0_C
  dsimp only
  sl_unfold_words
  simp only [View.canon_unit_zero (S := S1024x1024) MM.hz, View.canon_cons_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h12.read_unread,
    View.ld_unit_zero (S := S1024x1024) MM.hz, View.ld_unit_zero (S := S1x1x1024x1024) MM.hz4, View.ld_unit_zero (S := S1x1024) MM.hz]
  exact ⟨rfl, rfl, rfl, rfl⟩

set_option maxHeartbeats 1600000 in
/-- What a block's last point writes out. -/
theorem out_D (hc0 : ¬cond0_0 i) (hc1 : cond0_1 i) (hc2 : ¬cond0_2 i) (hc3 : ¬cond0_3 i) :
    out0_D_5 c i a3 h3 a4 h4 a5 h5 a6 h6 a7 h7 a8 h8 a9 h9 a10 h10 a11 h11 a12 h12 hc0 hc1 hc2 hc3 x0 x1 x2 x3 x4 xo7 xo8 xs = k0_pay8 (k0_pay2 xs x0 x1) x2 x3 x4 ∧
    out0_D_6 c i a3 h3 a4 h4 a5 h5 a6 h6 a7 h7 a8 h8 a9 h9 a10 h10 a11 h11 a12 h12 hc0 hc1 hc2 hc3 x0 x1 x2 x3 x4 xo7 xo8 xs = k0_pay11 (k0_pay2 xs x0 x1) x2 x3 x4 ∧
    out0_D_7 c i a3 h3 a4 h4 a5 h5 a6 h6 a7 h7 a8 h8 a9 h9 a10 h10 a11 h11 a12 h12 hc0 hc1 hc2 hc3 x0 x1 x2 x3 x4 xo7 xo8 xs = k0_pay4 (k0_pay9 (k0_pay2 xs x0 x1) x2) xo7 ∧
    out0_D_8 c i a3 h3 a4 h4 a5 h5 a6 h6 a7 h7 a8 h8 a9 h9 a10 h10 a11 h11 a12 h12 hc0 hc1 hc2 hc3 x0 x1 x2 x3 x4 xo7 xo8 xs = k0_pay6 (k0_pay10 (k0_pay2 xs x0 x1) x2 x3 x4) xo8 := by
  unfold out0_D_5 out0_D_6 out0_D_7 out0_D_8
  rw [View.read_writes_eq_canon _ _ _ (fun _ => cover0_D_5 ..), View.read_writes_eq_canon _ _ _ (fun _ => cover0_D_6 ..), View.read_writes_eq_canon _ _ _ (fun _ => cover0_D_7 ..), View.read_writes_eq_canon _ _ _ (fun _ => cover0_D_8 ..)]
  unfold kernelRun0_D
  dsimp only
  sl_unfold_words
  simp only [View.canon_unit_zero (S := S1024x1024) MM.hz, View.canon_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h10.read_unread, h11.read_unread, h12.read_unread,
    View.ld_unit_zero (S := S1024x1024) MM.hz, View.ld_unit_zero (S := S1x1x1024x1024) MM.hz4, View.ld_unit_zero (S := S1x1024) MM.hz]
  exact ⟨rfl, rfl, rfl, rfl⟩

end

theorem pay1_apply (r c : Fin 1024) : (k0_pay1 (F := Ideal)) (ix2 r c) = 0 := by
  pointwise [k0_pay1]

theorem pay2_apply (xs : Vec Ideal S1024x1024 .f32) (x0 : Vec Ideal S1024x1024 .bf16) (x1 : Vec Ideal S1x1x1024x1024 .bf16) (r c : Fin 1024) :
    (k0_pay2 (F := Ideal) xs x0 x1) (ix2 r c) = xs (ix2 r c) + ∑ k : Fin 1024, x0 (ix2 r k) * x1 (ix4 0 0 c k) := by
  pointwise [k0_pay2]

theorem ix : ∀ t : Fin cfg0.N, win0_0.index t = ![(t.val / 4 : ℕ), t.val % 4] ∧ win0_1.index t = ![(t.val % 4 : ℕ), 1, 0, 0] ∧ win0_2.index t = ![(t.val / 4 : ℕ), 0] ∧ win0_3.index t = ![(t.val / 4 : ℕ), 0] ∧ win0_5.index t = ![(t.val / 4 : ℕ), 0] ∧ win0_6.index t = ![(t.val / 4 : ℕ), 0] ∧ win0_4.index t = ![0, 0] ∧ win0_7.index t = ![0, 0] ∧ win0_8.index t = ![0, 0] := (by decide +kernel : ∀ t : Fin grid0.N, _)

variable (m : (ℓ : Loc nD τ sig) → Buf (Elt Ideal) ℓ) (c : Dev nD) {X Y Z : ℕ → ℕ → EReal} {W : ℕ → ℕ → ℕ → ℕ → EReal} {G : ℕ → EReal}
  (hX : ∀ x : S8192x4096.Idx, (V m c main_arg0 : S8192x4096.Idx → EReal) x = X (x 0).val (x 1).val)
  (hW : ∀ x : S4x2x1024x1024.Idx, (V m c main_arg1 : S4x2x1024x1024.Idx → EReal) x = W (x 0).val (x 1).val (x 2).val (x 3).val)
  (hY : ∀ x : S8192x1024.Idx, (V m c main_arg2 : S8192x1024.Idx → EReal) x = Y (x 0).val (x 1).val)
  (hG : ∀ x : S1024.Idx, (V m c main_arg3 : S1024.Idx → EReal) x = G (x 0).val)
  (hZ : ∀ x : S8192x1024.Idx, (V m c main_arg4 : S8192x1024.Idx → EReal) x = Z (x 0).val (x 1).val)

/-- The blocks of one point, as arrays of extended reals. -/
abbrev bA (t : Fin cfg0.N) : S1024x1024.Idx → EReal := iblk m c 0 t
abbrev bB (t : Fin cfg0.N) : S1x1x1024x1024.Idx → EReal := iblk m c 1 t
abbrev bC (t : Fin cfg0.N) : S1024x1024.Idx → EReal := iblk m c 2 t
abbrev bD (t : Fin cfg0.N) : S1024x1024.Idx → EReal := iblk m c 3 t
abbrev bE (t : Fin cfg0.N) : S1x1024.Idx → EReal := iblk m c 4 t

section
include hX
theorem blk_A (t : Fin cfg0.N) (r : Fin 1024) (k : Fin 1024) : bA m c t (ix2 r k) = X (1024 * (t.val / 4) + r.val) (1024 * (t.val % 4) + k.val) := by
  show (V m c main_arg0 : S8192x4096.Idx → EReal) (((cfg0.win 0).blk t).view.emb (ix2 r k)) = _
  rw [hX]
  blk_simp [ix]
  congr 1 <;> omega
end

section
include hW
theorem blk_B (t : Fin cfg0.N) (c' : Fin 1024) (k : Fin 1024) : bB m c t (ix4 0 0 c' k) = W (t.val % 4) 1 c'.val k.val := by
  show (V m c main_arg1 : S4x2x1024x1024.Idx → EReal) (((cfg0.win 1).blk t).view.emb (ix4 0 0 c' k)) = _
  rw [hW]
  blk_simp [ix]
  rfl
end

section
include hY
theorem blk_C (t : Fin cfg0.N) (r k : Fin 1024) : bC m c t (ix2 r k) = Y (1024 * (t.val / 4) + r.val) k.val := by
  show (V m c main_arg2 : S8192x1024.Idx → EReal) (((cfg0.win 2).blk t).view.emb (ix2 r k)) = _
  rw [hY]
  blk_simp [ix]
  congr 1 <;> omega
end

section
include hZ
theorem blk_D (t : Fin cfg0.N) (r k : Fin 1024) : bD m c t (ix2 r k) = Z (1024 * (t.val / 4) + r.val) k.val := by
  show (V m c main_arg4 : S8192x1024.Idx → EReal) (((cfg0.win 3).blk t).view.emb (ix2 r k)) = _
  rw [hZ]
  blk_simp [ix]
  congr 1 <;> omega
end

/-- The row as the host hands it over: a matrix of one row. -/
theorem V_row0 : V m c main_v0 = (shapeCast S1x1024 (m ((c : Thread nD τ).loc main_arg3) : FVec Ideal S1024 .f32) shapeCasts_S1024_S1x1024 : FVec Ideal S1x1024 .f32) := by
  unfold_abbrev_sides
  after_results
  rfl

section
include hG
theorem row_val0 (x : S1x1024.Idx) : (V m c main_v0 : S1x1024.Idx → EReal) x = G (x 1).val := by
  have h := hG (ix1 (x 1))
  rw [V_main_arg3] at h
  rw [V_row0, ValueIdx.eq_ix2 x]
  pointwise
  exact h

theorem blk_G (t : Fin cfg0.N) (c' : Fin 1024) : bE m c t (ix2 0 c') = G c'.val := by
  show (V m c main_v0 : S1x1024.Idx → EReal) (((cfg0.win 4).blk t).view.emb (ix2 0 c')) = _
  rw [row_val0 m c hG]
  blk_simp [ix]
end

/-- One summand of the product. -/
def term (X : ℕ → ℕ → EReal) (W : ℕ → ℕ → ℕ → ℕ → EReal) (r n k : ℕ) : EReal := X r k * W (k / 1024) 1 n (k % 1024)

/-- The product at an entry. -/
def P (X : ℕ → ℕ → EReal) (W : ℕ → ℕ → ℕ → ℕ → EReal) (r n : ℕ) : EReal := ∑ k ∈ range 4096, term X W r n k

section
include hX hW

/-- One point's product at an entry. -/
theorem step (t : Fin cfg0.N) (r c' : Fin 1024) :
    ∑ k : Fin 1024, bA m c t (ix2 r k) * bB m c t (ix4 0 0 c' k)
      = ∑ k ∈ range 1024, term X W (1024 * (t.val / 4) + r.val) c'.val (1024 * (t.val % 4) + k) := by
  refine Eq.trans ?_ (MM.sum_fin 1024 fun k => term X W (1024 * (t.val / 4) + r.val) c'.val (1024 * (t.val % 4) + k))
  refine sum_congr rfl fun k _ => ?_
  unfold term
  rw [show (1024 * (t.val % 4) + k.val) / 1024 = t.val % 4 by omega, show (1024 * (t.val % 4) + k.val) % 1024 = k.val by omega]
  exact congrArg₂ (· * ·) (blk_A m c hX t r k) (blk_B m c hW t c' k)

/-- The scratch before a block's last point holds the sum over the columns so far. -/
theorem acc_eq (n : ℕ) (h : n < cfg0.N) (h3 : n % 4 ≠ 3) (r c' : Fin 1024) :
    ((outsAt0 m c n h).2.2.2.2 : S1024x1024.Idx → EReal) (ix2 r c') = ∑ k ∈ range (1024 * (n % 4) + 1024), term X W (1024 * (n / 4) + r.val) c'.val k :=
  MM.acc_rec 1024 (fun n h => ((outsAt0 m c n h).2.2.2.2 : S1024x1024.Idx → EReal) (ix2 r c')) (fun q k => term X W (1024 * (q) + r.val) c'.val k)
    (fun n h h0 => by
      refine (congrFun (congrArg (fun p => p.2.2.2.2) (outsAt0_A m c ⟨n, h⟩ h0 (show n % 4 ≠ 3 by omega))) (ix2 r c')).trans ?_
      dsimp only
      rw [scr_A, pay2_apply, pay1_apply, zero_add]
      exact step m c hX hW ⟨n, h⟩ r c')
    (fun p h h0 h3 => by
      refine (congrFun (congrArg (fun p => p.2.2.2.2) (outsAt0_B m c ⟨p + 1, h⟩ h0 h3)) (ix2 r c')).trans ?_
      dsimp only
      rw [scr_B, pay2_apply]
      exact congrArg₂ (· + ·) rfl (step m c hX hW ⟨p + 1, h⟩ r c')) n h h3
end

/-- The product that the last point of a block has, as the program computes it. -/
abbrev uu (t : Fin cfg0.N) : Vec Ideal S1024x1024 .f32 :=
  k0_pay2 (F := Ideal) (outsAt0 m c (t.val - 1) (Nat.lt_of_le_of_lt (Nat.sub_le _ _) t.isLt)).2.2.2.2 (iblk m c 0 t) (iblk m c 1 t)

section
include hX hW
/-- The product that the last point of a block has. -/
theorem du_eq (t : Fin cfg0.N) (h3 : t.val % 4 = 3) (r c' : Fin 1024) :
    (uu m c t) (ix2 r c') = P X W (1024 * (t.val / 4) + r.val) c'.val := by
  refine (pay2_apply _ _ _ r c').trans ?_
  refine (congrArg₂ (· + ·) (acc_eq m c hX hW (t.val - 1) _ (by omega) r c') (step m c hX hW t r c')).trans ?_
  rw [show (t.val - 1) % 4 = 2 by omega, show (t.val - 1) / 4 = t.val / 4 by omega, h3]
  exact (MM.sum_cut (fun k => term X W (1024 * (t.val / 4) + r.val) c'.val k) 3072 1024).symm
end

/-- The cotangent at an entry. -/
def dh (X : ℕ → ℕ → EReal) (W : ℕ → ℕ → ℕ → ℕ → EReal) (Y Z : ℕ → ℕ → EReal) (G : ℕ → EReal) (r n : ℕ) : EReal := Z r n + Rms.dx (P X W) Y G r n

section
include hX hW hY hG hZ
theorem dh_eq (t : Fin cfg0.N) (h3 : t.val % 4 = 3) (r c' : Fin 1024) :
    (k0_pay8 (F := Ideal) (uu m c t) (iblk m c 2 t) (iblk m c 3 t) (iblk m c 4 t)) (ix2 r c') = dh X W Y Z G (1024 * (t.val / 4) + r.val) c'.val := by
  rw [pay8_apply]
  exact congrArg₂ (· + ·) (blk_D m c hZ t r c') (Rms.dxf_eq (u := fun k => (uu m c t) (ix2 r k)) (x := fun k => bC m c t (ix2 r k)) (g := fun k => bE m c t (ix2 0 k))
    (fun k => du_eq m c hX hW t h3 r k) (fun k => blk_C m c hY t r k) (fun k => blk_G m c hG t k) c')

/-- A block's part of the cotangent's column sum. -/
theorem col_eq (t : Fin cfg0.N) (h3 : t.val % 4 = 3) (c' : Fin 1024) :
    (k0_pay10 (F := Ideal) (uu m c t) (iblk m c 2 t) (iblk m c 3 t) (iblk m c 4 t)) (ix2 0 c')
      = ∑ r ∈ range 1024, dh X W Y Z G (1024 * (t.val / 4) + r) c'.val := by
  rw [pay10_apply]
  refine Eq.trans ?_ (MM.sum_fin 1024 fun r => dh X W Y Z G (1024 * (t.val / 4) + r) c'.val)
  exact sum_congr rfl fun r _ => dh_eq m c hX hW hY hG hZ t h3 r c'
end

section
include hX hW hY
/-- A block's part of the gain's derivative. -/
theorem dg_eq (t : Fin cfg0.N) (h3 : t.val % 4 = 3) (c' : Fin 1024) :
    (k0_pay9 (F := Ideal) (uu m c t) (iblk m c 2 t)) (ix2 0 c')
      = ∑ r ∈ range 1024, Rms.dg (P X W) Y (1024 * (t.val / 4) + r) c'.val := by
  rw [pay9_apply]
  refine Eq.trans ?_ (MM.sum_fin 1024 fun r => Rms.dg (P X W) Y (1024 * (t.val / 4) + r) c'.val)
  exact sum_congr rfl fun r _ => Rms.dgf_eq (u := fun k => (uu m c t) (ix2 r k)) (x := fun k => bC m c t (ix2 r k))
    (fun k => du_eq m c hX hW t h3 r k) (fun k => blk_C m c hY t r k) c'
end

section
include hX hW hY hG hZ
/-- The cotangent after the run. -/
theorem out_eq_5 : (dats m 0 c).arrAt 5 cfg0.N = fun x : S8192x1024.Idx => dh X W Y Z G (x 0).val (x 1).val := by
  refine (dats m 0 c).arrAt_eq_of_covers 5 _ (by decide +kernel) fun t hf y => ?_
  have h3 : t.val % 4 = 3 := (flush0_5 t).1 hf
  have h0 : ¬ t.val % 4 = 0 := by omega
  have hk : ∀ (r c' : Fin 1024), ((outsAt0 m c t.val t.isLt).1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).1]
      exact dh_eq m c hX hW hY hG hZ t h3 r c'
    · rw [outsAt0_D m c t h0 h3 h2 h2]
      dsimp only
      rw [(out_D ..).1]
      exact dh_eq m c hX hW hY hG hZ t h3 r c'
  blk_simp [ix]
  rw [after0_5]
  have he := congrArg ((outsAt0 m c t.val t.isLt).1 : S1024x1024.Idx → EReal) (ValueIdx.eq_ix2 y)
  refine (he.trans (hk (y 0) (y 1))).trans ?_
  rw [Nat.mul_comm 1024 (t.val / 4)]
end

section
include hX hW hY hG hZ
/-- The cotangent after the run. -/
theorem out_eq_6 : (dats m 0 c).arrAt 6 cfg0.N = fun x : S8192x1024.Idx => dh X W Y Z G (x 0).val (x 1).val := by
  refine (dats m 0 c).arrAt_eq_of_covers 6 _ (by decide +kernel) fun t hf y => ?_
  have h3 : t.val % 4 = 3 := (flush0_6 t).1 hf
  have h0 : ¬ t.val % 4 = 0 := by omega
  have hk : ∀ (r c' : Fin 1024), ((outsAt0 m c t.val t.isLt).2.1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).2.1, pay11_apply]
      exact dh_eq m c hX hW hY hG hZ t h3 r c'
    · rw [outsAt0_D m c t h0 h3 h2 h2]
      dsimp only
      rw [(out_D ..).2.1, pay11_apply]
      exact dh_eq m c hX hW hY hG hZ t h3 r c'
  blk_simp [ix]
  rw [after0_6]
  have he := congrArg ((outsAt0 m c t.val t.isLt).2.1 : S1024x1024.Idx → EReal) (ValueIdx.eq_ix2 y)
  refine (he.trans (hk (y 0) (y 1))).trans ?_
  rw [Nat.mul_comm 1024 (t.val / 4)]
end

section
include hX hW hY
/-- The row of sums after each of a block's points: the blocks so far. -/
theorem row_eq_7 (n : ℕ) (h : n < cfg0.N) (hn : 3 ≤ n) (c' : Fin 1024) :
    ((outsAt0 m c n h).2.2.1 : S1x1024.Idx → EReal) (ix2 0 c') = ∑ r ∈ range (1024 * ((n + 1) / 4)), Rms.dg (P X W) Y r c'.val :=
  Rms.rows_rec (fun n h => ((outsAt0 m c n h).2.2.1 : S1x1024.Idx → EReal) (ix2 0 c')) (fun r => Rms.dg (P X W) Y r c'.val)
    (fun p h hp => by
      by_cases h0 : (p + 1) % 4 = 0
      · exact congrFun (congrArg (fun p => p.2.2.1) (outsAt0_A m c ⟨p + 1, h⟩ h0 hp)) _
      · exact congrFun (congrArg (fun p => p.2.2.1) (outsAt0_B m c ⟨p + 1, h⟩ h0 hp)) _)
    (fun p h hp h2 => by
      refine (congrFun (congrArg (fun p => p.2.2.1) (outsAt0_C m c ⟨p + 1, h⟩ (show ¬(p + 1) % 4 = 0 by omega) hp h2 h2)) _).trans ?_
      dsimp only
      rw [(out_C ..).2.2.1, pay4_apply, pay3_apply, zero_add]
      exact dg_eq m c hX hW hY ⟨p + 1, h⟩ hp c')
    (fun p h hp h2 => by
      refine (congrFun (congrArg (fun p => p.2.2.1) (outsAt0_D m c ⟨p + 1, h⟩ (show ¬(p + 1) % 4 = 0 by omega) hp h2 h2)) _).trans ?_
      dsimp only
      rw [(out_D ..).2.2.1, pay4_apply]
      exact congrArg₂ (· + ·) rfl (dg_eq m c hX hW hY ⟨p + 1, h⟩ hp c')) n h hn

/-- The row of sums after the run. -/
theorem out_eq_7 : (dats m 0 c).arrAt 7 cfg0.N = fun x : S1x1024.Idx => ∑ r ∈ range 8192, Rms.dg (P X W) Y r (x 1).val := by
  refine (dats m 0 c).arrAt_eq_of_covers 7 _ (by decide +kernel) fun t hf y => ?_
  have hN : t.val < 32 := t.isLt
  have h31 : t.val % 32 = 31 := (flush0_7 t).1 hf
  have hk : ∀ c' : Fin 1024, ((outsAt0 m c t.val t.isLt).2.2.1 : S1x1024.Idx → EReal) (ix2 0 c') = ∑ r ∈ range 8192, Rms.dg (P X W) Y r c'.val := fun c' => by
    rw [row_eq_7 m c hX hW hY t.val t.isLt (by omega) c', show 1024 * ((t.val + 1) / 4) = 8192 by omega]
  blk_simp [ix]
  rw [after0_7]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.1 : S1x1024.Idx → EReal) hy
  exact he.trans (hk (y 1))
end

section
include hX hW hY hG hZ
/-- The row of sums after each of a block's points: the blocks so far. -/
theorem row_eq_8 (n : ℕ) (h : n < cfg0.N) (hn : 3 ≤ n) (c' : Fin 1024) :
    ((outsAt0 m c n h).2.2.2.1 : S1x1024.Idx → EReal) (ix2 0 c') = ∑ r ∈ range (1024 * ((n + 1) / 4)), dh X W Y Z G r c'.val :=
  Rms.rows_rec (fun n h => ((outsAt0 m c n h).2.2.2.1 : S1x1024.Idx → EReal) (ix2 0 c')) (fun r => dh X W Y Z G r c'.val)
    (fun p h hp => by
      by_cases h0 : (p + 1) % 4 = 0
      · exact congrFun (congrArg (fun p => p.2.2.2.1) (outsAt0_A m c ⟨p + 1, h⟩ h0 hp)) _
      · exact congrFun (congrArg (fun p => p.2.2.2.1) (outsAt0_B m c ⟨p + 1, h⟩ h0 hp)) _)
    (fun p h hp h2 => by
      refine (congrFun (congrArg (fun p => p.2.2.2.1) (outsAt0_C m c ⟨p + 1, h⟩ (show ¬(p + 1) % 4 = 0 by omega) hp h2 h2)) _).trans ?_
      dsimp only
      rw [(out_C ..).2.2.2, pay6_apply, pay5_apply, zero_add]
      exact col_eq m c hX hW hY hG hZ ⟨p + 1, h⟩ hp c')
    (fun p h hp h2 => by
      refine (congrFun (congrArg (fun p => p.2.2.2.1) (outsAt0_D m c ⟨p + 1, h⟩ (show ¬(p + 1) % 4 = 0 by omega) hp h2 h2)) _).trans ?_
      dsimp only
      rw [(out_D ..).2.2.2, pay6_apply]
      exact congrArg₂ (· + ·) rfl (col_eq m c hX hW hY hG hZ ⟨p + 1, h⟩ hp c')) n h hn

/-- The row of sums after the run. -/
theorem out_eq_8 : (dats m 0 c).arrAt 8 cfg0.N = fun x : S1x1024.Idx => ∑ r ∈ range 8192, dh X W Y Z G r (x 1).val := by
  refine (dats m 0 c).arrAt_eq_of_covers 8 _ (by decide +kernel) fun t hf y => ?_
  have hN : t.val < 32 := t.isLt
  have h31 : t.val % 32 = 31 := (flush0_8 t).1 hf
  have hk : ∀ c' : Fin 1024, ((outsAt0 m c t.val t.isLt).2.2.2.1 : S1x1024.Idx → EReal) (ix2 0 c') = ∑ r ∈ range 8192, dh X W Y Z G r c'.val := fun c' => by
    rw [row_eq_8 m c hX hW hY hG hZ t.val t.isLt (by omega) c', show 1024 * ((t.val + 1) / 4) = 8192 by omega]
  blk_simp [ix]
  rw [after0_8]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.2.1 : S1x1024.Idx → EReal) hy
  exact he.trans (hk (y 1))
end

end Cert.UpActBIdeal.MM

namespace Cert.UpActBRefIdeal.MM

open Cert.UpActBRefIdeal Cert.UpActBRefIdeal.Gen

/-- The reference's product at an entry. -/
theorem prod_val {X : ℕ → ℕ → EReal} {W : ℕ → ℕ → ℕ → ℕ → EReal} (A : FVec Ideal S8192x4096 .bf16) (B : FVec Ideal S4x2x1024x1024 .bf16)
    (hX : ∀ x, A x = X (x 0).val (x 1).val) (hW : ∀ x, B x = W (x 0).val (x 1).val (x 2).val (x 3).val) (i : S8192x1024.Idx) :
    Host.dotGeneral dot_S8192x4096_S1024x4096_S8192x1024_1_1_0_0_n_n none (extf .f32 A bitsLt_bf16_f32) (shapeCast _ (transpose S1024x4x1024 [1, 0, 2] (extf .f32 (shapeCast _ (extractStridedSlice S4x1x1024x1024 ![0, 1, 0, 0] B slices_S4x2x1024x1024_S4x1x1024x1024_0_1_0_0) shapeCasts_S4x1x1024x1024_S4x1024x1024) bitsLt_bf16_f32) transposes_S4x1024x1024_S1024x4x1024_1_0_2) shapeCasts_S1024x4x1024_S1024x4096) i
      = UpActBIdeal.MM.P X W (i 0).val (i 1).val := by
  unfold UpActBIdeal.MM.P
  rw [ValueIdx.eq_ix2 i]
  pointwise
  refine Eq.trans ?_ (MM.sum_fin 4096 _)
  refine sum_congr rfl fun k _ => ?_
  rw [hX, hW]
  rfl

end Cert.UpActBRefIdeal.MM

namespace Cert.Proof

open Cert.UpActBIdeal

theorem UpActB_defs {F : FTy → Type} [FloatOps F] : (UpActB.defs (F := F)) = UpActBIdeal.defs (F := F) :=
  congrArg (Pipeline.defs (UpActBIdeal.pcfgs (F := F))) (show UpActB.defs₀ (F := F) = UpActBIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_UpActBIdeal : Cert.quiescent_UpActBIdeal := fun m ρ _ => UpActBIdeal.Gen.frame (F := Ideal) m ρ

theorem frame_UpActB : Cert.quiescent_UpActB := fun m ρ _ =>
  UpActB_defs (F := Bits) ▸ (θ_run (UpActBIdeal.defs (F := Bits)) _ _).mono (fun _ h => h) (UpActBIdeal.Gen.frame (F := Bits) m ρ)

theorem frame_UpActBRefIdeal : Cert.quiescent_UpActBRefIdeal := fun m ρ _ =>
  (θ_run (UpActBRefIdeal.defs (F := Ideal)) _ _).mono (fun _ h => ⟨fun c => (h c).2.2.2.2, funext fun a => nomatch a⟩)
    (UpActBRefIdeal.Value.run (F := Ideal) m ρ)

/-- The idealized kernel and its reference end with the same cotangents and sums. -/
theorem algebraic_UpActB : Cert.algebraic_UpActBIdeal_UpActBRefIdeal := fun m g m' g' _ hargs => by
  have hX := fun c : Dev nD => at2_eq (m ((c.tc : Thread nD τ).loc main_arg0) : S8192x4096.Idx → EReal)
  have hW := fun c : Dev nD => at4_eq (m ((c.tc : Thread nD τ).loc main_arg1) : S4x2x1024x1024.Idx → EReal)
  have hY := fun c : Dev nD => at2_eq (m ((c.tc : Thread nD τ).loc main_arg2) : S8192x1024.Idx → EReal)
  have hG := fun c : Dev nD => at1_eq (m ((c.tc : Thread nD τ).loc main_arg3) : S1024.Idx → EReal)
  have hZ := fun c : Dev nD => at2_eq (m ((c.tc : Thread nD τ).loc main_arg4) : S8192x1024.Idx → EReal)
  have kX := fun (c : Dev nD) x => (congrFun (UpActBIdeal.Gen.V_main_arg0 m c) x).trans (hX c x)
  have kW := fun (c : Dev nD) x => (congrFun (UpActBIdeal.Gen.V_main_arg1 m c) x).trans (hW c x)
  have kY := fun (c : Dev nD) x => (congrFun (UpActBIdeal.Gen.V_main_arg2 m c) x).trans (hY c x)
  have kG := fun (c : Dev nD) x => (congrFun (UpActBIdeal.Gen.V_main_arg3 m c) x).trans (hG c x)
  have kZ := fun (c : Dev nD) x => (congrFun (UpActBIdeal.Gen.V_main_arg4 m c) x).trans (hZ c x)
  refine ⟨_, _, _, _, (θ_run (UpActBIdeal.defs (F := Ideal)) _ _).mono (fun r h c => ⟨(h c).1.trans (UpActBIdeal.MM.out_eq_5 m c (kX c) (kW c) (kY c) (kG c) (kZ c)), (h c).2.1.trans (UpActBIdeal.MM.out_eq_6 m c (kX c) (kW c) (kY c) (kG c) (kZ c)), (h c).2.2.1.trans (UpActBIdeal.MM.out_eq_7 m c (kX c) (kW c) (kY c)), (h c).2.2.2.1.trans (UpActBIdeal.MM.out_eq_8 m c (kX c) (kW c) (kY c) (kG c) (kZ c)), (h c).2.2.2.2⟩)
    (UpActBIdeal.Value.run_blocks (F := Ideal) m g), ?_⟩
  refine (θ_run (UpActBRefIdeal.defs (F := Ideal)) _ _).mono (fun r h c => ⟨(h c).1.trans ?_, (h c).2.1.trans ?_, (h c).2.2.1.trans ?_, (h c).2.2.2.1.trans ?_, (h c).2.2.2.2⟩)
    (UpActBRefIdeal.Value.run (F := Ideal) m' g')
  · unfold UpActBRefIdeal.Value.res_main_v44
    rw [(hargs c).1, (hargs c).2.1, (hargs c).2.2.1, (hargs c).2.2.2.1, (hargs c).2.2.2.2]
    exact funext fun x => NormRef.dh_val _ _ _ _ (UpActBRefIdeal.MM.prod_val _ _ (hX c) (hW c)) (hY c) (hG c) (hZ c) x
  · unfold UpActBRefIdeal.Value.res_main_v45
    rw [(hargs c).1, (hargs c).2.1, (hargs c).2.2.1, (hargs c).2.2.2.1, (hargs c).2.2.2.2]
    exact funext fun x => NormRef.dh_val _ _ _ _ (UpActBRefIdeal.MM.prod_val _ _ (hX c) (hW c)) (hY c) (hG c) (hZ c) x
  · rw [(hargs c).1, (hargs c).2.1, (hargs c).2.2.1]
    exact funext fun x => NormRef.dg_val _ _ (UpActBRefIdeal.MM.prod_val _ _ (hX c) (hW c)) (hY c) x
  · unfold UpActBRefIdeal.Value.res_main_v48
    rw [(hargs c).1, (hargs c).2.1, (hargs c).2.2.1, (hargs c).2.2.2.1, (hargs c).2.2.2.2]
    exact funext fun x => NormRef.col_val (Y := UpActBIdeal.MM.dh _ _ _ _ _) _ (NormRef.dh_val _ _ _ _ (UpActBRefIdeal.MM.prod_val _ _ (hX c) (hW c)) (hY c) (hG c) (hZ c)) x

end Cert.Proof
-- ==== Proof.GluActFin.lean ====
module

public import proofs.«01_k».proof.Proof.Gen.GluActIdeal.Value
public import proofs.«01_k».proof.Proof.Gen.GluActRefIdeal.Run
public import proofs.«01_k».proof.Proof.UpActFin
public import Idealize.ShloMosaic.Lib.Pipeline.ValueKit
public import proofs.«01_k».proof.Defs
public import proofs.«01_k».proof.Proof.Gen.GluAct
public import proofs.«01_k».proof.Proof.NormRef

/-! A product's backward pass with the norm's: the tiled program's values, and the reference's. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at1_eq at2_eq at3_eq at4_eq)

namespace Cert.GluActIdeal.MM

open Cert.GluActIdeal
open Cert.GluActIdeal.Gen hiding k0_pay3 k0_pay4 k0_pay5 k0_pay6 k0_pay8 k0_pay9 k0_pay10 k0_pay11
open Cert.UpActIdeal.Gen (k0_pay3 k0_pay4 k0_pay5 k0_pay6 k0_pay8 k0_pay9 k0_pay10 k0_pay11)
open Cert.UpActIdeal.MM (pay3_apply pay4_apply pay5_apply pay6_apply pay8_apply pay9_apply pay10_apply pay11_apply)

section
variable {F : FTy → Type} [FloatOps F] (c : Dev nD) (i : grid0.Coords) (a3 : Memref sig .tc .vmem S1024x512 .bf16) (h3 : a3.IsWhole) (a4 : Memref sig .tc .vmem S1x1024x512 .bf16) (h4 : a4.IsWhole) (a5 : Memref sig .tc .vmem S1024x1024 .f32) (h5 : a5.IsWhole) (a6 : Memref sig .tc .vmem S1024x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x1024 .f32) (h11 : a11.IsWhole) (a12 : Memref sig .tc .vmem S1024x1024 .f32) (h12 : a12.IsWhole)
  (x0 : Vec F S1024x512 .bf16) (x1 : Vec F S1x1024x512 .bf16) (x2 : Vec F S1024x1024 .f32) (x3 : Vec F S1024x1024 .f32) (x4 : Vec F S1x1024 .f32) (xo7 xo8 : Vec F S1x1024 .f32) (xs : Vec F S1024x1024 .f32)

theorem scr_A (hc0 : cond0_0 i) (hc1 : ¬cond0_1 i) :
    sout0_A_0 c i a3 h3 a4 h4 a5 h5 a6 h6 a7 h7 a8 h8 a9 h9 a10 h10 a11 h11 a12 h12 hc0 hc1 x0 x1 x2 x3 x4 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S1024x512) MM.hz, View.ld_unit_zero (S := S1024x1024) MM.hz, View.ld_unit_zero (S := S1x1024x512) MM.hz3, View.ld_unit_zero (S := S1x1024) MM.hz]

theorem scr_B (hc0 : ¬cond0_0 i) (hc1 : ¬cond0_1 i) :
    sout0_B_0 c i a3 h3 a4 h4 a5 h5 a6 h6 a7 h7 a8 h8 a9 h9 a10 h10 a11 h11 a12 h12 hc0 hc1 x0 x1 x2 x3 x4 xs = k0_pay2 xs x0 x1 := by
  unfold sout0_B_0
  rw [View.read_writes_eq_canon _ _ _ (fun _ => scover0_B_0 ..)]
  unfold kernelRun0_B
  dsimp only
  sl_unfold_words
  rw [View.canon_unit_zero (S := S1024x1024) MM.hz]
  simp only [View.readAt_eq_ld, h3.read_unread, h4.read_unread, h12.read_unread, View.ld_unit_zero (S := S1024x512) MM.hz, View.ld_unit_zero (S := S1024x1024) MM.hz, View.ld_unit_zero (S := S1x1024x512) MM.hz3, View.ld_unit_zero (S := S1x1024) MM.hz]

set_option maxHeartbeats 1600000 in
/-- What a block's last point writes out. -/
theorem out_C (hc0 : ¬cond0_0 i) (hc1 : cond0_1 i) (hc2 : cond0_2 i) (hc3 : cond0_3 i) :
    out0_C_5 c i a3 h3 a4 h4 a5 h5 a6 h6 a7 h7 a8 h8 a9 h9 a10 h10 a11 h11 a12 h12 hc0 hc1 hc2 hc3 x0 x1 x2 x3 x4 xs = k0_pay8 (k0_pay2 xs x0 x1) x2 x3 x4 ∧
    out0_C_6 c i a3 h3 a4 h4 a5 h5 a6 h6 a7 h7 a8 h8 a9 h9 a10 h10 a11 h11 a12 h12 hc0 hc1 hc2 hc3 x0 x1 x2 x3 x4 xs = k0_pay11 (k0_pay2 xs x0 x1) x2 x3 x4 ∧
    out0_C_7 c i a3 h3 a4 h4 a5 h5 a6 h6 a7 h7 a8 h8 a9 h9 a10 h10 a11 h11 a12 h12 hc0 hc1 hc2 hc3 x0 x1 x2 x3 x4 xs = k0_pay4 (k0_pay9 (k0_pay2 xs x0 x1) x2) k0_pay3 ∧
    out0_C_8 c i a3 h3 a4 h4 a5 h5 a6 h6 a7 h7 a8 h8 a9 h9 a10 h10 a11 h11 a12 h12 hc0 hc1 hc2 hc3 x0 x1 x2 x3 x4 xs = k0_pay6 (k0_pay10 (k0_pay2 xs x0 x1) x2 x3 x4) k0_pay5 := by
  unfold out0_C_5 out0_C_6 out0_C_7 out0_C_8
  rw [View.read_writes_eq_canon _ _ _ (fun _ => cover0_C_5 ..), View.read_writes_eq_canon _ _ _ (fun _ => cover0_C_6 ..), View.read_writes_eq_canon _ _ _ (fun _ => cover0_C_7 ..), View.read_writes_eq_canon _ _ _ (fun _ => cover0_C_8 ..)]
  unfold kernelRun0_C
  dsimp only
  sl_unfold_words
  simp only [View.canon_unit_zero (S := S1024x1024) MM.hz, View.canon_cons_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h12.read_unread,
    View.ld_unit_zero (S := S1024x512) MM.hz, View.ld_unit_zero (S := S1024x1024) MM.hz, View.ld_unit_zero (S := S1x1024x512) MM.hz3, View.ld_unit_zero (S := S1x1024) MM.hz]
  exact ⟨rfl, rfl, rfl, rfl⟩

set_option maxHeartbeats 1600000 in
/-- What a block's last point writes out. -/
theorem out_D (hc0 : ¬cond0_0 i) (hc1 : cond0_1 i) (hc2 : ¬cond0_2 i) (hc3 : ¬cond0_3 i) :
    out0_D_5 c i a3 h3 a4 h4 a5 h5 a6 h6 a7 h7 a8 h8 a9 h9 a10 h10 a11 h11 a12 h12 hc0 hc1 hc2 hc3 x0 x1 x2 x3 x4 xo7 xo8 xs = k0_pay8 (k0_pay2 xs x0 x1) x2 x3 x4 ∧
    out0_D_6 c i a3 h3 a4 h4 a5 h5 a6 h6 a7 h7 a8 h8 a9 h9 a10 h10 a11 h11 a12 h12 hc0 hc1 hc2 hc3 x0 x1 x2 x3 x4 xo7 xo8 xs = k0_pay11 (k0_pay2 xs x0 x1) x2 x3 x4 ∧
    out0_D_7 c i a3 h3 a4 h4 a5 h5 a6 h6 a7 h7 a8 h8 a9 h9 a10 h10 a11 h11 a12 h12 hc0 hc1 hc2 hc3 x0 x1 x2 x3 x4 xo7 xo8 xs = k0_pay4 (k0_pay9 (k0_pay2 xs x0 x1) x2) xo7 ∧
    out0_D_8 c i a3 h3 a4 h4 a5 h5 a6 h6 a7 h7 a8 h8 a9 h9 a10 h10 a11 h11 a12 h12 hc0 hc1 hc2 hc3 x0 x1 x2 x3 x4 xo7 xo8 xs = k0_pay6 (k0_pay10 (k0_pay2 xs x0 x1) x2 x3 x4) xo8 := by
  unfold out0_D_5 out0_D_6 out0_D_7 out0_D_8
  rw [View.read_writes_eq_canon _ _ _ (fun _ => cover0_D_5 ..), View.read_writes_eq_canon _ _ _ (fun _ => cover0_D_6 ..), View.read_writes_eq_canon _ _ _ (fun _ => cover0_D_7 ..), View.read_writes_eq_canon _ _ _ (fun _ => cover0_D_8 ..)]
  unfold kernelRun0_D
  dsimp only
  sl_unfold_words
  simp only [View.canon_unit_zero (S := S1024x1024) MM.hz, View.canon_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h10.read_unread, h11.read_unread, h12.read_unread,
    View.ld_unit_zero (S := S1024x512) MM.hz, View.ld_unit_zero (S := S1024x1024) MM.hz, View.ld_unit_zero (S := S1x1024x512) MM.hz3, View.ld_unit_zero (S := S1x1024) MM.hz]
  exact ⟨rfl, rfl, rfl, rfl⟩

end

theorem pay1_apply (r c : Fin 1024) : (k0_pay1 (F := Ideal)) (ix2 r c) = 0 := by
  pointwise [k0_pay1]

theorem pay2_apply (xs : Vec Ideal S1024x1024 .f32) (x0 : Vec Ideal S1024x512 .bf16) (x1 : Vec Ideal S1x1024x512 .bf16) (r c : Fin 1024) :
    (k0_pay2 (F := Ideal) xs x0 x1) (ix2 r c) = xs (ix2 r c) + ∑ k : Fin 512, x0 (ix2 r k) * x1 (ix3 0 c k) := by
  pointwise [k0_pay2]

theorem ix : ∀ t : Fin cfg0.N, win0_0.index t = ![(t.val / 4 : ℕ), t.val % 4] ∧ win0_1.index t = ![(t.val % 4 : ℕ), 0, 0] ∧ win0_2.index t = ![(t.val / 4 : ℕ), 0] ∧ win0_3.index t = ![(t.val / 4 : ℕ), 0] ∧ win0_5.index t = ![(t.val / 4 : ℕ), 0] ∧ win0_6.index t = ![(t.val / 4 : ℕ), 0] ∧ win0_4.index t = ![0, 0] ∧ win0_7.index t = ![0, 0] ∧ win0_8.index t = ![0, 0] := (by decide +kernel : ∀ t : Fin grid0.N, _)

variable (m : (ℓ : Loc nD τ sig) → Buf (Elt Ideal) ℓ) (c : Dev nD) {X Y Z : ℕ → ℕ → EReal} {W : ℕ → ℕ → ℕ → EReal} {G : ℕ → EReal}
  (hX : ∀ x : S8192x2048.Idx, (V m c main_arg0 : S8192x2048.Idx → EReal) x = X (x 0).val (x 1).val)
  (hW : ∀ x : S4x1024x512.Idx, (V m c main_arg1 : S4x1024x512.Idx → EReal) x = W (x 0).val (x 1).val (x 2).val)
  (hY : ∀ x : S8192x1024.Idx, (V m c main_arg2 : S8192x1024.Idx → EReal) x = Y (x 0).val (x 1).val)
  (hG : ∀ x : S1024.Idx, (V m c main_arg3 : S1024.Idx → EReal) x = G (x 0).val)
  (hZ : ∀ x : S8192x1024.Idx, (V m c main_arg4 : S8192x1024.Idx → EReal) x = Z (x 0).val (x 1).val)

/-- The blocks of one point, as arrays of extended reals. -/
abbrev bA (t : Fin cfg0.N) : S1024x512.Idx → EReal := iblk m c 0 t
abbrev bB (t : Fin cfg0.N) : S1x1024x512.Idx → EReal := iblk m c 1 t
abbrev bC (t : Fin cfg0.N) : S1024x1024.Idx → EReal := iblk m c 2 t
abbrev bD (t : Fin cfg0.N) : S1024x1024.Idx → EReal := iblk m c 3 t
abbrev bE (t : Fin cfg0.N) : S1x1024.Idx → EReal := iblk m c 4 t

section
include hX
theorem blk_A (t : Fin cfg0.N) (r : Fin 1024) (k : Fin 512) : bA m c t (ix2 r k) = X (1024 * (t.val / 4) + r.val) (512 * (t.val % 4) + k.val) := by
  show (V m c main_arg0 : S8192x2048.Idx → EReal) (((cfg0.win 0).blk t).view.emb (ix2 r k)) = _
  rw [hX]
  blk_simp [ix]
  congr 1 <;> omega
end

section
include hW
theorem blk_B (t : Fin cfg0.N) (c' : Fin 1024) (k : Fin 512) : bB m c t (ix3 0 c' k) = W (t.val % 4) c'.val k.val := by
  show (V m c main_arg1 : S4x1024x512.Idx → EReal) (((cfg0.win 1).blk t).view.emb (ix3 0 c' k)) = _
  rw [hW]
  blk_simp [ix]
  rfl
end

section
include hY
theorem blk_C (t : Fin cfg0.N) (r k : Fin 1024) : bC m c t (ix2 r k) = Y (1024 * (t.val / 4) + r.val) k.val := by
  show (V m c main_arg2 : S8192x1024.Idx → EReal) (((cfg0.win 2).blk t).view.emb (ix2 r k)) = _
  rw [hY]
  blk_simp [ix]
  congr 1 <;> omega
end

section
include hZ
theorem blk_D (t : Fin cfg0.N) (r k : Fin 1024) : bD m c t (ix2 r k) = Z (1024 * (t.val / 4) + r.val) k.val := by
  show (V m c main_arg4 : S8192x1024.Idx → EReal) (((cfg0.win 3).blk t).view.emb (ix2 r k)) = _
  rw [hZ]
  blk_simp [ix]
  congr 1 <;> omega
end

/-- The row as the host hands it over: a matrix of one row. -/
theorem V_row0 : V m c main_v0 = (shapeCast S1x1024 (m ((c : Thread nD τ).loc main_arg3) : FVec Ideal S1024 .f32) shapeCasts_S1024_S1x1024 : FVec Ideal S1x1024 .f32) := by
  unfold_abbrev_sides
  after_results
  rfl

section
include hG
theorem row_val0 (x : S1x1024.Idx) : (V m c main_v0 : S1x1024.Idx → EReal) x = G (x 1).val := by
  have h := hG (ix1 (x 1))
  rw [V_main_arg3] at h
  rw [V_row0, ValueIdx.eq_ix2 x]
  pointwise
  exact h

theorem blk_G (t : Fin cfg0.N) (c' : Fin 1024) : bE m c t (ix2 0 c') = G c'.val := by
  show (V m c main_v0 : S1x1024.Idx → EReal) (((cfg0.win 4).blk t).view.emb (ix2 0 c')) = _
  rw [row_val0 m c hG]
  blk_simp [ix]
end

/-- One summand of the product. -/
def term (X : ℕ → ℕ → EReal) (W : ℕ → ℕ → ℕ → EReal) (r n k : ℕ) : EReal := X r k * W (k / 512) n (k % 512)

/-- The product at an entry. -/
def P (X : ℕ → ℕ → EReal) (W : ℕ → ℕ → ℕ → EReal) (r n : ℕ) : EReal := ∑ k ∈ range 2048, term X W r n k

section
include hX hW

/-- One point's product at an entry. -/
theorem step (t : Fin cfg0.N) (r c' : Fin 1024) :
    ∑ k : Fin 512, bA m c t (ix2 r k) * bB m c t (ix3 0 c' k)
      = ∑ k ∈ range 512, term X W (1024 * (t.val / 4) + r.val) c'.val (512 * (t.val % 4) + k) := by
  refine Eq.trans ?_ (MM.sum_fin 512 fun k => term X W (1024 * (t.val / 4) + r.val) c'.val (512 * (t.val % 4) + k))
  refine sum_congr rfl fun k _ => ?_
  unfold term
  rw [show (512 * (t.val % 4) + k.val) / 512 = t.val % 4 by omega, show (512 * (t.val % 4) + k.val) % 512 = k.val by omega]
  exact congrArg₂ (· * ·) (blk_A m c hX t r k) (blk_B m c hW t c' k)

/-- The scratch before a block's last point holds the sum over the columns so far. -/
theorem acc_eq (n : ℕ) (h : n < cfg0.N) (h3 : n % 4 ≠ 3) (r c' : Fin 1024) :
    ((outsAt0 m c n h).2.2.2.2 : S1024x1024.Idx → EReal) (ix2 r c') = ∑ k ∈ range (512 * (n % 4) + 512), term X W (1024 * (n / 4) + r.val) c'.val k :=
  MM.acc_rec 512 (fun n h => ((outsAt0 m c n h).2.2.2.2 : S1024x1024.Idx → EReal) (ix2 r c')) (fun q k => term X W (1024 * (q) + r.val) c'.val k)
    (fun n h h0 => by
      refine (congrFun (congrArg (fun p => p.2.2.2.2) (outsAt0_A m c ⟨n, h⟩ h0 (show n % 4 ≠ 3 by omega))) (ix2 r c')).trans ?_
      dsimp only
      rw [scr_A, pay2_apply, pay1_apply, zero_add]
      exact step m c hX hW ⟨n, h⟩ r c')
    (fun p h h0 h3 => by
      refine (congrFun (congrArg (fun p => p.2.2.2.2) (outsAt0_B m c ⟨p + 1, h⟩ h0 h3)) (ix2 r c')).trans ?_
      dsimp only
      rw [scr_B, pay2_apply]
      exact congrArg₂ (· + ·) rfl (step m c hX hW ⟨p + 1, h⟩ r c')) n h h3
end

/-- The product that the last point of a block has, as the program computes it. -/
abbrev uu (t : Fin cfg0.N) : Vec Ideal S1024x1024 .f32 :=
  k0_pay2 (F := Ideal) (outsAt0 m c (t.val - 1) (Nat.lt_of_le_of_lt (Nat.sub_le _ _) t.isLt)).2.2.2.2 (iblk m c 0 t) (iblk m c 1 t)

section
include hX hW
/-- The product that the last point of a block has. -/
theorem du_eq (t : Fin cfg0.N) (h3 : t.val % 4 = 3) (r c' : Fin 1024) :
    (uu m c t) (ix2 r c') = P X W (1024 * (t.val / 4) + r.val) c'.val := by
  refine (pay2_apply _ _ _ r c').trans ?_
  refine (congrArg₂ (· + ·) (acc_eq m c hX hW (t.val - 1) _ (by omega) r c') (step m c hX hW t r c')).trans ?_
  rw [show (t.val - 1) % 4 = 2 by omega, show (t.val - 1) / 4 = t.val / 4 by omega, h3]
  exact (MM.sum_cut (fun k => term X W (1024 * (t.val / 4) + r.val) c'.val k) 1536 512).symm
end

/-- The cotangent at an entry. -/
def dh (X : ℕ → ℕ → EReal) (W : ℕ → ℕ → ℕ → EReal) (Y Z : ℕ → ℕ → EReal) (G : ℕ → EReal) (r n : ℕ) : EReal := Z r n + Rms.dx (P X W) Y G r n

section
include hX hW hY hG hZ
theorem dh_eq (t : Fin cfg0.N) (h3 : t.val % 4 = 3) (r c' : Fin 1024) :
    (k0_pay8 (F := Ideal) (uu m c t) (iblk m c 2 t) (iblk m c 3 t) (iblk m c 4 t)) (ix2 r c') = dh X W Y Z G (1024 * (t.val / 4) + r.val) c'.val := by
  rw [pay8_apply]
  exact congrArg₂ (· + ·) (blk_D m c hZ t r c') (Rms.dxf_eq (u := fun k => (uu m c t) (ix2 r k)) (x := fun k => bC m c t (ix2 r k)) (g := fun k => bE m c t (ix2 0 k))
    (fun k => du_eq m c hX hW t h3 r k) (fun k => blk_C m c hY t r k) (fun k => blk_G m c hG t k) c')

/-- A block's part of the cotangent's column sum. -/
theorem col_eq (t : Fin cfg0.N) (h3 : t.val % 4 = 3) (c' : Fin 1024) :
    (k0_pay10 (F := Ideal) (uu m c t) (iblk m c 2 t) (iblk m c 3 t) (iblk m c 4 t)) (ix2 0 c')
      = ∑ r ∈ range 1024, dh X W Y Z G (1024 * (t.val / 4) + r) c'.val := by
  rw [pay10_apply]
  refine Eq.trans ?_ (MM.sum_fin 1024 fun r => dh X W Y Z G (1024 * (t.val / 4) + r) c'.val)
  exact sum_congr rfl fun r _ => dh_eq m c hX hW hY hG hZ t h3 r c'
end

section
include hX hW hY
/-- A block's part of the gain's derivative. -/
theorem dg_eq (t : Fin cfg0.N) (h3 : t.val % 4 = 3) (c' : Fin 1024) :
    (k0_pay9 (F := Ideal) (uu m c t) (iblk m c 2 t)) (ix2 0 c')
      = ∑ r ∈ range 1024, Rms.dg (P X W) Y (1024 * (t.val / 4) + r) c'.val := by
  rw [pay9_apply]
  refine Eq.trans ?_ (MM.sum_fin 1024 fun r => Rms.dg (P X W) Y (1024 * (t.val / 4) + r) c'.val)
  exact sum_congr rfl fun r _ => Rms.dgf_eq (u := fun k => (uu m c t) (ix2 r k)) (x := fun k => bC m c t (ix2 r k))
    (fun k => du_eq m c hX hW t h3 r k) (fun k => blk_C m c hY t r k) c'
end

section
include hX hW hY hG hZ
/-- The cotangent after the run. -/
theorem out_eq_5 : (dats m 0 c).arrAt 5 cfg0.N = fun x : S8192x1024.Idx => dh X W Y Z G (x 0).val (x 1).val := by
  refine (dats m 0 c).arrAt_eq_of_covers 5 _ (by decide +kernel) fun t hf y => ?_
  have h3 : t.val % 4 = 3 := (flush0_5 t).1 hf
  have h0 : ¬ t.val % 4 = 0 := by omega
  have hk : ∀ (r c' : Fin 1024), ((outsAt0 m c t.val t.isLt).1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).1]
      exact dh_eq m c hX hW hY hG hZ t h3 r c'
    · rw [outsAt0_D m c t h0 h3 h2 h2]
      dsimp only
      rw [(out_D ..).1]
      exact dh_eq m c hX hW hY hG hZ t h3 r c'
  blk_simp [ix]
  rw [after0_5]
  have he := congrArg ((outsAt0 m c t.val t.isLt).1 : S1024x1024.Idx → EReal) (ValueIdx.eq_ix2 y)
  refine (he.trans (hk (y 0) (y 1))).trans ?_
  rw [Nat.mul_comm 1024 (t.val / 4)]
end

section
include hX hW hY hG hZ
/-- The cotangent after the run. -/
theorem out_eq_6 : (dats m 0 c).arrAt 6 cfg0.N = fun x : S8192x1024.Idx => dh X W Y Z G (x 0).val (x 1).val := by
  refine (dats m 0 c).arrAt_eq_of_covers 6 _ (by decide +kernel) fun t hf y => ?_
  have h3 : t.val % 4 = 3 := (flush0_6 t).1 hf
  have h0 : ¬ t.val % 4 = 0 := by omega
  have hk : ∀ (r c' : Fin 1024), ((outsAt0 m c t.val t.isLt).2.1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).2.1, pay11_apply]
      exact dh_eq m c hX hW hY hG hZ t h3 r c'
    · rw [outsAt0_D m c t h0 h3 h2 h2]
      dsimp only
      rw [(out_D ..).2.1, pay11_apply]
      exact dh_eq m c hX hW hY hG hZ t h3 r c'
  blk_simp [ix]
  rw [after0_6]
  have he := congrArg ((outsAt0 m c t.val t.isLt).2.1 : S1024x1024.Idx → EReal) (ValueIdx.eq_ix2 y)
  refine (he.trans (hk (y 0) (y 1))).trans ?_
  rw [Nat.mul_comm 1024 (t.val / 4)]
end

section
include hX hW hY
/-- The row of sums after each of a block's points: the blocks so far. -/
theorem row_eq_7 (n : ℕ) (h : n < cfg0.N) (hn : 3 ≤ n) (c' : Fin 1024) :
    ((outsAt0 m c n h).2.2.1 : S1x1024.Idx → EReal) (ix2 0 c') = ∑ r ∈ range (1024 * ((n + 1) / 4)), Rms.dg (P X W) Y r c'.val :=
  Rms.rows_rec (fun n h => ((outsAt0 m c n h).2.2.1 : S1x1024.Idx → EReal) (ix2 0 c')) (fun r => Rms.dg (P X W) Y r c'.val)
    (fun p h hp => by
      by_cases h0 : (p + 1) % 4 = 0
      · exact congrFun (congrArg (fun p => p.2.2.1) (outsAt0_A m c ⟨p + 1, h⟩ h0 hp)) _
      · exact congrFun (congrArg (fun p => p.2.2.1) (outsAt0_B m c ⟨p + 1, h⟩ h0 hp)) _)
    (fun p h hp h2 => by
      refine (congrFun (congrArg (fun p => p.2.2.1) (outsAt0_C m c ⟨p + 1, h⟩ (show ¬(p + 1) % 4 = 0 by omega) hp h2 h2)) _).trans ?_
      dsimp only
      rw [(out_C ..).2.2.1, pay4_apply, pay3_apply, zero_add]
      exact dg_eq m c hX hW hY ⟨p + 1, h⟩ hp c')
    (fun p h hp h2 => by
      refine (congrFun (congrArg (fun p => p.2.2.1) (outsAt0_D m c ⟨p + 1, h⟩ (show ¬(p + 1) % 4 = 0 by omega) hp h2 h2)) _).trans ?_
      dsimp only
      rw [(out_D ..).2.2.1, pay4_apply]
      exact congrArg₂ (· + ·) rfl (dg_eq m c hX hW hY ⟨p + 1, h⟩ hp c')) n h hn

/-- The row of sums after the run. -/
theorem out_eq_7 : (dats m 0 c).arrAt 7 cfg0.N = fun x : S1x1024.Idx => ∑ r ∈ range 8192, Rms.dg (P X W) Y r (x 1).val := by
  refine (dats m 0 c).arrAt_eq_of_covers 7 _ (by decide +kernel) fun t hf y => ?_
  have hN : t.val < 32 := t.isLt
  have h31 : t.val % 32 = 31 := (flush0_7 t).1 hf
  have hk : ∀ c' : Fin 1024, ((outsAt0 m c t.val t.isLt).2.2.1 : S1x1024.Idx → EReal) (ix2 0 c') = ∑ r ∈ range 8192, Rms.dg (P X W) Y r c'.val := fun c' => by
    rw [row_eq_7 m c hX hW hY t.val t.isLt (by omega) c', show 1024 * ((t.val + 1) / 4) = 8192 by omega]
  blk_simp [ix]
  rw [after0_7]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.1 : S1x1024.Idx → EReal) hy
  exact he.trans (hk (y 1))
end

section
include hX hW hY hG hZ
/-- The row of sums after each of a block's points: the blocks so far. -/
theorem row_eq_8 (n : ℕ) (h : n < cfg0.N) (hn : 3 ≤ n) (c' : Fin 1024) :
    ((outsAt0 m c n h).2.2.2.1 : S1x1024.Idx → EReal) (ix2 0 c') = ∑ r ∈ range (1024 * ((n + 1) / 4)), dh X W Y Z G r c'.val :=
  Rms.rows_rec (fun n h => ((outsAt0 m c n h).2.2.2.1 : S1x1024.Idx → EReal) (ix2 0 c')) (fun r => dh X W Y Z G r c'.val)
    (fun p h hp => by
      by_cases h0 : (p + 1) % 4 = 0
      · exact congrFun (congrArg (fun p => p.2.2.2.1) (outsAt0_A m c ⟨p + 1, h⟩ h0 hp)) _
      · exact congrFun (congrArg (fun p => p.2.2.2.1) (outsAt0_B m c ⟨p + 1, h⟩ h0 hp)) _)
    (fun p h hp h2 => by
      refine (congrFun (congrArg (fun p => p.2.2.2.1) (outsAt0_C m c ⟨p + 1, h⟩ (show ¬(p + 1) % 4 = 0 by omega) hp h2 h2)) _).trans ?_
      dsimp only
      rw [(out_C ..).2.2.2, pay6_apply, pay5_apply, zero_add]
      exact col_eq m c hX hW hY hG hZ ⟨p + 1, h⟩ hp c')
    (fun p h hp h2 => by
      refine (congrFun (congrArg (fun p => p.2.2.2.1) (outsAt0_D m c ⟨p + 1, h⟩ (show ¬(p + 1) % 4 = 0 by omega) hp h2 h2)) _).trans ?_
      dsimp only
      rw [(out_D ..).2.2.2, pay6_apply]
      exact congrArg₂ (· + ·) rfl (col_eq m c hX hW hY hG hZ ⟨p + 1, h⟩ hp c')) n h hn

/-- The row of sums after the run. -/
theorem out_eq_8 : (dats m 0 c).arrAt 8 cfg0.N = fun x : S1x1024.Idx => ∑ r ∈ range 8192, dh X W Y Z G r (x 1).val := by
  refine (dats m 0 c).arrAt_eq_of_covers 8 _ (by decide +kernel) fun t hf y => ?_
  have hN : t.val < 32 := t.isLt
  have h31 : t.val % 32 = 31 := (flush0_8 t).1 hf
  have hk : ∀ c' : Fin 1024, ((outsAt0 m c t.val t.isLt).2.2.2.1 : S1x1024.Idx → EReal) (ix2 0 c') = ∑ r ∈ range 8192, dh X W Y Z G r c'.val := fun c' => by
    rw [row_eq_8 m c hX hW hY hG hZ t.val t.isLt (by omega) c', show 1024 * ((t.val + 1) / 4) = 8192 by omega]
  blk_simp [ix]
  rw [after0_8]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.2.1 : S1x1024.Idx → EReal) hy
  exact he.trans (hk (y 1))
end

end Cert.GluActIdeal.MM

namespace Cert.GluActRefIdeal.MM

open Cert.GluActRefIdeal Cert.GluActRefIdeal.Gen

/-- The reference's product at an entry. -/
theorem prod_val {X : ℕ → ℕ → EReal} {W : ℕ → ℕ → ℕ → EReal} (A : FVec Ideal S8192x2048 .bf16) (B : FVec Ideal S4x1024x512 .bf16)
    (hX : ∀ x, A x = X (x 0).val (x 1).val) (hW : ∀ x, B x = W (x 0).val (x 1).val (x 2).val) (i : S8192x1024.Idx) :
    Host.dotGeneral dot_S8192x2048_S1024x2048_S8192x1024_1_1_0_0_n_n none (extf .f32 A bitsLt_bf16_f32) (shapeCast _ (transpose S1024x4x512 [1, 0, 2] (extf .f32 B bitsLt_bf16_f32) transposes_S4x1024x512_S1024x4x512_1_0_2) shapeCasts_S1024x4x512_S1024x2048) i
      = GluActIdeal.MM.P X W (i 0).val (i 1).val := by
  unfold GluActIdeal.MM.P
  rw [ValueIdx.eq_ix2 i]
  pointwise
  refine Eq.trans ?_ (MM.sum_fin 2048 _)
  refine sum_congr rfl fun k _ => ?_
  rw [hX, hW]
  rfl

end Cert.GluActRefIdeal.MM

namespace Cert.Proof

open Cert.GluActIdeal

theorem GluAct_defs {F : FTy → Type} [FloatOps F] : (GluAct.defs (F := F)) = GluActIdeal.defs (F := F) :=
  congrArg (Pipeline.defs (GluActIdeal.pcfgs (F := F))) (show GluAct.defs₀ (F := F) = GluActIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_GluActIdeal : Cert.quiescent_GluActIdeal := fun m ρ _ => GluActIdeal.Gen.frame (F := Ideal) m ρ

theorem frame_GluAct : Cert.quiescent_GluAct := fun m ρ _ =>
  GluAct_defs (F := Bits) ▸ (θ_run (GluActIdeal.defs (F := Bits)) _ _).mono (fun _ h => h) (GluActIdeal.Gen.frame (F := Bits) m ρ)

theorem frame_GluActRefIdeal : Cert.quiescent_GluActRefIdeal := fun m ρ _ =>
  (θ_run (GluActRefIdeal.defs (F := Ideal)) _ _).mono (fun _ h => ⟨fun c => (h c).2.2.2.2, funext fun a => nomatch a⟩)
    (GluActRefIdeal.Value.run (F := Ideal) m ρ)

/-- The idealized kernel and its reference end with the same cotangents and sums. -/
theorem algebraic_GluAct : Cert.algebraic_GluActIdeal_GluActRefIdeal := fun m g m' g' _ hargs => by
  have hX := fun c : Dev nD => at2_eq (m ((c.tc : Thread nD τ).loc main_arg0) : S8192x2048.Idx → EReal)
  have hW := fun c : Dev nD => at3_eq (m ((c.tc : Thread nD τ).loc main_arg1) : S4x1024x512.Idx → EReal)
  have hY := fun c : Dev nD => at2_eq (m ((c.tc : Thread nD τ).loc main_arg2) : S8192x1024.Idx → EReal)
  have hG := fun c : Dev nD => at1_eq (m ((c.tc : Thread nD τ).loc main_arg3) : S1024.Idx → EReal)
  have hZ := fun c : Dev nD => at2_eq (m ((c.tc : Thread nD τ).loc main_arg4) : S8192x1024.Idx → EReal)
  have kX := fun (c : Dev nD) x => (congrFun (GluActIdeal.Gen.V_main_arg0 m c) x).trans (hX c x)
  have kW := fun (c : Dev nD) x => (congrFun (GluActIdeal.Gen.V_main_arg1 m c) x).trans (hW c x)
  have kY := fun (c : Dev nD) x => (congrFun (GluActIdeal.Gen.V_main_arg2 m c) x).trans (hY c x)
  have kG := fun (c : Dev nD) x => (congrFun (GluActIdeal.Gen.V_main_arg3 m c) x).trans (hG c x)
  have kZ := fun (c : Dev nD) x => (congrFun (GluActIdeal.Gen.V_main_arg4 m c) x).trans (hZ c x)
  refine ⟨_, _, _, _, (θ_run (GluActIdeal.defs (F := Ideal)) _ _).mono (fun r h c => ⟨(h c).1.trans (GluActIdeal.MM.out_eq_5 m c (kX c) (kW c) (kY c) (kG c) (kZ c)), (h c).2.1.trans (GluActIdeal.MM.out_eq_6 m c (kX c) (kW c) (kY c) (kG c) (kZ c)), (h c).2.2.1.trans (GluActIdeal.MM.out_eq_7 m c (kX c) (kW c) (kY c)), (h c).2.2.2.1.trans (GluActIdeal.MM.out_eq_8 m c (kX c) (kW c) (kY c) (kG c) (kZ c)), (h c).2.2.2.2⟩)
    (GluActIdeal.Value.run_blocks (F := Ideal) m g), ?_⟩
  refine (θ_run (GluActRefIdeal.defs (F := Ideal)) _ _).mono (fun r h c => ⟨(h c).1.trans ?_, (h c).2.1.trans ?_, (h c).2.2.1.trans ?_, (h c).2.2.2.1.trans ?_, (h c).2.2.2.2⟩)
    (GluActRefIdeal.Value.run (F := Ideal) m' g')
  · unfold GluActRefIdeal.Value.res_main_v42
    rw [(hargs c).1, (hargs c).2.1, (hargs c).2.2.1, (hargs c).2.2.2.1, (hargs c).2.2.2.2]
    exact funext fun x => NormRef.dh_val _ _ _ _ (GluActRefIdeal.MM.prod_val _ _ (hX c) (hW c)) (hY c) (hG c) (hZ c) x
  · unfold GluActRefIdeal.Value.res_main_v43
    rw [(hargs c).1, (hargs c).2.1, (hargs c).2.2.1, (hargs c).2.2.2.1, (hargs c).2.2.2.2]
    exact funext fun x => NormRef.dh_val _ _ _ _ (GluActRefIdeal.MM.prod_val _ _ (hX c) (hW c)) (hY c) (hG c) (hZ c) x
  · rw [(hargs c).1, (hargs c).2.1, (hargs c).2.2.1]
    exact funext fun x => NormRef.dg_val _ _ (GluActRefIdeal.MM.prod_val _ _ (hX c) (hW c)) (hY c) x
  · unfold GluActRefIdeal.Value.res_main_v46
    rw [(hargs c).1, (hargs c).2.1, (hargs c).2.2.1, (hargs c).2.2.2.1, (hargs c).2.2.2.2]
    exact funext fun x => NormRef.col_val (Y := GluActIdeal.MM.dh _ _ _ _ _) _ (NormRef.dh_val _ _ _ _ (GluActRefIdeal.MM.prod_val _ _ (hX c) (hW c)) (hY c) (hG c) (hZ c)) x

end Cert.Proof
-- ==== Proof.InActFin.lean ====
module

public import proofs.«01_k».proof.Proof.Gen.InActIdeal.Value
public import proofs.«01_k».proof.Proof.Gen.InActRefIdeal.Run
public import proofs.«01_k».proof.Proof.UpActFin
public import Idealize.ShloMosaic.Lib.Pipeline.ValueKit
public import proofs.«01_k».proof.Defs
public import proofs.«01_k».proof.Proof.Gen.InAct
public import proofs.«01_k».proof.Proof.NormRef

/-! A product's backward pass with the norm's: the tiled program's values, and the reference's. -/

@[expose] public section

set_option maxRecDepth 16384

noncomputable section

open Idealize.ShloMosaic Idealize.ShloMosaic.TcCoe Idealize.ShloMosaic.Tactic Idealize.SL.Sem Idealize.ShloMosaic.Pipeline
open scoped BigOperators
open Finset
open Cert.MM (at1_eq at2_eq at3_eq at4_eq)

namespace Cert.InActIdeal.MM

open Cert.InActIdeal
open Cert.InActIdeal.Gen hiding k0_pay3 k0_pay4 k0_pay5 k0_pay6 k0_pay8 k0_pay9 k0_pay10 k0_pay11
open Cert.UpActIdeal.Gen (k0_pay3 k0_pay4 k0_pay5 k0_pay6 k0_pay8 k0_pay9 k0_pay10 k0_pay11)
open Cert.UpActIdeal.MM (pay3_apply pay4_apply pay5_apply pay6_apply pay8_apply pay9_apply pay10_apply pay11_apply)

section
variable {F : FTy → Type} [FloatOps F] (c : Dev nD) (i : grid0.Coords) (a3 : Memref sig .tc .vmem S1024x896 .bf16) (h3 : a3.IsWhole) (a4 : Memref sig .tc .vmem S1x1024x896 .bf16) (h4 : a4.IsWhole) (a5 : Memref sig .tc .vmem S1024x1024 .f32) (h5 : a5.IsWhole) (a6 : Memref sig .tc .vmem S1024x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x1024 .f32) (h11 : a11.IsWhole) (a12 : Memref sig .tc .vmem S1024x1024 .f32) (h12 : a12.IsWhole)
  (x0 : Vec F S1024x896 .bf16) (x1 : Vec F S1x1024x896 .bf16) (x2 : Vec F S1024x1024 .f32) (x3 : Vec F S1024x1024 .f32) (x4 : Vec F S1x1024 .f32) (xo7 xo8 : Vec F S1x1024 .f32) (xs : Vec F S1024x1024 .f32)

theorem scr_A (hc0 : cond0_0 i) (hc1 : ¬cond0_1 i) :
    sout0_A_0 c i a3 h3 a4 h4 a5 h5 a6 h6 a7 h7 a8 h8 a9 h9 a10 h10 a11 h11 a12 h12 hc0 hc1 x0 x1 x2 x3 x4 = k0_pay2 k0_pay1 x0 x1 := by
  unfold sout0_A_0
  rw [View.read_writes_eq_canon _ _ _ (fun _ => scover0_A_0 ..)]
  unfold kernelRun0_A
  dsimp only
  sl_unfold_words
  rw [View.canon_cons_unit_zero (S := S1024x1024) MM.hz, View.readCov_unit_zero (S := S1024x1024) _ MM.hz]
  simp only [View.readAt_eq_ld, h3.read_unread, h4.read_unread, View.ld_unit_zero (S := S1024x896) MM.hz, View.ld_unit_zero (S := S1024x1024) MM.hz, View.ld_unit_zero (S := S1x1024x896) MM.hz3, View.ld_unit_zero (S := S1x1024) MM.hz]

theorem scr_B (hc0 : ¬cond0_0 i) (hc1 : ¬cond0_1 i) :
    sout0_B_0 c i a3 h3 a4 h4 a5 h5 a6 h6 a7 h7 a8 h8 a9 h9 a10 h10 a11 h11 a12 h12 hc0 hc1 x0 x1 x2 x3 x4 xs = k0_pay2 xs x0 x1 := by
  unfold sout0_B_0
  rw [View.read_writes_eq_canon _ _ _ (fun _ => scover0_B_0 ..)]
  unfold kernelRun0_B
  dsimp only
  sl_unfold_words
  rw [View.canon_unit_zero (S := S1024x1024) MM.hz]
  simp only [View.readAt_eq_ld, h3.read_unread, h4.read_unread, h12.read_unread, View.ld_unit_zero (S := S1024x896) MM.hz, View.ld_unit_zero (S := S1024x1024) MM.hz, View.ld_unit_zero (S := S1x1024x896) MM.hz3, View.ld_unit_zero (S := S1x1024) MM.hz]

set_option maxHeartbeats 1600000 in
/-- What a block's last point writes out. -/
theorem out_C (hc0 : ¬cond0_0 i) (hc1 : cond0_1 i) (hc2 : cond0_2 i) (hc3 : cond0_3 i) :
    out0_C_5 c i a3 h3 a4 h4 a5 h5 a6 h6 a7 h7 a8 h8 a9 h9 a10 h10 a11 h11 a12 h12 hc0 hc1 hc2 hc3 x0 x1 x2 x3 x4 xs = k0_pay8 (k0_pay2 xs x0 x1) x2 x3 x4 ∧
    out0_C_6 c i a3 h3 a4 h4 a5 h5 a6 h6 a7 h7 a8 h8 a9 h9 a10 h10 a11 h11 a12 h12 hc0 hc1 hc2 hc3 x0 x1 x2 x3 x4 xs = k0_pay11 (k0_pay2 xs x0 x1) x2 x3 x4 ∧
    out0_C_7 c i a3 h3 a4 h4 a5 h5 a6 h6 a7 h7 a8 h8 a9 h9 a10 h10 a11 h11 a12 h12 hc0 hc1 hc2 hc3 x0 x1 x2 x3 x4 xs = k0_pay4 (k0_pay9 (k0_pay2 xs x0 x1) x2) k0_pay3 ∧
    out0_C_8 c i a3 h3 a4 h4 a5 h5 a6 h6 a7 h7 a8 h8 a9 h9 a10 h10 a11 h11 a12 h12 hc0 hc1 hc2 hc3 x0 x1 x2 x3 x4 xs = k0_pay6 (k0_pay10 (k0_pay2 xs x0 x1) x2 x3 x4) k0_pay5 := by
  unfold out0_C_5 out0_C_6 out0_C_7 out0_C_8
  rw [View.read_writes_eq_canon _ _ _ (fun _ => cover0_C_5 ..), View.read_writes_eq_canon _ _ _ (fun _ => cover0_C_6 ..), View.read_writes_eq_canon _ _ _ (fun _ => cover0_C_7 ..), View.read_writes_eq_canon _ _ _ (fun _ => cover0_C_8 ..)]
  unfold kernelRun0_C
  dsimp only
  sl_unfold_words
  simp only [View.canon_unit_zero (S := S1024x1024) MM.hz, View.canon_cons_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h12.read_unread,
    View.ld_unit_zero (S := S1024x896) MM.hz, View.ld_unit_zero (S := S1024x1024) MM.hz, View.ld_unit_zero (S := S1x1024x896) MM.hz3, View.ld_unit_zero (S := S1x1024) MM.hz]
  exact ⟨rfl, rfl, rfl, rfl⟩

set_option maxHeartbeats 1600000 in
/-- What a block's last point writes out. -/
theorem out_D (hc0 : ¬cond0_0 i) (hc1 : cond0_1 i) (hc2 : ¬cond0_2 i) (hc3 : ¬cond0_3 i) :
    out0_D_5 c i a3 h3 a4 h4 a5 h5 a6 h6 a7 h7 a8 h8 a9 h9 a10 h10 a11 h11 a12 h12 hc0 hc1 hc2 hc3 x0 x1 x2 x3 x4 xo7 xo8 xs = k0_pay8 (k0_pay2 xs x0 x1) x2 x3 x4 ∧
    out0_D_6 c i a3 h3 a4 h4 a5 h5 a6 h6 a7 h7 a8 h8 a9 h9 a10 h10 a11 h11 a12 h12 hc0 hc1 hc2 hc3 x0 x1 x2 x3 x4 xo7 xo8 xs = k0_pay11 (k0_pay2 xs x0 x1) x2 x3 x4 ∧
    out0_D_7 c i a3 h3 a4 h4 a5 h5 a6 h6 a7 h7 a8 h8 a9 h9 a10 h10 a11 h11 a12 h12 hc0 hc1 hc2 hc3 x0 x1 x2 x3 x4 xo7 xo8 xs = k0_pay4 (k0_pay9 (k0_pay2 xs x0 x1) x2) xo7 ∧
    out0_D_8 c i a3 h3 a4 h4 a5 h5 a6 h6 a7 h7 a8 h8 a9 h9 a10 h10 a11 h11 a12 h12 hc0 hc1 hc2 hc3 x0 x1 x2 x3 x4 xo7 xo8 xs = k0_pay6 (k0_pay10 (k0_pay2 xs x0 x1) x2 x3 x4) xo8 := by
  unfold out0_D_5 out0_D_6 out0_D_7 out0_D_8
  rw [View.read_writes_eq_canon _ _ _ (fun _ => cover0_D_5 ..), View.read_writes_eq_canon _ _ _ (fun _ => cover0_D_6 ..), View.read_writes_eq_canon _ _ _ (fun _ => cover0_D_7 ..), View.read_writes_eq_canon _ _ _ (fun _ => cover0_D_8 ..)]
  unfold kernelRun0_D
  dsimp only
  sl_unfold_words
  simp only [View.canon_unit_zero (S := S1024x1024) MM.hz, View.canon_unit_zero (S := S1x1024) MM.hz, View.readCov_unit_zero (S := S1024x1024) _ MM.hz, View.readCov_unit_zero (S := S1x1024) _ MM.hz, View.readCov_cons_toLoadRect, View.readAt_eq_ld, h3.read_unread, h4.read_unread, h5.read_unread, h6.read_unread, h7.read_unread, h10.read_unread, h11.read_unread, h12.read_unread,
    View.ld_unit_zero (S := S1024x896) MM.hz, View.ld_unit_zero (S := S1024x1024) MM.hz, View.ld_unit_zero (S := S1x1024x896) MM.hz3, View.ld_unit_zero (S := S1x1024) MM.hz]
  exact ⟨rfl, rfl, rfl, rfl⟩

end

theorem pay1_apply (r c : Fin 1024) : (k0_pay1 (F := Ideal)) (ix2 r c) = 0 := by
  pointwise [k0_pay1]

theorem pay2_apply (xs : Vec Ideal S1024x1024 .f32) (x0 : Vec Ideal S1024x896 .bf16) (x1 : Vec Ideal S1x1024x896 .bf16) (r c : Fin 1024) :
    (k0_pay2 (F := Ideal) xs x0 x1) (ix2 r c) = xs (ix2 r c) + ∑ k : Fin 896, x0 (ix2 r k) * x1 (ix3 0 c k) := by
  pointwise [k0_pay2]

theorem ix : ∀ t : Fin cfg0.N, win0_0.index t = ![(t.val / 4 : ℕ), t.val % 4] ∧ win0_1.index t = ![(t.val % 4 : ℕ), 0, 0] ∧ win0_2.index t = ![(t.val / 4 : ℕ), 0] ∧ win0_3.index t = ![(t.val / 4 : ℕ), 0] ∧ win0_5.index t = ![(t.val / 4 : ℕ), 0] ∧ win0_6.index t = ![(t.val / 4 : ℕ), 0] ∧ win0_4.index t = ![0, 0] ∧ win0_7.index t = ![0, 0] ∧ win0_8.index t = ![0, 0] := (by decide +kernel : ∀ t : Fin grid0.N, _)

variable (m : (ℓ : Loc nD τ sig) → Buf (Elt Ideal) ℓ) (c : Dev nD) {X Y Z : ℕ → ℕ → EReal} {W : ℕ → ℕ → ℕ → EReal} {G : ℕ → EReal}
  (hX : ∀ x : S8192x3584.Idx, (V m c main_arg0 : S8192x3584.Idx → EReal) x = X (x 0).val (x 1).val)
  (hW : ∀ x : S4x1024x896.Idx, (V m c main_arg1 : S4x1024x896.Idx → EReal) x = W (x 0).val (x 1).val (x 2).val)
  (hY : ∀ x : S8192x1024.Idx, (V m c main_arg2 : S8192x1024.Idx → EReal) x = Y (x 0).val (x 1).val)
  (hG : ∀ x : S1024.Idx, (V m c main_arg3 : S1024.Idx → EReal) x = G (x 0).val)
  (hZ : ∀ x : S8192x1024.Idx, (V m c main_arg4 : S8192x1024.Idx → EReal) x = Z (x 0).val (x 1).val)

/-- The blocks of one point, as arrays of extended reals. -/
abbrev bA (t : Fin cfg0.N) : S1024x896.Idx → EReal := iblk m c 0 t
abbrev bB (t : Fin cfg0.N) : S1x1024x896.Idx → EReal := iblk m c 1 t
abbrev bC (t : Fin cfg0.N) : S1024x1024.Idx → EReal := iblk m c 2 t
abbrev bD (t : Fin cfg0.N) : S1024x1024.Idx → EReal := iblk m c 3 t
abbrev bE (t : Fin cfg0.N) : S1x1024.Idx → EReal := iblk m c 4 t

section
include hX
theorem blk_A (t : Fin cfg0.N) (r : Fin 1024) (k : Fin 896) : bA m c t (ix2 r k) = X (1024 * (t.val / 4) + r.val) (896 * (t.val % 4) + k.val) := by
  show (V m c main_arg0 : S8192x3584.Idx → EReal) (((cfg0.win 0).blk t).view.emb (ix2 r k)) = _
  rw [hX]
  blk_simp [ix]
  congr 1 <;> omega
end

section
include hW
theorem blk_B (t : Fin cfg0.N) (c' : Fin 1024) (k : Fin 896) : bB m c t (ix3 0 c' k) = W (t.val % 4) c'.val k.val := by
  show (V m c main_arg1 : S4x1024x896.Idx → EReal) (((cfg0.win 1).blk t).view.emb (ix3 0 c' k)) = _
  rw [hW]
  blk_simp [ix]
  rfl
end

section
include hY
theorem blk_C (t : Fin cfg0.N) (r k : Fin 1024) : bC m c t (ix2 r k) = Y (1024 * (t.val / 4) + r.val) k.val := by
  show (V m c main_arg2 : S8192x1024.Idx → EReal) (((cfg0.win 2).blk t).view.emb (ix2 r k)) = _
  rw [hY]
  blk_simp [ix]
  congr 1 <;> omega
end

section
include hZ
theorem blk_D (t : Fin cfg0.N) (r k : Fin 1024) : bD m c t (ix2 r k) = Z (1024 * (t.val / 4) + r.val) k.val := by
  show (V m c main_arg4 : S8192x1024.Idx → EReal) (((cfg0.win 3).blk t).view.emb (ix2 r k)) = _
  rw [hZ]
  blk_simp [ix]
  congr 1 <;> omega
end

/-- The row as the host hands it over: a matrix of one row. -/
theorem V_row0 : V m c main_v0 = (shapeCast S1x1024 (m ((c : Thread nD τ).loc main_arg3) : FVec Ideal S1024 .f32) shapeCasts_S1024_S1x1024 : FVec Ideal S1x1024 .f32) := by
  unfold_abbrev_sides
  after_results
  rfl

section
include hG
theorem row_val0 (x : S1x1024.Idx) : (V m c main_v0 : S1x1024.Idx → EReal) x = G (x 1).val := by
  have h := hG (ix1 (x 1))
  rw [V_main_arg3] at h
  rw [V_row0, ValueIdx.eq_ix2 x]
  pointwise
  exact h

theorem blk_G (t : Fin cfg0.N) (c' : Fin 1024) : bE m c t (ix2 0 c') = G c'.val := by
  show (V m c main_v0 : S1x1024.Idx → EReal) (((cfg0.win 4).blk t).view.emb (ix2 0 c')) = _
  rw [row_val0 m c hG]
  blk_simp [ix]
end

/-- One summand of the product. -/
def term (X : ℕ → ℕ → EReal) (W : ℕ → ℕ → ℕ → EReal) (r n k : ℕ) : EReal := X r k * W (k / 896) n (k % 896)

/-- The product at an entry. -/
def P (X : ℕ → ℕ → EReal) (W : ℕ → ℕ → ℕ → EReal) (r n : ℕ) : EReal := ∑ k ∈ range 3584, term X W r n k

section
include hX hW

/-- One point's product at an entry. -/
theorem step (t : Fin cfg0.N) (r c' : Fin 1024) :
    ∑ k : Fin 896, bA m c t (ix2 r k) * bB m c t (ix3 0 c' k)
      = ∑ k ∈ range 896, term X W (1024 * (t.val / 4) + r.val) c'.val (896 * (t.val % 4) + k) := by
  refine Eq.trans ?_ (MM.sum_fin 896 fun k => term X W (1024 * (t.val / 4) + r.val) c'.val (896 * (t.val % 4) + k))
  refine sum_congr rfl fun k _ => ?_
  unfold term
  rw [show (896 * (t.val % 4) + k.val) / 896 = t.val % 4 by omega, show (896 * (t.val % 4) + k.val) % 896 = k.val by omega]
  exact congrArg₂ (· * ·) (blk_A m c hX t r k) (blk_B m c hW t c' k)

/-- The scratch before a block's last point holds the sum over the columns so far. -/
theorem acc_eq (n : ℕ) (h : n < cfg0.N) (h3 : n % 4 ≠ 3) (r c' : Fin 1024) :
    ((outsAt0 m c n h).2.2.2.2 : S1024x1024.Idx → EReal) (ix2 r c') = ∑ k ∈ range (896 * (n % 4) + 896), term X W (1024 * (n / 4) + r.val) c'.val k :=
  MM.acc_rec 896 (fun n h => ((outsAt0 m c n h).2.2.2.2 : S1024x1024.Idx → EReal) (ix2 r c')) (fun q k => term X W (1024 * (q) + r.val) c'.val k)
    (fun n h h0 => by
      refine (congrFun (congrArg (fun p => p.2.2.2.2) (outsAt0_A m c ⟨n, h⟩ h0 (show n % 4 ≠ 3 by omega))) (ix2 r c')).trans ?_
      dsimp only
      rw [scr_A, pay2_apply, pay1_apply, zero_add]
      exact step m c hX hW ⟨n, h⟩ r c')
    (fun p h h0 h3 => by
      refine (congrFun (congrArg (fun p => p.2.2.2.2) (outsAt0_B m c ⟨p + 1, h⟩ h0 h3)) (ix2 r c')).trans ?_
      dsimp only
      rw [scr_B, pay2_apply]
      exact congrArg₂ (· + ·) rfl (step m c hX hW ⟨p + 1, h⟩ r c')) n h h3
end

/-- The product that the last point of a block has, as the program computes it. -/
abbrev uu (t : Fin cfg0.N) : Vec Ideal S1024x1024 .f32 :=
  k0_pay2 (F := Ideal) (outsAt0 m c (t.val - 1) (Nat.lt_of_le_of_lt (Nat.sub_le _ _) t.isLt)).2.2.2.2 (iblk m c 0 t) (iblk m c 1 t)

section
include hX hW
/-- The product that the last point of a block has. -/
theorem du_eq (t : Fin cfg0.N) (h3 : t.val % 4 = 3) (r c' : Fin 1024) :
    (uu m c t) (ix2 r c') = P X W (1024 * (t.val / 4) + r.val) c'.val := by
  refine (pay2_apply _ _ _ r c').trans ?_
  refine (congrArg₂ (· + ·) (acc_eq m c hX hW (t.val - 1) _ (by omega) r c') (step m c hX hW t r c')).trans ?_
  rw [show (t.val - 1) % 4 = 2 by omega, show (t.val - 1) / 4 = t.val / 4 by omega, h3]
  exact (MM.sum_cut (fun k => term X W (1024 * (t.val / 4) + r.val) c'.val k) 2688 896).symm
end

/-- The cotangent at an entry. -/
def dh (X : ℕ → ℕ → EReal) (W : ℕ → ℕ → ℕ → EReal) (Y Z : ℕ → ℕ → EReal) (G : ℕ → EReal) (r n : ℕ) : EReal := Z r n + Rms.dx (P X W) Y G r n

section
include hX hW hY hG hZ
theorem dh_eq (t : Fin cfg0.N) (h3 : t.val % 4 = 3) (r c' : Fin 1024) :
    (k0_pay8 (F := Ideal) (uu m c t) (iblk m c 2 t) (iblk m c 3 t) (iblk m c 4 t)) (ix2 r c') = dh X W Y Z G (1024 * (t.val / 4) + r.val) c'.val := by
  rw [pay8_apply]
  exact congrArg₂ (· + ·) (blk_D m c hZ t r c') (Rms.dxf_eq (u := fun k => (uu m c t) (ix2 r k)) (x := fun k => bC m c t (ix2 r k)) (g := fun k => bE m c t (ix2 0 k))
    (fun k => du_eq m c hX hW t h3 r k) (fun k => blk_C m c hY t r k) (fun k => blk_G m c hG t k) c')

/-- A block's part of the cotangent's column sum. -/
theorem col_eq (t : Fin cfg0.N) (h3 : t.val % 4 = 3) (c' : Fin 1024) :
    (k0_pay10 (F := Ideal) (uu m c t) (iblk m c 2 t) (iblk m c 3 t) (iblk m c 4 t)) (ix2 0 c')
      = ∑ r ∈ range 1024, dh X W Y Z G (1024 * (t.val / 4) + r) c'.val := by
  rw [pay10_apply]
  refine Eq.trans ?_ (MM.sum_fin 1024 fun r => dh X W Y Z G (1024 * (t.val / 4) + r) c'.val)
  exact sum_congr rfl fun r _ => dh_eq m c hX hW hY hG hZ t h3 r c'
end

section
include hX hW hY
/-- A block's part of the gain's derivative. -/
theorem dg_eq (t : Fin cfg0.N) (h3 : t.val % 4 = 3) (c' : Fin 1024) :
    (k0_pay9 (F := Ideal) (uu m c t) (iblk m c 2 t)) (ix2 0 c')
      = ∑ r ∈ range 1024, Rms.dg (P X W) Y (1024 * (t.val / 4) + r) c'.val := by
  rw [pay9_apply]
  refine Eq.trans ?_ (MM.sum_fin 1024 fun r => Rms.dg (P X W) Y (1024 * (t.val / 4) + r) c'.val)
  exact sum_congr rfl fun r _ => Rms.dgf_eq (u := fun k => (uu m c t) (ix2 r k)) (x := fun k => bC m c t (ix2 r k))
    (fun k => du_eq m c hX hW t h3 r k) (fun k => blk_C m c hY t r k) c'
end

section
include hX hW hY hG hZ
/-- The cotangent after the run. -/
theorem out_eq_5 : (dats m 0 c).arrAt 5 cfg0.N = fun x : S8192x1024.Idx => dh X W Y Z G (x 0).val (x 1).val := by
  refine (dats m 0 c).arrAt_eq_of_covers 5 _ (by decide +kernel) fun t hf y => ?_
  have h3 : t.val % 4 = 3 := (flush0_5 t).1 hf
  have h0 : ¬ t.val % 4 = 0 := by omega
  have hk : ∀ (r c' : Fin 1024), ((outsAt0 m c t.val t.isLt).1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).1]
      exact dh_eq m c hX hW hY hG hZ t h3 r c'
    · rw [outsAt0_D m c t h0 h3 h2 h2]
      dsimp only
      rw [(out_D ..).1]
      exact dh_eq m c hX hW hY hG hZ t h3 r c'
  blk_simp [ix]
  rw [after0_5]
  have he := congrArg ((outsAt0 m c t.val t.isLt).1 : S1024x1024.Idx → EReal) (ValueIdx.eq_ix2 y)
  refine (he.trans (hk (y 0) (y 1))).trans ?_
  rw [Nat.mul_comm 1024 (t.val / 4)]
end

section
include hX hW hY hG hZ
/-- The cotangent after the run. -/
theorem out_eq_6 : (dats m 0 c).arrAt 6 cfg0.N = fun x : S8192x1024.Idx => dh X W Y Z G (x 0).val (x 1).val := by
  refine (dats m 0 c).arrAt_eq_of_covers 6 _ (by decide +kernel) fun t hf y => ?_
  have h3 : t.val % 4 = 3 := (flush0_6 t).1 hf
  have h0 : ¬ t.val % 4 = 0 := by omega
  have hk : ∀ (r c' : Fin 1024), ((outsAt0 m c t.val t.isLt).2.1 : S1024x1024.Idx → EReal) (ix2 r c') = dh X W Y Z G (1024 * (t.val / 4) + r.val) c'.val := fun r c' => by
    by_cases h2 : t.val < 4
    · rw [outsAt0_C m c t h0 h3 h2 h2]
      dsimp only
      rw [(out_C ..).2.1, pay11_apply]
      exact dh_eq m c hX hW hY hG hZ t h3 r c'
    · rw [outsAt0_D m c t h0 h3 h2 h2]
      dsimp only
      rw [(out_D ..).2.1, pay11_apply]
      exact dh_eq m c hX hW hY hG hZ t h3 r c'
  blk_simp [ix]
  rw [after0_6]
  have he := congrArg ((outsAt0 m c t.val t.isLt).2.1 : S1024x1024.Idx → EReal) (ValueIdx.eq_ix2 y)
  refine (he.trans (hk (y 0) (y 1))).trans ?_
  rw [Nat.mul_comm 1024 (t.val / 4)]
end

section
include hX hW hY
/-- The row of sums after each of a block's points: the blocks so far. -/
theorem row_eq_7 (n : ℕ) (h : n < cfg0.N) (hn : 3 ≤ n) (c' : Fin 1024) :
    ((outsAt0 m c n h).2.2.1 : S1x1024.Idx → EReal) (ix2 0 c') = ∑ r ∈ range (1024 * ((n + 1) / 4)), Rms.dg (P X W) Y r c'.val :=
  Rms.rows_rec (fun n h => ((outsAt0 m c n h).2.2.1 : S1x1024.Idx → EReal) (ix2 0 c')) (fun r => Rms.dg (P X W) Y r c'.val)
    (fun p h hp => by
      by_cases h0 : (p + 1) % 4 = 0
      · exact congrFun (congrArg (fun p => p.2.2.1) (outsAt0_A m c ⟨p + 1, h⟩ h0 hp)) _
      · exact congrFun (congrArg (fun p => p.2.2.1) (outsAt0_B m c ⟨p + 1, h⟩ h0 hp)) _)
    (fun p h hp h2 => by
      refine (congrFun (congrArg (fun p => p.2.2.1) (outsAt0_C m c ⟨p + 1, h⟩ (show ¬(p + 1) % 4 = 0 by omega) hp h2 h2)) _).trans ?_
      dsimp only
      rw [(out_C ..).2.2.1, pay4_apply, pay3_apply, zero_add]
      exact dg_eq m c hX hW hY ⟨p + 1, h⟩ hp c')
    (fun p h hp h2 => by
      refine (congrFun (congrArg (fun p => p.2.2.1) (outsAt0_D m c ⟨p + 1, h⟩ (show ¬(p + 1) % 4 = 0 by omega) hp h2 h2)) _).trans ?_
      dsimp only
      rw [(out_D ..).2.2.1, pay4_apply]
      exact congrArg₂ (· + ·) rfl (dg_eq m c hX hW hY ⟨p + 1, h⟩ hp c')) n h hn

/-- The row of sums after the run. -/
theorem out_eq_7 : (dats m 0 c).arrAt 7 cfg0.N = fun x : S1x1024.Idx => ∑ r ∈ range 8192, Rms.dg (P X W) Y r (x 1).val := by
  refine (dats m 0 c).arrAt_eq_of_covers 7 _ (by decide +kernel) fun t hf y => ?_
  have hN : t.val < 32 := t.isLt
  have h31 : t.val % 32 = 31 := (flush0_7 t).1 hf
  have hk : ∀ c' : Fin 1024, ((outsAt0 m c t.val t.isLt).2.2.1 : S1x1024.Idx → EReal) (ix2 0 c') = ∑ r ∈ range 8192, Rms.dg (P X W) Y r c'.val := fun c' => by
    rw [row_eq_7 m c hX hW hY t.val t.isLt (by omega) c', show 1024 * ((t.val + 1) / 4) = 8192 by omega]
  blk_simp [ix]
  rw [after0_7]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.1 : S1x1024.Idx → EReal) hy
  exact he.trans (hk (y 1))
end

section
include hX hW hY hG hZ
/-- The row of sums after each of a block's points: the blocks so far. -/
theorem row_eq_8 (n : ℕ) (h : n < cfg0.N) (hn : 3 ≤ n) (c' : Fin 1024) :
    ((outsAt0 m c n h).2.2.2.1 : S1x1024.Idx → EReal) (ix2 0 c') = ∑ r ∈ range (1024 * ((n + 1) / 4)), dh X W Y Z G r c'.val :=
  Rms.rows_rec (fun n h => ((outsAt0 m c n h).2.2.2.1 : S1x1024.Idx → EReal) (ix2 0 c')) (fun r => dh X W Y Z G r c'.val)
    (fun p h hp => by
      by_cases h0 : (p + 1) % 4 = 0
      · exact congrFun (congrArg (fun p => p.2.2.2.1) (outsAt0_A m c ⟨p + 1, h⟩ h0 hp)) _
      · exact congrFun (congrArg (fun p => p.2.2.2.1) (outsAt0_B m c ⟨p + 1, h⟩ h0 hp)) _)
    (fun p h hp h2 => by
      refine (congrFun (congrArg (fun p => p.2.2.2.1) (outsAt0_C m c ⟨p + 1, h⟩ (show ¬(p + 1) % 4 = 0 by omega) hp h2 h2)) _).trans ?_
      dsimp only
      rw [(out_C ..).2.2.2, pay6_apply, pay5_apply, zero_add]
      exact col_eq m c hX hW hY hG hZ ⟨p + 1, h⟩ hp c')
    (fun p h hp h2 => by
      refine (congrFun (congrArg (fun p => p.2.2.2.1) (outsAt0_D m c ⟨p + 1, h⟩ (show ¬(p + 1) % 4 = 0 by omega) hp h2 h2)) _).trans ?_
      dsimp only
      rw [(out_D ..).2.2.2, pay6_apply]
      exact congrArg₂ (· + ·) rfl (col_eq m c hX hW hY hG hZ ⟨p + 1, h⟩ hp c')) n h hn

/-- The row of sums after the run. -/
theorem out_eq_8 : (dats m 0 c).arrAt 8 cfg0.N = fun x : S1x1024.Idx => ∑ r ∈ range 8192, dh X W Y Z G r (x 1).val := by
  refine (dats m 0 c).arrAt_eq_of_covers 8 _ (by decide +kernel) fun t hf y => ?_
  have hN : t.val < 32 := t.isLt
  have h31 : t.val % 32 = 31 := (flush0_8 t).1 hf
  have hk : ∀ c' : Fin 1024, ((outsAt0 m c t.val t.isLt).2.2.2.1 : S1x1024.Idx → EReal) (ix2 0 c') = ∑ r ∈ range 8192, dh X W Y Z G r c'.val := fun c' => by
    rw [row_eq_8 m c hX hW hY hG hZ t.val t.isLt (by omega) c', show 1024 * ((t.val + 1) / 4) = 8192 by omega]
  blk_simp [ix]
  rw [after0_8]
  have hy : y = ix2 (0 : Fin 1) (y 1) := (ValueIdx.eq_ix2 y).trans (congrArg (fun a => ix2 a (y 1)) (Subsingleton.elim (α := Fin 1) (y 0) 0))
  have he := congrArg ((outsAt0 m c t.val t.isLt).2.2.2.1 : S1x1024.Idx → EReal) hy
  exact he.trans (hk (y 1))
end

end Cert.InActIdeal.MM

namespace Cert.InActRefIdeal.MM

open Cert.InActRefIdeal Cert.InActRefIdeal.Gen

/-- The reference's product at an entry. -/
theorem prod_val {X : ℕ → ℕ → EReal} {W : ℕ → ℕ → ℕ → EReal} (A : FVec Ideal S8192x3584 .bf16) (B : FVec Ideal S4x1024x896 .bf16)
    (hX : ∀ x, A x = X (x 0).val (x 1).val) (hW : ∀ x, B x = W (x 0).val (x 1).val (x 2).val) (i : S8192x1024.Idx) :
    Host.dotGeneral dot_S8192x3584_S1024x3584_S8192x1024_1_1_0_0_n_n none (extf .f32 A bitsLt_bf16_f32) (shapeCast _ (transpose S1024x4x896 [1, 0, 2] (extf .f32 B bitsLt_bf16_f32) transposes_S4x1024x896_S1024x4x896_1_0_2) shapeCasts_S1024x4x896_S1024x3584) i
      = InActIdeal.MM.P X W (i 0).val (i 1).val := by
  unfold InActIdeal.MM.P
  rw [ValueIdx.eq_ix2 i]
  pointwise
  refine Eq.trans ?_ (MM.sum_fin 3584 _)
  refine sum_congr rfl fun k _ => ?_
  rw [hX, hW]
  rfl

end Cert.InActRefIdeal.MM

namespace Cert.Proof

open Cert.InActIdeal

theorem InAct_defs {F : FTy → Type} [FloatOps F] : (InAct.defs (F := F)) = InActIdeal.defs (F := F) :=
  congrArg (Pipeline.defs (InActIdeal.pcfgs (F := F))) (show InAct.defs₀ (F := F) = InActIdeal.defs₀ (F := F) from congrArg Defs.onTc (funext fun l => funext fun a => by
    obtain ⟨_ | n, h⟩ := l
    · obtain ⟨t, s⟩ := a; rfl
    · exact absurd h (Nat.not_lt.2 (Nat.le_add_left _ _))))

theorem frame_InActIdeal : Cert.quiescent_InActIdeal := fun m ρ _ => InActIdeal.Gen.frame (F := Ideal) m ρ

theorem frame_InAct : Cert.quiescent_InAct := fun m ρ _ =>
  InAct_defs (F := Bits) ▸ (θ_run (InActIdeal.defs (F := Bits)) _ _).mono (fun _ h => h) (InActIdeal.Gen.frame (F := Bits) m ρ)

theorem frame_InActRefIdeal : Cert.quiescent_InActRefIdeal := fun m ρ _ =>
  (θ_run (InActRefIdeal.defs (F := Ideal)) _ _).mono (fun _ h => ⟨fun c => (h c).2.2.2.2, funext fun a => nomatch a⟩)
    (InActRefIdeal.Value.run (F := Ideal) m ρ)

/-- The idealized kernel and its reference end with the same cotangents and sums. -/
theorem algebraic_InAct : Cert.algebraic_InActIdeal_InActRefIdeal := fun m g m' g' _ hargs => by
  have hX := fun c : Dev nD => at2_eq (m ((c.tc : Thread nD τ).loc main_arg0) : S8192x3584.Idx → EReal)
  have hW := fun c : Dev nD => at3_eq (m ((c.tc : Thread nD τ).loc main_arg1) : S4x1024x896.Idx → EReal)
  have hY := fun c : Dev nD => at2_eq (m ((c.tc : Thread nD τ).loc main_arg2) : S8192x1024.Idx → EReal)
  have hG := fun c : Dev nD => at1_eq (m ((c.tc : Thread nD τ).loc main_arg3) : S1024.Idx → EReal)
  have hZ := fun c : Dev nD => at2_eq (m ((c.tc : Thread nD τ).loc main_arg4) : S8192x1024.Idx → EReal)
  have kX := fun (c : Dev nD) x => (congrFun (InActIdeal.Gen.V_main_arg0 m c) x).trans (hX c x)
  have kW := fun (c : Dev nD) x => (congrFun (InActIdeal.Gen.V_main_arg1 m c) x).trans (hW c x)
  have kY := fun (c : Dev nD) x => (congrFun (InActIdeal.Gen.V_main_arg2 m c) x).trans (hY c x)
  have kG := fun (c : Dev nD) x => (congrFun (InActIdeal.Gen.V_main_arg3 m c) x).trans (hG c x)
  have kZ := fun (c : Dev nD) x => (congrFun (InActIdeal.Gen.V_main_arg4 m c) x).trans (hZ c x)
  refine ⟨_, _, _, _, (θ_run (InActIdeal.defs (F := Ideal)) _ _).mono (fun r h c => ⟨(h c).1.trans (InActIdeal.MM.out_eq_5 m c (kX c) (kW c) (kY c) (kG c) (kZ c)), (h c).2.1.trans (InActIdeal.MM.out_eq_6 m c (kX c) (kW c) (kY c) (kG c) (kZ c)), (h c).2.2.1.trans (InActIdeal.MM.out_eq_7 m c (kX c) (kW c) (kY c)), (h c).2.2.2.1.trans (InActIdeal.MM.out_eq_8 m c (kX c) (kW c) (kY c) (kG c) (kZ c)), (h c).2.2.2.2⟩)
    (InActIdeal.Value.run_blocks (F := Ideal) m g), ?_⟩
  refine (θ_run (InActRefIdeal.defs (F := Ideal)) _ _).mono (fun r h c => ⟨(h c).1.trans ?_, (h c).2.1.trans ?_, (h c).2.2.1.trans ?_, (h c).2.2.2.1.trans ?_, (h c).2.2.2.2⟩)
    (InActRefIdeal.Value.run (F := Ideal) m' g')
  · unfold InActRefIdeal.Value.res_main_v42
    rw [(hargs c).1, (hargs c).2.1, (hargs c).2.2.1, (hargs c).2.2.2.1, (hargs c).2.2.2.2]
    exact funext fun x => NormRef.dh_val _ _ _ _ (InActRefIdeal.MM.prod_val _ _ (hX c) (hW c)) (hY c) (hG c) (hZ c) x
  · unfold InActRefIdeal.Value.res_main_v43
    rw [(hargs c).1, (hargs c).2.1, (hargs c).2.2.1, (hargs c).2.2.2.1, (hargs c).2.2.2.2]
    exact funext fun x => NormRef.dh_val _ _ _ _ (InActRefIdeal.MM.prod_val _ _ (hX c) (hW c)) (hY c) (hG c) (hZ c) x
  · rw [(hargs c).1, (hargs c).2.1, (hargs c).2.2.1]
    exact funext fun x => NormRef.dg_val _ _ (InActRefIdeal.MM.prod_val _ _ (hX c) (hW c)) (hY c) x
  · unfold InActRefIdeal.Value.res_main_v46
    rw [(hargs c).1, (hargs c).2.1, (hargs c).2.2.1, (hargs c).2.2.2.1, (hargs c).2.2.2.2]
    exact funext fun x => NormRef.col_val (Y := InActIdeal.MM.dh _ _ _ _ _) _ (NormRef.dh_val _ _ _ _ (InActRefIdeal.MM.prod_val _ _ (hX c) (hW c)) (hY c) (hG c) (hZ c)) x

end Cert.Proof
-- ==== Proof.Offsets.lean ====
module

public import proofs.«01_k».proof.Proof.Gen.KernelIdeal.Frame

/-! The kernel's offsets, conditions and trip counts in closed form, over the row block alone. -/

@[expose] public section

set_option maxRecDepth 100000

namespace Cert.KernelIdeal.SB

open Idealize.ShloMosaic Idealize.ShloMosaic.TcCoe
open Idealize.SL Idealize.SL.Sem
open Cert.KernelIdeal Cert.KernelIdeal.Gen

/-- A grid point of the row block `n`. -/
abbrev at1 (n : Fin 32) : grid0.Coords := fun a => match a with
  | ⟨0, _⟩ => (0 : Fin 4)
  | ⟨1, _⟩ => n
  | ⟨2, _⟩ => (0 : Fin 2)

/-- The key tile of the diagonal. -/
abbrev dg (i : grid0.Coords) : ℕ := (i 1).val / 2

theorem trips1 (i : grid0.Coords) : (k0_t1_loop i).trips = (i 1).val / 4 :=
  (by decide +kernel : ∀ n : Fin 32, (k0_t1_loop (at1 n)).trips = n.val / 4) (i 1)

theorem trips2 (i : grid0.Coords) : (k0_t2_loop i).trips = 0 :=
  (by decide +kernel : ∀ n : Fin 32, (k0_t2_loop (at1 n)).trips = 0) (i 1)

theorem trips3 (i : grid0.Coords) : (k0_t3_loop i).trips = (i 1).val / 4 :=
  (by decide +kernel : ∀ n : Fin 32, (k0_t3_loop (at1 n)).trips = n.val / 4) (i 1)

theorem trips4 (i : grid0.Coords) : (k0_t4_loop i).trips = 0 :=
  (by decide +kernel : ∀ n : Fin 32, (k0_t4_loop (at1 n)).trips = 0) (i 1)

theorem dg_trip1 (i : grid0.Coords) (k : Fin (k0_t1_loop i).trips) : 512 * (dg i - 2 - 2 * k.val) + 1024 ≤ 8192 := by
  have h := lt_of_lt_of_eq k.isLt (trips1 i)
  have := (i 1).isLt
  have h32 : (i 1).val < 32 := this
  unfold dg; omega

theorem dg_trip3 (i : grid0.Coords) (k : Fin (k0_t3_loop i).trips) : 512 * (dg i % 2 + 2 * k.val) + 1024 ≤ 8192 := by
  have h := lt_of_lt_of_eq k.isLt (trips3 i)
  have := (i 1).isLt
  have h32 : (i 1).val < 32 := this
  unfold dg; omega

theorem dg_lt (i : grid0.Coords) : dg i < 16 := by
  have : (i 1).val < 32 := (i 1).isLt
  unfold dg; omega

theorem cond3 (i : grid0.Coords) : k0_cond3 i = 1#1 ↔ (i 1).val % 2 = 0 :=
  (by decide +kernel : ∀ n : Fin 32, k0_cond3 (at1 n) = 1#1 ↔ n.val % 2 = 0) (i 1)

theorem cond6 (i : grid0.Coords) : k0_cond6 i = 1#1 ↔ (i 1).val % 2 = 0 :=
  (by decide +kernel : ∀ n : Fin 32, k0_cond6 (at1 n) = 1#1 ↔ n.val % 2 = 0) (i 1)

theorem cond4 (i : grid0.Coords) : k0_cond4 i = 1#1 ↔ (i 1).val / 2 % 2 = 1 :=
  (by decide +kernel : ∀ n : Fin 32, k0_cond4 (at1 n) = 1#1 ↔ n.val / 2 % 2 = 1) (i 1)

theorem cond5 (i : grid0.Coords) : k0_cond5 i = 1#1 ↔ (i 1).val / 2 % 2 = 1 :=
  (by decide +kernel : ∀ n : Fin 32, k0_cond5 (at1 n) = 1#1 ↔ n.val / 2 % 2 = 1) (i 1)

theorem off1 (i : grid0.Coords) : k0_off1 i = ![512 * dg i, 0] :=
  (by decide +kernel : ∀ n : Fin 32, k0_off1 (at1 n) = ![512 * (n.val / 2), 0]) (i 1)

theorem off2 (i : grid0.Coords) : k0_off2 i = ![dg i, 0, 0] :=
  (by decide +kernel : ∀ n : Fin 32, k0_off2 (at1 n) = ![n.val / 2, 0, 0]) (i 1)

theorem off3 (i : grid0.Coords) : k0_off3 i = ![512 * dg i, 0] :=
  (by decide +kernel : ∀ n : Fin 32, k0_off3 (at1 n) = ![512 * (n.val / 2), 0]) (i 1)

theorem off4 (i : grid0.Coords) : k0_off4 i = ![dg i, 0, 0] :=
  (by decide +kernel : ∀ n : Fin 32, k0_off4 (at1 n) = ![n.val / 2, 0, 0]) (i 1)

theorem off13 (i : grid0.Coords) : k0_off13 i = ![dg i, 0, 0] :=
  (by decide +kernel : ∀ n : Fin 32, k0_off13 (at1 n) = ![n.val / 2, 0, 0]) (i 1)

theorem off14 (i : grid0.Coords) : k0_off14 i = ![512 * dg i, 0] :=
  (by decide +kernel : ∀ n : Fin 32, k0_off14 (at1 n) = ![512 * (n.val / 2), 0]) (i 1)

theorem off15 (i : grid0.Coords) : k0_off15 i = ![dg i, 0, 0] :=
  (by decide +kernel : ∀ n : Fin 32, k0_off15 (at1 n) = ![n.val / 2, 0, 0]) (i 1)

theorem off16 (i : grid0.Coords) : k0_off16 i = ![512 * dg i, 0] :=
  (by decide +kernel : ∀ n : Fin 32, k0_off16 (at1 n) = ![512 * (n.val / 2), 0]) (i 1)

theorem off5 (i : grid0.Coords) (k : Fin (k0_t1_loop i).trips) : k0_off5 i k = ![512 * (dg i - 2 - 2 * k.val), 0] :=
  (by decide +kernel : ∀ (n : Fin 32) (k : Fin (k0_t1_loop (at1 n)).trips), k0_off5 (at1 n) k = ![512 * (n.val / 2 - 2 - 2 * k.val), 0]) (i 1) k

theorem off6_0 (i : grid0.Coords) (k : Fin (k0_t1_loop i).trips) : k0_off6 i k 0#32 = ![dg i - 2 - 2 * k.val, 0, 0] :=
  (by decide +kernel : ∀ (n : Fin 32) (k : Fin (k0_t1_loop (at1 n)).trips), k0_off6 (at1 n) k 0#32 = ![n.val / 2 - 2 - 2 * k.val, 0, 0]) (i 1) k

theorem off6_1 (i : grid0.Coords) (k : Fin (k0_t1_loop i).trips) : k0_off6 i k 1#32 = ![dg i - 2 - 2 * k.val + 1, 0, 0] :=
  (by decide +kernel : ∀ (n : Fin 32) (k : Fin (k0_t1_loop (at1 n)).trips), k0_off6 (at1 n) k 1#32 = ![n.val / 2 - 2 - 2 * k.val + 1, 0, 0]) (i 1) k

theorem off9_0 (i : grid0.Coords) (k : Fin (k0_t3_loop i).trips) : k0_off9 i k 0#32 = ![dg i % 2 + 2 * k.val, 0, 0] :=
  (by decide +kernel : ∀ (n : Fin 32) (k : Fin (k0_t3_loop (at1 n)).trips), k0_off9 (at1 n) k 0#32 = ![n.val / 2 % 2 + 2 * k.val, 0, 0]) (i 1) k

theorem off9_1 (i : grid0.Coords) (k : Fin (k0_t3_loop i).trips) : k0_off9 i k 1#32 = ![dg i % 2 + 2 * k.val + 1, 0, 0] :=
  (by decide +kernel : ∀ (n : Fin 32) (k : Fin (k0_t3_loop (at1 n)).trips), k0_off9 (at1 n) k 1#32 = ![n.val / 2 % 2 + 2 * k.val + 1, 0, 0]) (i 1) k

theorem off10 (i : grid0.Coords) (k : Fin (k0_t3_loop i).trips) : k0_off10 i k = ![512 * (dg i % 2 + 2 * k.val), 0] :=
  (by decide +kernel : ∀ (n : Fin 32) (k : Fin (k0_t3_loop (at1 n)).trips), k0_off10 (at1 n) k = ![512 * (n.val / 2 % 2 + 2 * k.val), 0]) (i 1) k

end Cert.KernelIdeal.SB
-- ==== Proof.Model.lean ====
module

public import proofs.«01_k».proof.Proof.Offsets
public import proofs.«01_k».proof.Proof.Gen.KernelIdeal.Skeleton
public import Idealize.ShloMosaic.Lib.VecWindow

/-! What one grid point of the kernel computes, as plain functions of the vectors it loads: slabs of rows, the rows
put back, the carried sums of the key tiles. -/

@[expose] public section

set_option maxRecDepth 16384

noncomputable section

namespace Cert.KernelIdeal.SB

open Idealize.ShloMosaic Idealize.ShloMosaic.TcCoe
open Idealize.SL Idealize.SL.Sem
open Cert.KernelIdeal Cert.KernelIdeal.Gen

variable {F : FTy → Type} [FloatOps F]

/-- The 1024 rows from key tile `j` on. -/
def slab1024 {e : EltTy} (X : Vec F S8192x128 e) (j : ℕ) : Vec F S1024x128 e :=
  fun y => X (fun a => match a with
    | ⟨0, _⟩ => ⟨(512 * j + (y 0).val) % 8192, Nat.mod_lt _ (by decide)⟩
    | ⟨1, _⟩ => ⟨(y 1).val, (y 1).isLt⟩)

/-- The 512 rows of key tile `j`. -/
def slab512 {e : EltTy} (X : Vec F S8192x128 e) (j : ℕ) : Vec F S512x128 e :=
  fun y => X (fun a => match a with
    | ⟨0, _⟩ => ⟨(512 * j + (y 0).val) % 8192, Nat.mod_lt _ (by decide)⟩
    | ⟨1, _⟩ => ⟨(y 1).val, (y 1).isLt⟩)

/-- The first 256 rows of key tile `j`. -/
def slab256 {e : EltTy} (X : Vec F S8192x128 e) (j : ℕ) : Vec F S256x128 e :=
  fun y => X (fun a => match a with
    | ⟨0, _⟩ => ⟨(512 * j + (y 0).val) % 8192, Nat.mod_lt _ (by decide)⟩
    | ⟨1, _⟩ => ⟨(y 1).val, (y 1).isLt⟩)

theorem window1024 {e : EltTy} (X : Vec F S8192x128 e) (j : ℕ) (h : 512 * j + 1024 ≤ 8192)
    (inb : ∀ a, (![512 * j, 0] : Fin S8192x128.rank → ℕ) a + S1024x128.size a ≤ S8192x128.size a) :
    VecWindow.window X ![512 * j, 0] S1024x128.size inb = slab1024 X j := by
  funext y
  refine congrArg X (funext fun a => ?_)
  have h0 : (y 0).val < 1024 := (y 0).isLt
  match a with
  | ⟨0, _⟩ =>
    refine Fin.ext ?_
    show 512 * j + 1 * (y 0).val = (512 * j + (y 0).val) % 8192
    rw [Nat.mod_eq_of_lt (by omega)]; omega
  | ⟨1, _⟩ => refine Fin.ext ?_; show 0 + 1 * (y 1).val = (y 1).val; omega

theorem window512 {e : EltTy} (X : Vec F S8192x128 e) (j : ℕ) (h : 512 * j + 512 ≤ 8192)
    (inb : ∀ a, (![512 * j, 0] : Fin S8192x128.rank → ℕ) a + S512x128.size a ≤ S8192x128.size a) :
    VecWindow.window X ![512 * j, 0] S512x128.size inb = slab512 X j := by
  funext y
  refine congrArg X (funext fun a => ?_)
  have h0 : (y 0).val < 512 := (y 0).isLt
  match a with
  | ⟨0, _⟩ =>
    refine Fin.ext ?_
    show 512 * j + 1 * (y 0).val = (512 * j + (y 0).val) % 8192
    rw [Nat.mod_eq_of_lt (by omega)]; omega
  | ⟨1, _⟩ => refine Fin.ext ?_; show 0 + 1 * (y 1).val = (y 1).val; omega

theorem window256 {e : EltTy} (X : Vec F S8192x128 e) (j : ℕ) (h : 512 * j + 256 ≤ 8192)
    (inb : ∀ a, (![512 * j, 0] : Fin S8192x128.rank → ℕ) a + S256x128.size a ≤ S8192x128.size a) :
    VecWindow.window X ![512 * j, 0] S256x128.size inb = slab256 X j := by
  funext y
  refine congrArg X (funext fun a => ?_)
  have h0 : (y 0).val < 256 := (y 0).isLt
  match a with
  | ⟨0, _⟩ =>
    refine Fin.ext ?_
    show 512 * j + 1 * (y 0).val = (512 * j + (y 0).val) % 8192
    rw [Nat.mod_eq_of_lt (by omega)]; omega
  | ⟨1, _⟩ => refine Fin.ext ?_; show 0 + 1 * (y 1).val = (y 1).val; omega

/-- Tile `j` of a buffer of score tiles. -/
def tile {e : EltTy} (X : Vec F S16x256x512 e) (j : ℕ) : Vec F S1x256x512 e :=
  fun y => X (fun a => match a with
    | ⟨0, _⟩ => ⟨(j + (y 0).val) % 16, Nat.mod_lt _ (by decide)⟩
    | ⟨1, _⟩ => ⟨(y 1).val, (y 1).isLt⟩
    | ⟨2, _⟩ => ⟨(y 2).val, (y 2).isLt⟩)

/-- The first half of the columns of tile `j`. -/
def half {e : EltTy} (X : Vec F S16x256x512 e) (j : ℕ) : Vec F S1x256x256 e :=
  fun y => X (fun a => match a with
    | ⟨0, _⟩ => ⟨(j + (y 0).val) % 16, Nat.mod_lt _ (by decide)⟩
    | ⟨1, _⟩ => ⟨(y 1).val, (y 1).isLt⟩
    | ⟨2, _⟩ => ⟨(y 2).val, Nat.lt_of_lt_of_le (m := 256) (y 2).isLt (Nat.le_of_ble_eq_true rfl)⟩)

theorem windowTile {e : EltTy} (X : Vec F S16x256x512 e) (j : ℕ) (h : j < 16)
    (inb : ∀ a, (![j, 0, 0] : Fin S16x256x512.rank → ℕ) a + S1x256x512.size a ≤ S16x256x512.size a) :
    VecWindow.window X ![j, 0, 0] S1x256x512.size inb = tile X j := by
  funext y
  refine congrArg X (funext fun a => ?_)
  have h0 : (y 0).val < 1 := (y 0).isLt
  match a with
  | ⟨0, _⟩ =>
    refine Fin.ext ?_
    show j + 1 * (y 0).val = (j + (y 0).val) % 16
    rw [Nat.mod_eq_of_lt (by omega)]; omega
  | ⟨1, _⟩ => refine Fin.ext ?_; show 0 + 1 * (y 1).val = (y 1).val; omega
  | ⟨2, _⟩ => refine Fin.ext ?_; show 0 + 1 * (y 2).val = (y 2).val; omega

theorem windowHalf {e : EltTy} (X : Vec F S16x256x512 e) (j : ℕ) (h : j < 16)
    (inb : ∀ a, (![j, 0, 0] : Fin S16x256x512.rank → ℕ) a + S1x256x256.size a ≤ S16x256x512.size a) :
    VecWindow.window X ![j, 0, 0] S1x256x256.size inb = half X j := by
  funext y
  refine congrArg X (funext fun a => ?_)
  have h0 : (y 0).val < 1 := (y 0).isLt
  match a with
  | ⟨0, _⟩ =>
    refine Fin.ext ?_
    show j + 1 * (y 0).val = (j + (y 0).val) % 16
    rw [Nat.mod_eq_of_lt (by omega)]; omega
  | ⟨1, _⟩ => refine Fin.ext ?_; show 0 + 1 * (y 1).val = (y 1).val; omega
  | ⟨2, _⟩ => refine Fin.ext ?_; show 0 + 1 * (y 2).val = (y 2).val; omega

/-- `X` with the 1024 rows from key tile `j` on replaced. -/
abbrev putRows1024 (X : Vec F S8192x128 .f32) (j : ℕ) (w : Vec F S1024x128 .f32) : Vec F S8192x128 .f32 :=
  VecWindow.put X ![512 * j, 0] S1024x128.size w
abbrev putRows512 (X : Vec F S8192x128 .f32) (j : ℕ) (w : Vec F S512x128 .f32) : Vec F S8192x128 .f32 :=
  VecWindow.put X ![512 * j, 0] S512x128.size w
abbrev putRows256 (X : Vec F S8192x128 .f32) (j : ℕ) (w : Vec F S256x128 .f32) : Vec F S8192x128 .f32 :=
  VecWindow.put X ![512 * j, 0] S256x128.size w
abbrev putTile (X : Vec F S16x256x512 .f32) (j : ℕ) (w : Vec F S1x256x512 .f32) : Vec F S16x256x512 .f32 :=
  VecWindow.put X ![j, 0, 0] S1x256x512.size w
abbrev putHalf (X : Vec F S16x256x512 .f32) (j : ℕ) (w : Vec F S1x256x256 .f32) : Vec F S16x256x512 .f32 :=
  VecWindow.put X ![j, 0, 0] S1x256x256.size w

/-! ## A load of a memref held at `X`, at offsets of a known form -/

section Loads

variable {κ : Kind} {sp : Space} {s : Shape} {e : EltTy}

theorem ld1024 (v : View sig κ sp S8192x128 e) (X : Vec F S8192x128 e) (j : ℕ) (hj : 512 * j + 1024 ≤ 8192) {off : Fin S8192x128.rank → ℕ}
    (h : off = ![512 * j, 0]) (inb : ∀ a, off a + S1024x128.size a ≤ S8192x128.size a) :
    v.readAt (Elt F) (Rect.unit off S1024x128.size inb).toLoadRect (v.rep X) = slab1024 X j := by
  subst h; exact (View.readAt_rep_unit v X inb rfl inb).trans (window1024 X j hj inb)

theorem ld512 (v : View sig κ sp S8192x128 e) (X : Vec F S8192x128 e) (j : ℕ) (hj : 512 * j + 512 ≤ 8192) {off : Fin S8192x128.rank → ℕ}
    (h : off = ![512 * j, 0]) (inb : ∀ a, off a + S512x128.size a ≤ S8192x128.size a) :
    v.readAt (Elt F) (Rect.unit off S512x128.size inb).toLoadRect (v.rep X) = slab512 X j := by
  subst h; exact (View.readAt_rep_unit v X inb rfl inb).trans (window512 X j hj inb)

theorem ld256 (v : View sig κ sp S8192x128 e) (X : Vec F S8192x128 e) (j : ℕ) (hj : 512 * j + 256 ≤ 8192) {off : Fin S8192x128.rank → ℕ}
    (h : off = ![512 * j, 0]) (inb : ∀ a, off a + S256x128.size a ≤ S8192x128.size a) :
    v.readAt (Elt F) (Rect.unit off S256x128.size inb).toLoadRect (v.rep X) = slab256 X j := by
  subst h; exact (View.readAt_rep_unit v X inb rfl inb).trans (window256 X j hj inb)

theorem ldTile (v : View sig κ sp S16x256x512 e) (X : Vec F S16x256x512 e) (j : ℕ) (hj : j < 16) {off : Fin S16x256x512.rank → ℕ}
    (h : off = ![j, 0, 0]) (inb : ∀ a, off a + S1x256x512.size a ≤ S16x256x512.size a) :
    v.readAt (Elt F) (Rect.unit off S1x256x512.size inb).toLoadRect (v.rep X) = tile X j := by
  subst h; exact (View.readAt_rep_unit v X inb rfl inb).trans (windowTile X j hj inb)

theorem ldHalf (v : View sig κ sp S16x256x512 e) (X : Vec F S16x256x512 e) (j : ℕ) (hj : j < 16) {off : Fin S16x256x512.rank → ℕ}
    (h : off = ![j, 0, 0]) (inb : ∀ a, off a + S1x256x256.size a ≤ S16x256x512.size a) :
    v.readAt (Elt F) (Rect.unit off S1x256x256.size inb).toLoadRect (v.rep X) = half X j := by
  subst h; exact (View.readAt_rep_unit v X inb rfl inb).trans (windowHalf X j hj inb)

/-- A load of the window just stored. -/
theorem cov_same (v : View sig κ sp s e) {off size : Fin s.rank → ℕ} (inb inb' : ∀ a, off a + size a ≤ s.size a)
    (w : (Rect.unit off size inb).shape.Idx → Elt F e) (L : List (View.Piece (Elt F) s e)) :
    v.readCov (⟨Rect.unit off size inb, w⟩ :: L) (Rect.unit off size inb').toLoadRect = w := by
  show v.readAt (Elt F) _ (v.writes (Elt F) v.junk _) = w
  rw [View.readAt_unit v _ inb' rfl inb', View.read_writes_cons_put v _ inb w L rfl]
  exact VecWindow.window_put_same _ _ _ inb' w

end Loads

/-! ## One wide tile (two key tiles) of the descending pass -/

/-- The scores' part that needs no carried sum: the weights of the wide tile whose keys are `ks`. -/
def wW (T0 : FVec F S512x256 .bf16) (q : FVec F S256x128 .bf16) (lat : FVec F S256x1 .f32) (ks : Vec F S1024x128 .bf16) : FVec F S256x1024 .f32 :=
  k0_pay42 T0 lat (k0_pay32 q ks) (k0_pay33 q ks) (k0_pay34 q ks) (k0_pay35 q ks) (k0_pay36 q ks) (k0_pay39 T0 q ks) (k0_pay40 q ks) (k0_pay41 q ks)

/-- The first and the second key tile of the weights' cotangents. -/
def wA0 (T0 : FVec F S512x256 .bf16) (q d : FVec F S256x128 .bf16) (lat : FVec F S256x1 .f32) (ks vs : Vec F S1024x128 .bf16) : FVec F S1x256x512 .f32 :=
  k0_pay45 T0 d lat (k0_pay32 q ks) (k0_pay33 q ks) (k0_pay34 q ks) (k0_pay35 q ks) (k0_pay36 q ks) (k0_pay39 T0 q ks) (k0_pay40 q ks) (k0_pay41 q ks) vs
def wA1 (T0 : FVec F S512x256 .bf16) (q d : FVec F S256x128 .bf16) (lat : FVec F S256x1 .f32) (ks vs : Vec F S1024x128 .bf16) : FVec F S1x256x512 .f32 :=
  k0_pay47 T0 d lat (k0_pay32 q ks) (k0_pay33 q ks) (k0_pay34 q ks) (k0_pay35 q ks) (k0_pay36 q ks) (k0_pay39 T0 q ks) (k0_pay40 q ks) (k0_pay41 q ks) vs

/-- The first and the second key tile of the gates. -/
def wB0 (q : FVec F S256x128 .bf16) (ks : Vec F S1024x128 .bf16) : FVec F S1x256x512 .f32 := k0_pay46 (k0_pay32 q ks)
def wB1 (q : FVec F S256x128 .bf16) (ks : Vec F S1024x128 .bf16) : FVec F S1x256x512 .f32 := k0_pay121 (k0_pay48 (k0_pay32 q ks))

/-- The carried sum after the wide tile. -/
def wL (q : FVec F S256x128 .bf16) (lat : FVec F S256x1 .f32) (ks : Vec F S1024x128 .bf16) : FVec F S256x1 .f32 := k0_pay123 lat (k0_pay38 q ks)

/-- The wide tile's rows of the values' gradient. -/
def wV (T0 : FVec F S512x256 .bf16) (q d : FVec F S256x128 .bf16) (lat : FVec F S256x1 .f32) (ks : Vec F S1024x128 .bf16) (old : Vec F S1024x128 .f32) : FVec F S1024x128 .f32 :=
  k0_pay122 d (wW T0 q lat ks) old

end Cert.KernelIdeal.SB

end
-- ==== Proof.Loop1.lean ====
module

public import proofs.«01_k».proof.Proof.Model
public import proofs.«01_k».proof.Proof.Gen.KernelIdeal.Loops

/-! The descending loop: one trip, and all of them. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

instance closed6_1 (i : grid0.Coords) (k : Fin (k0_t1_loop i).trips) : ClosedOff (k0_off6 i k 1#32) := ⟨_, off6_1 i k⟩
instance closed6_0 (i : grid0.Coords) (k : Fin (k0_t1_loop i).trips) : ClosedOff (k0_off6 i k 0#32) := ⟨_, off6_0 i k⟩
instance closed5 (i : grid0.Coords) (k : Fin (k0_t1_loop i).trips) : ClosedOff (k0_off5 i k) := ⟨_, off5 i k⟩

/-- A memref held whole at the values `X`. -/
abbrev held (c : Dev nD) {s : Shape} {e : EltTy} (M : Memref sig .tc .vmem s e) (X : s.Idx → Elt F e) : sProp 𝕄 :=
  iprop(M.view.loc (c : Thread nD τ) ↦[M.view.set]{fullShare} M.view.rep X)

/-- The ten memrefs of a grid point, each held at its values. -/
abbrev St (c : Dev nD) (arg3 : Memref sig .tc .vmem S256x128 .bf16) (arg4 : Memref sig .tc .vmem S8192x128 .bf16) (arg5 : Memref sig .tc .vmem S8192x128 .bf16) (arg6 : Memref sig .tc .vmem S256x128 .f32) (arg7 : Memref sig .tc .vmem S256x128 .bf16) (arg8 : Memref sig .tc .vmem S8192x128 .f32) (arg9 : Memref sig .tc .vmem S8192x128 .f32) (arg10 : Memref sig .tc .vmem S16x256x512 .f32) (arg11 : Memref sig .tc .vmem S16x256x512 .f32) (arg12 : Memref sig .tc .vmem S2x512x256 .bf16)
    (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) : sProp 𝕄 :=
  iprop(held c arg3 Q ∗ held c arg4 K ∗ held c arg5 V ∗ held c arg6 DO ∗ held c arg7 DQ ∗ held c arg8 DK ∗ held c arg9 DV ∗ held c arg10 DA ∗ held c arg11 BE ∗ held c arg12 TR)

variable (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole)

theorem trip1 (v25 : BitVec 32) (v41 : IVec S256x512 1) (T0 : FVec F S512x256 .bf16) (q d : FVec F S256x128 .bf16) (v72 c256 : BitVec 32)
    (k : Fin (k0_t1_loop i).trips) (acc : FVec F S256x1 .f32) (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (k0_t1_body i arg3 harg3 arg4 harg4 arg5 harg5 arg6 harg6 arg7 harg7 arg8 harg8 arg9 harg9 arg10 harg10 arg11 harg11 arg12 harg12 v25 v41 T0 q d v72 c256 k acc)
          (fun y => iprop(⌜y = wL q acc (slab1024 K (dg i - 2 - 2 * k.val))⌝ ∗ St c arg3 arg4 arg5 arg6 arg7 arg8 arg9 arg10 arg11 arg12 Q K V DO DQ DK (putRows1024 DV (dg i - 2 - 2 * k.val) (wV T0 q d acc (slab1024 K (dg i - 2 - 2 * k.val)) (slab1024 DV (dg i - 2 - 2 * k.val)))) (putTile (putTile DA (dg i - 2 - 2 * k.val) (wA0 T0 q d acc (slab1024 K (dg i - 2 - 2 * k.val)) (slab1024 V (dg i - 2 - 2 * k.val)))) (dg i - 2 - 2 * k.val + 1) (wA1 T0 q d acc (slab1024 K (dg i - 2 - 2 * k.val)) (slab1024 V (dg i - 2 - 2 * k.val)))) (putTile (putTile BE (dg i - 2 - 2 * k.val) (wB0 q (slab1024 K (dg i - 2 - 2 * k.val)))) (dg i - 2 - 2 * k.val + 1) (wB1 q (slab1024 K (dg i - 2 - 2 * k.val)))) TR)) := by
  unfold k0_t1_body
  simp only [k0_part3_eq_skeleton, k0_part4_eq_skeleton]
  iintro ⟨HR3, HR4, HR5, HR6, HW7, HW8, HW9, HW10, HW11, HR12⟩
  sl_exec
  sl_step
  have hj : 512 * (dg i - 2 - 2 * k.val) + 1024 ≤ 8192 := dg_trip1 i k
  have hK := fun inb => ld1024 (F := F) arg4.view K (dg i - 2 - 2 * k.val) hj (off5 i k) inb
  have hV := fun inb => ld1024 (F := F) arg5.view V (dg i - 2 - 2 * k.val) hj (off5 i k) inb
  have hD := fun inb => ld1024 (F := F) arg9.view DV (dg i - 2 - 2 * k.val) hj (off5 i k) inb
  isplitr
  · ipureintro
    delta trip1.sl.r_5; simp only [hK]; rfl
  isplitl [HR3]
  · iexact HR3
  isplitl [HR4]
  · iexact HR4
  isplitl [HR5]
  · iexact HR5
  isplitl [HR6]
  · iexact HR6
  isplitl [HW7]
  · iexact HW7
  isplitl [HW8]
  · iexact HW8
  isplitl [HW9]
  · iapply (pointsTo_rep_of_read (c : Thread nD τ) arg9 _ fullShare _ ?_) $$ HW9
    rw [View.read_writes_rep_unit _ _ _ _ (off5 i k)]
    exact congrArg (VecWindow.put DV _ _) (by
      refine congrArg₂ (k0_pay122 d) ?_ (hD _)
      delta trip1.sl.r_9 trip1.sl.r trip1.sl.r_1 trip1.sl.r_2 trip1.sl.r_3 trip1.sl.r_4 trip1.sl.r_6 trip1.sl.r_7 trip1.sl.r_8
      simp only [hK]
      rfl)
  isplitl [HW10]
  · iapply (pointsTo_rep_of_read (c : Thread nD τ) arg10 _ fullShare _ ?_) $$ HW10
    rw [View.read_writes_cons_put _ _ _ _ _ (off6_1 i k), View.read_writes_rep_unit _ _ _ _ (off6_0 i k)]
    delta trip1.sl.r trip1.sl.r_1 trip1.sl.r_2 trip1.sl.r_3 trip1.sl.r_4 trip1.sl.r_6 trip1.sl.r_7 trip1.sl.r_8
    simp only [hK, hV]
    rfl
  isplitl [HW11]
  · iapply (pointsTo_rep_of_read (c : Thread nD τ) arg11 _ fullShare _ ?_) $$ HW11
    rw [View.read_writes_cons_put _ _ _ _ _ (off6_1 i k), View.read_writes_rep_unit _ _ _ _ (off6_0 i k)]
    delta trip1.sl.r_10 trip1.sl.r
    simp only [hK]
    rfl
  · iexact HR12

/-- The carried sum before wide tile `k`, from `l` on. -/
def latAt (D : ℕ) (q : FVec F S256x128 .bf16) (K : Vec F S8192x128 .bf16) (l : FVec F S256x1 .f32) : ℕ → FVec F S256x1 .f32
  | 0 => l
  | k + 1 => wL q (latAt D q K l k) (slab1024 K (D - 2 - 2 * k))

/-- The values' gradient before wide tile `k`. -/
def dvAt (D : ℕ) (T0 : FVec F S512x256 .bf16) (q d : FVec F S256x128 .bf16) (K : Vec F S8192x128 .bf16) (l : FVec F S256x1 .f32) (DV : Vec F S8192x128 .f32) : ℕ → Vec F S8192x128 .f32
  | 0 => DV
  | k + 1 => putRows1024 (dvAt D T0 q d K l DV k) (D - 2 - 2 * k)
      (wV T0 q d (latAt D q K l k) (slab1024 K (D - 2 - 2 * k)) (slab1024 (dvAt D T0 q d K l DV k) (D - 2 - 2 * k)))

/-- The weights' cotangents stored before wide tile `k`. -/
def daAt (D : ℕ) (T0 : FVec F S512x256 .bf16) (q d : FVec F S256x128 .bf16) (K V : Vec F S8192x128 .bf16) (l : FVec F S256x1 .f32) (DA : Vec F S16x256x512 .f32) : ℕ → Vec F S16x256x512 .f32
  | 0 => DA
  | k + 1 => putTile (putTile (daAt D T0 q d K V l DA k) (D - 2 - 2 * k) (wA0 T0 q d (latAt D q K l k) (slab1024 K (D - 2 - 2 * k)) (slab1024 V (D - 2 - 2 * k))))
      (D - 2 - 2 * k + 1) (wA1 T0 q d (latAt D q K l k) (slab1024 K (D - 2 - 2 * k)) (slab1024 V (D - 2 - 2 * k)))

/-- The gates stored before wide tile `k`. -/
def beAt (D : ℕ) (q : FVec F S256x128 .bf16) (K : Vec F S8192x128 .bf16) (BE : Vec F S16x256x512 .f32) : ℕ → Vec F S16x256x512 .f32
  | 0 => BE
  | k + 1 => putTile (putTile (beAt D q K BE k) (D - 2 - 2 * k) (wB0 q (slab1024 K (D - 2 - 2 * k)))) (D - 2 - 2 * k + 1) (wB1 q (slab1024 K (D - 2 - 2 * k)))

theorem loop1 (v25 : BitVec 32) (v41 : IVec S256x512 1) (T0 : FVec F S512x256 .bf16) (q d : FVec F S256x128 .bf16) (v72 c256 : BitVec 32)
    (l : FVec F S256x1 .f32) (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (Scf.Loop.for (k0_t1_loop i) (k0_t1_ok i) l (k0_t1_body i arg3 harg3 arg4 harg4 arg5 harg5 arg6 harg6 arg7 harg7 arg8 harg8 arg9 harg9 arg10 harg10 arg11 harg11 arg12 harg12 v25 v41 T0 q d v72 c256))
          (fun y => iprop(⌜y = latAt (dg i) q K l ((i 1).val / 4)⌝ ∗ St c arg3 arg4 arg5 arg6 arg7 arg8 arg9 arg10 arg11 arg12 Q K V DO DQ DK (dvAt (dg i) T0 q d K l DV ((i 1).val / 4)) (daAt (dg i) T0 q d K V l DA ((i 1).val / 4)) (beAt (dg i) q K BE ((i 1).val / 4)) TR)) := by
  rw [← trips1 i]
  iintro H
  iapply (Scf.wp_for frame (wpE (defs₀ (F := F)) Variants.none (c : Thread nD τ) none) E (k0_t1_loop i).lb (k0_t1_loop i).ub (k0_t1_loop i).st (k0_t1_ok i) l _
    (fun n y => iprop(⌜y = latAt (dg i) q K l n⌝ ∗ St c arg3 arg4 arg5 arg6 arg7 arg8 arg9 arg10 arg11 arg12 Q K V DO DQ DK (dvAt (dg i) T0 q d K l DV n) (daAt (dg i) T0 q d K V l DA n) (beAt (dg i) q K BE n) TR)) ?_)
  · intro k acc
    iintro ⟨%h, H⟩
    subst h
    iapply (trip1 c i arg3 harg3 arg4 harg4 arg5 harg5 arg6 harg6 arg7 harg7 arg8 harg8 arg9 harg9 arg10 harg10 arg11 harg11 arg12 harg12 v25 v41 T0 q d v72 c256 k _ Q K V DO DQ DK _ _ _ TR E) $$ H
  · isplitl [H]
    · isplitr
      · ipureintro; rfl
      · iexact H
    · iintro %acc H; iexact H

end Cert.KernelIdeal.SB

end
-- ==== Proof.Loop3.lean ====
module

public import proofs.«01_k».proof.Proof.Loop1

/-! The ascending loop: one trip, and all of them. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

instance closed9_1 (i : grid0.Coords) (k : Fin (k0_t3_loop i).trips) : ClosedOff (k0_off9 i k 1#32) := ⟨_, off9_1 i k⟩
instance closed9_0 (i : grid0.Coords) (k : Fin (k0_t3_loop i).trips) : ClosedOff (k0_off9 i k 0#32) := ⟨_, off9_0 i k⟩
instance closed10 (i : grid0.Coords) (k : Fin (k0_t3_loop i).trips) : ClosedOff (k0_off10 i k) := ⟨_, off10 i k⟩

/-- The wide tile's rows of the keys' gradient: the tiles `a0 a1` of weights' cotangents, `b0 b1` of gates, the carried sum `g`. -/
def uK (T1 : FVec F S512x256 .bf16) (q : FVec F S256x128 .bf16) (g : FVec F S256x1 .f32) (a0 a1 b0 b1 : Vec F S1x256x512 .f32) (old : Vec F S1024x128 .f32) : FVec F S1024x128 .f32 :=
  k0_pay2 T1 q g (k0_pay79 a0 a1) (k0_pay80 b0 b1) (k0_pay81 a0 a1) (k0_pay82 a0 a1) (k0_pay83 a0 a1) (k0_pay84 a0 a1) (k0_pay85 a0 a1) (k0_pay87 a0 a1) old

/-- The carried sum after the wide tile. -/
def uG (g : FVec F S256x1 .f32) (a0 a1 : Vec F S1x256x512 .f32) : FVec F S256x1 .f32 := k0_pay3 g (k0_pay86 a0 a1)

/-- The queries' gradient after the wide tile. -/
def uQ (T1 : FVec F S512x256 .bf16) (g : FVec F S256x1 .f32) (r : FVec F S256x128 .f32) (a0 a1 b0 b1 : Vec F S1x256x512 .f32) (ks : Vec F S1024x128 .bf16) : FVec F S256x128 .f32 :=
  k0_pay4 T1 g r (k0_pay79 a0 a1) (k0_pay80 b0 b1) (k0_pay81 a0 a1) (k0_pay82 a0 a1) (k0_pay83 a0 a1) (k0_pay84 a0 a1) (k0_pay85 a0 a1) (k0_pay87 a0 a1) ks

variable (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole)

theorem trip3 (T1 : FVec F S512x256 .bf16) (q : FVec F S256x128 .bf16) (v127 c0 : BitVec 32)
    (k : Fin (k0_t3_loop i).trips) (acc : FVec F S256x1 .f32 × FVec F S256x128 .f32) (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (k0_t3_body i arg3 harg3 arg4 harg4 arg5 harg5 arg6 harg6 arg7 harg7 arg8 harg8 arg9 harg9 arg10 harg10 arg11 harg11 arg12 harg12 T1 q v127 c0 k acc)
          (fun y => iprop(⌜y = (uG acc.1 (tile DA (dg i % 2 + 2 * k.val)) (tile DA (dg i % 2 + 2 * k.val + 1)), uQ T1 acc.1 acc.2 (tile DA (dg i % 2 + 2 * k.val)) (tile DA (dg i % 2 + 2 * k.val + 1)) (tile BE (dg i % 2 + 2 * k.val)) (tile BE (dg i % 2 + 2 * k.val + 1)) (slab1024 K (dg i % 2 + 2 * k.val)))⌝ ∗ St c arg3 arg4 arg5 arg6 arg7 arg8 arg9 arg10 arg11 arg12 Q K V DO DQ (putRows1024 DK (dg i % 2 + 2 * k.val) (uK T1 q acc.1 (tile DA (dg i % 2 + 2 * k.val)) (tile DA (dg i % 2 + 2 * k.val + 1)) (tile BE (dg i % 2 + 2 * k.val)) (tile BE (dg i % 2 + 2 * k.val + 1)) (slab1024 DK (dg i % 2 + 2 * k.val)))) DV DA BE TR)) := by
  obtain ⟨g, r⟩ := acc
  unfold k0_t3_body
  simp only [k0_part9_eq_skeleton]
  iintro ⟨HR3, HR4, HR5, HR6, HW7, HW8, HW9, HW10, HW11, HR12⟩
  sl_exec
  sl_step
  have hj : 512 * (dg i % 2 + 2 * k.val) + 1024 ≤ 8192 := dg_trip3 i k
  have hK := fun inb => ld1024 (F := F) arg4.view K (dg i % 2 + 2 * k.val) hj (off10 i k) inb
  have hD := fun inb => ld1024 (F := F) arg8.view DK (dg i % 2 + 2 * k.val) hj (off10 i k) inb
  have hA0 := fun inb => ldTile (F := F) arg10.view DA (dg i % 2 + 2 * k.val) (by omega) (off9_0 i k) inb
  have hA1 := fun inb => ldTile (F := F) arg10.view DA (dg i % 2 + 2 * k.val + 1) (by omega) (off9_1 i k) inb
  have hB0 := fun inb => ldTile (F := F) arg11.view BE (dg i % 2 + 2 * k.val) (by omega) (off9_0 i k) inb
  have hB1 := fun inb => ldTile (F := F) arg11.view BE (dg i % 2 + 2 * k.val + 1) (by omega) (off9_1 i k) inb
  isplitr
  · ipureintro
    delta trip3.sl.r trip3.sl.r_1 trip3.sl.r_2 trip3.sl.r_3 trip3.sl.r_4 trip3.sl.r_5 trip3.sl.r_6 trip3.sl.r_7 trip3.sl.r_8
    simp only [hK, hA0, hA1, hB0, hB1]; rfl
  isplitl [HR3]
  · iexact HR3
  isplitl [HR4]
  · iexact HR4
  isplitl [HR5]
  · iexact HR5
  isplitl [HR6]
  · iexact HR6
  isplitl [HW7]
  · iexact HW7
  isplitl [HW8]
  · iapply (pointsTo_rep_of_read (c : Thread nD τ) arg8 _ fullShare _ ?_) $$ HW8
    rw [View.read_writes_rep_unit _ _ _ _ (off10 i k)]
    delta trip3.sl.r trip3.sl.r_1 trip3.sl.r_2 trip3.sl.r_3 trip3.sl.r_4 trip3.sl.r_5 trip3.sl.r_6 trip3.sl.r_7 trip3.sl.r_8
    simp only [hA0, hA1, hB0, hB1]
    exact congrArg (VecWindow.put DK _ _) (congrArg (uK T1 q g _ _ _ _) (hD _))
  isplitl [HW9]
  · iexact HW9
  isplitl [HW10]
  · iexact HW10
  isplitl [HW11]
  · iexact HW11
  · iexact HR12

/-- The carried sum before wide tile `k` of the ascending loop, over the tiles of `DA`. -/
def gAt (b : ℕ) (DA : Vec F S16x256x512 .f32) (g : FVec F S256x1 .f32) : ℕ → FVec F S256x1 .f32
  | 0 => g
  | k + 1 => uG (gAt b DA g k) (tile DA (b + 2 * k)) (tile DA (b + 2 * k + 1))

/-- The queries' gradient before wide tile `k`. -/
def dqAt (b : ℕ) (T1 : FVec F S512x256 .bf16) (K : Vec F S8192x128 .bf16) (DA BE : Vec F S16x256x512 .f32) (g : FVec F S256x1 .f32) (r : FVec F S256x128 .f32) : ℕ → FVec F S256x128 .f32
  | 0 => r
  | k + 1 => uQ T1 (gAt b DA g k) (dqAt b T1 K DA BE g r k) (tile DA (b + 2 * k)) (tile DA (b + 2 * k + 1)) (tile BE (b + 2 * k)) (tile BE (b + 2 * k + 1)) (slab1024 K (b + 2 * k))

/-- The keys' gradient before wide tile `k`. -/
def dkAt (b : ℕ) (T1 : FVec F S512x256 .bf16) (q : FVec F S256x128 .bf16) (DA BE : Vec F S16x256x512 .f32) (g : FVec F S256x1 .f32) (DK : Vec F S8192x128 .f32) : ℕ → Vec F S8192x128 .f32
  | 0 => DK
  | k + 1 => putRows1024 (dkAt b T1 q DA BE g DK k) (b + 2 * k)
      (uK T1 q (gAt b DA g k) (tile DA (b + 2 * k)) (tile DA (b + 2 * k + 1)) (tile BE (b + 2 * k)) (tile BE (b + 2 * k + 1)) (slab1024 (dkAt b T1 q DA BE g DK k) (b + 2 * k)))

theorem loop3 (T1 : FVec F S512x256 .bf16) (q : FVec F S256x128 .bf16) (v127 c0 : BitVec 32)
    (l : FVec F S256x1 .f32 × FVec F S256x128 .f32) (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (Scf.Loop.for (k0_t3_loop i) (k0_t3_ok i) l (k0_t3_body i arg3 harg3 arg4 harg4 arg5 harg5 arg6 harg6 arg7 harg7 arg8 harg8 arg9 harg9 arg10 harg10 arg11 harg11 arg12 harg12 T1 q v127 c0))
          (fun y => iprop(⌜y = (gAt (dg i % 2) DA l.1 ((i 1).val / 4), dqAt (dg i % 2) T1 K DA BE l.1 l.2 ((i 1).val / 4))⌝ ∗ St c arg3 arg4 arg5 arg6 arg7 arg8 arg9 arg10 arg11 arg12 Q K V DO DQ (dkAt (dg i % 2) T1 q DA BE l.1 DK ((i 1).val / 4)) DV DA BE TR)) := by
  rw [← trips3 i]
  iintro H
  iapply (Scf.wp_for frame (wpE (defs₀ (F := F)) Variants.none (c : Thread nD τ) none) E (k0_t3_loop i).lb (k0_t3_loop i).ub (k0_t3_loop i).st (k0_t3_ok i) l _
    (fun n y => iprop(⌜y = (gAt (dg i % 2) DA l.1 n, dqAt (dg i % 2) T1 K DA BE l.1 l.2 n)⌝ ∗ St c arg3 arg4 arg5 arg6 arg7 arg8 arg9 arg10 arg11 arg12 Q K V DO DQ (dkAt (dg i % 2) T1 q DA BE l.1 DK n) DV DA BE TR)) ?_)
  · intro k acc
    iintro ⟨%h, H⟩
    subst h
    iapply (trip3 c i arg3 harg3 arg4 harg4 arg5 harg5 arg6 harg6 arg7 harg7 arg8 harg8 arg9 harg9 arg10 harg10 arg11 harg11 arg12 harg12 T1 q v127 c0 k _ Q K V DO DQ _ DV DA BE TR E) $$ H
  · isplitl [H]
    · isplitr
      · ipureintro; rfl
      · iexact H
    · iintro %acc H; iexact H

end Cert.KernelIdeal.SB

end
-- ==== Proof.Parts.lean ====
module

public import proofs.«01_k».proof.Proof.Loop3

/-! A grid point’s head: the triangles, the zeroed gradients, the masked rows; then the diagonal tile and the descending loop. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

instance closed1 (i : grid0.Coords) : ClosedOff (k0_off1 i) := ⟨_, off1 i⟩
instance closed2 (i : grid0.Coords) : ClosedOff (k0_off2 i) := ⟨_, off2 i⟩
instance closed3 (i : grid0.Coords) : ClosedOff (k0_off3 i) := ⟨_, off3 i⟩
instance closed4 (i : grid0.Coords) : ClosedOff (k0_off4 i) := ⟨_, off4 i⟩

/-! ## The diagonal tile: over 256 keys in an even row block, over 512 in an odd one -/

/-- The carried sum after the diagonal tile. -/
def l0 (i : grid0.Coords) (mk : IVec S256x512 1) (q : FVec F S256x128 .bf16) (K : Vec F S8192x128 .bf16) : FVec F S256x1 .f32 :=
  if (i 1).val % 2 = 0 then k0_pay116 (k0_pay19 q (k0_pay112 mk) (slab256 K (dg i))) else k0_pay120 (k0_pay28 mk q (slab512 K (dg i)))

/-- The diagonal tile's weights' cotangents, and its gates. -/
def aS (i : grid0.Coords) (mk : IVec S256x512 1) (T0 : FVec F S512x256 .bf16) (q d : FVec F S256x128 .bf16) (K V : Vec F S8192x128 .bf16) : FVec F S1x256x256 .f32 :=
  k0_pay22 T0 q d (k0_pay112 mk) (k0_pay113 (F := F)) (slab256 K (dg i)) (slab256 V (dg i))
def bS (i : grid0.Coords) (q : FVec F S256x128 .bf16) (K : Vec F S8192x128 .bf16) : FVec F S1x256x256 .f32 := k0_pay114 (k0_pay21 q (slab256 K (dg i)))
def aL (i : grid0.Coords) (mk : IVec S256x512 1) (T0 : FVec F S512x256 .bf16) (q d : FVec F S256x128 .bf16) (K V : Vec F S8192x128 .bf16) : FVec F S1x256x512 .f32 :=
  k0_pay117 d (k0_pay29 mk T0 q (k0_pay113 (F := F)) (slab512 K (dg i))) (slab512 V (dg i))
def bL (i : grid0.Coords) (q : FVec F S256x128 .bf16) (K : Vec F S8192x128 .bf16) : FVec F S1x256x512 .f32 := k0_pay118 (k0_pay25 q (slab512 K (dg i)))

def daD (i : grid0.Coords) (mk : IVec S256x512 1) (T0 : FVec F S512x256 .bf16) (q d : FVec F S256x128 .bf16) (K V : Vec F S8192x128 .bf16) (DA : Vec F S16x256x512 .f32) : Vec F S16x256x512 .f32 :=
  if (i 1).val % 2 = 0 then putHalf DA (dg i) (aS i mk T0 q d K V) else putTile DA (dg i) (aL i mk T0 q d K V)
def beD (i : grid0.Coords) (q : FVec F S256x128 .bf16) (K : Vec F S8192x128 .bf16) (BE : Vec F S16x256x512 .f32) : Vec F S16x256x512 .f32 :=
  if (i 1).val % 2 = 0 then putHalf BE (dg i) (bS i q K) else putTile BE (dg i) (bL i q K)

/-- The values' gradient after the diagonal tile. -/
def dvD (i : grid0.Coords) (mk : IVec S256x512 1) (T0 : FVec F S512x256 .bf16) (q d : FVec F S256x128 .bf16) (K : Vec F S8192x128 .bf16) (DV : Vec F S8192x128 .f32) : Vec F S8192x128 .f32 :=
  if (i 1).val % 2 = 0 then putRows256 DV (dg i) (k0_pay115 d (k0_pay20 T0 q (k0_pay112 mk) (k0_pay113 (F := F)) (slab256 K (dg i))) (slab256 DV (dg i)))
  else putRows512 DV (dg i) (k0_pay119 d (k0_pay29 mk T0 q (k0_pay113 (F := F)) (slab512 K (dg i))) (slab512 DV (dg i)))

variable (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole)

theorem tail14 (v25 : BitVec 32) (mk : IVec S256x512 1) (T0 : FVec F S512x256 .bf16) (q d : FVec F S256x128 .bf16) (v72 c256 v100 : BitVec 32)
    (l : FVec F S256x1 .f32) (b1 : BitVec 1) (m1 : IVec S256x256 1) (w1 w2 : BitVec 32) (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (Scf.Loop.for (k0_t1_loop i) (k0_t1_ok i) l (k0_t1_body i arg3 harg3 arg4 harg4 arg5 harg5 arg6 harg6 arg7 harg7 arg8 harg8 arg9 harg9 arg10 harg10 arg11 harg11 arg12 harg12 v25 mk T0 q d v72 c256) >>= fun v101 =>
            Scf.Loop.for (k0_t2_loop i) (k0_t2_ok i) v101 (k0_t2_body i arg3 harg3 arg4 harg4 arg5 harg5 arg6 harg6 arg7 harg7 arg8 harg8 arg9 harg9 arg10 harg10 arg11 harg11 arg12 harg12 v25 mk T0 q d v72 c256 v100) >>= fun v102 =>
              pure (⟨b1, m1, v102, w1, w2⟩ : Σ' (v73 : BitVec 1) (v74 : IVec S256x256 1) (v102 : FVec F S256x1 .f32) (v112 : BitVec 32), BitVec 32))
          (fun y => iprop(⌜y.2.1 = m1 ∧ y.2.2.1 = latAt (dg i) q K l ((i 1).val / 4)⌝ ∗ St c arg3 arg4 arg5 arg6 arg7 arg8 arg9 arg10 arg11 arg12 Q K V DO DQ DK (dvAt (dg i) T0 q d K l DV ((i 1).val / 4)) (daAt (dg i) T0 q d K V l DA ((i 1).val / 4)) (beAt (dg i) q K BE ((i 1).val / 4)) TR)) := by
  rw [wp_bind]
  refine (loop1 c i arg3 harg3 arg4 harg4 arg5 harg5 arg6 harg6 arg7 harg7 arg8 harg8 arg9 harg9 arg10 harg10 arg11 harg11 arg12 harg12 v25 mk T0 q d v72 c256 l Q K V DO DQ DK DV DA BE TR E).trans (wp_mono _ _ _ fun y => ?_)
  iintro ⟨%h, H⟩
  subst h
  rw [wp_bind]
  iapply (Scf.wp_for frame (wpE (defs₀ (F := F)) Variants.none (c : Thread nD τ) none) E (k0_t2_loop i).lb (k0_t2_loop i).ub (k0_t2_loop i).st (k0_t2_ok i) _ _
    (fun _ y => iprop(⌜y = latAt (dg i) q K l ((i 1).val / 4)⌝)) ?_)
  · intro k
    exact absurd (lt_of_lt_of_eq k.isLt (trips2 i)) (Nat.not_lt_zero _)
  · isplitr
    · ipureintro; rfl
    · iintro %z %hz
      subst hz
      sl_step
      isplitr
      · ipureintro; exact ⟨rfl, rfl⟩
      · iexact H

theorem part14 (v25 : BitVec 32) (mk : IVec S256x512 1) (T0 : FVec F S512x256 .bf16) (q d : FVec F S256x128 .bf16) (v72 c256 : BitVec 32)
    (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (k0_part14_skel i arg3 harg3 arg4 harg4 arg5 harg5 arg6 harg6 arg7 harg7 arg8 harg8 arg9 harg9 arg10 harg10 arg11 harg11 arg12 harg12 v25 mk T0 q d v72 c256)
          (fun y => iprop(⌜y.2.1 = k0_pay112 mk ∧ y.2.2.1 = latAt (dg i) q K (l0 i mk q K) ((i 1).val / 4)⌝ ∗ St c arg3 arg4 arg5 arg6 arg7 arg8 arg9 arg10 arg11 arg12 Q K V DO DQ DK (dvAt (dg i) T0 q d K (l0 i mk q K) (dvD i mk T0 q d K DV) ((i 1).val / 4)) (daAt (dg i) T0 q d K V (l0 i mk q K) (daD i mk T0 q d K V DA) ((i 1).val / 4)) (beAt (dg i) q K (beD i q K BE) ((i 1).val / 4)) TR)) := by
  unfold k0_part14_skel
  dsimp only
  have h256 : 512 * dg i + 512 ≤ 8192 := by have := dg_lt i; omega
  have hd := dg_lt i
  by_cases h : (i 1).val % 2 = 0
  · have hc := (cond3 i).2 h
    rw [dif_pos hc]
    simp only [k0_part1_eq_skeleton]
    simp only [l0, daD, beD, dvD, if_pos h]
    iintro ⟨HR3, HR4, HR5, HR6, HW7, HW8, HW9, HW10, HW11, HR12⟩
    sl_exec
    have hK := fun inb => ld256 (F := F) arg4.view K (dg i) (by omega) (off1 i) inb
    have hV := fun inb => ld256 (F := F) arg5.view V (dg i) (by omega) (off1 i) inb
    have hD := fun inb => ld256 (F := F) arg9.view DV (dg i) (by omega) (off1 i) inb
    have hr : part14.sl.r i arg4 mk q K hc = k0_pay19 q (k0_pay112 mk) (slab256 K (dg i)) := congrArg (k0_pay19 q _) (hK _)
    rw [hr]
    iapply (tail14 c i arg3 harg3 arg4 harg4 arg5 harg5 arg6 harg6 arg7 harg7 arg8 harg8 arg9 harg9 arg10 harg10 arg11 harg11 arg12 harg12 v25 mk T0 q d v72 c256 _ _ _ _ _ _ Q K V DO DQ DK _ _ _ TR E)
    isplitl [HR3]
    · iexact HR3
    isplitl [HR4]
    · iexact HR4
    isplitl [HR5]
    · iexact HR5
    isplitl [HR6]
    · iexact HR6
    isplitl [HW7]
    · iexact HW7
    isplitl [HW8]
    · iexact HW8
    isplitl [HW9]
    · iapply (pointsTo_rep_of_read (c : Thread nD τ) arg9 _ fullShare _ ?_) $$ HW9
      rw [View.read_writes_rep_unit _ _ _ _ (off1 i)]
      delta part14.sl.r_1
      simp only [hK]
      exact congrArg (VecWindow.put DV _ _) (congrArg (k0_pay115 d _) (hD _))
    isplitl [HW10]
    · iapply (pointsTo_rep_of_read (c : Thread nD τ) arg10 _ fullShare _ ?_) $$ HW10
      rw [View.read_writes_rep_unit _ _ _ _ (off2 i)]
      simp only [hK, hV]
      rfl
    isplitl [HW11]
    · iapply (pointsTo_rep_of_read (c : Thread nD τ) arg11 _ fullShare _ ?_) $$ HW11
      rw [View.read_writes_rep_unit _ _ _ _ (off2 i)]
      delta part14.sl.r_2
      simp only [hK]
      rfl
    · iexact HR12
  · have hc := fun h' => h ((cond3 i).1 h')
    rw [dif_neg hc]
    simp only [k0_part2_eq_skeleton]
    simp only [l0, daD, beD, dvD, if_neg h]
    iintro ⟨HR3, HR4, HR5, HR6, HW7, HW8, HW9, HW10, HW11, HR12⟩
    sl_exec
    have hK := fun inb => ld512 (F := F) arg4.view K (dg i) (by omega) (off3 i) inb
    have hV := fun inb => ld512 (F := F) arg5.view V (dg i) (by omega) (off3 i) inb
    have hD := fun inb => ld512 (F := F) arg9.view DV (dg i) (by omega) (off3 i) inb
    have h6 : part14.sl.r_6 i arg4 mk T0 q K hc = k0_pay29 mk T0 q (k0_pay113 (F := F)) (slab512 K (dg i)) := congrArg (k0_pay29 mk T0 q _) (hK _)
    have h5 : part14.sl.r_5 i arg4 mk q K hc = k0_pay28 mk q (slab512 K (dg i)) := congrArg (k0_pay28 mk q) (hK _)
    have h4 : part14.sl.r_4 i arg4 q K hc = k0_pay25 q (slab512 K (dg i)) := congrArg (k0_pay25 q) (hK _)
    rw [h5]
    iapply (tail14 c i arg3 harg3 arg4 harg4 arg5 harg5 arg6 harg6 arg7 harg7 arg8 harg8 arg9 harg9 arg10 harg10 arg11 harg11 arg12 harg12 v25 mk T0 q d v72 c256 _ _ _ _ _ _ Q K V DO DQ DK _ _ _ TR E)
    isplitl [HR3]
    · iexact HR3
    isplitl [HR4]
    · iexact HR4
    isplitl [HR5]
    · iexact HR5
    isplitl [HR6]
    · iexact HR6
    isplitl [HW7]
    · iexact HW7
    isplitl [HW8]
    · iexact HW8
    isplitl [HW9]
    · iapply (pointsTo_rep_of_read (c : Thread nD τ) arg9 _ fullShare _ ?_) $$ HW9
      rw [View.read_writes_rep_unit _ _ _ _ (off3 i), h6]
      exact congrArg (VecWindow.put DV _ _) (congrArg (k0_pay119 d _) (hD _))
    isplitl [HW10]
    · iapply (pointsTo_rep_of_read (c : Thread nD τ) arg10 _ fullShare _ ?_) $$ HW10
      rw [View.read_writes_rep_unit _ _ _ _ (off4 i), h6]
      exact congrArg (VecWindow.put DA _ _) (congrArg (k0_pay117 d _) (hV _))
    isplitl [HW11]
    · iapply (pointsTo_rep_of_read (c : Thread nD τ) arg11 _ fullShare _ ?_) $$ HW11
      rw [View.read_writes_rep_unit _ _ _ _ (off4 i), h4]
      rfl
    · iexact HR12

end Cert.KernelIdeal.SB

end
-- ==== Proof.Parts2.lean ====
module

public import proofs.«01_k».proof.Proof.Parts

/-! The odd key tile, which the wide loops leave over: its descending and its ascending step. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The left-over tile's weights' cotangents and gates. -/
def aO (T0 : FVec F S512x256 .bf16) (q d : FVec F S256x128 .bf16) (K V : Vec F S8192x128 .bf16) (l : FVec F S256x1 .f32) : FVec F S1x256x512 .f32 :=
  k0_pay73 T0 q d l (slab512 K 0) (slab512 V 0)
def bO (q : FVec F S256x128 .bf16) (K : Vec F S8192x128 .bf16) : FVec F S1x256x512 .f32 := k0_pay127 (k0_pay72 q (slab512 K 0))

def daO (i : grid0.Coords) (T0 : FVec F S512x256 .bf16) (q d : FVec F S256x128 .bf16) (K V : Vec F S8192x128 .bf16) (l : FVec F S256x1 .f32) (DA : Vec F S16x256x512 .f32) : Vec F S16x256x512 .f32 :=
  if (i 1).val / 2 % 2 = 1 then putTile DA 0 (aO T0 q d K V l) else DA
def beO (i : grid0.Coords) (q : FVec F S256x128 .bf16) (K : Vec F S8192x128 .bf16) (BE : Vec F S16x256x512 .f32) : Vec F S16x256x512 .f32 :=
  if (i 1).val / 2 % 2 = 1 then putTile BE 0 (bO q K) else BE
def dvO (i : grid0.Coords) (T0 : FVec F S512x256 .bf16) (q d : FVec F S256x128 .bf16) (K : Vec F S8192x128 .bf16) (l : FVec F S256x1 .f32) (DV : Vec F S8192x128 .f32) : Vec F S8192x128 .f32 :=
  if (i 1).val / 2 % 2 = 1 then putRows512 DV 0 (k0_pay128 d (k0_pay71 T0 q l (slab512 K 0)) (slab512 DV 0)) else DV

/-- The ascending pass after the left-over tile: the carried sum, the queries' and the keys' gradient. -/
def gO (i : grid0.Coords) (T0 : FVec F S512x256 .bf16) (q d : FVec F S256x128 .bf16) (K V : Vec F S8192x128 .bf16) (l : FVec F S256x1 .f32) : FVec F S256x1 .f32 :=
  if (i 1).val / 2 % 2 = 1 then k0_pay78 (k0_pay129 (F := F)) (aO T0 q d K V l) else k0_pay129 (F := F)
def dqO (i : grid0.Coords) (T0 T1 : FVec F S512x256 .bf16) (q d : FVec F S256x128 .bf16) (K V : Vec F S8192x128 .bf16) (l : FVec F S256x1 .f32) : FVec F S256x128 .f32 :=
  if (i 1).val / 2 % 2 = 1 then k0_pay131 (k0_pay76 T1 (k0_pay129 (F := F)) (aO T0 q d K V l) (bO q K)) (slab512 K 0) else k0_pay130 (F := F)
def dkO (i : grid0.Coords) (T0 T1 : FVec F S512x256 .bf16) (q d : FVec F S256x128 .bf16) (K V : Vec F S8192x128 .bf16) (l : FVec F S256x1 .f32) (DK : Vec F S8192x128 .f32) : Vec F S8192x128 .f32 :=
  if (i 1).val / 2 % 2 = 1 then putRows512 DK 0 (k0_pay77 T1 q (k0_pay129 (F := F)) (aO T0 q d K V l) (bO q K) (slab512 DK 0)) else DK

variable (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole)

theorem part15 (v25 : BitVec 32) (T0 T1 : FVec F S512x256 .bf16) (q d : FVec F S256x128 .bf16) (l : FVec F S256x1 .f32) (v112 c1 : BitVec 32)
    (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (k0_part15_skel i arg3 harg3 arg4 harg4 arg5 harg5 arg6 harg6 arg7 harg7 arg8 harg8 arg9 harg9 arg10 harg10 arg11 harg11 arg12 harg12 v25 T0 T1 q d l v112 c1)
          (fun y => iprop(⌜y.2.1 = gO i T0 q d K V l ∧ y.2.2.1 = dqO i T0 T1 q d K V l⌝ ∗ St c arg3 arg4 arg5 arg6 arg7 arg8 arg9 arg10 arg11 arg12 Q K V DO DQ (dkO i T0 T1 q d K V l DK) (dvO i T0 q d K l DV) (daO i T0 q d K V l DA) (beO i q K BE) TR)) := by
  unfold k0_part15_skel
  dsimp only
  by_cases h : (i 1).val / 2 % 2 = 1
  · have hc4 := (cond4 i).2 h
    have hc5 := (cond5 i).2 h
    simp only [k0_part7_eq_skeleton, k0_part8_eq_skeleton]
    simp only [gO, dqO, daO, beO, dvO, dkO, if_pos h]
    iintro ⟨HR3, HR4, HR5, HR6, HW7, HW8, HW9, HW10, HW11, HR12⟩
    sl_exec
    sl_step
    have hK := fun inb => ld512 (F := F) arg4.view K 0 (by omega) (off := ![0, 0]) rfl inb
    have hV := fun inb => ld512 (F := F) arg5.view V 0 (by omega) (off := ![0, 0]) rfl inb
    have hD := fun inb => ld512 (F := F) arg9.view DV 0 (by omega) (off := ![0, 0]) rfl inb
    have hE := fun inb => ld512 (F := F) arg8.view DK 0 (by omega) (off := ![0, 0]) rfl inb
    have h1 : part15.sl.r_1 arg4 q K = k0_pay72 q (slab512 K 0) := congrArg (k0_pay72 q) (hK _)
    have h0 : part15.sl.r arg4 T0 q l K = k0_pay71 T0 q l (slab512 K 0) := congrArg (k0_pay71 T0 q l) (hK _)
    have hA : part15.sl.v170 arg4 arg5 arg10 T0 q d l K V = aO T0 q d K V l := by
      delta part15.sl.v170 part15.sl.HW10_1
      rw [cov_same]
      exact congrArg₂ (k0_pay73 T0 q d l) (hK _) (hV _)
    have hB : part15.sl.v172 arg4 arg11 q K = bO q K := by
      delta part15.sl.v172 part15.sl.HW11_1
      refine (cov_same _ _ _ _ _).trans ?_
      exact congrArg k0_pay127 h1
    isplitr
    · ipureintro
      dsimp only
      delta part15.sl.r_3 part15.sl.r_2
      rw [hA, hB]
      exact ⟨rfl, congrArg (k0_pay131 _) (hK _)⟩
    isplitl [HR3]
    · iexact HR3
    isplitl [HR4]
    · iexact HR4
    isplitl [HR5]
    · iexact HR5
    isplitl [HR6]
    · iexact HR6
    isplitl [HW7]
    · iexact HW7
    isplitl [HW8]
    · iapply (pointsTo_rep_of_read (c : Thread nD τ) arg8 _ fullShare _ ?_) $$ HW8
      rw [View.read_writes_rep_unit _ _ _ _ rfl, hA, hB]
      exact congrArg (VecWindow.put DK _ _) (congrArg (k0_pay77 T1 q _ _ _) (hE _))
    isplitl [HW9]
    · iapply (pointsTo_rep_of_read (c : Thread nD τ) arg9 _ fullShare _ ?_) $$ HW9
      rw [View.read_writes_rep_unit _ _ _ _ rfl, h0]
      exact congrArg (VecWindow.put DV _ _) (congrArg (k0_pay128 d _) (hD _))
    isplitl [HW10]
    · iapply (pointsTo_rep_of_read (c : Thread nD τ) arg10 _ fullShare _ ?_) $$ HW10
      delta part15.sl.HW10_1
      rw [View.read_writes_rep_unit _ _ _ _ rfl]
      exact congrArg (VecWindow.put DA _ _) (congrArg₂ (k0_pay73 T0 q d l) (hK _) (hV _))
    isplitl [HW11]
    · iapply (pointsTo_rep_of_read (c : Thread nD τ) arg11 _ fullShare _ ?_) $$ HW11
      delta part15.sl.HW11_1
      rw [View.read_writes_rep_unit _ _ _ _ rfl, h1]
      rfl
    · iexact HR12
  · have hc4 := fun h' => h ((cond4 i).1 h')
    have hc5 := fun h' => h ((cond5 i).1 h')
    simp only [gO, dqO, daO, beO, dvO, dkO, if_neg h]
    iintro ⟨HR3, HR4, HR5, HR6, HW7, HW8, HW9, HW10, HW11, HR12⟩
    sl_exec
    sl_step
    isplitr
    · ipureintro; exact ⟨rfl, rfl⟩
    isplitl [HR3]
    · iexact HR3
    isplitl [HR4]
    · iexact HR4
    isplitl [HR5]
    · iexact HR5
    isplitl [HR6]
    · iexact HR6
    isplitl [HW7]
    · iexact HW7
    isplitl [HW8]
    · iexact HW8
    isplitl [HW9]
    · iexact HW9
    isplitl [HW10]
    · iexact HW10
    isplitl [HW11]
    · iexact HW11
    · iexact HR12

end Cert.KernelIdeal.SB

end
-- ==== Proof.Parts3.lean ====
module

public import proofs.«01_k».proof.Proof.Parts2

/-! The last tile of the ascending pass and the queries’ gradient stored. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

instance closed13 (i : grid0.Coords) : ClosedOff (k0_off13 i) := ⟨_, off13 i⟩
instance closed14 (i : grid0.Coords) : ClosedOff (k0_off14 i) := ⟨_, off14 i⟩
instance closed15 (i : grid0.Coords) : ClosedOff (k0_off15 i) := ⟨_, off15 i⟩
instance closed16 (i : grid0.Coords) : ClosedOff (k0_off16 i) := ⟨_, off16 i⟩

theorem cond7 (i : grid0.Coords) : k0_cond7 i = 1#1 ↔ (i 2).val = 0 :=
  (by decide +kernel : ∀ n : Fin 2, k0_cond7 (fun a => match a with | ⟨0, _⟩ => (0 : Fin 4) | ⟨1, _⟩ => (0 : Fin 32) | ⟨2, _⟩ => n) = 1#1 ↔ n.val = 0) (i 2)

theorem cond8 (i : grid0.Coords) : k0_cond8 i = 1#1 ↔ (i 2).val = 1 :=
  (by decide +kernel : ∀ n : Fin 2, k0_cond8 (fun a => match a with | ⟨0, _⟩ => (0 : Fin 4) | ⟨1, _⟩ => (0 : Fin 32) | ⟨2, _⟩ => n) = 1#1 ↔ n.val = 1) (i 2)

/-- The keys' gradient after the diagonal tile, from the tiles in the buffers. -/
def dkE (i : grid0.Coords) (mk : IVec S256x512 1) (T1 : FVec F S512x256 .bf16) (q : FVec F S256x128 .bf16) (g : FVec F S256x1 .f32) (DA BE : Vec F S16x256x512 .f32) (DK : Vec F S8192x128 .f32) : Vec F S8192x128 .f32 :=
  if (i 1).val % 2 = 0 then putRows256 DK (dg i) (k0_pay10 T1 q (k0_pay112 mk) g (half DA (dg i)) (half BE (dg i)) (slab256 DK (dg i)))
  else putRows512 DK (dg i) (k0_pay98 mk T1 q g (tile DA (dg i)) (tile BE (dg i)) (slab512 DK (dg i)))

/-- The queries' gradient after the diagonal tile. -/
def dqE (i : grid0.Coords) (mk : IVec S256x512 1) (T1 : FVec F S512x256 .bf16) (g : FVec F S256x1 .f32) (r : FVec F S256x128 .f32) (K : Vec F S8192x128 .bf16) (DA BE : Vec F S16x256x512 .f32) : FVec F S256x128 .f32 :=
  if (i 1).val % 2 = 0 then k0_pay11 T1 (k0_pay112 mk) g r (half DA (dg i)) (half BE (dg i)) (slab256 K (dg i))
  else k0_pay12 r (k0_pay97 mk T1 g (tile DA (dg i)) (tile BE (dg i))) (slab512 K (dg i))

/-- The queries' gradient as stored: the first head of the pair sets it, the second adds to it. -/
def dqS (i : grid0.Coords) (v7 : IVec S256x128 1) (r : FVec F S256x128 .f32) (DQ : Vec F S256x128 .bf16) : FVec F S256x128 .bf16 :=
  if (i 2).val = 0 then k0_pay13 v7 r else k0_pay14 v7 r DQ

variable (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole)

/-- What follows the ascending loops. -/
def tailProg (v7 : IVec S256x128 1) (v25 : BitVec 32) (mk : IVec S256x512 1) (T1 : FVec F S512x256 .bf16) (q : FVec F S256x128 .bf16) (g : FVec F S256x1 .f32) (r : FVec F S256x128 .f32) :
    Prog (TpuEff nD τ sig (Elt F) Λ₀ .tc) PUnit := do
  let v158 : FVec F S256x128 .f32 ← if k0_h6 : k0_cond6 i = 1#1 then do
      let v171 : Vec F S1x256x256 .f32 ← Prog.lift (.load arg10 (Rect.unit (s := S16x256x512) (k0_off13 i) S1x256x256.size (k0_off13_inb i k0_h6)).toLoadRect (View.loadsAt_vmem h_S1x256x256))
      let v174 : Vec F S1x256x256 .f32 ← Prog.lift (.load arg11 (Rect.unit (s := S16x256x512) (k0_off13 i) S1x256x256.size (k0_off13_inb i k0_h6)).toLoadRect (View.loadsAt_vmem h_S1x256x256))
      let v193 : Vec F S256x128 .f32 ← Prog.lift (.load arg8 (Rect.unit (s := S8192x128) (k0_off14 i) S256x128.size (k0_off14_inb i k0_h6)).toLoadRect (View.loadsAt_vmem h_S256x128))
      let v198 : Vec F S256x128 .f32 ← Prog.lift (.load arg8 (Rect.unit (s := S8192x128) (k0_off14 i) S256x128.size (k0_off14_inb i k0_h6)).toLoadRect (View.loadsAt_vmem h_S256x128))
      Prog.lift (.store arg8 (Rect.unit (s := S8192x128) (k0_off14 i) S256x128.size (k0_off14_inb i k0_h6)) (k0_pay10 T1 q (k0_pay112 mk) g v171 v174 v193) Finset.univ (View.stores_vmem_bits_univ h_S256x128 rfl) (.inl rfl))
      let v202 : Vec F S256x128 .bf16 ← Prog.lift (.load arg4 (Rect.unit (s := S8192x128) (k0_off14 i) S256x128.size (k0_off14_inb i k0_h6)).toLoadRect (View.loadsAt_vmem h_S256x128))
      pure (k0_pay11 T1 (k0_pay112 mk) g r v171 v174 v202)
    else do
      let ⟨v203, v213⟩ : Σ' (v203 : FVec F S256x512 .bf16), BitVec 32 ← k0_part11 i arg3 harg3 arg4 harg4 arg5 harg5 arg6 harg6 arg7 harg7 arg8 harg8 arg9 harg9 arg10 harg10 arg11 harg11 arg12 harg12 v25 mk T1 q g k0_h6
      let v216 : Vec F S512x128 .bf16 ← Prog.lift (.load arg4 (Rect.unit (s := S8192x128) (k0_off16 i) S512x128.size (k0_off16_inb i k0_h6)).toLoadRect (View.loadsAt_vmem h_S512x128))
      pure (k0_pay12 r v203 v216)
  if k0_h7 : k0_cond7 i = 1#1 then do
    let v170 : Vec F S256x128 .bf16 ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) (k0_pay13 v7 v158) Finset.univ (View.stores_vmem h_S256x128 (harg7.storeExact_slice rfl _ packedbf16_S256x128_S256x128_0_0) (fun _ => rfl)) (.inl rfl))
    pure ⟨⟩
  else do
    pure ⟨⟩
  if k0_h8 : k0_cond8 i = 1#1 then do
    let v170 : Vec F S256x128 .bf16 ← Prog.lift (.load arg7 (Rect.unit (s := S256x128) ![0, 0] S256x128.size inb_S256x128_S256x128_0_0).toLoadRect (View.loadsAt_vmem h_S256x128))
    let v173 : Vec F S256x128 .bf16 ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) (k0_pay14 v7 v158 v170) Finset.univ (View.stores_vmem h_S256x128 (harg7.storeExact_slice rfl _ packedbf16_S256x128_S256x128_0_0) (fun _ => rfl)) (.inl rfl))
    pure ⟨⟩
  else do
    pure ⟨⟩
  pure ⟨⟩

set_option maxHeartbeats 1000000 in
theorem tailEnd (v7 : IVec S256x128 1) (v25 : BitVec 32) (mk : IVec S256x512 1) (T1 : FVec F S512x256 .bf16) (q : FVec F S256x128 .bf16) (g : FVec F S256x1 .f32) (r : FVec F S256x128 .f32)
    (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (E : Set ℕ) :
    St c arg3 arg4 arg5 arg6 arg7 arg8 arg9 arg10 arg11 arg12 Q K V DO DQ DK DV DA BE TR
      ⊢ wp frame (wpE (defs₀ (F := F)) Variants.none (c : Thread nD τ) none) E
          (tailProg i arg3 harg3 arg4 harg4 arg5 harg5 arg6 harg6 arg7 harg7 arg8 harg8 arg9 harg9 arg10 harg10 arg11 harg11 arg12 harg12 v7 v25 mk T1 q g r)
          (fun _ => iprop(St c arg3 arg4 arg5 arg6 arg7 arg8 arg9 arg10 arg11 arg12 Q K V DO (dqS i v7 (dqE i mk T1 g r K DA BE) DQ) (dkE i mk T1 q g DA BE DK) DV DA BE TR)) := by
  have h256 : 512 * dg i + 512 ≤ 8192 := by have := dg_lt i; omega
  have hd := dg_lt i
  have h2 : (i 2).val < 2 := (i 2).isLt
  unfold tailProg
  by_cases h : (i 1).val % 2 = 0
  · have hc := (cond6 i).2 h
    by_cases hh : (i 2).val = 0
    · have hc7 := (cond7 i).2 hh
      have hc8 : ¬ k0_cond8 i = 1#1 := fun h' => by have := (cond8 i).1 h'; omega
      simp only [dkE, dqE, dqS, if_pos h, if_pos hh]
      iintro ⟨HR3, HR4, HR5, HR6, HW7, HW8, HW9, HW10, HW11, HR12⟩
      sl_exec
      sl_step
      have hK := fun inb => ld256 (F := F) arg4.view K (dg i) (by omega) (off14 i) inb
      have hE := fun inb => ld256 (F := F) arg8.view DK (dg i) (by omega) (off14 i) inb
      have hA := fun inb => ldHalf (F := F) arg10.view DA (dg i) hd (off13 i) inb
      have hB := fun inb => ldHalf (F := F) arg11.view BE (dg i) hd (off13 i) inb
      isplitl [HR3]
      · iexact HR3
      isplitl [HR4]
      · iexact HR4
      isplitl [HR5]
      · iexact HR5
      isplitl [HR6]
      · iexact HR6
      isplitl [HW7]
      · iapply (pointsTo_rep_of_read (c : Thread nD τ) arg7 _ fullShare _ ?_) $$ HW7
        refine (View.read_writes_full _ _ _ _ _).trans ?_
        delta tailEnd.sl.v171 tailEnd.sl.v174 tailEnd.sl.v202
        simp only [hK, hA, hB]
      isplitl [HW8]
      · iapply (pointsTo_rep_of_read (c : Thread nD τ) arg8 _ fullShare _ ?_) $$ HW8
        rw [View.read_writes_rep_unit _ _ _ _ (off14 i)]
        delta tailEnd.sl.v171 tailEnd.sl.v174 tailEnd.sl.v193
        simp only [hA, hB]
        exact congrArg (VecWindow.put DK _ _) (congrArg (k0_pay10 T1 q (k0_pay112 mk) g _ _) (hE _))
      isplitl [HW9]
      · iexact HW9
      isplitl [HW10]
      · iexact HW10
      isplitl [HW11]
      · iexact HW11
      · iexact HR12
    · have hc7 := fun h' => hh ((cond7 i).1 h')
      have hc8 := (cond8 i).2 (by omega)
      simp only [dkE, dqE, dqS, if_pos h, if_neg hh]
      iintro ⟨HR3, HR4, HR5, HR6, HW7, HW8, HW9, HW10, HW11, HR12⟩
      sl_exec
      sl_step
      have hK := fun inb => ld256 (F := F) arg4.view K (dg i) (by omega) (off14 i) inb
      have hE := fun inb => ld256 (F := F) arg8.view DK (dg i) (by omega) (off14 i) inb
      have hA := fun inb => ldHalf (F := F) arg10.view DA (dg i) hd (off13 i) inb
      have hB := fun inb => ldHalf (F := F) arg11.view BE (dg i) hd (off13 i) inb
      isplitl [HR3]
      · iexact HR3
      isplitl [HR4]
      · iexact HR4
      isplitl [HR5]
      · iexact HR5
      isplitl [HR6]
      · iexact HR6
      isplitl [HW7]
      · iapply (pointsTo_rep_of_read (c : Thread nD τ) arg7 _ fullShare _ ?_) $$ HW7
        refine (View.read_writes_full _ _ _ _ _).trans ?_
        delta tailEnd.sl.v171_1 tailEnd.sl.v174_1 tailEnd.sl.v202_1
        have hQ : ∀ inb, arg7.view.readAt (Elt F) (Rect.unit ![0, 0] S256x128.size inb).toLoadRect (arg7.view.rep DQ) = DQ := fun inb => View.readAt_rep_full arg7.view DQ inb
        simp only [hK, hA, hB, hQ]
      isplitl [HW8]
      · iapply (pointsTo_rep_of_read (c : Thread nD τ) arg8 _ fullShare _ ?_) $$ HW8
        rw [View.read_writes_rep_unit _ _ _ _ (off14 i)]
        delta tailEnd.sl.v171_1 tailEnd.sl.v174_1 tailEnd.sl.v193_1
        simp only [hA, hB]
        exact congrArg (VecWindow.put DK _ _) (congrArg (k0_pay10 T1 q (k0_pay112 mk) g _ _) (hE _))
      isplitl [HW9]
      · iexact HW9
      isplitl [HW10]
      · iexact HW10
      isplitl [HW11]
      · iexact HW11
      · iexact HR12
  · have hc := fun h' => h ((cond6 i).1 h')
    simp only [k0_part11_eq_skeleton]
    by_cases hh : (i 2).val = 0
    · have hc7 := (cond7 i).2 hh
      have hc8 : ¬ k0_cond8 i = 1#1 := fun h' => by have := (cond8 i).1 h'; omega
      simp only [dkE, dqE, dqS, if_neg h, if_pos hh]
      iintro ⟨HR3, HR4, HR5, HR6, HW7, HW8, HW9, HW10, HW11, HR12⟩
      sl_exec
      sl_step
      have hK := fun inb => ld512 (F := F) arg4.view K (dg i) (by omega) (off16 i) inb
      have hE := fun inb => ld512 (F := F) arg8.view DK (dg i) (by omega) (off16 i) inb
      have hA := fun inb => ldTile (F := F) arg10.view DA (dg i) hd (off15 i) inb
      have hB := fun inb => ldTile (F := F) arg11.view BE (dg i) hd (off15 i) inb
      isplitl [HR3]
      · iexact HR3
      isplitl [HR4]
      · iexact HR4
      isplitl [HR5]
      · iexact HR5
      isplitl [HR6]
      · iexact HR6
      isplitl [HW7]
      · iapply (pointsTo_rep_of_read (c : Thread nD τ) arg7 _ fullShare _ ?_) $$ HW7
        refine (View.read_writes_full _ _ _ _ _).trans ?_
        delta tailEnd.sl.r
        simp only [hK, hA, hB]
      isplitl [HW8]
      · iapply (pointsTo_rep_of_read (c : Thread nD τ) arg8 _ fullShare _ ?_) $$ HW8
        rw [View.read_writes_rep_unit _ _ _ _ (off16 i)]
        simp only [hA, hB]
        exact congrArg (VecWindow.put DK _ _) (congrArg (k0_pay98 mk T1 q g _ _) (hE _))
      isplitl [HW9]
      · iexact HW9
      isplitl [HW10]
      · iexact HW10
      isplitl [HW11]
      · iexact HW11
      · iexact HR12
    · have hc7 := fun h' => hh ((cond7 i).1 h')
      have hc8 := (cond8 i).2 (by omega)
      simp only [dkE, dqE, dqS, if_neg h, if_neg hh]
      iintro ⟨HR3, HR4, HR5, HR6, HW7, HW8, HW9, HW10, HW11, HR12⟩
      sl_exec
      sl_step
      have hK := fun inb => ld512 (F := F) arg4.view K (dg i) (by omega) (off16 i) inb
      have hE := fun inb => ld512 (F := F) arg8.view DK (dg i) (by omega) (off16 i) inb
      have hA := fun inb => ldTile (F := F) arg10.view DA (dg i) hd (off15 i) inb
      have hB := fun inb => ldTile (F := F) arg11.view BE (dg i) hd (off15 i) inb
      isplitl [HR3]
      · iexact HR3
      isplitl [HR4]
      · iexact HR4
      isplitl [HR5]
      · iexact HR5
      isplitl [HR6]
      · iexact HR6
      isplitl [HW7]
      · iapply (pointsTo_rep_of_read (c : Thread nD τ) arg7 _ fullShare _ ?_) $$ HW7
        refine (View.read_writes_full _ _ _ _ _).trans ?_
        delta tailEnd.sl.r_1
        have hQ : ∀ inb, arg7.view.readAt (Elt F) (Rect.unit ![0, 0] S256x128.size inb).toLoadRect (arg7.view.rep DQ) = DQ := fun inb => View.readAt_rep_full arg7.view DQ inb
        simp only [hK, hA, hB, hQ]
      isplitl [HW8]
      · iapply (pointsTo_rep_of_read (c : Thread nD τ) arg8 _ fullShare _ ?_) $$ HW8
        rw [View.read_writes_rep_unit _ _ _ _ (off16 i)]
        simp only [hA, hB]
        exact congrArg (VecWindow.put DK _ _) (congrArg (k0_pay98 mk T1 q g _ _) (hE _))
      isplitl [HW9]
      · iexact HW9
      isplitl [HW10]
      · iexact HW10
      isplitl [HW11]
      · iexact HW11
      · iexact HR12

end Cert.KernelIdeal.SB

end
-- ==== Proof.Parts4.lean ====
module

public import proofs.«01_k».proof.Proof.Parts3

/-! A grid point’s head: the triangles, the zeroed gradients, the masked rows. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The two triangles, as the first point leaves them. -/
def TRI : Vec F S2x512x256 .bf16 := fun y =>
  if (y 0).val = 0 then k0_pay103 (F := F) (fun a => match a with | ⟨0, _⟩ => ⟨0, Nat.one_pos⟩ | ⟨1, _⟩ => ⟨(y 1).val, (y 1).isLt⟩ | ⟨2, _⟩ => ⟨(y 2).val, (y 2).isLt⟩)
  else k0_pay104 (F := F) (fun a => match a with | ⟨0, _⟩ => ⟨0, Nat.one_pos⟩ | ⟨1, _⟩ => ⟨(y 1).val, (y 1).isLt⟩ | ⟨2, _⟩ => ⟨(y 2).val, (y 2).isLt⟩)

theorem tri_put (X : Vec F S2x512x256 .bf16) :
    VecWindow.put (VecWindow.put X ![0, 0, 0] S1x512x256.size (k0_pay103 (F := F))) ![1, 0, 0] S1x512x256.size (k0_pay104 (F := F)) = TRI := by
  funext y
  have y0 : (y 0).val < 2 := (y 0).isLt
  have y1 : (y 1).val < 512 := (y 1).isLt
  have y2 : (y 2).val < 256 := (y 2).isLt
  unfold TRI VecWindow.put
  by_cases h : (y 0).val = 0
  · rw [dif_neg (fun hh => by have h' : 1 ≤ (y 0).val := (hh 0).1; omega), if_pos h, dif_pos (fun a => by
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨Nat.zero_le _, by show (y 2).val < 0 + 256; omega⟩)]
    refine congrArg _ (funext fun a => Fin.ext ?_)
    match a with
    | ⟨0, _⟩ => show (y 0).val - 0 = 0; omega
    | ⟨1, _⟩ => rfl
    | ⟨2, _⟩ => rfl
  · rw [if_neg h, dif_pos (fun a => by
      match a with
      | ⟨0, _⟩ => exact ⟨by show 1 ≤ (y 0).val; omega, by show (y 0).val < 1 + 1; omega⟩
      | ⟨1, _⟩ => exact ⟨Nat.zero_le _, by show (y 1).val < 0 + 512; omega⟩
      | ⟨2, _⟩ => exact ⟨Nat.zero_le _, by show (y 2).val < 0 + 256; omega⟩)]
    refine congrArg _ (funext fun a => Fin.ext ?_)
    match a with
    | ⟨0, _⟩ => show (y 0).val - 1 = 0; omega
    | ⟨1, _⟩ => rfl
    | ⟨2, _⟩ => rfl

theorem tri_0 (inb : ∀ a, (![0, 0, 0] : Fin S2x512x256.rank → ℕ) a + S1x512x256.size a ≤ S2x512x256.size a) :
    VecWindow.window (TRI (F := F)) ![0, 0, 0] S1x512x256.size inb = k0_pay103 (F := F) := by
  rw [← tri_put (F := F) TRI, VecWindow.window_put_of_disjoint _ _ _ _ _ _ _ 0 (Or.inl (by show 0 + 1 ≤ 1; omega))]
  exact VecWindow.window_put_same _ _ _ inb _

theorem tri_1 (inb : ∀ a, (![1, 0, 0] : Fin S2x512x256.rank → ℕ) a + S1x512x256.size a ≤ S2x512x256.size a) :
    VecWindow.window (TRI (F := F)) ![1, 0, 0] S1x512x256.size inb = k0_pay104 (F := F) := by
  rw [← tri_put (F := F) TRI]
  exact VecWindow.window_put_same _ _ _ inb _

theorem tri_writes {κ : Kind} {sp : Space} (v : View sig κ sp S2x512x256 .bf16) (X : Vec F S2x512x256 .bf16)
    (i0 : ∀ a, (![0, 0, 0] : Fin S2x512x256.rank → ℕ) a + S1x512x256.size a ≤ S2x512x256.size a)
    (i1 : ∀ a, (![1, 0, 0] : Fin S2x512x256.rank → ℕ) a + S1x512x256.size a ≤ S2x512x256.size a) :
    v.read (Elt F) (v.writes (Elt F) (v.rep X) [⟨Rect.unit ![1, 0, 0] S1x512x256.size i1, k0_pay104 (F := F)⟩, ⟨Rect.unit ![0, 0, 0] S1x512x256.size i0, k0_pay103 (F := F)⟩]) = TRI := by
  rw [View.read_writes_cons_put v _ i1 _ _ rfl, View.read_writes_cons_put v _ i0 _ _ rfl]
  exact tri_put _

theorem tri_cov0 {κ : Kind} {sp : Space} (v : View sig κ sp S2x512x256 .bf16)
    (i0 i0' : ∀ a, (![0, 0, 0] : Fin S2x512x256.rank → ℕ) a + S1x512x256.size a ≤ S2x512x256.size a)
    (i1 : ∀ a, (![1, 0, 0] : Fin S2x512x256.rank → ℕ) a + S1x512x256.size a ≤ S2x512x256.size a) :
    v.readCov (Val := Elt F) [⟨Rect.unit ![1, 0, 0] S1x512x256.size i1, k0_pay104 (F := F)⟩, ⟨Rect.unit ![0, 0, 0] S1x512x256.size i0, k0_pay103 (F := F)⟩]
      (Rect.unit (s := S2x512x256) ![0, 0, 0] S1x512x256.size i0').toLoadRect = k0_pay103 (F := F) := by
  show v.readAt (Elt F) _ (v.writes (Elt F) v.junk _) = _
  rw [View.readAt_unit v _ i0' rfl i0', View.read_writes_cons_put v _ i1 _ _ rfl, View.read_writes_cons_put v _ i0 _ _ rfl, tri_put]
  exact tri_0 i0'

/-- The triangle of the descending pass, and that of the ascending one. -/
def T0 : FVec F S512x256 .bf16 := k0_pay106 (k0_pay103 (F := F))
def T1 : FVec F S512x256 .bf16 := k0_pay107 (k0_pay104 (F := F))

/-- The keys' and the values' gradient as a point starts from them: zero at the first point of a pair of heads. -/
def dkZ (P : Prop) [Decidable P] (DK : Vec F S8192x128 .f32) : Vec F S8192x128 .f32 := if P then k0_pay108 (F := F) else DK
def dvZ (P : Prop) [Decidable P] (DV : Vec F S8192x128 .f32) : Vec F S8192x128 .f32 := if P then k0_pay109 (F := F) else DV

variable (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole)

set_option maxHeartbeats 1000000 in
theorem part13 (P1 P2 : Prop) [Decidable P1] [Decidable P2] (w1 w2 : BitVec 32) (v7 : IVec S256x128 1) (v29 v33 : IVec S256x512 32) (v39 : BitVec 32)
    (h1 : Scalar.cmpi .ne v39 0#32 = 1#1 ↔ P1)
    (h2 : Scalar.cmpi .ne (Scalar.extui (Scalar.andi (Scalar.cmpi .eq w1 0#32) (Scalar.cmpi .eq w2 0#32))) 0#32 = 1#1 ↔ P2)
    (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (hT : ¬ P1 → TR = TRI) (E : Set ℕ) :
    St c arg3 arg4 arg5 arg6 arg7 arg8 arg9 arg10 arg11 arg12 Q K V DO DQ DK DV DA BE TR
      ⊢ wp frame (wpE (defs₀ (F := F)) Variants.none (c : Thread nD τ) none) E
          (k0_part13_skel i arg3 harg3 arg4 harg4 arg5 harg5 arg6 harg6 arg7 harg7 arg8 harg8 arg9 harg9 arg10 harg10 arg11 harg11 arg12 harg12 w1 w2 v7 v29 v33 v39 0#32)
          (fun y => iprop(⌜y.1 = k0_pay105 v29 v33 ∧ y.2.1 = T0 ∧ y.2.2.1 = T1 ∧ y.2.2.2.1 = k0_pay110 v7 Q ∧ y.2.2.2.2.1 = k0_pay111 v7 DO⌝ ∗ St c arg3 arg4 arg5 arg6 arg7 arg8 arg9 arg10 arg11 arg12 Q K V DO DQ (dkZ P2 DK) (dvZ P2 DV) DA BE TRI)) := by
  unfold k0_part13_skel
  dsimp only
  by_cases p1 : P1
  · have c1 := h1.2 p1
    by_cases p2 : P2
    · have c2 := h2.2 p2
      simp only [dkZ, dvZ, if_pos p2]
      iintro ⟨HR3, HR4, HR5, HR6, HW7, HW8, HW9, HW10, HW11, HR12⟩
      sl_exec
      sl_step
      have hQ : ∀ inb, arg3.view.readAt (Elt F) (Rect.unit ![0, 0] S256x128.size inb).toLoadRect (arg3.view.rep Q) = Q := fun inb => View.readAt_rep_full arg3.view Q inb
      have hD : ∀ inb, arg6.view.readAt (Elt F) (Rect.unit ![0, 0] S256x128.size inb).toLoadRect (arg6.view.rep DO) = DO := fun inb => View.readAt_rep_full arg6.view DO inb
      isplitr
      · ipureintro
        refine ⟨rfl, ?_, ?_, congrArg (k0_pay110 v7) (hQ _), congrArg (k0_pay111 v7) (hD _)⟩
        · exact congrArg k0_pay106 (tri_cov0 arg12.view _ _ _)
        · exact congrArg k0_pay107 (cov_same arg12.view _ _ _ _)
      isplitl [HR3]
      · iexact HR3
      isplitl [HR4]
      · iexact HR4
      isplitl [HR5]
      · iexact HR5
      isplitl [HR6]
      · iexact HR6
      isplitl [HW7]
      · iexact HW7
      isplitl [HW8]
      · iapply (pointsTo_rep_of_read (c : Thread nD τ) arg8 _ fullShare _ ?_) $$ HW8
        exact View.read_writes_full _ _ _ _ _
      isplitl [HW9]
      · iapply (pointsTo_rep_of_read (c : Thread nD τ) arg9 _ fullShare _ ?_) $$ HW9
        exact View.read_writes_full _ _ _ _ _
      isplitl [HW10]
      · iexact HW10
      isplitl [HW11]
      · iexact HW11
      · iapply (pointsTo_rep_of_read (c : Thread nD τ) arg12 _ fullShare _ ?_) $$ HR12
        exact tri_writes (F := F) arg12.view TR _ _
    · have c2 := fun h' => p2 (h2.1 h')
      simp only [dkZ, dvZ, if_neg p2]
      iintro ⟨HR3, HR4, HR5, HR6, HW7, HW8, HW9, HW10, HW11, HR12⟩
      sl_exec
      sl_step
      have hQ : ∀ inb, arg3.view.readAt (Elt F) (Rect.unit ![0, 0] S256x128.size inb).toLoadRect (arg3.view.rep Q) = Q := fun inb => View.readAt_rep_full arg3.view Q inb
      have hD : ∀ inb, arg6.view.readAt (Elt F) (Rect.unit ![0, 0] S256x128.size inb).toLoadRect (arg6.view.rep DO) = DO := fun inb => View.readAt_rep_full arg6.view DO inb
      isplitr
      · ipureintro
        refine ⟨rfl, ?_, ?_, congrArg (k0_pay110 v7) (hQ _), congrArg (k0_pay111 v7) (hD _)⟩
        · exact congrArg k0_pay106 (tri_cov0 arg12.view _ _ _)
        · exact congrArg k0_pay107 (cov_same arg12.view _ _ _ _)
      isplitl [HR3]
      · iexact HR3
      isplitl [HR4]
      · iexact HR4
      isplitl [HR5]
      · iexact HR5
      isplitl [HR6]
      · iexact HR6
      isplitl [HW7]
      · iexact HW7
      isplitl [HW8]
      · iexact HW8
      isplitl [HW9]
      · iexact HW9
      isplitl [HW10]
      · iexact HW10
      isplitl [HW11]
      · iexact HW11
      · iapply (pointsTo_rep_of_read (c : Thread nD τ) arg12 _ fullShare _ ?_) $$ HR12
        exact tri_writes (F := F) arg12.view TR _ _
  · have c1 := fun h' => p1 (h1.1 h')
    obtain rfl := hT p1
    by_cases p2 : P2
    · have c2 := h2.2 p2
      simp only [dkZ, dvZ, if_pos p2]
      iintro ⟨HR3, HR4, HR5, HR6, HW7, HW8, HW9, HW10, HW11, HR12⟩
      sl_exec
      sl_step
      have hQ : ∀ inb, arg3.view.readAt (Elt F) (Rect.unit ![0, 0] S256x128.size inb).toLoadRect (arg3.view.rep Q) = Q := fun inb => View.readAt_rep_full arg3.view Q inb
      have hD : ∀ inb, arg6.view.readAt (Elt F) (Rect.unit ![0, 0] S256x128.size inb).toLoadRect (arg6.view.rep DO) = DO := fun inb => View.readAt_rep_full arg6.view DO inb
      isplitr
      · ipureintro
        refine ⟨rfl, ?_, ?_, congrArg (k0_pay110 v7) (hQ _), congrArg (k0_pay111 v7) (hD _)⟩
        · exact congrArg k0_pay106 ((View.readAt_rep_unit _ _ _ rfl _).trans (tri_0 _))
        · exact congrArg k0_pay107 ((View.readAt_rep_unit _ _ _ rfl _).trans (tri_1 _))
      isplitl [HR3]
      · iexact HR3
      isplitl [HR4]
      · iexact HR4
      isplitl [HR5]
      · iexact HR5
      isplitl [HR6]
      · iexact HR6
      isplitl [HW7]
      · iexact HW7
      isplitl [HW8]
      · iapply (pointsTo_rep_of_read (c : Thread nD τ) arg8 _ fullShare _ ?_) $$ HW8
        exact View.read_writes_full _ _ _ _ _
      isplitl [HW9]
      · iapply (pointsTo_rep_of_read (c : Thread nD τ) arg9 _ fullShare _ ?_) $$ HW9
        exact View.read_writes_full _ _ _ _ _
      isplitl [HW10]
      · iexact HW10
      isplitl [HW11]
      · iexact HW11
      · iexact HR12
    · have c2 := fun h' => p2 (h2.1 h')
      simp only [dkZ, dvZ, if_neg p2]
      iintro ⟨HR3, HR4, HR5, HR6, HW7, HW8, HW9, HW10, HW11, HR12⟩
      sl_exec
      sl_step
      have hQ : ∀ inb, arg3.view.readAt (Elt F) (Rect.unit ![0, 0] S256x128.size inb).toLoadRect (arg3.view.rep Q) = Q := fun inb => View.readAt_rep_full arg3.view Q inb
      have hD : ∀ inb, arg6.view.readAt (Elt F) (Rect.unit ![0, 0] S256x128.size inb).toLoadRect (arg6.view.rep DO) = DO := fun inb => View.readAt_rep_full arg6.view DO inb
      isplitr
      · ipureintro
        refine ⟨rfl, ?_, ?_, congrArg (k0_pay110 v7) (hQ _), congrArg (k0_pay111 v7) (hD _)⟩
        · exact congrArg k0_pay106 ((View.readAt_rep_unit _ _ _ rfl _).trans (tri_0 _))
        · exact congrArg k0_pay107 ((View.readAt_rep_unit _ _ _ rfl _).trans (tri_1 _))
      isplitl [HR3]
      · iexact HR3
      isplitl [HR4]
      · iexact HR4
      isplitl [HR5]
      · iexact HR5
      isplitl [HR6]
      · iexact HR6
      isplitl [HW7]
      · iexact HW7
      isplitl [HW8]
      · iexact HW8
      isplitl [HW9]
      · iexact HW9
      isplitl [HW10]
      · iexact HW10
      isplitl [HW11]
      · iexact HW11
      · iexact HR12

end Cert.KernelIdeal.SB

end
-- ==== Proof.Body.lean ====
module

public import proofs.«01_k».proof.Proof.Parts4

/-! One grid point: the body carries the ten buffers from their values to the values after it. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A grid point's masks, its head's scaled queries and its head's cotangents. -/
def mkP (i : grid0.Coords) : IVec S256x512 1 := k0_pay105 (k0_pay100 i) (k0_pay101 i)
def qP (i : grid0.Coords) (Q : Vec F S256x128 .bf16) : FVec F S256x128 .bf16 := k0_pay110 (k0_pay99 i) Q
def dP (i : grid0.Coords) (DO : Vec F S256x128 .f32) : FVec F S256x128 .bf16 := k0_pay111 (k0_pay99 i) DO

/-- The first point, and the points that start a pair of heads. -/
abbrev First (i : grid0.Coords) : Prop := (i 0).val = 0 ∧ (i 1).val = 0 ∧ (i 2).val = 0
abbrev Reset (i : grid0.Coords) : Prop := (i 1).val = 0 ∧ (i 2).val = 0

theorem condF (i : grid0.Coords) : Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1 ↔ First i :=
  (by decide +kernel : ∀ (a : Fin 4) (b : Fin 32) (d : Fin 2), Scalar.cmpi .ne (Scalar.extui (Scalar.andi (Scalar.andi (Scalar.cmpi .eq (BitVec.ofNat 32 a.val) 0#32) (Scalar.cmpi .eq (BitVec.ofNat 32 b.val) 0#32)) (Scalar.cmpi .eq (BitVec.ofNat 32 d.val) 0#32)) : BitVec 32) 0#32 = 1#1 ↔ (a.val = 0 ∧ b.val = 0 ∧ d.val = 0)) (i 0) (i 1) (i 2)

theorem condR (i : grid0.Coords) : Scalar.cmpi .ne (Scalar.extui (Scalar.andi (Scalar.cmpi .eq (BitVec.ofNat 32 (i 1).val) 0#32) (Scalar.cmpi .eq (BitVec.ofNat 32 (i 2).val) 0#32)) : BitVec 32) 0#32 = 1#1 ↔ Reset i :=
  (by decide +kernel : ∀ (b : Fin 32) (d : Fin 2), Scalar.cmpi .ne (Scalar.extui (Scalar.andi (Scalar.cmpi .eq (BitVec.ofNat 32 b.val) 0#32) (Scalar.cmpi .eq (BitVec.ofNat 32 d.val) 0#32)) : BitVec 32) 0#32 = 1#1 ↔ (b.val = 0 ∧ d.val = 0)) (i 1) (i 2)

/-- The carried row sums after the descending pass's wide tiles. -/
def lP (i : grid0.Coords) (q : FVec F S256x128 .bf16) (K : Vec F S8192x128 .bf16) : FVec F S256x1 .f32 := latAt (dg i) q K (l0 i (mkP i) q K) ((i 1).val / 4)
/-- The stored cotangents and gates after the descending pass. -/
def daP (i : grid0.Coords) (q d : FVec F S256x128 .bf16) (K V : Vec F S8192x128 .bf16) (DA : Vec F S16x256x512 .f32) : Vec F S16x256x512 .f32 :=
  daO i T0 q d K V (lP i q K) (daAt (dg i) T0 q d K V (l0 i (mkP i) q K) (daD i (mkP i) T0 q d K V DA) ((i 1).val / 4))
def beP (i : grid0.Coords) (q : FVec F S256x128 .bf16) (K : Vec F S8192x128 .bf16) (BE : Vec F S16x256x512 .f32) : Vec F S16x256x512 .f32 :=
  beO i q K (beAt (dg i) q K (beD i q K BE) ((i 1).val / 4))
/-- The values' gradient after a point. -/
def dvP (i : grid0.Coords) (q d : FVec F S256x128 .bf16) (K : Vec F S8192x128 .bf16) (DV : Vec F S8192x128 .f32) : Vec F S8192x128 .f32 :=
  dvO i T0 q d K (lP i q K) (dvAt (dg i) T0 q d K (l0 i (mkP i) q K) (dvD i (mkP i) T0 q d K (dvZ (Reset i) DV)) ((i 1).val / 4))
/-- The ascending pass's carried sum before the diagonal tile. -/
def gP (i : grid0.Coords) (q d : FVec F S256x128 .bf16) (K V : Vec F S8192x128 .bf16) (DA : Vec F S16x256x512 .f32) : FVec F S256x1 .f32 :=
  gAt (dg i % 2) DA (gO i T0 q d K V (lP i q K)) ((i 1).val / 4)
/-- The keys' gradient after a point, from the stored tiles. -/
def dkP (i : grid0.Coords) (q d : FVec F S256x128 .bf16) (K V : Vec F S8192x128 .bf16) (DA BE : Vec F S16x256x512 .f32) (DK : Vec F S8192x128 .f32) : Vec F S8192x128 .f32 :=
  dkE i (mkP i) T1 q (gP i q d K V DA) DA BE
    (dkAt (dg i % 2) T1 q DA BE (gO i T0 q d K V (lP i q K)) (dkO i T0 T1 q d K V (lP i q K) (dkZ (Reset i) DK)) ((i 1).val / 4))
/-- The queries' gradient after a point, from the stored tiles. -/
def dqP (i : grid0.Coords) (q d : FVec F S256x128 .bf16) (K V : Vec F S8192x128 .bf16) (DA BE : Vec F S16x256x512 .f32) (DQ : Vec F S256x128 .bf16) : FVec F S256x128 .bf16 :=
  dqS i (k0_pay99 i) (dqE i (mkP i) T1 (gP i q d K V DA)
    (dqAt (dg i % 2) T1 K DA BE (gO i T0 q d K V (lP i q K)) (dqO i T0 T1 q d K V (lP i q K)) ((i 1).val / 4)) K DA BE) DQ

variable (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole)

set_option maxHeartbeats 1000000 in
theorem loop4 (T1 : FVec F S512x256 .bf16) (q : FVec F S256x128 .bf16) (v127 v153 : BitVec 32) (l : FVec F S256x1 .f32 × FVec F S256x128 .f32) (P : sProp 𝕄) (E : Set ℕ) :
    P ⊢ wp frame (wpE (defs₀ (F := F)) Variants.none (c : Thread nD τ) none) E (Scf.Loop.for (k0_t4_loop i) (k0_t4_ok i) l (k0_t4_body i arg3 harg3 arg4 harg4 arg5 harg5 arg6 harg6 arg7 harg7 arg8 harg8 arg9 harg9 arg10 harg10 arg11 harg11 arg12 harg12 T1 q v127 v153)) (fun y => iprop(⌜y = l⌝ ∗ P)) := by
  iintro H
  iapply (Scf.wp_for frame (wpE (defs₀ (F := F)) Variants.none (c : Thread nD τ) none) E (k0_t4_loop i).lb (k0_t4_loop i).ub (k0_t4_loop i).st (k0_t4_ok i) l _
    (fun k y => iprop(⌜y = l⌝ ∗ P)) ?_)
  · intro k
    exact absurd (lt_of_lt_of_eq k.isLt (trips4 i)) (Nat.not_lt_zero _)
  · isplitl [H]
    · isplitr
      · ipureintro; rfl
      · iexact H
    · iintro %acc H2
      iexact H2

theorem known (φ : Prop) (P R : sProp 𝕄) (h : φ → P ⊢ R) : iprop(⌜φ⌝ ∗ P) ⊢ R := by
  iintro ⟨%h', H⟩
  iapply (h h') $$ H

set_option maxHeartbeats 4000000 in
theorem body (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (hT : ¬ First i → TR = TRI) (E : Set ℕ) :
    St c arg3 arg4 arg5 arg6 arg7 arg8 arg9 arg10 arg11 arg12 Q K V DO DQ DK DV DA BE TR
      ⊢ wp frame (wpE (defs₀ (F := F)) Variants.none (c : Thread nD τ) none) E
          (cc0_sb_bwd i arg3 harg3 arg4 harg4 arg5 harg5 arg6 harg6 arg7 harg7 arg8 harg8 arg9 harg9 arg10 harg10 arg11 harg11 arg12 harg12)
          (fun _ => St c arg3 arg4 arg5 arg6 arg7 arg8 arg9 arg10 arg11 arg12 Q K V DO (dqP i (qP i Q) (dP i DO) K V (daP i (qP i Q) (dP i DO) K V DA) (beP i (qP i Q) K BE) DQ) (dkP i (qP i Q) (dP i DO) K V (daP i (qP i Q) (dP i DO) K V DA) (beP i (qP i Q) K BE) DK) (dvP i (qP i Q) (dP i DO) K DV) (daP i (qP i Q) (dP i DO) K V DA) (beP i (qP i Q) K BE) TRI) := by
  rw [cc0_sb_bwd_eq_skeleton]
  unfold cc0_sb_bwd_skel
  rw [k0_part12_eq_skeleton, k0_part13_eq_skeleton, k0_part14_eq_skeleton, k0_part15_eq_skeleton]
  rw [wp_bind]
  unfold k0_part12_skel
  dsimp only
  rw [wp_pure, fupd_wp_eq]
  rw [wp_bind]
  refine (part13 c i arg3 harg3 arg4 harg4 arg5 harg5 arg6 harg6 arg7 harg7 arg8 harg8 arg9 harg9 arg10 harg10 arg11 harg11 arg12 harg12 (First i) (Reset i) _ _ _ _ _ _ (condF i) (condR i) Q K V DO DQ DK DV DA BE TR hT E).trans (wp_mono _ _ _ fun y => ?_)
  obtain ⟨y1, y2, y3, y4, y5, y6, y7⟩ := y
  refine known _ _ _ fun h => ?_
  dsimp only at h
  obtain ⟨rfl, rfl, rfl, rfl, rfl⟩ := h
  dsimp only
  rw [wp_bind]
  refine (part14 c i arg3 harg3 arg4 harg4 arg5 harg5 arg6 harg6 arg7 harg7 arg8 harg8 arg9 harg9 arg10 harg10 arg11 harg11 arg12 harg12 _ _ _ _ _ _ _ Q K V DO DQ _ _ DA BE TRI E).trans (wp_mono _ _ _ fun y => known _ _ _ fun h => ?_)
  obtain ⟨y1, y2, y3, y4, y5⟩ := y
  dsimp only at h
  obtain ⟨rfl, rfl⟩ := h
  dsimp only
  rw [wp_bind]
  refine (part15 c i arg3 harg3 arg4 harg4 arg5 harg5 arg6 harg6 arg7 harg7 arg8 harg8 arg9 harg9 arg10 harg10 arg11 harg11 arg12 harg12 _ _ _ _ _ _ _ _ Q K V DO DQ _ _ _ _ TRI E).trans (wp_mono _ _ _ fun y => known _ _ _ fun h => ?_)
  obtain ⟨y1, y2, y3, y4, y5, y6⟩ := y
  dsimp only at h
  obtain ⟨rfl, rfl⟩ := h
  dsimp only
  rw [wp_bind]
  refine (loop3 c i arg3 harg3 arg4 harg4 arg5 harg5 arg6 harg6 arg7 harg7 arg8 harg8 arg9 harg9 arg10 harg10 arg11 harg11 arg12 harg12 _ _ _ _ _ Q K V DO DQ _ _ _ _ TRI E).trans (wp_mono _ _ _ fun y => known _ _ _ fun h => ?_)
  subst h
  dsimp only
  rw [wp_bind]
  refine (loop4 c i arg3 harg3 arg4 harg4 arg5 harg5 arg6 harg6 arg7 harg7 arg8 harg8 arg9 harg9 arg10 harg10 arg11 harg11 arg12 harg12 _ _ _ _ _ _ E).trans (wp_mono _ _ _ fun y => known _ _ _ fun h => ?_)
  subst h
  dsimp only
  exact (tailEnd c i arg3 harg3 arg4 harg4 arg5 harg5 arg6 harg6 arg7 harg7 arg8 harg8 arg9 harg9 arg10 harg10 arg11 harg11 arg12 harg12 (k0_pay99 i) _ (mkP i) T1 (qP i Q) _ _ Q K V DO DQ _ _ _ _ TRI E)

end Cert.KernelIdeal.SB

end
-- ==== Proof.Tiles.lean ====
module

public import proofs.«01_k».proof.Proof.Body

/-! The stored tiles a grid point reads back are those it stored: none of what the buffers held before is read. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

theorem inbT (j : ℕ) (h : j < 16) : ∀ a, (![j, 0, 0] : Fin S16x256x512.rank → ℕ) a + S1x256x512.size a ≤ S16x256x512.size a := fun a =>
  match a with
  | ⟨0, _⟩ => by show j + 1 ≤ 16; omega
  | ⟨1, _⟩ => by show 0 + 256 ≤ 256; omega
  | ⟨2, _⟩ => by show 0 + 512 ≤ 512; omega
theorem inbH (j : ℕ) (h : j < 16) : ∀ a, (![j, 0, 0] : Fin S16x256x512.rank → ℕ) a + S1x256x256.size a ≤ S16x256x512.size a := fun a =>
  match a with
  | ⟨0, _⟩ => by show j + 1 ≤ 16; omega
  | ⟨1, _⟩ => by show 0 + 256 ≤ 256; omega
  | ⟨2, _⟩ => by show 0 + 256 ≤ 512; omega

theorem tile_putTile (X : Vec F S16x256x512 .f32) (a j : ℕ) (ha : a < 16) (hj : j < 16) (w : Vec F S1x256x512 .f32) :
    tile (putTile X a w) j = if j = a then w else tile X j := by
  rw [← windowTile _ j hj (inbT j hj), ← windowTile X j hj (inbT j hj)]
  by_cases h : j = a
  · subst h; rw [if_pos rfl]; exact VecWindow.window_put_same _ _ _ _ _
  · rw [if_neg h]
    refine VecWindow.window_put_of_disjoint _ _ _ _ _ _ _ 0 ?_
    show j + 1 ≤ a ∨ a + 1 ≤ j
    omega

theorem tile_putHalf (X : Vec F S16x256x512 .f32) (a j : ℕ) (ha : a < 16) (hj : j < 16) (h : j ≠ a) (w : Vec F S1x256x256 .f32) :
    tile (putHalf X a w) j = tile X j := by
  rw [← windowTile _ j hj (inbT j hj), ← windowTile X j hj (inbT j hj)]
  refine VecWindow.window_put_of_disjoint _ _ _ _ _ _ _ 0 ?_
  show j + 1 ≤ a ∨ a + 1 ≤ j
  omega

theorem half_putHalf (X : Vec F S16x256x512 .f32) (a : ℕ) (ha : a < 16) (w : Vec F S1x256x256 .f32) :
    half (putHalf X a w) a = w := by
  rw [← windowHalf _ a ha (inbH a ha)]
  exact VecWindow.window_put_same _ _ _ _ _

theorem half_putTile (X : Vec F S16x256x512 .f32) (a j : ℕ) (ha : a < 16) (hj : j < 16) (h : j ≠ a) (w : Vec F S1x256x512 .f32) :
    half (putTile X a w) j = half X j := by
  rw [← windowHalf _ j hj (inbH j hj), ← windowHalf X j hj (inbH j hj)]
  refine VecWindow.window_put_of_disjoint _ _ _ _ _ _ _ 0 ?_
  show j + 1 ≤ a ∨ a + 1 ≤ j
  omega

/-- Tile `j` below the diagonal tile `D`, of a wide tile of the descending pass. -/
def waT (D : ℕ) (T0 : FVec F S512x256 .bf16) (q d : FVec F S256x128 .bf16) (K V : Vec F S8192x128 .bf16) (l : FVec F S256x1 .f32) (j : ℕ) : Vec F S1x256x512 .f32 :=
  if (D - 1 - j) % 2 = 1 then wA0 T0 q d (latAt D q K l ((D - 1 - j) / 2)) (slab1024 K (D - 2 - 2 * ((D - 1 - j) / 2))) (slab1024 V (D - 2 - 2 * ((D - 1 - j) / 2)))
  else wA1 T0 q d (latAt D q K l ((D - 1 - j) / 2)) (slab1024 K (D - 2 - 2 * ((D - 1 - j) / 2))) (slab1024 V (D - 2 - 2 * ((D - 1 - j) / 2)))
def wbT (D : ℕ) (q : FVec F S256x128 .bf16) (K : Vec F S8192x128 .bf16) (j : ℕ) : Vec F S1x256x512 .f32 :=
  if (D - 1 - j) % 2 = 1 then wB0 q (slab1024 K (D - 2 - 2 * ((D - 1 - j) / 2))) else wB1 q (slab1024 K (D - 2 - 2 * ((D - 1 - j) / 2)))

theorem tile_da (D : ℕ) (T0 : FVec F S512x256 .bf16) (q d : FVec F S256x128 .bf16) (K V : Vec F S8192x128 .bf16) (l : FVec F S256x1 .f32) (X : Vec F S16x256x512 .f32) (j k : ℕ) (hD : D < 16) (hj : j < 16) (hk : 2 * k ≤ D) :
    tile (daAt D T0 q d K V l X k) j = if D - 2 * k ≤ j ∧ j < D then waT D T0 q d K V l j else tile X j := by
  induction k with
  | zero => rw [if_neg (by omega)]; rfl
  | succ k ih =>
    have e := ih (by omega)
    show tile (putTile (putTile (daAt D T0 q d K V l X k) (D - 2 - 2 * k) _) (D - 2 - 2 * k + 1) _) j = _
    rw [tile_putTile _ _ _ (by omega) hj, tile_putTile _ _ _ (by omega) hj, e]
    by_cases h1 : j = D - 2 - 2 * k + 1
    · have q1 : (D - 1 - j) / 2 = k := by omega
      have q2 : ¬ (D - 1 - j) % 2 = 1 := by omega
      rw [if_pos h1, if_pos (by omega)]
      unfold waT
      rw [if_neg q2, q1]
    · rw [if_neg h1]
      by_cases h0 : j = D - 2 - 2 * k
      · have q1 : (D - 1 - j) / 2 = k := by omega
        have q2 : (D - 1 - j) % 2 = 1 := by omega
        rw [if_pos h0, if_pos (by omega)]
        unfold waT
        rw [if_pos q2, q1]
      · rw [if_neg h0]
        by_cases h2 : D - 2 * k ≤ j ∧ j < D
        · rw [if_pos h2, if_pos (by omega)]
        · rw [if_neg h2, if_neg (by omega)]

theorem half_da (D : ℕ) (T0 : FVec F S512x256 .bf16) (q d : FVec F S256x128 .bf16) (K V : Vec F S8192x128 .bf16) (l : FVec F S256x1 .f32) (X : Vec F S16x256x512 .f32) (k : ℕ) (hD : D < 16) (hk : 2 * k ≤ D) :
    half (daAt D T0 q d K V l X k) D = half X D := by
  induction k with
  | zero => rfl
  | succ k ih =>
    show half (putTile (putTile (daAt D T0 q d K V l X k) (D - 2 - 2 * k) _) (D - 2 - 2 * k + 1) _) D = _
    rw [half_putTile _ _ _ (by omega) hD (by omega), half_putTile _ _ _ (by omega) hD (by omega)]
    exact ih (by omega)

theorem tile_be (D : ℕ) (q : FVec F S256x128 .bf16) (K : Vec F S8192x128 .bf16) (X : Vec F S16x256x512 .f32) (j k : ℕ) (hD : D < 16) (hj : j < 16) (hk : 2 * k ≤ D) :
    tile (beAt D q K X k) j = if D - 2 * k ≤ j ∧ j < D then wbT D q K j else tile X j := by
  induction k with
  | zero => rw [if_neg (by omega)]; rfl
  | succ k ih =>
    have e := ih (by omega)
    show tile (putTile (putTile (beAt D q K X k) (D - 2 - 2 * k) _) (D - 2 - 2 * k + 1) _) j = _
    rw [tile_putTile _ _ _ (by omega) hj, tile_putTile _ _ _ (by omega) hj, e]
    by_cases h1 : j = D - 2 - 2 * k + 1
    · have q1 : (D - 1 - j) / 2 = k := by omega
      have q2 : ¬ (D - 1 - j) % 2 = 1 := by omega
      rw [if_pos h1, if_pos (by omega)]
      unfold wbT
      rw [if_neg q2, q1]
    · rw [if_neg h1]
      by_cases h0 : j = D - 2 - 2 * k
      · have q1 : (D - 1 - j) / 2 = k := by omega
        have q2 : (D - 1 - j) % 2 = 1 := by omega
        rw [if_pos h0, if_pos (by omega)]
        unfold wbT
        rw [if_pos q2, q1]
      · rw [if_neg h0]
        by_cases h2 : D - 2 * k ≤ j ∧ j < D
        · rw [if_pos h2, if_pos (by omega)]
        · rw [if_neg h2, if_neg (by omega)]

theorem half_be (D : ℕ) (q : FVec F S256x128 .bf16) (K : Vec F S8192x128 .bf16) (X : Vec F S16x256x512 .f32) (k : ℕ) (hD : D < 16) (hk : 2 * k ≤ D) :
    half (beAt D q K X k) D = half X D := by
  induction k with
  | zero => rfl
  | succ k ih =>
    show half (putTile (putTile (beAt D q K X k) (D - 2 - 2 * k) _) (D - 2 - 2 * k + 1) _) D = _
    rw [half_putTile _ _ _ (by omega) hD (by omega), half_putTile _ _ _ (by omega) hD (by omega)]
    exact ih (by omega)

/-- The weights' cotangents and the gates of tile `j` at a grid point. -/
def aT (i : grid0.Coords) (q d : FVec F S256x128 .bf16) (K V : Vec F S8192x128 .bf16) (j : ℕ) : Vec F S1x256x512 .f32 :=
  if dg i % 2 = 1 ∧ j = 0 then aO T0 q d K V (lP i q K) else waT (dg i) T0 q d K V (l0 i (mkP i) q K) j
def bT (i : grid0.Coords) (q : FVec F S256x128 .bf16) (K : Vec F S8192x128 .bf16) (j : ℕ) : Vec F S1x256x512 .f32 :=
  if dg i % 2 = 1 ∧ j = 0 then bO q K else wbT (dg i) q K j

theorem tile_daP (i : grid0.Coords) (q d : FVec F S256x128 .bf16) (K V : Vec F S8192x128 .bf16) (X : Vec F S16x256x512 .f32) (j : ℕ) (hj : j < dg i) : tile (daP i q d K V X) j = aT i q d K V j := by
  have hd := dg_lt i
  have h4 : 2 * ((i 1).val / 4) ≤ dg i := by unfold dg; omega
  have h5 : dg i - 2 * ((i 1).val / 4) = dg i % 2 := by unfold dg; omega
  unfold daP daO aT
  by_cases o : (i 1).val / 2 % 2 = 1
  · rw [if_pos o, tile_putTile _ _ _ (by omega) (by omega)]
    by_cases h : j = 0
    · rw [if_pos h, if_pos ⟨o, h⟩]
    · rw [if_neg h, if_neg (fun h' => h h'.2), tile_da _ _ _ _ _ _ _ _ _ _ hd (by omega) h4, if_pos (by omega)]
  · rw [if_neg o, if_neg (fun h' => o h'.1), tile_da _ _ _ _ _ _ _ _ _ _ hd (by omega) h4, if_pos (by have o' : dg i % 2 = 0 := (by unfold dg; omega); omega)]

theorem tile_beP (i : grid0.Coords) (q : FVec F S256x128 .bf16) (K : Vec F S8192x128 .bf16) (X : Vec F S16x256x512 .f32) (j : ℕ) (hj : j < dg i) : tile (beP i q K X) j = bT i q K j := by
  have hd := dg_lt i
  have h4 : 2 * ((i 1).val / 4) ≤ dg i := by unfold dg; omega
  have h5 : dg i - 2 * ((i 1).val / 4) = dg i % 2 := by unfold dg; omega
  unfold beP beO bT
  by_cases o : (i 1).val / 2 % 2 = 1
  · rw [if_pos o, tile_putTile _ _ _ (by omega) (by omega)]
    by_cases h : j = 0
    · rw [if_pos h, if_pos ⟨o, h⟩]
    · rw [if_neg h, if_neg (fun h' => h h'.2), tile_be _ _ _ _ _ _ hd (by omega) h4, if_pos (by omega)]
  · rw [if_neg o, if_neg (fun h' => o h'.1), tile_be _ _ _ _ _ _ hd (by omega) h4, if_pos (by have o' : dg i % 2 = 0 := (by unfold dg; omega); omega)]

/-- The diagonal tile, of an even row block (its first 256 keys) and of an odd one. -/
theorem half_daP (i : grid0.Coords) (q d : FVec F S256x128 .bf16) (K V : Vec F S8192x128 .bf16) (X : Vec F S16x256x512 .f32) (h : (i 1).val % 2 = 0) : half (daP i q d K V X) (dg i) = aS i (mkP i) T0 q d K V := by
  have hd := dg_lt i
  have h4 : 2 * ((i 1).val / 4) ≤ dg i := by unfold dg; omega
  unfold daP daO
  have e : half (daAt (dg i) T0 q d K V (l0 i (mkP i) q K) (daD i (mkP i) T0 q d K V X) ((i 1).val / 4)) (dg i) = aS i (mkP i) T0 q d K V := by
    rw [half_da _ _ _ _ _ _ _ _ _ hd h4]
    unfold daD
    rw [if_pos h]
    exact half_putHalf _ _ hd _
  by_cases o : (i 1).val / 2 % 2 = 1
  · rw [if_pos o, half_putTile _ _ _ (by omega) hd (by unfold dg; omega), e]
  · rw [if_neg o, e]

theorem half_beP (i : grid0.Coords) (q : FVec F S256x128 .bf16) (K : Vec F S8192x128 .bf16) (X : Vec F S16x256x512 .f32) (h : (i 1).val % 2 = 0) : half (beP i q K X) (dg i) = bS i q K := by
  have hd := dg_lt i
  have h4 : 2 * ((i 1).val / 4) ≤ dg i := by unfold dg; omega
  unfold beP beO
  have e : half (beAt (dg i) q K (beD i q K X) ((i 1).val / 4)) (dg i) = bS i q K := by
    rw [half_be _ _ _ _ _ hd h4]
    unfold beD
    rw [if_pos h]
    exact half_putHalf _ _ hd _
  by_cases o : (i 1).val / 2 % 2 = 1
  · rw [if_pos o, half_putTile _ _ _ (by omega) hd (by unfold dg; omega), e]
  · rw [if_neg o, e]

theorem tileD_daP (i : grid0.Coords) (q d : FVec F S256x128 .bf16) (K V : Vec F S8192x128 .bf16) (X : Vec F S16x256x512 .f32) (h : ¬ (i 1).val % 2 = 0) : tile (daP i q d K V X) (dg i) = aL i (mkP i) T0 q d K V := by
  have hd := dg_lt i
  have h4 : 2 * ((i 1).val / 4) ≤ dg i := by unfold dg; omega
  unfold daP daO
  have e : tile (daAt (dg i) T0 q d K V (l0 i (mkP i) q K) (daD i (mkP i) T0 q d K V X) ((i 1).val / 4)) (dg i) = aL i (mkP i) T0 q d K V := by
    rw [tile_da _ _ _ _ _ _ _ _ _ _ hd hd h4, if_neg (by omega)]
    unfold daD
    rw [if_neg h, tile_putTile _ _ _ hd hd, if_pos rfl]
  by_cases o : (i 1).val / 2 % 2 = 1
  · rw [if_pos o, tile_putTile _ _ _ (by omega) hd, if_neg (by unfold dg; omega), e]
  · rw [if_neg o, e]

theorem tileD_beP (i : grid0.Coords) (q : FVec F S256x128 .bf16) (K : Vec F S8192x128 .bf16) (X : Vec F S16x256x512 .f32) (h : ¬ (i 1).val % 2 = 0) : tile (beP i q K X) (dg i) = bL i q K := by
  have hd := dg_lt i
  have h4 : 2 * ((i 1).val / 4) ≤ dg i := by unfold dg; omega
  unfold beP beO
  have e : tile (beAt (dg i) q K (beD i q K X) ((i 1).val / 4)) (dg i) = bL i q K := by
    rw [tile_be _ _ _ _ _ _ hd hd h4, if_neg (by omega)]
    unfold beD
    rw [if_neg h, tile_putTile _ _ _ hd hd, if_pos rfl]
  by_cases o : (i 1).val / 2 % 2 = 1
  · rw [if_pos o, tile_putTile _ _ _ (by omega) hd, if_neg (by unfold dg; omega), e]
  · rw [if_neg o, e]

/-! ## The ascending pass over tiles given by number -/

def gT (b : ℕ) (A : ℕ → Vec F S1x256x512 .f32) (g : FVec F S256x1 .f32) : ℕ → FVec F S256x1 .f32
  | 0 => g
  | k + 1 => uG (gT b A g k) (A (b + 2 * k)) (A (b + 2 * k + 1))
def dqT (b : ℕ) (T1 : FVec F S512x256 .bf16) (K : Vec F S8192x128 .bf16) (A B : ℕ → Vec F S1x256x512 .f32) (g : FVec F S256x1 .f32) (r : FVec F S256x128 .f32) : ℕ → FVec F S256x128 .f32
  | 0 => r
  | k + 1 => uQ T1 (gT b A g k) (dqT b T1 K A B g r k) (A (b + 2 * k)) (A (b + 2 * k + 1)) (B (b + 2 * k)) (B (b + 2 * k + 1)) (slab1024 K (b + 2 * k))
def dkT (b : ℕ) (T1 : FVec F S512x256 .bf16) (q : FVec F S256x128 .bf16) (A B : ℕ → Vec F S1x256x512 .f32) (g : FVec F S256x1 .f32) (DK : Vec F S8192x128 .f32) : ℕ → Vec F S8192x128 .f32
  | 0 => DK
  | k + 1 => putRows1024 (dkT b T1 q A B g DK k) (b + 2 * k)
      (uK T1 q (gT b A g k) (A (b + 2 * k)) (A (b + 2 * k + 1)) (B (b + 2 * k)) (B (b + 2 * k + 1)) (slab1024 (dkT b T1 q A B g DK k) (b + 2 * k)))

theorem gAt_eq (b D : ℕ) (X : Vec F S16x256x512 .f32) (A : ℕ → Vec F S1x256x512 .f32) (h : ∀ j < D, tile X j = A j) (g : FVec F S256x1 .f32) (k : ℕ) (hk : b + 2 * k ≤ D) :
    gAt b X g k = gT b A g k := by
  induction k with
  | zero => rfl
  | succ k ih => unfold gAt gT; rw [ih (by omega), h _ (by omega), h _ (by omega)]

theorem dqAt_eq (b D : ℕ) (T1 : FVec F S512x256 .bf16) (K : Vec F S8192x128 .bf16) (X Y : Vec F S16x256x512 .f32) (A B : ℕ → Vec F S1x256x512 .f32) (h : ∀ j < D, tile X j = A j) (h' : ∀ j < D, tile Y j = B j)
    (g : FVec F S256x1 .f32) (r : FVec F S256x128 .f32) (k : ℕ) (hk : b + 2 * k ≤ D) :
    dqAt b T1 K X Y g r k = dqT b T1 K A B g r k := by
  induction k with
  | zero => rfl
  | succ k ih => unfold dqAt dqT; rw [ih (by omega), gAt_eq b D X A h g k (by omega), h _ (by omega), h _ (by omega), h' _ (by omega), h' _ (by omega)]

theorem dkAt_eq (b D : ℕ) (T1 : FVec F S512x256 .bf16) (q : FVec F S256x128 .bf16) (X Y : Vec F S16x256x512 .f32) (A B : ℕ → Vec F S1x256x512 .f32) (h : ∀ j < D, tile X j = A j) (h' : ∀ j < D, tile Y j = B j)
    (g : FVec F S256x1 .f32) (DK : Vec F S8192x128 .f32) (k : ℕ) (hk : b + 2 * k ≤ D) :
    dkAt b T1 q X Y g DK k = dkT b T1 q A B g DK k := by
  induction k with
  | zero => rfl
  | succ k ih => unfold dkAt dkT; rw [ih (by omega), gAt_eq b D X A h g k (by omega), h _ (by omega), h _ (by omega), h' _ (by omega), h' _ (by omega)]

/-! ## A grid point's results, of its operands alone -/

def gF (i : grid0.Coords) (q d : FVec F S256x128 .bf16) (K V : Vec F S8192x128 .bf16) : FVec F S256x1 .f32 := gT (dg i % 2) (aT i q d K V) (gO i T0 q d K V (lP i q K)) ((i 1).val / 4)
/-- The keys' gradient after a point that starts from `DK`. -/
def dkF (i : grid0.Coords) (q d : FVec F S256x128 .bf16) (K V : Vec F S8192x128 .bf16) (DK : Vec F S8192x128 .f32) : Vec F S8192x128 .f32 :=
  let X := dkT (dg i % 2) T1 q (aT i q d K V) (bT i q K) (gO i T0 q d K V (lP i q K)) (dkO i T0 T1 q d K V (lP i q K) DK) ((i 1).val / 4)
  if (i 1).val % 2 = 0 then putRows256 X (dg i) (k0_pay10 T1 q (k0_pay112 (mkP i)) (gF i q d K V) (aS i (mkP i) T0 q d K V) (bS i q K) (slab256 X (dg i)))
  else putRows512 X (dg i) (k0_pay98 (mkP i) T1 q (gF i q d K V) (aL i (mkP i) T0 q d K V) (bL i q K) (slab512 X (dg i)))
/-- The head's queries' gradient at a point. -/
def rF (i : grid0.Coords) (q d : FVec F S256x128 .bf16) (K V : Vec F S8192x128 .bf16) : FVec F S256x128 .f32 :=
  let r := dqT (dg i % 2) T1 K (aT i q d K V) (bT i q K) (gO i T0 q d K V (lP i q K)) (dqO i T0 T1 q d K V (lP i q K)) ((i 1).val / 4)
  if (i 1).val % 2 = 0 then k0_pay11 T1 (k0_pay112 (mkP i)) (gF i q d K V) r (aS i (mkP i) T0 q d K V) (bS i q K) (slab256 K (dg i))
  else k0_pay12 r (k0_pay97 (mkP i) T1 (gF i q d K V) (aL i (mkP i) T0 q d K V) (bL i q K)) (slab512 K (dg i))

theorem dkP_eq (i : grid0.Coords) (q d : FVec F S256x128 .bf16) (K V : Vec F S8192x128 .bf16) (X Y : Vec F S16x256x512 .f32) (DK : Vec F S8192x128 .f32) :
    dkP i q d K V (daP i q d K V X) (beP i q K Y) DK = dkF i q d K V (dkZ (Reset i) DK) := by
  have hk : dg i % 2 + 2 * ((i 1).val / 4) ≤ dg i := by unfold dg; omega
  unfold dkP dkF dkE gP gF
  rw [gAt_eq _ (dg i) _ (aT i q d K V) (fun j hj => tile_daP i q d K V X j hj) _ _ hk,
    dkAt_eq _ (dg i) _ _ _ _ (aT i q d K V) (bT i q K) (fun j hj => tile_daP i q d K V X j hj) (fun j hj => tile_beP i q K Y j hj) _ _ _ hk]
  by_cases h : (i 1).val % 2 = 0
  · simp only [if_pos h]
    rw [half_daP i q d K V X h, half_beP i q K Y h]
  · simp only [if_neg h]
    rw [tileD_daP i q d K V X h, tileD_beP i q K Y h]

theorem dqP_eq (i : grid0.Coords) (q d : FVec F S256x128 .bf16) (K V : Vec F S8192x128 .bf16) (X Y : Vec F S16x256x512 .f32) (DQ : Vec F S256x128 .bf16) :
    dqP i q d K V (daP i q d K V X) (beP i q K Y) DQ = dqS i (k0_pay99 i) (rF i q d K V) DQ := by
  have hk : dg i % 2 + 2 * ((i 1).val / 4) ≤ dg i := by unfold dg; omega
  unfold dqP rF dqE gP gF
  rw [gAt_eq _ (dg i) _ (aT i q d K V) (fun j hj => tile_daP i q d K V X j hj) _ _ hk,
    dqAt_eq _ (dg i) _ _ _ _ (aT i q d K V) (bT i q K) (fun j hj => tile_daP i q d K V X j hj) (fun j hj => tile_beP i q K Y j hj) _ _ _ hk]
  by_cases h : (i 1).val % 2 = 0
  · simp only [if_pos h]
    rw [half_daP i q d K V X h, half_beP i q K Y h]
  · simp only [if_neg h]
    rw [tileD_daP i q d K V X h, tileD_beP i q K Y h]

end Cert.KernelIdeal.SB

end
-- ==== Proof.Run.lean ====
module

public import proofs.«01_k».proof.Proof.Tiles
public import Idealize.ShloMosaic.Lib.Claim
public import Idealize.ShloMosaic.Lib.Pipeline.TableIdle

/-! The run: what the seven windows hold at every grid point, and the two frames. -/

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's coordinates in order: the pair of heads, the row block, the head of the pair. -/
theorem coords0 : ∀ t : Fin grid0.N, (grid0.coords t 0).val = t.val / 64 ∧ (grid0.coords t 1).val = t.val / 2 % 32 ∧ (grid0.coords t 2).val = t.val % 2 :=
  by decide +kernel

theorem tN (t : Fin cfg0.N) : t.val < 256 := lt_of_lt_of_eq t.isLt (show cfg0.N = 256 from N_0)

theorem reset_iff (t : Fin cfg0.N) : Reset (grid0.coords t) ↔ t.val % 64 = 0 := by
  have h := coords0 t
  unfold Reset; rw [h.2.1, h.2.2]; omega

theorem first_iff (t : Fin cfg0.N) : First (grid0.coords t) ↔ t.val = 0 := by
  have h := coords0 t
  have := tN t
  unfold First; rw [h.1, h.2.1, h.2.2]; omega

/-- The four operands of a grid point. -/
def qB (c : Dev nD) (t : Fin cfg0.N) : Vec F S256x128 .bf16 := iblk m c 0 t
def kB (c : Dev nD) (t : Fin cfg0.N) : Vec F S8192x128 .bf16 := iblk m c 1 t
def vB (c : Dev nD) (t : Fin cfg0.N) : Vec F S8192x128 .bf16 := iblk m c 2 t
def doB (c : Dev nD) (t : Fin cfg0.N) : Vec F S256x128 .f32 := iblk m c 3 t

/-- The point's head's scaled queries and cotangents. -/
def qH (c : Dev nD) (t : Fin cfg0.N) : FVec F S256x128 .bf16 := qP (grid0.coords t) (qB m c t)
def dH (c : Dev nD) (t : Fin cfg0.N) : FVec F S256x128 .bf16 := dP (grid0.coords t) (doB m c t)

/-- The keys' gradient after point `n`. -/
def dkA (c : Dev nD) : (n : ℕ) → n < cfg0.N → Vec F S8192x128 .f32
  | 0, h => dkF (grid0.coords ⟨0, h⟩) (qH m c ⟨0, h⟩) (dH m c ⟨0, h⟩) (kB m c ⟨0, h⟩) (vB m c ⟨0, h⟩) (k0_pay108 (F := F))
  | n + 1, h => dkF (grid0.coords ⟨n + 1, h⟩) (qH m c ⟨n + 1, h⟩) (dH m c ⟨n + 1, h⟩) (kB m c ⟨n + 1, h⟩) (vB m c ⟨n + 1, h⟩)
      (dkZ (Reset (grid0.coords ⟨n + 1, h⟩)) (dkA c n (Nat.lt_of_succ_lt h)))

/-- The values' gradient after a point that starts from `DV`. -/
def dvF (i : grid0.Coords) (q d : FVec F S256x128 .bf16) (K : Vec F S8192x128 .bf16) (DV : Vec F S8192x128 .f32) : Vec F S8192x128 .f32 :=
  dvO i T0 q d K (lP i q K) (dvAt (dg i) T0 q d K (l0 i (mkP i) q K) (dvD i (mkP i) T0 q d K DV) ((i 1).val / 4))

theorem dvP_eq (i : grid0.Coords) (q d : FVec F S256x128 .bf16) (K : Vec F S8192x128 .bf16) (DV : Vec F S8192x128 .f32) : dvP i q d K DV = dvF i q d K (dvZ (Reset i) DV) := rfl

/-- The values' gradient after point `n`. -/
def dvA (c : Dev nD) : (n : ℕ) → n < cfg0.N → Vec F S8192x128 .f32
  | 0, h => dvF (grid0.coords ⟨0, h⟩) (qH m c ⟨0, h⟩) (dH m c ⟨0, h⟩) (kB m c ⟨0, h⟩) (k0_pay109 (F := F))
  | n + 1, h => dvF (grid0.coords ⟨n + 1, h⟩) (qH m c ⟨n + 1, h⟩) (dH m c ⟨n + 1, h⟩) (kB m c ⟨n + 1, h⟩)
      (dvZ (Reset (grid0.coords ⟨n + 1, h⟩)) (dvA c n (Nat.lt_of_succ_lt h)))

/-- A head's queries' gradient at a point. -/
def rA (c : Dev nD) (t : Fin cfg0.N) : FVec F S256x128 .f32 := rF (grid0.coords t) (qH m c t) (dH m c t) (kB m c t) (vB m c t)

theorem predLt (t : Fin cfg0.N) : t.val - 1 < cfg0.N := Nat.lt_of_le_of_lt (Nat.sub_le _ _) t.isLt

/-- The queries' gradient after a point: the pair's first head's, to which the second's is added. -/
def dqA (c : Dev nD) (t : Fin cfg0.N) : Vec F S256x128 .bf16 :=
  dqS (grid0.coords t) (k0_pay99 (grid0.coords t)) (rA m c t)
    (k0_pay13 (k0_pay99 (grid0.coords ⟨t.val - 1, predLt t⟩)) (rA m c ⟨t.val - 1, predLt t⟩))

/-- What a grid point starts with beside the windows: the two tile buffers at anything, the triangles once made. -/
def Scr (c : Dev nD) (n : ℕ) : sProp 𝕄 :=
  iprop((∃ X : Vec F S16x256x512 .f32, owns (c : Thread nD τ) (Memref.whole cc0_scratch0) fullShare X)
    ∗ (∃ X : Vec F S16x256x512 .f32, owns (c : Thread nD τ) (Memref.whole cc0_scratch1) fullShare X)
    ∗ (∃ X : Vec F S2x512x256 .bf16, ⌜n ≠ 0 → X = TRI⌝ ∗ owns (c : Thread nD τ) (Memref.whole cc0_scratch2) fullShare X)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqA m c t
    | ⟨5, _⟩ => dkA m c t.val t.isLt
    | ⟨6, _⟩ => dvA m c t.val t.isLt
  Φ t := Scr c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dqA m c t := by dsimp only [dats]
theorem after_5 (c : Dev nD) (t : Fin cfg0.N) : (dats m 0 c).after 5 t = dkA m c t.val t.isLt := by dsimp only [dats]
theorem after_6 (c : Dev nD) (t : Fin cfg0.N) : (dats m 0 c).after 6 t = dvA m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- An accumulated output is found as the point before left it, unless the point before wrote it back. -/
theorem before_out {w : Fin cfg0.W} (c : Dev nD) (t : Fin cfg0.N) (d) (h0 : t.val ≠ 0) (hf : (cfg0.win w).fetch t = false)
    (hfl : (cfg0.win w).flush ⟨t.val - 1, predLt t⟩ = false) (hk : ∀ t' d, (dats m 0 c).left w t' d = (dats m 0 c).after w t') :
    (dats m 0 c).before w t d = (dats m 0 c).after w ⟨t.val - 1, predLt t⟩ := by
  rw [Dat.before_of_pos _ w t h0 hf, hfl, if_neg Bool.false_ne_true, hk]

theorem never_idle : ∀ t : Fin grid0.N, idle0 4 (grid0.coords t) = false := by decide +kernel

theorem left_4 (c : Dev nD) (t : Fin cfg0.N) (d) : (dats m 0 c).left 4 t d = (dats m 0 c).after 4 t := by
  unfold Dat.left
  rw [show cfg0.idle 4 (cfg0.grid.coords t) = false from never_idle t]
  rfl

theorem before_4 (c : Dev nD) (t : Fin cfg0.N) (d) (h : t.val % 2 = 1) : (dats m 0 c).before 4 t d = dqA m c ⟨t.val - 1, predLt t⟩ := by
  rw [before_out m c t d (by omega) rfl (Bool.eq_false_iff.2 fun h' => by have := (flush0_4 _).1 h'; dsimp only at this; omega) (left_4 m c), after_4]

theorem before_5 (c : Dev nD) (t : Fin cfg0.N) (d) (h : t.val % 64 ≠ 0) : (dats m 0 c).before 5 t d = dkA m c (t.val - 1) (predLt t) := by
  rw [before_out m c t d (by omega) rfl (Bool.eq_false_iff.2 fun h' => by have := (flush0_5 _).1 h'; dsimp only at this; omega) (fun _ _ => rfl), after_5]

theorem before_6 (c : Dev nD) (t : Fin cfg0.N) (d) (h : t.val % 64 ≠ 0) : (dats m 0 c).before 6 t d = dvA m c (t.val - 1) (predLt t) := by
  rw [before_out m c t d (by omega) rfl (Bool.eq_false_iff.2 fun h' => by have := (flush0_6 _).1 h'; dsimp only at this; omega) (fun _ _ => rfl), after_6]

/-- One point's step of the three results. -/
theorem dk_step (c : Dev nD) (t : Fin cfg0.N) (X : Vec F S8192x128 .f32) (hX : t.val % 64 ≠ 0 → X = dkA m c (t.val - 1) (predLt t)) :
    dkF (grid0.coords t) (qH m c t) (dH m c t) (kB m c t) (vB m c t) (dkZ (Reset (grid0.coords t)) X) = dkA m c t.val t.isLt := by
  by_cases h : t.val % 64 = 0
  · have e : ∀ Y, dkZ (Reset (grid0.coords t)) Y = k0_pay108 (F := F) := fun Y => if_pos ((reset_iff t).2 h)
    obtain ⟨n, hn⟩ := t
    cases n with
    | zero => rw [e]; rfl
    | succ n => unfold dkA; rw [e, e]
  · obtain ⟨n, hn⟩ := t
    cases n with
    | zero => exact absurd rfl h
    | succ n => rw [hX h]; rfl

theorem dv_step (c : Dev nD) (t : Fin cfg0.N) (X : Vec F S8192x128 .f32) (hX : t.val % 64 ≠ 0 → X = dvA m c (t.val - 1) (predLt t)) :
    dvF (grid0.coords t) (qH m c t) (dH m c t) (kB m c t) (dvZ (Reset (grid0.coords t)) X) = dvA m c t.val t.isLt := by
  by_cases h : t.val % 64 = 0
  · have e : ∀ Y, dvZ (Reset (grid0.coords t)) Y = k0_pay109 (F := F) := fun Y => if_pos ((reset_iff t).2 h)
    obtain ⟨n, hn⟩ := t
    cases n with
    | zero => rw [e]; rfl
    | succ n => unfold dvA; rw [e, e]
  · obtain ⟨n, hn⟩ := t
    cases n with
    | zero => exact absurd rfl h
    | succ n => rw [hX h]; rfl

theorem dq_step (c : Dev nD) (t : Fin cfg0.N) (X : Vec F S256x128 .bf16) (hX : t.val % 2 = 1 → X = dqA m c ⟨t.val - 1, predLt t⟩) :
    dqS (grid0.coords t) (k0_pay99 (grid0.coords t)) (rA m c t) X = dqA m c t := by
  have h := (coords0 t).2.2
  unfold dqA
  by_cases h1 : t.val % 2 = 1
  · rw [hX h1]
    unfold dqA
    refine congrArg _ ?_
    have h' := (coords0 ⟨t.val - 1, predLt t⟩).2.2
    exact if_pos (h'.trans (by dsimp only; omega))
  · unfold dqS
    rw [if_pos (by omega), if_pos (by omega)]

theorem bodyO (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S16x256x512 .f32) (harg10 : arg10.IsWhole) (arg11 : Memref sig .tc .vmem S16x256x512 .f32) (harg11 : arg11.IsWhole) (arg12 : Memref sig .tc .vmem S2x512x256 .bf16) (harg12 : arg12.IsWhole) (Q : Vec F S256x128 .bf16) (K V : Vec F S8192x128 .bf16) (DO : Vec F S256x128 .f32) (DQ : Vec F S256x128 .bf16) (DK DV : Vec F S8192x128 .f32) (DA BE : Vec F S16x256x512 .f32) (TR : Vec F S2x512x256 .bf16) (hT : ¬ First i → TR = TRI) (E : Set ℕ) :
    (iprop(owns (c : Thread nD τ) arg3 fullShare (Q) ∗ owns (c : Thread nD τ) arg4 fullShare (K) ∗ owns (c : Thread nD τ) arg5 fullShare (V) ∗ owns (c : Thread nD τ) arg6 fullShare (DO) ∗ owns (c : Thread nD τ) arg7 fullShare (DQ) ∗ owns (c : Thread nD τ) arg8 fullShare (DK) ∗ owns (c : Thread nD τ) arg9 fullShare (DV) ∗ owns (c : Thread nD τ) arg10 fullShare (DA) ∗ owns (c : Thread nD τ) arg11 fullShare (BE) ∗ owns (c : Thread nD τ) arg12 fullShare (TR)) : sProp 𝕄)
      ⊢ wp frame (wpE (defs₀ (F := F)) Variants.none (c : Thread nD τ) none) E
          (cc0_sb_bwd i arg3 harg3 arg4 harg4 arg5 harg5 arg6 harg6 arg7 harg7 arg8 harg8 arg9 harg9 arg10 harg10 arg11 harg11 arg12 harg12)
          (fun _ => iprop(owns (c : Thread nD τ) arg3 fullShare (Q) ∗ owns (c : Thread nD τ) arg4 fullShare (K) ∗ owns (c : Thread nD τ) arg5 fullShare (V) ∗ owns (c : Thread nD τ) arg6 fullShare (DO) ∗ owns (c : Thread nD τ) arg7 fullShare (dqS i (k0_pay99 i) (rF i (qP i Q) (dP i DO) K V) DQ) ∗ owns (c : Thread nD τ) arg8 fullShare (dkF i (qP i Q) (dP i DO) K V (dkZ (Reset i) DK)) ∗ owns (c : Thread nD τ) arg9 fullShare (dvF i (qP i Q) (dP i DO) K (dvZ (Reset i) DV)) ∗ owns (c : Thread nD τ) arg10 fullShare (daP i (qP i Q) (dP i DO) K V DA) ∗ owns (c : Thread nD τ) arg11 fullShare (beP i (qP i Q) K BE) ∗ owns (c : Thread nD τ) arg12 fullShare (TRI))) := by
  have h := body c i arg3 harg3 arg4 harg4 arg5 harg5 arg6 harg6 arg7 harg7 arg8 harg8 arg9 harg9 arg10 harg10 arg11 harg11 arg12 harg12 Q K V DO DQ DK DV DA BE TR hT E
  rw [dkP_eq, dqP_eq] at h
  simp only [owns_eq_rep]
  exact h

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Scr c (t.val + 1) from rfl, show (dats m 0 c).Φ t.castSucc = Scr c t.val from rfl,
    show (dats m 0 c).owesAt () t.succ = (dats m 0 c).owesAt () t.castSucc from rfl,
    after_0, after_1, after_2, after_3, after_4, after_5, after_6]
  unfold Scr
  iintro ⟨⟨⟨%X10, H10⟩, ⟨%X11, H11⟩, ⟨%X12, %h12, H12⟩, HP⟩, Ho, ⟨%d0, H0⟩, ⟨%d1, H1⟩, ⟨%d2, H2⟩, ⟨%d3, H3⟩, ⟨%d4, H4⟩, ⟨%d5, H5⟩, ⟨%d6, H6⟩⟩
  iapply (wp_wand_r _ _ _)
  isplitl [H0 H1 H2 H3 H4 H5 H6 H10 H11 H12]
  · iapply (bodyO c (grid0.coords t) _ _ _ _ _ _ _ _ _ _ _ _ _ _ _ _ _ _ _ _ (qB m c t) (kB m c t) (vB m c t) (doB m c t)
      ((dats m 0 c).before 4 t d4) ((dats m 0 c).before 5 t d5) ((dats m 0 c).before 6 t d6) X10 X11 X12
      (fun h => h12 fun h' => h ((first_iff t).2 h')) Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    iexact H12
  · iintro %y
    rw [show dqS (grid0.coords t) (k0_pay99 (grid0.coords t)) (rF (grid0.coords t) (qP (grid0.coords t) (qB m c t)) (dP (grid0.coords t) (doB m c t)) (kB m c t) (vB m c t)) ((dats m 0 c).before 4 t d4) = dqA m c t from
        dq_step m c t _ (fun h => before_4 m c t d4 h),
      show dkF (grid0.coords t) (qP (grid0.coords t) (qB m c t)) (dP (grid0.coords t) (doB m c t)) (kB m c t) (vB m c t) (dkZ (Reset (grid0.coords t)) ((dats m 0 c).before 5 t d5)) = dkA m c t.val t.isLt from
        dk_step m c t _ (fun h => before_5 m c t d5 h),
      show dvF (grid0.coords t) (qP (grid0.coords t) (qB m c t)) (dP (grid0.coords t) (doB m c t)) (kB m c t) (dvZ (Reset (grid0.coords t)) ((dats m 0 c).before 6 t d6)) = dvA m c t.val t.isLt from
        dv_step m c t _ (fun h => before_6 m c t d6 h)]
    iintro ⟨H0, H1, H2, H3, H4, H5, H6, H10, H11, H12⟩
    isplitl [H10 H11 H12 HP]
    · isplitl [H10]; · iexists _; iexact H10
      isplitl [H11]; · iexists _; iexact H11
      isplitl [H12]
      · iexists _
        isplitr
        · ipureintro; exact fun _ => rfl
        · iexact H12
      · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [show cfg0.idle 4 (cfg0.grid.coords t) = false from never_idle t]
  exact .rfl

theorem scr_in (c : Dev nD) : Pipeline.ΦA spec0 c ⊢ (Scr (F := F) c 0 : sProp 𝕄) := by
  unfold Pipeline.ΦA Scr
  rw [scopedRest0_eq]
  iintro ⟨⟨⟨%f, H0⟩, ⟨%g, H1⟩, ⟨%h, H2⟩⟩, HP⟩
  isplitl [H0]
  · iexists f; rw [owns_whole]; iexact H0
  isplitl [H1]
  · iexists g; rw [owns_whole]; iexact H1
  isplitl [H2]
  · iexists h; isplitr
    · ipureintro; exact fun h => absurd rfl h
    · rw [owns_whole]; iexact H2
  · iexact HP

theorem scr_out (c : Dev nD) (n : ℕ) : (Scr (F := F) c n : sProp 𝕄) ⊢ Pipeline.ΦA spec0 c := by
  unfold Pipeline.ΦA Scr
  rw [scopedRest0_eq]
  iintro ⟨⟨%f, H0⟩, ⟨%g, H1⟩, ⟨%h, -, H2⟩, HP⟩
  isplitl [H0 H1 H2]
  · isplitl [H0]
    · iexists f; rw [← owns_whole]; iexact H0
    isplitl [H1]
    · iexists g; rw [← owns_whole]; iexact H1
    · iexists h; rw [← owns_whole]; iexact H2
  · iexact HP

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => scr_in c) (hout := fun c => scr_out c _)

theorem run_main : θ_run defs (onTc (τ := τ) (main (F := F))) (s₀ m ρ) (Pipeline.FramePost cfgs (dats m) 0 (V m)) :=
  (θ_run defs _ _).mono (fun _ h => h.1) (run_main_quiescent m ρ)

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) (run_main m ρ)) ((θ_run defs _ _).mono (fun _ h => h.2) (run_main_quiescent m ρ))

end Cert.KernelIdeal.SB

end
-- ==== Proof.RealBase.lean ====
module

public import proofs.«01_k».proof.Proof.Gen.KernelIdeal.Skeleton
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.IdealHost

/-! What it is for a matrix of extended reals to hold given real numbers, and what the operations of the kernel make of such matrices. -/

@[expose] public section

noncomputable section

namespace Cert.KernelIdeal.SB

open Idealize.ShloMosaic Idealize.ShloMosaic.TcCoe Idealize.ShloMosaic.ValueIdx
open scoped BigOperators
open Cert.KernelIdeal

/-- The matrix holds the real numbers `f r c`. -/
def Rd {a b : ℕ} (v : (⟨2, ![a, b]⟩ : Shape).Idx → EReal) (f : ℕ → ℕ → ℝ) : Prop :=
  ∀ (r : Fin a) (c : Fin b), v (ix2 r c) = ((f r.val c.val : ℝ) : EReal)

/-- The one-slice array holds the real numbers `f r c`. -/
def Rt {a b : ℕ} (v : (⟨3, ![1, a, b]⟩ : Shape).Idx → EReal) (f : ℕ → ℕ → ℝ) : Prop :=
  ∀ (r : Fin a) (c : Fin b), v (ix3 0 r c) = ((f r.val c.val : ℝ) : EReal)

/-- The mask is set where `p` holds. -/
def Mk {a b : ℕ} (v : (⟨2, ![a, b]⟩ : Shape).Idx → BitVec 1) (p : ℕ → ℕ → Prop) : Prop :=
  ∀ (r : Fin a) (c : Fin b), (p r.val c.val → v (ix2 r c) = 1#1) ∧ (¬ p r.val c.val → v (ix2 r c) = 0#1)

theorem coe_sum_fin (n : ℕ) (f : ℕ → ℝ) : (∑ k : Fin n, ((f k.val : ℝ) : EReal)) = ((∑ k ∈ Finset.range n, f k : ℝ) : EReal) := by
  rw [Fin.sum_univ_eq_sum_range (fun k => ((f k : ℝ) : EReal))]
  induction n with
  | zero => simp
  | succ n ih => rw [Finset.sum_range_succ, Finset.sum_range_succ, EReal.coe_add, ih]

section
variable {a b : ℕ} {φ ψ : FTy}

theorem Rd.congr {v : (⟨2, ![a, b]⟩ : Shape).Idx → EReal} {f g : ℕ → ℕ → ℝ} (h : Rd v f) (e : ∀ r < a, ∀ c < b, f r c = g r c) : Rd v g :=
  fun r c => (h r c).trans (by rw [e _ r.isLt _ c.isLt])

theorem Rt.congr {v : (⟨3, ![1, a, b]⟩ : Shape).Idx → EReal} {f g : ℕ → ℕ → ℝ} (h : Rt v f) (e : ∀ r < a, ∀ c < b, f r c = g r c) : Rt v g :=
  fun r c => (h r c).trans (by rw [e _ r.isLt _ c.isLt])

theorem rd_const (s : EReal) (x : ℝ) (h : s = (x : EReal)) : Rd (a := a) (b := b) (fun _ => s) (fun _ _ => x) := fun _ _ => h

theorem rd_zero : Rd (a := a) (b := b) (broadcast ⟨2, ![a, b]⟩ (Scalar.ofBits (F := Ideal) .f32 0x00000000#32)) (fun _ _ => 0) :=
  fun _ _ => (Ideal.ofBits_zero_f32).trans EReal.coe_zero.symm

theorem rd_one : Rd (a := a) (b := b) (broadcast ⟨2, ![a, b]⟩ (Scalar.ofBits (F := Ideal) .f32 0x3F800000#32)) (fun _ _ => 1) :=
  fun _ _ => (Ideal.ofBits_one_f32).trans EReal.coe_one.symm

theorem eighth32 : Ideal.ofBits .f32 0x3E000000#32 = ((1 / 8 : ℝ) : EReal) := by
  simp [Ideal.ofBits, Ideal.ieee, -EReal.coe_mul]; norm_num

theorem eighth16 : Ideal.ofBits .bf16 0x3E00#16 = ((1 / 8 : ℝ) : EReal) := by
  simp [Ideal.ofBits, Ideal.ieee, -EReal.coe_mul]; norm_num

theorem Rd.addf {x y : FVec Ideal ⟨2, ![a, b]⟩ φ} {f g : ℕ → ℕ → ℝ} (hx : Rd x f) (hy : Rd y g) :
    Rd (addf x y) (fun r c => f r c + g r c) := fun r c => by
  show x _ + y _ = _
  rw [hx r c, hy r c, EReal.coe_add]

theorem Rd.subf {x y : FVec Ideal ⟨2, ![a, b]⟩ φ} {f g : ℕ → ℕ → ℝ} (hx : Rd x f) (hy : Rd y g) :
    Rd (subf x y) (fun r c => f r c - g r c) := fun r c => by
  show x _ - y _ = _
  rw [hx r c, hy r c, EReal.coe_sub]

theorem Rd.mulf {x y : FVec Ideal ⟨2, ![a, b]⟩ φ} {f g : ℕ → ℕ → ℝ} (hx : Rd x f) (hy : Rd y g) :
    Rd (mulf x y) (fun r c => f r c * g r c) := fun r c => by
  show x _ * y _ = _
  rw [hx r c, hy r c, EReal.coe_mul]

theorem Rd.maximumf {x y : FVec Ideal ⟨2, ![a, b]⟩ φ} {f g : ℕ → ℕ → ℝ} (hx : Rd x f) (hy : Rd y g) :
    Rd (maximumf x y) (fun r c => max (f r c) (g r c)) := fun r c => by
  show max (x _) (y _) = _
  rw [hx r c, hy r c]
  beta_reduce
  rcases le_total (f r.val c.val) (g r.val c.val) with h | h
  · rw [max_eq_right h, max_eq_right (EReal.coe_le_coe_iff.2 h)]
  · rw [max_eq_left h, max_eq_left (EReal.coe_le_coe_iff.2 h)]

theorem Rd.absf {x : FVec Ideal ⟨2, ![a, b]⟩ φ} {f : ℕ → ℕ → ℝ} (hx : Rd x f) :
    Rd (absf x) (fun r c => |f r c|) := fun r c => by
  show max (x _) (-(x _)) = _
  rw [hx r c, ← EReal.coe_neg]
  beta_reduce
  rw [abs_eq_max_neg]
  rcases le_total (f r.val c.val) (-f r.val c.val) with h | h
  · rw [max_eq_right h, max_eq_right (EReal.coe_le_coe_iff.2 h)]
  · rw [max_eq_left h, max_eq_left (EReal.coe_le_coe_iff.2 h)]

theorem Rd.exp {x : FVec Ideal ⟨2, ![a, b]⟩ φ} {f : ℕ → ℕ → ℝ} (hx : Rd x f) :
    Rd (exp x) (fun r c => Real.exp (f r c)) := fun r c => by
  show Ideal.exp (x _) = _
  rw [hx r c, Ideal.exp_coe]

theorem Rd.log {x : FVec Ideal ⟨2, ![a, b]⟩ φ} {f : ℕ → ℕ → ℝ} (hx : Rd x f) (h : ∀ r c, 0 < f r c) :
    Rd (log x) (fun r c => Real.log (f r c)) := fun r c => by
  show Ideal.log (x _) = _
  rw [hx r c, Ideal.log_coe, if_neg (not_le.2 (h _ _))]

theorem Rd.truncf {x : FVec Ideal ⟨2, ![a, b]⟩ φ} {f : ℕ → ℕ → ℝ} (hx : Rd x f) (h : ψ.bits < φ.bits) :
    Rd (truncf ψ x h) f := fun r c => hx r c

theorem Rd.extf {x : FVec Ideal ⟨2, ![a, b]⟩ φ} {f : ℕ → ℕ → ℝ} (hx : Rd x f) (h : φ.bits < ψ.bits) :
    Rd (extf ψ x h) f := fun r c => hx r c

/-- What is left of a matrix of reals after its rounded copy is taken off is nothing. -/
theorem Rd.rest {x y : FVec Ideal ⟨2, ![a, b]⟩ φ} {f : ℕ → ℕ → ℝ} (hx : Rd x f) (hy : Rd y f) :
    Rd (Idealize.ShloMosaic.subf x y) (fun _ _ => 0) := (hx.subf hy).congr fun _ _ _ _ => sub_self _

theorem Rd.select {m : IVec ⟨2, ![a, b]⟩ 1} {p : ℕ → ℕ → Prop} [∀ r c, Decidable (p r c)] {x y : FVec Ideal ⟨2, ![a, b]⟩ φ} {f g : ℕ → ℕ → ℝ}
    (hm : Mk m p) (hx : Rd x f) (hy : Rd y g) :
    Rd (select m x y) (fun r c => if p r c then f r c else g r c) := fun r c => by
  rw [select_apply]
  beta_reduce
  by_cases hp : p r.val c.val
  · rw [(hm r c).1 hp, select_one, if_pos hp, hx r c]
  · rw [(hm r c).2 hp, select_zero, if_neg hp, hy r c]

theorem Rd.shapeCast_self {x : (⟨2, ![a, b]⟩ : Shape).Idx → EReal} {f : ℕ → ℕ → ℝ} (hx : Rd x f) (h : (⟨2, ![a, b]⟩ : Shape).ShapeCasts ⟨2, ![a, b]⟩) :
    Rd (shapeCast ⟨2, ![a, b]⟩ x h) f := by rw [Idealize.ShloMosaic.shapeCast_self]; exact hx

theorem Rt.drop {x : (⟨3, ![1, a, b]⟩ : Shape).Idx → EReal} {f : ℕ → ℕ → ℝ} (hx : Rt x f) (h : (⟨3, ![1, a, b]⟩ : Shape).ShapeCasts ⟨2, ![a, b]⟩) :
    Rd (shapeCast ⟨2, ![a, b]⟩ x h) f := fun r c => by rw [shapeCast_1ab_ab_apply, hx r c]

theorem Rd.lift {x : (⟨2, ![a, b]⟩ : Shape).Idx → EReal} {f : ℕ → ℕ → ℝ} (hx : Rd x f) (h : (⟨2, ![a, b]⟩ : Shape).ShapeCasts ⟨3, ![1, a, b]⟩) :
    Rt (shapeCast ⟨3, ![1, a, b]⟩ x h) f := fun r c => by rw [shapeCast_ab_1ab_apply, hx r c]

theorem Rd.slice {x : (⟨2, ![a, b]⟩ : Shape).Idx → EReal} {f : ℕ → ℕ → ℝ} (hx : Rd x f) (n o : ℕ)
    (h : (⟨2, ![a, b]⟩ : Shape).Slices ![0, o] ⟨2, ![a, n]⟩) :
    Rd (extractStridedSlice ⟨2, ![a, n]⟩ ![0, o] x h) (fun r c => f r (o + c)) := fun r c => by
  have h1 := h.2 1
  have hlt : o + c.val < b := by
    have := c.isLt
    have h2 : o + n ≤ b := h1
    omega
  rw [extractStridedSlice_apply _ _ h (ix2 r c) (ix2 r ⟨o + c.val, hlt⟩) (fun a => by
    match a with
    | ⟨0, _⟩ => exact (Nat.zero_add _).symm
    | ⟨1, _⟩ => rfl)]
  exact hx r _

theorem Mk.slice {x : IVec ⟨2, ![a, b]⟩ 1} {p : ℕ → ℕ → Prop} (hx : Mk x p) (n o : ℕ)
    (h : (⟨2, ![a, b]⟩ : Shape).Slices ![0, o] ⟨2, ![a, n]⟩) :
    Mk (extractStridedSlice ⟨2, ![a, n]⟩ ![0, o] x h) (fun r c => p r (o + c)) := fun r c => by
  have h1 := h.2 1
  have hlt : o + c.val < b := by
    have := c.isLt
    have h2 : o + n ≤ b := h1
    omega
  rw [extractStridedSlice_apply _ _ h (ix2 r c) (ix2 r ⟨o + c.val, hlt⟩) (fun a => by
    match a with
    | ⟨0, _⟩ => exact (Nat.zero_add _).symm
    | ⟨1, _⟩ => rfl)]
  exact hx r ⟨o + c.val, hlt⟩

theorem Rd.bcast {x : (⟨2, ![a, 1]⟩ : Shape).Idx → EReal} {f : ℕ → ℝ} (hx : Rd x (fun r _ => f r)) (hb : b ≠ 1)
    (h : (⟨2, ![a, 1]⟩ : Shape).Broadcasts ⟨2, ![a, b]⟩) (ha : a ≠ 1) :
    Rd (broadcastTo ⟨2, ![a, b]⟩ x h) (fun r _ => f r) := fun r c => by
  rw [broadcastTo_apply _ h (ix2 r c) (ix2 r 0) (fun k => by
    match k with
    | ⟨0, _⟩ => exact (if_neg ha).symm
    | ⟨1, _⟩ => exact (if_pos rfl).symm)]
  exact hx r 0

theorem Rd.rowSum {x : FVec Ideal ⟨2, ![a, b]⟩ .f32} {f : ℕ → ℕ → ℝ} (hx : Rd x f) (acc : BitVec 32)
    (h : (⟨2, ![a, b]⟩ : Shape).Reduces [1] ⟨1, ![a]⟩) (hφ : FKind.Formats .f32) (hacc : acc = FKind.add.neutral .f32 hφ)
    (h' : (⟨1, ![a]⟩ : Shape).ShapeCasts ⟨2, ![a, 1]⟩) :
    Rd (shapeCast ⟨2, ![a, 1]⟩ (multiReduction .add [1] ⟨1, ![a]⟩ x acc h hφ hacc) h') (fun r _ => ∑ k ∈ Finset.range b, f r k) := fun r c => by
  rw [shapeCast_a_a1_apply]
  refine (Ideal.multiReduction_add_single x acc h hφ hacc (ix1 r)).trans ?_
  refine (Finset.sum_congr rfl fun k _ => ?_).trans (coe_sum_fin b (fun k => f r.val k))
  refine Eq.trans ?_ (hx r k)
  refine congrArg x (funext fun d => ?_)
  match d with
  | ⟨0, _⟩ => rfl
  | ⟨1, _⟩ => rfl

theorem Rd.concat2 {n₁ n₂ n : ℕ} {x : (⟨2, ![a, n₁]⟩ : Shape).Idx → EReal} {y : (⟨2, ![a, n₂]⟩ : Shape).Idx → EReal} {f g : ℕ → ℕ → ℝ} (hx : Rd x f) (hy : Rd y g)
    (h : Shape.Concatenates [⟨2, ![a, n₁]⟩, ⟨2, ![a, n₂]⟩] ⟨2, ![a, n]⟩ 1) (hn : n₁ + n₂ = n) :
    Rd (concatenate (α := EReal) ⟨2, ![a, n]⟩ 1 [⟨⟨2, ![a, n₁]⟩, x⟩, ⟨⟨2, ![a, n₂]⟩, y⟩] h) (fun r c => if c < n₁ then f r c else g r (c - n₁)) := fun r c => by
  beta_reduce
  by_cases hc : c.val < n₁
  · rw [if_pos hc]
    refine (concatenate_apply_piece (α := EReal) 1 ([⟨⟨2, ![a, n₁]⟩, x⟩, ⟨⟨2, ![a, n₂]⟩, y⟩] : List ((s : Shape) × (s.Idx → EReal))) h (ix2 r c) 0 (by simp) _ x rfl rfl 0 rfl (ix2 r ⟨c.val, hc⟩) (fun d hd => ?_) ?_).trans (hx r ⟨c.val, hc⟩)
    · match d with
      | ⟨0, _⟩ => rfl
      | ⟨1, _⟩ => exact absurd rfl hd
    · exact Nat.zero_add _
  · rw [if_neg hc]
    have hlt : c.val - n₁ < n₂ := by have := c.isLt; omega
    refine (concatenate_apply_piece (α := EReal) 1 ([⟨⟨2, ![a, n₁]⟩, x⟩, ⟨⟨2, ![a, n₂]⟩, y⟩] : List ((s : Shape) × (s.Idx → EReal))) h (ix2 r c) 1 (by simp) _ y rfl rfl n₁ rfl (ix2 r ⟨c.val - n₁, hlt⟩) (fun d hd => ?_) ?_).trans (hy r ⟨c.val - n₁, hlt⟩)
    · match d with
      | ⟨0, _⟩ => rfl
      | ⟨1, _⟩ => exact absurd rfl hd
    · show n₁ + (c.val - n₁) = c.val
      omega

theorem Rd.concat4 {x y z w : (⟨2, ![a, 256]⟩ : Shape).Idx → EReal} {f₀ f₁ f₂ f₃ : ℕ → ℕ → ℝ} (hx : Rd x f₀) (hy : Rd y f₁) (hz : Rd z f₂) (hw : Rd w f₃)
    (h : Shape.Concatenates [⟨2, ![a, 256]⟩, ⟨2, ![a, 256]⟩, ⟨2, ![a, 256]⟩, ⟨2, ![a, 256]⟩] ⟨2, ![a, 1024]⟩ 1) :
    Rd (concatenate (α := EReal) ⟨2, ![a, 1024]⟩ 1 [⟨⟨2, ![a, 256]⟩, x⟩, ⟨⟨2, ![a, 256]⟩, y⟩, ⟨⟨2, ![a, 256]⟩, z⟩, ⟨⟨2, ![a, 256]⟩, w⟩] h)
      (fun r c => if c < 256 then f₀ r c else if c < 512 then f₁ r (c - 256) else if c < 768 then f₂ r (c - 512) else f₃ r (c - 768)) := fun r c => by
  have hcl := c.isLt
  beta_reduce
  by_cases hc : c.val < 256
  · rw [if_pos hc]
    refine (concatenate_apply_piece (α := EReal) 1 ([⟨⟨2, ![a, 256]⟩, x⟩, ⟨⟨2, ![a, 256]⟩, y⟩, ⟨⟨2, ![a, 256]⟩, z⟩, ⟨⟨2, ![a, 256]⟩, w⟩] : List ((s : Shape) × (s.Idx → EReal))) h (ix2 r c) 0 (by simp) _ x rfl rfl 0 rfl (ix2 r ⟨c.val, hc⟩) (fun d hd => ?_) ?_).trans (hx r ⟨c.val, hc⟩)
    · match d with
      | ⟨0, _⟩ => rfl
      | ⟨1, _⟩ => exact absurd rfl hd
    · exact Nat.zero_add _
  rw [if_neg hc]
  by_cases hc1 : c.val < 512
  · rw [if_pos hc1]
    have hlt : c.val - 256 < 256 := by omega
    refine (concatenate_apply_piece (α := EReal) 1 ([⟨⟨2, ![a, 256]⟩, x⟩, ⟨⟨2, ![a, 256]⟩, y⟩, ⟨⟨2, ![a, 256]⟩, z⟩, ⟨⟨2, ![a, 256]⟩, w⟩] : List ((s : Shape) × (s.Idx → EReal))) h (ix2 r c) 1 (by simp) _ y rfl rfl 256 rfl (ix2 r ⟨c.val - 256, hlt⟩) (fun d hd => ?_) ?_).trans (hy r ⟨c.val - 256, hlt⟩)
    · match d with
      | ⟨0, _⟩ => rfl
      | ⟨1, _⟩ => exact absurd rfl hd
    · show 256 + (c.val - 256) = c.val
      omega
  rw [if_neg hc1]
  by_cases hc2 : c.val < 768
  · rw [if_pos hc2]
    have hlt : c.val - 512 < 256 := by omega
    refine (concatenate_apply_piece (α := EReal) 1 ([⟨⟨2, ![a, 256]⟩, x⟩, ⟨⟨2, ![a, 256]⟩, y⟩, ⟨⟨2, ![a, 256]⟩, z⟩, ⟨⟨2, ![a, 256]⟩, w⟩] : List ((s : Shape) × (s.Idx → EReal))) h (ix2 r c) 2 (by simp) _ z rfl rfl 512 rfl (ix2 r ⟨c.val - 512, hlt⟩) (fun d hd => ?_) ?_).trans (hz r ⟨c.val - 512, hlt⟩)
    · match d with
      | ⟨0, _⟩ => rfl
      | ⟨1, _⟩ => exact absurd rfl hd
    · show 512 + (c.val - 512) = c.val
      omega
  rw [if_neg hc2]
  have hlt : c.val - 768 < 256 := by omega
  refine (concatenate_apply_piece (α := EReal) 1 ([⟨⟨2, ![a, 256]⟩, x⟩, ⟨⟨2, ![a, 256]⟩, y⟩, ⟨⟨2, ![a, 256]⟩, z⟩, ⟨⟨2, ![a, 256]⟩, w⟩] : List ((s : Shape) × (s.Idx → EReal))) h (ix2 r c) 3 (by simp) _ w rfl rfl 768 rfl (ix2 r ⟨c.val - 768, hlt⟩) (fun d hd => ?_) ?_).trans (hw r ⟨c.val - 768, hlt⟩)
  · match d with
    | ⟨0, _⟩ => rfl
    | ⟨1, _⟩ => exact absurd rfl hd
  · show 768 + (c.val - 768) = c.val
    omega

end

/-! ## Products -/

section
variable {m n k : ℕ} {φ₁ φ₂ : FTy}

theorem coe_mul_sum (n : ℕ) (f g : ℕ → ℝ) : (∑ k : Fin n, ((f k.val : ℝ) : EReal) * ((g k.val : ℝ) : EReal)) = ((∑ k ∈ Finset.range n, f k * g k : ℝ) : EReal) := by
  rw [← coe_sum_fin]
  exact Finset.sum_congr rfl fun k _ => (EReal.coe_mul _ _).symm

theorem Rd.mmNN {d : DotDims ⟨2, ![m, k]⟩ ⟨2, ![k, n]⟩ ⟨2, ![m, n]⟩} (hd : d = DotDims.plain m k n) {prec : Option ContractPrecision}
    {x : FVec Ideal ⟨2, ![m, k]⟩ φ₁} {y : FVec Ideal ⟨2, ![k, n]⟩ φ₂} {f g : ℕ → ℕ → ℝ} (hx : Rd x f) (hy : Rd y g) :
    Rd (matmul d prec x y (constant ⟨2, ![m, n]⟩ .f32 0x00000000#32)) (fun r c => ∑ e ∈ Finset.range k, f r e * g e c) := fun r c => by
  subst hd
  refine (Ideal.matmul_plain_apply prec x y _ r c).trans ?_
  rw [← coe_mul_sum]
  refine (congrArg (· + _) (Ideal.ofBits_zero_f32 : (constant (F := Ideal) ⟨2, ![m, n]⟩ .f32 0x00000000#32) (ix2 r c) = 0)).trans ?_
  rw [zero_add]
  exact Finset.sum_congr rfl fun e _ => by rw [hx r e, hy e c]

theorem Rd.mmNT {d : DotDims ⟨2, ![m, k]⟩ ⟨2, ![n, k]⟩ ⟨2, ![m, n]⟩} (hd : d = DotDims.transposedRhs m k n) {prec : Option ContractPrecision}
    {x : FVec Ideal ⟨2, ![m, k]⟩ φ₁} {y : FVec Ideal ⟨2, ![n, k]⟩ φ₂} {f g : ℕ → ℕ → ℝ} (hx : Rd x f) (hy : Rd y g) :
    Rd (matmul d prec x y (constant ⟨2, ![m, n]⟩ .f32 0x00000000#32)) (fun r c => ∑ e ∈ Finset.range k, f r e * g c e) := fun r c => by
  subst hd
  refine (Ideal.matmul_transposedRhs_apply prec x y _ r c).trans ?_
  rw [← coe_mul_sum]
  refine (congrArg (· + _) (Ideal.ofBits_zero_f32 : (constant (F := Ideal) ⟨2, ![m, n]⟩ .f32 0x00000000#32) (ix2 r c) = 0)).trans ?_
  rw [zero_add]
  exact Finset.sum_congr rfl fun e _ => by rw [hx r e, hy c e]

/-- The product of a transposed matrix with a matrix: both contracted on their rows. -/
def dotTN (m k n : ℕ) : DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

theorem Rd.mmTN {d : DotDims ⟨2, ![k, m]⟩ ⟨2, ![k, n]⟩ ⟨2, ![m, n]⟩} (hd : d = dotTN m k n) {prec : Option ContractPrecision}
    {x : FVec Ideal ⟨2, ![k, m]⟩ φ₁} {y : FVec Ideal ⟨2, ![k, n]⟩ φ₂} {f g : ℕ → ℕ → ℝ} (hx : Rd x f) (hy : Rd y g) :
    Rd (matmul d prec x y (constant ⟨2, ![m, n]⟩ .f32 0x00000000#32)) (fun r c => ∑ e ∈ Finset.range k, f e r * g e c) := fun r c => by
  subst hd
  refine (Ideal.matmul_apply (dotTN m k n) prec x y _ (ix2 r c)).trans ?_
  rw [← coe_mul_sum]
  refine (congrArg (· + _) (Ideal.ofBits_zero_f32 : (constant (F := Ideal) ⟨2, ![m, n]⟩ .f32 0x00000000#32) (ix2 r c) = 0)).trans ?_
  rw [zero_add]
  have hr : (dotTN m k n).contr.rank = 1 := rfl
  have hs : (dotTN m k n).contr.size ⟨0, by rw [hr]; exact Nat.one_pos⟩ = k := rfl
  rw [← Equiv.sum_comp (contrEquiv1 (dotTN m k n) k hr hs).symm]
  refine Finset.sum_congr rfl fun e _ => ?_
  have hk := contrEquiv1_symm_val (dotTN m k n) k hr hs e
  have el : (dotTN m k n).lhsIdx (ix2 r c) ((contrEquiv1 (dotTN m k n) k hr hs).symm e) = ix2 e r := by
    funext a; apply Fin.ext
    match a with
    | ⟨0, _⟩ => exact hk
    | ⟨1, _⟩ => rfl
  have er : (dotTN m k n).rhsIdx (ix2 r c) ((contrEquiv1 (dotTN m k n) k hr hs).symm e) = ix2 e c := by
    funext a; apply Fin.ext
    match a with
    | ⟨0, _⟩ => exact hk
    | ⟨1, _⟩ => rfl
  rw [el, er, hx e r, hy e c]

end

end Cert.KernelIdeal.SB
-- ==== Proof.RealSums.lean ====
module

public import Idealize.ShloMosaic.PureOps.Ideal
public import Mathlib.Algebra.BigOperators.Intervals

/-! The sums over blocks of columns, as sums over intervals; the functions the kernel is made of, over the reals. -/

@[expose] public section

noncomputable section

namespace Cert.KernelIdeal.SB

open scoped BigOperators
open Finset

/-- The softplus, as the kernel writes it. -/
def sp (x : ℝ) : ℝ := max x 0 + Real.log (1 + Real.exp (0 - |x|))
/-- The log of the sigmoid. -/
def lb (x : ℝ) : ℝ := x - sp x

theorem sp_arg_pos (x : ℝ) : 0 < 1 + Real.exp (0 - |x|) := by positivity

/-- The score of a row against a column. -/
def zR (n : ℕ) (q k : ℕ → ℕ → ℝ) (r c : ℕ) : ℝ := ∑ e ∈ range n, q r e * k c e

/-- The sum of the entries after a column, and of those before it. -/
def sfx (n : ℕ) (f : ℕ → ℝ) (c : ℕ) : ℝ := ∑ k ∈ range n, if c < k then f k else 0
def pfx (n : ℕ) (f : ℕ → ℝ) (c : ℕ) : ℝ := ∑ k ∈ range n, if k < c then f k else 0

theorem sfx_eq (n : ℕ) (f : ℕ → ℝ) (c : ℕ) : sfx n f c = ∑ k ∈ Ico (c + 1) n, f k := by
  unfold sfx
  rw [← sum_filter]
  refine sum_congr (Finset.ext fun k => ?_) fun _ _ => rfl
  simp only [mem_filter, mem_range, mem_Ico]
  omega

theorem pfx_eq (n : ℕ) (f : ℕ → ℝ) (c : ℕ) (h : c ≤ n) : pfx n f c = ∑ k ∈ range c, f k := by
  unfold pfx
  rw [← sum_filter]
  refine sum_congr (Finset.ext fun k => ?_) fun _ _ => rfl
  simp only [mem_filter, mem_range]
  omega

theorem sum_off (f : ℕ → ℝ) (o a b : ℕ) : ∑ k ∈ Ico a b, f (o + k) = ∑ k ∈ Ico (o + a) (o + b), f k := by
  rw [sum_Ico_eq_sum_range, sum_Ico_eq_sum_range, show o + b - (o + a) = b - a by omega]
  exact sum_congr rfl fun k _ => by rw [Nat.add_assoc]

theorem blk (f : ℕ → ℝ) (o n : ℕ) : ∑ k ∈ range n, f (o + k) = ∑ k ∈ Ico o (o + n), f k := by
  rw [← Nat.Ico_zero_eq_range, sum_off]; simp

theorem sfx_blk (f : ℕ → ℝ) (o n c : ℕ) : sfx n (fun k => f (o + k)) c = ∑ k ∈ Ico (o + c + 1) (o + n), f k := by
  rw [sfx_eq, sum_off, Nat.add_assoc]

theorem pfx_blk (f : ℕ → ℝ) (o n c : ℕ) (h : c ≤ n) : pfx n (fun k => f (o + k)) c = ∑ k ∈ Ico o (o + c), f k := by
  rw [pfx_eq _ _ _ h, blk]

theorem Ico_join (f : ℕ → ℝ) {a b c : ℕ} (h : a ≤ b) (h' : b ≤ c) : ∑ k ∈ Ico a b, f k + ∑ k ∈ Ico b c, f k = ∑ k ∈ Ico a c, f k :=
  sum_Ico_consecutive f h h'

/-- Two blocks of 256 columns: what is after a column. -/
theorem sfx_two (f : ℕ → ℝ) (c : ℕ) (hc : c < 512) :
    (if c < 256 then sfx 256 (fun k => f (0 + k)) c + ∑ k ∈ range 256, f (256 + k) else sfx 256 (fun k => f (256 + k)) (c - 256)) = ∑ k ∈ Ico (c + 1) 512, f k := by
  split
  · rw [sfx_blk, blk, Ico_join f (by omega) (by omega), Nat.zero_add]
  · rw [sfx_blk, show 256 + (c - 256) + 1 = c + 1 by omega]

/-- Two blocks of 256 columns: what is before a column. -/
theorem pfx_two (f : ℕ → ℝ) (c : ℕ) (hc : c < 512) :
    (if c < 256 then pfx 256 (fun k => f (0 + k)) c else pfx 256 (fun k => f (256 + k)) (c - 256) + ∑ k ∈ range 256, f (0 + k)) = ∑ k ∈ range c, f k := by
  rw [← Nat.Ico_zero_eq_range c]
  split
  · rw [pfx_blk _ _ _ _ (by omega), Nat.zero_add]
  · rw [pfx_blk _ _ _ _ (by omega), blk, add_comm, show 0 + 256 = 256 from rfl, Ico_join f (by omega) (by omega), show 256 + (c - 256) = c by omega]

/-- Four blocks of 256 columns: what is after a column. -/
theorem sfx_four (f : ℕ → ℝ) (c : ℕ) (hc : c < 1024) :
    (if c < 256 then sfx 256 (fun k => f (0 + k)) c + (∑ k ∈ range 256, f (768 + k) + ∑ k ∈ range 256, f (512 + k) + ∑ k ∈ range 256, f (256 + k))
      else if c < 512 then sfx 256 (fun k => f (256 + k)) (c - 256) + (∑ k ∈ range 256, f (768 + k) + ∑ k ∈ range 256, f (512 + k))
      else if c < 768 then sfx 256 (fun k => f (512 + k)) (c - 512) + ∑ k ∈ range 256, f (768 + k)
      else sfx 256 (fun k => f (768 + k)) (c - 768)) = ∑ k ∈ Ico (c + 1) 1024, f k := by
  simp only [sfx_blk, blk]
  split
  · rw [← Ico_join f (show c + 1 ≤ 256 by omega) (show 256 ≤ 1024 by omega), ← Ico_join f (show 256 ≤ 512 by omega) (show 512 ≤ 1024 by omega),
      ← Ico_join f (show 512 ≤ 768 by omega) (show 768 ≤ 1024 by omega), Nat.zero_add]
    simp only [Nat.reduceAdd]
    ring
  split
  · rw [← Ico_join f (show c + 1 ≤ 512 by omega) (show 512 ≤ 1024 by omega),
      ← Ico_join f (show 512 ≤ 768 by omega) (show 768 ≤ 1024 by omega), show 256 + (c - 256) + 1 = c + 1 by omega]
    simp only [Nat.reduceAdd]
    ring
  split
  · rw [← Ico_join f (show c + 1 ≤ 768 by omega) (show 768 ≤ 1024 by omega), show 512 + (c - 512) + 1 = c + 1 by omega]
  · rw [show 768 + (c - 768) + 1 = c + 1 by omega]

/-- Four blocks of 256 columns: what is before a column. -/
theorem pfx_four (f : ℕ → ℝ) (c : ℕ) (hc : c < 1024) :
    (if c < 256 then pfx 256 (fun k => f (0 + k)) c
      else if c < 512 then pfx 256 (fun k => f (256 + k)) (c - 256) + ∑ k ∈ range 256, f (0 + k)
      else if c < 768 then pfx 256 (fun k => f (512 + k)) (c - 512) + (∑ k ∈ range 256, f (0 + k) + ∑ k ∈ range 256, f (256 + k))
      else pfx 256 (fun k => f (768 + k)) (c - 768) + (∑ k ∈ range 256, f (0 + k) + ∑ k ∈ range 256, f (256 + k) + ∑ k ∈ range 256, f (512 + k))) = ∑ k ∈ range c, f k := by
  rw [← Nat.Ico_zero_eq_range c]
  split
  · rw [pfx_blk _ _ _ _ (by omega), Nat.zero_add]
  split
  · rw [pfx_blk _ _ _ _ (by omega), blk, ← Ico_join f (show 0 ≤ 256 by omega) (show 256 ≤ c by omega), show 256 + (c - 256) = c by omega]
    simp only [Nat.reduceAdd]
    ring
  split
  · rw [pfx_blk _ _ _ _ (by omega), blk, blk, ← Ico_join f (show 0 ≤ 256 by omega) (show 256 ≤ c by omega),
      ← Ico_join f (show 256 ≤ 512 by omega) (show 512 ≤ c by omega), show 512 + (c - 512) = c by omega]
    simp only [Nat.reduceAdd]
    ring
  · rw [pfx_blk _ _ _ _ (by omega), blk, blk, blk, ← Ico_join f (show 0 ≤ 256 by omega) (show 256 ≤ c by omega),
      ← Ico_join f (show 256 ≤ 512 by omega) (show 512 ≤ c by omega), ← Ico_join f (show 512 ≤ 768 by omega) (show 768 ≤ c by omega), show 768 + (c - 768) = c by omega]
    simp only [Nat.reduceAdd]
    ring

theorem sum_two (f : ℕ → ℝ) : ∑ k ∈ range 256, f (0 + k) + ∑ k ∈ range 256, f (256 + k) = ∑ k ∈ range 512, f k := by
  rw [← Nat.Ico_zero_eq_range 512, blk, blk, ← Ico_join f (show 0 ≤ 256 by omega) (show 256 ≤ 512 by omega)]

theorem sum_four (f : ℕ → ℝ) : ∑ k ∈ range 256, f (0 + k) + ∑ k ∈ range 256, f (256 + k) + ∑ k ∈ range 256, f (512 + k) + ∑ k ∈ range 256, f (768 + k) = ∑ k ∈ range 1024, f k := by
  rw [← Nat.Ico_zero_eq_range 1024, blk, blk, blk, blk, ← Ico_join f (show 0 ≤ 256 by omega) (show 256 ≤ 1024 by omega), ← Ico_join f (show 256 ≤ 512 by omega) (show 512 ≤ 1024 by omega),
    ← Ico_join f (show 512 ≤ 768 by omega) (show 768 ≤ 1024 by omega)]
  simp only [Nat.reduceAdd]
  ring

/-- The product of a row, doubled as its leading and its remaining part, with the doubled triangle. -/
theorem tri_sfx (f : ℕ → ℝ) (c : ℕ) : ∑ e ∈ range 512, (if e < 256 then f e else 0) * (if c < e % 256 then (1 : ℝ) else 0) = sfx 256 f c := by
  unfold sfx
  rw [show (512 : ℕ) = 256 + 256 from rfl, sum_range_add]
  rw [sum_eq_zero (s := range 256) (f := fun x => (if 256 + x < 256 then f (256 + x) else 0) * (if c < (256 + x) % 256 then (1 : ℝ) else 0)) (fun x _ => by rw [if_neg (by omega), zero_mul]), add_zero]
  refine sum_congr rfl fun e he => ?_
  rw [mem_range] at he
  rw [if_pos he, Nat.mod_eq_of_lt he]
  split <;> simp

theorem tri_pfx (f : ℕ → ℝ) (c : ℕ) : ∑ e ∈ range 512, (if e < 256 then f e else 0) * (if e % 256 < c then (1 : ℝ) else 0) = pfx 256 f c := by
  unfold pfx
  rw [show (512 : ℕ) = 256 + 256 from rfl, sum_range_add]
  rw [sum_eq_zero (s := range 256) (f := fun x => (if 256 + x < 256 then f (256 + x) else 0) * (if (256 + x) % 256 < c then (1 : ℝ) else 0)) (fun x _ => by rw [if_neg (by omega), zero_mul]), add_zero]
  refine sum_congr rfl fun e he => ?_
  rw [mem_range] at he
  rw [if_pos he, Nat.mod_eq_of_lt he]
  split <;> simp

end Cert.KernelIdeal.SB
-- ==== Proof.Pay1.lean ====
module

public import proofs.«01_k».proof.Proof.Run
public import proofs.«01_k».proof.Proof.RealBase
public import proofs.«01_k».proof.Proof.RealSums

/-! The first sweep over the columns, block by block: what the kernel's values are as real numbers. -/

@[expose] public section

noncomputable section

namespace Cert.KernelIdeal.SB

open Idealize.ShloMosaic Idealize.ShloMosaic.TcCoe Idealize.ShloMosaic.ValueIdx
open scoped BigOperators
open Cert.KernelIdeal Cert.KernelIdeal.Gen
open Finset

section
variable {a b : ℕ} {φ : FTy}

/-- The softplus as the kernel computes it. -/
theorem rd_softplus {z : FVec Ideal ⟨2, ![a, b]⟩ .f32} {f : ℕ → ℕ → ℝ} (h : Rd z f) :
    Rd (addf (maximumf z (broadcast ⟨2, ![a, b]⟩ (Scalar.ofBits (F := Ideal) .f32 0x00000000#32)))
      (log (addf (broadcast ⟨2, ![a, b]⟩ (Scalar.ofBits (F := Ideal) .f32 0x3F800000#32)) (exp (subf (broadcast ⟨2, ![a, b]⟩ (Scalar.ofBits (F := Ideal) .f32 0x00000000#32)) (absf z))))))
      (fun r c => sp (f r c)) :=
  (h.maximumf rd_zero).addf ((rd_one.addf (rd_zero.subf h.absf).exp).log fun _ _ => sp_arg_pos _)
end

variable {T : FVec Ideal S512x256 .bf16}

/-- The triangle whose product sums what is after a column. -/
def L0 (T : FVec Ideal S512x256 .bf16) : Prop := Rd T (fun k c => if c < k % 256 then 1 else 0)
/-- The triangle whose product sums what is before a column. -/
def L1 (T : FVec Ideal S512x256 .bf16) : Prop := Rd T (fun k c => if k % 256 < c then 1 else 0)

theorem tri0 (hT : L0 T) {x y : FVec Ideal S256x256 .bf16} {f : ℕ → ℕ → ℝ} (hx : Rd x f) (hy : Rd y (fun _ _ => 0)) :
    Rd (matmul dot_S256x512_S512x256_S256x256_1_0_0_1_n_n none (concatenate S256x512 1 [⟨S256x256, x⟩, ⟨S256x256, y⟩] concatenates_S256x256_S256x256_S256x512_d1) T (constant S256x256 .f32 0x00000000#32))
      (fun r c => sfx 256 (f r) c) :=
  (Rd.mmNN rfl (Rd.concat2 hx hy _ rfl) hT).congr fun r _ c _ => tri_sfx (f r) c

theorem tri1 (hT : L1 T) {x y : FVec Ideal S256x256 .bf16} {f : ℕ → ℕ → ℝ} (hx : Rd x f) (hy : Rd y (fun _ _ => 0)) :
    Rd (matmul dot_S256x512_S512x256_S256x256_1_0_0_1_n_n none (concatenate S256x512 1 [⟨S256x256, x⟩, ⟨S256x256, y⟩] concatenates_S256x256_S256x256_S256x512_d1) T (constant S256x256 .f32 0x00000000#32))
      (fun r c => pfx 256 (f r) c) :=
  (Rd.mmNN rfl (Rd.concat2 hx hy _ rfl) hT).congr fun r _ c _ => tri_pfx (f r) c

section
variable {q d : FVec Ideal S256x128 .bf16} {fq fd : ℕ → ℕ → ℝ}

/-! ## 256 columns under the mask -/

section
variable {k v : FVec Ideal S256x128 .bf16} {fk fv : ℕ → ℕ → ℝ} {m : IVec S256x256 1} {p : ℕ → ℕ → Prop} [∀ r c, Decidable (p r c)]
  {g : FVec Ideal S256x1 .f32} {fg : ℕ → ℝ}

theorem rd15 (hq : Rd q fq) (hk : Rd k fk) : Rd (k0_pay15 (F := Ideal) q k) (zR 128 fq fk) := Rd.mmNT rfl hq hk
theorem rd16 (hq : Rd q fq) (hk : Rd k fk) : Rd (k0_pay16 (F := Ideal) q k) (fun r c => sp (zR 128 fq fk r c)) := rd_softplus (rd15 hq hk)
theorem rd17 (hq : Rd q fq) (hk : Rd k fk) : Rd (k0_pay17 (F := Ideal) q k) (fun r c => lb (zR 128 fq fk r c)) := (rd15 hq hk).subf (rd16 hq hk)
theorem rd18 (hq : Rd q fq) (hk : Rd k fk) (hm : Mk m p) : Rd (k0_pay18 (F := Ideal) q m k) (fun r c => if p r c then sp (zR 128 fq fk r c) else 0) :=
  Rd.select hm (rd16 hq hk) rd_zero
theorem rd19 (hq : Rd q fq) (hk : Rd k fk) (hm : Mk m p) : Rd (k0_pay19 (F := Ideal) q m k) (fun r _ => ∑ c ∈ range 256, if p r c then sp (zR 128 fq fk r c) else 0) :=
  (rd18 hq hk hm).rowSum _ _ _ _ _
theorem rd20 (hT : L0 T) (hq : Rd q fq) (hk : Rd k fk) (hm : Mk m p) (hg : Rd g (fun r _ => fg r)) : Rd (k0_pay20 (F := Ideal) T q m g k)
    (fun r c => if p r c then Real.exp (lb (zR 128 fq fk r c) - (∑ j ∈ Ico (c + 1) 256, (if p r j then sp (zR 128 fq fk r j) else 0) + fg r)) else 0) := by
  have h18 := rd18 hq hk hm
  have ht := tri0 hT (h18.truncf bitsLt_bf16_f32) ((h18.rest ((h18.truncf bitsLt_bf16_f32).extf bitsLt_bf16_f32)).truncf bitsLt_bf16_f32)
  have h := Rd.select hm ((rd17 hq hk).subf (ht.addf (hg.bcast (by decide) broadcasts_S256x1_S256x256 (by decide)))).exp rd_zero
  exact h.congr fun r _ c _ => by simp only [sfx_eq]
theorem rd21 (hq : Rd q fq) (hk : Rd k fk) : Rd (k0_pay21 (F := Ideal) q k) (fun r c => Real.exp (lb (zR 128 fq fk r c))) := (rd17 hq hk).exp
theorem rd22 (hd : Rd d fd) (hv : Rd v fv) {w : ℕ → ℕ → ℝ} (hw : Rd (k0_pay20 (F := Ideal) T q m g k) w) :
    Rt (k0_pay22 (F := Ideal) T q d m g k v) (fun r c => zR 128 fd fv r c * w r c) :=
  (Rd.mulf (Rd.mmNT rfl hd hv) hw).lift _
end

/-! ## 512 columns under the mask -/

section
variable {k v : FVec Ideal S512x128 .bf16} {fk fv : ℕ → ℕ → ℝ} {m : IVec S256x512 1} {p : ℕ → ℕ → Prop} [∀ r c, Decidable (p r c)]
  {g : FVec Ideal S256x1 .f32} {fg : ℕ → ℝ}

theorem rd23 (hq : Rd q fq) (hk : Rd k fk) : Rd (k0_pay23 (F := Ideal) q k) (zR 128 fq fk) := Rd.mmNT rfl hq hk
theorem rd24 (hq : Rd q fq) (hk : Rd k fk) : Rd (k0_pay24 (F := Ideal) q k) (fun r c => sp (zR 128 fq fk r c)) := rd_softplus (rd23 hq hk)
theorem rd25 (hq : Rd q fq) (hk : Rd k fk) : Rd (k0_pay25 (F := Ideal) q k) (fun r c => lb (zR 128 fq fk r c)) := (rd23 hq hk).subf (rd24 hq hk)
theorem rd26 (hq : Rd q fq) (hk : Rd k fk) (hm : Mk m p) : Rd (k0_pay26 (F := Ideal) m q k) (fun r c => if p r c then sp (zR 128 fq fk r c) else 0) :=
  Rd.select hm (rd24 hq hk) rd_zero
theorem rd27 (hq : Rd q fq) (hk : Rd k fk) (hm : Mk m p) : Rd (k0_pay27 (F := Ideal) m q k) (fun r _ => ∑ c ∈ range 256, if p r (256 + c) then sp (zR 128 fq fk r (256 + c)) else 0) :=
  ((rd26 hq hk hm).slice 256 256 _).rowSum _ _ _ _ _
theorem rd28 (hq : Rd q fq) (hk : Rd k fk) (hm : Mk m p) : Rd (k0_pay28 (F := Ideal) m q k) (fun r _ => ∑ c ∈ range 512, if p r c then sp (zR 128 fq fk r c) else 0) := by
  have h := (rd27 hq hk hm).addf (((rd26 hq hk hm).slice 256 0 slices_S256x512_o0_0_S256x256).rowSum 0x00000000#32 reduces_S256x256_S256 (.inl rfl) rfl shapeCasts_S256_S256x1)
  exact h.congr fun r _ c _ => by rw [← sum_two (fun c => if p r c then sp (zR 128 fq fk r c) else 0), add_comm]
theorem rd29 (hT : L0 T) (hq : Rd q fq) (hk : Rd k fk) (hm : Mk m p) (hg : Rd g (fun r _ => fg r)) : Rd (k0_pay29 (F := Ideal) m T q g k)
    (fun r c => if p r c then Real.exp (lb (zR 128 fq fk r c) - (∑ j ∈ Ico (c + 1) 512, (if p r j then sp (zR 128 fq fk r j) else 0) + fg r)) else 0) := by
  have h26 := rd26 hq hk hm
  have hh := h26.truncf (ψ := .bf16) bitsLt_bf16_f32
  have hl := (h26.rest (hh.extf bitsLt_bf16_f32)).truncf (ψ := .bf16) bitsLt_bf16_f32
  have t0 := (tri0 hT (hh.slice 256 0 slices_S256x512_o0_0_S256x256) (hl.slice 256 0 slices_S256x512_o0_0_S256x256)).addf ((rd27 hq hk hm).bcast (by decide) broadcasts_S256x1_S256x256 (by decide))
  have t1 := tri0 hT (hh.slice 256 256 slices_S256x512_o0_256_S256x256) (hl.slice 256 256 slices_S256x512_o0_256_S256x256)
  have h := Rd.select hm ((rd25 hq hk).subf ((t0.concat2 t1 concatenates_S256x256_S256x256_S256x512_d1 rfl).addf (hg.bcast (by decide) broadcasts_S256x1_S256x512 (by decide)))).exp rd_zero
  exact h.congr fun r _ c hc => by rw [← sfx_two (fun j => if p r j then sp (zR 128 fq fk r j) else 0) c hc]
theorem rd117 {w : FVec Ideal S256x512 .f32} {fw : ℕ → ℕ → ℝ} (hd : Rd d fd) (hv : Rd v fv) (hw : Rd w fw) :
    Rt (k0_pay117 (F := Ideal) d w v) (fun r c => zR 128 fd fv r c * fw r c) := (Rd.mulf (Rd.mmNT rfl hd hv) hw).lift _
theorem rd118 {w : FVec Ideal S256x512 .f32} {fw : ℕ → ℕ → ℝ} (hw : Rd w fw) : Rt (k0_pay118 (F := Ideal) w) (fun r c => Real.exp (fw r c)) := hw.exp.lift _

/-! ## The first 512 columns -/

theorem rd68 (hq : Rd q fq) (hk : Rd k fk) : Rd (k0_pay68 (F := Ideal) q k) (zR 128 fq fk) := Rd.mmNT rfl hq hk
theorem rd69 (hq : Rd q fq) (hk : Rd k fk) : Rd (k0_pay69 (F := Ideal) q k) (fun r c => sp (zR 128 fq fk r c)) := rd_softplus (rd68 hq hk)
theorem rd70 (hq : Rd q fq) (hk : Rd k fk) : Rd (k0_pay70 (F := Ideal) q k) (fun r c => lb (zR 128 fq fk r c)) := (rd68 hq hk).subf (rd69 hq hk)
theorem rd71 (hT : L0 T) (hq : Rd q fq) (hk : Rd k fk) (hg : Rd g (fun r _ => fg r)) : Rd (k0_pay71 (F := Ideal) T q g k)
    (fun r c => Real.exp (lb (zR 128 fq fk r c) - (∑ j ∈ Ico (c + 1) 512, sp (zR 128 fq fk r j) + fg r))) := by
  have h26 := rd69 hq hk
  have hh := h26.truncf (ψ := .bf16) bitsLt_bf16_f32
  have hl := (h26.rest (hh.extf bitsLt_bf16_f32)).truncf (ψ := .bf16) bitsLt_bf16_f32
  have t0 := (tri0 hT (hh.slice 256 0 slices_S256x512_o0_0_S256x256) (hl.slice 256 0 slices_S256x512_o0_0_S256x256)).addf
    (((h26.slice 256 256 slices_S256x512_o0_256_S256x256).rowSum 0x00000000#32 reduces_S256x256_S256 (.inl rfl) rfl shapeCasts_S256_S256x1).bcast (by decide) broadcasts_S256x1_S256x256 (by decide))
  have t1 := tri0 hT (hh.slice 256 256 slices_S256x512_o0_256_S256x256) (hl.slice 256 256 slices_S256x512_o0_256_S256x256)
  have h := ((rd70 hq hk).subf ((t0.concat2 t1 concatenates_S256x256_S256x256_S256x512_d1 rfl).addf (hg.bcast (by decide) broadcasts_S256x1_S256x512 (by decide)))).exp
  exact h.congr fun r _ c hc => by rw [← sfx_two (fun j => sp (zR 128 fq fk r j)) c hc]
theorem rd72 (hq : Rd q fq) (hk : Rd k fk) : Rd (k0_pay72 (F := Ideal) q k) (fun r c => Real.exp (lb (zR 128 fq fk r c))) := (rd70 hq hk).exp
theorem rd73 (hd : Rd d fd) (hv : Rd v fv) {w : ℕ → ℕ → ℝ} (hw : Rd (k0_pay71 (F := Ideal) T q g k) w) :
    Rt (k0_pay73 (F := Ideal) T q d g k v) (fun r c => zR 128 fd fv r c * w r c) := (Rd.mulf (Rd.mmNT rfl hd hv) hw).lift _
end

/-! ## 1024 columns -/

section
variable {k v : FVec Ideal S1024x128 .bf16} {fk fv : ℕ → ℕ → ℝ} {g : FVec Ideal S256x1 .f32} {fg : ℕ → ℝ}

theorem rd30 (hq : Rd q fq) (hk : Rd k fk) : Rd (k0_pay30 (F := Ideal) q k) (zR 128 fq fk) := Rd.mmNT rfl hq hk
theorem rd31 (hq : Rd q fq) (hk : Rd k fk) : Rd (k0_pay31 (F := Ideal) q k) (fun r c => sp (zR 128 fq fk r c)) := rd_softplus (rd30 hq hk)
theorem rd32 (hq : Rd q fq) (hk : Rd k fk) : Rd (k0_pay32 (F := Ideal) q k) (fun r c => lb (zR 128 fq fk r c)) := (rd30 hq hk).subf (rd31 hq hk)
theorem rd33 (hq : Rd q fq) (hk : Rd k fk) : Rd (k0_pay33 (F := Ideal) q k) (fun r c => sp (zR 128 fq fk r c)) := (rd31 hq hk).truncf bitsLt_bf16_f32
theorem rd34 (hq : Rd q fq) (hk : Rd k fk) : Rd (k0_pay34 (F := Ideal) q k) (fun r c => 0) :=
  ((rd31 hq hk).rest ((rd33 hq hk).extf bitsLt_bf16_f32)).truncf bitsLt_bf16_f32
theorem rd35 (hq : Rd q fq) (hk : Rd k fk) : Rd (k0_pay35 (F := Ideal) q k) (fun r _ => ∑ c ∈ range 256, sp (zR 128 fq fk r (768 + c))) :=
  ((rd31 hq hk).slice 256 768 _).rowSum _ _ _ _ _
theorem rd36 (hq : Rd q fq) (hk : Rd k fk) : Rd (k0_pay36 (F := Ideal) q k) (fun r _ => ∑ c ∈ range 256, sp (zR 128 fq fk r (768 + c)) + ∑ c ∈ range 256, sp (zR 128 fq fk r (512 + c))) :=
  (rd35 hq hk).addf (((rd31 hq hk).slice 256 512 _).rowSum _ _ _ _ _)
theorem rd37 (hq : Rd q fq) (hk : Rd k fk) : Rd (k0_pay37 (F := Ideal) q k) (fun r _ => ∑ c ∈ range 256, sp (zR 128 fq fk r (768 + c)) + ∑ c ∈ range 256, sp (zR 128 fq fk r (512 + c)) + ∑ c ∈ range 256, sp (zR 128 fq fk r (256 + c))) :=
  (rd36 hq hk).addf (((rd31 hq hk).slice 256 256 _).rowSum _ _ _ _ _)
theorem rd38 (hq : Rd q fq) (hk : Rd k fk) : Rd (k0_pay38 (F := Ideal) q k) (fun r _ => ∑ c ∈ range 1024, sp (zR 128 fq fk r c)) := by
  have h := (rd37 hq hk).addf (((rd31 hq hk).slice 256 0 slices_S256x1024_o0_0_S256x256).rowSum 0x00000000#32 reduces_S256x256_S256 (.inl rfl) rfl shapeCasts_S256_S256x1)
  exact h.congr fun r _ c _ => by rw [← sum_four (fun c => sp (zR 128 fq fk r c))]; ring
theorem rdL (hq : Rd q fq) (hk : Rd k fk) (hg : Rd g (fun r _ => fg r)) : Rd (wL (F := Ideal) q g k) (fun r _ => fg r + ∑ c ∈ range 1024, sp (zR 128 fq fk r c)) :=
  hg.addf (rd38 hq hk)
theorem rdW (hT : L0 T) (hq : Rd q fq) (hk : Rd k fk) (hg : Rd g (fun r _ => fg r)) : Rd (wW (F := Ideal) T q g k)
    (fun r c => Real.exp (lb (zR 128 fq fk r c) - (∑ j ∈ Ico (c + 1) 1024, sp (zR 128 fq fk r j) + fg r))) := by
  have hh := rd33 hq hk
  have hl := rd34 hq hk
  have t0 := (tri0 hT (hh.slice 256 0 slices_S256x1024_o0_0_S256x256) (hl.slice 256 0 slices_S256x1024_o0_0_S256x256)).addf ((rd37 hq hk).bcast (by decide) broadcasts_S256x1_S256x256 (by decide))
  have t1 := (tri0 hT (hh.slice 256 256 slices_S256x1024_o0_256_S256x256) (hl.slice 256 256 slices_S256x1024_o0_256_S256x256)).addf ((rd36 hq hk).bcast (by decide) broadcasts_S256x1_S256x256 (by decide))
  have t2 := (tri0 hT (hh.slice 256 512 slices_S256x1024_o0_512_S256x256) (hl.slice 256 512 slices_S256x1024_o0_512_S256x256)).addf ((rd35 hq hk).bcast (by decide) broadcasts_S256x1_S256x256 (by decide))
  have t3 := tri0 hT (hh.slice 256 768 slices_S256x1024_o0_768_S256x256) (hl.slice 256 768 slices_S256x1024_o0_768_S256x256)
  have h := ((rd32 hq hk).subf ((t0.concat4 t1 t2 t3 concatenates_S256x256_S256x256_S256x256_S256x256_S256x1024_d1).addf (hg.bcast (by decide) broadcasts_S256x1_S256x1024 (by decide)))).exp
  exact h.congr fun r _ c hc => by rw [← sfx_four (fun j => sp (zR 128 fq fk r j)) c hc]
theorem rdA0 (hd : Rd d fd) (hv : Rd v fv) {w : ℕ → ℕ → ℝ} (hw : Rd (wW (F := Ideal) T q g k) w) :
    Rt (wA0 (F := Ideal) T q d g k v) (fun r c => zR 128 fd fv r c * w r c) :=
  (((Rd.mulf (Rd.mmNT rfl hd hv) hw).slice 512 0 slices_S256x1024_o0_0_S256x512).lift shapeCasts_S256x512_S1x256x512).congr fun r _ c _ => by rw [Nat.zero_add]; rfl
theorem rdA1 (hd : Rd d fd) (hv : Rd v fv) {w : ℕ → ℕ → ℝ} (hw : Rd (wW (F := Ideal) T q g k) w) :
    Rt (wA1 (F := Ideal) T q d g k v) (fun r c => zR 128 fd fv r (512 + c) * w r (512 + c)) :=
  ((Rd.mulf (Rd.mmNT rfl hd hv) hw).slice 512 512 slices_S256x1024_o0_512_S256x512).lift shapeCasts_S256x512_S1x256x512
theorem rdB0 (hq : Rd q fq) (hk : Rd k fk) : Rt (wB0 (F := Ideal) q k) (fun r c => Real.exp (lb (zR 128 fq fk r c))) :=
  (((rd32 hq hk).exp.slice 512 0 slices_S256x1024_o0_0_S256x512).lift shapeCasts_S256x512_S1x256x512).congr fun r _ c _ => by rw [Nat.zero_add]
theorem rdB1 (hq : Rd q fq) (hk : Rd k fk) : Rt (wB1 (F := Ideal) q k) (fun r c => Real.exp (lb (zR 128 fq fk r (512 + c)))) :=
  ((rd32 hq hk).exp.slice 512 512 slices_S256x1024_o0_512_S256x512).lift shapeCasts_S256x512_S1x256x512
end

end

/-! ## What is added to the gradient of the values -/

theorem rd115 {d : FVec Ideal S256x128 .bf16} {fd : ℕ → ℕ → ℝ} (hd : Rd d fd) {w : FVec Ideal S256x256 .f32} {fw : ℕ → ℕ → ℝ} (hw : Rd w fw) {o : FVec Ideal S256x128 .f32} {fo : ℕ → ℕ → ℝ} (ho : Rd o fo) :
    Rd (k0_pay115 (F := Ideal) d w o) (fun s e => fo s e + ∑ r ∈ range 256, fw r s * fd r e) :=
  (ho.shapeCast_self _).addf (Rd.mmTN rfl (hw.truncf bitsLt_bf16_f32) hd)
theorem rd119 {d : FVec Ideal S256x128 .bf16} {fd : ℕ → ℕ → ℝ} (hd : Rd d fd) {w : FVec Ideal S256x512 .f32} {fw : ℕ → ℕ → ℝ} (hw : Rd w fw) {o : FVec Ideal S512x128 .f32} {fo : ℕ → ℕ → ℝ} (ho : Rd o fo) :
    Rd (k0_pay119 (F := Ideal) d w o) (fun s e => fo s e + ∑ r ∈ range 256, fw r s * fd r e) :=
  (ho.shapeCast_self _).addf (Rd.mmTN rfl (hw.truncf bitsLt_bf16_f32) hd)
theorem rd128 {d : FVec Ideal S256x128 .bf16} {fd : ℕ → ℕ → ℝ} (hd : Rd d fd) {w : FVec Ideal S256x512 .f32} {fw : ℕ → ℕ → ℝ} (hw : Rd w fw) {o : FVec Ideal S512x128 .f32} {fo : ℕ → ℕ → ℝ} (ho : Rd o fo) :
    Rd (k0_pay128 (F := Ideal) d w o) (fun s e => fo s e + ∑ r ∈ range 256, fw r s * fd r e) :=
  (ho.shapeCast_self _).addf (Rd.mmTN rfl (hw.truncf bitsLt_bf16_f32) hd)
theorem rd122 {d : FVec Ideal S256x128 .bf16} {fd : ℕ → ℕ → ℝ} (hd : Rd d fd) {w : FVec Ideal S256x1024 .f32} {fw : ℕ → ℕ → ℝ} (hw : Rd w fw) {o : FVec Ideal S1024x128 .f32} {fo : ℕ → ℕ → ℝ} (ho : Rd o fo) :
    Rd (k0_pay122 (F := Ideal) d w o) (fun s e => fo s e + ∑ r ∈ range 256, fw r s * fd r e) :=
  (ho.shapeCast_self _).addf (Rd.mmTN rfl (hw.truncf bitsLt_bf16_f32) hd)

end Cert.KernelIdeal.SB
-- ==== Proof.Pay2.lean ====
module

public import proofs.«01_k».proof.Proof.Pay1

/-! The second sweep over the columns, block by block: what the kernel's values are as real numbers. -/

@[expose] public section

noncomputable section

namespace Cert.KernelIdeal.SB

open Idealize.ShloMosaic Idealize.ShloMosaic.TcCoe Idealize.ShloMosaic.ValueIdx
open scoped BigOperators
open Cert.KernelIdeal Cert.KernelIdeal.Gen
open Finset

/-- The gradient of a score from the gradients of the log weights of its row, within one block. -/
def dzL (a b : ℕ → ℕ → ℝ) (g : ℕ → ℝ) (r c : ℕ) : ℝ := a r c - b r c * (a r c + ∑ k ∈ range c, a r k + g r)

variable {T : FVec Ideal S512x256 .bf16} {q : FVec Ideal S256x128 .bf16} {fq : ℕ → ℕ → ℝ} {g : FVec Ideal S256x1 .f32} {fg : ℕ → ℝ}

/-! ## 256 columns under the mask -/

section
variable {a b : FVec Ideal S1x256x256 .f32} {fa fb : ℕ → ℕ → ℝ} {m : IVec S256x256 1} {p : ℕ → ℕ → Prop} [∀ r c, Decidable (p r c)]

theorem rd9 (hT : L1 T) (hm : Mk m p) (hg : Rd g (fun r _ => fg r)) (ha : Rt a fa) (hb : Rt b fb) :
    Rd (k0_pay9 (F := Ideal) T m g a b) (fun r c => if p r c then dzL fa fb fg r c else 0) := by
  have h := ha.drop shapeCasts_S1x256x256_S256x256
  have hh : Rd (truncf (F := Ideal) (φ := .f32) .bf16 (shapeCast S256x256 a shapeCasts_S1x256x256_S256x256) bitsLt_bf16_f32) fa := Rd.truncf (φ := .f32) h bitsLt_bf16_f32
  have hl := (Rd.rest (φ := .f32) h (hh.extf bitsLt_bf16_f32)).truncf (ψ := .bf16) bitsLt_bf16_f32
  have ht := Rd.addf (φ := .f32) h (tri1 hT hh hl)
  have h2 := Rd.subf (φ := .f32) h (Rd.mulf (φ := .f32) (hb.drop shapeCasts_S1x256x256_S256x256) (ht.addf (hg.bcast (by decide) broadcasts_S256x1_S256x256 (by decide))))
  have h3 := (Rd.select hm h2 rd_zero).truncf (ψ := .bf16) bitsLt_bf16_f32
  exact h3.congr fun r _ c hc => by simp only [dzL, pfx_eq _ _ c hc.le]
theorem rd10 (hq : Rd q fq) {z : ℕ → ℕ → ℝ} (hz : Rd (k0_pay9 (F := Ideal) T m g a b) z) {o : FVec Ideal S256x128 .f32} {fo : ℕ → ℕ → ℝ} (ho : Rd o fo) :
    Rd (k0_pay10 (F := Ideal) T q m g a b o) (fun s e => fo s e + ∑ r ∈ range 256, z r s * fq r e) :=
  Rd.addf (φ := .f32) (ho.shapeCast_self _) (Rd.mmTN rfl hz hq)
theorem rd11 {k : FVec Ideal S256x128 .bf16} {fk : ℕ → ℕ → ℝ} (hk : Rd k fk) {z : ℕ → ℕ → ℝ} (hz : Rd (k0_pay9 (F := Ideal) T m g a b) z) {o : FVec Ideal S256x128 .f32} {fo : ℕ → ℕ → ℝ} (ho : Rd o fo) :
    Rd (k0_pay11 (F := Ideal) T m g o a b k) (fun r e => fo r e + ∑ c ∈ range 256, z r c * fk c e) :=
  ho.addf (Rd.mmNN rfl hz hk)
end

/-! ## 512 columns -/

section
variable {a b : FVec Ideal S1x256x512 .f32} {fa fb : ℕ → ℕ → ℝ} {m : IVec S256x512 1} {p : ℕ → ℕ → Prop} [∀ r c, Decidable (p r c)]

theorem rd97 (hT : L1 T) (hm : Mk m p) (hg : Rd g (fun r _ => fg r)) (ha : Rt a fa) (hb : Rt b fb) :
    Rd (k0_pay97 (F := Ideal) m T g a b) (fun r c => if p r c then dzL fa fb fg r c else 0) := by
  have h := ha.drop shapeCasts_S1x256x512_S256x512
  have hh : Rd (truncf (F := Ideal) (φ := .f32) .bf16 (shapeCast S256x512 a shapeCasts_S1x256x512_S256x512) bitsLt_bf16_f32) fa := Rd.truncf (φ := .f32) h bitsLt_bf16_f32
  have hl := (Rd.rest (φ := .f32) h (hh.extf bitsLt_bf16_f32)).truncf (ψ := .bf16) bitsLt_bf16_f32
  have t0 := tri1 hT (hh.slice 256 0 slices_S256x512_o0_0_S256x256) (hl.slice 256 0 slices_S256x512_o0_0_S256x256)
  have t1 := (tri1 hT (hh.slice 256 256 slices_S256x512_o0_256_S256x256) (hl.slice 256 256 slices_S256x512_o0_256_S256x256)).addf
    (((h.slice 256 0 slices_S256x512_o0_0_S256x256).rowSum 0x00000000#32 reduces_S256x256_S256 (.inl rfl) rfl shapeCasts_S256_S256x1).bcast (by decide) broadcasts_S256x1_S256x256 (by decide))
  have ht := Rd.addf (φ := .f32) h (t0.concat2 t1 concatenates_S256x256_S256x256_S256x512_d1 rfl)
  have h2 := Rd.subf (φ := .f32) h (Rd.mulf (φ := .f32) (hb.drop shapeCasts_S1x256x512_S256x512) (ht.addf (hg.bcast (by decide) broadcasts_S256x1_S256x512 (by decide))))
  have h3 := (Rd.select hm h2 rd_zero).truncf (ψ := .bf16) bitsLt_bf16_f32
  exact h3.congr fun r _ c hc => by simp only [dzL]; rw [← pfx_two (fa r) c hc]
theorem rd98 (hq : Rd q fq) {z : ℕ → ℕ → ℝ} (hz : Rd (k0_pay97 (F := Ideal) m T g a b) z) {o : FVec Ideal S512x128 .f32} {fo : ℕ → ℕ → ℝ} (ho : Rd o fo) :
    Rd (k0_pay98 (F := Ideal) m T q g a b o) (fun s e => fo s e + ∑ r ∈ range 256, z r s * fq r e) :=
  Rd.addf (φ := .f32) (ho.shapeCast_self _) (Rd.mmTN rfl hz hq)
theorem rd12 {k : FVec Ideal S512x128 .bf16} {fk : ℕ → ℕ → ℝ} (hk : Rd k fk) {w : FVec Ideal S256x512 .bf16} {z : ℕ → ℕ → ℝ} (hz : Rd w z) {o : FVec Ideal S256x128 .f32} {fo : ℕ → ℕ → ℝ} (ho : Rd o fo) :
    Rd (k0_pay12 (F := Ideal) o w k) (fun r e => fo r e + ∑ c ∈ range 512, z r c * fk c e) :=
  ho.addf (Rd.mmNN rfl hz hk)
theorem rd76 (hT : L1 T) (hg : Rd g (fun r _ => fg r)) (ha : Rt a fa) (hb : Rt b fb) :
    Rd (k0_pay76 (F := Ideal) T g a b) (dzL fa fb fg) := by
  have h := ha.drop shapeCasts_S1x256x512_S256x512
  have hh : Rd (truncf (F := Ideal) (φ := .f32) .bf16 (shapeCast S256x512 a shapeCasts_S1x256x512_S256x512) bitsLt_bf16_f32) fa := Rd.truncf (φ := .f32) h bitsLt_bf16_f32
  have hl := (Rd.rest (φ := .f32) h (hh.extf bitsLt_bf16_f32)).truncf (ψ := .bf16) bitsLt_bf16_f32
  have t0 := tri1 hT (hh.slice 256 0 slices_S256x512_o0_0_S256x256) (hl.slice 256 0 slices_S256x512_o0_0_S256x256)
  have t1 := (tri1 hT (hh.slice 256 256 slices_S256x512_o0_256_S256x256) (hl.slice 256 256 slices_S256x512_o0_256_S256x256)).addf
    (((h.slice 256 0 slices_S256x512_o0_0_S256x256).rowSum 0x00000000#32 reduces_S256x256_S256 (.inl rfl) rfl shapeCasts_S256_S256x1).bcast (by decide) broadcasts_S256x1_S256x256 (by decide))
  have ht := Rd.addf (φ := .f32) h (t0.concat2 t1 concatenates_S256x256_S256x256_S256x512_d1 rfl)
  have h2 := Rd.subf (φ := .f32) h (Rd.mulf (φ := .f32) (hb.drop shapeCasts_S1x256x512_S256x512) (ht.addf (hg.bcast (by decide) broadcasts_S256x1_S256x512 (by decide))))
  have h3 := h2.truncf (ψ := .bf16) bitsLt_bf16_f32
  exact h3.congr fun r _ c hc => by simp only [dzL]; rw [← pfx_two (fa r) c hc]
theorem rd77 (hq : Rd q fq) {z : ℕ → ℕ → ℝ} (hz : Rd (k0_pay76 (F := Ideal) T g a b) z) {o : FVec Ideal S512x128 .f32} {fo : ℕ → ℕ → ℝ} (ho : Rd o fo) :
    Rd (k0_pay77 (F := Ideal) T q g a b o) (fun s e => fo s e + ∑ r ∈ range 256, z r s * fq r e) :=
  Rd.addf (φ := .f32) (ho.shapeCast_self _) (Rd.mmTN rfl hz hq)
theorem rd78 (hg : Rd g (fun r _ => fg r)) (ha : Rt a fa) : Rd (k0_pay78 (F := Ideal) g a) (fun r _ => fg r + ∑ c ∈ range 512, fa r c) := by
  have h := ha.drop shapeCasts_S1x256x512_S256x512
  have h1 := hg.addf (((h.slice 256 0 slices_S256x512_o0_0_S256x256).rowSum 0x00000000#32 reduces_S256x256_S256 (.inl rfl) rfl shapeCasts_S256_S256x1).addf
    ((h.slice 256 256 slices_S256x512_o0_256_S256x256).rowSum 0x00000000#32 reduces_S256x256_S256 (.inl rfl) rfl shapeCasts_S256_S256x1))
  exact h1.congr fun r _ c _ => by rw [← sum_two]
theorem rd131 {k : FVec Ideal S512x128 .bf16} {fk : ℕ → ℕ → ℝ} (hk : Rd k fk) {w : FVec Ideal S256x512 .bf16} {z : ℕ → ℕ → ℝ} (hz : Rd w z) :
    Rd (k0_pay131 (F := Ideal) w k) (fun r e => ∑ c ∈ range 512, z r c * fk c e) :=
  (rd_zero.addf (Rd.mmNN rfl hz hk)).congr fun _ _ _ _ => zero_add _
end

/-! ## 1024 columns -/

section
variable {a0 a1 b0 b1 : FVec Ideal S1x256x512 .f32} {fa fb : ℕ → ℕ → ℝ}

/-- Two tiles side by side. -/
def TwoT (a0 a1 : FVec Ideal S1x256x512 .f32) (fa : ℕ → ℕ → ℝ) : Prop := Rt a0 fa ∧ Rt a1 (fun r c => fa r (512 + c))

theorem rd79 (ha : TwoT a0 a1 fa) : Rd (k0_pay79 (F := Ideal) a0 a1) fa :=
  ((ha.1.drop shapeCasts_S1x256x512_S256x512).concat2 (ha.2.drop shapeCasts_S1x256x512_S256x512) concatenates_S256x512_S256x512_S256x1024_d1 rfl).congr fun r _ c _ => by
    split
    · rfl
    · rw [show 512 + (c - 512) = c by omega]
theorem rd80 (hb : TwoT b0 b1 fb) : Rd (k0_pay80 (F := Ideal) b0 b1) fb :=
  ((hb.1.drop shapeCasts_S1x256x512_S256x512).concat2 (hb.2.drop shapeCasts_S1x256x512_S256x512) concatenates_S256x512_S256x512_S256x1024_d1 rfl).congr fun r _ c _ => by
    split
    · rfl
    · rw [show 512 + (c - 512) = c by omega]
theorem rd81 (ha : TwoT a0 a1 fa) : Rd (k0_pay81 (F := Ideal) a0 a1) fa := (rd79 ha).truncf bitsLt_bf16_f32
theorem rd82 (ha : TwoT a0 a1 fa) : Rd (k0_pay82 (F := Ideal) a0 a1) (fun _ _ => 0) := ((rd79 ha).rest ((rd81 ha).extf bitsLt_bf16_f32)).truncf bitsLt_bf16_f32
theorem rd83 (ha : TwoT a0 a1 fa) : Rd (k0_pay83 (F := Ideal) a0 a1) (fun r _ => ∑ c ∈ range 256, fa r (0 + c)) := ((rd79 ha).slice 256 0 _).rowSum _ _ _ _ _
theorem rd84 (ha : TwoT a0 a1 fa) : Rd (k0_pay84 (F := Ideal) a0 a1) (fun r _ => ∑ c ∈ range 256, fa r (0 + c) + ∑ c ∈ range 256, fa r (256 + c)) :=
  (rd83 ha).addf (((rd79 ha).slice 256 256 _).rowSum _ _ _ _ _)
theorem rd85 (ha : TwoT a0 a1 fa) : Rd (k0_pay85 (F := Ideal) a0 a1) (fun r _ => ∑ c ∈ range 256, fa r (0 + c) + ∑ c ∈ range 256, fa r (256 + c) + ∑ c ∈ range 256, fa r (512 + c)) :=
  (rd84 ha).addf (((rd79 ha).slice 256 512 _).rowSum _ _ _ _ _)
theorem rd86 (ha : TwoT a0 a1 fa) : Rd (k0_pay86 (F := Ideal) a0 a1) (fun r _ => ∑ c ∈ range 1024, fa r c) := by
  have h := (rd85 ha).addf (((rd79 ha).slice 256 768 slices_S256x1024_o0_768_S256x256).rowSum 0x00000000#32 reduces_S256x256_S256 (.inl rfl) rfl shapeCasts_S256_S256x1)
  exact h.congr fun r _ _ _ => sum_four (fa r)
theorem rdG (hg : Rd g (fun r _ => fg r)) (ha : TwoT a0 a1 fa) : Rd (uG (F := Ideal) g a0 a1) (fun r _ => fg r + ∑ c ∈ range 1024, fa r c) := hg.addf (rd86 ha)
/-- The gradients of the scores of 1024 columns. -/
def dzW (T : FVec Ideal S512x256 .bf16) (g : FVec Ideal S256x1 .f32) (a0 a1 b0 b1 : FVec Ideal S1x256x512 .f32) : FVec Ideal S256x1024 .bf16 :=
  k0_pay1 (F := Ideal) T g (k0_pay79 a0 a1) (k0_pay80 b0 b1) (k0_pay81 a0 a1) (k0_pay82 a0 a1) (k0_pay83 a0 a1) (k0_pay84 a0 a1) (k0_pay85 a0 a1) (k0_pay87 a0 a1)
theorem rdZ (hT : L1 T) (hg : Rd g (fun r _ => fg r)) (ha : TwoT a0 a1 fa) (hb : TwoT b0 b1 fb) : Rd (dzW T g a0 a1 b0 b1) (dzL fa fb fg) := by
  have h := rd79 ha
  have hh := rd81 ha
  have hl := rd82 ha
  have t0 := tri1 hT (hh.slice 256 0 slices_S256x1024_o0_0_S256x256) (hl.slice 256 0 slices_S256x1024_o0_0_S256x256)
  have t1 := (tri1 hT (hh.slice 256 256 slices_S256x1024_o0_256_S256x256) (hl.slice 256 256 slices_S256x1024_o0_256_S256x256)).addf ((rd83 ha).bcast (by decide) broadcasts_S256x1_S256x256 (by decide))
  have t2 := (tri1 hT (hh.slice 256 512 slices_S256x1024_o0_512_S256x256) (hl.slice 256 512 slices_S256x1024_o0_512_S256x256)).addf ((rd84 ha).bcast (by decide) broadcasts_S256x1_S256x256 (by decide))
  have t3 := (tri1 hT (hh.slice 256 768 slices_S256x1024_o0_768_S256x256) (hl.slice 256 768 slices_S256x1024_o0_768_S256x256)).addf ((rd85 ha).bcast (by decide) broadcasts_S256x1_S256x256 (by decide))
  have ht := h.addf (t0.concat4 t1 t2 t3 concatenates_S256x256_S256x256_S256x256_S256x256_S256x1024_d1)
  have h2 := (h.subf ((rd80 hb).mulf (ht.addf (hg.bcast (by decide) broadcasts_S256x1_S256x1024 (by decide))))).truncf (ψ := .bf16) bitsLt_bf16_f32
  exact h2.congr fun r _ c hc => by simp only [dzL]; rw [← pfx_four (fa r) c hc]
theorem rdK (hq : Rd q fq) {z : ℕ → ℕ → ℝ} (hz : Rd (dzW T g a0 a1 b0 b1) z) {o : FVec Ideal S1024x128 .f32} {fo : ℕ → ℕ → ℝ} (ho : Rd o fo) :
    Rd (uK (F := Ideal) T q g a0 a1 b0 b1 o) (fun s e => fo s e + ∑ r ∈ range 256, z r s * fq r e) :=
  Rd.addf (φ := .f32) (ho.shapeCast_self _) (Rd.mmTN rfl hz hq)
theorem rdQ {k : FVec Ideal S1024x128 .bf16} {fk : ℕ → ℕ → ℝ} (hk : Rd k fk) {z : ℕ → ℕ → ℝ} (hz : Rd (dzW T g a0 a1 b0 b1) z) {o : FVec Ideal S256x128 .f32} {fo : ℕ → ℕ → ℝ} (ho : Rd o fo) :
    Rd (uQ (F := Ideal) T g o a0 a1 b0 b1 k) (fun r e => fo r e + ∑ c ∈ range 1024, z r c * fk c e) :=
  ho.addf (Rd.mmNN rfl hz hk)
end

end Cert.KernelIdeal.SB
-- ==== Proof.Consts.lean ====
module

public import proofs.«01_k».proof.Proof.Pay2

/-! The masks, the triangles and the operands of one head, as real numbers. -/

@[expose] public section

noncomputable section

namespace Cert.KernelIdeal.SB

open Idealize.ShloMosaic Idealize.ShloMosaic.TcCoe Idealize.ShloMosaic.ValueIdx
open scoped BigOperators
open Cert.KernelIdeal Cert.KernelIdeal.Gen
open Finset

theorem toInt_small (a : ℕ) (h : a < 2 ^ 31) : (BitVec.ofNat 32 a).toInt = a := by
  rw [BitVec.toInt_eq_toNat_of_lt (by rw [BitVec.toNat_ofNat]; omega), BitVec.toNat_ofNat]; omega

theorem slt_small (a b : ℕ) (ha : a < 2 ^ 31) (hb : b < 2 ^ 31) : (BitVec.ofNat 32 a).slt (BitVec.ofNat 32 b) = decide (a < b) := by
  rw [BitVec.slt, toInt_small a ha, toInt_small b hb]
  simp

theorem cmp_slt (a b : ℕ) (ha : a < 2 ^ 31) (hb : b < 2 ^ 31) : IntOp.cmpi .slt (BitVec.ofNat 32 a) (BitVec.ofNat 32 b) = if a < b then 1#1 else 0#1 := by
  show BitVec.ofBool ((BitVec.ofNat 32 a).slt (BitVec.ofNat 32 b)) = _
  rw [slt_small a b ha hb]
  by_cases h : a < b <;> simp [h]

theorem cmp_sgt (a b : ℕ) (ha : a < 2 ^ 31) (hb : b < 2 ^ 31) : IntOp.cmpi .sgt (BitVec.ofNat 32 a) (BitVec.ofNat 32 b) = if b < a then 1#1 else 0#1 := by
  show BitVec.ofBool ((BitVec.ofNat 32 b).slt (BitVec.ofNat 32 a)) = _
  rw [slt_small b a hb ha]
  by_cases h : b < a <;> simp [h]

theorem mk_of {a b : ℕ} {m : IVec ⟨2, ![a, b]⟩ 1} {p : ℕ → ℕ → Prop} [∀ r c, Decidable (p r c)] (h : ∀ (r : Fin a) (c : Fin b), m (ix2 r c) = if p r.val c.val then 1#1 else 0#1) : Mk m p :=
  fun r c => ⟨fun hp => (h r c).trans (if_pos hp), fun hp => (h r c).trans (if_neg hp)⟩

theorem pay102_eq (k : Fin 512) (c : Fin 256) : k0_pay102 (ix2 k c) = BitVec.ofNat 32 (k.val % 256) :=
  (by decide +kernel : ∀ k : Fin 512, k0_pay102 (ix2 k (0 : Fin 256)) = BitVec.ofNat 32 (k.val % 256)) k

theorem bit_real (x : BitVec 1) : (((x.setWidth 32).toInt : ℝ) : EReal) = ((if x = 1#1 then (1 : ℝ) else 0 : ℝ) : EReal) := by
  rcases (by decide : ∀ x : BitVec 1, x = 0#1 ∨ x = 1#1) x with h | h <;> subst h <;> simp

theorem tri0_L0 : L0 (T0 (F := Ideal)) := by
  have h : Rt (k0_pay103 (F := Ideal)) (fun k c => if c < k % 256 then 1 else 0) := by
    have h' : Rd (truncf (F := Ideal) .bf16 (sitofp .f32 (extui 32 (cmpi .sgt k0_pay102 (iota .tc S512x256 32 [1] iota_S512x256_d1_w32)) natLt_1_32)) bitsLt_bf16_f32 : FVec Ideal S512x256 .bf16) (fun k c => if c < k % 256 then 1 else 0) := fun k c => by
      show (((IntOp.cmpi .sgt (k0_pay102 (ix2 k c)) (BitVec.ofNat 32 (0 * 256 + c.val))).setWidth 32).toInt : ℝ) = (_ : EReal)
      rw [bit_real, pay102_eq, cmp_sgt _ _ (by omega) (by have := c.isLt; omega)]
      by_cases h : c.val < k.val % 256 <;> simp [h]
    exact h'.lift _
  exact h.drop _

theorem tri1_L1 : L1 (T1 (F := Ideal)) := by
  have h : Rt (k0_pay104 (F := Ideal)) (fun k c => if k % 256 < c then 1 else 0) := by
    have h' : Rd (truncf (F := Ideal) .bf16 (sitofp .f32 (extui 32 (cmpi .slt k0_pay102 (iota .tc S512x256 32 [1] iota_S512x256_d1_w32)) natLt_1_32)) bitsLt_bf16_f32 : FVec Ideal S512x256 .bf16) (fun k c => if k % 256 < c then 1 else 0) := fun k c => by
      show (((IntOp.cmpi .slt (k0_pay102 (ix2 k c)) (BitVec.ofNat 32 (0 * 256 + c.val))).setWidth 32).toInt : ℝ) = (_ : EReal)
      rw [bit_real, pay102_eq, cmp_slt _ _ (by omega) (by have := c.isLt; omega)]
      by_cases h : k.val % 256 < c.val <;> simp [h]
    exact h'.lift _
  exact h.drop _

/-- The mask of the diagonal tile: the columns before the row. -/
theorem mk_diag (i : grid0.Coords) : Mk (mkP i) (fun r c => 512 * dg i + c < 256 * (i 1).val + r) := mk_of fun r c => by
  have h32 : (i 1).val < 32 := (i 1).isLt
  have e1 : k0_pay100 i (ix2 r c) = BitVec.ofNat 32 (256 * (i 1).val + r.val) := by
    show BitVec.ofNat 32 (i 1).val * 256#32 + BitVec.ofNat 32 (0 * 256 + r.val) = _
    rw [Nat.zero_mul, Nat.zero_add, BitVec.ofNat_add, BitVec.ofNat_mul, BitVec.mul_comm]
  have e0 : k0_pay101 i (ix2 (0 : Fin 256) (0 : Fin 512)) = BitVec.ofNat 32 (512 * dg i) :=
    (by decide +kernel : ∀ n : Fin 32, k0_pay101 (at1 n) (ix2 (0 : Fin 256) (0 : Fin 512)) = BitVec.ofNat 32 (512 * (n.val / 2))) (i 1)
  have e2 : k0_pay101 i (ix2 r c) = BitVec.ofNat 32 (512 * dg i + c.val) := by
    rw [BitVec.ofNat_add, ← e0]
    unfold k0_pay101
    simp only [addi, iota, broadcast, List.foldl, IntOp.addi]
    rw [BitVec.add_assoc, ← BitVec.ofNat_add]
    show _ + BitVec.ofNat 32 (0 * 512 + c.val) = _ + BitVec.ofNat 32 (0 * 512 + 0 + c.val)
    rfl
  show IntOp.cmpi .slt (k0_pay101 i (ix2 r c)) (k0_pay100 i (ix2 r c)) = _
  rw [e1, e2]
  exact cmp_slt _ _ (by have := c.isLt; unfold dg; omega) (by have := r.isLt; omega)

theorem mk_diag' (i : grid0.Coords) : Mk (k0_pay112 (mkP i)) (fun r c => 512 * dg i + c < 256 * (i 1).val + r) := fun r c => by
  have h := (mk_diag i).slice 256 0 slices_S256x512_o0_0_S256x256 r c
  beta_reduce at h
  rw [Nat.zero_add] at h
  exact h

/-- The columns of a head of the pair. -/
theorem mk_head (i : grid0.Coords) : Mk (k0_pay99 i) (fun _ e => e / 64 = (i 2).val) := mk_of fun r c =>
  (by decide +kernel : ∀ (n : Fin 2) (c : Fin 128), k0_pay99 (fun a => match a with | ⟨0, _⟩ => (0 : Fin 4) | ⟨1, _⟩ => (0 : Fin 32) | ⟨2, _⟩ => n) (ix2 (0 : Fin 256) c) = if c.val / 64 = n.val then 1#1 else 0#1) (i 2) c

theorem rd_q (i : grid0.Coords) {Q : FVec Ideal S256x128 .bf16} {f : ℕ → ℕ → ℝ} (h : Rd Q f) : Rd (qP (F := Ideal) i Q) (fun r e => if e / 64 = (i 2).val then f r e * (1 / 8) else 0) := by
  have hz : Rd (broadcast S256x128 (Scalar.sitofp (F := Ideal) .bf16 0#32) : FVec Ideal S256x128 .bf16) (fun _ _ => 0) := fun r c => by
    show (((0#32 : BitVec 32).toInt : ℝ) : EReal) = _
    simp
  have h8 : Rd (broadcast S256x128 (Scalar.ofBits (F := Ideal) .bf16 0x3E00#16) : FVec Ideal S256x128 .bf16) (fun _ _ => 1 / 8) := fun r c => eighth16
  exact (Rd.mulf (φ := .bf16) (Rd.select (mk_head i) h hz) h8).congr fun r _ e _ => by split <;> simp

theorem rd_d (i : grid0.Coords) {D : FVec Ideal S256x128 .f32} {f : ℕ → ℕ → ℝ} (h : Rd D f) : Rd (dP (F := Ideal) i D) (fun r e => if e / 64 = (i 2).val then f r e else 0) :=
  (Rd.select (mk_head i) h rd_zero).truncf bitsLt_bf16_f32

theorem rd13 (i : grid0.Coords) {R : FVec Ideal S256x128 .f32} {f : ℕ → ℕ → ℝ} (h : Rd R f) : Rd (k0_pay13 (F := Ideal) (k0_pay99 i) R) (fun r e => if e / 64 = (i 2).val then f r e * (1 / 8) else 0) := by
  have h8 : Rd (broadcast S256x128 (Scalar.ofBits (F := Ideal) .f32 0x3E000000#32) : FVec Ideal S256x128 .f32) (fun _ _ => 1 / 8) := fun r c => eighth32
  exact (Rd.select (mk_head i) (Rd.mulf (φ := .f32) h h8) rd_zero).truncf bitsLt_bf16_f32

theorem rd14 (i : grid0.Coords) {R : FVec Ideal S256x128 .f32} {f : ℕ → ℕ → ℝ} (h : Rd R f) {DQ : FVec Ideal S256x128 .bf16} {g : ℕ → ℕ → ℝ} (hg : Rd DQ g) :
    Rd (k0_pay14 (F := Ideal) (k0_pay99 i) R DQ) (fun r e => g r e + if e / 64 = (i 2).val then f r e * (1 / 8) else 0) :=
  (hg.shapeCast_self _).addf (rd13 i h)

theorem rd108 : Rd (k0_pay108 (F := Ideal)) (fun _ _ => 0) := rd_zero
theorem rd109 : Rd (k0_pay109 (F := Ideal)) (fun _ _ => 0) := rd_zero
theorem rd113 : Rd (k0_pay113 (F := Ideal)) (fun _ _ => 0) := rd_zero
theorem rd129 : Rd (k0_pay129 (F := Ideal)) (fun _ _ => 0) := rd_zero
theorem rd130 : Rd (k0_pay130 (F := Ideal)) (fun _ _ => 0) := rd_zero
theorem rd116 {g : FVec Ideal S256x1 .f32} {f : ℕ → ℕ → ℝ} (h : Rd g f) : Rd (k0_pay116 (F := Ideal) g) f := (rd113.addf h).congr fun _ _ _ _ => zero_add _
theorem rd120 {g : FVec Ideal S256x1 .f32} {f : ℕ → ℕ → ℝ} (h : Rd g f) : Rd (k0_pay120 (F := Ideal) g) f := (rd113.addf h).congr fun _ _ _ _ => zero_add _
theorem rd114 {g : FVec Ideal S256x256 .f32} {f : ℕ → ℕ → ℝ} (h : Rd g f) : Rt (k0_pay114 (F := Ideal) g) f := h.lift _
theorem rd127 {g : FVec Ideal S256x512 .f32} {f : ℕ → ℕ → ℝ} (h : Rd g f) : Rt (k0_pay127 (F := Ideal) g) f := h.lift _

/-! ## Rows of a column-long buffer -/

theorem slab_idx {n j : ℕ} (h : 512 * j + n ≤ 8192) (s : Fin n) : (512 * j + s.val) % 8192 = 512 * j + s.val := Nat.mod_eq_of_lt (by have := s.isLt; omega)

/-- Rows `512 * j` onward of a column-long buffer. -/
theorem rd_rows {X : (⟨2, ![8192, 128]⟩ : Shape).Idx → EReal} {f : ℕ → ℕ → ℝ} (h : Rd X f) (n j : ℕ) (hj : 512 * j + n ≤ 8192) {Y : (⟨2, ![n, 128]⟩ : Shape).Idx → EReal}
    (hY : ∀ s e, Y (ix2 s e) = X (ix2 ⟨(512 * j + s.val) % 8192, Nat.mod_lt _ (by decide)⟩ e)) : Rd Y (fun s c => f (512 * j + s) c) := fun s c => by
  refine (hY s c).trans ((h ⟨(512 * j + s.val) % 8192, Nat.mod_lt _ (by decide)⟩ c).trans ?_)
  show ((f ((512 * j + s.val) % 8192) c.val : ℝ) : EReal) = _
  rw [slab_idx hj]

theorem slab_eq {α : Type} (X : (⟨2, ![8192, 128]⟩ : Shape).Idx → α) (a : Fin 8192) (e : Fin 128) (u : (⟨2, ![8192, 128]⟩ : Shape).Idx) (h0 : u 0 = a) (h1 : u 1 = e) : X u = X (ix2 a e) := by
  subst h0; subst h1; exact congrArg X (eq_ix2 u)

section
variable {f : ℕ → ℕ → ℝ}
theorem rd_k1024 {X : FVec Ideal S8192x128 .bf16} (h : Rd X f) (j : ℕ) (hj : 512 * j + 1024 ≤ 8192) : Rd (slab1024 (F := Ideal) (e := .bf16) X j) (fun s c => f (512 * j + s) c) :=
  rd_rows h 1024 j hj fun s e => slab_eq X _ _ _ rfl rfl
theorem rd_k512 {X : FVec Ideal S8192x128 .bf16} (h : Rd X f) (j : ℕ) (hj : 512 * j + 512 ≤ 8192) : Rd (slab512 (F := Ideal) (e := .bf16) X j) (fun s c => f (512 * j + s) c) :=
  rd_rows h 512 j hj fun s e => slab_eq X _ _ _ rfl rfl
theorem rd_k256 {X : FVec Ideal S8192x128 .bf16} (h : Rd X f) (j : ℕ) (hj : 512 * j + 256 ≤ 8192) : Rd (slab256 (F := Ideal) (e := .bf16) X j) (fun s c => f (512 * j + s) c) :=
  rd_rows h 256 j hj fun s e => slab_eq X _ _ _ rfl rfl
theorem rd_o1024 {X : FVec Ideal S8192x128 .f32} (h : Rd X f) (j : ℕ) (hj : 512 * j + 1024 ≤ 8192) : Rd (slab1024 (F := Ideal) (e := .f32) X j) (fun s c => f (512 * j + s) c) :=
  rd_rows h 1024 j hj fun s e => slab_eq X _ _ _ rfl rfl
theorem rd_o512 {X : FVec Ideal S8192x128 .f32} (h : Rd X f) (j : ℕ) (hj : 512 * j + 512 ≤ 8192) : Rd (slab512 (F := Ideal) (e := .f32) X j) (fun s c => f (512 * j + s) c) :=
  rd_rows h 512 j hj fun s e => slab_eq X _ _ _ rfl rfl
theorem rd_o256 {X : FVec Ideal S8192x128 .f32} (h : Rd X f) (j : ℕ) (hj : 512 * j + 256 ≤ 8192) : Rd (slab256 (F := Ideal) (e := .f32) X j) (fun s c => f (512 * j + s) c) :=
  rd_rows h 256 j hj fun s e => slab_eq X _ _ _ rfl rfl
end

/-- Rows put back with something added to them. -/
theorem rd_acc {n j : ℕ} {X : S8192x128.Idx → EReal} {f : ℕ → ℕ → ℝ} (hX : Rd (a := 8192) (b := 128) X f) {w : (⟨2, ![n, 128]⟩ : Shape).Idx → EReal} {C : ℕ → ℕ → ℝ}
    (hw : Rd w (fun s e => f (512 * j + s) e + C (512 * j + s) e)) :
    Rd (a := 8192) (b := 128) (VecWindow.put (s := S8192x128) X ![512 * j, 0] ![n, 128] w) (fun s e => f s e + if 512 * j ≤ s ∧ s < 512 * j + n then C s e else 0) := fun s e => by
  unfold VecWindow.put
  by_cases h : 512 * j ≤ s.val ∧ s.val < 512 * j + n
  · have hh : ∀ a : Fin 2, (![512 * j, 0] : Fin 2 → ℕ) a ≤ ((ix2 s e : (⟨2, ![8192, 128]⟩ : Shape).Idx) a).val ∧ ((ix2 s e : (⟨2, ![8192, 128]⟩ : Shape).Idx) a).val < (![512 * j, 0] : Fin 2 → ℕ) a + (![n, 128] : Fin 2 → ℕ) a := fun a =>
      match a with
      | ⟨0, _⟩ => h
      | ⟨1, _⟩ => ⟨Nat.zero_le _, by show e.val < 0 + 128; have := e.isLt; omega⟩
    refine (dif_pos hh).trans ?_
    have h' := hw ⟨s.val - 512 * j, by omega⟩ e
    dsimp only at h'
    rw [show 512 * j + (s.val - 512 * j) = s.val by omega] at h'
    beta_reduce
    rw [if_pos h, ← h']
    refine congrArg w (funext fun a => ?_)
    match a with
    | ⟨0, _⟩ => exact Fin.ext rfl
    | ⟨1, _⟩ => exact Fin.ext (Nat.sub_zero _)
  · refine (dif_neg fun hh => h (hh 0)).trans ?_
    beta_reduce
    rw [if_neg h, add_zero]
    exact hX s e

end Cert.KernelIdeal.SB
-- ==== Proof.Point.lean ====
module

public import proofs.«01_k».proof.Proof.Consts

/-! What one grid point computes: a row block of one head against all the columns before it. -/

@[expose] public section

noncomputable section

namespace Cert.KernelIdeal.SB

open Idealize.ShloMosaic Idealize.ShloMosaic.TcCoe Idealize.ShloMosaic.ValueIdx
open scoped BigOperators
open Cert.KernelIdeal Cert.KernelIdeal.Gen
open Finset

/-! ## The mathematics of a row block that starts at row `t` -/

section
variable (t : ℕ) (fq fd fK fV : ℕ → ℕ → ℝ)

/-- What a column takes off the stick, in the log. -/
def pS (r s : ℕ) : ℝ := if s < t + r then sp (zR 128 fq fK r s) else 0
/-- The weight of a column. -/
def pW (r s : ℕ) : ℝ := if s < t + r then Real.exp (lb (zR 128 fq fK r s) - ∑ j ∈ Ico (s + 1) (t + 256), pS t fq fK r j) else 0
/-- The gate of a column. -/
def pB (r s : ℕ) : ℝ := Real.exp (lb (zR 128 fq fK r s))
/-- The gradient of the log of a weight. -/
def pA (r s : ℕ) : ℝ := zR 128 fd fV r s * pW t fq fK r s
/-- The gradient of a score. -/
def pZ (r s : ℕ) : ℝ := if s < t + r then pA t fq fd fK fV r s - pB fq fK r s * (pA t fq fd fK fV r s + ∑ k ∈ range s, pA t fq fd fK fV r k) else 0

theorem pS_low {r s : ℕ} (h : s < t) : pS t fq fK r s = sp (zR 128 fq fK r s) := if_pos (by omega)

theorem pA_low {r s : ℕ} (h : ¬ s < t + r) : pA t fq fd fK fV r s = 0 := by unfold pA pW; rw [if_neg h, mul_zero]

/-- The gradient of the scores of a block of columns, from those before it. -/
theorem dzL_pZ (o r c : ℕ) (h : o + c < t + r) (g : ℕ → ℝ) (hg : g r = ∑ k ∈ range o, pA t fq fd fK fV r k) :
    dzL (fun r c => pA t fq fd fK fV r (o + c)) (fun r c => pB fq fK r (o + c)) g r c = pZ t fq fd fK fV r (o + c) := by
  unfold dzL pZ
  rw [if_pos h, hg, sum_range_add (fun k => pA t fq fd fK fV r k) o c]
  ring
end

/-! ## The grid point -/

variable (i : grid0.Coords)

/-- The row block's first row. -/
abbrev tp : ℕ := 256 * (i 1).val

theorem tp_even (h : (i 1).val % 2 = 0) : 512 * dg i = tp i := by unfold dg tp; omega
theorem tp_odd (h : ¬ (i 1).val % 2 = 0) : 512 * dg i + 256 = tp i := by unfold dg tp; omega
theorem tp_le : 512 * dg i ≤ tp i := by unfold dg tp; omega
theorem tp_lt : tp i + 256 ≤ 8192 := by have h : (i 1).val < 32 := (i 1).isLt; unfold tp; omega

variable {q d : FVec Ideal S256x128 .bf16} {K V : FVec Ideal S8192x128 .bf16} {fq fd fK fV : ℕ → ℕ → ℝ}

section
variable (hq : Rd q fq) (hd : Rd d fd) (hK : Rd K fK) (hV : Rd V fV)
include hq hK

/-- What the diagonal tile takes off the stick. -/
theorem rd_l0 : Rd (l0 (F := Ideal) i (mkP i) q K) (fun r _ => ∑ j ∈ Ico (512 * dg i) (tp i + 256), pS (tp i) fq fK r j) := by
  have hb := tp_lt i
  unfold l0
  by_cases h : (i 1).val % 2 = 0
  · have e := tp_even i h
    rw [if_pos h]
    refine (rd116 (rd19 hq (rd_k256 hK (dg i) (by omega)) (mk_diag' i))).congr fun r _ c _ => ?_
    rw [show tp i + 256 = 512 * dg i + 256 by omega, ← blk]
    rfl
  · have e := tp_odd i h
    rw [if_neg h]
    refine (rd120 (rd28 hq (rd_k512 hK (dg i) (by omega)) (mk_diag i))).congr fun r _ c _ => ?_
    rw [show tp i + 256 = 512 * dg i + 512 by omega, ← blk]
    rfl

/-- What is off the stick before wide tile `k` of the descending pass. -/
theorem rd_lat (k : ℕ) (hk : 2 * k ≤ dg i) : Rd (latAt (F := Ideal) (dg i) q K (l0 i (mkP i) q K) k) (fun r _ => ∑ j ∈ Ico (512 * (dg i - 2 * k)) (tp i + 256), pS (tp i) fq fK r j) := by
  have hb := tp_lt i
  have ht := tp_le i
  induction k with
  | zero => exact rd_l0 i hq hK
  | succ k ih =>
    refine (rdL hq (rd_k1024 hK (dg i - 2 - 2 * k) (by omega)) (ih (by omega))).congr fun r _ c _ => ?_
    rw [show 512 * (dg i - 2 * (k + 1)) = 512 * (dg i - 2 - 2 * k) by omega,
      ← Ico_join (pS (tp i) fq fK r) (show 512 * (dg i - 2 - 2 * k) ≤ 512 * (dg i - 2 - 2 * k) + 1024 by omega) (show _ ≤ tp i + 256 by omega), ← blk, add_comm]
    refine congrArg₂ (· + ·) (sum_congr rfl fun c hc => ?_) ?_
    · rw [mem_range] at hc
      exact (pS_low (tp i) fq fK (r := r) (s := 512 * (dg i - 2 - 2 * k) + c) (by omega)).symm
    · rw [show 512 * (dg i - 2 - 2 * k) + 1024 = 512 * (dg i - 2 * k) by omega]

theorem rd_wide (k : ℕ) (hk : 2 * k + 2 ≤ dg i) : Rd (wW (F := Ideal) T0 q (latAt (dg i) q K (l0 i (mkP i) q K) k) (slab1024 K (dg i - 2 - 2 * k)))
    (fun r c => pW (tp i) fq fK r (512 * (dg i - 2 - 2 * k) + c)) := by
  have hb := tp_lt i
  have ht := tp_le i
  refine (rdW tri0_L0 hq (rd_k1024 hK (dg i - 2 - 2 * k) (by omega)) (rd_lat i hq hK k (by omega))).congr fun r _ c hc => ?_
  unfold pW
  rw [if_pos (by omega)]
  refine congrArg Real.exp (congrArg₂ (· - ·) rfl ?_)
  rw [← Ico_join (pS (tp i) fq fK r) (show 512 * (dg i - 2 - 2 * k) + c + 1 ≤ 512 * (dg i - 2 - 2 * k) + 1024 by omega) (show _ ≤ tp i + 256 by omega)]
  refine congrArg₂ (· + ·) ?_ ?_
  · rw [Nat.add_assoc, ← sum_off]
    refine sum_congr rfl fun c hc => ?_
    rw [mem_Ico] at hc
    exact (pS_low (tp i) fq fK (r := r) (s := 512 * (dg i - 2 - 2 * k) + c) (by omega)).symm
  · rw [show 512 * (dg i - 2 - 2 * k) + 1024 = 512 * (dg i - 2 * k) by omega]

/-- The weights of the left-over first tile. -/
theorem rd_first (h : (i 1).val / 2 % 2 = 1) : Rd (k0_pay71 (F := Ideal) T0 q (lP i q K) (slab512 K 0)) (fun r c => pW (tp i) fq fK r c) := by
  have hb := tp_lt i
  have ht := tp_le i
  have hD : 1 ≤ dg i := by unfold dg; omega
  have hl := rd_lat i hq hK ((i 1).val / 4) (by unfold dg; omega)
  refine (rd71 tri0_L0 hq (rd_k512 hK 0 (by omega)) hl).congr fun r _ c hc => ?_
  unfold pW
  rw [if_pos (by omega)]
  refine congrArg Real.exp (congrArg₂ (· - ·) (by rw [zR, zR]; simp only [Nat.mul_zero, Nat.zero_add]) ?_)
  rw [← Ico_join (pS (tp i) fq fK r) (show c + 1 ≤ 512 by omega) (show _ ≤ tp i + 256 by omega)]
  refine congrArg₂ (· + ·) ?_ ?_
  · refine sum_congr rfl fun c hc => ?_
    rw [mem_Ico] at hc
    rw [pS_low _ _ _ (by omega), zR, zR]
    simp only [Nat.mul_zero, Nat.zero_add]
  · rw [show 512 * (dg i - 2 * ((i 1).val / 4)) = 512 by unfold dg; omega]

/-- The weights of the diagonal tile. -/
theorem rd_diag0 (h : (i 1).val % 2 = 0) : Rd (k0_pay20 (F := Ideal) T0 q (k0_pay112 (mkP i)) (k0_pay113 (F := Ideal)) (slab256 K (dg i))) (fun r c => pW (tp i) fq fK r (512 * dg i + c)) := by
  have hb := tp_lt i
  have e := tp_even i h
  refine (rd20 tri0_L0 hq (rd_k256 hK (dg i) (by omega)) (mk_diag' i) rd113).congr fun r _ c _ => ?_
  unfold pW
  refine if_congr Iff.rfl (congrArg Real.exp (congrArg₂ (· - ·) rfl ?_)) rfl
  rw [add_zero, show tp i + 256 = 512 * dg i + 256 by omega, Nat.add_assoc, ← sum_off]
  rfl
theorem rd_diag1 (h : ¬ (i 1).val % 2 = 0) : Rd (k0_pay29 (F := Ideal) (mkP i) T0 q (k0_pay113 (F := Ideal)) (slab512 K (dg i))) (fun r c => pW (tp i) fq fK r (512 * dg i + c)) := by
  have hb := tp_lt i
  have e := tp_odd i h
  refine (rd29 tri0_L0 hq (rd_k512 hK (dg i) (by omega)) (mk_diag i) rd113).congr fun r _ c _ => ?_
  unfold pW
  refine if_congr Iff.rfl (congrArg Real.exp (congrArg₂ (· - ·) rfl ?_)) rfl
  rw [add_zero, show tp i + 256 = 512 * dg i + 512 by omega, Nat.add_assoc, ← sum_off]
  rfl

/-! ### The gates -/

theorem rd_bT (j : ℕ) (hj : j < dg i) : Rt (bT (F := Ideal) i q K j) (fun r c => pB fq fK r (512 * j + c)) := by
  have hb := tp_lt i
  have ht := tp_le i
  unfold bT
  by_cases h : dg i % 2 = 1 ∧ j = 0
  · rw [if_pos h, h.2]
    exact rd127 (rd72 hq (rd_k512 hK 0 (by omega)))
  · rw [if_neg h]
    unfold wbT
    by_cases h1 : (dg i - 1 - j) % 2 = 1
    · rw [if_pos h1]
      refine (rdB0 hq (rd_k1024 hK (dg i - 2 - 2 * ((dg i - 1 - j) / 2)) (by omega))).congr fun r _ c _ => ?_
      rw [show dg i - 2 - 2 * ((dg i - 1 - j) / 2) = j by omega]
      rfl
    · rw [if_neg h1]
      refine (rdB1 hq (rd_k1024 hK (dg i - 2 - 2 * ((dg i - 1 - j) / 2)) (by omega))).congr fun r _ c _ => ?_
      rw [show 512 * j + c = 512 * (dg i - 2 - 2 * ((dg i - 1 - j) / 2)) + (512 + c) by omega]
      rfl
theorem rd_bS (h : (i 1).val % 2 = 0) : Rt (bS (F := Ideal) i q K) (fun r c => pB fq fK r (512 * dg i + c)) := by
  have hb := tp_lt i
  have e := tp_even i h
  exact rd114 (rd21 hq (rd_k256 hK (dg i) (by omega)))
theorem rd_bL (h : ¬ (i 1).val % 2 = 0) : Rt (bL (F := Ideal) i q K) (fun r c => pB fq fK r (512 * dg i + c)) := by
  have hb := tp_lt i
  have e := tp_odd i h
  exact rd118 (rd25 hq (rd_k512 hK (dg i) (by omega)))

/-! ### The gradients of the log weights -/

include hd hV

theorem rd_aO (h : (i 1).val / 2 % 2 = 1) : Rt (aO (F := Ideal) T0 q d K V (lP i q K)) (fun r c => pA (tp i) fq fd fK fV r (512 * 0 + c)) := by
  refine (rd73 hd (rd_k512 hV 0 (by omega)) (rd_first i hq hK h)).congr fun r _ c _ => ?_
  rw [pA, show 512 * 0 + c = c by omega]
  refine congrArg₂ (· * ·) ?_ rfl
  rw [zR, zR]; simp only [Nat.mul_zero, Nat.zero_add]
theorem rd_aT (j : ℕ) (hj : j < dg i) : Rt (aT (F := Ideal) i q d K V j) (fun r c => pA (tp i) fq fd fK fV r (512 * j + c)) := by
  have hb := tp_lt i
  have ht := tp_le i
  unfold aT
  by_cases h : dg i % 2 = 1 ∧ j = 0
  · rw [if_pos h, h.2]
    exact rd_aO i hq hd hK hV h.1
  · rw [if_neg h]
    unfold waT
    by_cases h1 : (dg i - 1 - j) % 2 = 1
    · rw [if_pos h1]
      refine (rdA0 hd (rd_k1024 hV (dg i - 2 - 2 * ((dg i - 1 - j) / 2)) (by omega)) (rd_wide i hq hK ((dg i - 1 - j) / 2) (by omega))).congr fun r _ c _ => ?_
      rw [show dg i - 2 - 2 * ((dg i - 1 - j) / 2) = j by omega]
      rfl
    · rw [if_neg h1]
      refine (rdA1 hd (rd_k1024 hV (dg i - 2 - 2 * ((dg i - 1 - j) / 2)) (by omega)) (rd_wide i hq hK ((dg i - 1 - j) / 2) (by omega))).congr fun r _ c _ => ?_
      rw [show 512 * j + c = 512 * (dg i - 2 - 2 * ((dg i - 1 - j) / 2)) + (512 + c) by omega]
      rfl
theorem rd_aS (h : (i 1).val % 2 = 0) : Rt (aS (F := Ideal) i (mkP i) T0 q d K V) (fun r c => pA (tp i) fq fd fK fV r (512 * dg i + c)) := by
  have hb := tp_lt i
  have e := tp_even i h
  exact rd22 hd (rd_k256 hV (dg i) (by omega)) (rd_diag0 i hq hK h)
theorem rd_aL (h : ¬ (i 1).val % 2 = 0) : Rt (aL (F := Ideal) i (mkP i) T0 q d K V) (fun r c => pA (tp i) fq fd fK fV r (512 * dg i + c)) := by
  have hb := tp_lt i
  have e := tp_odd i h
  exact rd117 hd (rd_k512 hV (dg i) (by omega)) (rd_diag1 i hq hK h)

/-! ### The ascending pass -/

theorem rd_gO : Rd (gO (F := Ideal) i T0 q d K V (lP i q K)) (fun r _ => ∑ k ∈ range (512 * (dg i % 2)), pA (tp i) fq fd fK fV r k) := by
  unfold gO
  by_cases h : (i 1).val / 2 % 2 = 1
  · rw [if_pos h, show dg i % 2 = 1 from h]
    exact (rd78 rd129 (rd_aO i hq hd hK hV h)).congr fun r _ c _ => by simp only [Nat.mul_zero, Nat.zero_add, zero_add, Nat.mul_one]
  · rw [if_neg h, show dg i % 2 = 0 by unfold dg; omega]
    exact rd129.congr fun r _ c _ => by simp

theorem two (j : ℕ) (hj : j + 1 < dg i) : TwoT (aT (F := Ideal) i q d K V j) (aT i q d K V (j + 1)) (fun r c => pA (tp i) fq fd fK fV r (512 * j + c)) :=
  ⟨rd_aT i hq hd hK hV j (by omega), (rd_aT i hq hd hK hV (j + 1) hj).congr fun r _ c _ => by rw [show 512 * (j + 1) + c = 512 * j + (512 + c) by omega]⟩
omit hd hV in
theorem twoB (j : ℕ) (hj : j + 1 < dg i) : TwoT (bT (F := Ideal) i q K j) (bT i q K (j + 1)) (fun r c => pB fq fK r (512 * j + c)) :=
  ⟨rd_bT i hq hK j (by omega), (rd_bT i hq hK (j + 1) hj).congr fun r _ c _ => by rw [show 512 * (j + 1) + c = 512 * j + (512 + c) by omega]⟩

theorem rd_gT (k : ℕ) (hk : dg i % 2 + 2 * k ≤ dg i) : Rd (gT (F := Ideal) (dg i % 2) (aT i q d K V) (gO i T0 q d K V (lP i q K)) k)
    (fun r _ => ∑ j ∈ range (512 * (dg i % 2 + 2 * k)), pA (tp i) fq fd fK fV r j) := by
  induction k with
  | zero => exact rd_gO i hq hd hK hV
  | succ k ih =>
    refine (rdG (ih (by omega)) (two i hq hd hK hV (dg i % 2 + 2 * k) (by omega))).congr fun r _ c _ => ?_
    rw [show 512 * (dg i % 2 + 2 * (k + 1)) = 512 * (dg i % 2 + 2 * k) + 1024 by omega, sum_range_add]

/-- The gradients of the scores of a wide tile. -/
theorem rd_zW (k : ℕ) (hk : dg i % 2 + 2 * k + 2 ≤ dg i) :
    Rd (dzW T1 (gT (F := Ideal) (dg i % 2) (aT i q d K V) (gO i T0 q d K V (lP i q K)) k) (aT i q d K V (dg i % 2 + 2 * k)) (aT i q d K V (dg i % 2 + 2 * k + 1)) (bT i q K (dg i % 2 + 2 * k)) (bT i q K (dg i % 2 + 2 * k + 1)))
      (fun r c => pZ (tp i) fq fd fK fV r (512 * (dg i % 2 + 2 * k) + c)) := by
  have ht := tp_le i
  refine (rdZ tri1_L1 (rd_gT i hq hd hK hV k (by omega)) (two i hq hd hK hV (dg i % 2 + 2 * k) (by omega)) (twoB i hq hK (dg i % 2 + 2 * k) (by omega))).congr fun r _ c hc => ?_
  exact dzL_pZ _ _ _ _ _ _ _ _ (by omega) _ rfl

theorem rd_zO (h : (i 1).val / 2 % 2 = 1) : Rd (k0_pay76 (F := Ideal) T1 (k0_pay129 (F := Ideal)) (aO T0 q d K V (lP i q K)) (bO q K)) (fun r c => pZ (tp i) fq fd fK fV r (512 * 0 + c)) := by
  have hb := tp_lt i
  have ht := tp_le i
  have hD : 1 ≤ dg i := by unfold dg; omega
  have hB : Rt (bO (F := Ideal) q K) (fun r c => pB fq fK r (512 * 0 + c)) := rd127 (rd72 hq (rd_k512 hK 0 (by omega)))
  exact (rd76 tri1_L1 rd129 (rd_aO i hq hd hK hV h) hB).congr fun r _ c hc => dzL_pZ _ _ _ _ _ _ _ _ (by omega) _ (by simp)

theorem rd_dqT (k : ℕ) (hk : dg i % 2 + 2 * k ≤ dg i) : Rd (dqT (F := Ideal) (dg i % 2) T1 K (aT i q d K V) (bT i q K) (gO i T0 q d K V (lP i q K)) (dqO i T0 T1 q d K V (lP i q K)) k)
    (fun r e => ∑ s ∈ range (512 * (dg i % 2 + 2 * k)), pZ (tp i) fq fd fK fV r s * fK s e) := by
  have hb := tp_lt i
  have ht := tp_le i
  induction k with
  | zero =>
    show Rd (dqO (F := Ideal) i T0 T1 q d K V (lP i q K)) _
    unfold dqO
    by_cases h : (i 1).val / 2 % 2 = 1
    · rw [if_pos h, show dg i % 2 = 1 from h]
      exact (rd131 (rd_k512 hK 0 (by omega)) (rd_zO i hq hd hK hV h)).congr fun r _ c _ => by simp only [Nat.mul_zero, Nat.zero_add, Nat.add_zero, Nat.mul_one]
    · rw [if_neg h, show dg i % 2 = 0 by unfold dg; omega]
      exact rd130.congr fun r _ c _ => by simp
  | succ k ih =>
    refine (rdQ (rd_k1024 hK (dg i % 2 + 2 * k) (by omega)) (rd_zW i hq hd hK hV k (by omega)) (ih (by omega))).congr fun r _ c _ => ?_
    rw [show 512 * (dg i % 2 + 2 * (k + 1)) = 512 * (dg i % 2 + 2 * k) + 1024 by omega, sum_range_add]

theorem rd_gF : Rd (gF (F := Ideal) i q d K V) (fun r _ => ∑ k ∈ range (512 * dg i), pA (tp i) fq fd fK fV r k) := by
  have h := rd_gT i hq hd hK hV ((i 1).val / 4) (by unfold dg; omega)
  rw [show dg i % 2 + 2 * ((i 1).val / 4) = dg i by unfold dg; omega] at h
  exact h

/-- The gradients of the scores of the diagonal tile. -/
theorem rd_z0 (h : (i 1).val % 2 = 0) : Rd (k0_pay9 (F := Ideal) T1 (k0_pay112 (mkP i)) (gF i q d K V) (aS i (mkP i) T0 q d K V) (bS i q K)) (fun r c => pZ (tp i) fq fd fK fV r (512 * dg i + c)) := by
  refine (rd9 tri1_L1 (mk_diag' i) (rd_gF i hq hd hK hV) (rd_aS i hq hd hK hV h) (rd_bS i hq hK h)).congr fun r _ c hc => ?_
  by_cases hp : 512 * dg i + c < 256 * (i 1).val + r
  · rw [if_pos hp]; exact dzL_pZ _ _ _ _ _ _ _ _ hp _ rfl
  · rw [if_neg hp]; exact (if_neg hp).symm
theorem rd_z1 (h : ¬ (i 1).val % 2 = 0) : Rd (k0_pay97 (F := Ideal) (mkP i) T1 (gF i q d K V) (aL i (mkP i) T0 q d K V) (bL i q K)) (fun r c => pZ (tp i) fq fd fK fV r (512 * dg i + c)) := by
  refine (rd97 tri1_L1 (mk_diag i) (rd_gF i hq hd hK hV) (rd_aL i hq hd hK hV h) (rd_bL i hq hK h)).congr fun r _ c hc => ?_
  by_cases hp : 512 * dg i + c < 256 * (i 1).val + r
  · rw [if_pos hp]; exact dzL_pZ _ _ _ _ _ _ _ _ hp _ rfl
  · rw [if_neg hp]; exact (if_neg hp).symm

/-- The queries' gradient of the point. -/
theorem rd_rF : Rd (rF (F := Ideal) i q d K V) (fun r e => ∑ s ∈ range (tp i + 256), pZ (tp i) fq fd fK fV r s * fK s e) := by
  have hb := tp_lt i
  have hr := rd_dqT i hq hd hK hV ((i 1).val / 4) (by unfold dg; omega)
  rw [show dg i % 2 + 2 * ((i 1).val / 4) = dg i by unfold dg; omega] at hr
  unfold rF
  by_cases h : (i 1).val % 2 = 0
  · have e := tp_even i h
    simp only [if_pos h]
    refine (rd11 (rd_k256 hK (dg i) (by omega)) (rd_z0 i hq hd hK hV h) hr).congr fun r _ c _ => ?_
    rw [show tp i + 256 = 512 * dg i + 256 by omega, sum_range_add]
  · have e := tp_odd i h
    simp only [if_neg h]
    refine (rd12 (rd_k512 hK (dg i) (by omega)) (rd_z1 i hq hd hK hV h) hr).congr fun r _ c _ => ?_
    rw [show tp i + 256 = 512 * dg i + 512 by omega, sum_range_add]

/-! ### The keys' gradient -/

section
variable {DK : FVec Ideal S8192x128 .f32} {fo : ℕ → ℕ → ℝ} (ho : Rd DK fo)
include ho

theorem rd_dkT (k : ℕ) (hk : dg i % 2 + 2 * k ≤ dg i) :
    Rd (dkT (F := Ideal) (dg i % 2) T1 q (aT i q d K V) (bT i q K) (gO i T0 q d K V (lP i q K)) (dkO i T0 T1 q d K V (lP i q K) DK) k)
      (fun s e => fo s e + if s < 512 * (dg i % 2 + 2 * k) then ∑ r ∈ range 256, pZ (tp i) fq fd fK fV r s * fq r e else 0) := by
  have hb := tp_lt i
  have ht := tp_le i
  induction k with
  | zero =>
    show Rd (dkO (F := Ideal) i T0 T1 q d K V (lP i q K) DK) _
    unfold dkO
    by_cases h : (i 1).val / 2 % 2 = 1
    · rw [if_pos h, show dg i % 2 = 1 from h]
      exact (rd_acc ho (C := fun s e => ∑ r ∈ range 256, pZ (tp i) fq fd fK fV r s * fq r e) (rd77 hq (rd_zO i hq hd hK hV h) (rd_o512 ho 0 (by omega)))).congr fun s _ e _ => by simp
    · rw [if_neg h, show dg i % 2 = 0 by unfold dg; omega]
      exact ho.congr fun r _ c _ => by simp
  | succ k ih =>
    have hp := ih (by omega)
    refine (rd_acc hp (C := fun s e => ∑ r ∈ range 256, pZ (tp i) fq fd fK fV r s * fq r e) (rdK hq (rd_zW i hq hd hK hV k (by omega)) (rd_o1024 hp (dg i % 2 + 2 * k) (by omega)))).congr fun s _ e _ => ?_
    by_cases h1 : s < 512 * (dg i % 2 + 2 * k)
    · rw [if_pos h1, if_neg (by omega), if_pos (by omega), add_zero]
    · by_cases h2 : s < 512 * (dg i % 2 + 2 * (k + 1))
      · rw [if_neg h1, if_pos (by omega), if_pos h2, add_zero]
      · rw [if_neg h1, if_neg (by omega), if_neg h2, add_zero]

theorem rd_dkF : Rd (dkF (F := Ideal) i q d K V DK) (fun s e => fo s e + ∑ r ∈ range 256, pZ (tp i) fq fd fK fV r s * fq r e) := by
  have hb := tp_lt i
  have hr := rd_dkT i hq hd hK hV ho ((i 1).val / 4) (by unfold dg; omega)
  rw [show dg i % 2 + 2 * ((i 1).val / 4) = dg i by unfold dg; omega] at hr
  have z : ∀ s e, tp i + 256 ≤ s → ∑ r ∈ range 256, pZ (tp i) fq fd fK fV r s * fq r e = 0 := fun s e hs => by
    refine sum_eq_zero fun r hr => ?_
    rw [mem_range] at hr
    rw [pZ, if_neg (by omega), zero_mul]
  have fin : ∀ n, tp i + 256 = 512 * dg i + n → ∀ s e, (fo s e + if s < 512 * dg i then ∑ r ∈ range 256, pZ (tp i) fq fd fK fV r s * fq r e else 0)
      + (if 512 * dg i ≤ s ∧ s < 512 * dg i + n then ∑ r ∈ range 256, pZ (tp i) fq fd fK fV r s * fq r e else 0) = fo s e + ∑ r ∈ range 256, pZ (tp i) fq fd fK fV r s * fq r e := fun n hn s e => by
    by_cases h1 : s < 512 * dg i
    · rw [if_pos h1, if_neg (by omega), add_zero]
    · by_cases h2 : s < 512 * dg i + n
      · rw [if_neg h1, if_pos (by omega), add_zero]
      · rw [if_neg h1, if_neg (by omega), z s e (by omega), add_zero]
  unfold dkF
  by_cases h : (i 1).val % 2 = 0
  · have e := tp_even i h
    simp only [if_pos h]
    exact (rd_acc hr (C := fun s e => ∑ r ∈ range 256, pZ (tp i) fq fd fK fV r s * fq r e) (rd10 hq (rd_z0 i hq hd hK hV h) (rd_o256 hr (dg i) (by omega)))).congr fun s _ e _ => fin 256 (by omega) s e
  · have e := tp_odd i h
    simp only [if_neg h]
    exact (rd_acc hr (C := fun s e => ∑ r ∈ range 256, pZ (tp i) fq fd fK fV r s * fq r e) (rd98 hq (rd_z1 i hq hd hK hV h) (rd_o512 hr (dg i) (by omega)))).congr fun s _ e _ => fin 512 (by omega) s e
end
end

/-! ### The values' gradient -/

section
variable (hq : Rd q fq) (hd : Rd d fd) (hK : Rd K fK) {DV : FVec Ideal S8192x128 .f32} {fo : ℕ → ℕ → ℝ} (ho : Rd DV fo)
include hq hd hK ho

theorem rd_dvT (k : ℕ) (hk : 2 * k ≤ dg i) : Rd (dvAt (F := Ideal) (dg i) T0 q d K (l0 i (mkP i) q K) (dvD i (mkP i) T0 q d K DV) k)
    (fun s e => fo s e + if 512 * (dg i - 2 * k) ≤ s ∧ s < tp i + 256 then ∑ r ∈ range 256, pW (tp i) fq fK r s * fd r e else 0) := by
  have hb := tp_lt i
  have ht := tp_le i
  induction k with
  | zero =>
    show Rd (dvD (F := Ideal) i (mkP i) T0 q d K DV) _
    unfold dvD
    by_cases h : (i 1).val % 2 = 0
    · have e := tp_even i h
      rw [if_pos h]
      refine (rd_acc ho (C := fun s e => ∑ r ∈ range 256, pW (tp i) fq fK r s * fd r e) (rd115 hd (rd_diag0 i hq hK h) (rd_o256 ho (dg i) (by omega)))).congr fun s _ e _ => ?_
      rw [show 512 * dg i + 256 = tp i + 256 by omega]; rfl
    · have e := tp_odd i h
      rw [if_neg h]
      refine (rd_acc ho (C := fun s e => ∑ r ∈ range 256, pW (tp i) fq fK r s * fd r e) (rd119 hd (rd_diag1 i hq hK h) (rd_o512 ho (dg i) (by omega)))).congr fun s _ e _ => ?_
      rw [show 512 * dg i + 512 = tp i + 256 by omega]; rfl
  | succ k ih =>
    have hp := ih (by omega)
    refine (rd_acc hp (C := fun s e => ∑ r ∈ range 256, pW (tp i) fq fK r s * fd r e) (rd122 hd (rd_wide i hq hK k (by omega)) (rd_o1024 hp (dg i - 2 - 2 * k) (by omega)))).congr fun s _ e _ => ?_
    by_cases h1 : 512 * (dg i - 2 * k) ≤ s ∧ s < tp i + 256
    · rw [if_pos h1, if_neg (by omega), if_pos (by omega), add_zero]
    · by_cases h2 : 512 * (dg i - 2 - 2 * k) ≤ s ∧ s < 512 * (dg i - 2 - 2 * k) + 1024
      · rw [if_neg h1, if_pos h2, if_pos (by omega), add_zero]
      · rw [if_neg h1, if_neg h2, if_neg (by omega), add_zero]

theorem rd_dvF : Rd (dvF (F := Ideal) i q d K DV) (fun s e => fo s e + ∑ r ∈ range 256, pW (tp i) fq fK r s * fd r e) := by
  have hb := tp_lt i
  have ht := tp_le i
  have hr := rd_dvT i hq hd hK ho ((i 1).val / 4) (by unfold dg; omega)
  rw [show dg i - 2 * ((i 1).val / 4) = dg i % 2 by unfold dg; omega] at hr
  have z : ∀ s e, tp i + 256 ≤ s → ∑ r ∈ range 256, pW (tp i) fq fK r s * fd r e = 0 := fun s e hs => by
    refine sum_eq_zero fun r hr => ?_
    rw [mem_range] at hr
    rw [pW, if_neg (by omega), zero_mul]
  unfold dvF dvO
  by_cases h : (i 1).val / 2 % 2 = 1
  · have hD : 1 ≤ dg i := by unfold dg; omega
    have hm : dg i % 2 = 1 := h
    rw [if_pos h]
    have hw : Rd (k0_pay71 (F := Ideal) T0 q (lP i q K) (slab512 K 0)) (fun r c => pW (tp i) fq fK r (512 * 0 + c)) := (rd_first i hq hK h).congr fun r _ c _ => by simp
    refine (rd_acc hr (C := fun s e => ∑ r ∈ range 256, pW (tp i) fq fK r s * fd r e) (rd128 hd hw (rd_o512 hr 0 (by omega)))).congr fun s _ e _ => ?_
    by_cases h1 : s < 512
    · rw [if_neg (by omega), if_pos (by omega), add_zero]
    · by_cases h2 : s < tp i + 256
      · rw [if_pos (by omega), if_neg (by omega), add_zero]
      · rw [if_neg (by omega), if_neg (by omega), z s e (by omega), add_zero]
  · have hm : dg i % 2 = 0 := by unfold dg; omega
    rw [if_neg h]
    refine hr.congr fun s _ e _ => ?_
    by_cases h2 : s < tp i + 256
    · rw [if_pos (by omega)]
    · rw [if_neg (by omega), z s e (by omega)]
end

end Cert.KernelIdeal.SB
-- ==== Proof.Rows.lean ====
module

public import proofs.«01_k».proof.Proof.Point

/-! One row of one head, and the sums over all the rows, free of how the kernel cuts them. -/

@[expose] public section

noncomputable section

namespace Cert.KernelIdeal.SB

open scoped BigOperators
open Finset

/-- The weights of row `T` with scores `z`. -/
def gw (z : ℕ → ℝ) (T s : ℕ) : ℝ := if s < T then Real.exp (lb (z s) - ∑ j ∈ Ico (s + 1) T, sp (z j)) else 0
/-- The gradients of the logs of the weights, `d` those of the weights. -/
def ga (z d : ℕ → ℝ) (T s : ℕ) : ℝ := d s * gw z T s
/-- The gradients of the scores. -/
def gz (z d : ℕ → ℝ) (T s : ℕ) : ℝ := if s < T then ga z d T s - Real.exp (lb (z s)) * (ga z d T s + ∑ k ∈ range s, ga z d T k) else 0

theorem sum_cut (f : ℕ → ℝ) (a T n : ℕ) (h : T ≤ n) : (∑ j ∈ Ico a n, if j < T then f j else 0) = ∑ j ∈ Ico a T, f j := by
  rw [← sum_filter]
  refine sum_congr (Finset.ext fun k => ?_) fun _ _ => rfl
  simp only [mem_filter, mem_Ico]
  omega

section
variable {t r : ℕ} (hr : r < 256) {fq fd fK fV : ℕ → ℕ → ℝ} {z d : ℕ → ℝ} (hz : ∀ s, zR 128 fq fK r s = z s) (hd : ∀ s, zR 128 fd fV r s = d s)
include hr hz

theorem pW_row (s : ℕ) : pW t fq fK r s = gw z (t + r) s := by
  unfold pW gw pS
  simp only [hz]
  rw [sum_cut (fun j => sp (z j)) (s + 1) (t + r) (t + 256) (by omega)]

include hd
theorem pA_row (s : ℕ) : pA t fq fd fK fV r s = ga z d (t + r) s := by
  unfold pA ga
  rw [hd, pW_row hr hz]

theorem pZ_row (s : ℕ) : pZ t fq fd fK fV r s = gz z d (t + r) s := by
  unfold pZ gz pB
  simp only [hz, pA_row hr hz hd]
end

theorem sum_blocks (f : ℕ → ℝ) (n a : ℕ) : ∑ b ∈ range a, ∑ r ∈ range n, f (n * b + r) = ∑ k ∈ range (n * a), f k := by
  induction a with
  | zero => simp
  | succ a ih => rw [sum_range_succ, ih, Nat.mul_succ, sum_range_add]

theorem sum_pairs (f : ℕ → ℝ) (n : ℕ) : ∑ u ∈ range (2 * n), f u = ∑ b ∈ range n, (f (2 * b) + f (2 * b + 1)) := by
  rw [← sum_blocks]
  refine sum_congr rfl fun b _ => ?_
  rw [sum_range_succ, sum_range_one, add_zero]

/-- A product over the pair's columns, one head's kept, is the product over the head's. -/
theorem sum_head (f g : ℕ → ℝ) (hs : ℕ) (h : hs < 2) : ∑ e ∈ range 128, (if e / 64 = hs then f e else 0) * g e = ∑ e ∈ range 64, f (64 * hs + e) * g (64 * hs + e) := by
  rw [show (128 : ℕ) = 64 + 64 from rfl, sum_range_add]
  rcases (by omega : hs = 0 ∨ hs = 1) with rfl | rfl
  · rw [sum_eq_zero (s := range 64) (f := fun x => (if (64 + x) / 64 = 0 then f (64 + x) else 0) * g (64 + x)) (fun x _ => by rw [if_neg (by omega), zero_mul]), add_zero]
    refine sum_congr rfl fun e he => ?_
    rw [mem_range] at he
    rw [if_pos (by omega), Nat.mul_zero, Nat.zero_add]
  · rw [sum_eq_zero (s := range 64) (f := fun x => (if x / 64 = 1 then f x else 0) * g x) (fun x hx => by rw [mem_range] at hx; rw [if_neg (by omega), zero_mul]), zero_add]
    refine sum_congr rfl fun e he => ?_
    rw [mem_range] at he
    rw [if_pos (by omega), Nat.mul_one]

/-! ## The three gradients -/

section
variable (X Y : ℕ → ℕ → ℝ)

/-- The scores of row `t` of head `h`, and the gradients of its weights. -/
def zH (h t s : ℕ) : ℝ := ∑ e ∈ range 64, X t (64 * h + e) * (1 / 8) * X s (512 + (64 * h + e))
def dH' (h t s : ℕ) : ℝ := ∑ e ∈ range 64, Y t (64 * h + e) * X s (1024 + (64 * h + e))
def wH (h t s : ℕ) : ℝ := gw (zH X h t) t s
def gH (h t s : ℕ) : ℝ := gz (zH X h t) (dH' X Y h t) t s

/-- The gradients of the queries, the keys and the values, at column `c`. -/
def outQ (t c : ℕ) : ℝ := (∑ s ∈ range 8192, gH X Y (c / 64) t s * X s (512 + c)) * (1 / 8)
def outK (s c : ℕ) : ℝ := ∑ t ∈ range 8192, gH X Y (c / 64) t s * (X t c * (1 / 8))
def outV (s c : ℕ) : ℝ := ∑ t ∈ range 8192, wH X (c / 64) t s * Y t c

/-- The operands of a grid point: pair `p`, head `hs` of it, row block `b`. -/
def qF (p hs b r e : ℕ) : ℝ := if e / 64 = hs then X (256 * b + r) (128 * p + e) * (1 / 8) else 0
def dF (p hs b r e : ℕ) : ℝ := if e / 64 = hs then Y (256 * b + r) (128 * p + e) else 0
def kF (p s e : ℕ) : ℝ := X s (512 + (128 * p + e))
def vF (p s e : ℕ) : ℝ := X s (1024 + (128 * p + e))

variable {X Y}

theorem z_row (p hs b r s : ℕ) (h : hs < 2) : zR 128 (qF X p hs b) (kF X p) r s = zH X (2 * p + hs) (256 * b + r) s := by
  unfold zR qF kF zH
  rw [sum_head (fun e => X (256 * b + r) (128 * p + e) * (1 / 8)) (fun e => X s (512 + (128 * p + e))) hs h]
  exact sum_congr rfl fun e _ => by rw [show 128 * p + (64 * hs + e) = 64 * (2 * p + hs) + e by omega]

theorem d_row (p hs b r s : ℕ) (h : hs < 2) : zR 128 (dF Y p hs b) (vF X p) r s = dH' X Y (2 * p + hs) (256 * b + r) s := by
  unfold zR dF vF dH'
  rw [sum_head (fun e => Y (256 * b + r) (128 * p + e)) (fun e => X s (1024 + (128 * p + e))) hs h]
  exact sum_congr rfl fun e _ => by rw [show 128 * p + (64 * hs + e) = 64 * (2 * p + hs) + e by omega]

theorem w_row (p hs b r s : ℕ) (h : hs < 2) (hr : r < 256) : pW (256 * b) (qF X p hs b) (kF X p) r s = wH X (2 * p + hs) (256 * b + r) s :=
  pW_row hr (fun s => z_row p hs b r s h) s

theorem g_row (p hs b r s : ℕ) (h : hs < 2) (hr : r < 256) : pZ (256 * b) (qF X p hs b) (dF Y p hs b) (kF X p) (vF X p) r s = gH X Y (2 * p + hs) (256 * b + r) s :=
  pZ_row hr (fun s => z_row p hs b r s h) (fun s => d_row p hs b r s h) s

theorem gH_zero (h t s : ℕ) (hs : ¬ s < t) : gH X Y h t s = 0 := if_neg hs

/-- What a grid point adds to the keys' and the values' gradients. -/
def cK (X Y : ℕ → ℕ → ℝ) (p hs b s e : ℕ) : ℝ := ∑ r ∈ range 256, pZ (256 * b) (qF X p hs b) (dF Y p hs b) (kF X p) (vF X p) r s * qF X p hs b r e
def cV (X Y : ℕ → ℕ → ℝ) (p hs b s e : ℕ) : ℝ := ∑ r ∈ range 256, pW (256 * b) (qF X p hs b) (kF X p) r s * dF Y p hs b r e

theorem sum_cK (p s e : ℕ) (he : e < 128) : ∑ b ∈ range 32, (cK X Y p 0 b s e + cK X Y p 1 b s e) = outK X Y s (128 * p + e) := by
  unfold outK
  rw [show (8192 : ℕ) = 256 * 32 from rfl, ← sum_blocks]
  refine sum_congr rfl fun b _ => ?_
  have h0 : ∀ hs, hs < 2 → cK X Y p hs b s e = if e / 64 = hs then ∑ r ∈ range 256, gH X Y (2 * p + hs) (256 * b + r) s * (X (256 * b + r) (128 * p + e) * (1 / 8)) else 0 := fun hs h => by
    unfold cK
    by_cases hh : e / 64 = hs
    · rw [if_pos hh]
      refine sum_congr rfl fun r hr => ?_
      rw [mem_range] at hr
      rw [g_row p hs b r s h hr, qF, if_pos hh]
    · rw [if_neg hh]
      exact sum_eq_zero fun r _ => by rw [qF, if_neg hh, mul_zero]
  rw [h0 0 (by omega), h0 1 (by omega)]
  rcases (by omega : e / 64 = 0 ∨ e / 64 = 1) with h | h
  · rw [if_pos h, if_neg (by omega), add_zero, show (128 * p + e) / 64 = 2 * p + 0 by omega]
  · rw [if_neg (by omega), if_pos h, zero_add, show (128 * p + e) / 64 = 2 * p + 1 by omega]

theorem sum_cV (p s e : ℕ) (he : e < 128) : ∑ b ∈ range 32, (cV X Y p 0 b s e + cV X Y p 1 b s e) = outV X Y s (128 * p + e) := by
  unfold outV
  rw [show (8192 : ℕ) = 256 * 32 from rfl, ← sum_blocks]
  refine sum_congr rfl fun b _ => ?_
  have h0 : ∀ hs, hs < 2 → cV X Y p hs b s e = if e / 64 = hs then ∑ r ∈ range 256, wH X (2 * p + hs) (256 * b + r) s * Y (256 * b + r) (128 * p + e) else 0 := fun hs h => by
    unfold cV
    by_cases hh : e / 64 = hs
    · rw [if_pos hh]
      refine sum_congr rfl fun r hr => ?_
      rw [mem_range] at hr
      rw [w_row p hs b r s h hr, dF, if_pos hh]
    · rw [if_neg hh]
      exact sum_eq_zero fun r _ => by rw [dF, if_neg hh, mul_zero]
  rw [h0 0 (by omega), h0 1 (by omega)]
  rcases (by omega : e / 64 = 0 ∨ e / 64 = 1) with h | h
  · rw [if_pos h, if_neg (by omega), add_zero, show (128 * p + e) / 64 = 2 * p + 0 by omega]
  · rw [if_neg (by omega), if_pos h, zero_add, show (128 * p + e) / 64 = 2 * p + 1 by omega]

/-- A point's rows of the queries' gradient, on the head's columns. -/
theorem row_Q (p hs b r e : ℕ) (h : hs < 2) (hr : r < 256) (hb : b < 32) (he : e / 64 = hs) :
    (∑ s ∈ range (256 * b + 256), pZ (256 * b) (qF X p hs b) (dF Y p hs b) (kF X p) (vF X p) r s * kF X p s e) * (1 / 8) = outQ X Y (256 * b + r) (128 * p + e) := by
  unfold outQ
  rw [show (128 * p + e) / 64 = 2 * p + hs by omega]
  refine congrArg (· * (1 / 8 : ℝ)) ?_
  rw [show (8192 : ℕ) = (256 * b + 256) + (8192 - (256 * b + 256)) by omega, sum_range_add _ (256 * b + 256) (8192 - (256 * b + 256))]
  rw [sum_eq_zero (s := range (8192 - (256 * b + 256))) (fun s _ => by rw [gH_zero _ _ _ (by omega), zero_mul]), add_zero]
  exact sum_congr rfl fun s _ => by rw [g_row p hs b r s h hr, kF]
end

end Cert.KernelIdeal.SB
-- ==== Proof.Grid.lean ====
module

public import proofs.«01_k».proof.Proof.Run
public import proofs.«01_k».proof.Proof.Rows
public import Idealize.ShloMosaic.Lib.Pipeline.ValueKit

/-! The grid: what the windows' blocks hold of the arguments, and the three results after the last point. -/

@[expose] public section

set_option maxRecDepth 16384

noncomputable section

namespace Cert.KernelIdeal.SB

open Idealize.ShloMosaic Idealize.ShloMosaic.TcCoe Idealize.ShloMosaic.Tactic
open Idealize.ShloMosaic.Pipeline
open Cert.KernelIdeal Cert.KernelIdeal.Gen
open scoped BigOperators
open Finset

theorem ix_0 : ∀ t : Fin cfg0.N, win0_0.index t = ![(t.val / 2 % 32 : ℕ), t.val / 64] := (by decide +kernel : ∀ t : Fin grid0.N, _)
theorem ix_1 : ∀ t : Fin cfg0.N, win0_1.index t = ![0, 4 + t.val / 64] := (by decide +kernel : ∀ t : Fin grid0.N, _)
theorem ix_2 : ∀ t : Fin cfg0.N, win0_2.index t = ![0, 8 + t.val / 64] := (by decide +kernel : ∀ t : Fin grid0.N, _)
theorem ix_3 : ∀ t : Fin cfg0.N, win0_3.index t = ![(t.val / 2 % 32 : ℕ), t.val / 64] := (by decide +kernel : ∀ t : Fin grid0.N, _)
theorem ix_4 : ∀ t : Fin cfg0.N, win0_4.index t = ![(t.val / 2 % 32 : ℕ), t.val / 64] := (by decide +kernel : ∀ t : Fin grid0.N, _)
theorem ix_5 : ∀ t : Fin cfg0.N, win0_5.index t = ![0, t.val / 64] := (by decide +kernel : ∀ t : Fin grid0.N, _)
theorem ix_6 : ∀ t : Fin cfg0.N, win0_6.index t = ![0, t.val / 64] := (by decide +kernel : ∀ t : Fin grid0.N, _)

variable (m : (ℓ : Loc nD τ sig) → Buf (Elt Ideal) ℓ) (c : Dev nD) {X Y : ℕ → ℕ → ℝ}
  (hX : ∀ x : S8192x1536.Idx, V m c main_arg0 x = (X (x 0).val (x 1).val : EReal))
  (hY : ∀ x : S8192x1024.Idx, V m c main_arg1 x = (Y (x 0).val (x 1).val : EReal))

section
include hX
theorem rd_qB (t : Fin cfg0.N) : Rd (qB m c t) (fun r e => X (256 * (t.val / 2 % 32) + r) (128 * (t.val / 64) + e)) := fun r e => by
  show V m c main_arg0 (((cfg0.win 0).blk t).view.emb (ix2 r e)) = _
  rw [hX]
  blk_simp [ix_0]
  rw [Nat.mul_comm _ 256, Nat.mul_comm _ 128]

theorem rd_kB (t : Fin cfg0.N) : Rd (kB m c t) (kF X (t.val / 64)) := fun r e => by
  show V m c main_arg0 (((cfg0.win 1).blk t).view.emb (ix2 r e)) = _
  rw [hX]
  blk_simp [ix_1]
  unfold kF
  congr 2 <;> omega

theorem rd_vB (t : Fin cfg0.N) : Rd (vB m c t) (vF X (t.val / 64)) := fun r e => by
  show V m c main_arg0 (((cfg0.win 2).blk t).view.emb (ix2 r e)) = _
  rw [hX]
  blk_simp [ix_2]
  unfold vF
  congr 2 <;> omega

theorem rd_qH (t : Fin cfg0.N) : Rd (qH m c t) (qF X (t.val / 64) (t.val % 2) (t.val / 2 % 32)) :=
  (rd_q (grid0.coords t) (rd_qB m c hX t)).congr fun r _ e _ => by rw [(coords0 t).2.2, qF]
end

section
include hY
theorem rd_doB (t : Fin cfg0.N) : Rd (doB m c t) (fun r e => Y (256 * (t.val / 2 % 32) + r) (128 * (t.val / 64) + e)) := fun r e => by
  show V m c main_arg1 (((cfg0.win 3).blk t).view.emb (ix2 r e)) = _
  rw [hY]
  blk_simp [ix_3]
  rw [Nat.mul_comm _ 256, Nat.mul_comm _ 128]

theorem rd_dH (t : Fin cfg0.N) : Rd (dH m c t) (dF Y (t.val / 64) (t.val % 2) (t.val / 2 % 32)) :=
  (rd_d (grid0.coords t) (rd_doB m c hY t)).congr fun r _ e _ => by rw [(coords0 t).2.2, dF]
end

include hX hY

/-- One point's step of the keys' gradient. -/
theorem rd_dkpt (t : Fin cfg0.N) {DK : FVec Ideal S8192x128 .f32} {fo : ℕ → ℕ → ℝ} (ho : Rd DK fo) :
    Rd (dkF (grid0.coords t) (qH m c t) (dH m c t) (kB m c t) (vB m c t) DK) (fun s e => fo s e + cK X Y (t.val / 64) (t.val % 2) (t.val / 2 % 32) s e) := by
  have h := rd_dkF (grid0.coords t) (rd_qH m c hX t) (rd_dH m c hY t) (rd_kB m c hX t) (rd_vB m c hX t) ho
  unfold tp at h
  rw [(coords0 t).2.1] at h
  exact h

theorem rd_dvpt (t : Fin cfg0.N) {DV : FVec Ideal S8192x128 .f32} {fo : ℕ → ℕ → ℝ} (ho : Rd DV fo) :
    Rd (dvF (grid0.coords t) (qH m c t) (dH m c t) (kB m c t) DV) (fun s e => fo s e + cV X Y (t.val / 64) (t.val % 2) (t.val / 2 % 32) s e) := by
  have h := rd_dvF (grid0.coords t) (rd_qH m c hX t) (rd_dH m c hY t) (rd_kB m c hX t) ho
  unfold tp at h
  rw [(coords0 t).2.1] at h
  exact h

theorem rd_rA (t : Fin cfg0.N) : Rd (rA m c t) (fun r e => ∑ s ∈ range (256 * (t.val / 2 % 32) + 256),
    pZ (256 * (t.val / 2 % 32)) (qF X (t.val / 64) (t.val % 2) (t.val / 2 % 32)) (dF Y (t.val / 64) (t.val % 2) (t.val / 2 % 32)) (kF X (t.val / 64)) (vF X (t.val / 64)) r s * kF X (t.val / 64) s e) := by
  have h := rd_rF (grid0.coords t) (rd_qH m c hX t) (rd_dH m c hY t) (rd_kB m c hX t) (rd_vB m c hX t)
  unfold tp at h
  rw [(coords0 t).2.1] at h
  exact h

/-- The keys' gradient after point `n`: the sum over the pair's points so far. -/
theorem rd_dkA : ∀ (n : ℕ) (h : n < cfg0.N), Rd (dkA m c n h) (fun s e => ∑ u ∈ range (n % 64 + 1), cK X Y (n / 64) (u % 2) (u / 2) s e)
  | 0, h => (rd_dkpt m c hX hY ⟨0, h⟩ rd108).congr fun s _ e _ => by
      simp
  | n + 1, h => by
      have hn := tN ⟨n + 1, h⟩
      have ih := rd_dkA n (Nat.lt_of_succ_lt h)
      unfold dkA
      by_cases hr : Reset (grid0.coords ⟨n + 1, h⟩)
      · have h0 := (reset_iff ⟨n + 1, h⟩).1 hr
        simp only [dkZ, if_pos hr]
        refine (rd_dkpt m c hX hY ⟨n + 1, h⟩ rd108).congr fun s _ e _ => ?_
        dsimp only at h0 ⊢
        rw [h0, sum_range_one, zero_add, show (n + 1) % 2 = 0 by omega, show (n + 1) / 2 % 32 = 0 by omega]
      · have h0 : ¬ (n + 1) % 64 = 0 := fun hh => hr ((reset_iff ⟨n + 1, h⟩).2 hh)
        simp only [dkZ, if_neg hr]
        refine (rd_dkpt m c hX hY ⟨n + 1, h⟩ ih).congr fun s _ e _ => ?_
        dsimp only at h0 hn ⊢
        rw [show (n + 1) % 64 = n % 64 + 1 by omega, sum_range_succ _ (n % 64 + 1), show n / 64 = (n + 1) / 64 by omega,
          show (n % 64 + 1) % 2 = (n + 1) % 2 by omega, show (n % 64 + 1) / 2 = (n + 1) / 2 % 32 by omega]

theorem rd_dvA : ∀ (n : ℕ) (h : n < cfg0.N), Rd (dvA m c n h) (fun s e => ∑ u ∈ range (n % 64 + 1), cV X Y (n / 64) (u % 2) (u / 2) s e)
  | 0, h => (rd_dvpt m c hX hY ⟨0, h⟩ rd109).congr fun s _ e _ => by
      simp
  | n + 1, h => by
      have hn := tN ⟨n + 1, h⟩
      have ih := rd_dvA n (Nat.lt_of_succ_lt h)
      unfold dvA
      by_cases hr : Reset (grid0.coords ⟨n + 1, h⟩)
      · have h0 := (reset_iff ⟨n + 1, h⟩).1 hr
        simp only [dvZ, if_pos hr]
        refine (rd_dvpt m c hX hY ⟨n + 1, h⟩ rd109).congr fun s _ e _ => ?_
        dsimp only at h0 ⊢
        rw [h0, sum_range_one, zero_add, show (n + 1) % 2 = 0 by omega, show (n + 1) / 2 % 32 = 0 by omega]
      · have h0 : ¬ (n + 1) % 64 = 0 := fun hh => hr ((reset_iff ⟨n + 1, h⟩).2 hh)
        simp only [dvZ, if_neg hr]
        refine (rd_dvpt m c hX hY ⟨n + 1, h⟩ ih).congr fun s _ e _ => ?_
        dsimp only at h0 hn ⊢
        rw [show (n + 1) % 64 = n % 64 + 1 by omega, sum_range_succ _ (n % 64 + 1), show n / 64 = (n + 1) / 64 by omega,
          show (n % 64 + 1) % 2 = (n + 1) % 2 by omega, show (n % 64 + 1) / 2 = (n + 1) / 2 % 32 by omega]

omit hX hY in
/-- A pair's 64 points are 32 row blocks with two heads each. -/
theorem sum_points (f : ℕ → ℕ → ℝ) : ∑ u ∈ range 64, f (u % 2) (u / 2) = ∑ b ∈ range 32, (f 0 b + f 1 b) := by
  rw [show (64 : ℕ) = 2 * 32 from rfl, sum_pairs]
  exact sum_congr rfl fun b _ => by
    rw [show 2 * b % 2 = 0 by omega, show 2 * b / 2 = b by omega, show (2 * b + 1) % 2 = 1 by omega, show (2 * b + 1) / 2 = b by omega]

theorem last_K (n : ℕ) (h : n < cfg0.N) (h63 : n % 64 = 63) : Rd (dkA m c n h) (fun s e => outK X Y s (128 * (n / 64) + e)) :=
  (rd_dkA m c hX hY n h).congr fun s _ e he => by
    rw [h63]
    exact (sum_points (fun a b => cK X Y (n / 64) a b s e)).trans (sum_cK _ _ _ he)

theorem out_K : (dats m 0 c).arrAt 5 cfg0.N = fun x : S8192x512.Idx => (outK X Y (x 0).val (x 1).val : EReal) := by
  refine (dats m 0 c).arrAt_eq_of_covers 5 _ (by decide +kernel) fun t hf y => ?_
  have h63 := (flush0_5 t).1 hf
  blk_simp [ix_5]
  rw [after_5]
  have hk := last_K m c hX hY t.val t.isLt h63 (y 0) (y 1)
  rw [eq_ix2 y]
  refine hk.trans ?_
  rw [Nat.mul_comm _ 128]
  exact congrArg (fun k : ℝ => (k : EReal)) (congrArg (fun k => outK X Y k _) (by simp))

theorem last_V (n : ℕ) (h : n < cfg0.N) (h63 : n % 64 = 63) : Rd (dvA m c n h) (fun s e => outV X Y s (128 * (n / 64) + e)) :=
  (rd_dvA m c hX hY n h).congr fun s _ e he => by
    rw [h63]
    exact (sum_points (fun a b => cV X Y (n / 64) a b s e)).trans (sum_cV _ _ _ he)

theorem out_V : (dats m 0 c).arrAt 6 cfg0.N = fun x : S8192x512.Idx => (outV X Y (x 0).val (x 1).val : EReal) := by
  refine (dats m 0 c).arrAt_eq_of_covers 6 _ (by decide +kernel) fun t hf y => ?_
  have h63 := (flush0_6 t).1 hf
  blk_simp [ix_6]
  rw [after_6]
  have hk := last_V m c hX hY t.val t.isLt h63 (y 0) (y 1)
  rw [eq_ix2 y]
  refine hk.trans ?_
  rw [Nat.mul_comm _ 128]
  exact congrArg (fun k : ℝ => (k : EReal)) (congrArg (fun k => outV X Y k _) (by simp))

/-- The queries' gradient of a row block: the first head's columns from the point before, the second's from this one. -/
theorem rd_dqA (t : Fin cfg0.N) (h : t.val % 2 = 1) : Rd (dqA m c t) (fun r e => outQ X Y (256 * (t.val / 2 % 32) + r) (128 * (t.val / 64) + e)) := by
  have ht := tN t
  have c1 := (coords0 t).2.2
  have c0 := (coords0 ⟨t.val - 1, predLt t⟩).2.2
  have r1 := rd_rA m c hX hY t
  have r0 := rd_rA m c hX hY ⟨t.val - 1, predLt t⟩
  dsimp only at c0 r0
  rw [show (t.val - 1) % 2 = 0 by omega] at c0
  rw [show (t.val - 1) % 2 = 0 by omega, show (t.val - 1) / 64 = t.val / 64 by omega, show (t.val - 1) / 2 = t.val / 2 by omega] at r0
  rw [h] at c1 r1
  unfold dqA dqS
  rw [if_neg (by rw [c1]; omega)]
  refine (rd14 (grid0.coords t) r1 (rd13 (grid0.coords ⟨t.val - 1, predLt t⟩) r0)).congr fun r hr e he => ?_
  rw [c0, c1]
  rcases (by omega : e / 64 = 0 ∨ e / 64 = 1) with h0 | h0
  · rw [if_pos h0, if_neg (by omega), add_zero]
    exact row_Q _ 0 _ r e (by omega) hr (by omega) h0
  · rw [if_neg (by omega), if_pos h0, zero_add]
    exact row_Q _ 1 _ r e (by omega) hr (by omega) h0

theorem out_Q : (dats m 0 c).arrAt 4 cfg0.N = fun x : S8192x512.Idx => (outQ X Y (x 0).val (x 1).val : EReal) := by
  refine (dats m 0 c).arrAt_eq_of_covers 4 _ (by decide +kernel) fun t hf y => ?_
  have h1 := (flush0_4 t).1 hf
  blk_simp [ix_4]
  rw [after_4]
  have hk := rd_dqA m c hX hY t h1 (y 0) (y 1)
  rw [eq_ix2 y]
  refine hk.trans ?_
  rw [Nat.mul_comm _ 256, Nat.mul_comm _ 128]
  rfl

end Cert.KernelIdeal.SB
-- ==== Proof.RefBase.lean ====
module

public import proofs.«01_k».proof.Proof.Rows
public import proofs.«01_k».proof.Proof.Gen.ReferenceIdeal
public import Idealize.ShloMosaic.Lib.Pointwise

/-! What the reference's operations make of arrays with a head axis that hold given real numbers. -/

@[expose] public section

noncomputable section

namespace Cert.ReferenceIdeal.RB

open Idealize.ShloMosaic Idealize.ShloMosaic.TcCoe
open Idealize.ShloMosaic.ValueIdx (select_apply select_one select_zero)
open Cert.KernelIdeal.SB (coe_sum_fin coe_mul_sum sp lb)
open scoped BigOperators
open Finset

/-- The array holds the real numbers `f h r s`. -/
def C3 {n a b : ℕ} (v : (⟨3, ![n, a, b]⟩ : Shape).Idx → EReal) (f : ℕ → ℕ → ℕ → ℝ) : Prop :=
  ∀ (h : Fin n) (r : Fin a) (s : Fin b), v (ix3 h r s) = ((f h.val r.val s.val : ℝ) : EReal)

/-- The mask is set where `p` holds. -/
def M3 {n a b : ℕ} (v : (⟨3, ![n, a, b]⟩ : Shape).Idx → BitVec 1) (p : ℕ → ℕ → ℕ → Prop) : Prop :=
  ∀ (h : Fin n) (r : Fin a) (s : Fin b), (p h.val r.val s.val → v (ix3 h r s) = 1#1) ∧ (¬ p h.val r.val s.val → v (ix3 h r s) = 0#1)

section
variable {n a b : ℕ} {φ : FTy}

theorem C3.congr {v : (⟨3, ![n, a, b]⟩ : Shape).Idx → EReal} {f g : ℕ → ℕ → ℕ → ℝ} (h : C3 v f) (e : ∀ i < n, ∀ r < a, ∀ c < b, f i r c = g i r c) : C3 v g :=
  fun i r c => (h i r c).trans (by rw [e _ i.isLt _ r.isLt _ c.isLt])

variable {x y : FVec Ideal ⟨3, ![n, a, b]⟩ φ} {f g : ℕ → ℕ → ℕ → ℝ}

theorem C3.addf (hx : C3 x f) (hy : C3 y g) : C3 (addf x y) (fun h r c => f h r c + g h r c) := fun h r c => by
  show x _ + y _ = _
  rw [hx h r c, hy h r c, EReal.coe_add]

theorem C3.subf (hx : C3 x f) (hy : C3 y g) : C3 (subf x y) (fun h r c => f h r c - g h r c) := fun h r c => by
  show x _ - y _ = _
  rw [hx h r c, hy h r c, EReal.coe_sub]

theorem C3.mulf (hx : C3 x f) (hy : C3 y g) : C3 (mulf x y) (fun h r c => f h r c * g h r c) := fun h r c => by
  show x _ * y _ = _
  rw [hx h r c, hy h r c, EReal.coe_mul]

theorem C3.negf (hx : C3 x f) : C3 (Host.negf x) (fun h r c => -f h r c) := fun h r c => by
  show -(x _) = _
  rw [hx h r c, EReal.coe_neg]

theorem C3.maximumf (hx : C3 x f) (hy : C3 y g) : C3 (maximumf x y) (fun h r c => max (f h r c) (g h r c)) := fun h r c => by
  show max (x _) (y _) = _
  rw [hx h r c, hy h r c]
  exact (EReal.coe_strictMono.monotone.map_max (a := f h.val r.val c.val) (b := g h.val r.val c.val)).symm

theorem C3.absf (hx : C3 x f) : C3 (Host.absf x) (fun h r c => |f h r c|) := fun h r c => by
  show max (x _) (-(x _)) = _
  rw [hx h r c, ← EReal.coe_neg]
  exact (EReal.coe_strictMono.monotone.map_max (a := f h.val r.val c.val) (b := -f h.val r.val c.val)).symm

theorem C3.exp (hx : C3 x f) : C3 (Host.exp x) (fun h r c => Real.exp (f h r c)) := fun h r c => by
  show Ideal.exp (x _) = _
  rw [hx h r c, Ideal.exp_coe]

theorem C3.log1p (hx : C3 x f) (hp : ∀ h r c, 0 < 1 + f h r c) : C3 (Host.log1p x) (fun h r c => Real.log (1 + f h r c)) := fun h r c => by
  show Ideal.log (1 + x _) = _
  rw [hx h r c, ← EReal.coe_one, ← EReal.coe_add, Ideal.log_coe, if_neg (not_le.2 (hp _ _ _))]

theorem C3.select {m : IVec ⟨3, ![n, a, b]⟩ 1} {p : ℕ → ℕ → ℕ → Prop} [∀ h r c, Decidable (p h r c)] (hm : M3 m p) (hx : C3 x f) (hy : C3 y g) :
    C3 (select m x y) (fun h r c => if p h r c then f h r c else g h r c) := fun h r c => by
  rw [select_apply]
  beta_reduce
  by_cases hp : p h.val r.val c.val
  · rw [(hm h r c).1 hp, select_one, if_pos hp, hx h r c]
  · rw [(hm h r c).2 hp, select_zero, if_neg hp, hy h r c]

/-- A comparison of real numbers with themselves, and with infinity, is never set. -/
theorem C3.une_self (hx : C3 x f) : M3 (cmpf .une x x) (fun _ _ _ => False) := fun h r c => ⟨False.elim, fun _ => by
  show Ideal.cmp .une (x _) (x _) = 0#1
  simp [Ideal.cmp]⟩

theorem C3.oeq_top (hx : C3 x f) (hy : ∀ i, y i = ⊤) : M3 (cmpf .oeq x y) (fun _ _ _ => False) := fun h r c => ⟨False.elim, fun _ => by
  show Ideal.cmp .oeq (x _) (y _) = 0#1
  rw [hx h r c, hy]
  simp [Ideal.cmp]⟩

end

theorem foldl_sum {ι : Type} (l : List ι) (g : ι → EReal) (v : EReal) : l.foldl (fun r i => r + g i) v = v + (l.map g).sum := by
  induction l generalizing v with
  | nil => simp
  | cons i l ih => rw [List.foldl_cons, ih, List.map_cons, List.sum_cons, add_assoc]

/-- The indices of a window along the last axis. -/
def lastAxis (b : ℕ) : Fin b ≃ (⟨3, ![1, 1, b]⟩ : Shape).Idx where
  toFun k := ix3 0 0 k
  invFun i := i 2
  left_inv _ := rfl
  right_inv i := by
    funext e
    match e with
    | ⟨0, _⟩ => exact (Fin.fin_one_eq_zero (i 0)).symm
    | ⟨1, _⟩ => exact (Fin.fin_one_eq_zero (i 1)).symm
    | ⟨2, _⟩ => rfl

/-- A window's sum, as a sum over the window's last axis. -/
theorem window_sum {n a b : ℕ} {lo hi : Fin 3 → ℕ} {x : FVec Ideal ⟨3, ![n, a, b]⟩ .f32} {u : Shape} {init : u.Idx → EReal}
    (h : (⟨3, ![n, a, b]⟩ : Shape).ReduceWindows ![1, 1, b] ![1, 1, 1] lo hi ⟨3, ![n, a, b]⟩) (hu : 0 < u.numel) (hi0 : ∀ i, init i = 0)
    (j : (⟨3, ![n, a, b]⟩ : Shape).Idx) :
    Host.reduceWindowAdd ![1, 1, b] ![1, 1, 1] lo hi x init h hu j = ∑ k : Fin b,
      (let p : Fin 3 → ℕ := fun e => (j e).val * ![1, 1, 1] e + (ix3 (0 : Fin 1) (0 : Fin 1) k e).val
       if hin : ∀ e, lo e ≤ p e ∧ p e - lo e < (⟨3, ![n, a, b]⟩ : Shape).size e then x (fun e => ⟨p e - lo e, (hin e).2⟩) else 0) := by
  show (List.finRange _).foldl (fun r m => r + _) _ = _
  rw [foldl_sum, hi0, zero_add, ← Fin.sum_univ_def]
  refine Eq.trans (sum_congr rfl fun m _ => ?_) (Equiv.sum_comp (Shape.rowMajor ⟨3, ![1, 1, b]⟩).symm (fun i => (let p : Fin 3 → ℕ := fun e => (j e).val * ![1, 1, 1] e + (i e).val
       if hin : ∀ e, lo e ≤ p e ∧ p e - lo e < (⟨3, ![n, a, b]⟩ : Shape).size e then x (fun e => ⟨p e - lo e, (hin e).2⟩) else 0))) |>.trans ?_
  · dsimp only
    by_cases hin : ∀ e, lo e ≤ (fun e => (j e).val * ![1, 1, 1] e + ((Shape.rowMajor ⟨3, ![1, 1, b]⟩).symm m e).val) e ∧ (fun e => (j e).val * ![1, 1, 1] e + ((Shape.rowMajor ⟨3, ![1, 1, b]⟩).symm m e).val) e - lo e < (⟨3, ![n, a, b]⟩ : Shape).size e
    · refine Eq.trans (dif_pos hin) ?_
      refine Eq.symm ?_
      refine Eq.trans (dif_pos hin) ?_
      rfl
    · refine Eq.trans (dif_neg hin) ?_
      refine Eq.symm ?_
      exact dif_neg hin
  rw [← Equiv.sum_comp (lastAxis b)]
  rfl

/-- The running sum from the end. -/
theorem C3.suffix {n a b : ℕ} {x : FVec Ideal ⟨3, ![n, a, b]⟩ .f32} {f : ℕ → ℕ → ℕ → ℝ} (hx : C3 x f) {u : Shape} {init : u.Idx → EReal} {hi : Fin 3 → ℕ}
    (h : (⟨3, ![n, a, b]⟩ : Shape).ReduceWindows ![1, 1, b] ![1, 1, 1] ![0, 0, 0] hi ⟨3, ![n, a, b]⟩) (hu : 0 < u.numel) (hi0 : ∀ i, init i = 0) :
    C3 (Host.reduceWindowAdd ![1, 1, b] ![1, 1, 1] ![0, 0, 0] hi x init h hu) (fun i r s => ∑ j ∈ Ico s b, f i r j) := fun i r s => by
  rw [window_sum h hu hi0]
  beta_reduce
  rw [sum_Ico_eq_sum_range]
  have hs : ∑ k ∈ range (b - s.val), f i.val r.val (s.val + k) = ∑ k ∈ range b, if s.val + k < b then f i.val r.val (s.val + k) else 0 := by
    rw [← sum_filter]
    refine sum_congr (Finset.ext fun k => ?_) fun _ _ => rfl
    simp only [mem_filter, mem_range]
    omega
  rw [hs, ← coe_sum_fin]
  refine sum_congr rfl fun k _ => ?_
  dsimp only
  by_cases hk : s.val + k.val < b
  · rw [if_pos hk, dif_pos (show _ from fun e => by
      match e with
      | ⟨0, _⟩ => exact ⟨Nat.zero_le _, by show i.val * 1 + 0 - 0 < n; omega⟩
      | ⟨1, _⟩ => exact ⟨Nat.zero_le _, by show r.val * 1 + 0 - 0 < a; omega⟩
      | ⟨2, _⟩ => exact ⟨Nat.zero_le _, by show s.val * 1 + k.val - 0 < b; omega⟩), ← hx i r ⟨s.val + k.val, hk⟩]
    refine congrArg x (funext fun e => Fin.ext ?_)
    match e with
    | ⟨0, _⟩ => show i.val * 1 + 0 - 0 = i.val; omega
    | ⟨1, _⟩ => show r.val * 1 + 0 - 0 = r.val; omega
    | ⟨2, _⟩ => show s.val * 1 + k.val - 0 = s.val + k.val; omega
  · rw [if_neg hk, dif_neg (fun hh => hk (by have := (hh 2).2; change s.val * 1 + k.val - 0 < b at this; omega)), EReal.coe_zero]

/-- The running sum from the start. -/
theorem C3.prefix {n a b : ℕ} {x : FVec Ideal ⟨3, ![n, a, b + 1]⟩ .f32} {f : ℕ → ℕ → ℕ → ℝ} (hx : C3 x f) {u : Shape} {init : u.Idx → EReal} {hi : Fin 3 → ℕ}
    (h : (⟨3, ![n, a, b + 1]⟩ : Shape).ReduceWindows ![1, 1, b + 1] ![1, 1, 1] ![0, 0, b] hi ⟨3, ![n, a, b + 1]⟩) (hu : 0 < u.numel) (hi0 : ∀ i, init i = 0) :
    C3 (Host.reduceWindowAdd ![1, 1, b + 1] ![1, 1, 1] ![0, 0, b] hi x init h hu) (fun i r s => ∑ j ∈ range (s + 1), f i r j) := fun i r s => by
  have hb := s.isLt
  rw [window_sum h hu hi0]
  beta_reduce
  have hs : ∑ j ∈ range (s.val + 1), f i.val r.val j = ∑ k ∈ range (b + 1), if b ≤ s.val + k then f i.val r.val (s.val + k - b) else 0 := by
    rw [show range (b + 1) = Ico 0 (b + 1) from (range_eq_Ico _), ← sum_Ico_consecutive _ (Nat.zero_le (b - s.val)) (show b - s.val ≤ b + 1 by omega),
      sum_eq_zero (s := Ico 0 (b - s.val)) (fun k hk => if_neg (by rw [mem_Ico] at hk; omega)), zero_add, sum_Ico_eq_sum_range,
      show b + 1 - (b - s.val) = s.val + 1 by omega]
    exact sum_congr rfl fun k _ => by rw [if_pos (by omega), show s.val + (b - s.val + k) - b = k by omega]
  rw [hs, ← coe_sum_fin]
  refine sum_congr rfl fun k _ => ?_
  have hk' := k.isLt
  dsimp only
  by_cases hk : b ≤ s.val + k.val
  · rw [if_pos hk, dif_pos (show _ from fun e => by
      match e with
      | ⟨0, _⟩ => exact ⟨Nat.zero_le _, by show i.val * 1 + 0 - 0 < n; omega⟩
      | ⟨1, _⟩ => exact ⟨Nat.zero_le _, by show r.val * 1 + 0 - 0 < a; omega⟩
      | ⟨2, _⟩ => exact ⟨by show b ≤ s.val * 1 + k.val; omega, by show s.val * 1 + k.val - b < b + 1; omega⟩), ← hx i r ⟨s.val + k.val - b, by omega⟩]
    refine congrArg x (funext fun e => Fin.ext ?_)
    match e with
    | ⟨0, _⟩ => show i.val * 1 + 0 - 0 = i.val; omega
    | ⟨1, _⟩ => show r.val * 1 + 0 - 0 = r.val; omega
    | ⟨2, _⟩ => show s.val * 1 + k.val - b = s.val + k.val - b; omega
  · rw [if_neg hk, dif_neg (fun hh => hk (by have := (hh 2).1; change b ≤ s.val * 1 + k.val at this; omega)), EReal.coe_zero]

end Cert.ReferenceIdeal.RB
-- ==== Proof.RefOps.lean ====
module

public import proofs.«01_k».proof.Proof.RefBase

/-! The reference's products, its heads cut out of the arguments, and its mask. -/

@[expose] public section

noncomputable section

namespace Cert.ReferenceIdeal.RB

open Cert.ReferenceIdeal Cert.ReferenceIdeal.Gen Idealize.ShloMosaic Idealize.ShloMosaic.TcCoe
open Cert.KernelIdeal.SB (coe_sum_fin coe_mul_sum sp lb)
open scoped BigOperators
open Finset

section
variable {f g : ℕ → ℕ → ℕ → ℝ}

theorem C3.dotScore {x y : FVec Ideal S8x8192x64 .f32} (hx : C3 x f) (hy : C3 y g) :
    C3 (Host.dotGeneral dot_S8x8192x64_S8x8192x64_S8x8192x8192_2_2_1_1_0_0 none x y : FVec Ideal S8x8192x8192 .f32) (fun h r s => ∑ e ∈ range 64, f h r e * g h s e) := fun h r s => by
  pointwise
  rw [← coe_mul_sum]
  exact sum_congr rfl fun e _ => by rw [hx h r e, hy h s e]

theorem C3.dotRow {x : FVec Ideal S8x8192x8192 .f32} {y : FVec Ideal S8x8192x64 .f32} (hx : C3 x f) (hy : C3 y g) :
    C3 (Host.dotGeneral dot_S8x8192x8192_S8x8192x64_S8x8192x64_2_1_1_2_0_0 none x y : FVec Ideal S8x8192x64 .f32) (fun h r e => ∑ s ∈ range 8192, f h r s * g h s e) := fun h r e => by
  pointwise
  rw [← coe_mul_sum]
  exact sum_congr rfl fun s _ => by rw [hx h r s, hy h s e]

theorem C3.dotCol {x : FVec Ideal S8x8192x8192 .f32} {y : FVec Ideal S8x8192x64 .f32} (hx : C3 x f) (hy : C3 y g) :
    C3 (Host.dotGeneral dot_S8x8192x8192_S8x8192x64_S8x8192x64_1_1_2_2_0_0 none x y : FVec Ideal S8x8192x64 .f32) (fun h s e => ∑ r ∈ range 8192, f h r s * g h r e) := fun h s e => by
  pointwise
  rw [← coe_mul_sum]
  exact sum_congr rfl fun r _ => by rw [hx h r s, hy h r e]

theorem C3.dotColT {x : FVec Ideal S8x8192x64 .f32} {y : FVec Ideal S8x8192x8192 .f32} (hx : C3 x f) (hy : C3 y g) :
    C3 (Host.dotGeneral dot_S8x8192x64_S8x8192x8192_S8x64x8192_1_1_2_2_0_0 none x y : FVec Ideal S8x64x8192 .f32) (fun h e s => ∑ r ∈ range 8192, f h r e * g h r s) := fun h e s => by
  pointwise
  rw [← coe_mul_sum]
  exact sum_congr rfl fun r _ => by rw [hx h r e, hy h r s]
end

section
variable {A : FVec Ideal S8192x1536 .bf16} {D : FVec Ideal S8192x1024 .f32} {X Y : ℕ → ℕ → ℝ}
  (hX : ∀ x : S8192x1536.Idx, A x = (X (x 0).val (x 1).val : EReal)) (hY : ∀ x : S8192x1024.Idx, D x = (Y (x 0).val (x 1).val : EReal))

/-- Queries, keys, values and cotangents, head by head. -/
def q3 (A : FVec Ideal S8192x1536 .bf16) : FVec Ideal S8x8192x64 .f32 := transpose S8x8192x64 [1, 0, 2] (shapeCast _ (extf .f32 (extractStridedSlice S8192x512 ![0, 0] A slices_S8192x1536_S8192x512_0_0) bitsLt_bf16_f32) shapeCasts_S8192x512_S8192x8x64) transposes_S8192x8x64_S8x8192x64_1_0_2
def k3 (A : FVec Ideal S8192x1536 .bf16) : FVec Ideal S8x8192x64 .f32 := transpose S8x8192x64 [1, 0, 2] (shapeCast _ (extf .f32 (extractStridedSlice S8192x512 ![0, 512] A slices_S8192x1536_S8192x512_0_512) bitsLt_bf16_f32) shapeCasts_S8192x512_S8192x8x64) transposes_S8192x8x64_S8x8192x64_1_0_2
def v3 (A : FVec Ideal S8192x1536 .bf16) : FVec Ideal S8x8192x64 .f32 := transpose S8x8192x64 [1, 0, 2] (shapeCast _ (extf .f32 (extractStridedSlice S8192x512 ![0, 1024] A slices_S8192x1536_S8192x512_0_1024) bitsLt_bf16_f32) shapeCasts_S8192x512_S8192x8x64) transposes_S8192x8x64_S8x8192x64_1_0_2
def o3 (D : FVec Ideal S8192x1024 .f32) : FVec Ideal S8x8192x64 .f32 := transpose S8x8192x64 [1, 0, 2] (shapeCast _ (extractStridedSlice S8192x512 ![0, 0] D slices_S8192x1024_S8192x512_0_0) shapeCasts_S8192x512_S8192x8x64) transposes_S8192x8x64_S8x8192x64_1_0_2

/-- Heads side by side again. -/
def back (x : FVec Ideal S8x8192x64 .f32) : FVec Ideal S8192x512 .f32 := shapeCast _ (transpose S8192x8x64 [1, 0, 2] x transposes_S8x8192x64_S8192x8x64_1_0_2) shapeCasts_S8192x8x64_S8192x512

include hX in
theorem q3_C3 : C3 (q3 A) (fun h r e => X r (64 * h + e)) := fun h r e => by
  pointwise [q3]
  rw [hX]
  exact congrArg (fun k : ℝ => (k : EReal)) (congrArg (X r.val) (by show _ = _; simp only [ix2_1]; omega))

include hX in
theorem k3_C3 : C3 (k3 A) (fun h r e => X r (512 + (64 * h + e))) := fun h r e => by
  pointwise [k3]
  rw [hX]
  exact congrArg (fun k : ℝ => (k : EReal)) (congrArg (X r.val) (by show _ = _; simp only [ix2_1]; omega))

include hX in
theorem v3_C3 : C3 (v3 A) (fun h r e => X r (1024 + (64 * h + e))) := fun h r e => by
  pointwise [v3]
  rw [hX]
  exact congrArg (fun k : ℝ => (k : EReal)) (congrArg (X r.val) (by show _ = _; simp only [ix2_1]; omega))

include hY in
theorem o3_C3 : C3 (o3 D) (fun h r e => Y r (64 * h + e)) := fun h r e => by
  pointwise [o3]
  rw [hY]
  exact congrArg (fun k : ℝ => (k : EReal)) (congrArg (Y r.val) (by show _ = _; simp only [ix2_1]; omega))

theorem back_C3 {x : FVec Ideal S8x8192x64 .f32} {f : ℕ → ℕ → ℕ → ℝ} (hx : C3 x f) (i : S8192x512.Idx) : back x i = ((f ((i 1).val / 64) (i 0).val ((i 1).val % 64) : ℝ) : EReal) := by
  pointwise [back]
  exact hx _ _ _

/-- The columns before the row. -/
def m3 : IVec S8x8192x8192 1 := broadcastInDim S8x8192x8192 ![1, 2] bcast_S8192x8192_S8x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

theorem m3_M3 : M3 m3 (fun _ r s => s < r) := fun h r s => by
  have e : m3 (ix3 h r s) = IntOp.cmpi .slt (BitVec.ofNat 32 s.val) (BitVec.ofNat 32 r.val) := by
    pointwise [m3]
  rw [e, Cert.KernelIdeal.SB.cmp_slt _ _ (by omega) (by omega)]
  exact ⟨fun h => if_pos h, fun h => if_neg h⟩
end

end Cert.ReferenceIdeal.RB
-- ==== Proof.Ref.lean ====
module

public import proofs.«01_k».proof.Proof.RefOps
public import proofs.«01_k».proof.Proof.Gen.ReferenceIdeal.Run

/-! The reference's three results, as sums of real numbers. -/

@[expose] public section

noncomputable section

namespace Cert.ReferenceIdeal.RB

open Cert.ReferenceIdeal Cert.ReferenceIdeal.Gen Idealize.ShloMosaic Idealize.ShloMosaic.TcCoe
open Cert.KernelIdeal.SB (coe_sum_fin coe_mul_sum sp lb sp_arg_pos eighth32 gw ga gz zH dH' wH gH outQ outK outV sum_cut)
open scoped BigOperators
open Finset

/-- The steps of the reference. -/
def zero3 : FVec Ideal S8x8192x8192 .f32 := broadcastInDim S8x8192x8192 ![] bcast_S_S8x8192x8192 (constant S_ .f32 0x00000000#32)
def zero3' : FVec Ideal S8x8192x8192 .f32 := broadcastInDim S8x8192x8192 ![] bcast_S_S8x8192x8192 (id (constant S_ .f32 0x00000000#32))
def top3 : FVec Ideal S8x8192x8192 .f32 := broadcastInDim S8x8192x8192 ![] bcast_S_S8x8192x8192 (constant S_ .f32 0x7F800000#32)
def eighth3 : FVec Ideal S8x8192x8192 .f32 := broadcastInDim S8x8192x8192 ![] bcast_S_S8x8192x8192 (constant S_ .f32 0x3E000000#32)
def init3 : FVec Ideal S_ .f32 := broadcastInDim S_ ![] bcast_S_S_ (constant S_ .f32 0x00000000#32)

/-- Minus the scores, the softplus of that, and the sigmoid's log. -/
def nz3 (A : FVec Ideal S8192x1536 .bf16) : FVec Ideal S8x8192x8192 .f32 := Host.negf (mulf (Host.dotGeneral dot_S8x8192x64_S8x8192x64_S8x8192x8192_2_2_1_1_0_0 none (q3 A) (k3 A)) eighth3)
def sp3 (n : FVec Ideal S8x8192x8192 .f32) : FVec Ideal S8x8192x8192 .f32 :=
  select (cmpf .une (subf n zero3) (subf n zero3)) (addf n zero3) (addf (maximumf n zero3) (Host.log1p (Host.exp (Host.negf (Host.absf (subf n zero3))))))
def lk3 (A : FVec Ideal S8192x1536 .bf16) : FVec Ideal S8x8192x8192 .f32 :=
  select m3 (subf (Host.negf (sp3 (nz3 A))) (mulf (Host.dotGeneral dot_S8x8192x64_S8x8192x64_S8x8192x8192_2_2_1_1_0_0 none (q3 A) (k3 A)) eighth3)) zero3'
def e3 (A : FVec Ideal S8192x1536 .bf16) : FVec Ideal S8x8192x8192 .f32 :=
  Host.exp (addf (Host.negf (sp3 (nz3 A))) (subf (Host.reduceWindowAdd ![1, 1, 8192] ![1, 1, 1] ![0, 0, 0] ![0, 0, 8191] (lk3 A) init3 reduceWindows_S8x8192x8192_S8x8192x8192_w1s1p0_0_w1s1p0_0_w8192s1p0_8191 h_S_) (lk3 A)))
def a3 (A : FVec Ideal S8192x1536 .bf16) (D : FVec Ideal S8192x1024 .f32) : FVec Ideal S8x8192x8192 .f32 :=
  mulf (select m3 (Host.dotGeneral dot_S8x8192x64_S8x8192x64_S8x8192x8192_2_2_1_1_0_0 none (o3 D) (v3 A)) zero3) (e3 A)
def x3 (A : FVec Ideal S8192x1536 .bf16) (D : FVec Ideal S8192x1024 .f32) : FVec Ideal S8x8192x8192 .f32 :=
  select m3 (addf (Host.negf (a3 A D)) (Host.reduceWindowAdd ![1, 1, 8192] ![1, 1, 1] ![0, 0, 8191] ![0, 0, 0] (a3 A D) init3 reduceWindows_S8x8192x8192_S8x8192x8192_w1s1p0_0_w1s1p0_0_w8192s1p8191_0 h_S_)) zero3
def f3 (A : FVec Ideal S8192x1536 .bf16) : FVec Ideal S8x8192x8192 .f32 :=
  Host.exp (subf (select (cmpf .oeq (nz3 A) top3) zero3 (nz3 A)) (select (cmpf .oeq (sp3 (nz3 A)) top3) zero3 (sp3 (nz3 A))))
def dz3 (A : FVec Ideal S8192x1536 .bf16) (D : FVec Ideal S8192x1024 .f32) : FVec Ideal S8x8192x8192 .f32 :=
  mulf (addf (Host.negf (x3 A D)) (Host.negf (mulf (Host.negf (addf (a3 A D) (x3 A D))) (f3 A)))) eighth3
def resQ (A : FVec Ideal S8192x1536 .bf16) (D : FVec Ideal S8192x1024 .f32) : FVec Ideal S8192x512 .bf16 :=
  truncf .bf16 (back (Host.dotGeneral dot_S8x8192x8192_S8x8192x64_S8x8192x64_2_1_1_2_0_0 none (dz3 A D) (k3 A))) bitsLt_bf16_f32
def resK (A : FVec Ideal S8192x1536 .bf16) (D : FVec Ideal S8192x1024 .f32) : FVec Ideal S8192x512 .f32 :=
  back (Host.dotGeneral dot_S8x8192x8192_S8x8192x64_S8x8192x64_1_1_2_2_0_0 none (dz3 A D) (q3 A))
def resV (A : FVec Ideal S8192x1536 .bf16) (D : FVec Ideal S8192x1024 .f32) : FVec Ideal S8192x512 .f32 :=
  back (transpose S8x8192x64 [0, 2, 1] (Host.dotGeneral dot_S8x8192x64_S8x8192x8192_S8x64x8192_1_1_2_2_0_0 none (o3 D) (select m3 (e3 A) zero3')) transposes_S8x64x8192_S8x8192x64_0_2_1)

section
variable (m : (ℓ : Loc nD τ sig) → Buf (Elt Ideal) ℓ) (c : Dev nD)
set_option maxRecDepth 8192 in
theorem resQ_eq : Value.res_main_v58 m c = resQ (m ((c.tc : Thread nD τ).loc main_arg0)) (m ((c.tc : Thread nD τ).loc main_arg1)) := by
  unfold Value.res_main_v58; rfl
set_option maxRecDepth 8192 in
theorem resK_eq : Value.res_main_v55 m c = resK (m ((c.tc : Thread nD τ).loc main_arg0)) (m ((c.tc : Thread nD τ).loc main_arg1)) := by
  unfold Value.res_main_v55; rfl
set_option maxRecDepth 8192 in
theorem resV_eq : Value.res_main_v53 m c = resV (m ((c.tc : Thread nD τ).loc main_arg0)) (m ((c.tc : Thread nD τ).loc main_arg1)) := by
  unfold Value.res_main_v53; rfl
end

theorem zero3_C3 : C3 zero3 (fun _ _ _ => 0) := fun _ _ _ => Ideal.ofBits_zero_f32.trans EReal.coe_zero.symm
theorem zero3'_C3 : C3 zero3' (fun _ _ _ => 0) := fun _ _ _ => Ideal.ofBits_zero_f32.trans EReal.coe_zero.symm
theorem eighth3_C3 : C3 eighth3 (fun _ _ _ => 1 / 8) := fun _ _ _ => eighth32
theorem init3_zero (i : S_.Idx) : init3 i = 0 := Ideal.ofBits_zero_f32
theorem top_f32 : Ideal.ofBits .f32 0x7F800000#32 = ⊤ := by
  simp [Ideal.ofBits, Ideal.ieee]
theorem top3_top (i : S8x8192x8192.Idx) : top3 i = ⊤ := top_f32

/-- The softplus of minus a score. -/
theorem sp_neg (z : ℝ) : sp (-z) = sp z - z := by
  unfold sp
  rw [abs_neg]
  rcases le_total z 0 with h | h
  · rw [max_eq_left (by linarith), max_eq_right h]; ring
  · rw [max_eq_right (by linarith), max_eq_left h]; ring

/-- The sigmoid of a score and of minus it sum to one. -/
theorem sigmoid_sum (z : ℝ) : Real.exp (0 - sp z) + Real.exp (lb z) = 1 := by
  have h : Real.exp (sp z) = 1 + Real.exp z := by
    unfold sp
    rw [Real.exp_add, Real.exp_log (sp_arg_pos z)]
    rcases le_total z 0 with h | h
    · rw [max_eq_right h, abs_of_nonpos h, Real.exp_zero, one_mul]; ring_nf
    · rw [max_eq_left h, abs_of_nonneg h, mul_add, ← Real.exp_add]; ring_nf; rw [Real.exp_zero]; ring
  have hp : 0 < 1 + Real.exp z := by positivity
  unfold lb
  rw [Real.exp_sub, Real.exp_sub, h, Real.exp_zero, ← add_div, div_self hp.ne']

theorem sp3_C3 {n : FVec Ideal S8x8192x8192 .f32} {f : ℕ → ℕ → ℕ → ℝ} (h : C3 n f) : C3 (sp3 n) (fun i r s => sp (f i r s)) :=
  (C3.select (C3.une_self (h.subf zero3_C3)) (h.addf zero3_C3) ((h.maximumf zero3_C3).addf ((h.subf zero3_C3).absf.negf.exp.log1p fun _ _ _ => by positivity))).congr fun i _ r _ s _ => by
    rw [if_neg not_false, sub_zero, sp, zero_sub]

section
variable {A : FVec Ideal S8192x1536 .bf16} {D : FVec Ideal S8192x1024 .f32} {X Y : ℕ → ℕ → ℝ}
  (hX : ∀ x : S8192x1536.Idx, A x = (X (x 0).val (x 1).val : EReal)) (hY : ∀ x : S8192x1024.Idx, D x = (Y (x 0).val (x 1).val : EReal))

include hX
theorem z3_C3 : C3 (mulf (Host.dotGeneral dot_S8x8192x64_S8x8192x64_S8x8192x8192_2_2_1_1_0_0 none (q3 A) (k3 A)) eighth3 : FVec Ideal S8x8192x8192 .f32) (fun h r s => zH X h r s) :=
  ((C3.dotScore (q3_C3 hX) (k3_C3 hX)).mulf eighth3_C3).congr fun h _ r _ s _ => by
    rw [zH, sum_mul]
    exact sum_congr rfl fun e _ => by ring

theorem nz3_C3 : C3 (nz3 A) (fun h r s => -zH X h r s) := (z3_C3 hX).negf

theorem lb3_C3 : C3 (Host.negf (sp3 (nz3 A))) (fun h r s => lb (zH X h r s)) :=
  (sp3_C3 (nz3_C3 hX)).negf.congr fun h _ r _ s _ => by rw [sp_neg, lb]; ring

theorem lk3_C3 : C3 (lk3 A) (fun h r s => if s < r then -sp (zH X h r s) else 0) :=
  (C3.select m3_M3 ((lb3_C3 hX).subf (z3_C3 hX)) zero3'_C3).congr fun h _ r _ s _ => by
    rw [lb, show zH X h r s - sp (zH X h r s) - zH X h r s = -sp (zH X h r s) by ring]

theorem e3_C3 : C3 (e3 A) (fun h r s => if s < r then wH X h r s else Real.exp (lb (zH X h r s))) :=
  ((lb3_C3 hX).addf ((C3.suffix (lk3_C3 hX) _ _ init3_zero).subf (lk3_C3 hX))).exp.congr fun h _ r hr s hs => by
    rw [sum_eq_sum_Ico_succ_bot hs, add_sub_cancel_left, sum_cut (fun j => -sp (zH X h r j)) (s + 1) r 8192 hr.le, sum_neg_distrib]
    by_cases h' : s < r
    · rw [if_pos h', wH, gw, if_pos h', sub_eq_add_neg]
    · rw [if_neg h', Ico_eq_empty_of_le (by omega), sum_empty, neg_zero, add_zero]

theorem w3_C3 : C3 (select m3 (e3 A) zero3') (fun h r s => wH X h r s) :=
  (C3.select m3_M3 (e3_C3 hX) zero3'_C3).congr fun h _ r _ s _ => by
    by_cases h' : s < r
    · rw [if_pos h', if_pos h']
    · rw [if_neg h', wH, gw, if_neg h']

theorem f3_C3 : C3 (f3 A) (fun h r s => Real.exp (0 - sp (zH X h r s))) :=
  ((C3.select (C3.oeq_top (nz3_C3 hX) top3_top) zero3_C3 (nz3_C3 hX)).subf (C3.select (C3.oeq_top (sp3_C3 (nz3_C3 hX)) top3_top) zero3_C3 (sp3_C3 (nz3_C3 hX)))).exp.congr fun h _ r _ s _ => by
    rw [if_neg not_false, if_neg not_false, sp_neg]
    congr 1; ring

include hY
theorem a3_C3 : C3 (a3 A D) (fun h r s => ga (zH X h r) (dH' X Y h r) r s) :=
  ((C3.select m3_M3 (C3.dotScore (o3_C3 hY) (v3_C3 hX)) zero3_C3).mulf (e3_C3 hX)).congr fun h _ r _ s _ => by
    by_cases h' : s < r
    · rw [if_pos h', if_pos h']; rfl
    · rw [if_neg h', zero_mul, ga, gw, if_neg h', mul_zero]

theorem x3_C3 : C3 (x3 A D) (fun h r s => if s < r then ∑ k ∈ range s, ga (zH X h r) (dH' X Y h r) r k else 0) :=
  (C3.select m3_M3 ((a3_C3 hX hY).negf.addf (C3.prefix (b := 8191) (a3_C3 hX hY) _ _ init3_zero)) zero3_C3).congr fun h _ r _ s _ => by
    rw [sum_range_succ, neg_add_cancel_comm_assoc]

theorem dz3_C3 : C3 (dz3 A D) (fun h r s => gH X Y h r s * (1 / 8)) :=
  (((x3_C3 hX hY).negf.addf (((a3_C3 hX hY).addf (x3_C3 hX hY)).negf.mulf (f3_C3 hX)).negf).mulf eighth3_C3).congr fun h _ r _ s _ => by
    have hs := sigmoid_sum (zH X h r s)
    rw [gH, gz]
    by_cases h' : s < r
    · rw [if_pos h', if_pos h', eq_sub_of_add_eq hs]; ring
    · rw [if_neg h', if_neg h', ga, gw, if_neg h']; ring

theorem resQ_val (i : S8192x512.Idx) : resQ A D i = (outQ X Y (i 0).val (i 1).val : EReal) := by
  refine (back_C3 (C3.dotRow (dz3_C3 hX hY) (k3_C3 hX)) i).trans ?_
  rw [outQ, sum_mul, show 64 * ((i 1).val / 64) + (i 1).val % 64 = (i 1).val from Nat.div_add_mod _ _]
  exact congrArg _ (sum_congr rfl fun s _ => by ring)

theorem resK_val (i : S8192x512.Idx) : resK A D i = (outK X Y (i 0).val (i 1).val : EReal) := by
  refine (back_C3 (C3.dotCol (dz3_C3 hX hY) (q3_C3 hX)) i).trans ?_
  rw [outK, show 64 * ((i 1).val / 64) + (i 1).val % 64 = (i 1).val from Nat.div_add_mod _ _]
  exact congrArg _ (sum_congr rfl fun s _ => by ring)

theorem resV_val (i : S8192x512.Idx) : resV A D i = (outV X Y (i 0).val (i 1).val : EReal) := by
  have ht : C3 (transpose S8x8192x64 [0, 2, 1] (Host.dotGeneral dot_S8x8192x64_S8x8192x8192_S8x64x8192_1_1_2_2_0_0 none (o3 D) (select m3 (e3 A) zero3') : FVec Ideal S8x64x8192 .f32) transposes_S8x64x8192_S8x8192x64_0_2_1)
      (fun h s e => ∑ r ∈ range 8192, Y r (64 * h + e) * wH X h r s) := fun h s e => by
    rw [← C3.dotColT (o3_C3 hY) (w3_C3 hX) h e s]
    exact ValueIdx.transpose_ix3_021_apply _ _ _ _ _
  refine (back_C3 ht i).trans ?_
  rw [outV, show 64 * ((i 1).val / 64) + (i 1).val % 64 = (i 1).val from Nat.div_add_mod _ _]
  exact congrArg _ (sum_congr rfl fun s _ => by ring)
end

end Cert.ReferenceIdeal.RB
-- ==== Proof.Finish.lean ====
module

public import proofs.«01_k».proof.Defs
public import proofs.«01_k».proof.Proof.Grid
public import proofs.«01_k».proof.Proof.Ref
public import proofs.«01_k».proof.Proof.Gen.Pre_finite
public import Idealize.ShloMosaic.Lib.ReduceAll

/-! The kernel's three results against the reference's. -/

@[expose] public section

noncomputable section

namespace Cert.Proof

open Idealize.ShloMosaic Idealize.ShloMosaic.TcCoe Idealize.SL.Sem
open Cert.KernelIdeal.SB (outQ outK outV)

/-- The real numbers a finite matrix holds. -/
def reals {a b : ℕ} (A : (⟨2, ![a, b]⟩ : Shape).Idx → EReal) (r c : ℕ) : ℝ :=
  if h : r < a ∧ c < b then (A (ValueIdx.ix2 ⟨r, h.1⟩ ⟨c, h.2⟩)).toReal else 0

theorem reals_eq {a b : ℕ} (A : (⟨2, ![a, b]⟩ : Shape).Idx → EReal) (h : ∀ x, max (A x) (-(A x)) < ⊤) (x : (⟨2, ![a, b]⟩ : Shape).Idx) :
    A x = (reals A (x 0).val (x 1).val : EReal) := by
  have hx := h x
  rw [max_lt_iff] at hx
  unfold reals
  rw [dif_pos ⟨(x 0).isLt, (x 1).isLt⟩]
  refine Eq.trans ?_ (congrArg (fun y => ((A y).toReal : EReal)) (ValueIdx.eq_ix2 x))
  exact (EReal.coe_toReal hx.1.ne fun hb => by rw [hb, EReal.neg_bot] at hx; exact absurd hx.2 (lt_irrefl _)).symm

theorem lt_of_bit (x y : EReal) (h : Ideal.cmp .olt x y = 1#1) : x < y := by
  unfold Ideal.cmp at h
  by_contra hn
  simp [hn] at h

/-- The precondition: every entry of both arguments is finite. -/
theorem finite_args (A : FVec Ideal Cert.Pre_finite.S8192x1536 .bf16) (D : FVec Ideal Cert.Pre_finite.S8192x1024 .f32)
    (h : Cert.Pre_finite.fn (F := Ideal) A D = fun _ => 1#1) : (∀ x, max (A x) (-(A x)) < ⊤) ∧ ∀ x, max (D x) (-(D x)) < ⊤ := by
  have h0 := congrFun h (fun e => e.elim0)
  have h1 := IntOp.andi_eq_one.1 h0
  constructor
  · intro x
    have := Host.reduce_andi_all _ _ _ _ _ h1.1 x
    exact (lt_of_bit _ _ this).trans_eq Cert.ReferenceIdeal.RB.top_f32
  · intro x
    have := Host.reduce_andi_all _ _ _ _ _ h1.2 x
    exact (lt_of_bit _ _ this).trans_eq Cert.ReferenceIdeal.RB.top_f32

end Cert.Proof

namespace Cert.KernelIdeal.SB

open Idealize.ShloMosaic Idealize.ShloMosaic.TcCoe Idealize.SL.Sem
open Idealize.ShloMosaic.Pipeline
open Cert.KernelIdeal Cert.KernelIdeal.Gen

/-- The idealized kernel's three results on arguments that hold real numbers. -/
theorem run_value (m : (ℓ : Loc nD τ sig) → Buf (Elt Ideal) ℓ) (ρ : Dev nD → PrngReg) (X Y : Dev nD → ℕ → ℕ → ℝ)
    (hX : ∀ c (x : S8192x1536.Idx), (m ((c.tc : Thread nD τ).loc main_arg0) : S8192x1536.Idx → EReal) x = (X c (x 0).val (x 1).val : EReal))
    (hY : ∀ c (x : S8192x1024.Idx), (m ((c.tc : Thread nD τ).loc main_arg1) : S8192x1024.Idx → EReal) x = (Y c (x 0).val (x 1).val : EReal)) :
    θ_run defs (onTc (τ := τ) (main (F := Ideal))) ⟨m, fun _ => 0, ρ⟩ (fun r => ∀ c : Dev nD,
      r.2.mem ((c.tc : Thread nD τ).loc main_v0_0) = (fun x : S8192x512.Idx => (outQ (X c) (Y c) (x 0).val (x 1).val : EReal))
      ∧ r.2.mem ((c.tc : Thread nD τ).loc main_v0_1) = (fun x : S8192x512.Idx => (outK (X c) (Y c) (x 0).val (x 1).val : EReal))
      ∧ r.2.mem ((c.tc : Thread nD τ).loc main_v0_2) = (fun x : S8192x512.Idx => (outV (X c) (Y c) (x 0).val (x 1).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 4).trans (out_Q m c (hX c) (hY c)), ((h.1 c).1 5).trans (out_K m c (hX c) (hY c)), ((h.1 c).1 6).trans (out_V m c (hX c) (hY c)),
    (h.2.1 c).1, (h.2.1 c).2⟩) (θ_run_and (run_main (F := Ideal) m ρ) (frame_any m ρ))

end Cert.KernelIdeal.SB

namespace Cert.Proof

open Idealize.ShloMosaic Idealize.ShloMosaic.TcCoe Idealize.SL.Sem
open Cert.KernelIdeal.SB (outQ outK outV)

/-- The idealized kernel and the reference end with the same three gradients. -/
theorem algebraic : Cert.algebraic_KernelIdeal_ReferenceIdeal_pre_finite := fun m g m' g' hpre hargs => by
  have hA := fun c => reals_eq _ (finite_args _ _ (hpre c)).1
  have hD := fun c => reals_eq _ (finite_args _ _ (hpre c)).2
  refine ⟨_, _, _, Cert.KernelIdeal.SB.run_value m g _ _ hA hD, ?_⟩
  refine (θ_run (Cert.ReferenceIdeal.defs (F := Ideal)) _ _).mono (fun r h c => ⟨(h c).1.trans ?_, (h c).2.1.trans ?_, (h c).2.2.1.trans ?_, (h c).2.2.2.1, (h c).2.2.2.2⟩)
    (Cert.ReferenceIdeal.Value.run (F := Ideal) m' g')
  · rw [Cert.ReferenceIdeal.RB.resQ_eq, (hargs c).1, (hargs c).2]
    exact funext fun x => Cert.ReferenceIdeal.RB.resQ_val (hA c) (hD c) x
  · rw [Cert.ReferenceIdeal.RB.resK_eq, (hargs c).1, (hargs c).2]
    exact funext fun x => Cert.ReferenceIdeal.RB.resK_val (hA c) (hD c) x
  · rw [Cert.ReferenceIdeal.RB.resV_eq, (hargs c).1, (hargs c).2]
    exact funext fun x => Cert.ReferenceIdeal.RB.resV_val (hA c) (hD c) x

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.WGrads
public import proofs.«01_k».proof.Proof.Mlp
public import proofs.«01_k».proof.Proof.Projs
public import proofs.«01_k».proof.Proof.Adam
public import proofs.«01_k».proof.Proof.NormProjs
public import proofs.«01_k».proof.Proof.DownNFin
public import proofs.«01_k».proof.Proof.UpActFin
public import proofs.«01_k».proof.Proof.UpActBFin
public import proofs.«01_k».proof.Proof.GluActFin
public import proofs.«01_k».proof.Proof.InActFin
public import proofs.«01_k».proof.Proof.Run
public import proofs.«01_k».proof.Proof.Finish

@[expose] public section

noncomputable section

namespace Cert.Proof

open Idealize.ShloMosaic Idealize.SL.Sem

section
variable {F : FTy → Type} [FloatOps F]

/-- The two programs' body tables are one. -/
theorem defs₀_same : (Cert.Kernel.defs₀ (F := F)) = Cert.KernelIdeal.defs₀ (F := F) :=
  congrArg Defs.onTc (funext fun l => funext fun a => by
    obtain ⟨n, h⟩ := l
    cases n with
    | zero => obtain ⟨t, s⟩ := a; rfl
    | succ n => exact absurd h (Nat.not_lt.2 (Nat.le_add_left _ _)))

theorem defs_same : (Cert.Kernel.defs (F := F)) = Cert.KernelIdeal.defs (F := F) :=
  congrArg (Pipeline.defs (Cert.KernelIdeal.pcfgs (F := F))) defs₀_same

end

/-- The idealized kernel's frame. -/
theorem frame_kernelIdeal : Cert.quiescent_KernelIdeal := fun m ρ _ => Cert.KernelIdeal.SB.frame_any (F := Ideal) m ρ

/-- The kernel's frame: the same program, read at machine words. -/
theorem frame_kernel : Cert.quiescent_Kernel := fun m ρ _ =>
  defs_same (F := Bits) ▸ (θ_run (Cert.KernelIdeal.defs (F := Bits)) _ _).mono (fun _ h => h) (Cert.KernelIdeal.SB.frame_any (F := Bits) m ρ)

/-- The reference's frame: it writes neither argument and has no semaphore. -/
theorem frame_reference : Cert.quiescent_ReferenceIdeal := fun m ρ _ =>
  (θ_run (Cert.ReferenceIdeal.defs (F := Ideal)) _ _).mono (fun _ h => ⟨fun c => ⟨(h c).2.2.2.1, (h c).2.2.2.2⟩, funext fun a => nomatch a⟩)
    (Cert.ReferenceIdeal.Value.run (F := Ideal) m ρ)

theorem claim : Cert.Claim := ⟨Cert.Kernel.Gen.facts, Cert.KernelIdeal.Gen.facts, Cert.ReferenceIdeal.Gen.facts, DownW.Gen.facts, DownWIdeal.Gen.facts, DownWRefIdeal.Gen.facts,
  UpW.Gen.facts, UpWIdeal.Gen.facts, UpWRefIdeal.Gen.facts,
  Up.Gen.facts, UpIdeal.Gen.facts, UpRefIdeal.Gen.facts,
  DownAct.Gen.facts, DownActIdeal.Gen.facts, DownActRefIdeal.Gen.facts,
  UpB.Gen.facts, UpBIdeal.Gen.facts, UpBRefIdeal.Gen.facts,
  DownActB.Gen.facts, DownActBIdeal.Gen.facts, DownActBRefIdeal.Gen.facts,
  InW.Gen.facts, InWIdeal.Gen.facts, InWRefIdeal.Gen.facts,
  GluW.Gen.facts, GluWIdeal.Gen.facts, GluWRefIdeal.Gen.facts,
  SquareW.Gen.facts, SquareWIdeal.Gen.facts, SquareWRefIdeal.Gen.facts,
  SquareAct.Gen.facts, SquareActIdeal.Gen.facts, SquareActRefIdeal.Gen.facts,
  InProj.Gen.facts, InProjIdeal.Gen.facts, InProjRefIdeal.Gen.facts,
  GluProj.Gen.facts, GluProjIdeal.Gen.facts, GluProjRefIdeal.Gen.facts,
  Down.Gen.facts, DownIdeal.Gen.facts, DownRefIdeal.Gen.facts,
  AdamIn.Gen.facts, AdamInIdeal.Gen.facts, AdamInRefIdeal.Gen.facts,
  AdamSquare.Gen.facts, AdamSquareIdeal.Gen.facts, AdamSquareRefIdeal.Gen.facts,
  AdamGlu.Gen.facts, AdamGluIdeal.Gen.facts, AdamGluRefIdeal.Gen.facts,
  AdamFf.Gen.facts, AdamFfIdeal.Gen.facts, AdamFfRefIdeal.Gen.facts,
  AdamSmall.Gen.facts, AdamSmallIdeal.Gen.facts, AdamSmallRefIdeal.Gen.facts,
  OutProj.Gen.facts, OutProjIdeal.Gen.facts, OutProjRefIdeal.Gen.facts,
  PwProj.Gen.facts, PwProjIdeal.Gen.facts, PwProjRefIdeal.Gen.facts,
  DownN.Gen.facts, DownNIdeal.Gen.facts, DownNRefIdeal.Gen.facts,
  UpAct.Gen.facts, UpActIdeal.Gen.facts, UpActRefIdeal.Gen.facts,
  UpActB.Gen.facts, UpActBIdeal.Gen.facts, UpActBRefIdeal.Gen.facts,
  GluAct.Gen.facts, GluActIdeal.Gen.facts, GluActRefIdeal.Gen.facts,
  InAct.Gen.facts, InActIdeal.Gen.facts, InActRefIdeal.Gen.facts,
  Norm.Gen.facts, NormIdeal.Gen.facts, NormRefIdeal.Gen.facts,
  Cert.Pre_finite.Gen.facts,
  frame_kernel, frame_kernelIdeal, fun m ρ _ => frame_kernelIdeal m ρ trivial, frame_reference, fun m ρ _ => frame_reference m ρ trivial,
  frame_DownW, frame_DownWIdeal, frame_DownWRefIdeal,
  frame_UpW, frame_UpWIdeal, frame_UpWRefIdeal,
  frame_Up, frame_UpIdeal, frame_UpRefIdeal,
  frame_DownAct, frame_DownActIdeal, frame_DownActRefIdeal,
  frame_UpB, frame_UpBIdeal, frame_UpBRefIdeal,
  frame_DownActB, frame_DownActBIdeal, frame_DownActBRefIdeal,
  frame_InW, frame_InWIdeal, frame_InWRefIdeal,
  frame_GluW, frame_GluWIdeal, frame_GluWRefIdeal,
  frame_SquareW, frame_SquareWIdeal, frame_SquareWRefIdeal,
  frame_SquareAct, frame_SquareActIdeal, frame_SquareActRefIdeal,
  frame_InProj, frame_InProjIdeal, frame_InProjRefIdeal,
  frame_GluProj, frame_GluProjIdeal, frame_GluProjRefIdeal,
  frame_Down, frame_DownIdeal, frame_DownRefIdeal,
  frame_AdamIn, frame_AdamInIdeal, frame_AdamInRefIdeal,
  frame_AdamSquare, frame_AdamSquareIdeal, frame_AdamSquareRefIdeal,
  frame_AdamGlu, frame_AdamGluIdeal, frame_AdamGluRefIdeal,
  frame_AdamFf, frame_AdamFfIdeal, frame_AdamFfRefIdeal,
  frame_AdamSmall, frame_AdamSmallIdeal, frame_AdamSmallRefIdeal,
  frame_OutProj, frame_OutProjIdeal, frame_OutProjRefIdeal,
  frame_PwProj, frame_PwProjIdeal, frame_PwProjRefIdeal,
  frame_DownN, frame_DownNIdeal, frame_DownNRefIdeal,
  frame_UpAct, frame_UpActIdeal, frame_UpActRefIdeal,
  frame_UpActB, frame_UpActBIdeal, frame_UpActBRefIdeal,
  frame_GluAct, frame_GluActIdeal, frame_GluActRefIdeal,
  frame_InAct, frame_InActIdeal, frame_InActRefIdeal,
  frame_Norm, frame_NormIdeal, frame_NormRefIdeal,
  trivial, algebraic,
  trivial, algebraic_DownW,
  trivial, algebraic_UpW,
  trivial, algebraic_Up,
  trivial, algebraic_DownAct,
  trivial, algebraic_UpB,
  trivial, algebraic_DownActB,
  trivial, algebraic_InW,
  trivial, algebraic_GluW,
  trivial, algebraic_SquareW,
  trivial, algebraic_SquareAct,
  trivial, algebraic_InProj,
  trivial, algebraic_GluProj,
  trivial, algebraic_Down,
  trivial, algebraic_AdamIn,
  trivial, algebraic_AdamSquare,
  trivial, algebraic_AdamGlu,
  trivial, algebraic_AdamFf,
  trivial, algebraic_AdamSmall,
  trivial, algebraic_OutProj,
  trivial, algebraic_PwProj,
  trivial, algebraic_DownN,
  trivial, algebraic_UpAct,
  trivial, algebraic_UpActB,
  trivial, algebraic_GluAct,
  trivial, algebraic_InAct,
  trivial, algebraic_Norm⟩

end Cert.Proof

end
